-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDU1 (m : (ℓ : Loc Cert.KernelDU1.nD Cert.KernelDU1.τ Cert.KernelDU1.sig) → Buf (Elt Bits) ℓ) : Prop :=
  True

def Pre_KernelDU1Ideal (m : (ℓ : Loc Cert.KernelDU1Ideal.nD Cert.KernelDU1Ideal.τ Cert.KernelDU1Ideal.sig) → Buf (Elt Ideal) ℓ) : Prop :=
  True

def Pre_ReferenceDU1Ideal (m : (ℓ : Loc Cert.ReferenceDU1Ideal.nD Cert.ReferenceDU1Ideal.τ Cert.ReferenceDU1Ideal.sig) → Buf (Elt Ideal) ℓ) : Prop :=
  True

def Pre_KernelGW2048 (m : (ℓ : Loc Cert.KernelGW2048.nD Cert.KernelGW2048.τ Cert.KernelGW2048.sig) → Buf (Elt Bits) ℓ) : Prop :=
  True

def Pre_KernelGW2048Ideal (m : (ℓ : Loc Cert.KernelGW2048Ideal.nD Cert.KernelGW2048Ideal.τ Cert.KernelGW2048Ideal.sig) → Buf (Elt Ideal) ℓ) : Prop :=
  True

def Pre_ReferenceGW2048Ideal (m : (ℓ : Loc Cert.ReferenceGW2048Ideal.nD Cert.ReferenceGW2048Ideal.τ Cert.ReferenceGW2048Ideal.sig) → Buf (Elt Ideal) ℓ) : Prop :=
  True

def Pre_KernelGW4096 (m : (ℓ : Loc Cert.KernelGW4096.nD Cert.KernelGW4096.τ Cert.KernelGW4096.sig) → Buf (Elt Bits) ℓ) : Prop :=
  True

def Pre_KernelGW4096Ideal (m : (ℓ : Loc Cert.KernelGW4096Ideal.nD Cert.KernelGW4096Ideal.τ Cert.KernelGW4096Ideal.sig) → Buf (Elt Ideal) ℓ) : Prop :=
  True

def Pre_ReferenceGW4096Ideal (m : (ℓ : Loc Cert.ReferenceGW4096Ideal.nD Cert.ReferenceGW4096Ideal.τ Cert.ReferenceGW4096Ideal.sig) → Buf (Elt Ideal) ℓ) : Prop :=
  True

def Pre_KernelGW3072 (m : (ℓ : Loc Cert.KernelGW3072.nD Cert.KernelGW3072.τ Cert.KernelGW3072.sig) → Buf (Elt Bits) ℓ) : Prop :=
  True

def Pre_KernelGW3072Ideal (m : (ℓ : Loc Cert.KernelGW3072Ideal.nD Cert.KernelGW3072Ideal.τ Cert.KernelGW3072Ideal.sig) → Buf (Elt Ideal) ℓ) : Prop :=
  True

def Pre_ReferenceGW3072Ideal (m : (ℓ : Loc Cert.ReferenceGW3072Ideal.nD Cert.ReferenceGW3072Ideal.τ Cert.ReferenceGW3072Ideal.sig) → Buf (Elt Ideal) ℓ) : Prop :=
  True

def Pre_KernelGW128 (m : (ℓ : Loc Cert.KernelGW128.nD Cert.KernelGW128.τ Cert.KernelGW128.sig) → Buf (Elt Bits) ℓ) : Prop :=
  True

def Pre_KernelGW128Ideal (m : (ℓ : Loc Cert.KernelGW128Ideal.nD Cert.KernelGW128Ideal.τ Cert.KernelGW128Ideal.sig) → Buf (Elt Ideal) ℓ) : Prop :=
  True

def Pre_ReferenceGW128Ideal (m : (ℓ : Loc Cert.ReferenceGW128Ideal.nD Cert.ReferenceGW128Ideal.τ Cert.ReferenceGW128Ideal.sig) → Buf (Elt Ideal) ℓ) : Prop :=
  True

def Pre_KernelGUp (m : (ℓ : Loc Cert.KernelGUp.nD Cert.KernelGUp.τ Cert.KernelGUp.sig) → Buf (Elt Bits) ℓ) : Prop :=
  True

def Pre_KernelGUpIdeal (m : (ℓ : Loc Cert.KernelGUpIdeal.nD Cert.KernelGUpIdeal.τ Cert.KernelGUpIdeal.sig) → Buf (Elt Ideal) ℓ) : Prop :=
  True

def Pre_ReferenceGUpIdeal (m : (ℓ : Loc Cert.ReferenceGUpIdeal.nD Cert.ReferenceGUpIdeal.τ Cert.ReferenceGUpIdeal.sig) → Buf (Elt Ideal) ℓ) : Prop :=
  True

def Pre_KernelDU2 (m : (ℓ : Loc Cert.KernelDU2.nD Cert.KernelDU2.τ Cert.KernelDU2.sig) → Buf (Elt Bits) ℓ) : Prop :=
  True

def Pre_KernelDU2Ideal (m : (ℓ : Loc Cert.KernelDU2Ideal.nD Cert.KernelDU2Ideal.τ Cert.KernelDU2Ideal.sig) → Buf (Elt Ideal) ℓ) : Prop :=
  True

def Pre_ReferenceDU2Ideal (m : (ℓ : Loc Cert.ReferenceDU2Ideal.nD Cert.ReferenceDU2Ideal.τ Cert.ReferenceDU2Ideal.sig) → Buf (Elt Ideal) ℓ) : Prop :=
  True

def Pre_KernelDU2v (m : (ℓ : Loc Cert.KernelDU2v.nD Cert.KernelDU2v.τ Cert.KernelDU2v.sig) → Buf (Elt Bits) ℓ) : Prop :=
  True

def Pre_KernelDU2vIdeal (m : (ℓ : Loc Cert.KernelDU2vIdeal.nD Cert.KernelDU2vIdeal.τ Cert.KernelDU2vIdeal.sig) → Buf (Elt Ideal) ℓ) : Prop :=
  True

def Pre_ReferenceDU2vIdeal (m : (ℓ : Loc Cert.ReferenceDU2vIdeal.nD Cert.ReferenceDU2vIdeal.τ Cert.ReferenceDU2vIdeal.sig) → Buf (Elt Ideal) ℓ) : Prop :=
  True

def Pre_KernelDAct (m : (ℓ : Loc Cert.KernelDAct.nD Cert.KernelDAct.τ Cert.KernelDAct.sig) → Buf (Elt Bits) ℓ) : Prop :=
  True

def Pre_KernelDActIdeal (m : (ℓ : Loc Cert.KernelDActIdeal.nD Cert.KernelDActIdeal.τ Cert.KernelDActIdeal.sig) → Buf (Elt Ideal) ℓ) : Prop :=
  True

def Pre_ReferenceDActIdeal (m : (ℓ : Loc Cert.ReferenceDActIdeal.nD Cert.ReferenceDActIdeal.τ Cert.ReferenceDActIdeal.sig) → Buf (Elt Ideal) ℓ) : Prop :=
  True

def Pre_KernelGDown (m : (ℓ : Loc Cert.KernelGDown.nD Cert.KernelGDown.τ Cert.KernelGDown.sig) → Buf (Elt Bits) ℓ) : Prop :=
  True

def Pre_KernelGDownIdeal (m : (ℓ : Loc Cert.KernelGDownIdeal.nD Cert.KernelGDownIdeal.τ Cert.KernelGDownIdeal.sig) → Buf (Elt Ideal) ℓ) : Prop :=
  True

def Pre_ReferenceGDownIdeal (m : (ℓ : Loc Cert.ReferenceGDownIdeal.nD Cert.ReferenceGDownIdeal.τ Cert.ReferenceGDownIdeal.sig) → Buf (Elt Ideal) ℓ) : Prop :=
  True

def Pre_KernelDY (m : (ℓ : Loc Cert.KernelDY.nD Cert.KernelDY.τ Cert.KernelDY.sig) → Buf (Elt Bits) ℓ) : Prop :=
  True

def Pre_KernelDYIdeal (m : (ℓ : Loc Cert.KernelDYIdeal.nD Cert.KernelDYIdeal.τ Cert.KernelDYIdeal.sig) → Buf (Elt Ideal) ℓ) : Prop :=
  True

def Pre_ReferenceDYIdeal (m : (ℓ : Loc Cert.ReferenceDYIdeal.nD Cert.ReferenceDYIdeal.τ Cert.ReferenceDYIdeal.sig) → Buf (Elt Ideal) ℓ) : Prop :=
  True

def Pre_KernelGBranch (m : (ℓ : Loc Cert.KernelGBranch.nD Cert.KernelGBranch.τ Cert.KernelGBranch.sig) → Buf (Elt Bits) ℓ) : Prop :=
  True

def Pre_KernelGBranchIdeal (m : (ℓ : Loc Cert.KernelGBranchIdeal.nD Cert.KernelGBranchIdeal.τ Cert.KernelGBranchIdeal.sig) → Buf (Elt Ideal) ℓ) : Prop :=
  True

def Pre_ReferenceGBranchIdeal (m : (ℓ : Loc Cert.ReferenceGBranchIdeal.nD Cert.ReferenceGBranchIdeal.τ Cert.ReferenceGBranchIdeal.sig) → Buf (Elt Ideal) ℓ) : Prop :=
  True

def Pre_KernelDMerged (m : (ℓ : Loc Cert.KernelDMerged.nD Cert.KernelDMerged.τ Cert.KernelDMerged.sig) → Buf (Elt Bits) ℓ) : Prop :=
  True

def Pre_KernelDMergedIdeal (m : (ℓ : Loc Cert.KernelDMergedIdeal.nD Cert.KernelDMergedIdeal.τ Cert.KernelDMergedIdeal.sig) → Buf (Elt Ideal) ℓ) : Prop :=
  True

def Pre_ReferenceDMergedIdeal (m : (ℓ : Loc Cert.ReferenceDMergedIdeal.nD Cert.ReferenceDMergedIdeal.τ Cert.ReferenceDMergedIdeal.sig) → Buf (Elt Ideal) ℓ) : Prop :=
  True

def Pre_KernelGOut (m : (ℓ : Loc Cert.KernelGOut.nD Cert.KernelGOut.τ Cert.KernelGOut.sig) → Buf (Elt Bits) ℓ) : Prop :=
  True

def Pre_KernelGOutIdeal (m : (ℓ : Loc Cert.KernelGOutIdeal.nD Cert.KernelGOutIdeal.τ Cert.KernelGOutIdeal.sig) → Buf (Elt Ideal) ℓ) : Prop :=
  True

def Pre_ReferenceGOutIdeal (m : (ℓ : Loc Cert.ReferenceGOutIdeal.nD Cert.ReferenceGOutIdeal.τ Cert.ReferenceGOutIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelBranch (m : (ℓ : Loc Cert.KernelBranch.nD Cert.KernelBranch.τ Cert.KernelBranch.sig) → Buf (Elt Bits) ℓ) : Prop :=
  True

def Pre_KernelBranchIdeal (m : (ℓ : Loc Cert.KernelBranchIdeal.nD Cert.KernelBranchIdeal.τ Cert.KernelBranchIdeal.sig) → Buf (Elt Ideal) ℓ) : Prop :=
  True

def Pre_ReferenceBranchIdeal (m : (ℓ : Loc Cert.ReferenceBranchIdeal.nD Cert.ReferenceBranchIdeal.τ Cert.ReferenceBranchIdeal.sig) → Buf (Elt Ideal) ℓ) : Prop :=
  True

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGateF (m : (ℓ : Loc Cert.KernelGateF.nD Cert.KernelGateF.τ Cert.KernelGateF.sig) → Buf (Elt Bits) ℓ) : Prop :=
  True

def Pre_KernelGateFIdeal (m : (ℓ : Loc Cert.KernelGateFIdeal.nD Cert.KernelGateFIdeal.τ Cert.KernelGateFIdeal.sig) → Buf (Elt Ideal) ℓ) : Prop :=
  True

def Pre_ReferenceGateFIdeal (m : (ℓ : Loc Cert.ReferenceGateFIdeal.nD Cert.ReferenceGateFIdeal.τ Cert.ReferenceGateFIdeal.sig) → Buf (Elt Ideal) ℓ) : Prop :=
  True

def Pre_KernelRmsF (m : (ℓ : Loc Cert.KernelRmsF.nD Cert.KernelRmsF.τ Cert.KernelRmsF.sig) → Buf (Elt Bits) ℓ) : Prop :=
  True

def Pre_KernelRmsFIdeal (m : (ℓ : Loc Cert.KernelRmsFIdeal.nD Cert.KernelRmsFIdeal.τ Cert.KernelRmsFIdeal.sig) → Buf (Elt Ideal) ℓ) : Prop :=
  True

def Pre_ReferenceRmsFIdeal (m : (ℓ : Loc Cert.ReferenceRmsFIdeal.nD Cert.ReferenceRmsFIdeal.τ Cert.ReferenceRmsFIdeal.sig) → Buf (Elt Ideal) ℓ) : Prop :=
  True

def Pre_KernelRms (m : (ℓ : Loc Cert.KernelRms.nD Cert.KernelRms.τ Cert.KernelRms.sig) → Buf (Elt Bits) ℓ) : Prop :=
  True

def Pre_KernelRmsIdeal (m : (ℓ : Loc Cert.KernelRmsIdeal.nD Cert.KernelRmsIdeal.τ Cert.KernelRmsIdeal.sig) → Buf (Elt Ideal) ℓ) : Prop :=
  True

def Pre_ReferenceRmsIdeal (m : (ℓ : Loc Cert.ReferenceRmsIdeal.nD Cert.ReferenceRmsIdeal.τ Cert.ReferenceRmsIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamBranch (m : (ℓ : Loc Cert.KernelAdamBranch.nD Cert.KernelAdamBranch.τ Cert.KernelAdamBranch.sig) → Buf (Elt Bits) ℓ) : Prop :=
  True

def Pre_KernelAdamBranchIdeal (m : (ℓ : Loc Cert.KernelAdamBranchIdeal.nD Cert.KernelAdamBranchIdeal.τ Cert.KernelAdamBranchIdeal.sig) → Buf (Elt Ideal) ℓ) : Prop :=
  True

def Pre_ReferenceAdamBranchIdeal (m : (ℓ : Loc Cert.ReferenceAdamBranchIdeal.nD Cert.ReferenceAdamBranchIdeal.τ Cert.ReferenceAdamBranchIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelFfnConv (m : (ℓ : Loc Cert.KernelFfnConv.nD Cert.KernelFfnConv.τ Cert.KernelFfnConv.sig) → Buf (Elt Bits) ℓ) : Prop :=
  True

def Pre_KernelFfnConvIdeal (m : (ℓ : Loc Cert.KernelFfnConvIdeal.nD Cert.KernelFfnConvIdeal.τ Cert.KernelFfnConvIdeal.sig) → Buf (Elt Ideal) ℓ) : Prop :=
  True

def Pre_ReferenceFfnConvIdeal (m : (ℓ : Loc Cert.ReferenceFfnConvIdeal.nD Cert.ReferenceFfnConvIdeal.τ Cert.ReferenceFfnConvIdeal.sig) → Buf (Elt Ideal) ℓ) : Prop :=
  True

def Pre_KernelSsdConv (m : (ℓ : Loc Cert.KernelSsdConv.nD Cert.KernelSsdConv.τ Cert.KernelSsdConv.sig) → Buf (Elt Bits) ℓ) : Prop :=
  True

def Pre_KernelSsdConvIdeal (m : (ℓ : Loc Cert.KernelSsdConvIdeal.nD Cert.KernelSsdConvIdeal.τ Cert.KernelSsdConvIdeal.sig) → Buf (Elt Ideal) ℓ) : Prop :=
  True

def Pre_ReferenceSsdConvIdeal (m : (ℓ : Loc Cert.ReferenceSsdConvIdeal.nD Cert.ReferenceSsdConvIdeal.τ Cert.ReferenceSsdConvIdeal.sig) → Buf (Elt Ideal) ℓ) : Prop :=
  True

def Pre_KernelSmallMeta [hPre_chip_meta : Cert.Pre_chip_meta.Facts] (m : (ℓ : Loc Cert.KernelSmallMeta.nD Cert.KernelSmallMeta.τ Cert.KernelSmallMeta.sig) → Buf (Elt Bits) ℓ) : Prop :=
  ∀ c : Dev Cert.KernelSmallMeta.nD,
    (Cert.Pre_chip_meta.fn (F := Bits) (m ((c.tc : Thread Cert.KernelSmallMeta.nD Cert.KernelSmallMeta.τ).loc Cert.KernelSmallMeta.main_arg0)) (m ((c.tc : Thread Cert.KernelSmallMeta.nD Cert.KernelSmallMeta.τ).loc Cert.KernelSmallMeta.main_arg1)) (m ((c.tc : Thread Cert.KernelSmallMeta.nD Cert.KernelSmallMeta.τ).loc Cert.KernelSmallMeta.main_arg2)) (m ((c.tc : Thread Cert.KernelSmallMeta.nD Cert.KernelSmallMeta.τ).loc Cert.KernelSmallMeta.main_arg3)) (m ((c.tc : Thread Cert.KernelSmallMeta.nD Cert.KernelSmallMeta.τ).loc Cert.KernelSmallMeta.main_arg4)) (m ((c.tc : Thread Cert.KernelSmallMeta.nD Cert.KernelSmallMeta.τ).loc Cert.KernelSmallMeta.main_arg5))) = (fun _ => 1#1)

def Pre_KernelSmallMetaIdeal [hPre_chip_meta : Cert.Pre_chip_meta.Facts] (m : (ℓ : Loc Cert.KernelSmallMetaIdeal.nD Cert.KernelSmallMetaIdeal.τ Cert.KernelSmallMetaIdeal.sig) → Buf (Elt Ideal) ℓ) : Prop :=
  ∀ c : Dev Cert.KernelSmallMetaIdeal.nD,
    (Cert.Pre_chip_meta.fn (F := Ideal) (m ((c.tc : Thread Cert.KernelSmallMetaIdeal.nD Cert.KernelSmallMetaIdeal.τ).loc Cert.KernelSmallMetaIdeal.main_arg0)) (m ((c.tc : Thread Cert.KernelSmallMetaIdeal.nD Cert.KernelSmallMetaIdeal.τ).loc Cert.KernelSmallMetaIdeal.main_arg1)) (m ((c.tc : Thread Cert.KernelSmallMetaIdeal.nD Cert.KernelSmallMetaIdeal.τ).loc Cert.KernelSmallMetaIdeal.main_arg2)) (m ((c.tc : Thread Cert.KernelSmallMetaIdeal.nD Cert.KernelSmallMetaIdeal.τ).loc Cert.KernelSmallMetaIdeal.main_arg3)) (m ((c.tc : Thread Cert.KernelSmallMetaIdeal.nD Cert.KernelSmallMetaIdeal.τ).loc Cert.KernelSmallMetaIdeal.main_arg4)) (m ((c.tc : Thread Cert.KernelSmallMetaIdeal.nD Cert.KernelSmallMetaIdeal.τ).loc Cert.KernelSmallMetaIdeal.main_arg5))) = (fun _ => 1#1)

def Pre_ReferenceSmallMetaIdeal (m : (ℓ : Loc Cert.ReferenceSmallMetaIdeal.nD Cert.ReferenceSmallMetaIdeal.τ Cert.ReferenceSmallMetaIdeal.sig) → Buf (Elt Ideal) ℓ) : Prop :=
  True

def Pre_ReferenceSmallMetaIdeal_chip_meta [hPre_chip_meta : Cert.Pre_chip_meta.Facts] (m : (ℓ : Loc Cert.ReferenceSmallMetaIdeal.nD Cert.ReferenceSmallMetaIdeal.τ Cert.ReferenceSmallMetaIdeal.sig) → Buf (Elt Ideal) ℓ) : Prop :=
  ∀ c : Dev Cert.ReferenceSmallMetaIdeal.nD,
    (Cert.Pre_chip_meta.fn (F := Ideal) (m ((c.tc : Thread Cert.ReferenceSmallMetaIdeal.nD Cert.ReferenceSmallMetaIdeal.τ).loc Cert.ReferenceSmallMetaIdeal.main_arg0)) (m ((c.tc : Thread Cert.ReferenceSmallMetaIdeal.nD Cert.ReferenceSmallMetaIdeal.τ).loc Cert.ReferenceSmallMetaIdeal.main_arg1)) (m ((c.tc : Thread Cert.ReferenceSmallMetaIdeal.nD Cert.ReferenceSmallMetaIdeal.τ).loc Cert.ReferenceSmallMetaIdeal.main_arg2)) (m ((c.tc : Thread Cert.ReferenceSmallMetaIdeal.nD Cert.ReferenceSmallMetaIdeal.τ).loc Cert.ReferenceSmallMetaIdeal.main_arg3)) (m ((c.tc : Thread Cert.ReferenceSmallMetaIdeal.nD Cert.ReferenceSmallMetaIdeal.τ).loc Cert.ReferenceSmallMetaIdeal.main_arg4)) (m ((c.tc : Thread Cert.ReferenceSmallMetaIdeal.nD Cert.ReferenceSmallMetaIdeal.τ).loc Cert.ReferenceSmallMetaIdeal.main_arg5))) = (fun _ => 1#1)

def Pre_KernelSmallSsd [hPre_chip_ssd : Cert.Pre_chip_ssd.Facts] (m : (ℓ : Loc Cert.KernelSmallSsd.nD Cert.KernelSmallSsd.τ Cert.KernelSmallSsd.sig) → Buf (Elt Bits) ℓ) : Prop :=
  ∀ c : Dev Cert.KernelSmallSsd.nD,
    (Cert.Pre_chip_ssd.fn (F := Bits) (m ((c.tc : Thread Cert.KernelSmallSsd.nD Cert.KernelSmallSsd.τ).loc Cert.KernelSmallSsd.main_arg0)) (m ((c.tc : Thread Cert.KernelSmallSsd.nD Cert.KernelSmallSsd.τ).loc Cert.KernelSmallSsd.main_arg1)) (m ((c.tc : Thread Cert.KernelSmallSsd.nD Cert.KernelSmallSsd.τ).loc Cert.KernelSmallSsd.main_arg2)) (m ((c.tc : Thread Cert.KernelSmallSsd.nD Cert.KernelSmallSsd.τ).loc Cert.KernelSmallSsd.main_arg3)) (m ((c.tc : Thread Cert.KernelSmallSsd.nD Cert.KernelSmallSsd.τ).loc Cert.KernelSmallSsd.main_arg4)) (m ((c.tc : Thread Cert.KernelSmallSsd.nD Cert.KernelSmallSsd.τ).loc Cert.KernelSmallSsd.main_arg5))) = (fun _ => 1#1)

def Pre_KernelSmallSsdIdeal [hPre_chip_ssd : Cert.Pre_chip_ssd.Facts] (m : (ℓ : Loc Cert.KernelSmallSsdIdeal.nD Cert.KernelSmallSsdIdeal.τ Cert.KernelSmallSsdIdeal.sig) → Buf (Elt Ideal) ℓ) : Prop :=
  ∀ c : Dev Cert.KernelSmallSsdIdeal.nD,
    (Cert.Pre_chip_ssd.fn (F := Ideal) (m ((c.tc : Thread Cert.KernelSmallSsdIdeal.nD Cert.KernelSmallSsdIdeal.τ).loc Cert.KernelSmallSsdIdeal.main_arg0)) (m ((c.tc : Thread Cert.KernelSmallSsdIdeal.nD Cert.KernelSmallSsdIdeal.τ).loc Cert.KernelSmallSsdIdeal.main_arg1)) (m ((c.tc : Thread Cert.KernelSmallSsdIdeal.nD Cert.KernelSmallSsdIdeal.τ).loc Cert.KernelSmallSsdIdeal.main_arg2)) (m ((c.tc : Thread Cert.KernelSmallSsdIdeal.nD Cert.KernelSmallSsdIdeal.τ).loc Cert.KernelSmallSsdIdeal.main_arg3)) (m ((c.tc : Thread Cert.KernelSmallSsdIdeal.nD Cert.KernelSmallSsdIdeal.τ).loc Cert.KernelSmallSsdIdeal.main_arg4)) (m ((c.tc : Thread Cert.KernelSmallSsdIdeal.nD Cert.KernelSmallSsdIdeal.τ).loc Cert.KernelSmallSsdIdeal.main_arg5))) = (fun _ => 1#1)

def Pre_ReferenceSmallSsdIdeal (m : (ℓ : Loc Cert.ReferenceSmallSsdIdeal.nD Cert.ReferenceSmallSsdIdeal.τ Cert.ReferenceSmallSsdIdeal.sig) → Buf (Elt Ideal) ℓ) : Prop :=
  True

def Pre_ReferenceSmallSsdIdeal_chip_ssd [hPre_chip_ssd : Cert.Pre_chip_ssd.Facts] (m : (ℓ : Loc Cert.ReferenceSmallSsdIdeal.nD Cert.ReferenceSmallSsdIdeal.τ Cert.ReferenceSmallSsdIdeal.sig) → Buf (Elt Ideal) ℓ) : Prop :=
  ∀ c : Dev Cert.ReferenceSmallSsdIdeal.nD,
    (Cert.Pre_chip_ssd.fn (F := Ideal) (m ((c.tc : Thread Cert.ReferenceSmallSsdIdeal.nD Cert.ReferenceSmallSsdIdeal.τ).loc Cert.ReferenceSmallSsdIdeal.main_arg0)) (m ((c.tc : Thread Cert.ReferenceSmallSsdIdeal.nD Cert.ReferenceSmallSsdIdeal.τ).loc Cert.ReferenceSmallSsdIdeal.main_arg1)) (m ((c.tc : Thread Cert.ReferenceSmallSsdIdeal.nD Cert.ReferenceSmallSsdIdeal.τ).loc Cert.ReferenceSmallSsdIdeal.main_arg2)) (m ((c.tc : Thread Cert.ReferenceSmallSsdIdeal.nD Cert.ReferenceSmallSsdIdeal.τ).loc Cert.ReferenceSmallSsdIdeal.main_arg3)) (m ((c.tc : Thread Cert.ReferenceSmallSsdIdeal.nD Cert.ReferenceSmallSsdIdeal.τ).loc Cert.ReferenceSmallSsdIdeal.main_arg4)) (m ((c.tc : Thread Cert.ReferenceSmallSsdIdeal.nD Cert.ReferenceSmallSsdIdeal.τ).loc Cert.ReferenceSmallSsdIdeal.main_arg5))) = (fun _ => 1#1)

def Pre_KernelSmallFfn [hPre_chip_ffn : Cert.Pre_chip_ffn.Facts] (m : (ℓ : Loc Cert.KernelSmallFfn.nD Cert.KernelSmallFfn.τ Cert.KernelSmallFfn.sig) → Buf (Elt Bits) ℓ) : Prop :=
  ∀ c : Dev Cert.KernelSmallFfn.nD,
    (Cert.Pre_chip_ffn.fn (F := Bits) (m ((c.tc : Thread Cert.KernelSmallFfn.nD Cert.KernelSmallFfn.τ).loc Cert.KernelSmallFfn.main_arg0)) (m ((c.tc : Thread Cert.KernelSmallFfn.nD Cert.KernelSmallFfn.τ).loc Cert.KernelSmallFfn.main_arg1)) (m ((c.tc : Thread Cert.KernelSmallFfn.nD Cert.KernelSmallFfn.τ).loc Cert.KernelSmallFfn.main_arg2)) (m ((c.tc : Thread Cert.KernelSmallFfn.nD Cert.KernelSmallFfn.τ).loc Cert.KernelSmallFfn.main_arg3)) (m ((c.tc : Thread Cert.KernelSmallFfn.nD Cert.KernelSmallFfn.τ).loc Cert.KernelSmallFfn.main_arg4)) (m ((c.tc : Thread Cert.KernelSmallFfn.nD Cert.KernelSmallFfn.τ).loc Cert.KernelSmallFfn.main_arg5))) = (fun _ => 1#1)

def Pre_KernelSmallFfnIdeal [hPre_chip_ffn : Cert.Pre_chip_ffn.Facts] (m : (ℓ : Loc Cert.KernelSmallFfnIdeal.nD Cert.KernelSmallFfnIdeal.τ Cert.KernelSmallFfnIdeal.sig) → Buf (Elt Ideal) ℓ) : Prop :=
  ∀ c : Dev Cert.KernelSmallFfnIdeal.nD,
    (Cert.Pre_chip_ffn.fn (F := Ideal) (m ((c.tc : Thread Cert.KernelSmallFfnIdeal.nD Cert.KernelSmallFfnIdeal.τ).loc Cert.KernelSmallFfnIdeal.main_arg0)) (m ((c.tc : Thread Cert.KernelSmallFfnIdeal.nD Cert.KernelSmallFfnIdeal.τ).loc Cert.KernelSmallFfnIdeal.main_arg1)) (m ((c.tc : Thread Cert.KernelSmallFfnIdeal.nD Cert.KernelSmallFfnIdeal.τ).loc Cert.KernelSmallFfnIdeal.main_arg2)) (m ((c.tc : Thread Cert.KernelSmallFfnIdeal.nD Cert.KernelSmallFfnIdeal.τ).loc Cert.KernelSmallFfnIdeal.main_arg3)) (m ((c.tc : Thread Cert.KernelSmallFfnIdeal.nD Cert.KernelSmallFfnIdeal.τ).loc Cert.KernelSmallFfnIdeal.main_arg4)) (m ((c.tc : Thread Cert.KernelSmallFfnIdeal.nD Cert.KernelSmallFfnIdeal.τ).loc Cert.KernelSmallFfnIdeal.main_arg5))) = (fun _ => 1#1)

def Pre_ReferenceSmallFfnIdeal (m : (ℓ : Loc Cert.ReferenceSmallFfnIdeal.nD Cert.ReferenceSmallFfnIdeal.τ Cert.ReferenceSmallFfnIdeal.sig) → Buf (Elt Ideal) ℓ) : Prop :=
  True

def Pre_ReferenceSmallFfnIdeal_chip_ffn [hPre_chip_ffn : Cert.Pre_chip_ffn.Facts] (m : (ℓ : Loc Cert.ReferenceSmallFfnIdeal.nD Cert.ReferenceSmallFfnIdeal.τ Cert.ReferenceSmallFfnIdeal.sig) → Buf (Elt Ideal) ℓ) : Prop :=
  ∀ c : Dev Cert.ReferenceSmallFfnIdeal.nD,
    (Cert.Pre_chip_ffn.fn (F := Ideal) (m ((c.tc : Thread Cert.ReferenceSmallFfnIdeal.nD Cert.ReferenceSmallFfnIdeal.τ).loc Cert.ReferenceSmallFfnIdeal.main_arg0)) (m ((c.tc : Thread Cert.ReferenceSmallFfnIdeal.nD Cert.ReferenceSmallFfnIdeal.τ).loc Cert.ReferenceSmallFfnIdeal.main_arg1)) (m ((c.tc : Thread Cert.ReferenceSmallFfnIdeal.nD Cert.ReferenceSmallFfnIdeal.τ).loc Cert.ReferenceSmallFfnIdeal.main_arg2)) (m ((c.tc : Thread Cert.ReferenceSmallFfnIdeal.nD Cert.ReferenceSmallFfnIdeal.τ).loc Cert.ReferenceSmallFfnIdeal.main_arg3)) (m ((c.tc : Thread Cert.ReferenceSmallFfnIdeal.nD Cert.ReferenceSmallFfnIdeal.τ).loc Cert.ReferenceSmallFfnIdeal.main_arg4)) (m ((c.tc : Thread Cert.ReferenceSmallFfnIdeal.nD Cert.ReferenceSmallFfnIdeal.τ).loc Cert.ReferenceSmallFfnIdeal.main_arg5))) = (fun _ => 1#1)

def Pre_KernelSmall1024 (m : (ℓ : Loc Cert.KernelSmall1024.nD Cert.KernelSmall1024.τ Cert.KernelSmall1024.sig) → Buf (Elt Bits) ℓ) : Prop :=
  True

def Pre_KernelSmall1024Ideal (m : (ℓ : Loc Cert.KernelSmall1024Ideal.nD Cert.KernelSmall1024Ideal.τ Cert.KernelSmall1024Ideal.sig) → Buf (Elt Ideal) ℓ) : Prop :=
  True

def Pre_ReferenceSmall1024Ideal (m : (ℓ : Loc Cert.ReferenceSmall1024Ideal.nD Cert.ReferenceSmall1024Ideal.τ Cert.ReferenceSmall1024Ideal.sig) → Buf (Elt Ideal) ℓ) : Prop :=
  True

def Pre_KernelSmall3072 (m : (ℓ : Loc Cert.KernelSmall3072.nD Cert.KernelSmall3072.τ Cert.KernelSmall3072.sig) → Buf (Elt Bits) ℓ) : Prop :=
  True

def Pre_KernelSmall3072Ideal (m : (ℓ : Loc Cert.KernelSmall3072Ideal.nD Cert.KernelSmall3072Ideal.τ Cert.KernelSmall3072Ideal.sig) → Buf (Elt Ideal) ℓ) : Prop :=
  True

def Pre_ReferenceSmall3072Ideal (m : (ℓ : Loc Cert.ReferenceSmall3072Ideal.nD Cert.ReferenceSmall3072Ideal.τ Cert.ReferenceSmall3072Ideal.sig) → Buf (Elt Ideal) ℓ) : Prop :=
  True

def Pre_KernelSmall32 (m : (ℓ : Loc Cert.KernelSmall32.nD Cert.KernelSmall32.τ Cert.KernelSmall32.sig) → Buf (Elt Bits) ℓ) : Prop :=
  True

def Pre_KernelSmall32Ideal (m : (ℓ : Loc Cert.KernelSmall32Ideal.nD Cert.KernelSmall32Ideal.τ Cert.KernelSmall32Ideal.sig) → Buf (Elt Ideal) ℓ) : Prop :=
  True

def Pre_ReferenceSmall32Ideal (m : (ℓ : Loc Cert.ReferenceSmall32Ideal.nD Cert.ReferenceSmall32Ideal.τ Cert.ReferenceSmall32Ideal.sig) → Buf (Elt Ideal) ℓ) : Prop :=
  True

def Pre_KernelSmall2048 (m : (ℓ : Loc Cert.KernelSmall2048.nD Cert.KernelSmall2048.τ Cert.KernelSmall2048.sig) → Buf (Elt Bits) ℓ) : Prop :=
  True

def Pre_KernelSmall2048Ideal (m : (ℓ : Loc Cert.KernelSmall2048Ideal.nD Cert.KernelSmall2048Ideal.τ Cert.KernelSmall2048Ideal.sig) → Buf (Elt Ideal) ℓ) : Prop :=
  True

def Pre_ReferenceSmall2048Ideal (m : (ℓ : Loc Cert.ReferenceSmall2048Ideal.nD Cert.ReferenceSmall2048Ideal.τ Cert.ReferenceSmall2048Ideal.sig) → Buf (Elt Ideal) ℓ) : Prop :=
  True

def Pre_KernelSmall5632 (m : (ℓ : Loc Cert.KernelSmall5632.nD Cert.KernelSmall5632.τ Cert.KernelSmall5632.sig) → Buf (Elt Bits) ℓ) : Prop :=
  True

def Pre_KernelSmall5632Ideal (m : (ℓ : Loc Cert.KernelSmall5632Ideal.nD Cert.KernelSmall5632Ideal.τ Cert.KernelSmall5632Ideal.sig) → Buf (Elt Ideal) ℓ) : Prop :=
  True

def Pre_ReferenceSmall5632Ideal (m : (ℓ : Loc Cert.ReferenceSmall5632Ideal.nD Cert.ReferenceSmall5632Ideal.τ Cert.ReferenceSmall5632Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDU1 [hKernelDU1 : Cert.KernelDU1.Facts] : Prop :=
  ∀ (m : (ℓ : Loc Cert.KernelDU1.nD Cert.KernelDU1.τ Cert.KernelDU1.sig) → Buf (Elt Bits) ℓ) (g : Dev Cert.KernelDU1.nD → PrngReg), Pre_KernelDU1 m →
    θ_run (Cert.KernelDU1.defs (F := Bits)) (onTc (τ := Cert.KernelDU1.τ) (Cert.KernelDU1.main (F := Bits))) ⟨m, fun _ => 0, g⟩ (fun r => (∀ c : Dev Cert.KernelDU1.nD,
      r.2.mem ((c.tc : Thread Cert.KernelDU1.nD Cert.KernelDU1.τ).loc Cert.KernelDU1.main_arg0) = m ((c.tc : Thread Cert.KernelDU1.nD Cert.KernelDU1.τ).loc Cert.KernelDU1.main_arg0)
      ∧ r.2.mem ((c.tc : Thread Cert.KernelDU1.nD Cert.KernelDU1.τ).loc Cert.KernelDU1.main_arg1) = m ((c.tc : Thread Cert.KernelDU1.nD Cert.KernelDU1.τ).loc Cert.KernelDU1.main_arg1)
      ∧ r.2.mem ((c.tc : Thread Cert.KernelDU1.nD Cert.KernelDU1.τ).loc Cert.KernelDU1.main_arg2) = m ((c.tc : Thread Cert.KernelDU1.nD Cert.KernelDU1.τ).loc Cert.KernelDU1.main_arg2)
      ∧ r.2.mem ((c.tc : Thread Cert.KernelDU1.nD Cert.KernelDU1.τ).loc Cert.KernelDU1.main_arg3) = m ((c.tc : Thread Cert.KernelDU1.nD Cert.KernelDU1.τ).loc Cert.KernelDU1.main_arg3)
      ∧ r.2.mem ((c.tc : Thread Cert.KernelDU1.nD Cert.KernelDU1.τ).loc Cert.KernelDU1.main_arg4) = m ((c.tc : Thread Cert.KernelDU1.nD Cert.KernelDU1.τ).loc Cert.KernelDU1.main_arg4)
      ∧ r.2.mem ((c.tc : Thread Cert.KernelDU1.nD Cert.KernelDU1.τ).loc Cert.KernelDU1.main_arg5) = m ((c.tc : Thread Cert.KernelDU1.nD Cert.KernelDU1.τ).loc Cert.KernelDU1.main_arg5)
      ∧ r.2.mem ((c.tc : Thread Cert.KernelDU1.nD Cert.KernelDU1.τ).loc Cert.KernelDU1.main_arg6) = m ((c.tc : Thread Cert.KernelDU1.nD Cert.KernelDU1.τ).loc Cert.KernelDU1.main_arg6))
      ∧ r.2.sem = fun _ => 0)

def quiescent_KernelDU1Ideal [hKernelDU1Ideal : Cert.KernelDU1Ideal.Facts] : Prop :=
  ∀ (m : (ℓ : Loc Cert.KernelDU1Ideal.nD Cert.KernelDU1Ideal.τ Cert.KernelDU1Ideal.sig) → Buf (Elt Ideal) ℓ) (g : Dev Cert.KernelDU1Ideal.nD → PrngReg), Pre_KernelDU1Ideal m →
    θ_run (Cert.KernelDU1Ideal.defs (F := Ideal)) (onTc (τ := Cert.KernelDU1Ideal.τ) (Cert.KernelDU1Ideal.main (F := Ideal))) ⟨m, fun _ => 0, g⟩ (fun r => (∀ c : Dev Cert.KernelDU1Ideal.nD,
      r.2.mem ((c.tc : Thread Cert.KernelDU1Ideal.nD Cert.KernelDU1Ideal.τ).loc Cert.KernelDU1Ideal.main_arg0) = m ((c.tc : Thread Cert.KernelDU1Ideal.nD Cert.KernelDU1Ideal.τ).loc Cert.KernelDU1Ideal.main_arg0)
      ∧ r.2.mem ((c.tc : Thread Cert.KernelDU1Ideal.nD Cert.KernelDU1Ideal.τ).loc Cert.KernelDU1Ideal.main_arg1) = m ((c.tc : Thread Cert.KernelDU1Ideal.nD Cert.KernelDU1Ideal.τ).loc Cert.KernelDU1Ideal.main_arg1)
      ∧ r.2.mem ((c.tc : Thread Cert.KernelDU1Ideal.nD Cert.KernelDU1Ideal.τ).loc Cert.KernelDU1Ideal.main_arg2) = m ((c.tc : Thread Cert.KernelDU1Ideal.nD Cert.KernelDU1Ideal.τ).loc Cert.KernelDU1Ideal.main_arg2)
      ∧ r.2.mem ((c.tc : Thread Cert.KernelDU1Ideal.nD Cert.KernelDU1Ideal.τ).loc Cert.KernelDU1Ideal.main_arg3) = m ((c.tc : Thread Cert.KernelDU1Ideal.nD Cert.KernelDU1Ideal.τ).loc Cert.KernelDU1Ideal.main_arg3)
      ∧ r.2.mem ((c.tc : Thread Cert.KernelDU1Ideal.nD Cert.KernelDU1Ideal.τ).loc Cert.KernelDU1Ideal.main_arg4) = m ((c.tc : Thread Cert.KernelDU1Ideal.nD Cert.KernelDU1Ideal.τ).loc Cert.KernelDU1Ideal.main_arg4)
      ∧ r.2.mem ((c.tc : Thread Cert.KernelDU1Ideal.nD Cert.KernelDU1Ideal.τ).loc Cert.KernelDU1Ideal.main_arg5) = m ((c.tc : Thread Cert.KernelDU1Ideal.nD Cert.KernelDU1Ideal.τ).loc Cert.KernelDU1Ideal.main_arg5)
      ∧ r.2.mem ((c.tc : Thread Cert.KernelDU1Ideal.nD Cert.KernelDU1Ideal.τ).loc Cert.KernelDU1Ideal.main_arg6) = m ((c.tc : Thread Cert.KernelDU1Ideal.nD Cert.KernelDU1Ideal.τ).loc Cert.KernelDU1Ideal.main_arg6))
      ∧ r.2.sem = fun _ => 0)

def quiescent_ReferenceDU1Ideal [hReferenceDU1Ideal : Cert.ReferenceDU1Ideal.Facts] : Prop :=
  ∀ (m : (ℓ : Loc Cert.ReferenceDU1Ideal.nD Cert.ReferenceDU1Ideal.τ Cert.ReferenceDU1Ideal.sig) → Buf (Elt Ideal) ℓ) (g : Dev Cert.ReferenceDU1Ideal.nD → PrngReg), Pre_ReferenceDU1Ideal m →
    θ_run (Cert.ReferenceDU1Ideal.defs (F := Ideal)) (onTc (τ := Cert.ReferenceDU1Ideal.τ) (Cert.ReferenceDU1Ideal.main (F := Ideal))) ⟨m, fun _ => 0, g⟩ (fun r => (∀ c : Dev Cert.ReferenceDU1Ideal.nD,
      r.2.mem ((c.tc : Thread Cert.ReferenceDU1Ideal.nD Cert.ReferenceDU1Ideal.τ).loc Cert.ReferenceDU1Ideal.main_arg0) = m ((c.tc : Thread Cert.ReferenceDU1Ideal.nD Cert.ReferenceDU1Ideal.τ).loc Cert.ReferenceDU1Ideal.main_arg0)
      ∧ r.2.mem ((c.tc : Thread Cert.ReferenceDU1Ideal.nD Cert.ReferenceDU1Ideal.τ).loc Cert.ReferenceDU1Ideal.main_arg1) = m ((c.tc : Thread Cert.ReferenceDU1Ideal.nD Cert.ReferenceDU1Ideal.τ).loc Cert.ReferenceDU1Ideal.main_arg1)
      ∧ r.2.mem ((c.tc : Thread Cert.ReferenceDU1Ideal.nD Cert.ReferenceDU1Ideal.τ).loc Cert.ReferenceDU1Ideal.main_arg2) = m ((c.tc : Thread Cert.ReferenceDU1Ideal.nD Cert.ReferenceDU1Ideal.τ).loc Cert.ReferenceDU1Ideal.main_arg2)
      ∧ r.2.mem ((c.tc : Thread Cert.ReferenceDU1Ideal.nD Cert.ReferenceDU1Ideal.τ).loc Cert.ReferenceDU1Ideal.main_arg3) = m ((c.tc : Thread Cert.ReferenceDU1Ideal.nD Cert.ReferenceDU1Ideal.τ).loc Cert.ReferenceDU1Ideal.main_arg3)
      ∧ r.2.mem ((c.tc : Thread Cert.ReferenceDU1Ideal.nD Cert.ReferenceDU1Ideal.τ).loc Cert.ReferenceDU1Ideal.main_arg4) = m ((c.tc : Thread Cert.ReferenceDU1Ideal.nD Cert.ReferenceDU1Ideal.τ).loc Cert.ReferenceDU1Ideal.main_arg4)
      ∧ r.2.mem ((c.tc : Thread Cert.ReferenceDU1Ideal.nD Cert.ReferenceDU1Ideal.τ).loc Cert.ReferenceDU1Ideal.main_arg5) = m ((c.tc : Thread Cert.ReferenceDU1Ideal.nD Cert.ReferenceDU1Ideal.τ).loc Cert.ReferenceDU1Ideal.main_arg5)
      ∧ r.2.mem ((c.tc : Thread Cert.ReferenceDU1Ideal.nD Cert.ReferenceDU1Ideal.τ).loc Cert.ReferenceDU1Ideal.main_arg6) = m ((c.tc : Thread Cert.ReferenceDU1Ideal.nD Cert.ReferenceDU1Ideal.τ).loc Cert.ReferenceDU1Ideal.main_arg6))
      ∧ r.2.sem = fun _ => 0)

def quiescent_KernelGW2048 [hKernelGW2048 : Cert.KernelGW2048.Facts] : Prop :=
  ∀ (m : (ℓ : Loc Cert.KernelGW2048.nD Cert.KernelGW2048.τ Cert.KernelGW2048.sig) → Buf (Elt Bits) ℓ) (g : Dev Cert.KernelGW2048.nD → PrngReg), Pre_KernelGW2048 m →
    θ_run (Cert.KernelGW2048.defs (F := Bits)) (onTc (τ := Cert.KernelGW2048.τ) (Cert.KernelGW2048.main (F := Bits))) ⟨m, fun _ => 0, g⟩ (fun r => (∀ c : Dev Cert.KernelGW2048.nD,
      r.2.mem ((c.tc : Thread Cert.KernelGW2048.nD Cert.KernelGW2048.τ).loc Cert.KernelGW2048.main_arg0) = m ((c.tc : Thread Cert.KernelGW2048.nD Cert.KernelGW2048.τ).loc Cert.KernelGW2048.main_arg0)
      ∧ r.2.mem ((c.tc : Thread Cert.KernelGW2048.nD Cert.KernelGW2048.τ).loc Cert.KernelGW2048.main_arg1) = m ((c.tc : Thread Cert.KernelGW2048.nD Cert.KernelGW2048.τ).loc Cert.KernelGW2048.main_arg1))
      ∧ r.2.sem = fun _ => 0)

def quiescent_KernelGW2048Ideal [hKernelGW2048Ideal : Cert.KernelGW2048Ideal.Facts] : Prop :=
  ∀ (m : (ℓ : Loc Cert.KernelGW2048Ideal.nD Cert.KernelGW2048Ideal.τ Cert.KernelGW2048Ideal.sig) → Buf (Elt Ideal) ℓ) (g : Dev Cert.KernelGW2048Ideal.nD → PrngReg), Pre_KernelGW2048Ideal m →
    θ_run (Cert.KernelGW2048Ideal.defs (F := Ideal)) (onTc (τ := Cert.KernelGW2048Ideal.τ) (Cert.KernelGW2048Ideal.main (F := Ideal))) ⟨m, fun _ => 0, g⟩ (fun r => (∀ c : Dev Cert.KernelGW2048Ideal.nD,
      r.2.mem ((c.tc : Thread Cert.KernelGW2048Ideal.nD Cert.KernelGW2048Ideal.τ).loc Cert.KernelGW2048Ideal.main_arg0) = m ((c.tc : Thread Cert.KernelGW2048Ideal.nD Cert.KernelGW2048Ideal.τ).loc Cert.KernelGW2048Ideal.main_arg0)
      ∧ r.2.mem ((c.tc : Thread Cert.KernelGW2048Ideal.nD Cert.KernelGW2048Ideal.τ).loc Cert.KernelGW2048Ideal.main_arg1) = m ((c.tc : Thread Cert.KernelGW2048Ideal.nD Cert.KernelGW2048Ideal.τ).loc Cert.KernelGW2048Ideal.main_arg1))
      ∧ r.2.sem = fun _ => 0)

def quiescent_ReferenceGW2048Ideal [hReferenceGW2048Ideal : Cert.ReferenceGW2048Ideal.Facts] : Prop :=
  ∀ (m : (ℓ : Loc Cert.ReferenceGW2048Ideal.nD Cert.ReferenceGW2048Ideal.τ Cert.ReferenceGW2048Ideal.sig) → Buf (Elt Ideal) ℓ) (g : Dev Cert.ReferenceGW2048Ideal.nD → PrngReg), Pre_ReferenceGW2048Ideal m →
    θ_run (Cert.ReferenceGW2048Ideal.defs (F := Ideal)) (onTc (τ := Cert.ReferenceGW2048Ideal.τ) (Cert.ReferenceGW2048Ideal.main (F := Ideal))) ⟨m, fun _ => 0, g⟩ (fun r => (∀ c : Dev Cert.ReferenceGW2048Ideal.nD,
      r.2.mem ((c.tc : Thread Cert.ReferenceGW2048Ideal.nD Cert.ReferenceGW2048Ideal.τ).loc Cert.ReferenceGW2048Ideal.main_arg0) = m ((c.tc : Thread Cert.ReferenceGW2048Ideal.nD Cert.ReferenceGW2048Ideal.τ).loc Cert.ReferenceGW2048Ideal.main_arg0)
      ∧ r.2.mem ((c.tc : Thread Cert.ReferenceGW2048Ideal.nD Cert.ReferenceGW2048Ideal.τ).loc Cert.ReferenceGW2048Ideal.main_arg1) = m ((c.tc : Thread Cert.ReferenceGW2048Ideal.nD Cert.ReferenceGW2048Ideal.τ).loc Cert.ReferenceGW2048Ideal.main_arg1))
      ∧ r.2.sem = fun _ => 0)

def quiescent_KernelGW4096 [hKernelGW4096 : Cert.KernelGW4096.Facts] : Prop :=
  ∀ (m : (ℓ : Loc Cert.KernelGW4096.nD Cert.KernelGW4096.τ Cert.KernelGW4096.sig) → Buf (Elt Bits) ℓ) (g : Dev Cert.KernelGW4096.nD → PrngReg), Pre_KernelGW4096 m →
    θ_run (Cert.KernelGW4096.defs (F := Bits)) (onTc (τ := Cert.KernelGW4096.τ) (Cert.KernelGW4096.main (F := Bits))) ⟨m, fun _ => 0, g⟩ (fun r => (∀ c : Dev Cert.KernelGW4096.nD,
      r.2.mem ((c.tc : Thread Cert.KernelGW4096.nD Cert.KernelGW4096.τ).loc Cert.KernelGW4096.main_arg0) = m ((c.tc : Thread Cert.KernelGW4096.nD Cert.KernelGW4096.τ).loc Cert.KernelGW4096.main_arg0)
      ∧ r.2.mem ((c.tc : Thread Cert.KernelGW4096.nD Cert.KernelGW4096.τ).loc Cert.KernelGW4096.main_arg1) = m ((c.tc : Thread Cert.KernelGW4096.nD Cert.KernelGW4096.τ).loc Cert.KernelGW4096.main_arg1))
      ∧ r.2.sem = fun _ => 0)

def quiescent_KernelGW4096Ideal [hKernelGW4096Ideal : Cert.KernelGW4096Ideal.Facts] : Prop :=
  ∀ (m : (ℓ : Loc Cert.KernelGW4096Ideal.nD Cert.KernelGW4096Ideal.τ Cert.KernelGW4096Ideal.sig) → Buf (Elt Ideal) ℓ) (g : Dev Cert.KernelGW4096Ideal.nD → PrngReg), Pre_KernelGW4096Ideal m →
    θ_run (Cert.KernelGW4096Ideal.defs (F := Ideal)) (onTc (τ := Cert.KernelGW4096Ideal.τ) (Cert.KernelGW4096Ideal.main (F := Ideal))) ⟨m, fun _ => 0, g⟩ (fun r => (∀ c : Dev Cert.KernelGW4096Ideal.nD,
      r.2.mem ((c.tc : Thread Cert.KernelGW4096Ideal.nD Cert.KernelGW4096Ideal.τ).loc Cert.KernelGW4096Ideal.main_arg0) = m ((c.tc : Thread Cert.KernelGW4096Ideal.nD Cert.KernelGW4096Ideal.τ).loc Cert.KernelGW4096Ideal.main_arg0)
      ∧ r.2.mem ((c.tc : Thread Cert.KernelGW4096Ideal.nD Cert.KernelGW4096Ideal.τ).loc Cert.KernelGW4096Ideal.main_arg1) = m ((c.tc : Thread Cert.KernelGW4096Ideal.nD Cert.KernelGW4096Ideal.τ).loc Cert.KernelGW4096Ideal.main_arg1))
      ∧ r.2.sem = fun _ => 0)

def quiescent_ReferenceGW4096Ideal [hReferenceGW4096Ideal : Cert.ReferenceGW4096Ideal.Facts] : Prop :=
  ∀ (m : (ℓ : Loc Cert.ReferenceGW4096Ideal.nD Cert.ReferenceGW4096Ideal.τ Cert.ReferenceGW4096Ideal.sig) → Buf (Elt Ideal) ℓ) (g : Dev Cert.ReferenceGW4096Ideal.nD → PrngReg), Pre_ReferenceGW4096Ideal m →
    θ_run (Cert.ReferenceGW4096Ideal.defs (F := Ideal)) (onTc (τ := Cert.ReferenceGW4096Ideal.τ) (Cert.ReferenceGW4096Ideal.main (F := Ideal))) ⟨m, fun _ => 0, g⟩ (fun r => (∀ c : Dev Cert.ReferenceGW4096Ideal.nD,
      r.2.mem ((c.tc : Thread Cert.ReferenceGW4096Ideal.nD Cert.ReferenceGW4096Ideal.τ).loc Cert.ReferenceGW4096Ideal.main_arg0) = m ((c.tc : Thread Cert.ReferenceGW4096Ideal.nD Cert.ReferenceGW4096Ideal.τ).loc Cert.ReferenceGW4096Ideal.main_arg0)
      ∧ r.2.mem ((c.tc : Thread Cert.ReferenceGW4096Ideal.nD Cert.ReferenceGW4096Ideal.τ).loc Cert.ReferenceGW4096Ideal.main_arg1) = m ((c.tc : Thread Cert.ReferenceGW4096Ideal.nD Cert.ReferenceGW4096Ideal.τ).loc Cert.ReferenceGW4096Ideal.main_arg1))
      ∧ r.2.sem = fun _ => 0)

def quiescent_KernelGW3072 [hKernelGW3072 : Cert.KernelGW3072.Facts] : Prop :=
  ∀ (m : (ℓ : Loc Cert.KernelGW3072.nD Cert.KernelGW3072.τ Cert.KernelGW3072.sig) → Buf (Elt Bits) ℓ) (g : Dev Cert.KernelGW3072.nD → PrngReg), Pre_KernelGW3072 m →
    θ_run (Cert.KernelGW3072.defs (F := Bits)) (onTc (τ := Cert.KernelGW3072.τ) (Cert.KernelGW3072.main (F := Bits))) ⟨m, fun _ => 0, g⟩ (fun r => (∀ c : Dev Cert.KernelGW3072.nD,
      r.2.mem ((c.tc : Thread Cert.KernelGW3072.nD Cert.KernelGW3072.τ).loc Cert.KernelGW3072.main_arg0) = m ((c.tc : Thread Cert.KernelGW3072.nD Cert.KernelGW3072.τ).loc Cert.KernelGW3072.main_arg0)
      ∧ r.2.mem ((c.tc : Thread Cert.KernelGW3072.nD Cert.KernelGW3072.τ).loc Cert.KernelGW3072.main_arg1) = m ((c.tc : Thread Cert.KernelGW3072.nD Cert.KernelGW3072.τ).loc Cert.KernelGW3072.main_arg1))
      ∧ r.2.sem = fun _ => 0)

def quiescent_KernelGW3072Ideal [hKernelGW3072Ideal : Cert.KernelGW3072Ideal.Facts] : Prop :=
  ∀ (m : (ℓ : Loc Cert.KernelGW3072Ideal.nD Cert.KernelGW3072Ideal.τ Cert.KernelGW3072Ideal.sig) → Buf (Elt Ideal) ℓ) (g : Dev Cert.KernelGW3072Ideal.nD → PrngReg), Pre_KernelGW3072Ideal m →
    θ_run (Cert.KernelGW3072Ideal.defs (F := Ideal)) (onTc (τ := Cert.KernelGW3072Ideal.τ) (Cert.KernelGW3072Ideal.main (F := Ideal))) ⟨m, fun _ => 0, g⟩ (fun r => (∀ c : Dev Cert.KernelGW3072Ideal.nD,
      r.2.mem ((c.tc : Thread Cert.KernelGW3072Ideal.nD Cert.KernelGW3072Ideal.τ).loc Cert.KernelGW3072Ideal.main_arg0) = m ((c.tc : Thread Cert.KernelGW3072Ideal.nD Cert.KernelGW3072Ideal.τ).loc Cert.KernelGW3072Ideal.main_arg0)
      ∧ r.2.mem ((c.tc : Thread Cert.KernelGW3072Ideal.nD Cert.KernelGW3072Ideal.τ).loc Cert.KernelGW3072Ideal.main_arg1) = m ((c.tc : Thread Cert.KernelGW3072Ideal.nD Cert.KernelGW3072Ideal.τ).loc Cert.KernelGW3072Ideal.main_arg1))
      ∧ r.2.sem = fun _ => 0)

def quiescent_ReferenceGW3072Ideal [hReferenceGW3072Ideal : Cert.ReferenceGW3072Ideal.Facts] : Prop :=
  ∀ (m : (ℓ : Loc Cert.ReferenceGW3072Ideal.nD Cert.ReferenceGW3072Ideal.τ Cert.ReferenceGW3072Ideal.sig) → Buf (Elt Ideal) ℓ) (g : Dev Cert.ReferenceGW3072Ideal.nD → PrngReg), Pre_ReferenceGW3072Ideal m →
    θ_run (Cert.ReferenceGW3072Ideal.defs (F := Ideal)) (onTc (τ := Cert.ReferenceGW3072Ideal.τ) (Cert.ReferenceGW3072Ideal.main (F := Ideal))) ⟨m, fun _ => 0, g⟩ (fun r => (∀ c : Dev Cert.ReferenceGW3072Ideal.nD,
      r.2.mem ((c.tc : Thread Cert.ReferenceGW3072Ideal.nD Cert.ReferenceGW3072Ideal.τ).loc Cert.ReferenceGW3072Ideal.main_arg0) = m ((c.tc : Thread Cert.ReferenceGW3072Ideal.nD Cert.ReferenceGW3072Ideal.τ).loc Cert.ReferenceGW3072Ideal.main_arg0)
      ∧ r.2.mem ((c.tc : Thread Cert.ReferenceGW3072Ideal.nD Cert.ReferenceGW3072Ideal.τ).loc Cert.ReferenceGW3072Ideal.main_arg1) = m ((c.tc : Thread Cert.ReferenceGW3072Ideal.nD Cert.ReferenceGW3072Ideal.τ).loc Cert.ReferenceGW3072Ideal.main_arg1))
      ∧ r.2.sem = fun _ => 0)

def quiescent_KernelGW128 [hKernelGW128 : Cert.KernelGW128.Facts] : Prop :=
  ∀ (m : (ℓ : Loc Cert.KernelGW128.nD Cert.KernelGW128.τ Cert.KernelGW128.sig) → Buf (Elt Bits) ℓ) (g : Dev Cert.KernelGW128.nD → PrngReg), Pre_KernelGW128 m →
    θ_run (Cert.KernelGW128.defs (F := Bits)) (onTc (τ := Cert.KernelGW128.τ) (Cert.KernelGW128.main (F := Bits))) ⟨m, fun _ => 0, g⟩ (fun r => (∀ c : Dev Cert.KernelGW128.nD,
      r.2.mem ((c.tc : Thread Cert.KernelGW128.nD Cert.KernelGW128.τ).loc Cert.KernelGW128.main_arg0) = m ((c.tc : Thread Cert.KernelGW128.nD Cert.KernelGW128.τ).loc Cert.KernelGW128.main_arg0)
      ∧ r.2.mem ((c.tc : Thread Cert.KernelGW128.nD Cert.KernelGW128.τ).loc Cert.KernelGW128.main_arg1) = m ((c.tc : Thread Cert.KernelGW128.nD Cert.KernelGW128.τ).loc Cert.KernelGW128.main_arg1))
      ∧ r.2.sem = fun _ => 0)

def quiescent_KernelGW128Ideal [hKernelGW128Ideal : Cert.KernelGW128Ideal.Facts] : Prop :=
  ∀ (m : (ℓ : Loc Cert.KernelGW128Ideal.nD Cert.KernelGW128Ideal.τ Cert.KernelGW128Ideal.sig) → Buf (Elt Ideal) ℓ) (g : Dev Cert.KernelGW128Ideal.nD → PrngReg), Pre_KernelGW128Ideal m →
    θ_run (Cert.KernelGW128Ideal.defs (F := Ideal)) (onTc (τ := Cert.KernelGW128Ideal.τ) (Cert.KernelGW128Ideal.main (F := Ideal))) ⟨m, fun _ => 0, g⟩ (fun r => (∀ c : Dev Cert.KernelGW128Ideal.nD,
      r.2.mem ((c.tc : Thread Cert.KernelGW128Ideal.nD Cert.KernelGW128Ideal.τ).loc Cert.KernelGW128Ideal.main_arg0) = m ((c.tc : Thread Cert.KernelGW128Ideal.nD Cert.KernelGW128Ideal.τ).loc Cert.KernelGW128Ideal.main_arg0)
      ∧ r.2.mem ((c.tc : Thread Cert.KernelGW128Ideal.nD Cert.KernelGW128Ideal.τ).loc Cert.KernelGW128Ideal.main_arg1) = m ((c.tc : Thread Cert.KernelGW128Ideal.nD Cert.KernelGW128Ideal.τ).loc Cert.KernelGW128Ideal.main_arg1))
      ∧ r.2.sem = fun _ => 0)

def quiescent_ReferenceGW128Ideal [hReferenceGW128Ideal : Cert.ReferenceGW128Ideal.Facts] : Prop :=
  ∀ (m : (ℓ : Loc Cert.ReferenceGW128Ideal.nD Cert.ReferenceGW128Ideal.τ Cert.ReferenceGW128Ideal.sig) → Buf (Elt Ideal) ℓ) (g : Dev Cert.ReferenceGW128Ideal.nD → PrngReg), Pre_ReferenceGW128Ideal m →
    θ_run (Cert.ReferenceGW128Ideal.defs (F := Ideal)) (onTc (τ := Cert.ReferenceGW128Ideal.τ) (Cert.ReferenceGW128Ideal.main (F := Ideal))) ⟨m, fun _ => 0, g⟩ (fun r => (∀ c : Dev Cert.ReferenceGW128Ideal.nD,
      r.2.mem ((c.tc : Thread Cert.ReferenceGW128Ideal.nD Cert.ReferenceGW128Ideal.τ).loc Cert.ReferenceGW128Ideal.main_arg0) = m ((c.tc : Thread Cert.ReferenceGW128Ideal.nD Cert.ReferenceGW128Ideal.τ).loc Cert.ReferenceGW128Ideal.main_arg0)
      ∧ r.2.mem ((c.tc : Thread Cert.ReferenceGW128Ideal.nD Cert.ReferenceGW128Ideal.τ).loc Cert.ReferenceGW128Ideal.main_arg1) = m ((c.tc : Thread Cert.ReferenceGW128Ideal.nD Cert.ReferenceGW128Ideal.τ).loc Cert.ReferenceGW128Ideal.main_arg1))
      ∧ r.2.sem = fun _ => 0)

def quiescent_KernelGUp [hKernelGUp : Cert.KernelGUp.Facts] : Prop :=
  ∀ (m : (ℓ : Loc Cert.KernelGUp.nD Cert.KernelGUp.τ Cert.KernelGUp.sig) → Buf (Elt Bits) ℓ) (g : Dev Cert.KernelGUp.nD → PrngReg), Pre_KernelGUp m →
    θ_run (Cert.KernelGUp.defs (F := Bits)) (onTc (τ := Cert.KernelGUp.τ) (Cert.KernelGUp.main (F := Bits))) ⟨m, fun _ => 0, g⟩ (fun r => (∀ c : Dev Cert.KernelGUp.nD,
      r.2.mem ((c.tc : Thread Cert.KernelGUp.nD Cert.KernelGUp.τ).loc Cert.KernelGUp.main_arg0) = m ((c.tc : Thread Cert.KernelGUp.nD Cert.KernelGUp.τ).loc Cert.KernelGUp.main_arg0)
      ∧ r.2.mem ((c.tc : Thread Cert.KernelGUp.nD Cert.KernelGUp.τ).loc Cert.KernelGUp.main_arg1) = m ((c.tc : Thread Cert.KernelGUp.nD Cert.KernelGUp.τ).loc Cert.KernelGUp.main_arg1))
      ∧ r.2.sem = fun _ => 0)

def quiescent_KernelGUpIdeal [hKernelGUpIdeal : Cert.KernelGUpIdeal.Facts] : Prop :=
  ∀ (m : (ℓ : Loc Cert.KernelGUpIdeal.nD Cert.KernelGUpIdeal.τ Cert.KernelGUpIdeal.sig) → Buf (Elt Ideal) ℓ) (g : Dev Cert.KernelGUpIdeal.nD → PrngReg), Pre_KernelGUpIdeal m →
    θ_run (Cert.KernelGUpIdeal.defs (F := Ideal)) (onTc (τ := Cert.KernelGUpIdeal.τ) (Cert.KernelGUpIdeal.main (F := Ideal))) ⟨m, fun _ => 0, g⟩ (fun r => (∀ c : Dev Cert.KernelGUpIdeal.nD,
      r.2.mem ((c.tc : Thread Cert.KernelGUpIdeal.nD Cert.KernelGUpIdeal.τ).loc Cert.KernelGUpIdeal.main_arg0) = m ((c.tc : Thread Cert.KernelGUpIdeal.nD Cert.KernelGUpIdeal.τ).loc Cert.KernelGUpIdeal.main_arg0)
      ∧ r.2.mem ((c.tc : Thread Cert.KernelGUpIdeal.nD Cert.KernelGUpIdeal.τ).loc Cert.KernelGUpIdeal.main_arg1) = m ((c.tc : Thread Cert.KernelGUpIdeal.nD Cert.KernelGUpIdeal.τ).loc Cert.KernelGUpIdeal.main_arg1))
      ∧ r.2.sem = fun _ => 0)

def quiescent_ReferenceGUpIdeal [hReferenceGUpIdeal : Cert.ReferenceGUpIdeal.Facts] : Prop :=
  ∀ (m : (ℓ : Loc Cert.ReferenceGUpIdeal.nD Cert.ReferenceGUpIdeal.τ Cert.ReferenceGUpIdeal.sig) → Buf (Elt Ideal) ℓ) (g : Dev Cert.ReferenceGUpIdeal.nD → PrngReg), Pre_ReferenceGUpIdeal m →
    θ_run (Cert.ReferenceGUpIdeal.defs (F := Ideal)) (onTc (τ := Cert.ReferenceGUpIdeal.τ) (Cert.ReferenceGUpIdeal.main (F := Ideal))) ⟨m, fun _ => 0, g⟩ (fun r => (∀ c : Dev Cert.ReferenceGUpIdeal.nD,
      r.2.mem ((c.tc : Thread Cert.ReferenceGUpIdeal.nD Cert.ReferenceGUpIdeal.τ).loc Cert.ReferenceGUpIdeal.main_arg0) = m ((c.tc : Thread Cert.ReferenceGUpIdeal.nD Cert.ReferenceGUpIdeal.τ).loc Cert.ReferenceGUpIdeal.main_arg0)
      ∧ r.2.mem ((c.tc : Thread Cert.ReferenceGUpIdeal.nD Cert.ReferenceGUpIdeal.τ).loc Cert.ReferenceGUpIdeal.main_arg1) = m ((c.tc : Thread Cert.ReferenceGUpIdeal.nD Cert.ReferenceGUpIdeal.τ).loc Cert.ReferenceGUpIdeal.main_arg1))
      ∧ r.2.sem = fun _ => 0)

def quiescent_KernelDU2 [hKernelDU2 : Cert.KernelDU2.Facts] : Prop :=
  ∀ (m : (ℓ : Loc Cert.KernelDU2.nD Cert.KernelDU2.τ Cert.KernelDU2.sig) → Buf (Elt Bits) ℓ) (g : Dev Cert.KernelDU2.nD → PrngReg), Pre_KernelDU2 m →
    θ_run (Cert.KernelDU2.defs (F := Bits)) (onTc (τ := Cert.KernelDU2.τ) (Cert.KernelDU2.main (F := Bits))) ⟨m, fun _ => 0, g⟩ (fun r => (∀ c : Dev Cert.KernelDU2.nD,
      r.2.mem ((c.tc : Thread Cert.KernelDU2.nD Cert.KernelDU2.τ).loc Cert.KernelDU2.main_arg0) = m ((c.tc : Thread Cert.KernelDU2.nD Cert.KernelDU2.τ).loc Cert.KernelDU2.main_arg0)
      ∧ r.2.mem ((c.tc : Thread Cert.KernelDU2.nD Cert.KernelDU2.τ).loc Cert.KernelDU2.main_arg1) = m ((c.tc : Thread Cert.KernelDU2.nD Cert.KernelDU2.τ).loc Cert.KernelDU2.main_arg1))
      ∧ r.2.sem = fun _ => 0)

def quiescent_KernelDU2Ideal [hKernelDU2Ideal : Cert.KernelDU2Ideal.Facts] : Prop :=
  ∀ (m : (ℓ : Loc Cert.KernelDU2Ideal.nD Cert.KernelDU2Ideal.τ Cert.KernelDU2Ideal.sig) → Buf (Elt Ideal) ℓ) (g : Dev Cert.KernelDU2Ideal.nD → PrngReg), Pre_KernelDU2Ideal m →
    θ_run (Cert.KernelDU2Ideal.defs (F := Ideal)) (onTc (τ := Cert.KernelDU2Ideal.τ) (Cert.KernelDU2Ideal.main (F := Ideal))) ⟨m, fun _ => 0, g⟩ (fun r => (∀ c : Dev Cert.KernelDU2Ideal.nD,
      r.2.mem ((c.tc : Thread Cert.KernelDU2Ideal.nD Cert.KernelDU2Ideal.τ).loc Cert.KernelDU2Ideal.main_arg0) = m ((c.tc : Thread Cert.KernelDU2Ideal.nD Cert.KernelDU2Ideal.τ).loc Cert.KernelDU2Ideal.main_arg0)
      ∧ r.2.mem ((c.tc : Thread Cert.KernelDU2Ideal.nD Cert.KernelDU2Ideal.τ).loc Cert.KernelDU2Ideal.main_arg1) = m ((c.tc : Thread Cert.KernelDU2Ideal.nD Cert.KernelDU2Ideal.τ).loc Cert.KernelDU2Ideal.main_arg1))
      ∧ r.2.sem = fun _ => 0)

def quiescent_ReferenceDU2Ideal [hReferenceDU2Ideal : Cert.ReferenceDU2Ideal.Facts] : Prop :=
  ∀ (m : (ℓ : Loc Cert.ReferenceDU2Ideal.nD Cert.ReferenceDU2Ideal.τ Cert.ReferenceDU2Ideal.sig) → Buf (Elt Ideal) ℓ) (g : Dev Cert.ReferenceDU2Ideal.nD → PrngReg), Pre_ReferenceDU2Ideal m →
    θ_run (Cert.ReferenceDU2Ideal.defs (F := Ideal)) (onTc (τ := Cert.ReferenceDU2Ideal.τ) (Cert.ReferenceDU2Ideal.main (F := Ideal))) ⟨m, fun _ => 0, g⟩ (fun r => (∀ c : Dev Cert.ReferenceDU2Ideal.nD,
      r.2.mem ((c.tc : Thread Cert.ReferenceDU2Ideal.nD Cert.ReferenceDU2Ideal.τ).loc Cert.ReferenceDU2Ideal.main_arg0) = m ((c.tc : Thread Cert.ReferenceDU2Ideal.nD Cert.ReferenceDU2Ideal.τ).loc Cert.ReferenceDU2Ideal.main_arg0)
      ∧ r.2.mem ((c.tc : Thread Cert.ReferenceDU2Ideal.nD Cert.ReferenceDU2Ideal.τ).loc Cert.ReferenceDU2Ideal.main_arg1) = m ((c.tc : Thread Cert.ReferenceDU2Ideal.nD Cert.ReferenceDU2Ideal.τ).loc Cert.ReferenceDU2Ideal.main_arg1))
      ∧ r.2.sem = fun _ => 0)

def quiescent_KernelDU2v [hKernelDU2v : Cert.KernelDU2v.Facts] : Prop :=
  ∀ (m : (ℓ : Loc Cert.KernelDU2v.nD Cert.KernelDU2v.τ Cert.KernelDU2v.sig) → Buf (Elt Bits) ℓ) (g : Dev Cert.KernelDU2v.nD → PrngReg), Pre_KernelDU2v m →
    θ_run (Cert.KernelDU2v.defs (F := Bits)) (onTc (τ := Cert.KernelDU2v.τ) (Cert.KernelDU2v.main (F := Bits))) ⟨m, fun _ => 0, g⟩ (fun r => (∀ c : Dev Cert.KernelDU2v.nD,
      r.2.mem ((c.tc : Thread Cert.KernelDU2v.nD Cert.KernelDU2v.τ).loc Cert.KernelDU2v.main_arg0) = m ((c.tc : Thread Cert.KernelDU2v.nD Cert.KernelDU2v.τ).loc Cert.KernelDU2v.main_arg0)
      ∧ r.2.mem ((c.tc : Thread Cert.KernelDU2v.nD Cert.KernelDU2v.τ).loc Cert.KernelDU2v.main_arg1) = m ((c.tc : Thread Cert.KernelDU2v.nD Cert.KernelDU2v.τ).loc Cert.KernelDU2v.main_arg1)
      ∧ r.2.mem ((c.tc : Thread Cert.KernelDU2v.nD Cert.KernelDU2v.τ).loc Cert.KernelDU2v.main_arg2) = m ((c.tc : Thread Cert.KernelDU2v.nD Cert.KernelDU2v.τ).loc Cert.KernelDU2v.main_arg2))
      ∧ r.2.sem = fun _ => 0)

def quiescent_KernelDU2vIdeal [hKernelDU2vIdeal : Cert.KernelDU2vIdeal.Facts] : Prop :=
  ∀ (m : (ℓ : Loc Cert.KernelDU2vIdeal.nD Cert.KernelDU2vIdeal.τ Cert.KernelDU2vIdeal.sig) → Buf (Elt Ideal) ℓ) (g : Dev Cert.KernelDU2vIdeal.nD → PrngReg), Pre_KernelDU2vIdeal m →
    θ_run (Cert.KernelDU2vIdeal.defs (F := Ideal)) (onTc (τ := Cert.KernelDU2vIdeal.τ) (Cert.KernelDU2vIdeal.main (F := Ideal))) ⟨m, fun _ => 0, g⟩ (fun r => (∀ c : Dev Cert.KernelDU2vIdeal.nD,
      r.2.mem ((c.tc : Thread Cert.KernelDU2vIdeal.nD Cert.KernelDU2vIdeal.τ).loc Cert.KernelDU2vIdeal.main_arg0) = m ((c.tc : Thread Cert.KernelDU2vIdeal.nD Cert.KernelDU2vIdeal.τ).loc Cert.KernelDU2vIdeal.main_arg0)
      ∧ r.2.mem ((c.tc : Thread Cert.KernelDU2vIdeal.nD Cert.KernelDU2vIdeal.τ).loc Cert.KernelDU2vIdeal.main_arg1) = m ((c.tc : Thread Cert.KernelDU2vIdeal.nD Cert.KernelDU2vIdeal.τ).loc Cert.KernelDU2vIdeal.main_arg1)
      ∧ r.2.mem ((c.tc : Thread Cert.KernelDU2vIdeal.nD Cert.KernelDU2vIdeal.τ).loc Cert.KernelDU2vIdeal.main_arg2) = m ((c.tc : Thread Cert.KernelDU2vIdeal.nD Cert.KernelDU2vIdeal.τ).loc Cert.KernelDU2vIdeal.main_arg2))
      ∧ r.2.sem = fun _ => 0)

def quiescent_ReferenceDU2vIdeal [hReferenceDU2vIdeal : Cert.ReferenceDU2vIdeal.Facts] : Prop :=
  ∀ (m : (ℓ : Loc Cert.ReferenceDU2vIdeal.nD Cert.ReferenceDU2vIdeal.τ Cert.ReferenceDU2vIdeal.sig) → Buf (Elt Ideal) ℓ) (g : Dev Cert.ReferenceDU2vIdeal.nD → PrngReg), Pre_ReferenceDU2vIdeal m →
    θ_run (Cert.ReferenceDU2vIdeal.defs (F := Ideal)) (onTc (τ := Cert.ReferenceDU2vIdeal.τ) (Cert.ReferenceDU2vIdeal.main (F := Ideal))) ⟨m, fun _ => 0, g⟩ (fun r => (∀ c : Dev Cert.ReferenceDU2vIdeal.nD,
      r.2.mem ((c.tc : Thread Cert.ReferenceDU2vIdeal.nD Cert.ReferenceDU2vIdeal.τ).loc Cert.ReferenceDU2vIdeal.main_arg0) = m ((c.tc : Thread Cert.ReferenceDU2vIdeal.nD Cert.ReferenceDU2vIdeal.τ).loc Cert.ReferenceDU2vIdeal.main_arg0)
      ∧ r.2.mem ((c.tc : Thread Cert.ReferenceDU2vIdeal.nD Cert.ReferenceDU2vIdeal.τ).loc Cert.ReferenceDU2vIdeal.main_arg1) = m ((c.tc : Thread Cert.ReferenceDU2vIdeal.nD Cert.ReferenceDU2vIdeal.τ).loc Cert.ReferenceDU2vIdeal.main_arg1)
      ∧ r.2.mem ((c.tc : Thread Cert.ReferenceDU2vIdeal.nD Cert.ReferenceDU2vIdeal.τ).loc Cert.ReferenceDU2vIdeal.main_arg2) = m ((c.tc : Thread Cert.ReferenceDU2vIdeal.nD Cert.ReferenceDU2vIdeal.τ).loc Cert.ReferenceDU2vIdeal.main_arg2))
      ∧ r.2.sem = fun _ => 0)

def quiescent_KernelDAct [hKernelDAct : Cert.KernelDAct.Facts] : Prop :=
  ∀ (m : (ℓ : Loc Cert.KernelDAct.nD Cert.KernelDAct.τ Cert.KernelDAct.sig) → Buf (Elt Bits) ℓ) (g : Dev Cert.KernelDAct.nD → PrngReg), Pre_KernelDAct m →
    θ_run (Cert.KernelDAct.defs (F := Bits)) (onTc (τ := Cert.KernelDAct.τ) (Cert.KernelDAct.main (F := Bits))) ⟨m, fun _ => 0, g⟩ (fun r => (∀ c : Dev Cert.KernelDAct.nD,
      r.2.mem ((c.tc : Thread Cert.KernelDAct.nD Cert.KernelDAct.τ).loc Cert.KernelDAct.main_arg0) = m ((c.tc : Thread Cert.KernelDAct.nD Cert.KernelDAct.τ).loc Cert.KernelDAct.main_arg0)
      ∧ r.2.mem ((c.tc : Thread Cert.KernelDAct.nD Cert.KernelDAct.τ).loc Cert.KernelDAct.main_arg1) = m ((c.tc : Thread Cert.KernelDAct.nD Cert.KernelDAct.τ).loc Cert.KernelDAct.main_arg1))
      ∧ r.2.sem = fun _ => 0)

def quiescent_KernelDActIdeal [hKernelDActIdeal : Cert.KernelDActIdeal.Facts] : Prop :=
  ∀ (m : (ℓ : Loc Cert.KernelDActIdeal.nD Cert.KernelDActIdeal.τ Cert.KernelDActIdeal.sig) → Buf (Elt Ideal) ℓ) (g : Dev Cert.KernelDActIdeal.nD → PrngReg), Pre_KernelDActIdeal m →
    θ_run (Cert.KernelDActIdeal.defs (F := Ideal)) (onTc (τ := Cert.KernelDActIdeal.τ) (Cert.KernelDActIdeal.main (F := Ideal))) ⟨m, fun _ => 0, g⟩ (fun r => (∀ c : Dev Cert.KernelDActIdeal.nD,
      r.2.mem ((c.tc : Thread Cert.KernelDActIdeal.nD Cert.KernelDActIdeal.τ).loc Cert.KernelDActIdeal.main_arg0) = m ((c.tc : Thread Cert.KernelDActIdeal.nD Cert.KernelDActIdeal.τ).loc Cert.KernelDActIdeal.main_arg0)
      ∧ r.2.mem ((c.tc : Thread Cert.KernelDActIdeal.nD Cert.KernelDActIdeal.τ).loc Cert.KernelDActIdeal.main_arg1) = m ((c.tc : Thread Cert.KernelDActIdeal.nD Cert.KernelDActIdeal.τ).loc Cert.KernelDActIdeal.main_arg1))
      ∧ r.2.sem = fun _ => 0)

def quiescent_ReferenceDActIdeal [hReferenceDActIdeal : Cert.ReferenceDActIdeal.Facts] : Prop :=
  ∀ (m : (ℓ : Loc Cert.ReferenceDActIdeal.nD Cert.ReferenceDActIdeal.τ Cert.ReferenceDActIdeal.sig) → Buf (Elt Ideal) ℓ) (g : Dev Cert.ReferenceDActIdeal.nD → PrngReg), Pre_ReferenceDActIdeal m →
    θ_run (Cert.ReferenceDActIdeal.defs (F := Ideal)) (onTc (τ := Cert.ReferenceDActIdeal.τ) (Cert.ReferenceDActIdeal.main (F := Ideal))) ⟨m, fun _ => 0, g⟩ (fun r => (∀ c : Dev Cert.ReferenceDActIdeal.nD,
      r.2.mem ((c.tc : Thread Cert.ReferenceDActIdeal.nD Cert.ReferenceDActIdeal.τ).loc Cert.ReferenceDActIdeal.main_arg0) = m ((c.tc : Thread Cert.ReferenceDActIdeal.nD Cert.ReferenceDActIdeal.τ).loc Cert.ReferenceDActIdeal.main_arg0)
      ∧ r.2.mem ((c.tc : Thread Cert.ReferenceDActIdeal.nD Cert.ReferenceDActIdeal.τ).loc Cert.ReferenceDActIdeal.main_arg1) = m ((c.tc : Thread Cert.ReferenceDActIdeal.nD Cert.ReferenceDActIdeal.τ).loc Cert.ReferenceDActIdeal.main_arg1))
      ∧ r.2.sem = fun _ => 0)

def quiescent_KernelGDown [hKernelGDown : Cert.KernelGDown.Facts] : Prop :=
  ∀ (m : (ℓ : Loc Cert.KernelGDown.nD Cert.KernelGDown.τ Cert.KernelGDown.sig) → Buf (Elt Bits) ℓ) (g : Dev Cert.KernelGDown.nD → PrngReg), Pre_KernelGDown m →
    θ_run (Cert.KernelGDown.defs (F := Bits)) (onTc (τ := Cert.KernelGDown.τ) (Cert.KernelGDown.main (F := Bits))) ⟨m, fun _ => 0, g⟩ (fun r => (∀ c : Dev Cert.KernelGDown.nD,
      r.2.mem ((c.tc : Thread Cert.KernelGDown.nD Cert.KernelGDown.τ).loc Cert.KernelGDown.main_arg0) = m ((c.tc : Thread Cert.KernelGDown.nD Cert.KernelGDown.τ).loc Cert.KernelGDown.main_arg0)
      ∧ r.2.mem ((c.tc : Thread Cert.KernelGDown.nD Cert.KernelGDown.τ).loc Cert.KernelGDown.main_arg1) = m ((c.tc : Thread Cert.KernelGDown.nD Cert.KernelGDown.τ).loc Cert.KernelGDown.main_arg1))
      ∧ r.2.sem = fun _ => 0)

def quiescent_KernelGDownIdeal [hKernelGDownIdeal : Cert.KernelGDownIdeal.Facts] : Prop :=
  ∀ (m : (ℓ : Loc Cert.KernelGDownIdeal.nD Cert.KernelGDownIdeal.τ Cert.KernelGDownIdeal.sig) → Buf (Elt Ideal) ℓ) (g : Dev Cert.KernelGDownIdeal.nD → PrngReg), Pre_KernelGDownIdeal m →
    θ_run (Cert.KernelGDownIdeal.defs (F := Ideal)) (onTc (τ := Cert.KernelGDownIdeal.τ) (Cert.KernelGDownIdeal.main (F := Ideal))) ⟨m, fun _ => 0, g⟩ (fun r => (∀ c : Dev Cert.KernelGDownIdeal.nD,
      r.2.mem ((c.tc : Thread Cert.KernelGDownIdeal.nD Cert.KernelGDownIdeal.τ).loc Cert.KernelGDownIdeal.main_arg0) = m ((c.tc : Thread Cert.KernelGDownIdeal.nD Cert.KernelGDownIdeal.τ).loc Cert.KernelGDownIdeal.main_arg0)
      ∧ r.2.mem ((c.tc : Thread Cert.KernelGDownIdeal.nD Cert.KernelGDownIdeal.τ).loc Cert.KernelGDownIdeal.main_arg1) = m ((c.tc : Thread Cert.KernelGDownIdeal.nD Cert.KernelGDownIdeal.τ).loc Cert.KernelGDownIdeal.main_arg1))
      ∧ r.2.sem = fun _ => 0)

def quiescent_ReferenceGDownIdeal [hReferenceGDownIdeal : Cert.ReferenceGDownIdeal.Facts] : Prop :=
  ∀ (m : (ℓ : Loc Cert.ReferenceGDownIdeal.nD Cert.ReferenceGDownIdeal.τ Cert.ReferenceGDownIdeal.sig) → Buf (Elt Ideal) ℓ) (g : Dev Cert.ReferenceGDownIdeal.nD → PrngReg), Pre_ReferenceGDownIdeal m →
    θ_run (Cert.ReferenceGDownIdeal.defs (F := Ideal)) (onTc (τ := Cert.ReferenceGDownIdeal.τ) (Cert.ReferenceGDownIdeal.main (F := Ideal))) ⟨m, fun _ => 0, g⟩ (fun r => (∀ c : Dev Cert.ReferenceGDownIdeal.nD,
      r.2.mem ((c.tc : Thread Cert.ReferenceGDownIdeal.nD Cert.ReferenceGDownIdeal.τ).loc Cert.ReferenceGDownIdeal.main_arg0) = m ((c.tc : Thread Cert.ReferenceGDownIdeal.nD Cert.ReferenceGDownIdeal.τ).loc Cert.ReferenceGDownIdeal.main_arg0)
      ∧ r.2.mem ((c.tc : Thread Cert.ReferenceGDownIdeal.nD Cert.ReferenceGDownIdeal.τ).loc Cert.ReferenceGDownIdeal.main_arg1) = m ((c.tc : Thread Cert.ReferenceGDownIdeal.nD Cert.ReferenceGDownIdeal.τ).loc Cert.ReferenceGDownIdeal.main_arg1))
      ∧ r.2.sem = fun _ => 0)

def quiescent_KernelDY [hKernelDY : Cert.KernelDY.Facts] : Prop :=
  ∀ (m : (ℓ : Loc Cert.KernelDY.nD Cert.KernelDY.τ Cert.KernelDY.sig) → Buf (Elt Bits) ℓ) (g : Dev Cert.KernelDY.nD → PrngReg), Pre_KernelDY m →
    θ_run (Cert.KernelDY.defs (F := Bits)) (onTc (τ := Cert.KernelDY.τ) (Cert.KernelDY.main (F := Bits))) ⟨m, fun _ => 0, g⟩ (fun r => (∀ c : Dev Cert.KernelDY.nD,
      r.2.mem ((c.tc : Thread Cert.KernelDY.nD Cert.KernelDY.τ).loc Cert.KernelDY.main_arg0) = m ((c.tc : Thread Cert.KernelDY.nD Cert.KernelDY.τ).loc Cert.KernelDY.main_arg0)
      ∧ r.2.mem ((c.tc : Thread Cert.KernelDY.nD Cert.KernelDY.τ).loc Cert.KernelDY.main_arg1) = m ((c.tc : Thread Cert.KernelDY.nD Cert.KernelDY.τ).loc Cert.KernelDY.main_arg1))
      ∧ r.2.sem = fun _ => 0)

def quiescent_KernelDYIdeal [hKernelDYIdeal : Cert.KernelDYIdeal.Facts] : Prop :=
  ∀ (m : (ℓ : Loc Cert.KernelDYIdeal.nD Cert.KernelDYIdeal.τ Cert.KernelDYIdeal.sig) → Buf (Elt Ideal) ℓ) (g : Dev Cert.KernelDYIdeal.nD → PrngReg), Pre_KernelDYIdeal m →
    θ_run (Cert.KernelDYIdeal.defs (F := Ideal)) (onTc (τ := Cert.KernelDYIdeal.τ) (Cert.KernelDYIdeal.main (F := Ideal))) ⟨m, fun _ => 0, g⟩ (fun r => (∀ c : Dev Cert.KernelDYIdeal.nD,
      r.2.mem ((c.tc : Thread Cert.KernelDYIdeal.nD Cert.KernelDYIdeal.τ).loc Cert.KernelDYIdeal.main_arg0) = m ((c.tc : Thread Cert.KernelDYIdeal.nD Cert.KernelDYIdeal.τ).loc Cert.KernelDYIdeal.main_arg0)
      ∧ r.2.mem ((c.tc : Thread Cert.KernelDYIdeal.nD Cert.KernelDYIdeal.τ).loc Cert.KernelDYIdeal.main_arg1) = m ((c.tc : Thread Cert.KernelDYIdeal.nD Cert.KernelDYIdeal.τ).loc Cert.KernelDYIdeal.main_arg1))
      ∧ r.2.sem = fun _ => 0)

def quiescent_ReferenceDYIdeal [hReferenceDYIdeal : Cert.ReferenceDYIdeal.Facts] : Prop :=
  ∀ (m : (ℓ : Loc Cert.ReferenceDYIdeal.nD Cert.ReferenceDYIdeal.τ Cert.ReferenceDYIdeal.sig) → Buf (Elt Ideal) ℓ) (g : Dev Cert.ReferenceDYIdeal.nD → PrngReg), Pre_ReferenceDYIdeal m →
    θ_run (Cert.ReferenceDYIdeal.defs (F := Ideal)) (onTc (τ := Cert.ReferenceDYIdeal.τ) (Cert.ReferenceDYIdeal.main (F := Ideal))) ⟨m, fun _ => 0, g⟩ (fun r => (∀ c : Dev Cert.ReferenceDYIdeal.nD,
      r.2.mem ((c.tc : Thread Cert.ReferenceDYIdeal.nD Cert.ReferenceDYIdeal.τ).loc Cert.ReferenceDYIdeal.main_arg0) = m ((c.tc : Thread Cert.ReferenceDYIdeal.nD Cert.ReferenceDYIdeal.τ).loc Cert.ReferenceDYIdeal.main_arg0)
      ∧ r.2.mem ((c.tc : Thread Cert.ReferenceDYIdeal.nD Cert.ReferenceDYIdeal.τ).loc Cert.ReferenceDYIdeal.main_arg1) = m ((c.tc : Thread Cert.ReferenceDYIdeal.nD Cert.ReferenceDYIdeal.τ).loc Cert.ReferenceDYIdeal.main_arg1))
      ∧ r.2.sem = fun _ => 0)

def quiescent_KernelGBranch [hKernelGBranch : Cert.KernelGBranch.Facts] : Prop :=
  ∀ (m : (ℓ : Loc Cert.KernelGBranch.nD Cert.KernelGBranch.τ Cert.KernelGBranch.sig) → Buf (Elt Bits) ℓ) (g : Dev Cert.KernelGBranch.nD → PrngReg), Pre_KernelGBranch m →
    θ_run (Cert.KernelGBranch.defs (F := Bits)) (onTc (τ := Cert.KernelGBranch.τ) (Cert.KernelGBranch.main (F := Bits))) ⟨m, fun _ => 0, g⟩ (fun r => (∀ c : Dev Cert.KernelGBranch.nD,
      r.2.mem ((c.tc : Thread Cert.KernelGBranch.nD Cert.KernelGBranch.τ).loc Cert.KernelGBranch.main_arg0) = m ((c.tc : Thread Cert.KernelGBranch.nD Cert.KernelGBranch.τ).loc Cert.KernelGBranch.main_arg0)
      ∧ r.2.mem ((c.tc : Thread Cert.KernelGBranch.nD Cert.KernelGBranch.τ).loc Cert.KernelGBranch.main_arg1) = m ((c.tc : Thread Cert.KernelGBranch.nD Cert.KernelGBranch.τ).loc Cert.KernelGBranch.main_arg1))
      ∧ r.2.sem = fun _ => 0)

def quiescent_KernelGBranchIdeal [hKernelGBranchIdeal : Cert.KernelGBranchIdeal.Facts] : Prop :=
  ∀ (m : (ℓ : Loc Cert.KernelGBranchIdeal.nD Cert.KernelGBranchIdeal.τ Cert.KernelGBranchIdeal.sig) → Buf (Elt Ideal) ℓ) (g : Dev Cert.KernelGBranchIdeal.nD → PrngReg), Pre_KernelGBranchIdeal m →
    θ_run (Cert.KernelGBranchIdeal.defs (F := Ideal)) (onTc (τ := Cert.KernelGBranchIdeal.τ) (Cert.KernelGBranchIdeal.main (F := Ideal))) ⟨m, fun _ => 0, g⟩ (fun r => (∀ c : Dev Cert.KernelGBranchIdeal.nD,
      r.2.mem ((c.tc : Thread Cert.KernelGBranchIdeal.nD Cert.KernelGBranchIdeal.τ).loc Cert.KernelGBranchIdeal.main_arg0) = m ((c.tc : Thread Cert.KernelGBranchIdeal.nD Cert.KernelGBranchIdeal.τ).loc Cert.KernelGBranchIdeal.main_arg0)
      ∧ r.2.mem ((c.tc : Thread Cert.KernelGBranchIdeal.nD Cert.KernelGBranchIdeal.τ).loc Cert.KernelGBranchIdeal.main_arg1) = m ((c.tc : Thread Cert.KernelGBranchIdeal.nD Cert.KernelGBranchIdeal.τ).loc Cert.KernelGBranchIdeal.main_arg1))
      ∧ r.2.sem = fun _ => 0)

def quiescent_ReferenceGBranchIdeal [hReferenceGBranchIdeal : Cert.ReferenceGBranchIdeal.Facts] : Prop :=
  ∀ (m : (ℓ : Loc Cert.ReferenceGBranchIdeal.nD Cert.ReferenceGBranchIdeal.τ Cert.ReferenceGBranchIdeal.sig) → Buf (Elt Ideal) ℓ) (g : Dev Cert.ReferenceGBranchIdeal.nD → PrngReg), Pre_ReferenceGBranchIdeal m →
    θ_run (Cert.ReferenceGBranchIdeal.defs (F := Ideal)) (onTc (τ := Cert.ReferenceGBranchIdeal.τ) (Cert.ReferenceGBranchIdeal.main (F := Ideal))) ⟨m, fun _ => 0, g⟩ (fun r => (∀ c : Dev Cert.ReferenceGBranchIdeal.nD,
      r.2.mem ((c.tc : Thread Cert.ReferenceGBranchIdeal.nD Cert.ReferenceGBranchIdeal.τ).loc Cert.ReferenceGBranchIdeal.main_arg0) = m ((c.tc : Thread Cert.ReferenceGBranchIdeal.nD Cert.ReferenceGBranchIdeal.τ).loc Cert.ReferenceGBranchIdeal.main_arg0)
      ∧ r.2.mem ((c.tc : Thread Cert.ReferenceGBranchIdeal.nD Cert.ReferenceGBranchIdeal.τ).loc Cert.ReferenceGBranchIdeal.main_arg1) = m ((c.tc : Thread Cert.ReferenceGBranchIdeal.nD Cert.ReferenceGBranchIdeal.τ).loc Cert.ReferenceGBranchIdeal.main_arg1))
      ∧ r.2.sem = fun _ => 0)

def quiescent_KernelDMerged [hKernelDMerged : Cert.KernelDMerged.Facts] : Prop :=
  ∀ (m : (ℓ : Loc Cert.KernelDMerged.nD Cert.KernelDMerged.τ Cert.KernelDMerged.sig) → Buf (Elt Bits) ℓ) (g : Dev Cert.KernelDMerged.nD → PrngReg), Pre_KernelDMerged m →
    θ_run (Cert.KernelDMerged.defs (F := Bits)) (onTc (τ := Cert.KernelDMerged.τ) (Cert.KernelDMerged.main (F := Bits))) ⟨m, fun _ => 0, g⟩ (fun r => (∀ c : Dev Cert.KernelDMerged.nD,
      r.2.mem ((c.tc : Thread Cert.KernelDMerged.nD Cert.KernelDMerged.τ).loc Cert.KernelDMerged.main_arg0) = m ((c.tc : Thread Cert.KernelDMerged.nD Cert.KernelDMerged.τ).loc Cert.KernelDMerged.main_arg0)
      ∧ r.2.mem ((c.tc : Thread Cert.KernelDMerged.nD Cert.KernelDMerged.τ).loc Cert.KernelDMerged.main_arg1) = m ((c.tc : Thread Cert.KernelDMerged.nD Cert.KernelDMerged.τ).loc Cert.KernelDMerged.main_arg1))
      ∧ r.2.sem = fun _ => 0)

def quiescent_KernelDMergedIdeal [hKernelDMergedIdeal : Cert.KernelDMergedIdeal.Facts] : Prop :=
  ∀ (m : (ℓ : Loc Cert.KernelDMergedIdeal.nD Cert.KernelDMergedIdeal.τ Cert.KernelDMergedIdeal.sig) → Buf (Elt Ideal) ℓ) (g : Dev Cert.KernelDMergedIdeal.nD → PrngReg), Pre_KernelDMergedIdeal m →
    θ_run (Cert.KernelDMergedIdeal.defs (F := Ideal)) (onTc (τ := Cert.KernelDMergedIdeal.τ) (Cert.KernelDMergedIdeal.main (F := Ideal))) ⟨m, fun _ => 0, g⟩ (fun r => (∀ c : Dev Cert.KernelDMergedIdeal.nD,
      r.2.mem ((c.tc : Thread Cert.KernelDMergedIdeal.nD Cert.KernelDMergedIdeal.τ).loc Cert.KernelDMergedIdeal.main_arg0) = m ((c.tc : Thread Cert.KernelDMergedIdeal.nD Cert.KernelDMergedIdeal.τ).loc Cert.KernelDMergedIdeal.main_arg0)
      ∧ r.2.mem ((c.tc : Thread Cert.KernelDMergedIdeal.nD Cert.KernelDMergedIdeal.τ).loc Cert.KernelDMergedIdeal.main_arg1) = m ((c.tc : Thread Cert.KernelDMergedIdeal.nD Cert.KernelDMergedIdeal.τ).loc Cert.KernelDMergedIdeal.main_arg1))
      ∧ r.2.sem = fun _ => 0)

def quiescent_ReferenceDMergedIdeal [hReferenceDMergedIdeal : Cert.ReferenceDMergedIdeal.Facts] : Prop :=
  ∀ (m : (ℓ : Loc Cert.ReferenceDMergedIdeal.nD Cert.ReferenceDMergedIdeal.τ Cert.ReferenceDMergedIdeal.sig) → Buf (Elt Ideal) ℓ) (g : Dev Cert.ReferenceDMergedIdeal.nD → PrngReg), Pre_ReferenceDMergedIdeal m →
    θ_run (Cert.ReferenceDMergedIdeal.defs (F := Ideal)) (onTc (τ := Cert.ReferenceDMergedIdeal.τ) (Cert.ReferenceDMergedIdeal.main (F := Ideal))) ⟨m, fun _ => 0, g⟩ (fun r => (∀ c : Dev Cert.ReferenceDMergedIdeal.nD,
      r.2.mem ((c.tc : Thread Cert.ReferenceDMergedIdeal.nD Cert.ReferenceDMergedIdeal.τ).loc Cert.ReferenceDMergedIdeal.main_arg0) = m ((c.tc : Thread Cert.ReferenceDMergedIdeal.nD Cert.ReferenceDMergedIdeal.τ).loc Cert.ReferenceDMergedIdeal.main_arg0)
      ∧ r.2.mem ((c.tc : Thread Cert.ReferenceDMergedIdeal.nD Cert.ReferenceDMergedIdeal.τ).loc Cert.ReferenceDMergedIdeal.main_arg1) = m ((c.tc : Thread Cert.ReferenceDMergedIdeal.nD Cert.ReferenceDMergedIdeal.τ).loc Cert.ReferenceDMergedIdeal.main_arg1))
      ∧ r.2.sem = fun _ => 0)

def quiescent_KernelGOut [hKernelGOut : Cert.KernelGOut.Facts] : Prop :=
  ∀ (m : (ℓ : Loc Cert.KernelGOut.nD Cert.KernelGOut.τ Cert.KernelGOut.sig) → Buf (Elt Bits) ℓ) (g : Dev Cert.KernelGOut.nD → PrngReg), Pre_KernelGOut m →
    θ_run (Cert.KernelGOut.defs (F := Bits)) (onTc (τ := Cert.KernelGOut.τ) (Cert.KernelGOut.main (F := Bits))) ⟨m, fun _ => 0, g⟩ (fun r => (∀ c : Dev Cert.KernelGOut.nD,
      r.2.mem ((c.tc : Thread Cert.KernelGOut.nD Cert.KernelGOut.τ).loc Cert.KernelGOut.main_arg0) = m ((c.tc : Thread Cert.KernelGOut.nD Cert.KernelGOut.τ).loc Cert.KernelGOut.main_arg0)
      ∧ r.2.mem ((c.tc : Thread Cert.KernelGOut.nD Cert.KernelGOut.τ).loc Cert.KernelGOut.main_arg1) = m ((c.tc : Thread Cert.KernelGOut.nD Cert.KernelGOut.τ).loc Cert.KernelGOut.main_arg1))
      ∧ r.2.sem = fun _ => 0)

def quiescent_KernelGOutIdeal [hKernelGOutIdeal : Cert.KernelGOutIdeal.Facts] : Prop :=
  ∀ (m : (ℓ : Loc Cert.KernelGOutIdeal.nD Cert.KernelGOutIdeal.τ Cert.KernelGOutIdeal.sig) → Buf (Elt Ideal) ℓ) (g : Dev Cert.KernelGOutIdeal.nD → PrngReg), Pre_KernelGOutIdeal m →
    θ_run (Cert.KernelGOutIdeal.defs (F := Ideal)) (onTc (τ := Cert.KernelGOutIdeal.τ) (Cert.KernelGOutIdeal.main (F := Ideal))) ⟨m, fun _ => 0, g⟩ (fun r => (∀ c : Dev Cert.KernelGOutIdeal.nD,
      r.2.mem ((c.tc : Thread Cert.KernelGOutIdeal.nD Cert.KernelGOutIdeal.τ).loc Cert.KernelGOutIdeal.main_arg0) = m ((c.tc : Thread Cert.KernelGOutIdeal.nD Cert.KernelGOutIdeal.τ).loc Cert.KernelGOutIdeal.main_arg0)
      ∧ r.2.mem ((c.tc : Thread Cert.KernelGOutIdeal.nD Cert.KernelGOutIdeal.τ).loc Cert.KernelGOutIdeal.main_arg1) = m ((c.tc : Thread Cert.KernelGOutIdeal.nD Cert.KernelGOutIdeal.τ).loc Cert.KernelGOutIdeal.main_arg1))
      ∧ r.2.sem = fun _ => 0)

def quiescent_ReferenceGOutIdeal [hReferenceGOutIdeal : Cert.ReferenceGOutIdeal.Facts] : Prop :=
  ∀ (m : (ℓ : Loc Cert.ReferenceGOutIdeal.nD Cert.ReferenceGOutIdeal.τ Cert.ReferenceGOutIdeal.sig) → Buf (Elt Ideal) ℓ) (g : Dev Cert.ReferenceGOutIdeal.nD → PrngReg), Pre_ReferenceGOutIdeal m →
    θ_run (Cert.ReferenceGOutIdeal.defs (F := Ideal)) (onTc (τ := Cert.ReferenceGOutIdeal.τ) (Cert.ReferenceGOutIdeal.main (F := Ideal))) ⟨m, fun _ => 0, g⟩ (fun r => (∀ c : Dev Cert.ReferenceGOutIdeal.nD,
      r.2.mem ((c.tc : Thread Cert.ReferenceGOutIdeal.nD Cert.ReferenceGOutIdeal.τ).loc Cert.ReferenceGOutIdeal.main_arg0) = m ((c.tc : Thread Cert.ReferenceGOutIdeal.nD Cert.ReferenceGOutIdeal.τ).loc Cert.ReferenceGOutIdeal.main_arg0)
      ∧ r.2.mem ((c.tc : Thread Cert.ReferenceGOutIdeal.nD Cert.ReferenceGOutIdeal.τ).loc Cert.ReferenceGOutIdeal.main_arg1) = m ((c.tc : Thread Cert.ReferenceGOutIdeal.nD Cert.ReferenceGOutIdeal.τ).loc Cert.ReferenceGOutIdeal.main_arg1))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelBranch [hKernelBranch : Cert.KernelBranch.Facts] : Prop :=
  ∀ (m : (ℓ : Loc Cert.KernelBranch.nD Cert.KernelBranch.τ Cert.KernelBranch.sig) → Buf (Elt Bits) ℓ) (g : Dev Cert.KernelBranch.nD → PrngReg), Pre_KernelBranch m →
    θ_run (Cert.KernelBranch.defs (F := Bits)) (onTc (τ := Cert.KernelBranch.τ) (Cert.KernelBranch.main (F := Bits))) ⟨m, fun _ => 0, g⟩ (fun r => (∀ c : Dev Cert.KernelBranch.nD,
      r.2.mem ((c.tc : Thread Cert.KernelBranch.nD Cert.KernelBranch.τ).loc Cert.KernelBranch.main_arg0) = m ((c.tc : Thread Cert.KernelBranch.nD Cert.KernelBranch.τ).loc Cert.KernelBranch.main_arg0)
      ∧ r.2.mem ((c.tc : Thread Cert.KernelBranch.nD Cert.KernelBranch.τ).loc Cert.KernelBranch.main_arg1) = m ((c.tc : Thread Cert.KernelBranch.nD Cert.KernelBranch.τ).loc Cert.KernelBranch.main_arg1))
      ∧ r.2.sem = fun _ => 0)

def quiescent_KernelBranchIdeal [hKernelBranchIdeal : Cert.KernelBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg), Pre_KernelBranchIdeal m →
    θ_run (Cert.KernelBranchIdeal.defs (F := Ideal)) (onTc (τ := Cert.KernelBranchIdeal.τ) (Cert.KernelBranchIdeal.main (F := Ideal))) ⟨m, fun _ => 0, g⟩ (fun r => (∀ c : Dev Cert.KernelBranchIdeal.nD,
      r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
      ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ r.2.sem = fun _ => 0)

def quiescent_ReferenceBranchIdeal [hReferenceBranchIdeal : Cert.ReferenceBranchIdeal.Facts] : Prop :=
  ∀ (m : (ℓ : Loc Cert.ReferenceBranchIdeal.nD Cert.ReferenceBranchIdeal.τ Cert.ReferenceBranchIdeal.sig) → Buf (Elt Ideal) ℓ) (g : Dev Cert.ReferenceBranchIdeal.nD → PrngReg), Pre_ReferenceBranchIdeal m →
    θ_run (Cert.ReferenceBranchIdeal.defs (F := Ideal)) (onTc (τ := Cert.ReferenceBranchIdeal.τ) (Cert.ReferenceBranchIdeal.main (F := Ideal))) ⟨m, fun _ => 0, g⟩ (fun r => (∀ c : Dev Cert.ReferenceBranchIdeal.nD,
      r.2.mem ((c.tc : Thread Cert.ReferenceBranchIdeal.nD Cert.ReferenceBranchIdeal.τ).loc Cert.ReferenceBranchIdeal.main_arg0) = m ((c.tc : Thread Cert.ReferenceBranchIdeal.nD Cert.ReferenceBranchIdeal.τ).loc Cert.ReferenceBranchIdeal.main_arg0)
      ∧ r.2.mem ((c.tc : Thread Cert.ReferenceBranchIdeal.nD Cert.ReferenceBranchIdeal.τ).loc Cert.ReferenceBranchIdeal.main_arg1) = m ((c.tc : Thread Cert.ReferenceBranchIdeal.nD Cert.ReferenceBranchIdeal.τ).loc Cert.ReferenceBranchIdeal.main_arg1))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1)
      ∧ r.2.mem ((c.tc : Thread Cert.KernelOutProj.nD Cert.KernelOutProj.τ).loc Cert.KernelOutProj.main_arg2) = m ((c.tc : Thread Cert.KernelOutProj.nD Cert.KernelOutProj.τ).loc Cert.KernelOutProj.main_arg2))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
      ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1)
      ∧ r.2.mem ((c.tc : Thread Cert.ReferenceOutProjIdeal.nD Cert.ReferenceOutProjIdeal.τ).loc Cert.ReferenceOutProjIdeal.main_arg2) = m ((c.tc : Thread Cert.ReferenceOutProjIdeal.nD Cert.ReferenceOutProjIdeal.τ).loc Cert.ReferenceOutProjIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelGateF [hKernelGateF : Cert.KernelGateF.Facts] : Prop :=
  ∀ (m : (ℓ : Loc Cert.KernelGateF.nD Cert.KernelGateF.τ Cert.KernelGateF.sig) → Buf (Elt Bits) ℓ) (g : Dev Cert.KernelGateF.nD → PrngReg), Pre_KernelGateF m →
    θ_run (Cert.KernelGateF.defs (F := Bits)) (onTc (τ := Cert.KernelGateF.τ) (Cert.KernelGateF.main (F := Bits))) ⟨m, fun _ => 0, g⟩ (fun r => (∀ c : Dev Cert.KernelGateF.nD,
      r.2.mem ((c.tc : Thread Cert.KernelGateF.nD Cert.KernelGateF.τ).loc Cert.KernelGateF.main_arg0) = m ((c.tc : Thread Cert.KernelGateF.nD Cert.KernelGateF.τ).loc Cert.KernelGateF.main_arg0)
      ∧ r.2.mem ((c.tc : Thread Cert.KernelGateF.nD Cert.KernelGateF.τ).loc Cert.KernelGateF.main_arg1) = m ((c.tc : Thread Cert.KernelGateF.nD Cert.KernelGateF.τ).loc Cert.KernelGateF.main_arg1)
      ∧ r.2.mem ((c.tc : Thread Cert.KernelGateF.nD Cert.KernelGateF.τ).loc Cert.KernelGateF.main_arg2) = m ((c.tc : Thread Cert.KernelGateF.nD Cert.KernelGateF.τ).loc Cert.KernelGateF.main_arg2))
      ∧ r.2.sem = fun _ => 0)

def quiescent_KernelGateFIdeal [hKernelGateFIdeal : Cert.KernelGateFIdeal.Facts] : Prop :=
  ∀ (m : (ℓ : Loc Cert.KernelGateFIdeal.nD Cert.KernelGateFIdeal.τ Cert.KernelGateFIdeal.sig) → Buf (Elt Ideal) ℓ) (g : Dev Cert.KernelGateFIdeal.nD → PrngReg), Pre_KernelGateFIdeal m →
    θ_run (Cert.KernelGateFIdeal.defs (F := Ideal)) (onTc (τ := Cert.KernelGateFIdeal.τ) (Cert.KernelGateFIdeal.main (F := Ideal))) ⟨m, fun _ => 0, g⟩ (fun r => (∀ c : Dev Cert.KernelGateFIdeal.nD,
      r.2.mem ((c.tc : Thread Cert.KernelGateFIdeal.nD Cert.KernelGateFIdeal.τ).loc Cert.KernelGateFIdeal.main_arg0) = m ((c.tc : Thread Cert.KernelGateFIdeal.nD Cert.KernelGateFIdeal.τ).loc Cert.KernelGateFIdeal.main_arg0)
      ∧ r.2.mem ((c.tc : Thread Cert.KernelGateFIdeal.nD Cert.KernelGateFIdeal.τ).loc Cert.KernelGateFIdeal.main_arg1) = m ((c.tc : Thread Cert.KernelGateFIdeal.nD Cert.KernelGateFIdeal.τ).loc Cert.KernelGateFIdeal.main_arg1)
      ∧ r.2.mem ((c.tc : Thread Cert.KernelGateFIdeal.nD Cert.KernelGateFIdeal.τ).loc Cert.KernelGateFIdeal.main_arg2) = m ((c.tc : Thread Cert.KernelGateFIdeal.nD Cert.KernelGateFIdeal.τ).loc Cert.KernelGateFIdeal.main_arg2))
      ∧ r.2.sem = fun _ => 0)

def quiescent_ReferenceGateFIdeal [hReferenceGateFIdeal : Cert.ReferenceGateFIdeal.Facts] : Prop :=
  ∀ (m : (ℓ : Loc Cert.ReferenceGateFIdeal.nD Cert.ReferenceGateFIdeal.τ Cert.ReferenceGateFIdeal.sig) → Buf (Elt Ideal) ℓ) (g : Dev Cert.ReferenceGateFIdeal.nD → PrngReg), Pre_ReferenceGateFIdeal m →
    θ_run (Cert.ReferenceGateFIdeal.defs (F := Ideal)) (onTc (τ := Cert.ReferenceGateFIdeal.τ) (Cert.ReferenceGateFIdeal.main (F := Ideal))) ⟨m, fun _ => 0, g⟩ (fun r => (∀ c : Dev Cert.ReferenceGateFIdeal.nD,
      r.2.mem ((c.tc : Thread Cert.ReferenceGateFIdeal.nD Cert.ReferenceGateFIdeal.τ).loc Cert.ReferenceGateFIdeal.main_arg0) = m ((c.tc : Thread Cert.ReferenceGateFIdeal.nD Cert.ReferenceGateFIdeal.τ).loc Cert.ReferenceGateFIdeal.main_arg0)
      ∧ r.2.mem ((c.tc : Thread Cert.ReferenceGateFIdeal.nD Cert.ReferenceGateFIdeal.τ).loc Cert.ReferenceGateFIdeal.main_arg1) = m ((c.tc : Thread Cert.ReferenceGateFIdeal.nD Cert.ReferenceGateFIdeal.τ).loc Cert.ReferenceGateFIdeal.main_arg1)
      ∧ r.2.mem ((c.tc : Thread Cert.ReferenceGateFIdeal.nD Cert.ReferenceGateFIdeal.τ).loc Cert.ReferenceGateFIdeal.main_arg2) = m ((c.tc : Thread Cert.ReferenceGateFIdeal.nD Cert.ReferenceGateFIdeal.τ).loc Cert.ReferenceGateFIdeal.main_arg2))
      ∧ r.2.sem = fun _ => 0)

def quiescent_KernelRmsF [hKernelRmsF : Cert.KernelRmsF.Facts] : Prop :=
  ∀ (m : (ℓ : Loc Cert.KernelRmsF.nD Cert.KernelRmsF.τ Cert.KernelRmsF.sig) → Buf (Elt Bits) ℓ) (g : Dev Cert.KernelRmsF.nD → PrngReg), Pre_KernelRmsF m →
    θ_run (Cert.KernelRmsF.defs (F := Bits)) (onTc (τ := Cert.KernelRmsF.τ) (Cert.KernelRmsF.main (F := Bits))) ⟨m, fun _ => 0, g⟩ (fun r => (∀ c : Dev Cert.KernelRmsF.nD,
      r.2.mem ((c.tc : Thread Cert.KernelRmsF.nD Cert.KernelRmsF.τ).loc Cert.KernelRmsF.main_arg0) = m ((c.tc : Thread Cert.KernelRmsF.nD Cert.KernelRmsF.τ).loc Cert.KernelRmsF.main_arg0)
      ∧ r.2.mem ((c.tc : Thread Cert.KernelRmsF.nD Cert.KernelRmsF.τ).loc Cert.KernelRmsF.main_arg1) = m ((c.tc : Thread Cert.KernelRmsF.nD Cert.KernelRmsF.τ).loc Cert.KernelRmsF.main_arg1))
      ∧ r.2.sem = fun _ => 0)

def quiescent_KernelRmsFIdeal [hKernelRmsFIdeal : Cert.KernelRmsFIdeal.Facts] : Prop :=
  ∀ (m : (ℓ : Loc Cert.KernelRmsFIdeal.nD Cert.KernelRmsFIdeal.τ Cert.KernelRmsFIdeal.sig) → Buf (Elt Ideal) ℓ) (g : Dev Cert.KernelRmsFIdeal.nD → PrngReg), Pre_KernelRmsFIdeal m →
    θ_run (Cert.KernelRmsFIdeal.defs (F := Ideal)) (onTc (τ := Cert.KernelRmsFIdeal.τ) (Cert.KernelRmsFIdeal.main (F := Ideal))) ⟨m, fun _ => 0, g⟩ (fun r => (∀ c : Dev Cert.KernelRmsFIdeal.nD,
      r.2.mem ((c.tc : Thread Cert.KernelRmsFIdeal.nD Cert.KernelRmsFIdeal.τ).loc Cert.KernelRmsFIdeal.main_arg0) = m ((c.tc : Thread Cert.KernelRmsFIdeal.nD Cert.KernelRmsFIdeal.τ).loc Cert.KernelRmsFIdeal.main_arg0)
      ∧ r.2.mem ((c.tc : Thread Cert.KernelRmsFIdeal.nD Cert.KernelRmsFIdeal.τ).loc Cert.KernelRmsFIdeal.main_arg1) = m ((c.tc : Thread Cert.KernelRmsFIdeal.nD Cert.KernelRmsFIdeal.τ).loc Cert.KernelRmsFIdeal.main_arg1))
      ∧ r.2.sem = fun _ => 0)

def quiescent_ReferenceRmsFIdeal [hReferenceRmsFIdeal : Cert.ReferenceRmsFIdeal.Facts] : Prop :=
  ∀ (m : (ℓ : Loc Cert.ReferenceRmsFIdeal.nD Cert.ReferenceRmsFIdeal.τ Cert.ReferenceRmsFIdeal.sig) → Buf (Elt Ideal) ℓ) (g : Dev Cert.ReferenceRmsFIdeal.nD → PrngReg), Pre_ReferenceRmsFIdeal m →
    θ_run (Cert.ReferenceRmsFIdeal.defs (F := Ideal)) (onTc (τ := Cert.ReferenceRmsFIdeal.τ) (Cert.ReferenceRmsFIdeal.main (F := Ideal))) ⟨m, fun _ => 0, g⟩ (fun r => (∀ c : Dev Cert.ReferenceRmsFIdeal.nD,
      r.2.mem ((c.tc : Thread Cert.ReferenceRmsFIdeal.nD Cert.ReferenceRmsFIdeal.τ).loc Cert.ReferenceRmsFIdeal.main_arg0) = m ((c.tc : Thread Cert.ReferenceRmsFIdeal.nD Cert.ReferenceRmsFIdeal.τ).loc Cert.ReferenceRmsFIdeal.main_arg0)
      ∧ r.2.mem ((c.tc : Thread Cert.ReferenceRmsFIdeal.nD Cert.ReferenceRmsFIdeal.τ).loc Cert.ReferenceRmsFIdeal.main_arg1) = m ((c.tc : Thread Cert.ReferenceRmsFIdeal.nD Cert.ReferenceRmsFIdeal.τ).loc Cert.ReferenceRmsFIdeal.main_arg1))
      ∧ r.2.sem = fun _ => 0)

def quiescent_KernelRms [hKernelRms : Cert.KernelRms.Facts] : Prop :=
  ∀ (m : (ℓ : Loc Cert.KernelRms.nD Cert.KernelRms.τ Cert.KernelRms.sig) → Buf (Elt Bits) ℓ) (g : Dev Cert.KernelRms.nD → PrngReg), Pre_KernelRms m →
    θ_run (Cert.KernelRms.defs (F := Bits)) (onTc (τ := Cert.KernelRms.τ) (Cert.KernelRms.main (F := Bits))) ⟨m, fun _ => 0, g⟩ (fun r => (∀ c : Dev Cert.KernelRms.nD,
      r.2.mem ((c.tc : Thread Cert.KernelRms.nD Cert.KernelRms.τ).loc Cert.KernelRms.main_arg0) = m ((c.tc : Thread Cert.KernelRms.nD Cert.KernelRms.τ).loc Cert.KernelRms.main_arg0)
      ∧ r.2.mem ((c.tc : Thread Cert.KernelRms.nD Cert.KernelRms.τ).loc Cert.KernelRms.main_arg1) = m ((c.tc : Thread Cert.KernelRms.nD Cert.KernelRms.τ).loc Cert.KernelRms.main_arg1)
      ∧ r.2.mem ((c.tc : Thread Cert.KernelRms.nD Cert.KernelRms.τ).loc Cert.KernelRms.main_arg2) = m ((c.tc : Thread Cert.KernelRms.nD Cert.KernelRms.τ).loc Cert.KernelRms.main_arg2)
      ∧ r.2.mem ((c.tc : Thread Cert.KernelRms.nD Cert.KernelRms.τ).loc Cert.KernelRms.main_arg3) = m ((c.tc : Thread Cert.KernelRms.nD Cert.KernelRms.τ).loc Cert.KernelRms.main_arg3))
      ∧ r.2.sem = fun _ => 0)

def quiescent_KernelRmsIdeal [hKernelRmsIdeal : Cert.KernelRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg), Pre_KernelRmsIdeal m →
    θ_run (Cert.KernelRmsIdeal.defs (F := Ideal)) (onTc (τ := Cert.KernelRmsIdeal.τ) (Cert.KernelRmsIdeal.main (F := Ideal))) ⟨m, fun _ => 0, g⟩ (fun r => (∀ c : Dev Cert.KernelRmsIdeal.nD,
      r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
      ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
      ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
      ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ r.2.sem = fun _ => 0)

def quiescent_ReferenceRmsIdeal [hReferenceRmsIdeal : Cert.ReferenceRmsIdeal.Facts] : Prop :=
  ∀ (m : (ℓ : Loc Cert.ReferenceRmsIdeal.nD Cert.ReferenceRmsIdeal.τ Cert.ReferenceRmsIdeal.sig) → Buf (Elt Ideal) ℓ) (g : Dev Cert.ReferenceRmsIdeal.nD → PrngReg), Pre_ReferenceRmsIdeal m →
    θ_run (Cert.ReferenceRmsIdeal.defs (F := Ideal)) (onTc (τ := Cert.ReferenceRmsIdeal.τ) (Cert.ReferenceRmsIdeal.main (F := Ideal))) ⟨m, fun _ => 0, g⟩ (fun r => (∀ c : Dev Cert.ReferenceRmsIdeal.nD,
      r.2.mem ((c.tc : Thread Cert.ReferenceRmsIdeal.nD Cert.ReferenceRmsIdeal.τ).loc Cert.ReferenceRmsIdeal.main_arg0) = m ((c.tc : Thread Cert.ReferenceRmsIdeal.nD Cert.ReferenceRmsIdeal.τ).loc Cert.ReferenceRmsIdeal.main_arg0)
      ∧ r.2.mem ((c.tc : Thread Cert.ReferenceRmsIdeal.nD Cert.ReferenceRmsIdeal.τ).loc Cert.ReferenceRmsIdeal.main_arg1) = m ((c.tc : Thread Cert.ReferenceRmsIdeal.nD Cert.ReferenceRmsIdeal.τ).loc Cert.ReferenceRmsIdeal.main_arg1)
      ∧ r.2.mem ((c.tc : Thread Cert.ReferenceRmsIdeal.nD Cert.ReferenceRmsIdeal.τ).loc Cert.ReferenceRmsIdeal.main_arg2) = m ((c.tc : Thread Cert.ReferenceRmsIdeal.nD Cert.ReferenceRmsIdeal.τ).loc Cert.ReferenceRmsIdeal.main_arg2)
      ∧ r.2.mem ((c.tc : Thread Cert.ReferenceRmsIdeal.nD Cert.ReferenceRmsIdeal.τ).loc Cert.ReferenceRmsIdeal.main_arg3) = m ((c.tc : Thread Cert.ReferenceRmsIdeal.nD Cert.ReferenceRmsIdeal.τ).loc Cert.ReferenceRmsIdeal.main_arg3))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4)
      ∧ r.2.mem ((c.tc : Thread Cert.KernelAdamIn.nD Cert.KernelAdamIn.τ).loc Cert.KernelAdamIn.main_arg5) = m ((c.tc : Thread Cert.KernelAdamIn.nD Cert.KernelAdamIn.τ).loc Cert.KernelAdamIn.main_arg5))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
      ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4)
      ∧ r.2.mem ((c.tc : Thread Cert.ReferenceAdamInIdeal.nD Cert.ReferenceAdamInIdeal.τ).loc Cert.ReferenceAdamInIdeal.main_arg5) = m ((c.tc : Thread Cert.ReferenceAdamInIdeal.nD Cert.ReferenceAdamInIdeal.τ).loc Cert.ReferenceAdamInIdeal.main_arg5))
      ∧ r.2.sem = fun _ => 0)

def quiescent_KernelAdamBranch [hKernelAdamBranch : Cert.KernelAdamBranch.Facts] : Prop :=
  ∀ (m : (ℓ : Loc Cert.KernelAdamBranch.nD Cert.KernelAdamBranch.τ Cert.KernelAdamBranch.sig) → Buf (Elt Bits) ℓ) (g : Dev Cert.KernelAdamBranch.nD → PrngReg), Pre_KernelAdamBranch m →
    θ_run (Cert.KernelAdamBranch.defs (F := Bits)) (onTc (τ := Cert.KernelAdamBranch.τ) (Cert.KernelAdamBranch.main (F := Bits))) ⟨m, fun _ => 0, g⟩ (fun r => (∀ c : Dev Cert.KernelAdamBranch.nD,
      r.2.mem ((c.tc : Thread Cert.KernelAdamBranch.nD Cert.KernelAdamBranch.τ).loc Cert.KernelAdamBranch.main_arg0) = m ((c.tc : Thread Cert.KernelAdamBranch.nD Cert.KernelAdamBranch.τ).loc Cert.KernelAdamBranch.main_arg0)
      ∧ r.2.mem ((c.tc : Thread Cert.KernelAdamBranch.nD Cert.KernelAdamBranch.τ).loc Cert.KernelAdamBranch.main_arg1) = m ((c.tc : Thread Cert.KernelAdamBranch.nD Cert.KernelAdamBranch.τ).loc Cert.KernelAdamBranch.main_arg1)
      ∧ r.2.mem ((c.tc : Thread Cert.KernelAdamBranch.nD Cert.KernelAdamBranch.τ).loc Cert.KernelAdamBranch.main_arg2) = m ((c.tc : Thread Cert.KernelAdamBranch.nD Cert.KernelAdamBranch.τ).loc Cert.KernelAdamBranch.main_arg2)
      ∧ r.2.mem ((c.tc : Thread Cert.KernelAdamBranch.nD Cert.KernelAdamBranch.τ).loc Cert.KernelAdamBranch.main_arg3) = m ((c.tc : Thread Cert.KernelAdamBranch.nD Cert.KernelAdamBranch.τ).loc Cert.KernelAdamBranch.main_arg3)
      ∧ r.2.mem ((c.tc : Thread Cert.KernelAdamBranch.nD Cert.KernelAdamBranch.τ).loc Cert.KernelAdamBranch.main_arg4) = m ((c.tc : Thread Cert.KernelAdamBranch.nD Cert.KernelAdamBranch.τ).loc Cert.KernelAdamBranch.main_arg4)
      ∧ r.2.mem ((c.tc : Thread Cert.KernelAdamBranch.nD Cert.KernelAdamBranch.τ).loc Cert.KernelAdamBranch.main_arg5) = m ((c.tc : Thread Cert.KernelAdamBranch.nD Cert.KernelAdamBranch.τ).loc Cert.KernelAdamBranch.main_arg5))
      ∧ r.2.sem = fun _ => 0)

def quiescent_KernelAdamBranchIdeal [hKernelAdamBranchIdeal : Cert.KernelAdamBranchIdeal.Facts] : Prop :=
  ∀ (m : (ℓ : Loc Cert.KernelAdamBranchIdeal.nD Cert.KernelAdamBranchIdeal.τ Cert.KernelAdamBranchIdeal.sig) → Buf (Elt Ideal) ℓ) (g : Dev Cert.KernelAdamBranchIdeal.nD → PrngReg), Pre_KernelAdamBranchIdeal m →
    θ_run (Cert.KernelAdamBranchIdeal.defs (F := Ideal)) (onTc (τ := Cert.KernelAdamBranchIdeal.τ) (Cert.KernelAdamBranchIdeal.main (F := Ideal))) ⟨m, fun _ => 0, g⟩ (fun r => (∀ c : Dev Cert.KernelAdamBranchIdeal.nD,
      r.2.mem ((c.tc : Thread Cert.KernelAdamBranchIdeal.nD Cert.KernelAdamBranchIdeal.τ).loc Cert.KernelAdamBranchIdeal.main_arg0) = m ((c.tc : Thread Cert.KernelAdamBranchIdeal.nD Cert.KernelAdamBranchIdeal.τ).loc Cert.KernelAdamBranchIdeal.main_arg0)
      ∧ r.2.mem ((c.tc : Thread Cert.KernelAdamBranchIdeal.nD Cert.KernelAdamBranchIdeal.τ).loc Cert.KernelAdamBranchIdeal.main_arg1) = m ((c.tc : Thread Cert.KernelAdamBranchIdeal.nD Cert.KernelAdamBranchIdeal.τ).loc Cert.KernelAdamBranchIdeal.main_arg1)
      ∧ r.2.mem ((c.tc : Thread Cert.KernelAdamBranchIdeal.nD Cert.KernelAdamBranchIdeal.τ).loc Cert.KernelAdamBranchIdeal.main_arg2) = m ((c.tc : Thread Cert.KernelAdamBranchIdeal.nD Cert.KernelAdamBranchIdeal.τ).loc Cert.KernelAdamBranchIdeal.main_arg2)
      ∧ r.2.mem ((c.tc : Thread Cert.KernelAdamBranchIdeal.nD Cert.KernelAdamBranchIdeal.τ).loc Cert.KernelAdamBranchIdeal.main_arg3) = m ((c.tc : Thread Cert.KernelAdamBranchIdeal.nD Cert.KernelAdamBranchIdeal.τ).loc Cert.KernelAdamBranchIdeal.main_arg3)
      ∧ r.2.mem ((c.tc : Thread Cert.KernelAdamBranchIdeal.nD Cert.KernelAdamBranchIdeal.τ).loc Cert.KernelAdamBranchIdeal.main_arg4) = m ((c.tc : Thread Cert.KernelAdamBranchIdeal.nD Cert.KernelAdamBranchIdeal.τ).loc Cert.KernelAdamBranchIdeal.main_arg4)
      ∧ r.2.mem ((c.tc : Thread Cert.KernelAdamBranchIdeal.nD Cert.KernelAdamBranchIdeal.τ).loc Cert.KernelAdamBranchIdeal.main_arg5) = m ((c.tc : Thread Cert.KernelAdamBranchIdeal.nD Cert.KernelAdamBranchIdeal.τ).loc Cert.KernelAdamBranchIdeal.main_arg5))
      ∧ r.2.sem = fun _ => 0)

def quiescent_ReferenceAdamBranchIdeal [hReferenceAdamBranchIdeal : Cert.ReferenceAdamBranchIdeal.Facts] : Prop :=
  ∀ (m : (ℓ : Loc Cert.ReferenceAdamBranchIdeal.nD Cert.ReferenceAdamBranchIdeal.τ Cert.ReferenceAdamBranchIdeal.sig) → Buf (Elt Ideal) ℓ) (g : Dev Cert.ReferenceAdamBranchIdeal.nD → PrngReg), Pre_ReferenceAdamBranchIdeal m →
    θ_run (Cert.ReferenceAdamBranchIdeal.defs (F := Ideal)) (onTc (τ := Cert.ReferenceAdamBranchIdeal.τ) (Cert.ReferenceAdamBranchIdeal.main (F := Ideal))) ⟨m, fun _ => 0, g⟩ (fun r => (∀ c : Dev Cert.ReferenceAdamBranchIdeal.nD,
      r.2.mem ((c.tc : Thread Cert.ReferenceAdamBranchIdeal.nD Cert.ReferenceAdamBranchIdeal.τ).loc Cert.ReferenceAdamBranchIdeal.main_arg0) = m ((c.tc : Thread Cert.ReferenceAdamBranchIdeal.nD Cert.ReferenceAdamBranchIdeal.τ).loc Cert.ReferenceAdamBranchIdeal.main_arg0)
      ∧ r.2.mem ((c.tc : Thread Cert.ReferenceAdamBranchIdeal.nD Cert.ReferenceAdamBranchIdeal.τ).loc Cert.ReferenceAdamBranchIdeal.main_arg1) = m ((c.tc : Thread Cert.ReferenceAdamBranchIdeal.nD Cert.ReferenceAdamBranchIdeal.τ).loc Cert.ReferenceAdamBranchIdeal.main_arg1)
      ∧ r.2.mem ((c.tc : Thread Cert.ReferenceAdamBranchIdeal.nD Cert.ReferenceAdamBranchIdeal.τ).loc Cert.ReferenceAdamBranchIdeal.main_arg2) = m ((c.tc : Thread Cert.ReferenceAdamBranchIdeal.nD Cert.ReferenceAdamBranchIdeal.τ).loc Cert.ReferenceAdamBranchIdeal.main_arg2)
      ∧ r.2.mem ((c.tc : Thread Cert.ReferenceAdamBranchIdeal.nD Cert.ReferenceAdamBranchIdeal.τ).loc Cert.ReferenceAdamBranchIdeal.main_arg3) = m ((c.tc : Thread Cert.ReferenceAdamBranchIdeal.nD Cert.ReferenceAdamBranchIdeal.τ).loc Cert.ReferenceAdamBranchIdeal.main_arg3)
      ∧ r.2.mem ((c.tc : Thread Cert.ReferenceAdamBranchIdeal.nD Cert.ReferenceAdamBranchIdeal.τ).loc Cert.ReferenceAdamBranchIdeal.main_arg4) = m ((c.tc : Thread Cert.ReferenceAdamBranchIdeal.nD Cert.ReferenceAdamBranchIdeal.τ).loc Cert.ReferenceAdamBranchIdeal.main_arg4)
      ∧ r.2.mem ((c.tc : Thread Cert.ReferenceAdamBranchIdeal.nD Cert.ReferenceAdamBranchIdeal.τ).loc Cert.ReferenceAdamBranchIdeal.main_arg5) = m ((c.tc : Thread Cert.ReferenceAdamBranchIdeal.nD Cert.ReferenceAdamBranchIdeal.τ).loc Cert.ReferenceAdamBranchIdeal.main_arg5))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4)
      ∧ r.2.mem ((c.tc : Thread Cert.KernelAdamOut.nD Cert.KernelAdamOut.τ).loc Cert.KernelAdamOut.main_arg5) = m ((c.tc : Thread Cert.KernelAdamOut.nD Cert.KernelAdamOut.τ).loc Cert.KernelAdamOut.main_arg5))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
      ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4)
      ∧ r.2.mem ((c.tc : Thread Cert.ReferenceAdamOutIdeal.nD Cert.ReferenceAdamOutIdeal.τ).loc Cert.ReferenceAdamOutIdeal.main_arg5) = m ((c.tc : Thread Cert.ReferenceAdamOutIdeal.nD Cert.ReferenceAdamOutIdeal.τ).loc Cert.ReferenceAdamOutIdeal.main_arg5))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3)
      ∧ r.2.mem ((c.tc : Thread Cert.KernelAdamUp.nD Cert.KernelAdamUp.τ).loc Cert.KernelAdamUp.main_arg4) = m ((c.tc : Thread Cert.KernelAdamUp.nD Cert.KernelAdamUp.τ).loc Cert.KernelAdamUp.main_arg4)
      ∧ r.2.mem ((c.tc : Thread Cert.KernelAdamUp.nD Cert.KernelAdamUp.τ).loc Cert.KernelAdamUp.main_arg5) = m ((c.tc : Thread Cert.KernelAdamUp.nD Cert.KernelAdamUp.τ).loc Cert.KernelAdamUp.main_arg5))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
      ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4)
      ∧ r.2.mem ((c.tc : Thread Cert.KernelAdamUpIdeal.nD Cert.KernelAdamUpIdeal.τ).loc Cert.KernelAdamUpIdeal.main_arg5) = m ((c.tc : Thread Cert.KernelAdamUpIdeal.nD Cert.KernelAdamUpIdeal.τ).loc Cert.KernelAdamUpIdeal.main_arg5))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3)
      ∧ r.2.mem ((c.tc : Thread Cert.ReferenceAdamUpIdeal.nD Cert.ReferenceAdamUpIdeal.τ).loc Cert.ReferenceAdamUpIdeal.main_arg4) = m ((c.tc : Thread Cert.ReferenceAdamUpIdeal.nD Cert.ReferenceAdamUpIdeal.τ).loc Cert.ReferenceAdamUpIdeal.main_arg4)
      ∧ r.2.mem ((c.tc : Thread Cert.ReferenceAdamUpIdeal.nD Cert.ReferenceAdamUpIdeal.τ).loc Cert.ReferenceAdamUpIdeal.main_arg5) = m ((c.tc : Thread Cert.ReferenceAdamUpIdeal.nD Cert.ReferenceAdamUpIdeal.τ).loc Cert.ReferenceAdamUpIdeal.main_arg5))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3)
      ∧ r.2.mem ((c.tc : Thread Cert.KernelAdamDown.nD Cert.KernelAdamDown.τ).loc Cert.KernelAdamDown.main_arg4) = m ((c.tc : Thread Cert.KernelAdamDown.nD Cert.KernelAdamDown.τ).loc Cert.KernelAdamDown.main_arg4)
      ∧ r.2.mem ((c.tc : Thread Cert.KernelAdamDown.nD Cert.KernelAdamDown.τ).loc Cert.KernelAdamDown.main_arg5) = m ((c.tc : Thread Cert.KernelAdamDown.nD Cert.KernelAdamDown.τ).loc Cert.KernelAdamDown.main_arg5))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
      ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4)
      ∧ r.2.mem ((c.tc : Thread Cert.KernelAdamDownIdeal.nD Cert.KernelAdamDownIdeal.τ).loc Cert.KernelAdamDownIdeal.main_arg5) = m ((c.tc : Thread Cert.KernelAdamDownIdeal.nD Cert.KernelAdamDownIdeal.τ).loc Cert.KernelAdamDownIdeal.main_arg5))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3)
      ∧ r.2.mem ((c.tc : Thread Cert.ReferenceAdamDownIdeal.nD Cert.ReferenceAdamDownIdeal.τ).loc Cert.ReferenceAdamDownIdeal.main_arg4) = m ((c.tc : Thread Cert.ReferenceAdamDownIdeal.nD Cert.ReferenceAdamDownIdeal.τ).loc Cert.ReferenceAdamDownIdeal.main_arg4)
      ∧ r.2.mem ((c.tc : Thread Cert.ReferenceAdamDownIdeal.nD Cert.ReferenceAdamDownIdeal.τ).loc Cert.ReferenceAdamDownIdeal.main_arg5) = m ((c.tc : Thread Cert.ReferenceAdamDownIdeal.nD Cert.ReferenceAdamDownIdeal.τ).loc Cert.ReferenceAdamDownIdeal.main_arg5))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelFfnConv [hKernelFfnConv : Cert.KernelFfnConv.Facts] : Prop :=
  ∀ (m : (ℓ : Loc Cert.KernelFfnConv.nD Cert.KernelFfnConv.τ Cert.KernelFfnConv.sig) → Buf (Elt Bits) ℓ) (g : Dev Cert.KernelFfnConv.nD → PrngReg), Pre_KernelFfnConv m →
    θ_run (Cert.KernelFfnConv.defs (F := Bits)) (onTc (τ := Cert.KernelFfnConv.τ) (Cert.KernelFfnConv.main (F := Bits))) ⟨m, fun _ => 0, g⟩ (fun r => (∀ c : Dev Cert.KernelFfnConv.nD,
      r.2.mem ((c.tc : Thread Cert.KernelFfnConv.nD Cert.KernelFfnConv.τ).loc Cert.KernelFfnConv.main_arg0) = m ((c.tc : Thread Cert.KernelFfnConv.nD Cert.KernelFfnConv.τ).loc Cert.KernelFfnConv.main_arg0)
      ∧ r.2.mem ((c.tc : Thread Cert.KernelFfnConv.nD Cert.KernelFfnConv.τ).loc Cert.KernelFfnConv.main_arg1) = m ((c.tc : Thread Cert.KernelFfnConv.nD Cert.KernelFfnConv.τ).loc Cert.KernelFfnConv.main_arg1)
      ∧ r.2.mem ((c.tc : Thread Cert.KernelFfnConv.nD Cert.KernelFfnConv.τ).loc Cert.KernelFfnConv.main_arg2) = m ((c.tc : Thread Cert.KernelFfnConv.nD Cert.KernelFfnConv.τ).loc Cert.KernelFfnConv.main_arg2))
      ∧ r.2.sem = fun _ => 0)

def quiescent_KernelFfnConvIdeal [hKernelFfnConvIdeal : Cert.KernelFfnConvIdeal.Facts] : Prop :=
  ∀ (m : (ℓ : Loc Cert.KernelFfnConvIdeal.nD Cert.KernelFfnConvIdeal.τ Cert.KernelFfnConvIdeal.sig) → Buf (Elt Ideal) ℓ) (g : Dev Cert.KernelFfnConvIdeal.nD → PrngReg), Pre_KernelFfnConvIdeal m →
    θ_run (Cert.KernelFfnConvIdeal.defs (F := Ideal)) (onTc (τ := Cert.KernelFfnConvIdeal.τ) (Cert.KernelFfnConvIdeal.main (F := Ideal))) ⟨m, fun _ => 0, g⟩ (fun r => (∀ c : Dev Cert.KernelFfnConvIdeal.nD,
      r.2.mem ((c.tc : Thread Cert.KernelFfnConvIdeal.nD Cert.KernelFfnConvIdeal.τ).loc Cert.KernelFfnConvIdeal.main_arg0) = m ((c.tc : Thread Cert.KernelFfnConvIdeal.nD Cert.KernelFfnConvIdeal.τ).loc Cert.KernelFfnConvIdeal.main_arg0)
      ∧ r.2.mem ((c.tc : Thread Cert.KernelFfnConvIdeal.nD Cert.KernelFfnConvIdeal.τ).loc Cert.KernelFfnConvIdeal.main_arg1) = m ((c.tc : Thread Cert.KernelFfnConvIdeal.nD Cert.KernelFfnConvIdeal.τ).loc Cert.KernelFfnConvIdeal.main_arg1)
      ∧ r.2.mem ((c.tc : Thread Cert.KernelFfnConvIdeal.nD Cert.KernelFfnConvIdeal.τ).loc Cert.KernelFfnConvIdeal.main_arg2) = m ((c.tc : Thread Cert.KernelFfnConvIdeal.nD Cert.KernelFfnConvIdeal.τ).loc Cert.KernelFfnConvIdeal.main_arg2))
      ∧ r.2.sem = fun _ => 0)

def quiescent_ReferenceFfnConvIdeal [hReferenceFfnConvIdeal : Cert.ReferenceFfnConvIdeal.Facts] : Prop :=
  ∀ (m : (ℓ : Loc Cert.ReferenceFfnConvIdeal.nD Cert.ReferenceFfnConvIdeal.τ Cert.ReferenceFfnConvIdeal.sig) → Buf (Elt Ideal) ℓ) (g : Dev Cert.ReferenceFfnConvIdeal.nD → PrngReg), Pre_ReferenceFfnConvIdeal m →
    θ_run (Cert.ReferenceFfnConvIdeal.defs (F := Ideal)) (onTc (τ := Cert.ReferenceFfnConvIdeal.τ) (Cert.ReferenceFfnConvIdeal.main (F := Ideal))) ⟨m, fun _ => 0, g⟩ (fun r => (∀ c : Dev Cert.ReferenceFfnConvIdeal.nD,
      r.2.mem ((c.tc : Thread Cert.ReferenceFfnConvIdeal.nD Cert.ReferenceFfnConvIdeal.τ).loc Cert.ReferenceFfnConvIdeal.main_arg0) = m ((c.tc : Thread Cert.ReferenceFfnConvIdeal.nD Cert.ReferenceFfnConvIdeal.τ).loc Cert.ReferenceFfnConvIdeal.main_arg0)
      ∧ r.2.mem ((c.tc : Thread Cert.ReferenceFfnConvIdeal.nD Cert.ReferenceFfnConvIdeal.τ).loc Cert.ReferenceFfnConvIdeal.main_arg1) = m ((c.tc : Thread Cert.ReferenceFfnConvIdeal.nD Cert.ReferenceFfnConvIdeal.τ).loc Cert.ReferenceFfnConvIdeal.main_arg1)
      ∧ r.2.mem ((c.tc : Thread Cert.ReferenceFfnConvIdeal.nD Cert.ReferenceFfnConvIdeal.τ).loc Cert.ReferenceFfnConvIdeal.main_arg2) = m ((c.tc : Thread Cert.ReferenceFfnConvIdeal.nD Cert.ReferenceFfnConvIdeal.τ).loc Cert.ReferenceFfnConvIdeal.main_arg2))
      ∧ r.2.sem = fun _ => 0)

def quiescent_KernelSsdConv [hKernelSsdConv : Cert.KernelSsdConv.Facts] : Prop :=
  ∀ (m : (ℓ : Loc Cert.KernelSsdConv.nD Cert.KernelSsdConv.τ Cert.KernelSsdConv.sig) → Buf (Elt Bits) ℓ) (g : Dev Cert.KernelSsdConv.nD → PrngReg), Pre_KernelSsdConv m →
    θ_run (Cert.KernelSsdConv.defs (F := Bits)) (onTc (τ := Cert.KernelSsdConv.τ) (Cert.KernelSsdConv.main (F := Bits))) ⟨m, fun _ => 0, g⟩ (fun r => (∀ c : Dev Cert.KernelSsdConv.nD,
      r.2.mem ((c.tc : Thread Cert.KernelSsdConv.nD Cert.KernelSsdConv.τ).loc Cert.KernelSsdConv.main_arg0) = m ((c.tc : Thread Cert.KernelSsdConv.nD Cert.KernelSsdConv.τ).loc Cert.KernelSsdConv.main_arg0)
      ∧ r.2.mem ((c.tc : Thread Cert.KernelSsdConv.nD Cert.KernelSsdConv.τ).loc Cert.KernelSsdConv.main_arg1) = m ((c.tc : Thread Cert.KernelSsdConv.nD Cert.KernelSsdConv.τ).loc Cert.KernelSsdConv.main_arg1)
      ∧ r.2.mem ((c.tc : Thread Cert.KernelSsdConv.nD Cert.KernelSsdConv.τ).loc Cert.KernelSsdConv.main_arg2) = m ((c.tc : Thread Cert.KernelSsdConv.nD Cert.KernelSsdConv.τ).loc Cert.KernelSsdConv.main_arg2))
      ∧ r.2.sem = fun _ => 0)

def quiescent_KernelSsdConvIdeal [hKernelSsdConvIdeal : Cert.KernelSsdConvIdeal.Facts] : Prop :=
  ∀ (m : (ℓ : Loc Cert.KernelSsdConvIdeal.nD Cert.KernelSsdConvIdeal.τ Cert.KernelSsdConvIdeal.sig) → Buf (Elt Ideal) ℓ) (g : Dev Cert.KernelSsdConvIdeal.nD → PrngReg), Pre_KernelSsdConvIdeal m →
    θ_run (Cert.KernelSsdConvIdeal.defs (F := Ideal)) (onTc (τ := Cert.KernelSsdConvIdeal.τ) (Cert.KernelSsdConvIdeal.main (F := Ideal))) ⟨m, fun _ => 0, g⟩ (fun r => (∀ c : Dev Cert.KernelSsdConvIdeal.nD,
      r.2.mem ((c.tc : Thread Cert.KernelSsdConvIdeal.nD Cert.KernelSsdConvIdeal.τ).loc Cert.KernelSsdConvIdeal.main_arg0) = m ((c.tc : Thread Cert.KernelSsdConvIdeal.nD Cert.KernelSsdConvIdeal.τ).loc Cert.KernelSsdConvIdeal.main_arg0)
      ∧ r.2.mem ((c.tc : Thread Cert.KernelSsdConvIdeal.nD Cert.KernelSsdConvIdeal.τ).loc Cert.KernelSsdConvIdeal.main_arg1) = m ((c.tc : Thread Cert.KernelSsdConvIdeal.nD Cert.KernelSsdConvIdeal.τ).loc Cert.KernelSsdConvIdeal.main_arg1)
      ∧ r.2.mem ((c.tc : Thread Cert.KernelSsdConvIdeal.nD Cert.KernelSsdConvIdeal.τ).loc Cert.KernelSsdConvIdeal.main_arg2) = m ((c.tc : Thread Cert.KernelSsdConvIdeal.nD Cert.KernelSsdConvIdeal.τ).loc Cert.KernelSsdConvIdeal.main_arg2))
      ∧ r.2.sem = fun _ => 0)

def quiescent_ReferenceSsdConvIdeal [hReferenceSsdConvIdeal : Cert.ReferenceSsdConvIdeal.Facts] : Prop :=
  ∀ (m : (ℓ : Loc Cert.ReferenceSsdConvIdeal.nD Cert.ReferenceSsdConvIdeal.τ Cert.ReferenceSsdConvIdeal.sig) → Buf (Elt Ideal) ℓ) (g : Dev Cert.ReferenceSsdConvIdeal.nD → PrngReg), Pre_ReferenceSsdConvIdeal m →
    θ_run (Cert.ReferenceSsdConvIdeal.defs (F := Ideal)) (onTc (τ := Cert.ReferenceSsdConvIdeal.τ) (Cert.ReferenceSsdConvIdeal.main (F := Ideal))) ⟨m, fun _ => 0, g⟩ (fun r => (∀ c : Dev Cert.ReferenceSsdConvIdeal.nD,
      r.2.mem ((c.tc : Thread Cert.ReferenceSsdConvIdeal.nD Cert.ReferenceSsdConvIdeal.τ).loc Cert.ReferenceSsdConvIdeal.main_arg0) = m ((c.tc : Thread Cert.ReferenceSsdConvIdeal.nD Cert.ReferenceSsdConvIdeal.τ).loc Cert.ReferenceSsdConvIdeal.main_arg0)
      ∧ r.2.mem ((c.tc : Thread Cert.ReferenceSsdConvIdeal.nD Cert.ReferenceSsdConvIdeal.τ).loc Cert.ReferenceSsdConvIdeal.main_arg1) = m ((c.tc : Thread Cert.ReferenceSsdConvIdeal.nD Cert.ReferenceSsdConvIdeal.τ).loc Cert.ReferenceSsdConvIdeal.main_arg1)
      ∧ r.2.mem ((c.tc : Thread Cert.ReferenceSsdConvIdeal.nD Cert.ReferenceSsdConvIdeal.τ).loc Cert.ReferenceSsdConvIdeal.main_arg2) = m ((c.tc : Thread Cert.ReferenceSsdConvIdeal.nD Cert.ReferenceSsdConvIdeal.τ).loc Cert.ReferenceSsdConvIdeal.main_arg2))
      ∧ r.2.sem = fun _ => 0)

def quiescent_KernelSmallMeta [hKernelSmallMeta : Cert.KernelSmallMeta.Facts] [hPre_chip_meta : Cert.Pre_chip_meta.Facts] : Prop :=
  ∀ (m : (ℓ : Loc Cert.KernelSmallMeta.nD Cert.KernelSmallMeta.τ Cert.KernelSmallMeta.sig) → Buf (Elt Bits) ℓ) (g : Dev Cert.KernelSmallMeta.nD → PrngReg), Pre_KernelSmallMeta m →
    θ_run (Cert.KernelSmallMeta.defs (F := Bits)) (onTc (τ := Cert.KernelSmallMeta.τ) (Cert.KernelSmallMeta.main (F := Bits))) ⟨m, fun _ => 0, g⟩ (fun r => (∀ c : Dev Cert.KernelSmallMeta.nD,
      r.2.mem ((c.tc : Thread Cert.KernelSmallMeta.nD Cert.KernelSmallMeta.τ).loc Cert.KernelSmallMeta.main_arg0) = m ((c.tc : Thread Cert.KernelSmallMeta.nD Cert.KernelSmallMeta.τ).loc Cert.KernelSmallMeta.main_arg0)
      ∧ r.2.mem ((c.tc : Thread Cert.KernelSmallMeta.nD Cert.KernelSmallMeta.τ).loc Cert.KernelSmallMeta.main_arg1) = m ((c.tc : Thread Cert.KernelSmallMeta.nD Cert.KernelSmallMeta.τ).loc Cert.KernelSmallMeta.main_arg1)
      ∧ r.2.mem ((c.tc : Thread Cert.KernelSmallMeta.nD Cert.KernelSmallMeta.τ).loc Cert.KernelSmallMeta.main_arg2) = m ((c.tc : Thread Cert.KernelSmallMeta.nD Cert.KernelSmallMeta.τ).loc Cert.KernelSmallMeta.main_arg2)
      ∧ r.2.mem ((c.tc : Thread Cert.KernelSmallMeta.nD Cert.KernelSmallMeta.τ).loc Cert.KernelSmallMeta.main_arg3) = m ((c.tc : Thread Cert.KernelSmallMeta.nD Cert.KernelSmallMeta.τ).loc Cert.KernelSmallMeta.main_arg3)
      ∧ r.2.mem ((c.tc : Thread Cert.KernelSmallMeta.nD Cert.KernelSmallMeta.τ).loc Cert.KernelSmallMeta.main_arg4) = m ((c.tc : Thread Cert.KernelSmallMeta.nD Cert.KernelSmallMeta.τ).loc Cert.KernelSmallMeta.main_arg4)
      ∧ r.2.mem ((c.tc : Thread Cert.KernelSmallMeta.nD Cert.KernelSmallMeta.τ).loc Cert.KernelSmallMeta.main_arg5) = m ((c.tc : Thread Cert.KernelSmallMeta.nD Cert.KernelSmallMeta.τ).loc Cert.KernelSmallMeta.main_arg5))
      ∧ r.2.sem = fun _ => 0)

def quiescent_KernelSmallMetaIdeal [hKernelSmallMetaIdeal : Cert.KernelSmallMetaIdeal.Facts] [hPre_chip_meta : Cert.Pre_chip_meta.Facts] : Prop :=
  ∀ (m : (ℓ : Loc Cert.KernelSmallMetaIdeal.nD Cert.KernelSmallMetaIdeal.τ Cert.KernelSmallMetaIdeal.sig) → Buf (Elt Ideal) ℓ) (g : Dev Cert.KernelSmallMetaIdeal.nD → PrngReg), Pre_KernelSmallMetaIdeal m →
    θ_run (Cert.KernelSmallMetaIdeal.defs (F := Ideal)) (onTc (τ := Cert.KernelSmallMetaIdeal.τ) (Cert.KernelSmallMetaIdeal.main (F := Ideal))) ⟨m, fun _ => 0, g⟩ (fun r => (∀ c : Dev Cert.KernelSmallMetaIdeal.nD,
      r.2.mem ((c.tc : Thread Cert.KernelSmallMetaIdeal.nD Cert.KernelSmallMetaIdeal.τ).loc Cert.KernelSmallMetaIdeal.main_arg0) = m ((c.tc : Thread Cert.KernelSmallMetaIdeal.nD Cert.KernelSmallMetaIdeal.τ).loc Cert.KernelSmallMetaIdeal.main_arg0)
      ∧ r.2.mem ((c.tc : Thread Cert.KernelSmallMetaIdeal.nD Cert.KernelSmallMetaIdeal.τ).loc Cert.KernelSmallMetaIdeal.main_arg1) = m ((c.tc : Thread Cert.KernelSmallMetaIdeal.nD Cert.KernelSmallMetaIdeal.τ).loc Cert.KernelSmallMetaIdeal.main_arg1)
      ∧ r.2.mem ((c.tc : Thread Cert.KernelSmallMetaIdeal.nD Cert.KernelSmallMetaIdeal.τ).loc Cert.KernelSmallMetaIdeal.main_arg2) = m ((c.tc : Thread Cert.KernelSmallMetaIdeal.nD Cert.KernelSmallMetaIdeal.τ).loc Cert.KernelSmallMetaIdeal.main_arg2)
      ∧ r.2.mem ((c.tc : Thread Cert.KernelSmallMetaIdeal.nD Cert.KernelSmallMetaIdeal.τ).loc Cert.KernelSmallMetaIdeal.main_arg3) = m ((c.tc : Thread Cert.KernelSmallMetaIdeal.nD Cert.KernelSmallMetaIdeal.τ).loc Cert.KernelSmallMetaIdeal.main_arg3)
      ∧ r.2.mem ((c.tc : Thread Cert.KernelSmallMetaIdeal.nD Cert.KernelSmallMetaIdeal.τ).loc Cert.KernelSmallMetaIdeal.main_arg4) = m ((c.tc : Thread Cert.KernelSmallMetaIdeal.nD Cert.KernelSmallMetaIdeal.τ).loc Cert.KernelSmallMetaIdeal.main_arg4)
      ∧ r.2.mem ((c.tc : Thread Cert.KernelSmallMetaIdeal.nD Cert.KernelSmallMetaIdeal.τ).loc Cert.KernelSmallMetaIdeal.main_arg5) = m ((c.tc : Thread Cert.KernelSmallMetaIdeal.nD Cert.KernelSmallMetaIdeal.τ).loc Cert.KernelSmallMetaIdeal.main_arg5))
      ∧ r.2.sem = fun _ => 0)

def quiescent_ReferenceSmallMetaIdeal [hReferenceSmallMetaIdeal : Cert.ReferenceSmallMetaIdeal.Facts] : Prop :=
  ∀ (m : (ℓ : Loc Cert.ReferenceSmallMetaIdeal.nD Cert.ReferenceSmallMetaIdeal.τ Cert.ReferenceSmallMetaIdeal.sig) → Buf (Elt Ideal) ℓ) (g : Dev Cert.ReferenceSmallMetaIdeal.nD → PrngReg), Pre_ReferenceSmallMetaIdeal m →
    θ_run (Cert.ReferenceSmallMetaIdeal.defs (F := Ideal)) (onTc (τ := Cert.ReferenceSmallMetaIdeal.τ) (Cert.ReferenceSmallMetaIdeal.main (F := Ideal))) ⟨m, fun _ => 0, g⟩ (fun r => (∀ c : Dev Cert.ReferenceSmallMetaIdeal.nD,
      r.2.mem ((c.tc : Thread Cert.ReferenceSmallMetaIdeal.nD Cert.ReferenceSmallMetaIdeal.τ).loc Cert.ReferenceSmallMetaIdeal.main_arg0) = m ((c.tc : Thread Cert.ReferenceSmallMetaIdeal.nD Cert.ReferenceSmallMetaIdeal.τ).loc Cert.ReferenceSmallMetaIdeal.main_arg0)
      ∧ r.2.mem ((c.tc : Thread Cert.ReferenceSmallMetaIdeal.nD Cert.ReferenceSmallMetaIdeal.τ).loc Cert.ReferenceSmallMetaIdeal.main_arg1) = m ((c.tc : Thread Cert.ReferenceSmallMetaIdeal.nD Cert.ReferenceSmallMetaIdeal.τ).loc Cert.ReferenceSmallMetaIdeal.main_arg1)
      ∧ r.2.mem ((c.tc : Thread Cert.ReferenceSmallMetaIdeal.nD Cert.ReferenceSmallMetaIdeal.τ).loc Cert.ReferenceSmallMetaIdeal.main_arg2) = m ((c.tc : Thread Cert.ReferenceSmallMetaIdeal.nD Cert.ReferenceSmallMetaIdeal.τ).loc Cert.ReferenceSmallMetaIdeal.main_arg2)
      ∧ r.2.mem ((c.tc : Thread Cert.ReferenceSmallMetaIdeal.nD Cert.ReferenceSmallMetaIdeal.τ).loc Cert.ReferenceSmallMetaIdeal.main_arg3) = m ((c.tc : Thread Cert.ReferenceSmallMetaIdeal.nD Cert.ReferenceSmallMetaIdeal.τ).loc Cert.ReferenceSmallMetaIdeal.main_arg3)
      ∧ r.2.mem ((c.tc : Thread Cert.ReferenceSmallMetaIdeal.nD Cert.ReferenceSmallMetaIdeal.τ).loc Cert.ReferenceSmallMetaIdeal.main_arg4) = m ((c.tc : Thread Cert.ReferenceSmallMetaIdeal.nD Cert.ReferenceSmallMetaIdeal.τ).loc Cert.ReferenceSmallMetaIdeal.main_arg4)
      ∧ r.2.mem ((c.tc : Thread Cert.ReferenceSmallMetaIdeal.nD Cert.ReferenceSmallMetaIdeal.τ).loc Cert.ReferenceSmallMetaIdeal.main_arg5) = m ((c.tc : Thread Cert.ReferenceSmallMetaIdeal.nD Cert.ReferenceSmallMetaIdeal.τ).loc Cert.ReferenceSmallMetaIdeal.main_arg5))
      ∧ r.2.sem = fun _ => 0)

def quiescent_ReferenceSmallMetaIdeal_pre_chip_meta [hReferenceSmallMetaIdeal : Cert.ReferenceSmallMetaIdeal.Facts] [hPre_chip_meta : Cert.Pre_chip_meta.Facts] : Prop :=
  ∀ (m : (ℓ : Loc Cert.ReferenceSmallMetaIdeal.nD Cert.ReferenceSmallMetaIdeal.τ Cert.ReferenceSmallMetaIdeal.sig) → Buf (Elt Ideal) ℓ) (g : Dev Cert.ReferenceSmallMetaIdeal.nD → PrngReg), Pre_ReferenceSmallMetaIdeal_chip_meta m →
    θ_run (Cert.ReferenceSmallMetaIdeal.defs (F := Ideal)) (onTc (τ := Cert.ReferenceSmallMetaIdeal.τ) (Cert.ReferenceSmallMetaIdeal.main (F := Ideal))) ⟨m, fun _ => 0, g⟩ (fun r => (∀ c : Dev Cert.ReferenceSmallMetaIdeal.nD,
      r.2.mem ((c.tc : Thread Cert.ReferenceSmallMetaIdeal.nD Cert.ReferenceSmallMetaIdeal.τ).loc Cert.ReferenceSmallMetaIdeal.main_arg0) = m ((c.tc : Thread Cert.ReferenceSmallMetaIdeal.nD Cert.ReferenceSmallMetaIdeal.τ).loc Cert.ReferenceSmallMetaIdeal.main_arg0)
      ∧ r.2.mem ((c.tc : Thread Cert.ReferenceSmallMetaIdeal.nD Cert.ReferenceSmallMetaIdeal.τ).loc Cert.ReferenceSmallMetaIdeal.main_arg1) = m ((c.tc : Thread Cert.ReferenceSmallMetaIdeal.nD Cert.ReferenceSmallMetaIdeal.τ).loc Cert.ReferenceSmallMetaIdeal.main_arg1)
      ∧ r.2.mem ((c.tc : Thread Cert.ReferenceSmallMetaIdeal.nD Cert.ReferenceSmallMetaIdeal.τ).loc Cert.ReferenceSmallMetaIdeal.main_arg2) = m ((c.tc : Thread Cert.ReferenceSmallMetaIdeal.nD Cert.ReferenceSmallMetaIdeal.τ).loc Cert.ReferenceSmallMetaIdeal.main_arg2)
      ∧ r.2.mem ((c.tc : Thread Cert.ReferenceSmallMetaIdeal.nD Cert.ReferenceSmallMetaIdeal.τ).loc Cert.ReferenceSmallMetaIdeal.main_arg3) = m ((c.tc : Thread Cert.ReferenceSmallMetaIdeal.nD Cert.ReferenceSmallMetaIdeal.τ).loc Cert.ReferenceSmallMetaIdeal.main_arg3)
      ∧ r.2.mem ((c.tc : Thread Cert.ReferenceSmallMetaIdeal.nD Cert.ReferenceSmallMetaIdeal.τ).loc Cert.ReferenceSmallMetaIdeal.main_arg4) = m ((c.tc : Thread Cert.ReferenceSmallMetaIdeal.nD Cert.ReferenceSmallMetaIdeal.τ).loc Cert.ReferenceSmallMetaIdeal.main_arg4)
      ∧ r.2.mem ((c.tc : Thread Cert.ReferenceSmallMetaIdeal.nD Cert.ReferenceSmallMetaIdeal.τ).loc Cert.ReferenceSmallMetaIdeal.main_arg5) = m ((c.tc : Thread Cert.ReferenceSmallMetaIdeal.nD Cert.ReferenceSmallMetaIdeal.τ).loc Cert.ReferenceSmallMetaIdeal.main_arg5))
      ∧ r.2.sem = fun _ => 0)

def quiescent_KernelSmallSsd [hKernelSmallSsd : Cert.KernelSmallSsd.Facts] [hPre_chip_ssd : Cert.Pre_chip_ssd.Facts] : Prop :=
  ∀ (m : (ℓ : Loc Cert.KernelSmallSsd.nD Cert.KernelSmallSsd.τ Cert.KernelSmallSsd.sig) → Buf (Elt Bits) ℓ) (g : Dev Cert.KernelSmallSsd.nD → PrngReg), Pre_KernelSmallSsd m →
    θ_run (Cert.KernelSmallSsd.defs (F := Bits)) (onTc (τ := Cert.KernelSmallSsd.τ) (Cert.KernelSmallSsd.main (F := Bits))) ⟨m, fun _ => 0, g⟩ (fun r => (∀ c : Dev Cert.KernelSmallSsd.nD,
      r.2.mem ((c.tc : Thread Cert.KernelSmallSsd.nD Cert.KernelSmallSsd.τ).loc Cert.KernelSmallSsd.main_arg0) = m ((c.tc : Thread Cert.KernelSmallSsd.nD Cert.KernelSmallSsd.τ).loc Cert.KernelSmallSsd.main_arg0)
      ∧ r.2.mem ((c.tc : Thread Cert.KernelSmallSsd.nD Cert.KernelSmallSsd.τ).loc Cert.KernelSmallSsd.main_arg1) = m ((c.tc : Thread Cert.KernelSmallSsd.nD Cert.KernelSmallSsd.τ).loc Cert.KernelSmallSsd.main_arg1)
      ∧ r.2.mem ((c.tc : Thread Cert.KernelSmallSsd.nD Cert.KernelSmallSsd.τ).loc Cert.KernelSmallSsd.main_arg2) = m ((c.tc : Thread Cert.KernelSmallSsd.nD Cert.KernelSmallSsd.τ).loc Cert.KernelSmallSsd.main_arg2)
      ∧ r.2.mem ((c.tc : Thread Cert.KernelSmallSsd.nD Cert.KernelSmallSsd.τ).loc Cert.KernelSmallSsd.main_arg3) = m ((c.tc : Thread Cert.KernelSmallSsd.nD Cert.KernelSmallSsd.τ).loc Cert.KernelSmallSsd.main_arg3)
      ∧ r.2.mem ((c.tc : Thread Cert.KernelSmallSsd.nD Cert.KernelSmallSsd.τ).loc Cert.KernelSmallSsd.main_arg4) = m ((c.tc : Thread Cert.KernelSmallSsd.nD Cert.KernelSmallSsd.τ).loc Cert.KernelSmallSsd.main_arg4)
      ∧ r.2.mem ((c.tc : Thread Cert.KernelSmallSsd.nD Cert.KernelSmallSsd.τ).loc Cert.KernelSmallSsd.main_arg5) = m ((c.tc : Thread Cert.KernelSmallSsd.nD Cert.KernelSmallSsd.τ).loc Cert.KernelSmallSsd.main_arg5))
      ∧ r.2.sem = fun _ => 0)

def quiescent_KernelSmallSsdIdeal [hKernelSmallSsdIdeal : Cert.KernelSmallSsdIdeal.Facts] [hPre_chip_ssd : Cert.Pre_chip_ssd.Facts] : Prop :=
  ∀ (m : (ℓ : Loc Cert.KernelSmallSsdIdeal.nD Cert.KernelSmallSsdIdeal.τ Cert.KernelSmallSsdIdeal.sig) → Buf (Elt Ideal) ℓ) (g : Dev Cert.KernelSmallSsdIdeal.nD → PrngReg), Pre_KernelSmallSsdIdeal m →
    θ_run (Cert.KernelSmallSsdIdeal.defs (F := Ideal)) (onTc (τ := Cert.KernelSmallSsdIdeal.τ) (Cert.KernelSmallSsdIdeal.main (F := Ideal))) ⟨m, fun _ => 0, g⟩ (fun r => (∀ c : Dev Cert.KernelSmallSsdIdeal.nD,
      r.2.mem ((c.tc : Thread Cert.KernelSmallSsdIdeal.nD Cert.KernelSmallSsdIdeal.τ).loc Cert.KernelSmallSsdIdeal.main_arg0) = m ((c.tc : Thread Cert.KernelSmallSsdIdeal.nD Cert.KernelSmallSsdIdeal.τ).loc Cert.KernelSmallSsdIdeal.main_arg0)
      ∧ r.2.mem ((c.tc : Thread Cert.KernelSmallSsdIdeal.nD Cert.KernelSmallSsdIdeal.τ).loc Cert.KernelSmallSsdIdeal.main_arg1) = m ((c.tc : Thread Cert.KernelSmallSsdIdeal.nD Cert.KernelSmallSsdIdeal.τ).loc Cert.KernelSmallSsdIdeal.main_arg1)
      ∧ r.2.mem ((c.tc : Thread Cert.KernelSmallSsdIdeal.nD Cert.KernelSmallSsdIdeal.τ).loc Cert.KernelSmallSsdIdeal.main_arg2) = m ((c.tc : Thread Cert.KernelSmallSsdIdeal.nD Cert.KernelSmallSsdIdeal.τ).loc Cert.KernelSmallSsdIdeal.main_arg2)
      ∧ r.2.mem ((c.tc : Thread Cert.KernelSmallSsdIdeal.nD Cert.KernelSmallSsdIdeal.τ).loc Cert.KernelSmallSsdIdeal.main_arg3) = m ((c.tc : Thread Cert.KernelSmallSsdIdeal.nD Cert.KernelSmallSsdIdeal.τ).loc Cert.KernelSmallSsdIdeal.main_arg3)
      ∧ r.2.mem ((c.tc : Thread Cert.KernelSmallSsdIdeal.nD Cert.KernelSmallSsdIdeal.τ).loc Cert.KernelSmallSsdIdeal.main_arg4) = m ((c.tc : Thread Cert.KernelSmallSsdIdeal.nD Cert.KernelSmallSsdIdeal.τ).loc Cert.KernelSmallSsdIdeal.main_arg4)
      ∧ r.2.mem ((c.tc : Thread Cert.KernelSmallSsdIdeal.nD Cert.KernelSmallSsdIdeal.τ).loc Cert.KernelSmallSsdIdeal.main_arg5) = m ((c.tc : Thread Cert.KernelSmallSsdIdeal.nD Cert.KernelSmallSsdIdeal.τ).loc Cert.KernelSmallSsdIdeal.main_arg5))
      ∧ r.2.sem = fun _ => 0)

def quiescent_ReferenceSmallSsdIdeal [hReferenceSmallSsdIdeal : Cert.ReferenceSmallSsdIdeal.Facts] : Prop :=
  ∀ (m : (ℓ : Loc Cert.ReferenceSmallSsdIdeal.nD Cert.ReferenceSmallSsdIdeal.τ Cert.ReferenceSmallSsdIdeal.sig) → Buf (Elt Ideal) ℓ) (g : Dev Cert.ReferenceSmallSsdIdeal.nD → PrngReg), Pre_ReferenceSmallSsdIdeal m →
    θ_run (Cert.ReferenceSmallSsdIdeal.defs (F := Ideal)) (onTc (τ := Cert.ReferenceSmallSsdIdeal.τ) (Cert.ReferenceSmallSsdIdeal.main (F := Ideal))) ⟨m, fun _ => 0, g⟩ (fun r => (∀ c : Dev Cert.ReferenceSmallSsdIdeal.nD,
      r.2.mem ((c.tc : Thread Cert.ReferenceSmallSsdIdeal.nD Cert.ReferenceSmallSsdIdeal.τ).loc Cert.ReferenceSmallSsdIdeal.main_arg0) = m ((c.tc : Thread Cert.ReferenceSmallSsdIdeal.nD Cert.ReferenceSmallSsdIdeal.τ).loc Cert.ReferenceSmallSsdIdeal.main_arg0)
      ∧ r.2.mem ((c.tc : Thread Cert.ReferenceSmallSsdIdeal.nD Cert.ReferenceSmallSsdIdeal.τ).loc Cert.ReferenceSmallSsdIdeal.main_arg1) = m ((c.tc : Thread Cert.ReferenceSmallSsdIdeal.nD Cert.ReferenceSmallSsdIdeal.τ).loc Cert.ReferenceSmallSsdIdeal.main_arg1)
      ∧ r.2.mem ((c.tc : Thread Cert.ReferenceSmallSsdIdeal.nD Cert.ReferenceSmallSsdIdeal.τ).loc Cert.ReferenceSmallSsdIdeal.main_arg2) = m ((c.tc : Thread Cert.ReferenceSmallSsdIdeal.nD Cert.ReferenceSmallSsdIdeal.τ).loc Cert.ReferenceSmallSsdIdeal.main_arg2)
      ∧ r.2.mem ((c.tc : Thread Cert.ReferenceSmallSsdIdeal.nD Cert.ReferenceSmallSsdIdeal.τ).loc Cert.ReferenceSmallSsdIdeal.main_arg3) = m ((c.tc : Thread Cert.ReferenceSmallSsdIdeal.nD Cert.ReferenceSmallSsdIdeal.τ).loc Cert.ReferenceSmallSsdIdeal.main_arg3)
      ∧ r.2.mem ((c.tc : Thread Cert.ReferenceSmallSsdIdeal.nD Cert.ReferenceSmallSsdIdeal.τ).loc Cert.ReferenceSmallSsdIdeal.main_arg4) = m ((c.tc : Thread Cert.ReferenceSmallSsdIdeal.nD Cert.ReferenceSmallSsdIdeal.τ).loc Cert.ReferenceSmallSsdIdeal.main_arg4)
      ∧ r.2.mem ((c.tc : Thread Cert.ReferenceSmallSsdIdeal.nD Cert.ReferenceSmallSsdIdeal.τ).loc Cert.ReferenceSmallSsdIdeal.main_arg5) = m ((c.tc : Thread Cert.ReferenceSmallSsdIdeal.nD Cert.ReferenceSmallSsdIdeal.τ).loc Cert.ReferenceSmallSsdIdeal.main_arg5))
      ∧ r.2.sem = fun _ => 0)

def quiescent_ReferenceSmallSsdIdeal_pre_chip_ssd [hReferenceSmallSsdIdeal : Cert.ReferenceSmallSsdIdeal.Facts] [hPre_chip_ssd : Cert.Pre_chip_ssd.Facts] : Prop :=
  ∀ (m : (ℓ : Loc Cert.ReferenceSmallSsdIdeal.nD Cert.ReferenceSmallSsdIdeal.τ Cert.ReferenceSmallSsdIdeal.sig) → Buf (Elt Ideal) ℓ) (g : Dev Cert.ReferenceSmallSsdIdeal.nD → PrngReg), Pre_ReferenceSmallSsdIdeal_chip_ssd m →
    θ_run (Cert.ReferenceSmallSsdIdeal.defs (F := Ideal)) (onTc (τ := Cert.ReferenceSmallSsdIdeal.τ) (Cert.ReferenceSmallSsdIdeal.main (F := Ideal))) ⟨m, fun _ => 0, g⟩ (fun r => (∀ c : Dev Cert.ReferenceSmallSsdIdeal.nD,
      r.2.mem ((c.tc : Thread Cert.ReferenceSmallSsdIdeal.nD Cert.ReferenceSmallSsdIdeal.τ).loc Cert.ReferenceSmallSsdIdeal.main_arg0) = m ((c.tc : Thread Cert.ReferenceSmallSsdIdeal.nD Cert.ReferenceSmallSsdIdeal.τ).loc Cert.ReferenceSmallSsdIdeal.main_arg0)
      ∧ r.2.mem ((c.tc : Thread Cert.ReferenceSmallSsdIdeal.nD Cert.ReferenceSmallSsdIdeal.τ).loc Cert.ReferenceSmallSsdIdeal.main_arg1) = m ((c.tc : Thread Cert.ReferenceSmallSsdIdeal.nD Cert.ReferenceSmallSsdIdeal.τ).loc Cert.ReferenceSmallSsdIdeal.main_arg1)
      ∧ r.2.mem ((c.tc : Thread Cert.ReferenceSmallSsdIdeal.nD Cert.ReferenceSmallSsdIdeal.τ).loc Cert.ReferenceSmallSsdIdeal.main_arg2) = m ((c.tc : Thread Cert.ReferenceSmallSsdIdeal.nD Cert.ReferenceSmallSsdIdeal.τ).loc Cert.ReferenceSmallSsdIdeal.main_arg2)
      ∧ r.2.mem ((c.tc : Thread Cert.ReferenceSmallSsdIdeal.nD Cert.ReferenceSmallSsdIdeal.τ).loc Cert.ReferenceSmallSsdIdeal.main_arg3) = m ((c.tc : Thread Cert.ReferenceSmallSsdIdeal.nD Cert.ReferenceSmallSsdIdeal.τ).loc Cert.ReferenceSmallSsdIdeal.main_arg3)
      ∧ r.2.mem ((c.tc : Thread Cert.ReferenceSmallSsdIdeal.nD Cert.ReferenceSmallSsdIdeal.τ).loc Cert.ReferenceSmallSsdIdeal.main_arg4) = m ((c.tc : Thread Cert.ReferenceSmallSsdIdeal.nD Cert.ReferenceSmallSsdIdeal.τ).loc Cert.ReferenceSmallSsdIdeal.main_arg4)
      ∧ r.2.mem ((c.tc : Thread Cert.ReferenceSmallSsdIdeal.nD Cert.ReferenceSmallSsdIdeal.τ).loc Cert.ReferenceSmallSsdIdeal.main_arg5) = m ((c.tc : Thread Cert.ReferenceSmallSsdIdeal.nD Cert.ReferenceSmallSsdIdeal.τ).loc Cert.ReferenceSmallSsdIdeal.main_arg5))
      ∧ r.2.sem = fun _ => 0)

def quiescent_KernelSmallFfn [hKernelSmallFfn : Cert.KernelSmallFfn.Facts] [hPre_chip_ffn : Cert.Pre_chip_ffn.Facts] : Prop :=
  ∀ (m : (ℓ : Loc Cert.KernelSmallFfn.nD Cert.KernelSmallFfn.τ Cert.KernelSmallFfn.sig) → Buf (Elt Bits) ℓ) (g : Dev Cert.KernelSmallFfn.nD → PrngReg), Pre_KernelSmallFfn m →
    θ_run (Cert.KernelSmallFfn.defs (F := Bits)) (onTc (τ := Cert.KernelSmallFfn.τ) (Cert.KernelSmallFfn.main (F := Bits))) ⟨m, fun _ => 0, g⟩ (fun r => (∀ c : Dev Cert.KernelSmallFfn.nD,
      r.2.mem ((c.tc : Thread Cert.KernelSmallFfn.nD Cert.KernelSmallFfn.τ).loc Cert.KernelSmallFfn.main_arg0) = m ((c.tc : Thread Cert.KernelSmallFfn.nD Cert.KernelSmallFfn.τ).loc Cert.KernelSmallFfn.main_arg0)
      ∧ r.2.mem ((c.tc : Thread Cert.KernelSmallFfn.nD Cert.KernelSmallFfn.τ).loc Cert.KernelSmallFfn.main_arg1) = m ((c.tc : Thread Cert.KernelSmallFfn.nD Cert.KernelSmallFfn.τ).loc Cert.KernelSmallFfn.main_arg1)
      ∧ r.2.mem ((c.tc : Thread Cert.KernelSmallFfn.nD Cert.KernelSmallFfn.τ).loc Cert.KernelSmallFfn.main_arg2) = m ((c.tc : Thread Cert.KernelSmallFfn.nD Cert.KernelSmallFfn.τ).loc Cert.KernelSmallFfn.main_arg2)
      ∧ r.2.mem ((c.tc : Thread Cert.KernelSmallFfn.nD Cert.KernelSmallFfn.τ).loc Cert.KernelSmallFfn.main_arg3) = m ((c.tc : Thread Cert.KernelSmallFfn.nD Cert.KernelSmallFfn.τ).loc Cert.KernelSmallFfn.main_arg3)
      ∧ r.2.mem ((c.tc : Thread Cert.KernelSmallFfn.nD Cert.KernelSmallFfn.τ).loc Cert.KernelSmallFfn.main_arg4) = m ((c.tc : Thread Cert.KernelSmallFfn.nD Cert.KernelSmallFfn.τ).loc Cert.KernelSmallFfn.main_arg4)
      ∧ r.2.mem ((c.tc : Thread Cert.KernelSmallFfn.nD Cert.KernelSmallFfn.τ).loc Cert.KernelSmallFfn.main_arg5) = m ((c.tc : Thread Cert.KernelSmallFfn.nD Cert.KernelSmallFfn.τ).loc Cert.KernelSmallFfn.main_arg5))
      ∧ r.2.sem = fun _ => 0)

def quiescent_KernelSmallFfnIdeal [hKernelSmallFfnIdeal : Cert.KernelSmallFfnIdeal.Facts] [hPre_chip_ffn : Cert.Pre_chip_ffn.Facts] : Prop :=
  ∀ (m : (ℓ : Loc Cert.KernelSmallFfnIdeal.nD Cert.KernelSmallFfnIdeal.τ Cert.KernelSmallFfnIdeal.sig) → Buf (Elt Ideal) ℓ) (g : Dev Cert.KernelSmallFfnIdeal.nD → PrngReg), Pre_KernelSmallFfnIdeal m →
    θ_run (Cert.KernelSmallFfnIdeal.defs (F := Ideal)) (onTc (τ := Cert.KernelSmallFfnIdeal.τ) (Cert.KernelSmallFfnIdeal.main (F := Ideal))) ⟨m, fun _ => 0, g⟩ (fun r => (∀ c : Dev Cert.KernelSmallFfnIdeal.nD,
      r.2.mem ((c.tc : Thread Cert.KernelSmallFfnIdeal.nD Cert.KernelSmallFfnIdeal.τ).loc Cert.KernelSmallFfnIdeal.main_arg0) = m ((c.tc : Thread Cert.KernelSmallFfnIdeal.nD Cert.KernelSmallFfnIdeal.τ).loc Cert.KernelSmallFfnIdeal.main_arg0)
      ∧ r.2.mem ((c.tc : Thread Cert.KernelSmallFfnIdeal.nD Cert.KernelSmallFfnIdeal.τ).loc Cert.KernelSmallFfnIdeal.main_arg1) = m ((c.tc : Thread Cert.KernelSmallFfnIdeal.nD Cert.KernelSmallFfnIdeal.τ).loc Cert.KernelSmallFfnIdeal.main_arg1)
      ∧ r.2.mem ((c.tc : Thread Cert.KernelSmallFfnIdeal.nD Cert.KernelSmallFfnIdeal.τ).loc Cert.KernelSmallFfnIdeal.main_arg2) = m ((c.tc : Thread Cert.KernelSmallFfnIdeal.nD Cert.KernelSmallFfnIdeal.τ).loc Cert.KernelSmallFfnIdeal.main_arg2)
      ∧ r.2.mem ((c.tc : Thread Cert.KernelSmallFfnIdeal.nD Cert.KernelSmallFfnIdeal.τ).loc Cert.KernelSmallFfnIdeal.main_arg3) = m ((c.tc : Thread Cert.KernelSmallFfnIdeal.nD Cert.KernelSmallFfnIdeal.τ).loc Cert.KernelSmallFfnIdeal.main_arg3)
      ∧ r.2.mem ((c.tc : Thread Cert.KernelSmallFfnIdeal.nD Cert.KernelSmallFfnIdeal.τ).loc Cert.KernelSmallFfnIdeal.main_arg4) = m ((c.tc : Thread Cert.KernelSmallFfnIdeal.nD Cert.KernelSmallFfnIdeal.τ).loc Cert.KernelSmallFfnIdeal.main_arg4)
      ∧ r.2.mem ((c.tc : Thread Cert.KernelSmallFfnIdeal.nD Cert.KernelSmallFfnIdeal.τ).loc Cert.KernelSmallFfnIdeal.main_arg5) = m ((c.tc : Thread Cert.KernelSmallFfnIdeal.nD Cert.KernelSmallFfnIdeal.τ).loc Cert.KernelSmallFfnIdeal.main_arg5))
      ∧ r.2.sem = fun _ => 0)

def quiescent_ReferenceSmallFfnIdeal [hReferenceSmallFfnIdeal : Cert.ReferenceSmallFfnIdeal.Facts] : Prop :=
  ∀ (m : (ℓ : Loc Cert.ReferenceSmallFfnIdeal.nD Cert.ReferenceSmallFfnIdeal.τ Cert.ReferenceSmallFfnIdeal.sig) → Buf (Elt Ideal) ℓ) (g : Dev Cert.ReferenceSmallFfnIdeal.nD → PrngReg), Pre_ReferenceSmallFfnIdeal m →
    θ_run (Cert.ReferenceSmallFfnIdeal.defs (F := Ideal)) (onTc (τ := Cert.ReferenceSmallFfnIdeal.τ) (Cert.ReferenceSmallFfnIdeal.main (F := Ideal))) ⟨m, fun _ => 0, g⟩ (fun r => (∀ c : Dev Cert.ReferenceSmallFfnIdeal.nD,
      r.2.mem ((c.tc : Thread Cert.ReferenceSmallFfnIdeal.nD Cert.ReferenceSmallFfnIdeal.τ).loc Cert.ReferenceSmallFfnIdeal.main_arg0) = m ((c.tc : Thread Cert.ReferenceSmallFfnIdeal.nD Cert.ReferenceSmallFfnIdeal.τ).loc Cert.ReferenceSmallFfnIdeal.main_arg0)
      ∧ r.2.mem ((c.tc : Thread Cert.ReferenceSmallFfnIdeal.nD Cert.ReferenceSmallFfnIdeal.τ).loc Cert.ReferenceSmallFfnIdeal.main_arg1) = m ((c.tc : Thread Cert.ReferenceSmallFfnIdeal.nD Cert.ReferenceSmallFfnIdeal.τ).loc Cert.ReferenceSmallFfnIdeal.main_arg1)
      ∧ r.2.mem ((c.tc : Thread Cert.ReferenceSmallFfnIdeal.nD Cert.ReferenceSmallFfnIdeal.τ).loc Cert.ReferenceSmallFfnIdeal.main_arg2) = m ((c.tc : Thread Cert.ReferenceSmallFfnIdeal.nD Cert.ReferenceSmallFfnIdeal.τ).loc Cert.ReferenceSmallFfnIdeal.main_arg2)
      ∧ r.2.mem ((c.tc : Thread Cert.ReferenceSmallFfnIdeal.nD Cert.ReferenceSmallFfnIdeal.τ).loc Cert.ReferenceSmallFfnIdeal.main_arg3) = m ((c.tc : Thread Cert.ReferenceSmallFfnIdeal.nD Cert.ReferenceSmallFfnIdeal.τ).loc Cert.ReferenceSmallFfnIdeal.main_arg3)
      ∧ r.2.mem ((c.tc : Thread Cert.ReferenceSmallFfnIdeal.nD Cert.ReferenceSmallFfnIdeal.τ).loc Cert.ReferenceSmallFfnIdeal.main_arg4) = m ((c.tc : Thread Cert.ReferenceSmallFfnIdeal.nD Cert.ReferenceSmallFfnIdeal.τ).loc Cert.ReferenceSmallFfnIdeal.main_arg4)
      ∧ r.2.mem ((c.tc : Thread Cert.ReferenceSmallFfnIdeal.nD Cert.ReferenceSmallFfnIdeal.τ).loc Cert.ReferenceSmallFfnIdeal.main_arg5) = m ((c.tc : Thread Cert.ReferenceSmallFfnIdeal.nD Cert.ReferenceSmallFfnIdeal.τ).loc Cert.ReferenceSmallFfnIdeal.main_arg5))
      ∧ r.2.sem = fun _ => 0)

def quiescent_ReferenceSmallFfnIdeal_pre_chip_ffn [hReferenceSmallFfnIdeal : Cert.ReferenceSmallFfnIdeal.Facts] [hPre_chip_ffn : Cert.Pre_chip_ffn.Facts] : Prop :=
  ∀ (m : (ℓ : Loc Cert.ReferenceSmallFfnIdeal.nD Cert.ReferenceSmallFfnIdeal.τ Cert.ReferenceSmallFfnIdeal.sig) → Buf (Elt Ideal) ℓ) (g : Dev Cert.ReferenceSmallFfnIdeal.nD → PrngReg), Pre_ReferenceSmallFfnIdeal_chip_ffn m →
    θ_run (Cert.ReferenceSmallFfnIdeal.defs (F := Ideal)) (onTc (τ := Cert.ReferenceSmallFfnIdeal.τ) (Cert.ReferenceSmallFfnIdeal.main (F := Ideal))) ⟨m, fun _ => 0, g⟩ (fun r => (∀ c : Dev Cert.ReferenceSmallFfnIdeal.nD,
      r.2.mem ((c.tc : Thread Cert.ReferenceSmallFfnIdeal.nD Cert.ReferenceSmallFfnIdeal.τ).loc Cert.ReferenceSmallFfnIdeal.main_arg0) = m ((c.tc : Thread Cert.ReferenceSmallFfnIdeal.nD Cert.ReferenceSmallFfnIdeal.τ).loc Cert.ReferenceSmallFfnIdeal.main_arg0)
      ∧ r.2.mem ((c.tc : Thread Cert.ReferenceSmallFfnIdeal.nD Cert.ReferenceSmallFfnIdeal.τ).loc Cert.ReferenceSmallFfnIdeal.main_arg1) = m ((c.tc : Thread Cert.ReferenceSmallFfnIdeal.nD Cert.ReferenceSmallFfnIdeal.τ).loc Cert.ReferenceSmallFfnIdeal.main_arg1)
      ∧ r.2.mem ((c.tc : Thread Cert.ReferenceSmallFfnIdeal.nD Cert.ReferenceSmallFfnIdeal.τ).loc Cert.ReferenceSmallFfnIdeal.main_arg2) = m ((c.tc : Thread Cert.ReferenceSmallFfnIdeal.nD Cert.ReferenceSmallFfnIdeal.τ).loc Cert.ReferenceSmallFfnIdeal.main_arg2)
      ∧ r.2.mem ((c.tc : Thread Cert.ReferenceSmallFfnIdeal.nD Cert.ReferenceSmallFfnIdeal.τ).loc Cert.ReferenceSmallFfnIdeal.main_arg3) = m ((c.tc : Thread Cert.ReferenceSmallFfnIdeal.nD Cert.ReferenceSmallFfnIdeal.τ).loc Cert.ReferenceSmallFfnIdeal.main_arg3)
      ∧ r.2.mem ((c.tc : Thread Cert.ReferenceSmallFfnIdeal.nD Cert.ReferenceSmallFfnIdeal.τ).loc Cert.ReferenceSmallFfnIdeal.main_arg4) = m ((c.tc : Thread Cert.ReferenceSmallFfnIdeal.nD Cert.ReferenceSmallFfnIdeal.τ).loc Cert.ReferenceSmallFfnIdeal.main_arg4)
      ∧ r.2.mem ((c.tc : Thread Cert.ReferenceSmallFfnIdeal.nD Cert.ReferenceSmallFfnIdeal.τ).loc Cert.ReferenceSmallFfnIdeal.main_arg5) = m ((c.tc : Thread Cert.ReferenceSmallFfnIdeal.nD Cert.ReferenceSmallFfnIdeal.τ).loc Cert.ReferenceSmallFfnIdeal.main_arg5))
      ∧ r.2.sem = fun _ => 0)

def quiescent_KernelSmall1024 [hKernelSmall1024 : Cert.KernelSmall1024.Facts] : Prop :=
  ∀ (m : (ℓ : Loc Cert.KernelSmall1024.nD Cert.KernelSmall1024.τ Cert.KernelSmall1024.sig) → Buf (Elt Bits) ℓ) (g : Dev Cert.KernelSmall1024.nD → PrngReg), Pre_KernelSmall1024 m →
    θ_run (Cert.KernelSmall1024.defs (F := Bits)) (onTc (τ := Cert.KernelSmall1024.τ) (Cert.KernelSmall1024.main (F := Bits))) ⟨m, fun _ => 0, g⟩ (fun r => (∀ c : Dev Cert.KernelSmall1024.nD,
      r.2.mem ((c.tc : Thread Cert.KernelSmall1024.nD Cert.KernelSmall1024.τ).loc Cert.KernelSmall1024.main_arg0) = m ((c.tc : Thread Cert.KernelSmall1024.nD Cert.KernelSmall1024.τ).loc Cert.KernelSmall1024.main_arg0)
      ∧ r.2.mem ((c.tc : Thread Cert.KernelSmall1024.nD Cert.KernelSmall1024.τ).loc Cert.KernelSmall1024.main_arg1) = m ((c.tc : Thread Cert.KernelSmall1024.nD Cert.KernelSmall1024.τ).loc Cert.KernelSmall1024.main_arg1)
      ∧ r.2.mem ((c.tc : Thread Cert.KernelSmall1024.nD Cert.KernelSmall1024.τ).loc Cert.KernelSmall1024.main_arg2) = m ((c.tc : Thread Cert.KernelSmall1024.nD Cert.KernelSmall1024.τ).loc Cert.KernelSmall1024.main_arg2)
      ∧ r.2.mem ((c.tc : Thread Cert.KernelSmall1024.nD Cert.KernelSmall1024.τ).loc Cert.KernelSmall1024.main_arg3) = m ((c.tc : Thread Cert.KernelSmall1024.nD Cert.KernelSmall1024.τ).loc Cert.KernelSmall1024.main_arg3)
      ∧ r.2.mem ((c.tc : Thread Cert.KernelSmall1024.nD Cert.KernelSmall1024.τ).loc Cert.KernelSmall1024.main_arg4) = m ((c.tc : Thread Cert.KernelSmall1024.nD Cert.KernelSmall1024.τ).loc Cert.KernelSmall1024.main_arg4)
      ∧ r.2.mem ((c.tc : Thread Cert.KernelSmall1024.nD Cert.KernelSmall1024.τ).loc Cert.KernelSmall1024.main_arg5) = m ((c.tc : Thread Cert.KernelSmall1024.nD Cert.KernelSmall1024.τ).loc Cert.KernelSmall1024.main_arg5))
      ∧ r.2.sem = fun _ => 0)

def quiescent_KernelSmall1024Ideal [hKernelSmall1024Ideal : Cert.KernelSmall1024Ideal.Facts] : Prop :=
  ∀ (m : (ℓ : Loc Cert.KernelSmall1024Ideal.nD Cert.KernelSmall1024Ideal.τ Cert.KernelSmall1024Ideal.sig) → Buf (Elt Ideal) ℓ) (g : Dev Cert.KernelSmall1024Ideal.nD → PrngReg), Pre_KernelSmall1024Ideal m →
    θ_run (Cert.KernelSmall1024Ideal.defs (F := Ideal)) (onTc (τ := Cert.KernelSmall1024Ideal.τ) (Cert.KernelSmall1024Ideal.main (F := Ideal))) ⟨m, fun _ => 0, g⟩ (fun r => (∀ c : Dev Cert.KernelSmall1024Ideal.nD,
      r.2.mem ((c.tc : Thread Cert.KernelSmall1024Ideal.nD Cert.KernelSmall1024Ideal.τ).loc Cert.KernelSmall1024Ideal.main_arg0) = m ((c.tc : Thread Cert.KernelSmall1024Ideal.nD Cert.KernelSmall1024Ideal.τ).loc Cert.KernelSmall1024Ideal.main_arg0)
      ∧ r.2.mem ((c.tc : Thread Cert.KernelSmall1024Ideal.nD Cert.KernelSmall1024Ideal.τ).loc Cert.KernelSmall1024Ideal.main_arg1) = m ((c.tc : Thread Cert.KernelSmall1024Ideal.nD Cert.KernelSmall1024Ideal.τ).loc Cert.KernelSmall1024Ideal.main_arg1)
      ∧ r.2.mem ((c.tc : Thread Cert.KernelSmall1024Ideal.nD Cert.KernelSmall1024Ideal.τ).loc Cert.KernelSmall1024Ideal.main_arg2) = m ((c.tc : Thread Cert.KernelSmall1024Ideal.nD Cert.KernelSmall1024Ideal.τ).loc Cert.KernelSmall1024Ideal.main_arg2)
      ∧ r.2.mem ((c.tc : Thread Cert.KernelSmall1024Ideal.nD Cert.KernelSmall1024Ideal.τ).loc Cert.KernelSmall1024Ideal.main_arg3) = m ((c.tc : Thread Cert.KernelSmall1024Ideal.nD Cert.KernelSmall1024Ideal.τ).loc Cert.KernelSmall1024Ideal.main_arg3)
      ∧ r.2.mem ((c.tc : Thread Cert.KernelSmall1024Ideal.nD Cert.KernelSmall1024Ideal.τ).loc Cert.KernelSmall1024Ideal.main_arg4) = m ((c.tc : Thread Cert.KernelSmall1024Ideal.nD Cert.KernelSmall1024Ideal.τ).loc Cert.KernelSmall1024Ideal.main_arg4)
      ∧ r.2.mem ((c.tc : Thread Cert.KernelSmall1024Ideal.nD Cert.KernelSmall1024Ideal.τ).loc Cert.KernelSmall1024Ideal.main_arg5) = m ((c.tc : Thread Cert.KernelSmall1024Ideal.nD Cert.KernelSmall1024Ideal.τ).loc Cert.KernelSmall1024Ideal.main_arg5))
      ∧ r.2.sem = fun _ => 0)

def quiescent_ReferenceSmall1024Ideal [hReferenceSmall1024Ideal : Cert.ReferenceSmall1024Ideal.Facts] : Prop :=
  ∀ (m : (ℓ : Loc Cert.ReferenceSmall1024Ideal.nD Cert.ReferenceSmall1024Ideal.τ Cert.ReferenceSmall1024Ideal.sig) → Buf (Elt Ideal) ℓ) (g : Dev Cert.ReferenceSmall1024Ideal.nD → PrngReg), Pre_ReferenceSmall1024Ideal m →
    θ_run (Cert.ReferenceSmall1024Ideal.defs (F := Ideal)) (onTc (τ := Cert.ReferenceSmall1024Ideal.τ) (Cert.ReferenceSmall1024Ideal.main (F := Ideal))) ⟨m, fun _ => 0, g⟩ (fun r => (∀ c : Dev Cert.ReferenceSmall1024Ideal.nD,
      r.2.mem ((c.tc : Thread Cert.ReferenceSmall1024Ideal.nD Cert.ReferenceSmall1024Ideal.τ).loc Cert.ReferenceSmall1024Ideal.main_arg0) = m ((c.tc : Thread Cert.ReferenceSmall1024Ideal.nD Cert.ReferenceSmall1024Ideal.τ).loc Cert.ReferenceSmall1024Ideal.main_arg0)
      ∧ r.2.mem ((c.tc : Thread Cert.ReferenceSmall1024Ideal.nD Cert.ReferenceSmall1024Ideal.τ).loc Cert.ReferenceSmall1024Ideal.main_arg1) = m ((c.tc : Thread Cert.ReferenceSmall1024Ideal.nD Cert.ReferenceSmall1024Ideal.τ).loc Cert.ReferenceSmall1024Ideal.main_arg1)
      ∧ r.2.mem ((c.tc : Thread Cert.ReferenceSmall1024Ideal.nD Cert.ReferenceSmall1024Ideal.τ).loc Cert.ReferenceSmall1024Ideal.main_arg2) = m ((c.tc : Thread Cert.ReferenceSmall1024Ideal.nD Cert.ReferenceSmall1024Ideal.τ).loc Cert.ReferenceSmall1024Ideal.main_arg2)
      ∧ r.2.mem ((c.tc : Thread Cert.ReferenceSmall1024Ideal.nD Cert.ReferenceSmall1024Ideal.τ).loc Cert.ReferenceSmall1024Ideal.main_arg3) = m ((c.tc : Thread Cert.ReferenceSmall1024Ideal.nD Cert.ReferenceSmall1024Ideal.τ).loc Cert.ReferenceSmall1024Ideal.main_arg3)
      ∧ r.2.mem ((c.tc : Thread Cert.ReferenceSmall1024Ideal.nD Cert.ReferenceSmall1024Ideal.τ).loc Cert.ReferenceSmall1024Ideal.main_arg4) = m ((c.tc : Thread Cert.ReferenceSmall1024Ideal.nD Cert.ReferenceSmall1024Ideal.τ).loc Cert.ReferenceSmall1024Ideal.main_arg4)
      ∧ r.2.mem ((c.tc : Thread Cert.ReferenceSmall1024Ideal.nD Cert.ReferenceSmall1024Ideal.τ).loc Cert.ReferenceSmall1024Ideal.main_arg5) = m ((c.tc : Thread Cert.ReferenceSmall1024Ideal.nD Cert.ReferenceSmall1024Ideal.τ).loc Cert.ReferenceSmall1024Ideal.main_arg5))
      ∧ r.2.sem = fun _ => 0)

def quiescent_KernelSmall3072 [hKernelSmall3072 : Cert.KernelSmall3072.Facts] : Prop :=
  ∀ (m : (ℓ : Loc Cert.KernelSmall3072.nD Cert.KernelSmall3072.τ Cert.KernelSmall3072.sig) → Buf (Elt Bits) ℓ) (g : Dev Cert.KernelSmall3072.nD → PrngReg), Pre_KernelSmall3072 m →
    θ_run (Cert.KernelSmall3072.defs (F := Bits)) (onTc (τ := Cert.KernelSmall3072.τ) (Cert.KernelSmall3072.main (F := Bits))) ⟨m, fun _ => 0, g⟩ (fun r => (∀ c : Dev Cert.KernelSmall3072.nD,
      r.2.mem ((c.tc : Thread Cert.KernelSmall3072.nD Cert.KernelSmall3072.τ).loc Cert.KernelSmall3072.main_arg0) = m ((c.tc : Thread Cert.KernelSmall3072.nD Cert.KernelSmall3072.τ).loc Cert.KernelSmall3072.main_arg0)
      ∧ r.2.mem ((c.tc : Thread Cert.KernelSmall3072.nD Cert.KernelSmall3072.τ).loc Cert.KernelSmall3072.main_arg1) = m ((c.tc : Thread Cert.KernelSmall3072.nD Cert.KernelSmall3072.τ).loc Cert.KernelSmall3072.main_arg1)
      ∧ r.2.mem ((c.tc : Thread Cert.KernelSmall3072.nD Cert.KernelSmall3072.τ).loc Cert.KernelSmall3072.main_arg2) = m ((c.tc : Thread Cert.KernelSmall3072.nD Cert.KernelSmall3072.τ).loc Cert.KernelSmall3072.main_arg2)
      ∧ r.2.mem ((c.tc : Thread Cert.KernelSmall3072.nD Cert.KernelSmall3072.τ).loc Cert.KernelSmall3072.main_arg3) = m ((c.tc : Thread Cert.KernelSmall3072.nD Cert.KernelSmall3072.τ).loc Cert.KernelSmall3072.main_arg3)
      ∧ r.2.mem ((c.tc : Thread Cert.KernelSmall3072.nD Cert.KernelSmall3072.τ).loc Cert.KernelSmall3072.main_arg4) = m ((c.tc : Thread Cert.KernelSmall3072.nD Cert.KernelSmall3072.τ).loc Cert.KernelSmall3072.main_arg4)
      ∧ r.2.mem ((c.tc : Thread Cert.KernelSmall3072.nD Cert.KernelSmall3072.τ).loc Cert.KernelSmall3072.main_arg5) = m ((c.tc : Thread Cert.KernelSmall3072.nD Cert.KernelSmall3072.τ).loc Cert.KernelSmall3072.main_arg5))
      ∧ r.2.sem = fun _ => 0)

def quiescent_KernelSmall3072Ideal [hKernelSmall3072Ideal : Cert.KernelSmall3072Ideal.Facts] : Prop :=
  ∀ (m : (ℓ : Loc Cert.KernelSmall3072Ideal.nD Cert.KernelSmall3072Ideal.τ Cert.KernelSmall3072Ideal.sig) → Buf (Elt Ideal) ℓ) (g : Dev Cert.KernelSmall3072Ideal.nD → PrngReg), Pre_KernelSmall3072Ideal m →
    θ_run (Cert.KernelSmall3072Ideal.defs (F := Ideal)) (onTc (τ := Cert.KernelSmall3072Ideal.τ) (Cert.KernelSmall3072Ideal.main (F := Ideal))) ⟨m, fun _ => 0, g⟩ (fun r => (∀ c : Dev Cert.KernelSmall3072Ideal.nD,
      r.2.mem ((c.tc : Thread Cert.KernelSmall3072Ideal.nD Cert.KernelSmall3072Ideal.τ).loc Cert.KernelSmall3072Ideal.main_arg0) = m ((c.tc : Thread Cert.KernelSmall3072Ideal.nD Cert.KernelSmall3072Ideal.τ).loc Cert.KernelSmall3072Ideal.main_arg0)
      ∧ r.2.mem ((c.tc : Thread Cert.KernelSmall3072Ideal.nD Cert.KernelSmall3072Ideal.τ).loc Cert.KernelSmall3072Ideal.main_arg1) = m ((c.tc : Thread Cert.KernelSmall3072Ideal.nD Cert.KernelSmall3072Ideal.τ).loc Cert.KernelSmall3072Ideal.main_arg1)
      ∧ r.2.mem ((c.tc : Thread Cert.KernelSmall3072Ideal.nD Cert.KernelSmall3072Ideal.τ).loc Cert.KernelSmall3072Ideal.main_arg2) = m ((c.tc : Thread Cert.KernelSmall3072Ideal.nD Cert.KernelSmall3072Ideal.τ).loc Cert.KernelSmall3072Ideal.main_arg2)
      ∧ r.2.mem ((c.tc : Thread Cert.KernelSmall3072Ideal.nD Cert.KernelSmall3072Ideal.τ).loc Cert.KernelSmall3072Ideal.main_arg3) = m ((c.tc : Thread Cert.KernelSmall3072Ideal.nD Cert.KernelSmall3072Ideal.τ).loc Cert.KernelSmall3072Ideal.main_arg3)
      ∧ r.2.mem ((c.tc : Thread Cert.KernelSmall3072Ideal.nD Cert.KernelSmall3072Ideal.τ).loc Cert.KernelSmall3072Ideal.main_arg4) = m ((c.tc : Thread Cert.KernelSmall3072Ideal.nD Cert.KernelSmall3072Ideal.τ).loc Cert.KernelSmall3072Ideal.main_arg4)
      ∧ r.2.mem ((c.tc : Thread Cert.KernelSmall3072Ideal.nD Cert.KernelSmall3072Ideal.τ).loc Cert.KernelSmall3072Ideal.main_arg5) = m ((c.tc : Thread Cert.KernelSmall3072Ideal.nD Cert.KernelSmall3072Ideal.τ).loc Cert.KernelSmall3072Ideal.main_arg5))
      ∧ r.2.sem = fun _ => 0)

def quiescent_ReferenceSmall3072Ideal [hReferenceSmall3072Ideal : Cert.ReferenceSmall3072Ideal.Facts] : Prop :=
  ∀ (m : (ℓ : Loc Cert.ReferenceSmall3072Ideal.nD Cert.ReferenceSmall3072Ideal.τ Cert.ReferenceSmall3072Ideal.sig) → Buf (Elt Ideal) ℓ) (g : Dev Cert.ReferenceSmall3072Ideal.nD → PrngReg), Pre_ReferenceSmall3072Ideal m →
    θ_run (Cert.ReferenceSmall3072Ideal.defs (F := Ideal)) (onTc (τ := Cert.ReferenceSmall3072Ideal.τ) (Cert.ReferenceSmall3072Ideal.main (F := Ideal))) ⟨m, fun _ => 0, g⟩ (fun r => (∀ c : Dev Cert.ReferenceSmall3072Ideal.nD,
      r.2.mem ((c.tc : Thread Cert.ReferenceSmall3072Ideal.nD Cert.ReferenceSmall3072Ideal.τ).loc Cert.ReferenceSmall3072Ideal.main_arg0) = m ((c.tc : Thread Cert.ReferenceSmall3072Ideal.nD Cert.ReferenceSmall3072Ideal.τ).loc Cert.ReferenceSmall3072Ideal.main_arg0)
      ∧ r.2.mem ((c.tc : Thread Cert.ReferenceSmall3072Ideal.nD Cert.ReferenceSmall3072Ideal.τ).loc Cert.ReferenceSmall3072Ideal.main_arg1) = m ((c.tc : Thread Cert.ReferenceSmall3072Ideal.nD Cert.ReferenceSmall3072Ideal.τ).loc Cert.ReferenceSmall3072Ideal.main_arg1)
      ∧ r.2.mem ((c.tc : Thread Cert.ReferenceSmall3072Ideal.nD Cert.ReferenceSmall3072Ideal.τ).loc Cert.ReferenceSmall3072Ideal.main_arg2) = m ((c.tc : Thread Cert.ReferenceSmall3072Ideal.nD Cert.ReferenceSmall3072Ideal.τ).loc Cert.ReferenceSmall3072Ideal.main_arg2)
      ∧ r.2.mem ((c.tc : Thread Cert.ReferenceSmall3072Ideal.nD Cert.ReferenceSmall3072Ideal.τ).loc Cert.ReferenceSmall3072Ideal.main_arg3) = m ((c.tc : Thread Cert.ReferenceSmall3072Ideal.nD Cert.ReferenceSmall3072Ideal.τ).loc Cert.ReferenceSmall3072Ideal.main_arg3)
      ∧ r.2.mem ((c.tc : Thread Cert.ReferenceSmall3072Ideal.nD Cert.ReferenceSmall3072Ideal.τ).loc Cert.ReferenceSmall3072Ideal.main_arg4) = m ((c.tc : Thread Cert.ReferenceSmall3072Ideal.nD Cert.ReferenceSmall3072Ideal.τ).loc Cert.ReferenceSmall3072Ideal.main_arg4)
      ∧ r.2.mem ((c.tc : Thread Cert.ReferenceSmall3072Ideal.nD Cert.ReferenceSmall3072Ideal.τ).loc Cert.ReferenceSmall3072Ideal.main_arg5) = m ((c.tc : Thread Cert.ReferenceSmall3072Ideal.nD Cert.ReferenceSmall3072Ideal.τ).loc Cert.ReferenceSmall3072Ideal.main_arg5))
      ∧ r.2.sem = fun _ => 0)

def quiescent_KernelSmall32 [hKernelSmall32 : Cert.KernelSmall32.Facts] : Prop :=
  ∀ (m : (ℓ : Loc Cert.KernelSmall32.nD Cert.KernelSmall32.τ Cert.KernelSmall32.sig) → Buf (Elt Bits) ℓ) (g : Dev Cert.KernelSmall32.nD → PrngReg), Pre_KernelSmall32 m →
    θ_run (Cert.KernelSmall32.defs (F := Bits)) (onTc (τ := Cert.KernelSmall32.τ) (Cert.KernelSmall32.main (F := Bits))) ⟨m, fun _ => 0, g⟩ (fun r => (∀ c : Dev Cert.KernelSmall32.nD,
      r.2.mem ((c.tc : Thread Cert.KernelSmall32.nD Cert.KernelSmall32.τ).loc Cert.KernelSmall32.main_arg0) = m ((c.tc : Thread Cert.KernelSmall32.nD Cert.KernelSmall32.τ).loc Cert.KernelSmall32.main_arg0)
      ∧ r.2.mem ((c.tc : Thread Cert.KernelSmall32.nD Cert.KernelSmall32.τ).loc Cert.KernelSmall32.main_arg1) = m ((c.tc : Thread Cert.KernelSmall32.nD Cert.KernelSmall32.τ).loc Cert.KernelSmall32.main_arg1)
      ∧ r.2.mem ((c.tc : Thread Cert.KernelSmall32.nD Cert.KernelSmall32.τ).loc Cert.KernelSmall32.main_arg2) = m ((c.tc : Thread Cert.KernelSmall32.nD Cert.KernelSmall32.τ).loc Cert.KernelSmall32.main_arg2)
      ∧ r.2.mem ((c.tc : Thread Cert.KernelSmall32.nD Cert.KernelSmall32.τ).loc Cert.KernelSmall32.main_arg3) = m ((c.tc : Thread Cert.KernelSmall32.nD Cert.KernelSmall32.τ).loc Cert.KernelSmall32.main_arg3)
      ∧ r.2.mem ((c.tc : Thread Cert.KernelSmall32.nD Cert.KernelSmall32.τ).loc Cert.KernelSmall32.main_arg4) = m ((c.tc : Thread Cert.KernelSmall32.nD Cert.KernelSmall32.τ).loc Cert.KernelSmall32.main_arg4)
      ∧ r.2.mem ((c.tc : Thread Cert.KernelSmall32.nD Cert.KernelSmall32.τ).loc Cert.KernelSmall32.main_arg5) = m ((c.tc : Thread Cert.KernelSmall32.nD Cert.KernelSmall32.τ).loc Cert.KernelSmall32.main_arg5))
      ∧ r.2.sem = fun _ => 0)

def quiescent_KernelSmall32Ideal [hKernelSmall32Ideal : Cert.KernelSmall32Ideal.Facts] : Prop :=
  ∀ (m : (ℓ : Loc Cert.KernelSmall32Ideal.nD Cert.KernelSmall32Ideal.τ Cert.KernelSmall32Ideal.sig) → Buf (Elt Ideal) ℓ) (g : Dev Cert.KernelSmall32Ideal.nD → PrngReg), Pre_KernelSmall32Ideal m →
    θ_run (Cert.KernelSmall32Ideal.defs (F := Ideal)) (onTc (τ := Cert.KernelSmall32Ideal.τ) (Cert.KernelSmall32Ideal.main (F := Ideal))) ⟨m, fun _ => 0, g⟩ (fun r => (∀ c : Dev Cert.KernelSmall32Ideal.nD,
      r.2.mem ((c.tc : Thread Cert.KernelSmall32Ideal.nD Cert.KernelSmall32Ideal.τ).loc Cert.KernelSmall32Ideal.main_arg0) = m ((c.tc : Thread Cert.KernelSmall32Ideal.nD Cert.KernelSmall32Ideal.τ).loc Cert.KernelSmall32Ideal.main_arg0)
      ∧ r.2.mem ((c.tc : Thread Cert.KernelSmall32Ideal.nD Cert.KernelSmall32Ideal.τ).loc Cert.KernelSmall32Ideal.main_arg1) = m ((c.tc : Thread Cert.KernelSmall32Ideal.nD Cert.KernelSmall32Ideal.τ).loc Cert.KernelSmall32Ideal.main_arg1)
      ∧ r.2.mem ((c.tc : Thread Cert.KernelSmall32Ideal.nD Cert.KernelSmall32Ideal.τ).loc Cert.KernelSmall32Ideal.main_arg2) = m ((c.tc : Thread Cert.KernelSmall32Ideal.nD Cert.KernelSmall32Ideal.τ).loc Cert.KernelSmall32Ideal.main_arg2)
      ∧ r.2.mem ((c.tc : Thread Cert.KernelSmall32Ideal.nD Cert.KernelSmall32Ideal.τ).loc Cert.KernelSmall32Ideal.main_arg3) = m ((c.tc : Thread Cert.KernelSmall32Ideal.nD Cert.KernelSmall32Ideal.τ).loc Cert.KernelSmall32Ideal.main_arg3)
      ∧ r.2.mem ((c.tc : Thread Cert.KernelSmall32Ideal.nD Cert.KernelSmall32Ideal.τ).loc Cert.KernelSmall32Ideal.main_arg4) = m ((c.tc : Thread Cert.KernelSmall32Ideal.nD Cert.KernelSmall32Ideal.τ).loc Cert.KernelSmall32Ideal.main_arg4)
      ∧ r.2.mem ((c.tc : Thread Cert.KernelSmall32Ideal.nD Cert.KernelSmall32Ideal.τ).loc Cert.KernelSmall32Ideal.main_arg5) = m ((c.tc : Thread Cert.KernelSmall32Ideal.nD Cert.KernelSmall32Ideal.τ).loc Cert.KernelSmall32Ideal.main_arg5))
      ∧ r.2.sem = fun _ => 0)

def quiescent_ReferenceSmall32Ideal [hReferenceSmall32Ideal : Cert.ReferenceSmall32Ideal.Facts] : Prop :=
  ∀ (m : (ℓ : Loc Cert.ReferenceSmall32Ideal.nD Cert.ReferenceSmall32Ideal.τ Cert.ReferenceSmall32Ideal.sig) → Buf (Elt Ideal) ℓ) (g : Dev Cert.ReferenceSmall32Ideal.nD → PrngReg), Pre_ReferenceSmall32Ideal m →
    θ_run (Cert.ReferenceSmall32Ideal.defs (F := Ideal)) (onTc (τ := Cert.ReferenceSmall32Ideal.τ) (Cert.ReferenceSmall32Ideal.main (F := Ideal))) ⟨m, fun _ => 0, g⟩ (fun r => (∀ c : Dev Cert.ReferenceSmall32Ideal.nD,
      r.2.mem ((c.tc : Thread Cert.ReferenceSmall32Ideal.nD Cert.ReferenceSmall32Ideal.τ).loc Cert.ReferenceSmall32Ideal.main_arg0) = m ((c.tc : Thread Cert.ReferenceSmall32Ideal.nD Cert.ReferenceSmall32Ideal.τ).loc Cert.ReferenceSmall32Ideal.main_arg0)
      ∧ r.2.mem ((c.tc : Thread Cert.ReferenceSmall32Ideal.nD Cert.ReferenceSmall32Ideal.τ).loc Cert.ReferenceSmall32Ideal.main_arg1) = m ((c.tc : Thread Cert.ReferenceSmall32Ideal.nD Cert.ReferenceSmall32Ideal.τ).loc Cert.ReferenceSmall32Ideal.main_arg1)
      ∧ r.2.mem ((c.tc : Thread Cert.ReferenceSmall32Ideal.nD Cert.ReferenceSmall32Ideal.τ).loc Cert.ReferenceSmall32Ideal.main_arg2) = m ((c.tc : Thread Cert.ReferenceSmall32Ideal.nD Cert.ReferenceSmall32Ideal.τ).loc Cert.ReferenceSmall32Ideal.main_arg2)
      ∧ r.2.mem ((c.tc : Thread Cert.ReferenceSmall32Ideal.nD Cert.ReferenceSmall32Ideal.τ).loc Cert.ReferenceSmall32Ideal.main_arg3) = m ((c.tc : Thread Cert.ReferenceSmall32Ideal.nD Cert.ReferenceSmall32Ideal.τ).loc Cert.ReferenceSmall32Ideal.main_arg3)
      ∧ r.2.mem ((c.tc : Thread Cert.ReferenceSmall32Ideal.nD Cert.ReferenceSmall32Ideal.τ).loc Cert.ReferenceSmall32Ideal.main_arg4) = m ((c.tc : Thread Cert.ReferenceSmall32Ideal.nD Cert.ReferenceSmall32Ideal.τ).loc Cert.ReferenceSmall32Ideal.main_arg4)
      ∧ r.2.mem ((c.tc : Thread Cert.ReferenceSmall32Ideal.nD Cert.ReferenceSmall32Ideal.τ).loc Cert.ReferenceSmall32Ideal.main_arg5) = m ((c.tc : Thread Cert.ReferenceSmall32Ideal.nD Cert.ReferenceSmall32Ideal.τ).loc Cert.ReferenceSmall32Ideal.main_arg5))
      ∧ r.2.sem = fun _ => 0)

def quiescent_KernelSmall2048 [hKernelSmall2048 : Cert.KernelSmall2048.Facts] : Prop :=
  ∀ (m : (ℓ : Loc Cert.KernelSmall2048.nD Cert.KernelSmall2048.τ Cert.KernelSmall2048.sig) → Buf (Elt Bits) ℓ) (g : Dev Cert.KernelSmall2048.nD → PrngReg), Pre_KernelSmall2048 m →
    θ_run (Cert.KernelSmall2048.defs (F := Bits)) (onTc (τ := Cert.KernelSmall2048.τ) (Cert.KernelSmall2048.main (F := Bits))) ⟨m, fun _ => 0, g⟩ (fun r => (∀ c : Dev Cert.KernelSmall2048.nD,
      r.2.mem ((c.tc : Thread Cert.KernelSmall2048.nD Cert.KernelSmall2048.τ).loc Cert.KernelSmall2048.main_arg0) = m ((c.tc : Thread Cert.KernelSmall2048.nD Cert.KernelSmall2048.τ).loc Cert.KernelSmall2048.main_arg0)
      ∧ r.2.mem ((c.tc : Thread Cert.KernelSmall2048.nD Cert.KernelSmall2048.τ).loc Cert.KernelSmall2048.main_arg1) = m ((c.tc : Thread Cert.KernelSmall2048.nD Cert.KernelSmall2048.τ).loc Cert.KernelSmall2048.main_arg1)
      ∧ r.2.mem ((c.tc : Thread Cert.KernelSmall2048.nD Cert.KernelSmall2048.τ).loc Cert.KernelSmall2048.main_arg2) = m ((c.tc : Thread Cert.KernelSmall2048.nD Cert.KernelSmall2048.τ).loc Cert.KernelSmall2048.main_arg2)
      ∧ r.2.mem ((c.tc : Thread Cert.KernelSmall2048.nD Cert.KernelSmall2048.τ).loc Cert.KernelSmall2048.main_arg3) = m ((c.tc : Thread Cert.KernelSmall2048.nD Cert.KernelSmall2048.τ).loc Cert.KernelSmall2048.main_arg3)
      ∧ r.2.mem ((c.tc : Thread Cert.KernelSmall2048.nD Cert.KernelSmall2048.τ).loc Cert.KernelSmall2048.main_arg4) = m ((c.tc : Thread Cert.KernelSmall2048.nD Cert.KernelSmall2048.τ).loc Cert.KernelSmall2048.main_arg4)
      ∧ r.2.mem ((c.tc : Thread Cert.KernelSmall2048.nD Cert.KernelSmall2048.τ).loc Cert.KernelSmall2048.main_arg5) = m ((c.tc : Thread Cert.KernelSmall2048.nD Cert.KernelSmall2048.τ).loc Cert.KernelSmall2048.main_arg5))
      ∧ r.2.sem = fun _ => 0)

def quiescent_KernelSmall2048Ideal [hKernelSmall2048Ideal : Cert.KernelSmall2048Ideal.Facts] : Prop :=
  ∀ (m : (ℓ : Loc Cert.KernelSmall2048Ideal.nD Cert.KernelSmall2048Ideal.τ Cert.KernelSmall2048Ideal.sig) → Buf (Elt Ideal) ℓ) (g : Dev Cert.KernelSmall2048Ideal.nD → PrngReg), Pre_KernelSmall2048Ideal m →
    θ_run (Cert.KernelSmall2048Ideal.defs (F := Ideal)) (onTc (τ := Cert.KernelSmall2048Ideal.τ) (Cert.KernelSmall2048Ideal.main (F := Ideal))) ⟨m, fun _ => 0, g⟩ (fun r => (∀ c : Dev Cert.KernelSmall2048Ideal.nD,
      r.2.mem ((c.tc : Thread Cert.KernelSmall2048Ideal.nD Cert.KernelSmall2048Ideal.τ).loc Cert.KernelSmall2048Ideal.main_arg0) = m ((c.tc : Thread Cert.KernelSmall2048Ideal.nD Cert.KernelSmall2048Ideal.τ).loc Cert.KernelSmall2048Ideal.main_arg0)
      ∧ r.2.mem ((c.tc : Thread Cert.KernelSmall2048Ideal.nD Cert.KernelSmall2048Ideal.τ).loc Cert.KernelSmall2048Ideal.main_arg1) = m ((c.tc : Thread Cert.KernelSmall2048Ideal.nD Cert.KernelSmall2048Ideal.τ).loc Cert.KernelSmall2048Ideal.main_arg1)
      ∧ r.2.mem ((c.tc : Thread Cert.KernelSmall2048Ideal.nD Cert.KernelSmall2048Ideal.τ).loc Cert.KernelSmall2048Ideal.main_arg2) = m ((c.tc : Thread Cert.KernelSmall2048Ideal.nD Cert.KernelSmall2048Ideal.τ).loc Cert.KernelSmall2048Ideal.main_arg2)
      ∧ r.2.mem ((c.tc : Thread Cert.KernelSmall2048Ideal.nD Cert.KernelSmall2048Ideal.τ).loc Cert.KernelSmall2048Ideal.main_arg3) = m ((c.tc : Thread Cert.KernelSmall2048Ideal.nD Cert.KernelSmall2048Ideal.τ).loc Cert.KernelSmall2048Ideal.main_arg3)
      ∧ r.2.mem ((c.tc : Thread Cert.KernelSmall2048Ideal.nD Cert.KernelSmall2048Ideal.τ).loc Cert.KernelSmall2048Ideal.main_arg4) = m ((c.tc : Thread Cert.KernelSmall2048Ideal.nD Cert.KernelSmall2048Ideal.τ).loc Cert.KernelSmall2048Ideal.main_arg4)
      ∧ r.2.mem ((c.tc : Thread Cert.KernelSmall2048Ideal.nD Cert.KernelSmall2048Ideal.τ).loc Cert.KernelSmall2048Ideal.main_arg5) = m ((c.tc : Thread Cert.KernelSmall2048Ideal.nD Cert.KernelSmall2048Ideal.τ).loc Cert.KernelSmall2048Ideal.main_arg5))
      ∧ r.2.sem = fun _ => 0)

def quiescent_ReferenceSmall2048Ideal [hReferenceSmall2048Ideal : Cert.ReferenceSmall2048Ideal.Facts] : Prop :=
  ∀ (m : (ℓ : Loc Cert.ReferenceSmall2048Ideal.nD Cert.ReferenceSmall2048Ideal.τ Cert.ReferenceSmall2048Ideal.sig) → Buf (Elt Ideal) ℓ) (g : Dev Cert.ReferenceSmall2048Ideal.nD → PrngReg), Pre_ReferenceSmall2048Ideal m →
    θ_run (Cert.ReferenceSmall2048Ideal.defs (F := Ideal)) (onTc (τ := Cert.ReferenceSmall2048Ideal.τ) (Cert.ReferenceSmall2048Ideal.main (F := Ideal))) ⟨m, fun _ => 0, g⟩ (fun r => (∀ c : Dev Cert.ReferenceSmall2048Ideal.nD,
      r.2.mem ((c.tc : Thread Cert.ReferenceSmall2048Ideal.nD Cert.ReferenceSmall2048Ideal.τ).loc Cert.ReferenceSmall2048Ideal.main_arg0) = m ((c.tc : Thread Cert.ReferenceSmall2048Ideal.nD Cert.ReferenceSmall2048Ideal.τ).loc Cert.ReferenceSmall2048Ideal.main_arg0)
      ∧ r.2.mem ((c.tc : Thread Cert.ReferenceSmall2048Ideal.nD Cert.ReferenceSmall2048Ideal.τ).loc Cert.ReferenceSmall2048Ideal.main_arg1) = m ((c.tc : Thread Cert.ReferenceSmall2048Ideal.nD Cert.ReferenceSmall2048Ideal.τ).loc Cert.ReferenceSmall2048Ideal.main_arg1)
      ∧ r.2.mem ((c.tc : Thread Cert.ReferenceSmall2048Ideal.nD Cert.ReferenceSmall2048Ideal.τ).loc Cert.ReferenceSmall2048Ideal.main_arg2) = m ((c.tc : Thread Cert.ReferenceSmall2048Ideal.nD Cert.ReferenceSmall2048Ideal.τ).loc Cert.ReferenceSmall2048Ideal.main_arg2)
      ∧ r.2.mem ((c.tc : Thread Cert.ReferenceSmall2048Ideal.nD Cert.ReferenceSmall2048Ideal.τ).loc Cert.ReferenceSmall2048Ideal.main_arg3) = m ((c.tc : Thread Cert.ReferenceSmall2048Ideal.nD Cert.ReferenceSmall2048Ideal.τ).loc Cert.ReferenceSmall2048Ideal.main_arg3)
      ∧ r.2.mem ((c.tc : Thread Cert.ReferenceSmall2048Ideal.nD Cert.ReferenceSmall2048Ideal.τ).loc Cert.ReferenceSmall2048Ideal.main_arg4) = m ((c.tc : Thread Cert.ReferenceSmall2048Ideal.nD Cert.ReferenceSmall2048Ideal.τ).loc Cert.ReferenceSmall2048Ideal.main_arg4)
      ∧ r.2.mem ((c.tc : Thread Cert.ReferenceSmall2048Ideal.nD Cert.ReferenceSmall2048Ideal.τ).loc Cert.ReferenceSmall2048Ideal.main_arg5) = m ((c.tc : Thread Cert.ReferenceSmall2048Ideal.nD Cert.ReferenceSmall2048Ideal.τ).loc Cert.ReferenceSmall2048Ideal.main_arg5))
      ∧ r.2.sem = fun _ => 0)

def quiescent_KernelSmall5632 [hKernelSmall5632 : Cert.KernelSmall5632.Facts] : Prop :=
  ∀ (m : (ℓ : Loc Cert.KernelSmall5632.nD Cert.KernelSmall5632.τ Cert.KernelSmall5632.sig) → Buf (Elt Bits) ℓ) (g : Dev Cert.KernelSmall5632.nD → PrngReg), Pre_KernelSmall5632 m →
    θ_run (Cert.KernelSmall5632.defs (F := Bits)) (onTc (τ := Cert.KernelSmall5632.τ) (Cert.KernelSmall5632.main (F := Bits))) ⟨m, fun _ => 0, g⟩ (fun r => (∀ c : Dev Cert.KernelSmall5632.nD,
      r.2.mem ((c.tc : Thread Cert.KernelSmall5632.nD Cert.KernelSmall5632.τ).loc Cert.KernelSmall5632.main_arg0) = m ((c.tc : Thread Cert.KernelSmall5632.nD Cert.KernelSmall5632.τ).loc Cert.KernelSmall5632.main_arg0)
      ∧ r.2.mem ((c.tc : Thread Cert.KernelSmall5632.nD Cert.KernelSmall5632.τ).loc Cert.KernelSmall5632.main_arg1) = m ((c.tc : Thread Cert.KernelSmall5632.nD Cert.KernelSmall5632.τ).loc Cert.KernelSmall5632.main_arg1)
      ∧ r.2.mem ((c.tc : Thread Cert.KernelSmall5632.nD Cert.KernelSmall5632.τ).loc Cert.KernelSmall5632.main_arg2) = m ((c.tc : Thread Cert.KernelSmall5632.nD Cert.KernelSmall5632.τ).loc Cert.KernelSmall5632.main_arg2)
      ∧ r.2.mem ((c.tc : Thread Cert.KernelSmall5632.nD Cert.KernelSmall5632.τ).loc Cert.KernelSmall5632.main_arg3) = m ((c.tc : Thread Cert.KernelSmall5632.nD Cert.KernelSmall5632.τ).loc Cert.KernelSmall5632.main_arg3)
      ∧ r.2.mem ((c.tc : Thread Cert.KernelSmall5632.nD Cert.KernelSmall5632.τ).loc Cert.KernelSmall5632.main_arg4) = m ((c.tc : Thread Cert.KernelSmall5632.nD Cert.KernelSmall5632.τ).loc Cert.KernelSmall5632.main_arg4)
      ∧ r.2.mem ((c.tc : Thread Cert.KernelSmall5632.nD Cert.KernelSmall5632.τ).loc Cert.KernelSmall5632.main_arg5) = m ((c.tc : Thread Cert.KernelSmall5632.nD Cert.KernelSmall5632.τ).loc Cert.KernelSmall5632.main_arg5))
      ∧ r.2.sem = fun _ => 0)

def quiescent_KernelSmall5632Ideal [hKernelSmall5632Ideal : Cert.KernelSmall5632Ideal.Facts] : Prop :=
  ∀ (m : (ℓ : Loc Cert.KernelSmall5632Ideal.nD Cert.KernelSmall5632Ideal.τ Cert.KernelSmall5632Ideal.sig) → Buf (Elt Ideal) ℓ) (g : Dev Cert.KernelSmall5632Ideal.nD → PrngReg), Pre_KernelSmall5632Ideal m →
    θ_run (Cert.KernelSmall5632Ideal.defs (F := Ideal)) (onTc (τ := Cert.KernelSmall5632Ideal.τ) (Cert.KernelSmall5632Ideal.main (F := Ideal))) ⟨m, fun _ => 0, g⟩ (fun r => (∀ c : Dev Cert.KernelSmall5632Ideal.nD,
      r.2.mem ((c.tc : Thread Cert.KernelSmall5632Ideal.nD Cert.KernelSmall5632Ideal.τ).loc Cert.KernelSmall5632Ideal.main_arg0) = m ((c.tc : Thread Cert.KernelSmall5632Ideal.nD Cert.KernelSmall5632Ideal.τ).loc Cert.KernelSmall5632Ideal.main_arg0)
      ∧ r.2.mem ((c.tc : Thread Cert.KernelSmall5632Ideal.nD Cert.KernelSmall5632Ideal.τ).loc Cert.KernelSmall5632Ideal.main_arg1) = m ((c.tc : Thread Cert.KernelSmall5632Ideal.nD Cert.KernelSmall5632Ideal.τ).loc Cert.KernelSmall5632Ideal.main_arg1)
      ∧ r.2.mem ((c.tc : Thread Cert.KernelSmall5632Ideal.nD Cert.KernelSmall5632Ideal.τ).loc Cert.KernelSmall5632Ideal.main_arg2) = m ((c.tc : Thread Cert.KernelSmall5632Ideal.nD Cert.KernelSmall5632Ideal.τ).loc Cert.KernelSmall5632Ideal.main_arg2)
      ∧ r.2.mem ((c.tc : Thread Cert.KernelSmall5632Ideal.nD Cert.KernelSmall5632Ideal.τ).loc Cert.KernelSmall5632Ideal.main_arg3) = m ((c.tc : Thread Cert.KernelSmall5632Ideal.nD Cert.KernelSmall5632Ideal.τ).loc Cert.KernelSmall5632Ideal.main_arg3)
      ∧ r.2.mem ((c.tc : Thread Cert.KernelSmall5632Ideal.nD Cert.KernelSmall5632Ideal.τ).loc Cert.KernelSmall5632Ideal.main_arg4) = m ((c.tc : Thread Cert.KernelSmall5632Ideal.nD Cert.KernelSmall5632Ideal.τ).loc Cert.KernelSmall5632Ideal.main_arg4)
      ∧ r.2.mem ((c.tc : Thread Cert.KernelSmall5632Ideal.nD Cert.KernelSmall5632Ideal.τ).loc Cert.KernelSmall5632Ideal.main_arg5) = m ((c.tc : Thread Cert.KernelSmall5632Ideal.nD Cert.KernelSmall5632Ideal.τ).loc Cert.KernelSmall5632Ideal.main_arg5))
      ∧ r.2.sem = fun _ => 0)

def quiescent_ReferenceSmall5632Ideal [hReferenceSmall5632Ideal : Cert.ReferenceSmall5632Ideal.Facts] : Prop :=
  ∀ (m : (ℓ : Loc Cert.ReferenceSmall5632Ideal.nD Cert.ReferenceSmall5632Ideal.τ Cert.ReferenceSmall5632Ideal.sig) → Buf (Elt Ideal) ℓ) (g : Dev Cert.ReferenceSmall5632Ideal.nD → PrngReg), Pre_ReferenceSmall5632Ideal m →
    θ_run (Cert.ReferenceSmall5632Ideal.defs (F := Ideal)) (onTc (τ := Cert.ReferenceSmall5632Ideal.τ) (Cert.ReferenceSmall5632Ideal.main (F := Ideal))) ⟨m, fun _ => 0, g⟩ (fun r => (∀ c : Dev Cert.ReferenceSmall5632Ideal.nD,
      r.2.mem ((c.tc : Thread Cert.ReferenceSmall5632Ideal.nD Cert.ReferenceSmall5632Ideal.τ).loc Cert.ReferenceSmall5632Ideal.main_arg0) = m ((c.tc : Thread Cert.ReferenceSmall5632Ideal.nD Cert.ReferenceSmall5632Ideal.τ).loc Cert.ReferenceSmall5632Ideal.main_arg0)
      ∧ r.2.mem ((c.tc : Thread Cert.ReferenceSmall5632Ideal.nD Cert.ReferenceSmall5632Ideal.τ).loc Cert.ReferenceSmall5632Ideal.main_arg1) = m ((c.tc : Thread Cert.ReferenceSmall5632Ideal.nD Cert.ReferenceSmall5632Ideal.τ).loc Cert.ReferenceSmall5632Ideal.main_arg1)
      ∧ r.2.mem ((c.tc : Thread Cert.ReferenceSmall5632Ideal.nD Cert.ReferenceSmall5632Ideal.τ).loc Cert.ReferenceSmall5632Ideal.main_arg2) = m ((c.tc : Thread Cert.ReferenceSmall5632Ideal.nD Cert.ReferenceSmall5632Ideal.τ).loc Cert.ReferenceSmall5632Ideal.main_arg2)
      ∧ r.2.mem ((c.tc : Thread Cert.ReferenceSmall5632Ideal.nD Cert.ReferenceSmall5632Ideal.τ).loc Cert.ReferenceSmall5632Ideal.main_arg3) = m ((c.tc : Thread Cert.ReferenceSmall5632Ideal.nD Cert.ReferenceSmall5632Ideal.τ).loc Cert.ReferenceSmall5632Ideal.main_arg3)
      ∧ r.2.mem ((c.tc : Thread Cert.ReferenceSmall5632Ideal.nD Cert.ReferenceSmall5632Ideal.τ).loc Cert.ReferenceSmall5632Ideal.main_arg4) = m ((c.tc : Thread Cert.ReferenceSmall5632Ideal.nD Cert.ReferenceSmall5632Ideal.τ).loc Cert.ReferenceSmall5632Ideal.main_arg4)
      ∧ r.2.mem ((c.tc : Thread Cert.ReferenceSmall5632Ideal.nD Cert.ReferenceSmall5632Ideal.τ).loc Cert.ReferenceSmall5632Ideal.main_arg5) = m ((c.tc : Thread Cert.ReferenceSmall5632Ideal.nD Cert.ReferenceSmall5632Ideal.τ).loc Cert.ReferenceSmall5632Ideal.main_arg5))
      ∧ r.2.sem = fun _ => 0)

def preserves_Kernel_KernelIdeal : Prop :=
  IdealRules.named_const.Statement Cert.KernelIdeal.κ "log_gamma_0" .f32 0xBD020AEC#32 ((Real.log (31 / 32) : ℝ) : EReal)
  ∧ IdealRules.named_const.Statement Cert.KernelIdeal.κ "gamma_chunk_0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "log_gamma_1" .f32 0xBC8102B3#32 ((Real.log (63 / 64) : ℝ) : EReal)
  ∧ IdealRules.named_const.Statement Cert.KernelIdeal.κ "gamma_chunk_1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "log_gamma_2" .f32 0xBC0080AC#32 ((Real.log (127 / 128) : ℝ) : EReal)
  ∧ IdealRules.named_const.Statement Cert.KernelIdeal.κ "gamma_chunk_2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "log_gamma_3" .f32 0xBB80402B#32 ((Real.log (255 / 256) : ℝ) : EReal)
  ∧ IdealRules.named_const.Statement Cert.KernelIdeal.κ "gamma_chunk_3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v132_0)) (v1 : (c : Dev Cert.KernelIdeal.nD) → Buf (Elt Ideal) ((c.tc : Thread Cert.KernelIdeal.nD Cert.KernelIdeal.τ).loc Cert.KernelIdeal.main_v132_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132_0) = v0 c
          ∧ r.2.mem ((c.tc : Thread Cert.KernelIdeal.nD Cert.KernelIdeal.τ).loc Cert.KernelIdeal.main_v132_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDU1_KernelDU1Ideal : Prop :=
  True

def algebraic_KernelDU1Ideal_ReferenceDU1Ideal [hKernelDU1Ideal : Cert.KernelDU1Ideal.Facts] [hReferenceDU1Ideal : Cert.ReferenceDU1Ideal.Facts] : Prop :=
  ∀ (m : (ℓ : Loc Cert.KernelDU1Ideal.nD Cert.KernelDU1Ideal.τ Cert.KernelDU1Ideal.sig) → Buf (Elt Ideal) ℓ) (g : Dev Cert.KernelDU1Ideal.nD → PrngReg)
    (m' : (ℓ : Loc Cert.ReferenceDU1Ideal.nD Cert.ReferenceDU1Ideal.τ Cert.ReferenceDU1Ideal.sig) → Buf (Elt Ideal) ℓ) (g' : Dev Cert.ReferenceDU1Ideal.nD → PrngReg), Pre_KernelDU1Ideal m →
    (∀ c : Dev Cert.KernelDU1Ideal.nD,
      m' ((c.tc : Thread Cert.ReferenceDU1Ideal.nD Cert.ReferenceDU1Ideal.τ).loc Cert.ReferenceDU1Ideal.main_arg0) = m ((c.tc : Thread Cert.KernelDU1Ideal.nD Cert.KernelDU1Ideal.τ).loc Cert.KernelDU1Ideal.main_arg0)
      ∧ m' ((c.tc : Thread Cert.ReferenceDU1Ideal.nD Cert.ReferenceDU1Ideal.τ).loc Cert.ReferenceDU1Ideal.main_arg1) = m ((c.tc : Thread Cert.KernelDU1Ideal.nD Cert.KernelDU1Ideal.τ).loc Cert.KernelDU1Ideal.main_arg1)
      ∧ m' ((c.tc : Thread Cert.ReferenceDU1Ideal.nD Cert.ReferenceDU1Ideal.τ).loc Cert.ReferenceDU1Ideal.main_arg2) = m ((c.tc : Thread Cert.KernelDU1Ideal.nD Cert.KernelDU1Ideal.τ).loc Cert.KernelDU1Ideal.main_arg2)
      ∧ m' ((c.tc : Thread Cert.ReferenceDU1Ideal.nD Cert.ReferenceDU1Ideal.τ).loc Cert.ReferenceDU1Ideal.main_arg3) = m ((c.tc : Thread Cert.KernelDU1Ideal.nD Cert.KernelDU1Ideal.τ).loc Cert.KernelDU1Ideal.main_arg3)
      ∧ m' ((c.tc : Thread Cert.ReferenceDU1Ideal.nD Cert.ReferenceDU1Ideal.τ).loc Cert.ReferenceDU1Ideal.main_arg4) = m ((c.tc : Thread Cert.KernelDU1Ideal.nD Cert.KernelDU1Ideal.τ).loc Cert.KernelDU1Ideal.main_arg4)
      ∧ m' ((c.tc : Thread Cert.ReferenceDU1Ideal.nD Cert.ReferenceDU1Ideal.τ).loc Cert.ReferenceDU1Ideal.main_arg5) = m ((c.tc : Thread Cert.KernelDU1Ideal.nD Cert.KernelDU1Ideal.τ).loc Cert.KernelDU1Ideal.main_arg5)
      ∧ m' ((c.tc : Thread Cert.ReferenceDU1Ideal.nD Cert.ReferenceDU1Ideal.τ).loc Cert.ReferenceDU1Ideal.main_arg6) = m ((c.tc : Thread Cert.KernelDU1Ideal.nD Cert.KernelDU1Ideal.τ).loc Cert.KernelDU1Ideal.main_arg6)) →
    ∃ (v0 : (c : Dev Cert.KernelDU1Ideal.nD) → Buf (Elt Ideal) ((c.tc : Thread Cert.KernelDU1Ideal.nD Cert.KernelDU1Ideal.τ).loc Cert.KernelDU1Ideal.main_v12)),
      θ_run (Cert.KernelDU1Ideal.defs (F := Ideal)) (onTc (τ := Cert.KernelDU1Ideal.τ) (Cert.KernelDU1Ideal.main (F := Ideal))) ⟨m, fun _ => 0, g⟩ (fun r => ∀ c : Dev Cert.KernelDU1Ideal.nD,
          r.2.mem ((c.tc : Thread Cert.KernelDU1Ideal.nD Cert.KernelDU1Ideal.τ).loc Cert.KernelDU1Ideal.main_v12) = v0 c
          ∧ r.2.mem ((c.tc : Thread Cert.KernelDU1Ideal.nD Cert.KernelDU1Ideal.τ).loc Cert.KernelDU1Ideal.main_arg0) = m ((c.tc : Thread Cert.KernelDU1Ideal.nD Cert.KernelDU1Ideal.τ).loc Cert.KernelDU1Ideal.main_arg0)
          ∧ r.2.mem ((c.tc : Thread Cert.KernelDU1Ideal.nD Cert.KernelDU1Ideal.τ).loc Cert.KernelDU1Ideal.main_arg1) = m ((c.tc : Thread Cert.KernelDU1Ideal.nD Cert.KernelDU1Ideal.τ).loc Cert.KernelDU1Ideal.main_arg1)
          ∧ r.2.mem ((c.tc : Thread Cert.KernelDU1Ideal.nD Cert.KernelDU1Ideal.τ).loc Cert.KernelDU1Ideal.main_arg2) = m ((c.tc : Thread Cert.KernelDU1Ideal.nD Cert.KernelDU1Ideal.τ).loc Cert.KernelDU1Ideal.main_arg2)
          ∧ r.2.mem ((c.tc : Thread Cert.KernelDU1Ideal.nD Cert.KernelDU1Ideal.τ).loc Cert.KernelDU1Ideal.main_arg3) = m ((c.tc : Thread Cert.KernelDU1Ideal.nD Cert.KernelDU1Ideal.τ).loc Cert.KernelDU1Ideal.main_arg3)
          ∧ r.2.mem ((c.tc : Thread Cert.KernelDU1Ideal.nD Cert.KernelDU1Ideal.τ).loc Cert.KernelDU1Ideal.main_arg4) = m ((c.tc : Thread Cert.KernelDU1Ideal.nD Cert.KernelDU1Ideal.τ).loc Cert.KernelDU1Ideal.main_arg4)
          ∧ r.2.mem ((c.tc : Thread Cert.KernelDU1Ideal.nD Cert.KernelDU1Ideal.τ).loc Cert.KernelDU1Ideal.main_arg5) = m ((c.tc : Thread Cert.KernelDU1Ideal.nD Cert.KernelDU1Ideal.τ).loc Cert.KernelDU1Ideal.main_arg5)
          ∧ r.2.mem ((c.tc : Thread Cert.KernelDU1Ideal.nD Cert.KernelDU1Ideal.τ).loc Cert.KernelDU1Ideal.main_arg6) = m ((c.tc : Thread Cert.KernelDU1Ideal.nD Cert.KernelDU1Ideal.τ).loc Cert.KernelDU1Ideal.main_arg6))
      ∧ θ_run (Cert.ReferenceDU1Ideal.defs (F := Ideal)) (onTc (τ := Cert.ReferenceDU1Ideal.τ) (Cert.ReferenceDU1Ideal.main (F := Ideal))) ⟨m', fun _ => 0, g'⟩ (fun r => ∀ c : Dev Cert.ReferenceDU1Ideal.nD,
          r.2.mem ((c.tc : Thread Cert.ReferenceDU1Ideal.nD Cert.ReferenceDU1Ideal.τ).loc Cert.ReferenceDU1Ideal.main_v5) = v0 c
          ∧ r.2.mem ((c.tc : Thread Cert.ReferenceDU1Ideal.nD Cert.ReferenceDU1Ideal.τ).loc Cert.ReferenceDU1Ideal.main_arg0) = m' ((c.tc : Thread Cert.ReferenceDU1Ideal.nD Cert.ReferenceDU1Ideal.τ).loc Cert.ReferenceDU1Ideal.main_arg0)
          ∧ r.2.mem ((c.tc : Thread Cert.ReferenceDU1Ideal.nD Cert.ReferenceDU1Ideal.τ).loc Cert.ReferenceDU1Ideal.main_arg1) = m' ((c.tc : Thread Cert.ReferenceDU1Ideal.nD Cert.ReferenceDU1Ideal.τ).loc Cert.ReferenceDU1Ideal.main_arg1)
          ∧ r.2.mem ((c.tc : Thread Cert.ReferenceDU1Ideal.nD Cert.ReferenceDU1Ideal.τ).loc Cert.ReferenceDU1Ideal.main_arg2) = m' ((c.tc : Thread Cert.ReferenceDU1Ideal.nD Cert.ReferenceDU1Ideal.τ).loc Cert.ReferenceDU1Ideal.main_arg2)
          ∧ r.2.mem ((c.tc : Thread Cert.ReferenceDU1Ideal.nD Cert.ReferenceDU1Ideal.τ).loc Cert.ReferenceDU1Ideal.main_arg3) = m' ((c.tc : Thread Cert.ReferenceDU1Ideal.nD Cert.ReferenceDU1Ideal.τ).loc Cert.ReferenceDU1Ideal.main_arg3)
          ∧ r.2.mem ((c.tc : Thread Cert.ReferenceDU1Ideal.nD Cert.ReferenceDU1Ideal.τ).loc Cert.ReferenceDU1Ideal.main_arg4) = m' ((c.tc : Thread Cert.ReferenceDU1Ideal.nD Cert.ReferenceDU1Ideal.τ).loc Cert.ReferenceDU1Ideal.main_arg4)
          ∧ r.2.mem ((c.tc : Thread Cert.ReferenceDU1Ideal.nD Cert.ReferenceDU1Ideal.τ).loc Cert.ReferenceDU1Ideal.main_arg5) = m' ((c.tc : Thread Cert.ReferenceDU1Ideal.nD Cert.ReferenceDU1Ideal.τ).loc Cert.ReferenceDU1Ideal.main_arg5)
          ∧ r.2.mem ((c.tc : Thread Cert.ReferenceDU1Ideal.nD Cert.ReferenceDU1Ideal.τ).loc Cert.ReferenceDU1Ideal.main_arg6) = m' ((c.tc : Thread Cert.ReferenceDU1Ideal.nD Cert.ReferenceDU1Ideal.τ).loc Cert.ReferenceDU1Ideal.main_arg6))

def preserves_KernelGW2048_KernelGW2048Ideal : Prop :=
  True

def algebraic_KernelGW2048Ideal_ReferenceGW2048Ideal [hKernelGW2048Ideal : Cert.KernelGW2048Ideal.Facts] [hReferenceGW2048Ideal : Cert.ReferenceGW2048Ideal.Facts] : Prop :=
  ∀ (m : (ℓ : Loc Cert.KernelGW2048Ideal.nD Cert.KernelGW2048Ideal.τ Cert.KernelGW2048Ideal.sig) → Buf (Elt Ideal) ℓ) (g : Dev Cert.KernelGW2048Ideal.nD → PrngReg)
    (m' : (ℓ : Loc Cert.ReferenceGW2048Ideal.nD Cert.ReferenceGW2048Ideal.τ Cert.ReferenceGW2048Ideal.sig) → Buf (Elt Ideal) ℓ) (g' : Dev Cert.ReferenceGW2048Ideal.nD → PrngReg), Pre_KernelGW2048Ideal m →
    (∀ c : Dev Cert.KernelGW2048Ideal.nD,
      m' ((c.tc : Thread Cert.ReferenceGW2048Ideal.nD Cert.ReferenceGW2048Ideal.τ).loc Cert.ReferenceGW2048Ideal.main_arg0) = m ((c.tc : Thread Cert.KernelGW2048Ideal.nD Cert.KernelGW2048Ideal.τ).loc Cert.KernelGW2048Ideal.main_arg0)
      ∧ m' ((c.tc : Thread Cert.ReferenceGW2048Ideal.nD Cert.ReferenceGW2048Ideal.τ).loc Cert.ReferenceGW2048Ideal.main_arg1) = m ((c.tc : Thread Cert.KernelGW2048Ideal.nD Cert.KernelGW2048Ideal.τ).loc Cert.KernelGW2048Ideal.main_arg1)) →
    ∃ (v0 : (c : Dev Cert.KernelGW2048Ideal.nD) → Buf (Elt Ideal) ((c.tc : Thread Cert.KernelGW2048Ideal.nD Cert.KernelGW2048Ideal.τ).loc Cert.KernelGW2048Ideal.main_v0)),
      θ_run (Cert.KernelGW2048Ideal.defs (F := Ideal)) (onTc (τ := Cert.KernelGW2048Ideal.τ) (Cert.KernelGW2048Ideal.main (F := Ideal))) ⟨m, fun _ => 0, g⟩ (fun r => ∀ c : Dev Cert.KernelGW2048Ideal.nD,
          r.2.mem ((c.tc : Thread Cert.KernelGW2048Ideal.nD Cert.KernelGW2048Ideal.τ).loc Cert.KernelGW2048Ideal.main_v0) = v0 c
          ∧ r.2.mem ((c.tc : Thread Cert.KernelGW2048Ideal.nD Cert.KernelGW2048Ideal.τ).loc Cert.KernelGW2048Ideal.main_arg0) = m ((c.tc : Thread Cert.KernelGW2048Ideal.nD Cert.KernelGW2048Ideal.τ).loc Cert.KernelGW2048Ideal.main_arg0)
          ∧ r.2.mem ((c.tc : Thread Cert.KernelGW2048Ideal.nD Cert.KernelGW2048Ideal.τ).loc Cert.KernelGW2048Ideal.main_arg1) = m ((c.tc : Thread Cert.KernelGW2048Ideal.nD Cert.KernelGW2048Ideal.τ).loc Cert.KernelGW2048Ideal.main_arg1))
      ∧ θ_run (Cert.ReferenceGW2048Ideal.defs (F := Ideal)) (onTc (τ := Cert.ReferenceGW2048Ideal.τ) (Cert.ReferenceGW2048Ideal.main (F := Ideal))) ⟨m', fun _ => 0, g'⟩ (fun r => ∀ c : Dev Cert.ReferenceGW2048Ideal.nD,
          r.2.mem ((c.tc : Thread Cert.ReferenceGW2048Ideal.nD Cert.ReferenceGW2048Ideal.τ).loc Cert.ReferenceGW2048Ideal.main_v6) = v0 c
          ∧ r.2.mem ((c.tc : Thread Cert.ReferenceGW2048Ideal.nD Cert.ReferenceGW2048Ideal.τ).loc Cert.ReferenceGW2048Ideal.main_arg0) = m' ((c.tc : Thread Cert.ReferenceGW2048Ideal.nD Cert.ReferenceGW2048Ideal.τ).loc Cert.ReferenceGW2048Ideal.main_arg0)
          ∧ r.2.mem ((c.tc : Thread Cert.ReferenceGW2048Ideal.nD Cert.ReferenceGW2048Ideal.τ).loc Cert.ReferenceGW2048Ideal.main_arg1) = m' ((c.tc : Thread Cert.ReferenceGW2048Ideal.nD Cert.ReferenceGW2048Ideal.τ).loc Cert.ReferenceGW2048Ideal.main_arg1))

def preserves_KernelGW4096_KernelGW4096Ideal : Prop :=
  True

def algebraic_KernelGW4096Ideal_ReferenceGW4096Ideal [hKernelGW4096Ideal : Cert.KernelGW4096Ideal.Facts] [hReferenceGW4096Ideal : Cert.ReferenceGW4096Ideal.Facts] : Prop :=
  ∀ (m : (ℓ : Loc Cert.KernelGW4096Ideal.nD Cert.KernelGW4096Ideal.τ Cert.KernelGW4096Ideal.sig) → Buf (Elt Ideal) ℓ) (g : Dev Cert.KernelGW4096Ideal.nD → PrngReg)
    (m' : (ℓ : Loc Cert.ReferenceGW4096Ideal.nD Cert.ReferenceGW4096Ideal.τ Cert.ReferenceGW4096Ideal.sig) → Buf (Elt Ideal) ℓ) (g' : Dev Cert.ReferenceGW4096Ideal.nD → PrngReg), Pre_KernelGW4096Ideal m →
    (∀ c : Dev Cert.KernelGW4096Ideal.nD,
      m' ((c.tc : Thread Cert.ReferenceGW4096Ideal.nD Cert.ReferenceGW4096Ideal.τ).loc Cert.ReferenceGW4096Ideal.main_arg0) = m ((c.tc : Thread Cert.KernelGW4096Ideal.nD Cert.KernelGW4096Ideal.τ).loc Cert.KernelGW4096Ideal.main_arg0)
      ∧ m' ((c.tc : Thread Cert.ReferenceGW4096Ideal.nD Cert.ReferenceGW4096Ideal.τ).loc Cert.ReferenceGW4096Ideal.main_arg1) = m ((c.tc : Thread Cert.KernelGW4096Ideal.nD Cert.KernelGW4096Ideal.τ).loc Cert.KernelGW4096Ideal.main_arg1)) →
    ∃ (v0 : (c : Dev Cert.KernelGW4096Ideal.nD) → Buf (Elt Ideal) ((c.tc : Thread Cert.KernelGW4096Ideal.nD Cert.KernelGW4096Ideal.τ).loc Cert.KernelGW4096Ideal.main_v0)),
      θ_run (Cert.KernelGW4096Ideal.defs (F := Ideal)) (onTc (τ := Cert.KernelGW4096Ideal.τ) (Cert.KernelGW4096Ideal.main (F := Ideal))) ⟨m, fun _ => 0, g⟩ (fun r => ∀ c : Dev Cert.KernelGW4096Ideal.nD,
          r.2.mem ((c.tc : Thread Cert.KernelGW4096Ideal.nD Cert.KernelGW4096Ideal.τ).loc Cert.KernelGW4096Ideal.main_v0) = v0 c
          ∧ r.2.mem ((c.tc : Thread Cert.KernelGW4096Ideal.nD Cert.KernelGW4096Ideal.τ).loc Cert.KernelGW4096Ideal.main_arg0) = m ((c.tc : Thread Cert.KernelGW4096Ideal.nD Cert.KernelGW4096Ideal.τ).loc Cert.KernelGW4096Ideal.main_arg0)
          ∧ r.2.mem ((c.tc : Thread Cert.KernelGW4096Ideal.nD Cert.KernelGW4096Ideal.τ).loc Cert.KernelGW4096Ideal.main_arg1) = m ((c.tc : Thread Cert.KernelGW4096Ideal.nD Cert.KernelGW4096Ideal.τ).loc Cert.KernelGW4096Ideal.main_arg1))
      ∧ θ_run (Cert.ReferenceGW4096Ideal.defs (F := Ideal)) (onTc (τ := Cert.ReferenceGW4096Ideal.τ) (Cert.ReferenceGW4096Ideal.main (F := Ideal))) ⟨m', fun _ => 0, g'⟩ (fun r => ∀ c : Dev Cert.ReferenceGW4096Ideal.nD,
          r.2.mem ((c.tc : Thread Cert.ReferenceGW4096Ideal.nD Cert.ReferenceGW4096Ideal.τ).loc Cert.ReferenceGW4096Ideal.main_v6) = v0 c
          ∧ r.2.mem ((c.tc : Thread Cert.ReferenceGW4096Ideal.nD Cert.ReferenceGW4096Ideal.τ).loc Cert.ReferenceGW4096Ideal.main_arg0) = m' ((c.tc : Thread Cert.ReferenceGW4096Ideal.nD Cert.ReferenceGW4096Ideal.τ).loc Cert.ReferenceGW4096Ideal.main_arg0)
          ∧ r.2.mem ((c.tc : Thread Cert.ReferenceGW4096Ideal.nD Cert.ReferenceGW4096Ideal.τ).loc Cert.ReferenceGW4096Ideal.main_arg1) = m' ((c.tc : Thread Cert.ReferenceGW4096Ideal.nD Cert.ReferenceGW4096Ideal.τ).loc Cert.ReferenceGW4096Ideal.main_arg1))

def preserves_KernelGW3072_KernelGW3072Ideal : Prop :=
  True

def algebraic_KernelGW3072Ideal_ReferenceGW3072Ideal [hKernelGW3072Ideal : Cert.KernelGW3072Ideal.Facts] [hReferenceGW3072Ideal : Cert.ReferenceGW3072Ideal.Facts] : Prop :=
  ∀ (m : (ℓ : Loc Cert.KernelGW3072Ideal.nD Cert.KernelGW3072Ideal.τ Cert.KernelGW3072Ideal.sig) → Buf (Elt Ideal) ℓ) (g : Dev Cert.KernelGW3072Ideal.nD → PrngReg)
    (m' : (ℓ : Loc Cert.ReferenceGW3072Ideal.nD Cert.ReferenceGW3072Ideal.τ Cert.ReferenceGW3072Ideal.sig) → Buf (Elt Ideal) ℓ) (g' : Dev Cert.ReferenceGW3072Ideal.nD → PrngReg), Pre_KernelGW3072Ideal m →
    (∀ c : Dev Cert.KernelGW3072Ideal.nD,
      m' ((c.tc : Thread Cert.ReferenceGW3072Ideal.nD Cert.ReferenceGW3072Ideal.τ).loc Cert.ReferenceGW3072Ideal.main_arg0) = m ((c.tc : Thread Cert.KernelGW3072Ideal.nD Cert.KernelGW3072Ideal.τ).loc Cert.KernelGW3072Ideal.main_arg0)
      ∧ m' ((c.tc : Thread Cert.ReferenceGW3072Ideal.nD Cert.ReferenceGW3072Ideal.τ).loc Cert.ReferenceGW3072Ideal.main_arg1) = m ((c.tc : Thread Cert.KernelGW3072Ideal.nD Cert.KernelGW3072Ideal.τ).loc Cert.KernelGW3072Ideal.main_arg1)) →
    ∃ (v0 : (c : Dev Cert.KernelGW3072Ideal.nD) → Buf (Elt Ideal) ((c.tc : Thread Cert.KernelGW3072Ideal.nD Cert.KernelGW3072Ideal.τ).loc Cert.KernelGW3072Ideal.main_v0)),
      θ_run (Cert.KernelGW3072Ideal.defs (F := Ideal)) (onTc (τ := Cert.KernelGW3072Ideal.τ) (Cert.KernelGW3072Ideal.main (F := Ideal))) ⟨m, fun _ => 0, g⟩ (fun r => ∀ c : Dev Cert.KernelGW3072Ideal.nD,
          r.2.mem ((c.tc : Thread Cert.KernelGW3072Ideal.nD Cert.KernelGW3072Ideal.τ).loc Cert.KernelGW3072Ideal.main_v0) = v0 c
          ∧ r.2.mem ((c.tc : Thread Cert.KernelGW3072Ideal.nD Cert.KernelGW3072Ideal.τ).loc Cert.KernelGW3072Ideal.main_arg0) = m ((c.tc : Thread Cert.KernelGW3072Ideal.nD Cert.KernelGW3072Ideal.τ).loc Cert.KernelGW3072Ideal.main_arg0)
          ∧ r.2.mem ((c.tc : Thread Cert.KernelGW3072Ideal.nD Cert.KernelGW3072Ideal.τ).loc Cert.KernelGW3072Ideal.main_arg1) = m ((c.tc : Thread Cert.KernelGW3072Ideal.nD Cert.KernelGW3072Ideal.τ).loc Cert.KernelGW3072Ideal.main_arg1))
      ∧ θ_run (Cert.ReferenceGW3072Ideal.defs (F := Ideal)) (onTc (τ := Cert.ReferenceGW3072Ideal.τ) (Cert.ReferenceGW3072Ideal.main (F := Ideal))) ⟨m', fun _ => 0, g'⟩ (fun r => ∀ c : Dev Cert.ReferenceGW3072Ideal.nD,
          r.2.mem ((c.tc : Thread Cert.ReferenceGW3072Ideal.nD Cert.ReferenceGW3072Ideal.τ).loc Cert.ReferenceGW3072Ideal.main_v6) = v0 c
          ∧ r.2.mem ((c.tc : Thread Cert.ReferenceGW3072Ideal.nD Cert.ReferenceGW3072Ideal.τ).loc Cert.ReferenceGW3072Ideal.main_arg0) = m' ((c.tc : Thread Cert.ReferenceGW3072Ideal.nD Cert.ReferenceGW3072Ideal.τ).loc Cert.ReferenceGW3072Ideal.main_arg0)
          ∧ r.2.mem ((c.tc : Thread Cert.ReferenceGW3072Ideal.nD Cert.ReferenceGW3072Ideal.τ).loc Cert.ReferenceGW3072Ideal.main_arg1) = m' ((c.tc : Thread Cert.ReferenceGW3072Ideal.nD Cert.ReferenceGW3072Ideal.τ).loc Cert.ReferenceGW3072Ideal.main_arg1))

def preserves_KernelGW128_KernelGW128Ideal : Prop :=
  True

def algebraic_KernelGW128Ideal_ReferenceGW128Ideal [hKernelGW128Ideal : Cert.KernelGW128Ideal.Facts] [hReferenceGW128Ideal : Cert.ReferenceGW128Ideal.Facts] : Prop :=
  ∀ (m : (ℓ : Loc Cert.KernelGW128Ideal.nD Cert.KernelGW128Ideal.τ Cert.KernelGW128Ideal.sig) → Buf (Elt Ideal) ℓ) (g : Dev Cert.KernelGW128Ideal.nD → PrngReg)
    (m' : (ℓ : Loc Cert.ReferenceGW128Ideal.nD Cert.ReferenceGW128Ideal.τ Cert.ReferenceGW128Ideal.sig) → Buf (Elt Ideal) ℓ) (g' : Dev Cert.ReferenceGW128Ideal.nD → PrngReg), Pre_KernelGW128Ideal m →
    (∀ c : Dev Cert.KernelGW128Ideal.nD,
      m' ((c.tc : Thread Cert.ReferenceGW128Ideal.nD Cert.ReferenceGW128Ideal.τ).loc Cert.ReferenceGW128Ideal.main_arg0) = m ((c.tc : Thread Cert.KernelGW128Ideal.nD Cert.KernelGW128Ideal.τ).loc Cert.KernelGW128Ideal.main_arg0)
      ∧ m' ((c.tc : Thread Cert.ReferenceGW128Ideal.nD Cert.ReferenceGW128Ideal.τ).loc Cert.ReferenceGW128Ideal.main_arg1) = m ((c.tc : Thread Cert.KernelGW128Ideal.nD Cert.KernelGW128Ideal.τ).loc Cert.KernelGW128Ideal.main_arg1)) →
    ∃ (v0 : (c : Dev Cert.KernelGW128Ideal.nD) → Buf (Elt Ideal) ((c.tc : Thread Cert.KernelGW128Ideal.nD Cert.KernelGW128Ideal.τ).loc Cert.KernelGW128Ideal.main_v0)),
      θ_run (Cert.KernelGW128Ideal.defs (F := Ideal)) (onTc (τ := Cert.KernelGW128Ideal.τ) (Cert.KernelGW128Ideal.main (F := Ideal))) ⟨m, fun _ => 0, g⟩ (fun r => ∀ c : Dev Cert.KernelGW128Ideal.nD,
          r.2.mem ((c.tc : Thread Cert.KernelGW128Ideal.nD Cert.KernelGW128Ideal.τ).loc Cert.KernelGW128Ideal.main_v0) = v0 c
          ∧ r.2.mem ((c.tc : Thread Cert.KernelGW128Ideal.nD Cert.KernelGW128Ideal.τ).loc Cert.KernelGW128Ideal.main_arg0) = m ((c.tc : Thread Cert.KernelGW128Ideal.nD Cert.KernelGW128Ideal.τ).loc Cert.KernelGW128Ideal.main_arg0)
          ∧ r.2.mem ((c.tc : Thread Cert.KernelGW128Ideal.nD Cert.KernelGW128Ideal.τ).loc Cert.KernelGW128Ideal.main_arg1) = m ((c.tc : Thread Cert.KernelGW128Ideal.nD Cert.KernelGW128Ideal.τ).loc Cert.KernelGW128Ideal.main_arg1))
      ∧ θ_run (Cert.ReferenceGW128Ideal.defs (F := Ideal)) (onTc (τ := Cert.ReferenceGW128Ideal.τ) (Cert.ReferenceGW128Ideal.main (F := Ideal))) ⟨m', fun _ => 0, g'⟩ (fun r => ∀ c : Dev Cert.ReferenceGW128Ideal.nD,
          r.2.mem ((c.tc : Thread Cert.ReferenceGW128Ideal.nD Cert.ReferenceGW128Ideal.τ).loc Cert.ReferenceGW128Ideal.main_v6) = v0 c
          ∧ r.2.mem ((c.tc : Thread Cert.ReferenceGW128Ideal.nD Cert.ReferenceGW128Ideal.τ).loc Cert.ReferenceGW128Ideal.main_arg0) = m' ((c.tc : Thread Cert.ReferenceGW128Ideal.nD Cert.ReferenceGW128Ideal.τ).loc Cert.ReferenceGW128Ideal.main_arg0)
          ∧ r.2.mem ((c.tc : Thread Cert.ReferenceGW128Ideal.nD Cert.ReferenceGW128Ideal.τ).loc Cert.ReferenceGW128Ideal.main_arg1) = m' ((c.tc : Thread Cert.ReferenceGW128Ideal.nD Cert.ReferenceGW128Ideal.τ).loc Cert.ReferenceGW128Ideal.main_arg1))

def preserves_KernelGUp_KernelGUpIdeal : Prop :=
  True

def algebraic_KernelGUpIdeal_ReferenceGUpIdeal [hKernelGUpIdeal : Cert.KernelGUpIdeal.Facts] [hReferenceGUpIdeal : Cert.ReferenceGUpIdeal.Facts] : Prop :=
  ∀ (m : (ℓ : Loc Cert.KernelGUpIdeal.nD Cert.KernelGUpIdeal.τ Cert.KernelGUpIdeal.sig) → Buf (Elt Ideal) ℓ) (g : Dev Cert.KernelGUpIdeal.nD → PrngReg)
    (m' : (ℓ : Loc Cert.ReferenceGUpIdeal.nD Cert.ReferenceGUpIdeal.τ Cert.ReferenceGUpIdeal.sig) → Buf (Elt Ideal) ℓ) (g' : Dev Cert.ReferenceGUpIdeal.nD → PrngReg), Pre_KernelGUpIdeal m →
    (∀ c : Dev Cert.KernelGUpIdeal.nD,
      m' ((c.tc : Thread Cert.ReferenceGUpIdeal.nD Cert.ReferenceGUpIdeal.τ).loc Cert.ReferenceGUpIdeal.main_arg0) = m ((c.tc : Thread Cert.KernelGUpIdeal.nD Cert.KernelGUpIdeal.τ).loc Cert.KernelGUpIdeal.main_arg0)
      ∧ m' ((c.tc : Thread Cert.ReferenceGUpIdeal.nD Cert.ReferenceGUpIdeal.τ).loc Cert.ReferenceGUpIdeal.main_arg1) = m ((c.tc : Thread Cert.KernelGUpIdeal.nD Cert.KernelGUpIdeal.τ).loc Cert.KernelGUpIdeal.main_arg1)) →
    ∃ (v0 : (c : Dev Cert.KernelGUpIdeal.nD) → Buf (Elt Ideal) ((c.tc : Thread Cert.KernelGUpIdeal.nD Cert.KernelGUpIdeal.τ).loc Cert.KernelGUpIdeal.main_v0)),
      θ_run (Cert.KernelGUpIdeal.defs (F := Ideal)) (onTc (τ := Cert.KernelGUpIdeal.τ) (Cert.KernelGUpIdeal.main (F := Ideal))) ⟨m, fun _ => 0, g⟩ (fun r => ∀ c : Dev Cert.KernelGUpIdeal.nD,
          r.2.mem ((c.tc : Thread Cert.KernelGUpIdeal.nD Cert.KernelGUpIdeal.τ).loc Cert.KernelGUpIdeal.main_v0) = v0 c
          ∧ r.2.mem ((c.tc : Thread Cert.KernelGUpIdeal.nD Cert.KernelGUpIdeal.τ).loc Cert.KernelGUpIdeal.main_arg0) = m ((c.tc : Thread Cert.KernelGUpIdeal.nD Cert.KernelGUpIdeal.τ).loc Cert.KernelGUpIdeal.main_arg0)
          ∧ r.2.mem ((c.tc : Thread Cert.KernelGUpIdeal.nD Cert.KernelGUpIdeal.τ).loc Cert.KernelGUpIdeal.main_arg1) = m ((c.tc : Thread Cert.KernelGUpIdeal.nD Cert.KernelGUpIdeal.τ).loc Cert.KernelGUpIdeal.main_arg1))
      ∧ θ_run (Cert.ReferenceGUpIdeal.defs (F := Ideal)) (onTc (τ := Cert.ReferenceGUpIdeal.τ) (Cert.ReferenceGUpIdeal.main (F := Ideal))) ⟨m', fun _ => 0, g'⟩ (fun r => ∀ c : Dev Cert.ReferenceGUpIdeal.nD,
          r.2.mem ((c.tc : Thread Cert.ReferenceGUpIdeal.nD Cert.ReferenceGUpIdeal.τ).loc Cert.ReferenceGUpIdeal.main_v5) = v0 c
          ∧ r.2.mem ((c.tc : Thread Cert.ReferenceGUpIdeal.nD Cert.ReferenceGUpIdeal.τ).loc Cert.ReferenceGUpIdeal.main_arg0) = m' ((c.tc : Thread Cert.ReferenceGUpIdeal.nD Cert.ReferenceGUpIdeal.τ).loc Cert.ReferenceGUpIdeal.main_arg0)
          ∧ r.2.mem ((c.tc : Thread Cert.ReferenceGUpIdeal.nD Cert.ReferenceGUpIdeal.τ).loc Cert.ReferenceGUpIdeal.main_arg1) = m' ((c.tc : Thread Cert.ReferenceGUpIdeal.nD Cert.ReferenceGUpIdeal.τ).loc Cert.ReferenceGUpIdeal.main_arg1))

def preserves_KernelDU2_KernelDU2Ideal : Prop :=
  True

def algebraic_KernelDU2Ideal_ReferenceDU2Ideal [hKernelDU2Ideal : Cert.KernelDU2Ideal.Facts] [hReferenceDU2Ideal : Cert.ReferenceDU2Ideal.Facts] : Prop :=
  ∀ (m : (ℓ : Loc Cert.KernelDU2Ideal.nD Cert.KernelDU2Ideal.τ Cert.KernelDU2Ideal.sig) → Buf (Elt Ideal) ℓ) (g : Dev Cert.KernelDU2Ideal.nD → PrngReg)
    (m' : (ℓ : Loc Cert.ReferenceDU2Ideal.nD Cert.ReferenceDU2Ideal.τ Cert.ReferenceDU2Ideal.sig) → Buf (Elt Ideal) ℓ) (g' : Dev Cert.ReferenceDU2Ideal.nD → PrngReg), Pre_KernelDU2Ideal m →
    (∀ c : Dev Cert.KernelDU2Ideal.nD,
      m' ((c.tc : Thread Cert.ReferenceDU2Ideal.nD Cert.ReferenceDU2Ideal.τ).loc Cert.ReferenceDU2Ideal.main_arg0) = m ((c.tc : Thread Cert.KernelDU2Ideal.nD Cert.KernelDU2Ideal.τ).loc Cert.KernelDU2Ideal.main_arg0)
      ∧ m' ((c.tc : Thread Cert.ReferenceDU2Ideal.nD Cert.ReferenceDU2Ideal.τ).loc Cert.ReferenceDU2Ideal.main_arg1) = m ((c.tc : Thread Cert.KernelDU2Ideal.nD Cert.KernelDU2Ideal.τ).loc Cert.KernelDU2Ideal.main_arg1)) →
    ∃ (v0 : (c : Dev Cert.KernelDU2Ideal.nD) → Buf (Elt Ideal) ((c.tc : Thread Cert.KernelDU2Ideal.nD Cert.KernelDU2Ideal.τ).loc Cert.KernelDU2Ideal.main_v2)),
      θ_run (Cert.KernelDU2Ideal.defs (F := Ideal)) (onTc (τ := Cert.KernelDU2Ideal.τ) (Cert.KernelDU2Ideal.main (F := Ideal))) ⟨m, fun _ => 0, g⟩ (fun r => ∀ c : Dev Cert.KernelDU2Ideal.nD,
          r.2.mem ((c.tc : Thread Cert.KernelDU2Ideal.nD Cert.KernelDU2Ideal.τ).loc Cert.KernelDU2Ideal.main_v2) = v0 c
          ∧ r.2.mem ((c.tc : Thread Cert.KernelDU2Ideal.nD Cert.KernelDU2Ideal.τ).loc Cert.KernelDU2Ideal.main_arg0) = m ((c.tc : Thread Cert.KernelDU2Ideal.nD Cert.KernelDU2Ideal.τ).loc Cert.KernelDU2Ideal.main_arg0)
          ∧ r.2.mem ((c.tc : Thread Cert.KernelDU2Ideal.nD Cert.KernelDU2Ideal.τ).loc Cert.KernelDU2Ideal.main_arg1) = m ((c.tc : Thread Cert.KernelDU2Ideal.nD Cert.KernelDU2Ideal.τ).loc Cert.KernelDU2Ideal.main_arg1))
      ∧ θ_run (Cert.ReferenceDU2Ideal.defs (F := Ideal)) (onTc (τ := Cert.ReferenceDU2Ideal.τ) (Cert.ReferenceDU2Ideal.main (F := Ideal))) ⟨m', fun _ => 0, g'⟩ (fun r => ∀ c : Dev Cert.ReferenceDU2Ideal.nD,
          r.2.mem ((c.tc : Thread Cert.ReferenceDU2Ideal.nD Cert.ReferenceDU2Ideal.τ).loc Cert.ReferenceDU2Ideal.main_v4) = v0 c
          ∧ r.2.mem ((c.tc : Thread Cert.ReferenceDU2Ideal.nD Cert.ReferenceDU2Ideal.τ).loc Cert.ReferenceDU2Ideal.main_arg0) = m' ((c.tc : Thread Cert.ReferenceDU2Ideal.nD Cert.ReferenceDU2Ideal.τ).loc Cert.ReferenceDU2Ideal.main_arg0)
          ∧ r.2.mem ((c.tc : Thread Cert.ReferenceDU2Ideal.nD Cert.ReferenceDU2Ideal.τ).loc Cert.ReferenceDU2Ideal.main_arg1) = m' ((c.tc : Thread Cert.ReferenceDU2Ideal.nD Cert.ReferenceDU2Ideal.τ).loc Cert.ReferenceDU2Ideal.main_arg1))

def preserves_KernelDU2v_KernelDU2vIdeal : Prop :=
  True

def algebraic_KernelDU2vIdeal_ReferenceDU2vIdeal [hKernelDU2vIdeal : Cert.KernelDU2vIdeal.Facts] [hReferenceDU2vIdeal : Cert.ReferenceDU2vIdeal.Facts] : Prop :=
  ∀ (m : (ℓ : Loc Cert.KernelDU2vIdeal.nD Cert.KernelDU2vIdeal.τ Cert.KernelDU2vIdeal.sig) → Buf (Elt Ideal) ℓ) (g : Dev Cert.KernelDU2vIdeal.nD → PrngReg)
    (m' : (ℓ : Loc Cert.ReferenceDU2vIdeal.nD Cert.ReferenceDU2vIdeal.τ Cert.ReferenceDU2vIdeal.sig) → Buf (Elt Ideal) ℓ) (g' : Dev Cert.ReferenceDU2vIdeal.nD → PrngReg), Pre_KernelDU2vIdeal m →
    (∀ c : Dev Cert.KernelDU2vIdeal.nD,
      m' ((c.tc : Thread Cert.ReferenceDU2vIdeal.nD Cert.ReferenceDU2vIdeal.τ).loc Cert.ReferenceDU2vIdeal.main_arg0) = m ((c.tc : Thread Cert.KernelDU2vIdeal.nD Cert.KernelDU2vIdeal.τ).loc Cert.KernelDU2vIdeal.main_arg0)
      ∧ m' ((c.tc : Thread Cert.ReferenceDU2vIdeal.nD Cert.ReferenceDU2vIdeal.τ).loc Cert.ReferenceDU2vIdeal.main_arg1) = m ((c.tc : Thread Cert.KernelDU2vIdeal.nD Cert.KernelDU2vIdeal.τ).loc Cert.KernelDU2vIdeal.main_arg1)
      ∧ m' ((c.tc : Thread Cert.ReferenceDU2vIdeal.nD Cert.ReferenceDU2vIdeal.τ).loc Cert.ReferenceDU2vIdeal.main_arg2) = m ((c.tc : Thread Cert.KernelDU2vIdeal.nD Cert.KernelDU2vIdeal.τ).loc Cert.KernelDU2vIdeal.main_arg2)) →
    ∃ (v0 : (c : Dev Cert.KernelDU2vIdeal.nD) → Buf (Elt Ideal) ((c.tc : Thread Cert.KernelDU2vIdeal.nD Cert.KernelDU2vIdeal.τ).loc Cert.KernelDU2vIdeal.main_v2)),
      θ_run (Cert.KernelDU2vIdeal.defs (F := Ideal)) (onTc (τ := Cert.KernelDU2vIdeal.τ) (Cert.KernelDU2vIdeal.main (F := Ideal))) ⟨m, fun _ => 0, g⟩ (fun r => ∀ c : Dev Cert.KernelDU2vIdeal.nD,
          r.2.mem ((c.tc : Thread Cert.KernelDU2vIdeal.nD Cert.KernelDU2vIdeal.τ).loc Cert.KernelDU2vIdeal.main_v2) = v0 c
          ∧ r.2.mem ((c.tc : Thread Cert.KernelDU2vIdeal.nD Cert.KernelDU2vIdeal.τ).loc Cert.KernelDU2vIdeal.main_arg0) = m ((c.tc : Thread Cert.KernelDU2vIdeal.nD Cert.KernelDU2vIdeal.τ).loc Cert.KernelDU2vIdeal.main_arg0)
          ∧ r.2.mem ((c.tc : Thread Cert.KernelDU2vIdeal.nD Cert.KernelDU2vIdeal.τ).loc Cert.KernelDU2vIdeal.main_arg1) = m ((c.tc : Thread Cert.KernelDU2vIdeal.nD Cert.KernelDU2vIdeal.τ).loc Cert.KernelDU2vIdeal.main_arg1)
          ∧ r.2.mem ((c.tc : Thread Cert.KernelDU2vIdeal.nD Cert.KernelDU2vIdeal.τ).loc Cert.KernelDU2vIdeal.main_arg2) = m ((c.tc : Thread Cert.KernelDU2vIdeal.nD Cert.KernelDU2vIdeal.τ).loc Cert.KernelDU2vIdeal.main_arg2))
      ∧ θ_run (Cert.ReferenceDU2vIdeal.defs (F := Ideal)) (onTc (τ := Cert.ReferenceDU2vIdeal.τ) (Cert.ReferenceDU2vIdeal.main (F := Ideal))) ⟨m', fun _ => 0, g'⟩ (fun r => ∀ c : Dev Cert.ReferenceDU2vIdeal.nD,
          r.2.mem ((c.tc : Thread Cert.ReferenceDU2vIdeal.nD Cert.ReferenceDU2vIdeal.τ).loc Cert.ReferenceDU2vIdeal.main_v5) = v0 c
          ∧ r.2.mem ((c.tc : Thread Cert.ReferenceDU2vIdeal.nD Cert.ReferenceDU2vIdeal.τ).loc Cert.ReferenceDU2vIdeal.main_arg0) = m' ((c.tc : Thread Cert.ReferenceDU2vIdeal.nD Cert.ReferenceDU2vIdeal.τ).loc Cert.ReferenceDU2vIdeal.main_arg0)
          ∧ r.2.mem ((c.tc : Thread Cert.ReferenceDU2vIdeal.nD Cert.ReferenceDU2vIdeal.τ).loc Cert.ReferenceDU2vIdeal.main_arg1) = m' ((c.tc : Thread Cert.ReferenceDU2vIdeal.nD Cert.ReferenceDU2vIdeal.τ).loc Cert.ReferenceDU2vIdeal.main_arg1)
          ∧ r.2.mem ((c.tc : Thread Cert.ReferenceDU2vIdeal.nD Cert.ReferenceDU2vIdeal.τ).loc Cert.ReferenceDU2vIdeal.main_arg2) = m' ((c.tc : Thread Cert.ReferenceDU2vIdeal.nD Cert.ReferenceDU2vIdeal.τ).loc Cert.ReferenceDU2vIdeal.main_arg2))

def preserves_KernelDAct_KernelDActIdeal : Prop :=
  True

def algebraic_KernelDActIdeal_ReferenceDActIdeal [hKernelDActIdeal : Cert.KernelDActIdeal.Facts] [hReferenceDActIdeal : Cert.ReferenceDActIdeal.Facts] : Prop :=
  ∀ (m : (ℓ : Loc Cert.KernelDActIdeal.nD Cert.KernelDActIdeal.τ Cert.KernelDActIdeal.sig) → Buf (Elt Ideal) ℓ) (g : Dev Cert.KernelDActIdeal.nD → PrngReg)
    (m' : (ℓ : Loc Cert.ReferenceDActIdeal.nD Cert.ReferenceDActIdeal.τ Cert.ReferenceDActIdeal.sig) → Buf (Elt Ideal) ℓ) (g' : Dev Cert.ReferenceDActIdeal.nD → PrngReg), Pre_KernelDActIdeal m →
    (∀ c : Dev Cert.KernelDActIdeal.nD,
      m' ((c.tc : Thread Cert.ReferenceDActIdeal.nD Cert.ReferenceDActIdeal.τ).loc Cert.ReferenceDActIdeal.main_arg0) = m ((c.tc : Thread Cert.KernelDActIdeal.nD Cert.KernelDActIdeal.τ).loc Cert.KernelDActIdeal.main_arg0)
      ∧ m' ((c.tc : Thread Cert.ReferenceDActIdeal.nD Cert.ReferenceDActIdeal.τ).loc Cert.ReferenceDActIdeal.main_arg1) = m ((c.tc : Thread Cert.KernelDActIdeal.nD Cert.KernelDActIdeal.τ).loc Cert.KernelDActIdeal.main_arg1)) →
    ∃ (v0 : (c : Dev Cert.KernelDActIdeal.nD) → Buf (Elt Ideal) ((c.tc : Thread Cert.KernelDActIdeal.nD Cert.KernelDActIdeal.τ).loc Cert.KernelDActIdeal.main_v1)),
      θ_run (Cert.KernelDActIdeal.defs (F := Ideal)) (onTc (τ := Cert.KernelDActIdeal.τ) (Cert.KernelDActIdeal.main (F := Ideal))) ⟨m, fun _ => 0, g⟩ (fun r => ∀ c : Dev Cert.KernelDActIdeal.nD,
          r.2.mem ((c.tc : Thread Cert.KernelDActIdeal.nD Cert.KernelDActIdeal.τ).loc Cert.KernelDActIdeal.main_v1) = v0 c
          ∧ r.2.mem ((c.tc : Thread Cert.KernelDActIdeal.nD Cert.KernelDActIdeal.τ).loc Cert.KernelDActIdeal.main_arg0) = m ((c.tc : Thread Cert.KernelDActIdeal.nD Cert.KernelDActIdeal.τ).loc Cert.KernelDActIdeal.main_arg0)
          ∧ r.2.mem ((c.tc : Thread Cert.KernelDActIdeal.nD Cert.KernelDActIdeal.τ).loc Cert.KernelDActIdeal.main_arg1) = m ((c.tc : Thread Cert.KernelDActIdeal.nD Cert.KernelDActIdeal.τ).loc Cert.KernelDActIdeal.main_arg1))
      ∧ θ_run (Cert.ReferenceDActIdeal.defs (F := Ideal)) (onTc (τ := Cert.ReferenceDActIdeal.τ) (Cert.ReferenceDActIdeal.main (F := Ideal))) ⟨m', fun _ => 0, g'⟩ (fun r => ∀ c : Dev Cert.ReferenceDActIdeal.nD,
          r.2.mem ((c.tc : Thread Cert.ReferenceDActIdeal.nD Cert.ReferenceDActIdeal.τ).loc Cert.ReferenceDActIdeal.main_v2) = v0 c
          ∧ r.2.mem ((c.tc : Thread Cert.ReferenceDActIdeal.nD Cert.ReferenceDActIdeal.τ).loc Cert.ReferenceDActIdeal.main_arg0) = m' ((c.tc : Thread Cert.ReferenceDActIdeal.nD Cert.ReferenceDActIdeal.τ).loc Cert.ReferenceDActIdeal.main_arg0)
          ∧ r.2.mem ((c.tc : Thread Cert.ReferenceDActIdeal.nD Cert.ReferenceDActIdeal.τ).loc Cert.ReferenceDActIdeal.main_arg1) = m' ((c.tc : Thread Cert.ReferenceDActIdeal.nD Cert.ReferenceDActIdeal.τ).loc Cert.ReferenceDActIdeal.main_arg1))

def preserves_KernelGDown_KernelGDownIdeal : Prop :=
  True

def algebraic_KernelGDownIdeal_ReferenceGDownIdeal [hKernelGDownIdeal : Cert.KernelGDownIdeal.Facts] [hReferenceGDownIdeal : Cert.ReferenceGDownIdeal.Facts] : Prop :=
  ∀ (m : (ℓ : Loc Cert.KernelGDownIdeal.nD Cert.KernelGDownIdeal.τ Cert.KernelGDownIdeal.sig) → Buf (Elt Ideal) ℓ) (g : Dev Cert.KernelGDownIdeal.nD → PrngReg)
    (m' : (ℓ : Loc Cert.ReferenceGDownIdeal.nD Cert.ReferenceGDownIdeal.τ Cert.ReferenceGDownIdeal.sig) → Buf (Elt Ideal) ℓ) (g' : Dev Cert.ReferenceGDownIdeal.nD → PrngReg), Pre_KernelGDownIdeal m →
    (∀ c : Dev Cert.KernelGDownIdeal.nD,
      m' ((c.tc : Thread Cert.ReferenceGDownIdeal.nD Cert.ReferenceGDownIdeal.τ).loc Cert.ReferenceGDownIdeal.main_arg0) = m ((c.tc : Thread Cert.KernelGDownIdeal.nD Cert.KernelGDownIdeal.τ).loc Cert.KernelGDownIdeal.main_arg0)
      ∧ m' ((c.tc : Thread Cert.ReferenceGDownIdeal.nD Cert.ReferenceGDownIdeal.τ).loc Cert.ReferenceGDownIdeal.main_arg1) = m ((c.tc : Thread Cert.KernelGDownIdeal.nD Cert.KernelGDownIdeal.τ).loc Cert.KernelGDownIdeal.main_arg1)) →
    ∃ (v0 : (c : Dev Cert.KernelGDownIdeal.nD) → Buf (Elt Ideal) ((c.tc : Thread Cert.KernelGDownIdeal.nD Cert.KernelGDownIdeal.τ).loc Cert.KernelGDownIdeal.main_v0)),
      θ_run (Cert.KernelGDownIdeal.defs (F := Ideal)) (onTc (τ := Cert.KernelGDownIdeal.τ) (Cert.KernelGDownIdeal.main (F := Ideal))) ⟨m, fun _ => 0, g⟩ (fun r => ∀ c : Dev Cert.KernelGDownIdeal.nD,
          r.2.mem ((c.tc : Thread Cert.KernelGDownIdeal.nD Cert.KernelGDownIdeal.τ).loc Cert.KernelGDownIdeal.main_v0) = v0 c
          ∧ r.2.mem ((c.tc : Thread Cert.KernelGDownIdeal.nD Cert.KernelGDownIdeal.τ).loc Cert.KernelGDownIdeal.main_arg0) = m ((c.tc : Thread Cert.KernelGDownIdeal.nD Cert.KernelGDownIdeal.τ).loc Cert.KernelGDownIdeal.main_arg0)
          ∧ r.2.mem ((c.tc : Thread Cert.KernelGDownIdeal.nD Cert.KernelGDownIdeal.τ).loc Cert.KernelGDownIdeal.main_arg1) = m ((c.tc : Thread Cert.KernelGDownIdeal.nD Cert.KernelGDownIdeal.τ).loc Cert.KernelGDownIdeal.main_arg1))
      ∧ θ_run (Cert.ReferenceGDownIdeal.defs (F := Ideal)) (onTc (τ := Cert.ReferenceGDownIdeal.τ) (Cert.ReferenceGDownIdeal.main (F := Ideal))) ⟨m', fun _ => 0, g'⟩ (fun r => ∀ c : Dev Cert.ReferenceGDownIdeal.nD,
          r.2.mem ((c.tc : Thread Cert.ReferenceGDownIdeal.nD Cert.ReferenceGDownIdeal.τ).loc Cert.ReferenceGDownIdeal.main_v4) = v0 c
          ∧ r.2.mem ((c.tc : Thread Cert.ReferenceGDownIdeal.nD Cert.ReferenceGDownIdeal.τ).loc Cert.ReferenceGDownIdeal.main_arg0) = m' ((c.tc : Thread Cert.ReferenceGDownIdeal.nD Cert.ReferenceGDownIdeal.τ).loc Cert.ReferenceGDownIdeal.main_arg0)
          ∧ r.2.mem ((c.tc : Thread Cert.ReferenceGDownIdeal.nD Cert.ReferenceGDownIdeal.τ).loc Cert.ReferenceGDownIdeal.main_arg1) = m' ((c.tc : Thread Cert.ReferenceGDownIdeal.nD Cert.ReferenceGDownIdeal.τ).loc Cert.ReferenceGDownIdeal.main_arg1))

def preserves_KernelDY_KernelDYIdeal : Prop :=
  True

def algebraic_KernelDYIdeal_ReferenceDYIdeal [hKernelDYIdeal : Cert.KernelDYIdeal.Facts] [hReferenceDYIdeal : Cert.ReferenceDYIdeal.Facts] : Prop :=
  ∀ (m : (ℓ : Loc Cert.KernelDYIdeal.nD Cert.KernelDYIdeal.τ Cert.KernelDYIdeal.sig) → Buf (Elt Ideal) ℓ) (g : Dev Cert.KernelDYIdeal.nD → PrngReg)
    (m' : (ℓ : Loc Cert.ReferenceDYIdeal.nD Cert.ReferenceDYIdeal.τ Cert.ReferenceDYIdeal.sig) → Buf (Elt Ideal) ℓ) (g' : Dev Cert.ReferenceDYIdeal.nD → PrngReg), Pre_KernelDYIdeal m →
    (∀ c : Dev Cert.KernelDYIdeal.nD,
      m' ((c.tc : Thread Cert.ReferenceDYIdeal.nD Cert.ReferenceDYIdeal.τ).loc Cert.ReferenceDYIdeal.main_arg0) = m ((c.tc : Thread Cert.KernelDYIdeal.nD Cert.KernelDYIdeal.τ).loc Cert.KernelDYIdeal.main_arg0)
      ∧ m' ((c.tc : Thread Cert.ReferenceDYIdeal.nD Cert.ReferenceDYIdeal.τ).loc Cert.ReferenceDYIdeal.main_arg1) = m ((c.tc : Thread Cert.KernelDYIdeal.nD Cert.KernelDYIdeal.τ).loc Cert.KernelDYIdeal.main_arg1)) →
    ∃ (v0 : (c : Dev Cert.KernelDYIdeal.nD) → Buf (Elt Ideal) ((c.tc : Thread Cert.KernelDYIdeal.nD Cert.KernelDYIdeal.τ).loc Cert.KernelDYIdeal.main_v1)),
      θ_run (Cert.KernelDYIdeal.defs (F := Ideal)) (onTc (τ := Cert.KernelDYIdeal.τ) (Cert.KernelDYIdeal.main (F := Ideal))) ⟨m, fun _ => 0, g⟩ (fun r => ∀ c : Dev Cert.KernelDYIdeal.nD,
          r.2.mem ((c.tc : Thread Cert.KernelDYIdeal.nD Cert.KernelDYIdeal.τ).loc Cert.KernelDYIdeal.main_v1) = v0 c
          ∧ r.2.mem ((c.tc : Thread Cert.KernelDYIdeal.nD Cert.KernelDYIdeal.τ).loc Cert.KernelDYIdeal.main_arg0) = m ((c.tc : Thread Cert.KernelDYIdeal.nD Cert.KernelDYIdeal.τ).loc Cert.KernelDYIdeal.main_arg0)
          ∧ r.2.mem ((c.tc : Thread Cert.KernelDYIdeal.nD Cert.KernelDYIdeal.τ).loc Cert.KernelDYIdeal.main_arg1) = m ((c.tc : Thread Cert.KernelDYIdeal.nD Cert.KernelDYIdeal.τ).loc Cert.KernelDYIdeal.main_arg1))
      ∧ θ_run (Cert.ReferenceDYIdeal.defs (F := Ideal)) (onTc (τ := Cert.ReferenceDYIdeal.τ) (Cert.ReferenceDYIdeal.main (F := Ideal))) ⟨m', fun _ => 0, g'⟩ (fun r => ∀ c : Dev Cert.ReferenceDYIdeal.nD,
          r.2.mem ((c.tc : Thread Cert.ReferenceDYIdeal.nD Cert.ReferenceDYIdeal.τ).loc Cert.ReferenceDYIdeal.main_v3) = v0 c
          ∧ r.2.mem ((c.tc : Thread Cert.ReferenceDYIdeal.nD Cert.ReferenceDYIdeal.τ).loc Cert.ReferenceDYIdeal.main_arg0) = m' ((c.tc : Thread Cert.ReferenceDYIdeal.nD Cert.ReferenceDYIdeal.τ).loc Cert.ReferenceDYIdeal.main_arg0)
          ∧ r.2.mem ((c.tc : Thread Cert.ReferenceDYIdeal.nD Cert.ReferenceDYIdeal.τ).loc Cert.ReferenceDYIdeal.main_arg1) = m' ((c.tc : Thread Cert.ReferenceDYIdeal.nD Cert.ReferenceDYIdeal.τ).loc Cert.ReferenceDYIdeal.main_arg1))

def preserves_KernelGBranch_KernelGBranchIdeal : Prop :=
  True

def algebraic_KernelGBranchIdeal_ReferenceGBranchIdeal [hKernelGBranchIdeal : Cert.KernelGBranchIdeal.Facts] [hReferenceGBranchIdeal : Cert.ReferenceGBranchIdeal.Facts] : Prop :=
  ∀ (m : (ℓ : Loc Cert.KernelGBranchIdeal.nD Cert.KernelGBranchIdeal.τ Cert.KernelGBranchIdeal.sig) → Buf (Elt Ideal) ℓ) (g : Dev Cert.KernelGBranchIdeal.nD → PrngReg)
    (m' : (ℓ : Loc Cert.ReferenceGBranchIdeal.nD Cert.ReferenceGBranchIdeal.τ Cert.ReferenceGBranchIdeal.sig) → Buf (Elt Ideal) ℓ) (g' : Dev Cert.ReferenceGBranchIdeal.nD → PrngReg), Pre_KernelGBranchIdeal m →
    (∀ c : Dev Cert.KernelGBranchIdeal.nD,
      m' ((c.tc : Thread Cert.ReferenceGBranchIdeal.nD Cert.ReferenceGBranchIdeal.τ).loc Cert.ReferenceGBranchIdeal.main_arg0) = m ((c.tc : Thread Cert.KernelGBranchIdeal.nD Cert.KernelGBranchIdeal.τ).loc Cert.KernelGBranchIdeal.main_arg0)
      ∧ m' ((c.tc : Thread Cert.ReferenceGBranchIdeal.nD Cert.ReferenceGBranchIdeal.τ).loc Cert.ReferenceGBranchIdeal.main_arg1) = m ((c.tc : Thread Cert.KernelGBranchIdeal.nD Cert.KernelGBranchIdeal.τ).loc Cert.KernelGBranchIdeal.main_arg1)) →
    ∃ (v0 : (c : Dev Cert.KernelGBranchIdeal.nD) → Buf (Elt Ideal) ((c.tc : Thread Cert.KernelGBranchIdeal.nD Cert.KernelGBranchIdeal.τ).loc Cert.KernelGBranchIdeal.main_v0)),
      θ_run (Cert.KernelGBranchIdeal.defs (F := Ideal)) (onTc (τ := Cert.KernelGBranchIdeal.τ) (Cert.KernelGBranchIdeal.main (F := Ideal))) ⟨m, fun _ => 0, g⟩ (fun r => ∀ c : Dev Cert.KernelGBranchIdeal.nD,
          r.2.mem ((c.tc : Thread Cert.KernelGBranchIdeal.nD Cert.KernelGBranchIdeal.τ).loc Cert.KernelGBranchIdeal.main_v0) = v0 c
          ∧ r.2.mem ((c.tc : Thread Cert.KernelGBranchIdeal.nD Cert.KernelGBranchIdeal.τ).loc Cert.KernelGBranchIdeal.main_arg0) = m ((c.tc : Thread Cert.KernelGBranchIdeal.nD Cert.KernelGBranchIdeal.τ).loc Cert.KernelGBranchIdeal.main_arg0)
          ∧ r.2.mem ((c.tc : Thread Cert.KernelGBranchIdeal.nD Cert.KernelGBranchIdeal.τ).loc Cert.KernelGBranchIdeal.main_arg1) = m ((c.tc : Thread Cert.KernelGBranchIdeal.nD Cert.KernelGBranchIdeal.τ).loc Cert.KernelGBranchIdeal.main_arg1))
      ∧ θ_run (Cert.ReferenceGBranchIdeal.defs (F := Ideal)) (onTc (τ := Cert.ReferenceGBranchIdeal.τ) (Cert.ReferenceGBranchIdeal.main (F := Ideal))) ⟨m', fun _ => 0, g'⟩ (fun r => ∀ c : Dev Cert.ReferenceGBranchIdeal.nD,
          r.2.mem ((c.tc : Thread Cert.ReferenceGBranchIdeal.nD Cert.ReferenceGBranchIdeal.τ).loc Cert.ReferenceGBranchIdeal.main_v5) = v0 c
          ∧ r.2.mem ((c.tc : Thread Cert.ReferenceGBranchIdeal.nD Cert.ReferenceGBranchIdeal.τ).loc Cert.ReferenceGBranchIdeal.main_arg0) = m' ((c.tc : Thread Cert.ReferenceGBranchIdeal.nD Cert.ReferenceGBranchIdeal.τ).loc Cert.ReferenceGBranchIdeal.main_arg0)
          ∧ r.2.mem ((c.tc : Thread Cert.ReferenceGBranchIdeal.nD Cert.ReferenceGBranchIdeal.τ).loc Cert.ReferenceGBranchIdeal.main_arg1) = m' ((c.tc : Thread Cert.ReferenceGBranchIdeal.nD Cert.ReferenceGBranchIdeal.τ).loc Cert.ReferenceGBranchIdeal.main_arg1))

def preserves_KernelDMerged_KernelDMergedIdeal : Prop :=
  True

def algebraic_KernelDMergedIdeal_ReferenceDMergedIdeal [hKernelDMergedIdeal : Cert.KernelDMergedIdeal.Facts] [hReferenceDMergedIdeal : Cert.ReferenceDMergedIdeal.Facts] : Prop :=
  ∀ (m : (ℓ : Loc Cert.KernelDMergedIdeal.nD Cert.KernelDMergedIdeal.τ Cert.KernelDMergedIdeal.sig) → Buf (Elt Ideal) ℓ) (g : Dev Cert.KernelDMergedIdeal.nD → PrngReg)
    (m' : (ℓ : Loc Cert.ReferenceDMergedIdeal.nD Cert.ReferenceDMergedIdeal.τ Cert.ReferenceDMergedIdeal.sig) → Buf (Elt Ideal) ℓ) (g' : Dev Cert.ReferenceDMergedIdeal.nD → PrngReg), Pre_KernelDMergedIdeal m →
    (∀ c : Dev Cert.KernelDMergedIdeal.nD,
      m' ((c.tc : Thread Cert.ReferenceDMergedIdeal.nD Cert.ReferenceDMergedIdeal.τ).loc Cert.ReferenceDMergedIdeal.main_arg0) = m ((c.tc : Thread Cert.KernelDMergedIdeal.nD Cert.KernelDMergedIdeal.τ).loc Cert.KernelDMergedIdeal.main_arg0)
      ∧ m' ((c.tc : Thread Cert.ReferenceDMergedIdeal.nD Cert.ReferenceDMergedIdeal.τ).loc Cert.ReferenceDMergedIdeal.main_arg1) = m ((c.tc : Thread Cert.KernelDMergedIdeal.nD Cert.KernelDMergedIdeal.τ).loc Cert.KernelDMergedIdeal.main_arg1)) →
    ∃ (v0 : (c : Dev Cert.KernelDMergedIdeal.nD) → Buf (Elt Ideal) ((c.tc : Thread Cert.KernelDMergedIdeal.nD Cert.KernelDMergedIdeal.τ).loc Cert.KernelDMergedIdeal.main_v1)),
      θ_run (Cert.KernelDMergedIdeal.defs (F := Ideal)) (onTc (τ := Cert.KernelDMergedIdeal.τ) (Cert.KernelDMergedIdeal.main (F := Ideal))) ⟨m, fun _ => 0, g⟩ (fun r => ∀ c : Dev Cert.KernelDMergedIdeal.nD,
          r.2.mem ((c.tc : Thread Cert.KernelDMergedIdeal.nD Cert.KernelDMergedIdeal.τ).loc Cert.KernelDMergedIdeal.main_v1) = v0 c
          ∧ r.2.mem ((c.tc : Thread Cert.KernelDMergedIdeal.nD Cert.KernelDMergedIdeal.τ).loc Cert.KernelDMergedIdeal.main_arg0) = m ((c.tc : Thread Cert.KernelDMergedIdeal.nD Cert.KernelDMergedIdeal.τ).loc Cert.KernelDMergedIdeal.main_arg0)
          ∧ r.2.mem ((c.tc : Thread Cert.KernelDMergedIdeal.nD Cert.KernelDMergedIdeal.τ).loc Cert.KernelDMergedIdeal.main_arg1) = m ((c.tc : Thread Cert.KernelDMergedIdeal.nD Cert.KernelDMergedIdeal.τ).loc Cert.KernelDMergedIdeal.main_arg1))
      ∧ θ_run (Cert.ReferenceDMergedIdeal.defs (F := Ideal)) (onTc (τ := Cert.ReferenceDMergedIdeal.τ) (Cert.ReferenceDMergedIdeal.main (F := Ideal))) ⟨m', fun _ => 0, g'⟩ (fun r => ∀ c : Dev Cert.ReferenceDMergedIdeal.nD,
          r.2.mem ((c.tc : Thread Cert.ReferenceDMergedIdeal.nD Cert.ReferenceDMergedIdeal.τ).loc Cert.ReferenceDMergedIdeal.main_v2) = v0 c
          ∧ r.2.mem ((c.tc : Thread Cert.ReferenceDMergedIdeal.nD Cert.ReferenceDMergedIdeal.τ).loc Cert.ReferenceDMergedIdeal.main_arg0) = m' ((c.tc : Thread Cert.ReferenceDMergedIdeal.nD Cert.ReferenceDMergedIdeal.τ).loc Cert.ReferenceDMergedIdeal.main_arg0)
          ∧ r.2.mem ((c.tc : Thread Cert.ReferenceDMergedIdeal.nD Cert.ReferenceDMergedIdeal.τ).loc Cert.ReferenceDMergedIdeal.main_arg1) = m' ((c.tc : Thread Cert.ReferenceDMergedIdeal.nD Cert.ReferenceDMergedIdeal.τ).loc Cert.ReferenceDMergedIdeal.main_arg1))

def preserves_KernelGOut_KernelGOutIdeal : Prop :=
  True

def algebraic_KernelGOutIdeal_ReferenceGOutIdeal [hKernelGOutIdeal : Cert.KernelGOutIdeal.Facts] [hReferenceGOutIdeal : Cert.ReferenceGOutIdeal.Facts] : Prop :=
  ∀ (m : (ℓ : Loc Cert.KernelGOutIdeal.nD Cert.KernelGOutIdeal.τ Cert.KernelGOutIdeal.sig) → Buf (Elt Ideal) ℓ) (g : Dev Cert.KernelGOutIdeal.nD → PrngReg)
    (m' : (ℓ : Loc Cert.ReferenceGOutIdeal.nD Cert.ReferenceGOutIdeal.τ Cert.ReferenceGOutIdeal.sig) → Buf (Elt Ideal) ℓ) (g' : Dev Cert.ReferenceGOutIdeal.nD → PrngReg), Pre_KernelGOutIdeal m →
    (∀ c : Dev Cert.KernelGOutIdeal.nD,
      m' ((c.tc : Thread Cert.ReferenceGOutIdeal.nD Cert.ReferenceGOutIdeal.τ).loc Cert.ReferenceGOutIdeal.main_arg0) = m ((c.tc : Thread Cert.KernelGOutIdeal.nD Cert.KernelGOutIdeal.τ).loc Cert.KernelGOutIdeal.main_arg0)
      ∧ m' ((c.tc : Thread Cert.ReferenceGOutIdeal.nD Cert.ReferenceGOutIdeal.τ).loc Cert.ReferenceGOutIdeal.main_arg1) = m ((c.tc : Thread Cert.KernelGOutIdeal.nD Cert.KernelGOutIdeal.τ).loc Cert.KernelGOutIdeal.main_arg1)) →
    ∃ (v0 : (c : Dev Cert.KernelGOutIdeal.nD) → Buf (Elt Ideal) ((c.tc : Thread Cert.KernelGOutIdeal.nD Cert.KernelGOutIdeal.τ).loc Cert.KernelGOutIdeal.main_v0)),
      θ_run (Cert.KernelGOutIdeal.defs (F := Ideal)) (onTc (τ := Cert.KernelGOutIdeal.τ) (Cert.KernelGOutIdeal.main (F := Ideal))) ⟨m, fun _ => 0, g⟩ (fun r => ∀ c : Dev Cert.KernelGOutIdeal.nD,
          r.2.mem ((c.tc : Thread Cert.KernelGOutIdeal.nD Cert.KernelGOutIdeal.τ).loc Cert.KernelGOutIdeal.main_v0) = v0 c
          ∧ r.2.mem ((c.tc : Thread Cert.KernelGOutIdeal.nD Cert.KernelGOutIdeal.τ).loc Cert.KernelGOutIdeal.main_arg0) = m ((c.tc : Thread Cert.KernelGOutIdeal.nD Cert.KernelGOutIdeal.τ).loc Cert.KernelGOutIdeal.main_arg0)
          ∧ r.2.mem ((c.tc : Thread Cert.KernelGOutIdeal.nD Cert.KernelGOutIdeal.τ).loc Cert.KernelGOutIdeal.main_arg1) = m ((c.tc : Thread Cert.KernelGOutIdeal.nD Cert.KernelGOutIdeal.τ).loc Cert.KernelGOutIdeal.main_arg1))
      ∧ θ_run (Cert.ReferenceGOutIdeal.defs (F := Ideal)) (onTc (τ := Cert.ReferenceGOutIdeal.τ) (Cert.ReferenceGOutIdeal.main (F := Ideal))) ⟨m', fun _ => 0, g'⟩ (fun r => ∀ c : Dev Cert.ReferenceGOutIdeal.nD,
          r.2.mem ((c.tc : Thread Cert.ReferenceGOutIdeal.nD Cert.ReferenceGOutIdeal.τ).loc Cert.ReferenceGOutIdeal.main_v4) = v0 c
          ∧ r.2.mem ((c.tc : Thread Cert.ReferenceGOutIdeal.nD Cert.ReferenceGOutIdeal.τ).loc Cert.ReferenceGOutIdeal.main_arg0) = m' ((c.tc : Thread Cert.ReferenceGOutIdeal.nD Cert.ReferenceGOutIdeal.τ).loc Cert.ReferenceGOutIdeal.main_arg0)
          ∧ r.2.mem ((c.tc : Thread Cert.ReferenceGOutIdeal.nD Cert.ReferenceGOutIdeal.τ).loc Cert.ReferenceGOutIdeal.main_arg1) = m' ((c.tc : Thread Cert.ReferenceGOutIdeal.nD Cert.ReferenceGOutIdeal.τ).loc Cert.ReferenceGOutIdeal.main_arg1))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)) →
    ∃ (v0 : (c : Dev Cert.KernelGateIdeal.nD) → Buf (Elt Ideal) ((c.tc : Thread Cert.KernelGateIdeal.nD Cert.KernelGateIdeal.τ).loc Cert.KernelGateIdeal.main_v0_0)) (v1 : (c : Dev Cert.KernelGateIdeal.nD) → Buf (Elt Ideal) ((c.tc : Thread Cert.KernelGateIdeal.nD Cert.KernelGateIdeal.τ).loc Cert.KernelGateIdeal.main_v0_1)) (v2 : (c : Dev Cert.KernelGateIdeal.nD) → Buf (Elt Ideal) ((c.tc : Thread Cert.KernelGateIdeal.nD Cert.KernelGateIdeal.τ).loc Cert.KernelGateIdeal.main_v0_2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v0_0) = v0 c
          ∧ r.2.mem ((c.tc : Thread Cert.KernelGateIdeal.nD Cert.KernelGateIdeal.τ).loc Cert.KernelGateIdeal.main_v0_1) = v1 c
          ∧ r.2.mem ((c.tc : Thread Cert.KernelGateIdeal.nD Cert.KernelGateIdeal.τ).loc Cert.KernelGateIdeal.main_v0_2) = v2 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v32) = v0 c
          ∧ r.2.mem ((c.tc : Thread Cert.ReferenceGateIdeal.nD Cert.ReferenceGateIdeal.τ).loc Cert.ReferenceGateIdeal.main_v33) = v1 c
          ∧ r.2.mem ((c.tc : Thread Cert.ReferenceGateIdeal.nD Cert.ReferenceGateIdeal.τ).loc Cert.ReferenceGateIdeal.main_v34) = v2 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v12)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v12) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v12) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelBranch_KernelBranchIdeal : Prop :=
  True

def algebraic_KernelBranchIdeal_ReferenceBranchIdeal [hKernelBranchIdeal : Cert.KernelBranchIdeal.Facts] [hReferenceBranchIdeal : Cert.ReferenceBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg)
    (m' : (ℓ : Loc Cert.ReferenceBranchIdeal.nD Cert.ReferenceBranchIdeal.τ Cert.ReferenceBranchIdeal.sig) → Buf (Elt Ideal) ℓ) (g' : Dev Cert.ReferenceBranchIdeal.nD → PrngReg), Pre_KernelBranchIdeal m →
    (∀ c : Dev Cert.KernelBranchIdeal.nD,
      m' ((c.tc : Thread Cert.ReferenceBranchIdeal.nD Cert.ReferenceBranchIdeal.τ).loc Cert.ReferenceBranchIdeal.main_arg0) = m ((c.tc : Thread Cert.KernelBranchIdeal.nD Cert.KernelBranchIdeal.τ).loc Cert.KernelBranchIdeal.main_arg0)
      ∧ m' ((c.tc : Thread Cert.ReferenceBranchIdeal.nD Cert.ReferenceBranchIdeal.τ).loc Cert.ReferenceBranchIdeal.main_arg1) = m ((c.tc : Thread Cert.KernelBranchIdeal.nD Cert.KernelBranchIdeal.τ).loc Cert.KernelBranchIdeal.main_arg1)) →
    ∃ (v0 : (c : Dev Cert.KernelBranchIdeal.nD) → Buf (Elt Ideal) ((c.tc : Thread Cert.KernelBranchIdeal.nD Cert.KernelBranchIdeal.τ).loc Cert.KernelBranchIdeal.main_v1)),
      θ_run (Cert.KernelBranchIdeal.defs (F := Ideal)) (onTc (τ := Cert.KernelBranchIdeal.τ) (Cert.KernelBranchIdeal.main (F := Ideal))) ⟨m, fun _ => 0, g⟩ (fun r => ∀ c : Dev Cert.KernelBranchIdeal.nD,
          r.2.mem ((c.tc : Thread Cert.KernelBranchIdeal.nD Cert.KernelBranchIdeal.τ).loc Cert.KernelBranchIdeal.main_v1) = v0 c
          ∧ r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
          ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ θ_run (Cert.ReferenceBranchIdeal.defs (F := Ideal)) (onTc (τ := Cert.ReferenceBranchIdeal.τ) (Cert.ReferenceBranchIdeal.main (F := Ideal))) ⟨m', fun _ => 0, g'⟩ (fun r => ∀ c : Dev Cert.ReferenceBranchIdeal.nD,
          r.2.mem ((c.tc : Thread Cert.ReferenceBranchIdeal.nD Cert.ReferenceBranchIdeal.τ).loc Cert.ReferenceBranchIdeal.main_v1) = v0 c
          ∧ r.2.mem ((c.tc : Thread Cert.ReferenceBranchIdeal.nD Cert.ReferenceBranchIdeal.τ).loc Cert.ReferenceBranchIdeal.main_arg0) = m' ((c.tc : Thread Cert.ReferenceBranchIdeal.nD Cert.ReferenceBranchIdeal.τ).loc Cert.ReferenceBranchIdeal.main_arg0)
          ∧ r.2.mem ((c.tc : Thread Cert.ReferenceBranchIdeal.nD Cert.ReferenceBranchIdeal.τ).loc Cert.ReferenceBranchIdeal.main_arg1) = m' ((c.tc : Thread Cert.ReferenceBranchIdeal.nD Cert.ReferenceBranchIdeal.τ).loc Cert.ReferenceBranchIdeal.main_arg1))

def preserves_KernelOutProj_KernelOutProjIdeal : Prop :=
  True

def algebraic_KernelOutProjIdeal_ReferenceOutProjIdeal [hKernelOutProjIdeal : Cert.KernelOutProjIdeal.Facts] [hReferenceOutProjIdeal : Cert.ReferenceOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)
      ∧ m' ((c.tc : Thread Cert.ReferenceOutProjIdeal.nD Cert.ReferenceOutProjIdeal.τ).loc Cert.ReferenceOutProjIdeal.main_arg2) = m ((c.tc : Thread Cert.KernelOutProjIdeal.nD Cert.KernelOutProjIdeal.τ).loc Cert.KernelOutProjIdeal.main_arg2)) →
    ∃ (v0 : (c : Dev Cert.KernelOutProjIdeal.nD) → Buf (Elt Ideal) ((c.tc : Thread Cert.KernelOutProjIdeal.nD Cert.KernelOutProjIdeal.τ).loc Cert.KernelOutProjIdeal.main_v1)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v1) = v0 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
          ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v2) = v0 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1)
          ∧ r.2.mem ((c.tc : Thread Cert.ReferenceOutProjIdeal.nD Cert.ReferenceOutProjIdeal.τ).loc Cert.ReferenceOutProjIdeal.main_arg2) = m' ((c.tc : Thread Cert.ReferenceOutProjIdeal.nD Cert.ReferenceOutProjIdeal.τ).loc Cert.ReferenceOutProjIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v1) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v1) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelGateF_KernelGateFIdeal : Prop :=
  True

def algebraic_KernelGateFIdeal_ReferenceGateFIdeal [hKernelGateFIdeal : Cert.KernelGateFIdeal.Facts] [hReferenceGateFIdeal : Cert.ReferenceGateFIdeal.Facts] : Prop :=
  ∀ (m : (ℓ : Loc Cert.KernelGateFIdeal.nD Cert.KernelGateFIdeal.τ Cert.KernelGateFIdeal.sig) → Buf (Elt Ideal) ℓ) (g : Dev Cert.KernelGateFIdeal.nD → PrngReg)
    (m' : (ℓ : Loc Cert.ReferenceGateFIdeal.nD Cert.ReferenceGateFIdeal.τ Cert.ReferenceGateFIdeal.sig) → Buf (Elt Ideal) ℓ) (g' : Dev Cert.ReferenceGateFIdeal.nD → PrngReg), Pre_KernelGateFIdeal m →
    (∀ c : Dev Cert.KernelGateFIdeal.nD,
      m' ((c.tc : Thread Cert.ReferenceGateFIdeal.nD Cert.ReferenceGateFIdeal.τ).loc Cert.ReferenceGateFIdeal.main_arg0) = m ((c.tc : Thread Cert.KernelGateFIdeal.nD Cert.KernelGateFIdeal.τ).loc Cert.KernelGateFIdeal.main_arg0)
      ∧ m' ((c.tc : Thread Cert.ReferenceGateFIdeal.nD Cert.ReferenceGateFIdeal.τ).loc Cert.ReferenceGateFIdeal.main_arg1) = m ((c.tc : Thread Cert.KernelGateFIdeal.nD Cert.KernelGateFIdeal.τ).loc Cert.KernelGateFIdeal.main_arg1)
      ∧ m' ((c.tc : Thread Cert.ReferenceGateFIdeal.nD Cert.ReferenceGateFIdeal.τ).loc Cert.ReferenceGateFIdeal.main_arg2) = m ((c.tc : Thread Cert.KernelGateFIdeal.nD Cert.KernelGateFIdeal.τ).loc Cert.KernelGateFIdeal.main_arg2)) →
    ∃ (v0 : (c : Dev Cert.KernelGateFIdeal.nD) → Buf (Elt Ideal) ((c.tc : Thread Cert.KernelGateFIdeal.nD Cert.KernelGateFIdeal.τ).loc Cert.KernelGateFIdeal.main_v0)),
      θ_run (Cert.KernelGateFIdeal.defs (F := Ideal)) (onTc (τ := Cert.KernelGateFIdeal.τ) (Cert.KernelGateFIdeal.main (F := Ideal))) ⟨m, fun _ => 0, g⟩ (fun r => ∀ c : Dev Cert.KernelGateFIdeal.nD,
          r.2.mem ((c.tc : Thread Cert.KernelGateFIdeal.nD Cert.KernelGateFIdeal.τ).loc Cert.KernelGateFIdeal.main_v0) = v0 c
          ∧ r.2.mem ((c.tc : Thread Cert.KernelGateFIdeal.nD Cert.KernelGateFIdeal.τ).loc Cert.KernelGateFIdeal.main_arg0) = m ((c.tc : Thread Cert.KernelGateFIdeal.nD Cert.KernelGateFIdeal.τ).loc Cert.KernelGateFIdeal.main_arg0)
          ∧ r.2.mem ((c.tc : Thread Cert.KernelGateFIdeal.nD Cert.KernelGateFIdeal.τ).loc Cert.KernelGateFIdeal.main_arg1) = m ((c.tc : Thread Cert.KernelGateFIdeal.nD Cert.KernelGateFIdeal.τ).loc Cert.KernelGateFIdeal.main_arg1)
          ∧ r.2.mem ((c.tc : Thread Cert.KernelGateFIdeal.nD Cert.KernelGateFIdeal.τ).loc Cert.KernelGateFIdeal.main_arg2) = m ((c.tc : Thread Cert.KernelGateFIdeal.nD Cert.KernelGateFIdeal.τ).loc Cert.KernelGateFIdeal.main_arg2))
      ∧ θ_run (Cert.ReferenceGateFIdeal.defs (F := Ideal)) (onTc (τ := Cert.ReferenceGateFIdeal.τ) (Cert.ReferenceGateFIdeal.main (F := Ideal))) ⟨m', fun _ => 0, g'⟩ (fun r => ∀ c : Dev Cert.ReferenceGateFIdeal.nD,
          r.2.mem ((c.tc : Thread Cert.ReferenceGateFIdeal.nD Cert.ReferenceGateFIdeal.τ).loc Cert.ReferenceGateFIdeal.main_v17) = v0 c
          ∧ r.2.mem ((c.tc : Thread Cert.ReferenceGateFIdeal.nD Cert.ReferenceGateFIdeal.τ).loc Cert.ReferenceGateFIdeal.main_arg0) = m' ((c.tc : Thread Cert.ReferenceGateFIdeal.nD Cert.ReferenceGateFIdeal.τ).loc Cert.ReferenceGateFIdeal.main_arg0)
          ∧ r.2.mem ((c.tc : Thread Cert.ReferenceGateFIdeal.nD Cert.ReferenceGateFIdeal.τ).loc Cert.ReferenceGateFIdeal.main_arg1) = m' ((c.tc : Thread Cert.ReferenceGateFIdeal.nD Cert.ReferenceGateFIdeal.τ).loc Cert.ReferenceGateFIdeal.main_arg1)
          ∧ r.2.mem ((c.tc : Thread Cert.ReferenceGateFIdeal.nD Cert.ReferenceGateFIdeal.τ).loc Cert.ReferenceGateFIdeal.main_arg2) = m' ((c.tc : Thread Cert.ReferenceGateFIdeal.nD Cert.ReferenceGateFIdeal.τ).loc Cert.ReferenceGateFIdeal.main_arg2))

def preserves_KernelRmsF_KernelRmsFIdeal : Prop :=
  True

def algebraic_KernelRmsFIdeal_ReferenceRmsFIdeal [hKernelRmsFIdeal : Cert.KernelRmsFIdeal.Facts] [hReferenceRmsFIdeal : Cert.ReferenceRmsFIdeal.Facts] : Prop :=
  ∀ (m : (ℓ : Loc Cert.KernelRmsFIdeal.nD Cert.KernelRmsFIdeal.τ Cert.KernelRmsFIdeal.sig) → Buf (Elt Ideal) ℓ) (g : Dev Cert.KernelRmsFIdeal.nD → PrngReg)
    (m' : (ℓ : Loc Cert.ReferenceRmsFIdeal.nD Cert.ReferenceRmsFIdeal.τ Cert.ReferenceRmsFIdeal.sig) → Buf (Elt Ideal) ℓ) (g' : Dev Cert.ReferenceRmsFIdeal.nD → PrngReg), Pre_KernelRmsFIdeal m →
    (∀ c : Dev Cert.KernelRmsFIdeal.nD,
      m' ((c.tc : Thread Cert.ReferenceRmsFIdeal.nD Cert.ReferenceRmsFIdeal.τ).loc Cert.ReferenceRmsFIdeal.main_arg0) = m ((c.tc : Thread Cert.KernelRmsFIdeal.nD Cert.KernelRmsFIdeal.τ).loc Cert.KernelRmsFIdeal.main_arg0)
      ∧ m' ((c.tc : Thread Cert.ReferenceRmsFIdeal.nD Cert.ReferenceRmsFIdeal.τ).loc Cert.ReferenceRmsFIdeal.main_arg1) = m ((c.tc : Thread Cert.KernelRmsFIdeal.nD Cert.KernelRmsFIdeal.τ).loc Cert.KernelRmsFIdeal.main_arg1)) →
    ∃ (v0 : (c : Dev Cert.KernelRmsFIdeal.nD) → Buf (Elt Ideal) ((c.tc : Thread Cert.KernelRmsFIdeal.nD Cert.KernelRmsFIdeal.τ).loc Cert.KernelRmsFIdeal.main_v0)),
      θ_run (Cert.KernelRmsFIdeal.defs (F := Ideal)) (onTc (τ := Cert.KernelRmsFIdeal.τ) (Cert.KernelRmsFIdeal.main (F := Ideal))) ⟨m, fun _ => 0, g⟩ (fun r => ∀ c : Dev Cert.KernelRmsFIdeal.nD,
          r.2.mem ((c.tc : Thread Cert.KernelRmsFIdeal.nD Cert.KernelRmsFIdeal.τ).loc Cert.KernelRmsFIdeal.main_v0) = v0 c
          ∧ r.2.mem ((c.tc : Thread Cert.KernelRmsFIdeal.nD Cert.KernelRmsFIdeal.τ).loc Cert.KernelRmsFIdeal.main_arg0) = m ((c.tc : Thread Cert.KernelRmsFIdeal.nD Cert.KernelRmsFIdeal.τ).loc Cert.KernelRmsFIdeal.main_arg0)
          ∧ r.2.mem ((c.tc : Thread Cert.KernelRmsFIdeal.nD Cert.KernelRmsFIdeal.τ).loc Cert.KernelRmsFIdeal.main_arg1) = m ((c.tc : Thread Cert.KernelRmsFIdeal.nD Cert.KernelRmsFIdeal.τ).loc Cert.KernelRmsFIdeal.main_arg1))
      ∧ θ_run (Cert.ReferenceRmsFIdeal.defs (F := Ideal)) (onTc (τ := Cert.ReferenceRmsFIdeal.τ) (Cert.ReferenceRmsFIdeal.main (F := Ideal))) ⟨m', fun _ => 0, g'⟩ (fun r => ∀ c : Dev Cert.ReferenceRmsFIdeal.nD,
          r.2.mem ((c.tc : Thread Cert.ReferenceRmsFIdeal.nD Cert.ReferenceRmsFIdeal.τ).loc Cert.ReferenceRmsFIdeal.main_v12) = v0 c
          ∧ r.2.mem ((c.tc : Thread Cert.ReferenceRmsFIdeal.nD Cert.ReferenceRmsFIdeal.τ).loc Cert.ReferenceRmsFIdeal.main_arg0) = m' ((c.tc : Thread Cert.ReferenceRmsFIdeal.nD Cert.ReferenceRmsFIdeal.τ).loc Cert.ReferenceRmsFIdeal.main_arg0)
          ∧ r.2.mem ((c.tc : Thread Cert.ReferenceRmsFIdeal.nD Cert.ReferenceRmsFIdeal.τ).loc Cert.ReferenceRmsFIdeal.main_arg1) = m' ((c.tc : Thread Cert.ReferenceRmsFIdeal.nD Cert.ReferenceRmsFIdeal.τ).loc Cert.ReferenceRmsFIdeal.main_arg1))

def preserves_KernelRms_KernelRmsIdeal : Prop :=
  True

def algebraic_KernelRmsIdeal_ReferenceRmsIdeal [hKernelRmsIdeal : Cert.KernelRmsIdeal.Facts] [hReferenceRmsIdeal : Cert.ReferenceRmsIdeal.Facts] : Prop :=
  ∀ (m : (ℓ : Loc Cert.KernelRmsIdeal.nD Cert.KernelRmsIdeal.τ Cert.KernelRmsIdeal.sig) → Buf (Elt Ideal) ℓ) (g : Dev Cert.KernelRmsIdeal.nD → PrngReg)
    (m' : (ℓ : Loc Cert.ReferenceRmsIdeal.nD Cert.ReferenceRmsIdeal.τ Cert.ReferenceRmsIdeal.sig) → Buf (Elt Ideal) ℓ) (g' : Dev Cert.ReferenceRmsIdeal.nD → PrngReg), Pre_KernelRmsIdeal m →
    (∀ c : Dev Cert.KernelRmsIdeal.nD,
      m' ((c.tc : Thread Cert.ReferenceRmsIdeal.nD Cert.ReferenceRmsIdeal.τ).loc Cert.ReferenceRmsIdeal.main_arg0) = m ((c.tc : Thread Cert.KernelRmsIdeal.nD Cert.KernelRmsIdeal.τ).loc Cert.KernelRmsIdeal.main_arg0)
      ∧ m' ((c.tc : Thread Cert.ReferenceRmsIdeal.nD Cert.ReferenceRmsIdeal.τ).loc Cert.ReferenceRmsIdeal.main_arg1) = m ((c.tc : Thread Cert.KernelRmsIdeal.nD Cert.KernelRmsIdeal.τ).loc Cert.KernelRmsIdeal.main_arg1)
      ∧ m' ((c.tc : Thread Cert.ReferenceRmsIdeal.nD Cert.ReferenceRmsIdeal.τ).loc Cert.ReferenceRmsIdeal.main_arg2) = m ((c.tc : Thread Cert.KernelRmsIdeal.nD Cert.KernelRmsIdeal.τ).loc Cert.KernelRmsIdeal.main_arg2)
      ∧ m' ((c.tc : Thread Cert.ReferenceRmsIdeal.nD Cert.ReferenceRmsIdeal.τ).loc Cert.ReferenceRmsIdeal.main_arg3) = m ((c.tc : Thread Cert.KernelRmsIdeal.nD Cert.KernelRmsIdeal.τ).loc Cert.KernelRmsIdeal.main_arg3)) →
    ∃ (v0 : (c : Dev Cert.KernelRmsIdeal.nD) → Buf (Elt Ideal) ((c.tc : Thread Cert.KernelRmsIdeal.nD Cert.KernelRmsIdeal.τ).loc Cert.KernelRmsIdeal.main_v0_0)) (v1 : (c : Dev Cert.KernelRmsIdeal.nD) → Buf (Elt Ideal) ((c.tc : Thread Cert.KernelRmsIdeal.nD Cert.KernelRmsIdeal.τ).loc Cert.KernelRmsIdeal.main_v0_1)),
      θ_run (Cert.KernelRmsIdeal.defs (F := Ideal)) (onTc (τ := Cert.KernelRmsIdeal.τ) (Cert.KernelRmsIdeal.main (F := Ideal))) ⟨m, fun _ => 0, g⟩ (fun r => ∀ c : Dev Cert.KernelRmsIdeal.nD,
          r.2.mem ((c.tc : Thread Cert.KernelRmsIdeal.nD Cert.KernelRmsIdeal.τ).loc Cert.KernelRmsIdeal.main_v0_0) = v0 c
          ∧ r.2.mem ((c.tc : Thread Cert.KernelRmsIdeal.nD Cert.KernelRmsIdeal.τ).loc Cert.KernelRmsIdeal.main_v0_1) = v1 c
          ∧ r.2.mem ((c.tc : Thread Cert.KernelRmsIdeal.nD Cert.KernelRmsIdeal.τ).loc Cert.KernelRmsIdeal.main_arg0) = m ((c.tc : Thread Cert.KernelRmsIdeal.nD Cert.KernelRmsIdeal.τ).loc Cert.KernelRmsIdeal.main_arg0)
          ∧ r.2.mem ((c.tc : Thread Cert.KernelRmsIdeal.nD Cert.KernelRmsIdeal.τ).loc Cert.KernelRmsIdeal.main_arg1) = m ((c.tc : Thread Cert.KernelRmsIdeal.nD Cert.KernelRmsIdeal.τ).loc Cert.KernelRmsIdeal.main_arg1)
          ∧ r.2.mem ((c.tc : Thread Cert.KernelRmsIdeal.nD Cert.KernelRmsIdeal.τ).loc Cert.KernelRmsIdeal.main_arg2) = m ((c.tc : Thread Cert.KernelRmsIdeal.nD Cert.KernelRmsIdeal.τ).loc Cert.KernelRmsIdeal.main_arg2)
          ∧ r.2.mem ((c.tc : Thread Cert.KernelRmsIdeal.nD Cert.KernelRmsIdeal.τ).loc Cert.KernelRmsIdeal.main_arg3) = m ((c.tc : Thread Cert.KernelRmsIdeal.nD Cert.KernelRmsIdeal.τ).loc Cert.KernelRmsIdeal.main_arg3))
      ∧ θ_run (Cert.ReferenceRmsIdeal.defs (F := Ideal)) (onTc (τ := Cert.ReferenceRmsIdeal.τ) (Cert.ReferenceRmsIdeal.main (F := Ideal))) ⟨m', fun _ => 0, g'⟩ (fun r => ∀ c : Dev Cert.ReferenceRmsIdeal.nD,
          r.2.mem ((c.tc : Thread Cert.ReferenceRmsIdeal.nD Cert.ReferenceRmsIdeal.τ).loc Cert.ReferenceRmsIdeal.main_v34) = v0 c
          ∧ r.2.mem ((c.tc : Thread Cert.ReferenceRmsIdeal.nD Cert.ReferenceRmsIdeal.τ).loc Cert.ReferenceRmsIdeal.main_v17) = v1 c
          ∧ r.2.mem ((c.tc : Thread Cert.ReferenceRmsIdeal.nD Cert.ReferenceRmsIdeal.τ).loc Cert.ReferenceRmsIdeal.main_arg0) = m' ((c.tc : Thread Cert.ReferenceRmsIdeal.nD Cert.ReferenceRmsIdeal.τ).loc Cert.ReferenceRmsIdeal.main_arg0)
          ∧ r.2.mem ((c.tc : Thread Cert.ReferenceRmsIdeal.nD Cert.ReferenceRmsIdeal.τ).loc Cert.ReferenceRmsIdeal.main_arg1) = m' ((c.tc : Thread Cert.ReferenceRmsIdeal.nD Cert.ReferenceRmsIdeal.τ).loc Cert.ReferenceRmsIdeal.main_arg1)
          ∧ r.2.mem ((c.tc : Thread Cert.ReferenceRmsIdeal.nD Cert.ReferenceRmsIdeal.τ).loc Cert.ReferenceRmsIdeal.main_arg2) = m' ((c.tc : Thread Cert.ReferenceRmsIdeal.nD Cert.ReferenceRmsIdeal.τ).loc Cert.ReferenceRmsIdeal.main_arg2)
          ∧ r.2.mem ((c.tc : Thread Cert.ReferenceRmsIdeal.nD Cert.ReferenceRmsIdeal.τ).loc Cert.ReferenceRmsIdeal.main_arg3) = m' ((c.tc : Thread Cert.ReferenceRmsIdeal.nD Cert.ReferenceRmsIdeal.τ).loc Cert.ReferenceRmsIdeal.main_arg3))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)
      ∧ m' ((c.tc : Thread Cert.ReferenceAdamInIdeal.nD Cert.ReferenceAdamInIdeal.τ).loc Cert.ReferenceAdamInIdeal.main_arg5) = m ((c.tc : Thread Cert.KernelAdamInIdeal.nD Cert.KernelAdamInIdeal.τ).loc Cert.KernelAdamInIdeal.main_arg5)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
          ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v6) = v0 c
          ∧ r.2.mem ((c.tc : Thread Cert.ReferenceAdamInIdeal.nD Cert.ReferenceAdamInIdeal.τ).loc Cert.ReferenceAdamInIdeal.main_v30) = v1 c
          ∧ r.2.mem ((c.tc : Thread Cert.ReferenceAdamInIdeal.nD Cert.ReferenceAdamInIdeal.τ).loc Cert.ReferenceAdamInIdeal.main_v11) = v2 c
          ∧ r.2.mem ((c.tc : Thread Cert.ReferenceAdamInIdeal.nD Cert.ReferenceAdamInIdeal.τ).loc Cert.ReferenceAdamInIdeal.main_v17) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4)
          ∧ r.2.mem ((c.tc : Thread Cert.ReferenceAdamInIdeal.nD Cert.ReferenceAdamInIdeal.τ).loc Cert.ReferenceAdamInIdeal.main_arg5) = m' ((c.tc : Thread Cert.ReferenceAdamInIdeal.nD Cert.ReferenceAdamInIdeal.τ).loc Cert.ReferenceAdamInIdeal.main_arg5))

def preserves_KernelAdamBranch_KernelAdamBranchIdeal : Prop :=
  True

def algebraic_KernelAdamBranchIdeal_ReferenceAdamBranchIdeal [hKernelAdamBranchIdeal : Cert.KernelAdamBranchIdeal.Facts] [hReferenceAdamBranchIdeal : Cert.ReferenceAdamBranchIdeal.Facts] : Prop :=
  ∀ (m : (ℓ : Loc Cert.KernelAdamBranchIdeal.nD Cert.KernelAdamBranchIdeal.τ Cert.KernelAdamBranchIdeal.sig) → Buf (Elt Ideal) ℓ) (g : Dev Cert.KernelAdamBranchIdeal.nD → PrngReg)
    (m' : (ℓ : Loc Cert.ReferenceAdamBranchIdeal.nD Cert.ReferenceAdamBranchIdeal.τ Cert.ReferenceAdamBranchIdeal.sig) → Buf (Elt Ideal) ℓ) (g' : Dev Cert.ReferenceAdamBranchIdeal.nD → PrngReg), Pre_KernelAdamBranchIdeal m →
    (∀ c : Dev Cert.KernelAdamBranchIdeal.nD,
      m' ((c.tc : Thread Cert.ReferenceAdamBranchIdeal.nD Cert.ReferenceAdamBranchIdeal.τ).loc Cert.ReferenceAdamBranchIdeal.main_arg0) = m ((c.tc : Thread Cert.KernelAdamBranchIdeal.nD Cert.KernelAdamBranchIdeal.τ).loc Cert.KernelAdamBranchIdeal.main_arg0)
      ∧ m' ((c.tc : Thread Cert.ReferenceAdamBranchIdeal.nD Cert.ReferenceAdamBranchIdeal.τ).loc Cert.ReferenceAdamBranchIdeal.main_arg1) = m ((c.tc : Thread Cert.KernelAdamBranchIdeal.nD Cert.KernelAdamBranchIdeal.τ).loc Cert.KernelAdamBranchIdeal.main_arg1)
      ∧ m' ((c.tc : Thread Cert.ReferenceAdamBranchIdeal.nD Cert.ReferenceAdamBranchIdeal.τ).loc Cert.ReferenceAdamBranchIdeal.main_arg2) = m ((c.tc : Thread Cert.KernelAdamBranchIdeal.nD Cert.KernelAdamBranchIdeal.τ).loc Cert.KernelAdamBranchIdeal.main_arg2)
      ∧ m' ((c.tc : Thread Cert.ReferenceAdamBranchIdeal.nD Cert.ReferenceAdamBranchIdeal.τ).loc Cert.ReferenceAdamBranchIdeal.main_arg3) = m ((c.tc : Thread Cert.KernelAdamBranchIdeal.nD Cert.KernelAdamBranchIdeal.τ).loc Cert.KernelAdamBranchIdeal.main_arg3)
      ∧ m' ((c.tc : Thread Cert.ReferenceAdamBranchIdeal.nD Cert.ReferenceAdamBranchIdeal.τ).loc Cert.ReferenceAdamBranchIdeal.main_arg4) = m ((c.tc : Thread Cert.KernelAdamBranchIdeal.nD Cert.KernelAdamBranchIdeal.τ).loc Cert.KernelAdamBranchIdeal.main_arg4)
      ∧ m' ((c.tc : Thread Cert.ReferenceAdamBranchIdeal.nD Cert.ReferenceAdamBranchIdeal.τ).loc Cert.ReferenceAdamBranchIdeal.main_arg5) = m ((c.tc : Thread Cert.KernelAdamBranchIdeal.nD Cert.KernelAdamBranchIdeal.τ).loc Cert.KernelAdamBranchIdeal.main_arg5)) →
    ∃ (v0 : (c : Dev Cert.KernelAdamBranchIdeal.nD) → Buf (Elt Ideal) ((c.tc : Thread Cert.KernelAdamBranchIdeal.nD Cert.KernelAdamBranchIdeal.τ).loc Cert.KernelAdamBranchIdeal.main_v0_0)) (v1 : (c : Dev Cert.KernelAdamBranchIdeal.nD) → Buf (Elt Ideal) ((c.tc : Thread Cert.KernelAdamBranchIdeal.nD Cert.KernelAdamBranchIdeal.τ).loc Cert.KernelAdamBranchIdeal.main_v0_1)) (v2 : (c : Dev Cert.KernelAdamBranchIdeal.nD) → Buf (Elt Ideal) ((c.tc : Thread Cert.KernelAdamBranchIdeal.nD Cert.KernelAdamBranchIdeal.τ).loc Cert.KernelAdamBranchIdeal.main_v0_2)) (v3 : (c : Dev Cert.KernelAdamBranchIdeal.nD) → Buf (Elt Ideal) ((c.tc : Thread Cert.KernelAdamBranchIdeal.nD Cert.KernelAdamBranchIdeal.τ).loc Cert.KernelAdamBranchIdeal.main_v0_3)),
      θ_run (Cert.KernelAdamBranchIdeal.defs (F := Ideal)) (onTc (τ := Cert.KernelAdamBranchIdeal.τ) (Cert.KernelAdamBranchIdeal.main (F := Ideal))) ⟨m, fun _ => 0, g⟩ (fun r => ∀ c : Dev Cert.KernelAdamBranchIdeal.nD,
          r.2.mem ((c.tc : Thread Cert.KernelAdamBranchIdeal.nD Cert.KernelAdamBranchIdeal.τ).loc Cert.KernelAdamBranchIdeal.main_v0_0) = v0 c
          ∧ r.2.mem ((c.tc : Thread Cert.KernelAdamBranchIdeal.nD Cert.KernelAdamBranchIdeal.τ).loc Cert.KernelAdamBranchIdeal.main_v0_1) = v1 c
          ∧ r.2.mem ((c.tc : Thread Cert.KernelAdamBranchIdeal.nD Cert.KernelAdamBranchIdeal.τ).loc Cert.KernelAdamBranchIdeal.main_v0_2) = v2 c
          ∧ r.2.mem ((c.tc : Thread Cert.KernelAdamBranchIdeal.nD Cert.KernelAdamBranchIdeal.τ).loc Cert.KernelAdamBranchIdeal.main_v0_3) = v3 c
          ∧ r.2.mem ((c.tc : Thread Cert.KernelAdamBranchIdeal.nD Cert.KernelAdamBranchIdeal.τ).loc Cert.KernelAdamBranchIdeal.main_arg0) = m ((c.tc : Thread Cert.KernelAdamBranchIdeal.nD Cert.KernelAdamBranchIdeal.τ).loc Cert.KernelAdamBranchIdeal.main_arg0)
          ∧ r.2.mem ((c.tc : Thread Cert.KernelAdamBranchIdeal.nD Cert.KernelAdamBranchIdeal.τ).loc Cert.KernelAdamBranchIdeal.main_arg1) = m ((c.tc : Thread Cert.KernelAdamBranchIdeal.nD Cert.KernelAdamBranchIdeal.τ).loc Cert.KernelAdamBranchIdeal.main_arg1)
          ∧ r.2.mem ((c.tc : Thread Cert.KernelAdamBranchIdeal.nD Cert.KernelAdamBranchIdeal.τ).loc Cert.KernelAdamBranchIdeal.main_arg2) = m ((c.tc : Thread Cert.KernelAdamBranchIdeal.nD Cert.KernelAdamBranchIdeal.τ).loc Cert.KernelAdamBranchIdeal.main_arg2)
          ∧ r.2.mem ((c.tc : Thread Cert.KernelAdamBranchIdeal.nD Cert.KernelAdamBranchIdeal.τ).loc Cert.KernelAdamBranchIdeal.main_arg3) = m ((c.tc : Thread Cert.KernelAdamBranchIdeal.nD Cert.KernelAdamBranchIdeal.τ).loc Cert.KernelAdamBranchIdeal.main_arg3)
          ∧ r.2.mem ((c.tc : Thread Cert.KernelAdamBranchIdeal.nD Cert.KernelAdamBranchIdeal.τ).loc Cert.KernelAdamBranchIdeal.main_arg4) = m ((c.tc : Thread Cert.KernelAdamBranchIdeal.nD Cert.KernelAdamBranchIdeal.τ).loc Cert.KernelAdamBranchIdeal.main_arg4)
          ∧ r.2.mem ((c.tc : Thread Cert.KernelAdamBranchIdeal.nD Cert.KernelAdamBranchIdeal.τ).loc Cert.KernelAdamBranchIdeal.main_arg5) = m ((c.tc : Thread Cert.KernelAdamBranchIdeal.nD Cert.KernelAdamBranchIdeal.τ).loc Cert.KernelAdamBranchIdeal.main_arg5))
      ∧ θ_run (Cert.ReferenceAdamBranchIdeal.defs (F := Ideal)) (onTc (τ := Cert.ReferenceAdamBranchIdeal.τ) (Cert.ReferenceAdamBranchIdeal.main (F := Ideal))) ⟨m', fun _ => 0, g'⟩ (fun r => ∀ c : Dev Cert.ReferenceAdamBranchIdeal.nD,
          r.2.mem ((c.tc : Thread Cert.ReferenceAdamBranchIdeal.nD Cert.ReferenceAdamBranchIdeal.τ).loc Cert.ReferenceAdamBranchIdeal.main_v6) = v0 c
          ∧ r.2.mem ((c.tc : Thread Cert.ReferenceAdamBranchIdeal.nD Cert.ReferenceAdamBranchIdeal.τ).loc Cert.ReferenceAdamBranchIdeal.main_v30) = v1 c
          ∧ r.2.mem ((c.tc : Thread Cert.ReferenceAdamBranchIdeal.nD Cert.ReferenceAdamBranchIdeal.τ).loc Cert.ReferenceAdamBranchIdeal.main_v11) = v2 c
          ∧ r.2.mem ((c.tc : Thread Cert.ReferenceAdamBranchIdeal.nD Cert.ReferenceAdamBranchIdeal.τ).loc Cert.ReferenceAdamBranchIdeal.main_v17) = v3 c
          ∧ r.2.mem ((c.tc : Thread Cert.ReferenceAdamBranchIdeal.nD Cert.ReferenceAdamBranchIdeal.τ).loc Cert.ReferenceAdamBranchIdeal.main_arg0) = m' ((c.tc : Thread Cert.ReferenceAdamBranchIdeal.nD Cert.ReferenceAdamBranchIdeal.τ).loc Cert.ReferenceAdamBranchIdeal.main_arg0)
          ∧ r.2.mem ((c.tc : Thread Cert.ReferenceAdamBranchIdeal.nD Cert.ReferenceAdamBranchIdeal.τ).loc Cert.ReferenceAdamBranchIdeal.main_arg1) = m' ((c.tc : Thread Cert.ReferenceAdamBranchIdeal.nD Cert.ReferenceAdamBranchIdeal.τ).loc Cert.ReferenceAdamBranchIdeal.main_arg1)
          ∧ r.2.mem ((c.tc : Thread Cert.ReferenceAdamBranchIdeal.nD Cert.ReferenceAdamBranchIdeal.τ).loc Cert.ReferenceAdamBranchIdeal.main_arg2) = m' ((c.tc : Thread Cert.ReferenceAdamBranchIdeal.nD Cert.ReferenceAdamBranchIdeal.τ).loc Cert.ReferenceAdamBranchIdeal.main_arg2)
          ∧ r.2.mem ((c.tc : Thread Cert.ReferenceAdamBranchIdeal.nD Cert.ReferenceAdamBranchIdeal.τ).loc Cert.ReferenceAdamBranchIdeal.main_arg3) = m' ((c.tc : Thread Cert.ReferenceAdamBranchIdeal.nD Cert.ReferenceAdamBranchIdeal.τ).loc Cert.ReferenceAdamBranchIdeal.main_arg3)
          ∧ r.2.mem ((c.tc : Thread Cert.ReferenceAdamBranchIdeal.nD Cert.ReferenceAdamBranchIdeal.τ).loc Cert.ReferenceAdamBranchIdeal.main_arg4) = m' ((c.tc : Thread Cert.ReferenceAdamBranchIdeal.nD Cert.ReferenceAdamBranchIdeal.τ).loc Cert.ReferenceAdamBranchIdeal.main_arg4)
          ∧ r.2.mem ((c.tc : Thread Cert.ReferenceAdamBranchIdeal.nD Cert.ReferenceAdamBranchIdeal.τ).loc Cert.ReferenceAdamBranchIdeal.main_arg5) = m' ((c.tc : Thread Cert.ReferenceAdamBranchIdeal.nD Cert.ReferenceAdamBranchIdeal.τ).loc Cert.ReferenceAdamBranchIdeal.main_arg5))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)
      ∧ m' ((c.tc : Thread Cert.ReferenceAdamOutIdeal.nD Cert.ReferenceAdamOutIdeal.τ).loc Cert.ReferenceAdamOutIdeal.main_arg5) = m ((c.tc : Thread Cert.KernelAdamOutIdeal.nD Cert.KernelAdamOutIdeal.τ).loc Cert.KernelAdamOutIdeal.main_arg5)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4)
          ∧ r.2.mem ((c.tc : Thread Cert.KernelAdamOutIdeal.nD Cert.KernelAdamOutIdeal.τ).loc Cert.KernelAdamOutIdeal.main_arg5) = m ((c.tc : Thread Cert.KernelAdamOutIdeal.nD Cert.KernelAdamOutIdeal.τ).loc Cert.KernelAdamOutIdeal.main_arg5))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v6) = v0 c
          ∧ r.2.mem ((c.tc : Thread Cert.ReferenceAdamOutIdeal.nD Cert.ReferenceAdamOutIdeal.τ).loc Cert.ReferenceAdamOutIdeal.main_v30) = v1 c
          ∧ r.2.mem ((c.tc : Thread Cert.ReferenceAdamOutIdeal.nD Cert.ReferenceAdamOutIdeal.τ).loc Cert.ReferenceAdamOutIdeal.main_v11) = v2 c
          ∧ r.2.mem ((c.tc : Thread Cert.ReferenceAdamOutIdeal.nD Cert.ReferenceAdamOutIdeal.τ).loc Cert.ReferenceAdamOutIdeal.main_v17) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4)
          ∧ r.2.mem ((c.tc : Thread Cert.ReferenceAdamOutIdeal.nD Cert.ReferenceAdamOutIdeal.τ).loc Cert.ReferenceAdamOutIdeal.main_arg5) = m' ((c.tc : Thread Cert.ReferenceAdamOutIdeal.nD Cert.ReferenceAdamOutIdeal.τ).loc Cert.ReferenceAdamOutIdeal.main_arg5))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)
      ∧ m' ((c.tc : Thread Cert.ReferenceAdamUpIdeal.nD Cert.ReferenceAdamUpIdeal.τ).loc Cert.ReferenceAdamUpIdeal.main_arg4) = m ((c.tc : Thread Cert.KernelAdamUpIdeal.nD Cert.KernelAdamUpIdeal.τ).loc Cert.KernelAdamUpIdeal.main_arg4)
      ∧ m' ((c.tc : Thread Cert.ReferenceAdamUpIdeal.nD Cert.ReferenceAdamUpIdeal.τ).loc Cert.ReferenceAdamUpIdeal.main_arg5) = m ((c.tc : Thread Cert.KernelAdamUpIdeal.nD Cert.KernelAdamUpIdeal.τ).loc Cert.KernelAdamUpIdeal.main_arg5)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)) (v3 : (c : Dev Cert.KernelAdamUpIdeal.nD) → Buf (Elt Ideal) ((c.tc : Thread Cert.KernelAdamUpIdeal.nD Cert.KernelAdamUpIdeal.τ).loc Cert.KernelAdamUpIdeal.main_v0_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_v0_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
          ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4)
          ∧ r.2.mem ((c.tc : Thread Cert.KernelAdamUpIdeal.nD Cert.KernelAdamUpIdeal.τ).loc Cert.KernelAdamUpIdeal.main_arg5) = m ((c.tc : Thread Cert.KernelAdamUpIdeal.nD Cert.KernelAdamUpIdeal.τ).loc Cert.KernelAdamUpIdeal.main_arg5))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v6) = v0 c
          ∧ r.2.mem ((c.tc : Thread Cert.ReferenceAdamUpIdeal.nD Cert.ReferenceAdamUpIdeal.τ).loc Cert.ReferenceAdamUpIdeal.main_v30) = v1 c
          ∧ r.2.mem ((c.tc : Thread Cert.ReferenceAdamUpIdeal.nD Cert.ReferenceAdamUpIdeal.τ).loc Cert.ReferenceAdamUpIdeal.main_v11) = v2 c
          ∧ r.2.mem ((c.tc : Thread Cert.ReferenceAdamUpIdeal.nD Cert.ReferenceAdamUpIdeal.τ).loc Cert.ReferenceAdamUpIdeal.main_v17) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3)
          ∧ r.2.mem ((c.tc : Thread Cert.ReferenceAdamUpIdeal.nD Cert.ReferenceAdamUpIdeal.τ).loc Cert.ReferenceAdamUpIdeal.main_arg4) = m' ((c.tc : Thread Cert.ReferenceAdamUpIdeal.nD Cert.ReferenceAdamUpIdeal.τ).loc Cert.ReferenceAdamUpIdeal.main_arg4)
          ∧ r.2.mem ((c.tc : Thread Cert.ReferenceAdamUpIdeal.nD Cert.ReferenceAdamUpIdeal.τ).loc Cert.ReferenceAdamUpIdeal.main_arg5) = m' ((c.tc : Thread Cert.ReferenceAdamUpIdeal.nD Cert.ReferenceAdamUpIdeal.τ).loc Cert.ReferenceAdamUpIdeal.main_arg5))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)
      ∧ m' ((c.tc : Thread Cert.ReferenceAdamDownIdeal.nD Cert.ReferenceAdamDownIdeal.τ).loc Cert.ReferenceAdamDownIdeal.main_arg4) = m ((c.tc : Thread Cert.KernelAdamDownIdeal.nD Cert.KernelAdamDownIdeal.τ).loc Cert.KernelAdamDownIdeal.main_arg4)
      ∧ m' ((c.tc : Thread Cert.ReferenceAdamDownIdeal.nD Cert.ReferenceAdamDownIdeal.τ).loc Cert.ReferenceAdamDownIdeal.main_arg5) = m ((c.tc : Thread Cert.KernelAdamDownIdeal.nD Cert.KernelAdamDownIdeal.τ).loc Cert.KernelAdamDownIdeal.main_arg5)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
          ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4)
          ∧ r.2.mem ((c.tc : Thread Cert.KernelAdamDownIdeal.nD Cert.KernelAdamDownIdeal.τ).loc Cert.KernelAdamDownIdeal.main_arg5) = m ((c.tc : Thread Cert.KernelAdamDownIdeal.nD Cert.KernelAdamDownIdeal.τ).loc Cert.KernelAdamDownIdeal.main_arg5))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v6) = v0 c
          ∧ r.2.mem ((c.tc : Thread Cert.ReferenceAdamDownIdeal.nD Cert.ReferenceAdamDownIdeal.τ).loc Cert.ReferenceAdamDownIdeal.main_v30) = v1 c
          ∧ r.2.mem ((c.tc : Thread Cert.ReferenceAdamDownIdeal.nD Cert.ReferenceAdamDownIdeal.τ).loc Cert.ReferenceAdamDownIdeal.main_v11) = v2 c
          ∧ r.2.mem ((c.tc : Thread Cert.ReferenceAdamDownIdeal.nD Cert.ReferenceAdamDownIdeal.τ).loc Cert.ReferenceAdamDownIdeal.main_v17) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3)
          ∧ r.2.mem ((c.tc : Thread Cert.ReferenceAdamDownIdeal.nD Cert.ReferenceAdamDownIdeal.τ).loc Cert.ReferenceAdamDownIdeal.main_arg4) = m' ((c.tc : Thread Cert.ReferenceAdamDownIdeal.nD Cert.ReferenceAdamDownIdeal.τ).loc Cert.ReferenceAdamDownIdeal.main_arg4)
          ∧ r.2.mem ((c.tc : Thread Cert.ReferenceAdamDownIdeal.nD Cert.ReferenceAdamDownIdeal.τ).loc Cert.ReferenceAdamDownIdeal.main_arg5) = m' ((c.tc : Thread Cert.ReferenceAdamDownIdeal.nD Cert.ReferenceAdamDownIdeal.τ).loc Cert.ReferenceAdamDownIdeal.main_arg5))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v51) = v0 c
          ∧ r.2.mem ((c.tc : Thread Cert.ReferenceLossIdeal.nD Cert.ReferenceLossIdeal.τ).loc Cert.ReferenceLossIdeal.main_v50) = v1 c
          ∧ r.2.mem ((c.tc : Thread Cert.ReferenceLossIdeal.nD Cert.ReferenceLossIdeal.τ).loc Cert.ReferenceLossIdeal.main_v33) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelFfnConv_KernelFfnConvIdeal : Prop :=
  True

def algebraic_KernelFfnConvIdeal_ReferenceFfnConvIdeal [hKernelFfnConvIdeal : Cert.KernelFfnConvIdeal.Facts] [hReferenceFfnConvIdeal : Cert.ReferenceFfnConvIdeal.Facts] : Prop :=
  ∀ (m : (ℓ : Loc Cert.KernelFfnConvIdeal.nD Cert.KernelFfnConvIdeal.τ Cert.KernelFfnConvIdeal.sig) → Buf (Elt Ideal) ℓ) (g : Dev Cert.KernelFfnConvIdeal.nD → PrngReg)
    (m' : (ℓ : Loc Cert.ReferenceFfnConvIdeal.nD Cert.ReferenceFfnConvIdeal.τ Cert.ReferenceFfnConvIdeal.sig) → Buf (Elt Ideal) ℓ) (g' : Dev Cert.ReferenceFfnConvIdeal.nD → PrngReg), Pre_KernelFfnConvIdeal m →
    (∀ c : Dev Cert.KernelFfnConvIdeal.nD,
      m' ((c.tc : Thread Cert.ReferenceFfnConvIdeal.nD Cert.ReferenceFfnConvIdeal.τ).loc Cert.ReferenceFfnConvIdeal.main_arg0) = m ((c.tc : Thread Cert.KernelFfnConvIdeal.nD Cert.KernelFfnConvIdeal.τ).loc Cert.KernelFfnConvIdeal.main_arg0)
      ∧ m' ((c.tc : Thread Cert.ReferenceFfnConvIdeal.nD Cert.ReferenceFfnConvIdeal.τ).loc Cert.ReferenceFfnConvIdeal.main_arg1) = m ((c.tc : Thread Cert.KernelFfnConvIdeal.nD Cert.KernelFfnConvIdeal.τ).loc Cert.KernelFfnConvIdeal.main_arg1)
      ∧ m' ((c.tc : Thread Cert.ReferenceFfnConvIdeal.nD Cert.ReferenceFfnConvIdeal.τ).loc Cert.ReferenceFfnConvIdeal.main_arg2) = m ((c.tc : Thread Cert.KernelFfnConvIdeal.nD Cert.KernelFfnConvIdeal.τ).loc Cert.KernelFfnConvIdeal.main_arg2)) →
    ∃ (v0 : (c : Dev Cert.KernelFfnConvIdeal.nD) → Buf (Elt Ideal) ((c.tc : Thread Cert.KernelFfnConvIdeal.nD Cert.KernelFfnConvIdeal.τ).loc Cert.KernelFfnConvIdeal.main_v0)),
      θ_run (Cert.KernelFfnConvIdeal.defs (F := Ideal)) (onTc (τ := Cert.KernelFfnConvIdeal.τ) (Cert.KernelFfnConvIdeal.main (F := Ideal))) ⟨m, fun _ => 0, g⟩ (fun r => ∀ c : Dev Cert.KernelFfnConvIdeal.nD,
          r.2.mem ((c.tc : Thread Cert.KernelFfnConvIdeal.nD Cert.KernelFfnConvIdeal.τ).loc Cert.KernelFfnConvIdeal.main_v0) = v0 c
          ∧ r.2.mem ((c.tc : Thread Cert.KernelFfnConvIdeal.nD Cert.KernelFfnConvIdeal.τ).loc Cert.KernelFfnConvIdeal.main_arg0) = m ((c.tc : Thread Cert.KernelFfnConvIdeal.nD Cert.KernelFfnConvIdeal.τ).loc Cert.KernelFfnConvIdeal.main_arg0)
          ∧ r.2.mem ((c.tc : Thread Cert.KernelFfnConvIdeal.nD Cert.KernelFfnConvIdeal.τ).loc Cert.KernelFfnConvIdeal.main_arg1) = m ((c.tc : Thread Cert.KernelFfnConvIdeal.nD Cert.KernelFfnConvIdeal.τ).loc Cert.KernelFfnConvIdeal.main_arg1)
          ∧ r.2.mem ((c.tc : Thread Cert.KernelFfnConvIdeal.nD Cert.KernelFfnConvIdeal.τ).loc Cert.KernelFfnConvIdeal.main_arg2) = m ((c.tc : Thread Cert.KernelFfnConvIdeal.nD Cert.KernelFfnConvIdeal.τ).loc Cert.KernelFfnConvIdeal.main_arg2))
      ∧ θ_run (Cert.ReferenceFfnConvIdeal.defs (F := Ideal)) (onTc (τ := Cert.ReferenceFfnConvIdeal.τ) (Cert.ReferenceFfnConvIdeal.main (F := Ideal))) ⟨m', fun _ => 0, g'⟩ (fun r => ∀ c : Dev Cert.ReferenceFfnConvIdeal.nD,
          r.2.mem ((c.tc : Thread Cert.ReferenceFfnConvIdeal.nD Cert.ReferenceFfnConvIdeal.τ).loc Cert.ReferenceFfnConvIdeal.main_v27) = v0 c
          ∧ r.2.mem ((c.tc : Thread Cert.ReferenceFfnConvIdeal.nD Cert.ReferenceFfnConvIdeal.τ).loc Cert.ReferenceFfnConvIdeal.main_arg0) = m' ((c.tc : Thread Cert.ReferenceFfnConvIdeal.nD Cert.ReferenceFfnConvIdeal.τ).loc Cert.ReferenceFfnConvIdeal.main_arg0)
          ∧ r.2.mem ((c.tc : Thread Cert.ReferenceFfnConvIdeal.nD Cert.ReferenceFfnConvIdeal.τ).loc Cert.ReferenceFfnConvIdeal.main_arg1) = m' ((c.tc : Thread Cert.ReferenceFfnConvIdeal.nD Cert.ReferenceFfnConvIdeal.τ).loc Cert.ReferenceFfnConvIdeal.main_arg1)
          ∧ r.2.mem ((c.tc : Thread Cert.ReferenceFfnConvIdeal.nD Cert.ReferenceFfnConvIdeal.τ).loc Cert.ReferenceFfnConvIdeal.main_arg2) = m' ((c.tc : Thread Cert.ReferenceFfnConvIdeal.nD Cert.ReferenceFfnConvIdeal.τ).loc Cert.ReferenceFfnConvIdeal.main_arg2))

def preserves_KernelSsdConv_KernelSsdConvIdeal : Prop :=
  True

def algebraic_KernelSsdConvIdeal_ReferenceSsdConvIdeal [hKernelSsdConvIdeal : Cert.KernelSsdConvIdeal.Facts] [hReferenceSsdConvIdeal : Cert.ReferenceSsdConvIdeal.Facts] : Prop :=
  ∀ (m : (ℓ : Loc Cert.KernelSsdConvIdeal.nD Cert.KernelSsdConvIdeal.τ Cert.KernelSsdConvIdeal.sig) → Buf (Elt Ideal) ℓ) (g : Dev Cert.KernelSsdConvIdeal.nD → PrngReg)
    (m' : (ℓ : Loc Cert.ReferenceSsdConvIdeal.nD Cert.ReferenceSsdConvIdeal.τ Cert.ReferenceSsdConvIdeal.sig) → Buf (Elt Ideal) ℓ) (g' : Dev Cert.ReferenceSsdConvIdeal.nD → PrngReg), Pre_KernelSsdConvIdeal m →
    (∀ c : Dev Cert.KernelSsdConvIdeal.nD,
      m' ((c.tc : Thread Cert.ReferenceSsdConvIdeal.nD Cert.ReferenceSsdConvIdeal.τ).loc Cert.ReferenceSsdConvIdeal.main_arg0) = m ((c.tc : Thread Cert.KernelSsdConvIdeal.nD Cert.KernelSsdConvIdeal.τ).loc Cert.KernelSsdConvIdeal.main_arg0)
      ∧ m' ((c.tc : Thread Cert.ReferenceSsdConvIdeal.nD Cert.ReferenceSsdConvIdeal.τ).loc Cert.ReferenceSsdConvIdeal.main_arg1) = m ((c.tc : Thread Cert.KernelSsdConvIdeal.nD Cert.KernelSsdConvIdeal.τ).loc Cert.KernelSsdConvIdeal.main_arg1)
      ∧ m' ((c.tc : Thread Cert.ReferenceSsdConvIdeal.nD Cert.ReferenceSsdConvIdeal.τ).loc Cert.ReferenceSsdConvIdeal.main_arg2) = m ((c.tc : Thread Cert.KernelSsdConvIdeal.nD Cert.KernelSsdConvIdeal.τ).loc Cert.KernelSsdConvIdeal.main_arg2)) →
    ∃ (v0 : (c : Dev Cert.KernelSsdConvIdeal.nD) → Buf (Elt Ideal) ((c.tc : Thread Cert.KernelSsdConvIdeal.nD Cert.KernelSsdConvIdeal.τ).loc Cert.KernelSsdConvIdeal.main_v0)),
      θ_run (Cert.KernelSsdConvIdeal.defs (F := Ideal)) (onTc (τ := Cert.KernelSsdConvIdeal.τ) (Cert.KernelSsdConvIdeal.main (F := Ideal))) ⟨m, fun _ => 0, g⟩ (fun r => ∀ c : Dev Cert.KernelSsdConvIdeal.nD,
          r.2.mem ((c.tc : Thread Cert.KernelSsdConvIdeal.nD Cert.KernelSsdConvIdeal.τ).loc Cert.KernelSsdConvIdeal.main_v0) = v0 c
          ∧ r.2.mem ((c.tc : Thread Cert.KernelSsdConvIdeal.nD Cert.KernelSsdConvIdeal.τ).loc Cert.KernelSsdConvIdeal.main_arg0) = m ((c.tc : Thread Cert.KernelSsdConvIdeal.nD Cert.KernelSsdConvIdeal.τ).loc Cert.KernelSsdConvIdeal.main_arg0)
          ∧ r.2.mem ((c.tc : Thread Cert.KernelSsdConvIdeal.nD Cert.KernelSsdConvIdeal.τ).loc Cert.KernelSsdConvIdeal.main_arg1) = m ((c.tc : Thread Cert.KernelSsdConvIdeal.nD Cert.KernelSsdConvIdeal.τ).loc Cert.KernelSsdConvIdeal.main_arg1)
          ∧ r.2.mem ((c.tc : Thread Cert.KernelSsdConvIdeal.nD Cert.KernelSsdConvIdeal.τ).loc Cert.KernelSsdConvIdeal.main_arg2) = m ((c.tc : Thread Cert.KernelSsdConvIdeal.nD Cert.KernelSsdConvIdeal.τ).loc Cert.KernelSsdConvIdeal.main_arg2))
      ∧ θ_run (Cert.ReferenceSsdConvIdeal.defs (F := Ideal)) (onTc (τ := Cert.ReferenceSsdConvIdeal.τ) (Cert.ReferenceSsdConvIdeal.main (F := Ideal))) ⟨m', fun _ => 0, g'⟩ (fun r => ∀ c : Dev Cert.ReferenceSsdConvIdeal.nD,
          r.2.mem ((c.tc : Thread Cert.ReferenceSsdConvIdeal.nD Cert.ReferenceSsdConvIdeal.τ).loc Cert.ReferenceSsdConvIdeal.main_v32) = v0 c
          ∧ r.2.mem ((c.tc : Thread Cert.ReferenceSsdConvIdeal.nD Cert.ReferenceSsdConvIdeal.τ).loc Cert.ReferenceSsdConvIdeal.main_arg0) = m' ((c.tc : Thread Cert.ReferenceSsdConvIdeal.nD Cert.ReferenceSsdConvIdeal.τ).loc Cert.ReferenceSsdConvIdeal.main_arg0)
          ∧ r.2.mem ((c.tc : Thread Cert.ReferenceSsdConvIdeal.nD Cert.ReferenceSsdConvIdeal.τ).loc Cert.ReferenceSsdConvIdeal.main_arg1) = m' ((c.tc : Thread Cert.ReferenceSsdConvIdeal.nD Cert.ReferenceSsdConvIdeal.τ).loc Cert.ReferenceSsdConvIdeal.main_arg1)
          ∧ r.2.mem ((c.tc : Thread Cert.ReferenceSsdConvIdeal.nD Cert.ReferenceSsdConvIdeal.τ).loc Cert.ReferenceSsdConvIdeal.main_arg2) = m' ((c.tc : Thread Cert.ReferenceSsdConvIdeal.nD Cert.ReferenceSsdConvIdeal.τ).loc Cert.ReferenceSsdConvIdeal.main_arg2))

def preserves_KernelSmallMeta_KernelSmallMetaIdeal : Prop :=
  True

def algebraic_KernelSmallMetaIdeal_ReferenceSmallMetaIdeal [hKernelSmallMetaIdeal : Cert.KernelSmallMetaIdeal.Facts] [hReferenceSmallMetaIdeal : Cert.ReferenceSmallMetaIdeal.Facts] [hPre_chip_meta : Cert.Pre_chip_meta.Facts] : Prop :=
  ∀ (m : (ℓ : Loc Cert.KernelSmallMetaIdeal.nD Cert.KernelSmallMetaIdeal.τ Cert.KernelSmallMetaIdeal.sig) → Buf (Elt Ideal) ℓ) (g : Dev Cert.KernelSmallMetaIdeal.nD → PrngReg)
    (m' : (ℓ : Loc Cert.ReferenceSmallMetaIdeal.nD Cert.ReferenceSmallMetaIdeal.τ Cert.ReferenceSmallMetaIdeal.sig) → Buf (Elt Ideal) ℓ) (g' : Dev Cert.ReferenceSmallMetaIdeal.nD → PrngReg), Pre_KernelSmallMetaIdeal m →
    (∀ c : Dev Cert.KernelSmallMetaIdeal.nD,
      m' ((c.tc : Thread Cert.ReferenceSmallMetaIdeal.nD Cert.ReferenceSmallMetaIdeal.τ).loc Cert.ReferenceSmallMetaIdeal.main_arg0) = m ((c.tc : Thread Cert.KernelSmallMetaIdeal.nD Cert.KernelSmallMetaIdeal.τ).loc Cert.KernelSmallMetaIdeal.main_arg0)
      ∧ m' ((c.tc : Thread Cert.ReferenceSmallMetaIdeal.nD Cert.ReferenceSmallMetaIdeal.τ).loc Cert.ReferenceSmallMetaIdeal.main_arg1) = m ((c.tc : Thread Cert.KernelSmallMetaIdeal.nD Cert.KernelSmallMetaIdeal.τ).loc Cert.KernelSmallMetaIdeal.main_arg1)
      ∧ m' ((c.tc : Thread Cert.ReferenceSmallMetaIdeal.nD Cert.ReferenceSmallMetaIdeal.τ).loc Cert.ReferenceSmallMetaIdeal.main_arg2) = m ((c.tc : Thread Cert.KernelSmallMetaIdeal.nD Cert.KernelSmallMetaIdeal.τ).loc Cert.KernelSmallMetaIdeal.main_arg2)
      ∧ m' ((c.tc : Thread Cert.ReferenceSmallMetaIdeal.nD Cert.ReferenceSmallMetaIdeal.τ).loc Cert.ReferenceSmallMetaIdeal.main_arg3) = m ((c.tc : Thread Cert.KernelSmallMetaIdeal.nD Cert.KernelSmallMetaIdeal.τ).loc Cert.KernelSmallMetaIdeal.main_arg3)
      ∧ m' ((c.tc : Thread Cert.ReferenceSmallMetaIdeal.nD Cert.ReferenceSmallMetaIdeal.τ).loc Cert.ReferenceSmallMetaIdeal.main_arg4) = m ((c.tc : Thread Cert.KernelSmallMetaIdeal.nD Cert.KernelSmallMetaIdeal.τ).loc Cert.KernelSmallMetaIdeal.main_arg4)
      ∧ m' ((c.tc : Thread Cert.ReferenceSmallMetaIdeal.nD Cert.ReferenceSmallMetaIdeal.τ).loc Cert.ReferenceSmallMetaIdeal.main_arg5) = m ((c.tc : Thread Cert.KernelSmallMetaIdeal.nD Cert.KernelSmallMetaIdeal.τ).loc Cert.KernelSmallMetaIdeal.main_arg5)) →
    ∃ (v0 : (c : Dev Cert.KernelSmallMetaIdeal.nD) → Buf (Elt Ideal) ((c.tc : Thread Cert.KernelSmallMetaIdeal.nD Cert.KernelSmallMetaIdeal.τ).loc Cert.KernelSmallMetaIdeal.main_v0_0)) (v1 : (c : Dev Cert.KernelSmallMetaIdeal.nD) → Buf (Elt Ideal) ((c.tc : Thread Cert.KernelSmallMetaIdeal.nD Cert.KernelSmallMetaIdeal.τ).loc Cert.KernelSmallMetaIdeal.main_v0_1)) (v2 : (c : Dev Cert.KernelSmallMetaIdeal.nD) → Buf (Elt Ideal) ((c.tc : Thread Cert.KernelSmallMetaIdeal.nD Cert.KernelSmallMetaIdeal.τ).loc Cert.KernelSmallMetaIdeal.main_v0_2)) (v3 : (c : Dev Cert.KernelSmallMetaIdeal.nD) → Buf (Elt Ideal) ((c.tc : Thread Cert.KernelSmallMetaIdeal.nD Cert.KernelSmallMetaIdeal.τ).loc Cert.KernelSmallMetaIdeal.main_v0_3)) (v4 : (c : Dev Cert.KernelSmallMetaIdeal.nD) → Buf (Elt Ideal) ((c.tc : Thread Cert.KernelSmallMetaIdeal.nD Cert.KernelSmallMetaIdeal.τ).loc Cert.KernelSmallMetaIdeal.main_v0_4)),
      θ_run (Cert.KernelSmallMetaIdeal.defs (F := Ideal)) (onTc (τ := Cert.KernelSmallMetaIdeal.τ) (Cert.KernelSmallMetaIdeal.main (F := Ideal))) ⟨m, fun _ => 0, g⟩ (fun r => ∀ c : Dev Cert.KernelSmallMetaIdeal.nD,
          r.2.mem ((c.tc : Thread Cert.KernelSmallMetaIdeal.nD Cert.KernelSmallMetaIdeal.τ).loc Cert.KernelSmallMetaIdeal.main_v0_0) = v0 c
          ∧ r.2.mem ((c.tc : Thread Cert.KernelSmallMetaIdeal.nD Cert.KernelSmallMetaIdeal.τ).loc Cert.KernelSmallMetaIdeal.main_v0_1) = v1 c
          ∧ r.2.mem ((c.tc : Thread Cert.KernelSmallMetaIdeal.nD Cert.KernelSmallMetaIdeal.τ).loc Cert.KernelSmallMetaIdeal.main_v0_2) = v2 c
          ∧ r.2.mem ((c.tc : Thread Cert.KernelSmallMetaIdeal.nD Cert.KernelSmallMetaIdeal.τ).loc Cert.KernelSmallMetaIdeal.main_v0_3) = v3 c
          ∧ r.2.mem ((c.tc : Thread Cert.KernelSmallMetaIdeal.nD Cert.KernelSmallMetaIdeal.τ).loc Cert.KernelSmallMetaIdeal.main_v0_4) = v4 c
          ∧ r.2.mem ((c.tc : Thread Cert.KernelSmallMetaIdeal.nD Cert.KernelSmallMetaIdeal.τ).loc Cert.KernelSmallMetaIdeal.main_arg0) = m ((c.tc : Thread Cert.KernelSmallMetaIdeal.nD Cert.KernelSmallMetaIdeal.τ).loc Cert.KernelSmallMetaIdeal.main_arg0)
          ∧ r.2.mem ((c.tc : Thread Cert.KernelSmallMetaIdeal.nD Cert.KernelSmallMetaIdeal.τ).loc Cert.KernelSmallMetaIdeal.main_arg1) = m ((c.tc : Thread Cert.KernelSmallMetaIdeal.nD Cert.KernelSmallMetaIdeal.τ).loc Cert.KernelSmallMetaIdeal.main_arg1)
          ∧ r.2.mem ((c.tc : Thread Cert.KernelSmallMetaIdeal.nD Cert.KernelSmallMetaIdeal.τ).loc Cert.KernelSmallMetaIdeal.main_arg2) = m ((c.tc : Thread Cert.KernelSmallMetaIdeal.nD Cert.KernelSmallMetaIdeal.τ).loc Cert.KernelSmallMetaIdeal.main_arg2)
          ∧ r.2.mem ((c.tc : Thread Cert.KernelSmallMetaIdeal.nD Cert.KernelSmallMetaIdeal.τ).loc Cert.KernelSmallMetaIdeal.main_arg3) = m ((c.tc : Thread Cert.KernelSmallMetaIdeal.nD Cert.KernelSmallMetaIdeal.τ).loc Cert.KernelSmallMetaIdeal.main_arg3)
          ∧ r.2.mem ((c.tc : Thread Cert.KernelSmallMetaIdeal.nD Cert.KernelSmallMetaIdeal.τ).loc Cert.KernelSmallMetaIdeal.main_arg4) = m ((c.tc : Thread Cert.KernelSmallMetaIdeal.nD Cert.KernelSmallMetaIdeal.τ).loc Cert.KernelSmallMetaIdeal.main_arg4)
          ∧ r.2.mem ((c.tc : Thread Cert.KernelSmallMetaIdeal.nD Cert.KernelSmallMetaIdeal.τ).loc Cert.KernelSmallMetaIdeal.main_arg5) = m ((c.tc : Thread Cert.KernelSmallMetaIdeal.nD Cert.KernelSmallMetaIdeal.τ).loc Cert.KernelSmallMetaIdeal.main_arg5))
      ∧ θ_run (Cert.ReferenceSmallMetaIdeal.defs (F := Ideal)) (onTc (τ := Cert.ReferenceSmallMetaIdeal.τ) (Cert.ReferenceSmallMetaIdeal.main (F := Ideal))) ⟨m', fun _ => 0, g'⟩ (fun r => ∀ c : Dev Cert.ReferenceSmallMetaIdeal.nD,
          r.2.mem ((c.tc : Thread Cert.ReferenceSmallMetaIdeal.nD Cert.ReferenceSmallMetaIdeal.τ).loc Cert.ReferenceSmallMetaIdeal.main_v21) = v0 c
          ∧ r.2.mem ((c.tc : Thread Cert.ReferenceSmallMetaIdeal.nD Cert.ReferenceSmallMetaIdeal.τ).loc Cert.ReferenceSmallMetaIdeal.main_v45) = v1 c
          ∧ r.2.mem ((c.tc : Thread Cert.ReferenceSmallMetaIdeal.nD Cert.ReferenceSmallMetaIdeal.τ).loc Cert.ReferenceSmallMetaIdeal.main_v26) = v2 c
          ∧ r.2.mem ((c.tc : Thread Cert.ReferenceSmallMetaIdeal.nD Cert.ReferenceSmallMetaIdeal.τ).loc Cert.ReferenceSmallMetaIdeal.main_v32) = v3 c
          ∧ r.2.mem ((c.tc : Thread Cert.ReferenceSmallMetaIdeal.nD Cert.ReferenceSmallMetaIdeal.τ).loc Cert.ReferenceSmallMetaIdeal.main_v47) = v4 c
          ∧ r.2.mem ((c.tc : Thread Cert.ReferenceSmallMetaIdeal.nD Cert.ReferenceSmallMetaIdeal.τ).loc Cert.ReferenceSmallMetaIdeal.main_arg0) = m' ((c.tc : Thread Cert.ReferenceSmallMetaIdeal.nD Cert.ReferenceSmallMetaIdeal.τ).loc Cert.ReferenceSmallMetaIdeal.main_arg0)
          ∧ r.2.mem ((c.tc : Thread Cert.ReferenceSmallMetaIdeal.nD Cert.ReferenceSmallMetaIdeal.τ).loc Cert.ReferenceSmallMetaIdeal.main_arg1) = m' ((c.tc : Thread Cert.ReferenceSmallMetaIdeal.nD Cert.ReferenceSmallMetaIdeal.τ).loc Cert.ReferenceSmallMetaIdeal.main_arg1)
          ∧ r.2.mem ((c.tc : Thread Cert.ReferenceSmallMetaIdeal.nD Cert.ReferenceSmallMetaIdeal.τ).loc Cert.ReferenceSmallMetaIdeal.main_arg2) = m' ((c.tc : Thread Cert.ReferenceSmallMetaIdeal.nD Cert.ReferenceSmallMetaIdeal.τ).loc Cert.ReferenceSmallMetaIdeal.main_arg2)
          ∧ r.2.mem ((c.tc : Thread Cert.ReferenceSmallMetaIdeal.nD Cert.ReferenceSmallMetaIdeal.τ).loc Cert.ReferenceSmallMetaIdeal.main_arg3) = m' ((c.tc : Thread Cert.ReferenceSmallMetaIdeal.nD Cert.ReferenceSmallMetaIdeal.τ).loc Cert.ReferenceSmallMetaIdeal.main_arg3)
          ∧ r.2.mem ((c.tc : Thread Cert.ReferenceSmallMetaIdeal.nD Cert.ReferenceSmallMetaIdeal.τ).loc Cert.ReferenceSmallMetaIdeal.main_arg4) = m' ((c.tc : Thread Cert.ReferenceSmallMetaIdeal.nD Cert.ReferenceSmallMetaIdeal.τ).loc Cert.ReferenceSmallMetaIdeal.main_arg4)
          ∧ r.2.mem ((c.tc : Thread Cert.ReferenceSmallMetaIdeal.nD Cert.ReferenceSmallMetaIdeal.τ).loc Cert.ReferenceSmallMetaIdeal.main_arg5) = m' ((c.tc : Thread Cert.ReferenceSmallMetaIdeal.nD Cert.ReferenceSmallMetaIdeal.τ).loc Cert.ReferenceSmallMetaIdeal.main_arg5))

def preserves_KernelSmallSsd_KernelSmallSsdIdeal : Prop :=
  True

def algebraic_KernelSmallSsdIdeal_ReferenceSmallSsdIdeal [hKernelSmallSsdIdeal : Cert.KernelSmallSsdIdeal.Facts] [hReferenceSmallSsdIdeal : Cert.ReferenceSmallSsdIdeal.Facts] [hPre_chip_ssd : Cert.Pre_chip_ssd.Facts] : Prop :=
  ∀ (m : (ℓ : Loc Cert.KernelSmallSsdIdeal.nD Cert.KernelSmallSsdIdeal.τ Cert.KernelSmallSsdIdeal.sig) → Buf (Elt Ideal) ℓ) (g : Dev Cert.KernelSmallSsdIdeal.nD → PrngReg)
    (m' : (ℓ : Loc Cert.ReferenceSmallSsdIdeal.nD Cert.ReferenceSmallSsdIdeal.τ Cert.ReferenceSmallSsdIdeal.sig) → Buf (Elt Ideal) ℓ) (g' : Dev Cert.ReferenceSmallSsdIdeal.nD → PrngReg), Pre_KernelSmallSsdIdeal m →
    (∀ c : Dev Cert.KernelSmallSsdIdeal.nD,
      m' ((c.tc : Thread Cert.ReferenceSmallSsdIdeal.nD Cert.ReferenceSmallSsdIdeal.τ).loc Cert.ReferenceSmallSsdIdeal.main_arg0) = m ((c.tc : Thread Cert.KernelSmallSsdIdeal.nD Cert.KernelSmallSsdIdeal.τ).loc Cert.KernelSmallSsdIdeal.main_arg0)
      ∧ m' ((c.tc : Thread Cert.ReferenceSmallSsdIdeal.nD Cert.ReferenceSmallSsdIdeal.τ).loc Cert.ReferenceSmallSsdIdeal.main_arg1) = m ((c.tc : Thread Cert.KernelSmallSsdIdeal.nD Cert.KernelSmallSsdIdeal.τ).loc Cert.KernelSmallSsdIdeal.main_arg1)
      ∧ m' ((c.tc : Thread Cert.ReferenceSmallSsdIdeal.nD Cert.ReferenceSmallSsdIdeal.τ).loc Cert.ReferenceSmallSsdIdeal.main_arg2) = m ((c.tc : Thread Cert.KernelSmallSsdIdeal.nD Cert.KernelSmallSsdIdeal.τ).loc Cert.KernelSmallSsdIdeal.main_arg2)
      ∧ m' ((c.tc : Thread Cert.ReferenceSmallSsdIdeal.nD Cert.ReferenceSmallSsdIdeal.τ).loc Cert.ReferenceSmallSsdIdeal.main_arg3) = m ((c.tc : Thread Cert.KernelSmallSsdIdeal.nD Cert.KernelSmallSsdIdeal.τ).loc Cert.KernelSmallSsdIdeal.main_arg3)
      ∧ m' ((c.tc : Thread Cert.ReferenceSmallSsdIdeal.nD Cert.ReferenceSmallSsdIdeal.τ).loc Cert.ReferenceSmallSsdIdeal.main_arg4) = m ((c.tc : Thread Cert.KernelSmallSsdIdeal.nD Cert.KernelSmallSsdIdeal.τ).loc Cert.KernelSmallSsdIdeal.main_arg4)
      ∧ m' ((c.tc : Thread Cert.ReferenceSmallSsdIdeal.nD Cert.ReferenceSmallSsdIdeal.τ).loc Cert.ReferenceSmallSsdIdeal.main_arg5) = m ((c.tc : Thread Cert.KernelSmallSsdIdeal.nD Cert.KernelSmallSsdIdeal.τ).loc Cert.KernelSmallSsdIdeal.main_arg5)) →
    ∃ (v0 : (c : Dev Cert.KernelSmallSsdIdeal.nD) → Buf (Elt Ideal) ((c.tc : Thread Cert.KernelSmallSsdIdeal.nD Cert.KernelSmallSsdIdeal.τ).loc Cert.KernelSmallSsdIdeal.main_v0_0)) (v1 : (c : Dev Cert.KernelSmallSsdIdeal.nD) → Buf (Elt Ideal) ((c.tc : Thread Cert.KernelSmallSsdIdeal.nD Cert.KernelSmallSsdIdeal.τ).loc Cert.KernelSmallSsdIdeal.main_v0_1)) (v2 : (c : Dev Cert.KernelSmallSsdIdeal.nD) → Buf (Elt Ideal) ((c.tc : Thread Cert.KernelSmallSsdIdeal.nD Cert.KernelSmallSsdIdeal.τ).loc Cert.KernelSmallSsdIdeal.main_v0_2)) (v3 : (c : Dev Cert.KernelSmallSsdIdeal.nD) → Buf (Elt Ideal) ((c.tc : Thread Cert.KernelSmallSsdIdeal.nD Cert.KernelSmallSsdIdeal.τ).loc Cert.KernelSmallSsdIdeal.main_v0_3)) (v4 : (c : Dev Cert.KernelSmallSsdIdeal.nD) → Buf (Elt Ideal) ((c.tc : Thread Cert.KernelSmallSsdIdeal.nD Cert.KernelSmallSsdIdeal.τ).loc Cert.KernelSmallSsdIdeal.main_v0_4)),
      θ_run (Cert.KernelSmallSsdIdeal.defs (F := Ideal)) (onTc (τ := Cert.KernelSmallSsdIdeal.τ) (Cert.KernelSmallSsdIdeal.main (F := Ideal))) ⟨m, fun _ => 0, g⟩ (fun r => ∀ c : Dev Cert.KernelSmallSsdIdeal.nD,
          r.2.mem ((c.tc : Thread Cert.KernelSmallSsdIdeal.nD Cert.KernelSmallSsdIdeal.τ).loc Cert.KernelSmallSsdIdeal.main_v0_0) = v0 c
          ∧ r.2.mem ((c.tc : Thread Cert.KernelSmallSsdIdeal.nD Cert.KernelSmallSsdIdeal.τ).loc Cert.KernelSmallSsdIdeal.main_v0_1) = v1 c
          ∧ r.2.mem ((c.tc : Thread Cert.KernelSmallSsdIdeal.nD Cert.KernelSmallSsdIdeal.τ).loc Cert.KernelSmallSsdIdeal.main_v0_2) = v2 c
          ∧ r.2.mem ((c.tc : Thread Cert.KernelSmallSsdIdeal.nD Cert.KernelSmallSsdIdeal.τ).loc Cert.KernelSmallSsdIdeal.main_v0_3) = v3 c
          ∧ r.2.mem ((c.tc : Thread Cert.KernelSmallSsdIdeal.nD Cert.KernelSmallSsdIdeal.τ).loc Cert.KernelSmallSsdIdeal.main_v0_4) = v4 c
          ∧ r.2.mem ((c.tc : Thread Cert.KernelSmallSsdIdeal.nD Cert.KernelSmallSsdIdeal.τ).loc Cert.KernelSmallSsdIdeal.main_arg0) = m ((c.tc : Thread Cert.KernelSmallSsdIdeal.nD Cert.KernelSmallSsdIdeal.τ).loc Cert.KernelSmallSsdIdeal.main_arg0)
          ∧ r.2.mem ((c.tc : Thread Cert.KernelSmallSsdIdeal.nD Cert.KernelSmallSsdIdeal.τ).loc Cert.KernelSmallSsdIdeal.main_arg1) = m ((c.tc : Thread Cert.KernelSmallSsdIdeal.nD Cert.KernelSmallSsdIdeal.τ).loc Cert.KernelSmallSsdIdeal.main_arg1)
          ∧ r.2.mem ((c.tc : Thread Cert.KernelSmallSsdIdeal.nD Cert.KernelSmallSsdIdeal.τ).loc Cert.KernelSmallSsdIdeal.main_arg2) = m ((c.tc : Thread Cert.KernelSmallSsdIdeal.nD Cert.KernelSmallSsdIdeal.τ).loc Cert.KernelSmallSsdIdeal.main_arg2)
          ∧ r.2.mem ((c.tc : Thread Cert.KernelSmallSsdIdeal.nD Cert.KernelSmallSsdIdeal.τ).loc Cert.KernelSmallSsdIdeal.main_arg3) = m ((c.tc : Thread Cert.KernelSmallSsdIdeal.nD Cert.KernelSmallSsdIdeal.τ).loc Cert.KernelSmallSsdIdeal.main_arg3)
          ∧ r.2.mem ((c.tc : Thread Cert.KernelSmallSsdIdeal.nD Cert.KernelSmallSsdIdeal.τ).loc Cert.KernelSmallSsdIdeal.main_arg4) = m ((c.tc : Thread Cert.KernelSmallSsdIdeal.nD Cert.KernelSmallSsdIdeal.τ).loc Cert.KernelSmallSsdIdeal.main_arg4)
          ∧ r.2.mem ((c.tc : Thread Cert.KernelSmallSsdIdeal.nD Cert.KernelSmallSsdIdeal.τ).loc Cert.KernelSmallSsdIdeal.main_arg5) = m ((c.tc : Thread Cert.KernelSmallSsdIdeal.nD Cert.KernelSmallSsdIdeal.τ).loc Cert.KernelSmallSsdIdeal.main_arg5))
      ∧ θ_run (Cert.ReferenceSmallSsdIdeal.defs (F := Ideal)) (onTc (τ := Cert.ReferenceSmallSsdIdeal.τ) (Cert.ReferenceSmallSsdIdeal.main (F := Ideal))) ⟨m', fun _ => 0, g'⟩ (fun r => ∀ c : Dev Cert.ReferenceSmallSsdIdeal.nD,
          r.2.mem ((c.tc : Thread Cert.ReferenceSmallSsdIdeal.nD Cert.ReferenceSmallSsdIdeal.τ).loc Cert.ReferenceSmallSsdIdeal.main_v22) = v0 c
          ∧ r.2.mem ((c.tc : Thread Cert.ReferenceSmallSsdIdeal.nD Cert.ReferenceSmallSsdIdeal.τ).loc Cert.ReferenceSmallSsdIdeal.main_v46) = v1 c
          ∧ r.2.mem ((c.tc : Thread Cert.ReferenceSmallSsdIdeal.nD Cert.ReferenceSmallSsdIdeal.τ).loc Cert.ReferenceSmallSsdIdeal.main_v27) = v2 c
          ∧ r.2.mem ((c.tc : Thread Cert.ReferenceSmallSsdIdeal.nD Cert.ReferenceSmallSsdIdeal.τ).loc Cert.ReferenceSmallSsdIdeal.main_v33) = v3 c
          ∧ r.2.mem ((c.tc : Thread Cert.ReferenceSmallSsdIdeal.nD Cert.ReferenceSmallSsdIdeal.τ).loc Cert.ReferenceSmallSsdIdeal.main_v48) = v4 c
          ∧ r.2.mem ((c.tc : Thread Cert.ReferenceSmallSsdIdeal.nD Cert.ReferenceSmallSsdIdeal.τ).loc Cert.ReferenceSmallSsdIdeal.main_arg0) = m' ((c.tc : Thread Cert.ReferenceSmallSsdIdeal.nD Cert.ReferenceSmallSsdIdeal.τ).loc Cert.ReferenceSmallSsdIdeal.main_arg0)
          ∧ r.2.mem ((c.tc : Thread Cert.ReferenceSmallSsdIdeal.nD Cert.ReferenceSmallSsdIdeal.τ).loc Cert.ReferenceSmallSsdIdeal.main_arg1) = m' ((c.tc : Thread Cert.ReferenceSmallSsdIdeal.nD Cert.ReferenceSmallSsdIdeal.τ).loc Cert.ReferenceSmallSsdIdeal.main_arg1)
          ∧ r.2.mem ((c.tc : Thread Cert.ReferenceSmallSsdIdeal.nD Cert.ReferenceSmallSsdIdeal.τ).loc Cert.ReferenceSmallSsdIdeal.main_arg2) = m' ((c.tc : Thread Cert.ReferenceSmallSsdIdeal.nD Cert.ReferenceSmallSsdIdeal.τ).loc Cert.ReferenceSmallSsdIdeal.main_arg2)
          ∧ r.2.mem ((c.tc : Thread Cert.ReferenceSmallSsdIdeal.nD Cert.ReferenceSmallSsdIdeal.τ).loc Cert.ReferenceSmallSsdIdeal.main_arg3) = m' ((c.tc : Thread Cert.ReferenceSmallSsdIdeal.nD Cert.ReferenceSmallSsdIdeal.τ).loc Cert.ReferenceSmallSsdIdeal.main_arg3)
          ∧ r.2.mem ((c.tc : Thread Cert.ReferenceSmallSsdIdeal.nD Cert.ReferenceSmallSsdIdeal.τ).loc Cert.ReferenceSmallSsdIdeal.main_arg4) = m' ((c.tc : Thread Cert.ReferenceSmallSsdIdeal.nD Cert.ReferenceSmallSsdIdeal.τ).loc Cert.ReferenceSmallSsdIdeal.main_arg4)
          ∧ r.2.mem ((c.tc : Thread Cert.ReferenceSmallSsdIdeal.nD Cert.ReferenceSmallSsdIdeal.τ).loc Cert.ReferenceSmallSsdIdeal.main_arg5) = m' ((c.tc : Thread Cert.ReferenceSmallSsdIdeal.nD Cert.ReferenceSmallSsdIdeal.τ).loc Cert.ReferenceSmallSsdIdeal.main_arg5))

def preserves_KernelSmallFfn_KernelSmallFfnIdeal : Prop :=
  True

def algebraic_KernelSmallFfnIdeal_ReferenceSmallFfnIdeal [hKernelSmallFfnIdeal : Cert.KernelSmallFfnIdeal.Facts] [hReferenceSmallFfnIdeal : Cert.ReferenceSmallFfnIdeal.Facts] [hPre_chip_ffn : Cert.Pre_chip_ffn.Facts] : Prop :=
  ∀ (m : (ℓ : Loc Cert.KernelSmallFfnIdeal.nD Cert.KernelSmallFfnIdeal.τ Cert.KernelSmallFfnIdeal.sig) → Buf (Elt Ideal) ℓ) (g : Dev Cert.KernelSmallFfnIdeal.nD → PrngReg)
    (m' : (ℓ : Loc Cert.ReferenceSmallFfnIdeal.nD Cert.ReferenceSmallFfnIdeal.τ Cert.ReferenceSmallFfnIdeal.sig) → Buf (Elt Ideal) ℓ) (g' : Dev Cert.ReferenceSmallFfnIdeal.nD → PrngReg), Pre_KernelSmallFfnIdeal m →
    (∀ c : Dev Cert.KernelSmallFfnIdeal.nD,
      m' ((c.tc : Thread Cert.ReferenceSmallFfnIdeal.nD Cert.ReferenceSmallFfnIdeal.τ).loc Cert.ReferenceSmallFfnIdeal.main_arg0) = m ((c.tc : Thread Cert.KernelSmallFfnIdeal.nD Cert.KernelSmallFfnIdeal.τ).loc Cert.KernelSmallFfnIdeal.main_arg0)
      ∧ m' ((c.tc : Thread Cert.ReferenceSmallFfnIdeal.nD Cert.ReferenceSmallFfnIdeal.τ).loc Cert.ReferenceSmallFfnIdeal.main_arg1) = m ((c.tc : Thread Cert.KernelSmallFfnIdeal.nD Cert.KernelSmallFfnIdeal.τ).loc Cert.KernelSmallFfnIdeal.main_arg1)
      ∧ m' ((c.tc : Thread Cert.ReferenceSmallFfnIdeal.nD Cert.ReferenceSmallFfnIdeal.τ).loc Cert.ReferenceSmallFfnIdeal.main_arg2) = m ((c.tc : Thread Cert.KernelSmallFfnIdeal.nD Cert.KernelSmallFfnIdeal.τ).loc Cert.KernelSmallFfnIdeal.main_arg2)
      ∧ m' ((c.tc : Thread Cert.ReferenceSmallFfnIdeal.nD Cert.ReferenceSmallFfnIdeal.τ).loc Cert.ReferenceSmallFfnIdeal.main_arg3) = m ((c.tc : Thread Cert.KernelSmallFfnIdeal.nD Cert.KernelSmallFfnIdeal.τ).loc Cert.KernelSmallFfnIdeal.main_arg3)
      ∧ m' ((c.tc : Thread Cert.ReferenceSmallFfnIdeal.nD Cert.ReferenceSmallFfnIdeal.τ).loc Cert.ReferenceSmallFfnIdeal.main_arg4) = m ((c.tc : Thread Cert.KernelSmallFfnIdeal.nD Cert.KernelSmallFfnIdeal.τ).loc Cert.KernelSmallFfnIdeal.main_arg4)
      ∧ m' ((c.tc : Thread Cert.ReferenceSmallFfnIdeal.nD Cert.ReferenceSmallFfnIdeal.τ).loc Cert.ReferenceSmallFfnIdeal.main_arg5) = m ((c.tc : Thread Cert.KernelSmallFfnIdeal.nD Cert.KernelSmallFfnIdeal.τ).loc Cert.KernelSmallFfnIdeal.main_arg5)) →
    ∃ (v0 : (c : Dev Cert.KernelSmallFfnIdeal.nD) → Buf (Elt Ideal) ((c.tc : Thread Cert.KernelSmallFfnIdeal.nD Cert.KernelSmallFfnIdeal.τ).loc Cert.KernelSmallFfnIdeal.main_v0_0)) (v1 : (c : Dev Cert.KernelSmallFfnIdeal.nD) → Buf (Elt Ideal) ((c.tc : Thread Cert.KernelSmallFfnIdeal.nD Cert.KernelSmallFfnIdeal.τ).loc Cert.KernelSmallFfnIdeal.main_v0_1)) (v2 : (c : Dev Cert.KernelSmallFfnIdeal.nD) → Buf (Elt Ideal) ((c.tc : Thread Cert.KernelSmallFfnIdeal.nD Cert.KernelSmallFfnIdeal.τ).loc Cert.KernelSmallFfnIdeal.main_v0_2)) (v3 : (c : Dev Cert.KernelSmallFfnIdeal.nD) → Buf (Elt Ideal) ((c.tc : Thread Cert.KernelSmallFfnIdeal.nD Cert.KernelSmallFfnIdeal.τ).loc Cert.KernelSmallFfnIdeal.main_v0_3)) (v4 : (c : Dev Cert.KernelSmallFfnIdeal.nD) → Buf (Elt Ideal) ((c.tc : Thread Cert.KernelSmallFfnIdeal.nD Cert.KernelSmallFfnIdeal.τ).loc Cert.KernelSmallFfnIdeal.main_v0_4)),
      θ_run (Cert.KernelSmallFfnIdeal.defs (F := Ideal)) (onTc (τ := Cert.KernelSmallFfnIdeal.τ) (Cert.KernelSmallFfnIdeal.main (F := Ideal))) ⟨m, fun _ => 0, g⟩ (fun r => ∀ c : Dev Cert.KernelSmallFfnIdeal.nD,
          r.2.mem ((c.tc : Thread Cert.KernelSmallFfnIdeal.nD Cert.KernelSmallFfnIdeal.τ).loc Cert.KernelSmallFfnIdeal.main_v0_0) = v0 c
          ∧ r.2.mem ((c.tc : Thread Cert.KernelSmallFfnIdeal.nD Cert.KernelSmallFfnIdeal.τ).loc Cert.KernelSmallFfnIdeal.main_v0_1) = v1 c
          ∧ r.2.mem ((c.tc : Thread Cert.KernelSmallFfnIdeal.nD Cert.KernelSmallFfnIdeal.τ).loc Cert.KernelSmallFfnIdeal.main_v0_2) = v2 c
          ∧ r.2.mem ((c.tc : Thread Cert.KernelSmallFfnIdeal.nD Cert.KernelSmallFfnIdeal.τ).loc Cert.KernelSmallFfnIdeal.main_v0_3) = v3 c
          ∧ r.2.mem ((c.tc : Thread Cert.KernelSmallFfnIdeal.nD Cert.KernelSmallFfnIdeal.τ).loc Cert.KernelSmallFfnIdeal.main_v0_4) = v4 c
          ∧ r.2.mem ((c.tc : Thread Cert.KernelSmallFfnIdeal.nD Cert.KernelSmallFfnIdeal.τ).loc Cert.KernelSmallFfnIdeal.main_arg0) = m ((c.tc : Thread Cert.KernelSmallFfnIdeal.nD Cert.KernelSmallFfnIdeal.τ).loc Cert.KernelSmallFfnIdeal.main_arg0)
          ∧ r.2.mem ((c.tc : Thread Cert.KernelSmallFfnIdeal.nD Cert.KernelSmallFfnIdeal.τ).loc Cert.KernelSmallFfnIdeal.main_arg1) = m ((c.tc : Thread Cert.KernelSmallFfnIdeal.nD Cert.KernelSmallFfnIdeal.τ).loc Cert.KernelSmallFfnIdeal.main_arg1)
          ∧ r.2.mem ((c.tc : Thread Cert.KernelSmallFfnIdeal.nD Cert.KernelSmallFfnIdeal.τ).loc Cert.KernelSmallFfnIdeal.main_arg2) = m ((c.tc : Thread Cert.KernelSmallFfnIdeal.nD Cert.KernelSmallFfnIdeal.τ).loc Cert.KernelSmallFfnIdeal.main_arg2)
          ∧ r.2.mem ((c.tc : Thread Cert.KernelSmallFfnIdeal.nD Cert.KernelSmallFfnIdeal.τ).loc Cert.KernelSmallFfnIdeal.main_arg3) = m ((c.tc : Thread Cert.KernelSmallFfnIdeal.nD Cert.KernelSmallFfnIdeal.τ).loc Cert.KernelSmallFfnIdeal.main_arg3)
          ∧ r.2.mem ((c.tc : Thread Cert.KernelSmallFfnIdeal.nD Cert.KernelSmallFfnIdeal.τ).loc Cert.KernelSmallFfnIdeal.main_arg4) = m ((c.tc : Thread Cert.KernelSmallFfnIdeal.nD Cert.KernelSmallFfnIdeal.τ).loc Cert.KernelSmallFfnIdeal.main_arg4)
          ∧ r.2.mem ((c.tc : Thread Cert.KernelSmallFfnIdeal.nD Cert.KernelSmallFfnIdeal.τ).loc Cert.KernelSmallFfnIdeal.main_arg5) = m ((c.tc : Thread Cert.KernelSmallFfnIdeal.nD Cert.KernelSmallFfnIdeal.τ).loc Cert.KernelSmallFfnIdeal.main_arg5))
      ∧ θ_run (Cert.ReferenceSmallFfnIdeal.defs (F := Ideal)) (onTc (τ := Cert.ReferenceSmallFfnIdeal.τ) (Cert.ReferenceSmallFfnIdeal.main (F := Ideal))) ⟨m', fun _ => 0, g'⟩ (fun r => ∀ c : Dev Cert.ReferenceSmallFfnIdeal.nD,
          r.2.mem ((c.tc : Thread Cert.ReferenceSmallFfnIdeal.nD Cert.ReferenceSmallFfnIdeal.τ).loc Cert.ReferenceSmallFfnIdeal.main_v22) = v0 c
          ∧ r.2.mem ((c.tc : Thread Cert.ReferenceSmallFfnIdeal.nD Cert.ReferenceSmallFfnIdeal.τ).loc Cert.ReferenceSmallFfnIdeal.main_v46) = v1 c
          ∧ r.2.mem ((c.tc : Thread Cert.ReferenceSmallFfnIdeal.nD Cert.ReferenceSmallFfnIdeal.τ).loc Cert.ReferenceSmallFfnIdeal.main_v27) = v2 c
          ∧ r.2.mem ((c.tc : Thread Cert.ReferenceSmallFfnIdeal.nD Cert.ReferenceSmallFfnIdeal.τ).loc Cert.ReferenceSmallFfnIdeal.main_v33) = v3 c
          ∧ r.2.mem ((c.tc : Thread Cert.ReferenceSmallFfnIdeal.nD Cert.ReferenceSmallFfnIdeal.τ).loc Cert.ReferenceSmallFfnIdeal.main_v48) = v4 c
          ∧ r.2.mem ((c.tc : Thread Cert.ReferenceSmallFfnIdeal.nD Cert.ReferenceSmallFfnIdeal.τ).loc Cert.ReferenceSmallFfnIdeal.main_arg0) = m' ((c.tc : Thread Cert.ReferenceSmallFfnIdeal.nD Cert.ReferenceSmallFfnIdeal.τ).loc Cert.ReferenceSmallFfnIdeal.main_arg0)
          ∧ r.2.mem ((c.tc : Thread Cert.ReferenceSmallFfnIdeal.nD Cert.ReferenceSmallFfnIdeal.τ).loc Cert.ReferenceSmallFfnIdeal.main_arg1) = m' ((c.tc : Thread Cert.ReferenceSmallFfnIdeal.nD Cert.ReferenceSmallFfnIdeal.τ).loc Cert.ReferenceSmallFfnIdeal.main_arg1)
          ∧ r.2.mem ((c.tc : Thread Cert.ReferenceSmallFfnIdeal.nD Cert.ReferenceSmallFfnIdeal.τ).loc Cert.ReferenceSmallFfnIdeal.main_arg2) = m' ((c.tc : Thread Cert.ReferenceSmallFfnIdeal.nD Cert.ReferenceSmallFfnIdeal.τ).loc Cert.ReferenceSmallFfnIdeal.main_arg2)
          ∧ r.2.mem ((c.tc : Thread Cert.ReferenceSmallFfnIdeal.nD Cert.ReferenceSmallFfnIdeal.τ).loc Cert.ReferenceSmallFfnIdeal.main_arg3) = m' ((c.tc : Thread Cert.ReferenceSmallFfnIdeal.nD Cert.ReferenceSmallFfnIdeal.τ).loc Cert.ReferenceSmallFfnIdeal.main_arg3)
          ∧ r.2.mem ((c.tc : Thread Cert.ReferenceSmallFfnIdeal.nD Cert.ReferenceSmallFfnIdeal.τ).loc Cert.ReferenceSmallFfnIdeal.main_arg4) = m' ((c.tc : Thread Cert.ReferenceSmallFfnIdeal.nD Cert.ReferenceSmallFfnIdeal.τ).loc Cert.ReferenceSmallFfnIdeal.main_arg4)
          ∧ r.2.mem ((c.tc : Thread Cert.ReferenceSmallFfnIdeal.nD Cert.ReferenceSmallFfnIdeal.τ).loc Cert.ReferenceSmallFfnIdeal.main_arg5) = m' ((c.tc : Thread Cert.ReferenceSmallFfnIdeal.nD Cert.ReferenceSmallFfnIdeal.τ).loc Cert.ReferenceSmallFfnIdeal.main_arg5))

def preserves_KernelSmall1024_KernelSmall1024Ideal : Prop :=
  True

def algebraic_KernelSmall1024Ideal_ReferenceSmall1024Ideal [hKernelSmall1024Ideal : Cert.KernelSmall1024Ideal.Facts] [hReferenceSmall1024Ideal : Cert.ReferenceSmall1024Ideal.Facts] : Prop :=
  ∀ (m : (ℓ : Loc Cert.KernelSmall1024Ideal.nD Cert.KernelSmall1024Ideal.τ Cert.KernelSmall1024Ideal.sig) → Buf (Elt Ideal) ℓ) (g : Dev Cert.KernelSmall1024Ideal.nD → PrngReg)
    (m' : (ℓ : Loc Cert.ReferenceSmall1024Ideal.nD Cert.ReferenceSmall1024Ideal.τ Cert.ReferenceSmall1024Ideal.sig) → Buf (Elt Ideal) ℓ) (g' : Dev Cert.ReferenceSmall1024Ideal.nD → PrngReg), Pre_KernelSmall1024Ideal m →
    (∀ c : Dev Cert.KernelSmall1024Ideal.nD,
      m' ((c.tc : Thread Cert.ReferenceSmall1024Ideal.nD Cert.ReferenceSmall1024Ideal.τ).loc Cert.ReferenceSmall1024Ideal.main_arg0) = m ((c.tc : Thread Cert.KernelSmall1024Ideal.nD Cert.KernelSmall1024Ideal.τ).loc Cert.KernelSmall1024Ideal.main_arg0)
      ∧ m' ((c.tc : Thread Cert.ReferenceSmall1024Ideal.nD Cert.ReferenceSmall1024Ideal.τ).loc Cert.ReferenceSmall1024Ideal.main_arg1) = m ((c.tc : Thread Cert.KernelSmall1024Ideal.nD Cert.KernelSmall1024Ideal.τ).loc Cert.KernelSmall1024Ideal.main_arg1)
      ∧ m' ((c.tc : Thread Cert.ReferenceSmall1024Ideal.nD Cert.ReferenceSmall1024Ideal.τ).loc Cert.ReferenceSmall1024Ideal.main_arg2) = m ((c.tc : Thread Cert.KernelSmall1024Ideal.nD Cert.KernelSmall1024Ideal.τ).loc Cert.KernelSmall1024Ideal.main_arg2)
      ∧ m' ((c.tc : Thread Cert.ReferenceSmall1024Ideal.nD Cert.ReferenceSmall1024Ideal.τ).loc Cert.ReferenceSmall1024Ideal.main_arg3) = m ((c.tc : Thread Cert.KernelSmall1024Ideal.nD Cert.KernelSmall1024Ideal.τ).loc Cert.KernelSmall1024Ideal.main_arg3)
      ∧ m' ((c.tc : Thread Cert.ReferenceSmall1024Ideal.nD Cert.ReferenceSmall1024Ideal.τ).loc Cert.ReferenceSmall1024Ideal.main_arg4) = m ((c.tc : Thread Cert.KernelSmall1024Ideal.nD Cert.KernelSmall1024Ideal.τ).loc Cert.KernelSmall1024Ideal.main_arg4)
      ∧ m' ((c.tc : Thread Cert.ReferenceSmall1024Ideal.nD Cert.ReferenceSmall1024Ideal.τ).loc Cert.ReferenceSmall1024Ideal.main_arg5) = m ((c.tc : Thread Cert.KernelSmall1024Ideal.nD Cert.KernelSmall1024Ideal.τ).loc Cert.KernelSmall1024Ideal.main_arg5)) →
    ∃ (v0 : (c : Dev Cert.KernelSmall1024Ideal.nD) → Buf (Elt Ideal) ((c.tc : Thread Cert.KernelSmall1024Ideal.nD Cert.KernelSmall1024Ideal.τ).loc Cert.KernelSmall1024Ideal.main_v0_0)) (v1 : (c : Dev Cert.KernelSmall1024Ideal.nD) → Buf (Elt Ideal) ((c.tc : Thread Cert.KernelSmall1024Ideal.nD Cert.KernelSmall1024Ideal.τ).loc Cert.KernelSmall1024Ideal.main_v0_1)) (v2 : (c : Dev Cert.KernelSmall1024Ideal.nD) → Buf (Elt Ideal) ((c.tc : Thread Cert.KernelSmall1024Ideal.nD Cert.KernelSmall1024Ideal.τ).loc Cert.KernelSmall1024Ideal.main_v0_2)) (v3 : (c : Dev Cert.KernelSmall1024Ideal.nD) → Buf (Elt Ideal) ((c.tc : Thread Cert.KernelSmall1024Ideal.nD Cert.KernelSmall1024Ideal.τ).loc Cert.KernelSmall1024Ideal.main_v0_3)) (v4 : (c : Dev Cert.KernelSmall1024Ideal.nD) → Buf (Elt Ideal) ((c.tc : Thread Cert.KernelSmall1024Ideal.nD Cert.KernelSmall1024Ideal.τ).loc Cert.KernelSmall1024Ideal.main_v0_4)),
      θ_run (Cert.KernelSmall1024Ideal.defs (F := Ideal)) (onTc (τ := Cert.KernelSmall1024Ideal.τ) (Cert.KernelSmall1024Ideal.main (F := Ideal))) ⟨m, fun _ => 0, g⟩ (fun r => ∀ c : Dev Cert.KernelSmall1024Ideal.nD,
          r.2.mem ((c.tc : Thread Cert.KernelSmall1024Ideal.nD Cert.KernelSmall1024Ideal.τ).loc Cert.KernelSmall1024Ideal.main_v0_0) = v0 c
          ∧ r.2.mem ((c.tc : Thread Cert.KernelSmall1024Ideal.nD Cert.KernelSmall1024Ideal.τ).loc Cert.KernelSmall1024Ideal.main_v0_1) = v1 c
          ∧ r.2.mem ((c.tc : Thread Cert.KernelSmall1024Ideal.nD Cert.KernelSmall1024Ideal.τ).loc Cert.KernelSmall1024Ideal.main_v0_2) = v2 c
          ∧ r.2.mem ((c.tc : Thread Cert.KernelSmall1024Ideal.nD Cert.KernelSmall1024Ideal.τ).loc Cert.KernelSmall1024Ideal.main_v0_3) = v3 c
          ∧ r.2.mem ((c.tc : Thread Cert.KernelSmall1024Ideal.nD Cert.KernelSmall1024Ideal.τ).loc Cert.KernelSmall1024Ideal.main_v0_4) = v4 c
          ∧ r.2.mem ((c.tc : Thread Cert.KernelSmall1024Ideal.nD Cert.KernelSmall1024Ideal.τ).loc Cert.KernelSmall1024Ideal.main_arg0) = m ((c.tc : Thread Cert.KernelSmall1024Ideal.nD Cert.KernelSmall1024Ideal.τ).loc Cert.KernelSmall1024Ideal.main_arg0)
          ∧ r.2.mem ((c.tc : Thread Cert.KernelSmall1024Ideal.nD Cert.KernelSmall1024Ideal.τ).loc Cert.KernelSmall1024Ideal.main_arg1) = m ((c.tc : Thread Cert.KernelSmall1024Ideal.nD Cert.KernelSmall1024Ideal.τ).loc Cert.KernelSmall1024Ideal.main_arg1)
          ∧ r.2.mem ((c.tc : Thread Cert.KernelSmall1024Ideal.nD Cert.KernelSmall1024Ideal.τ).loc Cert.KernelSmall1024Ideal.main_arg2) = m ((c.tc : Thread Cert.KernelSmall1024Ideal.nD Cert.KernelSmall1024Ideal.τ).loc Cert.KernelSmall1024Ideal.main_arg2)
          ∧ r.2.mem ((c.tc : Thread Cert.KernelSmall1024Ideal.nD Cert.KernelSmall1024Ideal.τ).loc Cert.KernelSmall1024Ideal.main_arg3) = m ((c.tc : Thread Cert.KernelSmall1024Ideal.nD Cert.KernelSmall1024Ideal.τ).loc Cert.KernelSmall1024Ideal.main_arg3)
          ∧ r.2.mem ((c.tc : Thread Cert.KernelSmall1024Ideal.nD Cert.KernelSmall1024Ideal.τ).loc Cert.KernelSmall1024Ideal.main_arg4) = m ((c.tc : Thread Cert.KernelSmall1024Ideal.nD Cert.KernelSmall1024Ideal.τ).loc Cert.KernelSmall1024Ideal.main_arg4)
          ∧ r.2.mem ((c.tc : Thread Cert.KernelSmall1024Ideal.nD Cert.KernelSmall1024Ideal.τ).loc Cert.KernelSmall1024Ideal.main_arg5) = m ((c.tc : Thread Cert.KernelSmall1024Ideal.nD Cert.KernelSmall1024Ideal.τ).loc Cert.KernelSmall1024Ideal.main_arg5))
      ∧ θ_run (Cert.ReferenceSmall1024Ideal.defs (F := Ideal)) (onTc (τ := Cert.ReferenceSmall1024Ideal.τ) (Cert.ReferenceSmall1024Ideal.main (F := Ideal))) ⟨m', fun _ => 0, g'⟩ (fun r => ∀ c : Dev Cert.ReferenceSmall1024Ideal.nD,
          r.2.mem ((c.tc : Thread Cert.ReferenceSmall1024Ideal.nD Cert.ReferenceSmall1024Ideal.τ).loc Cert.ReferenceSmall1024Ideal.main_v0) = v0 c
          ∧ r.2.mem ((c.tc : Thread Cert.ReferenceSmall1024Ideal.nD Cert.ReferenceSmall1024Ideal.τ).loc Cert.ReferenceSmall1024Ideal.main_v24) = v1 c
          ∧ r.2.mem ((c.tc : Thread Cert.ReferenceSmall1024Ideal.nD Cert.ReferenceSmall1024Ideal.τ).loc Cert.ReferenceSmall1024Ideal.main_v5) = v2 c
          ∧ r.2.mem ((c.tc : Thread Cert.ReferenceSmall1024Ideal.nD Cert.ReferenceSmall1024Ideal.τ).loc Cert.ReferenceSmall1024Ideal.main_v11) = v3 c
          ∧ r.2.mem ((c.tc : Thread Cert.ReferenceSmall1024Ideal.nD Cert.ReferenceSmall1024Ideal.τ).loc Cert.ReferenceSmall1024Ideal.main_v26) = v4 c
          ∧ r.2.mem ((c.tc : Thread Cert.ReferenceSmall1024Ideal.nD Cert.ReferenceSmall1024Ideal.τ).loc Cert.ReferenceSmall1024Ideal.main_arg0) = m' ((c.tc : Thread Cert.ReferenceSmall1024Ideal.nD Cert.ReferenceSmall1024Ideal.τ).loc Cert.ReferenceSmall1024Ideal.main_arg0)
          ∧ r.2.mem ((c.tc : Thread Cert.ReferenceSmall1024Ideal.nD Cert.ReferenceSmall1024Ideal.τ).loc Cert.ReferenceSmall1024Ideal.main_arg1) = m' ((c.tc : Thread Cert.ReferenceSmall1024Ideal.nD Cert.ReferenceSmall1024Ideal.τ).loc Cert.ReferenceSmall1024Ideal.main_arg1)
          ∧ r.2.mem ((c.tc : Thread Cert.ReferenceSmall1024Ideal.nD Cert.ReferenceSmall1024Ideal.τ).loc Cert.ReferenceSmall1024Ideal.main_arg2) = m' ((c.tc : Thread Cert.ReferenceSmall1024Ideal.nD Cert.ReferenceSmall1024Ideal.τ).loc Cert.ReferenceSmall1024Ideal.main_arg2)
          ∧ r.2.mem ((c.tc : Thread Cert.ReferenceSmall1024Ideal.nD Cert.ReferenceSmall1024Ideal.τ).loc Cert.ReferenceSmall1024Ideal.main_arg3) = m' ((c.tc : Thread Cert.ReferenceSmall1024Ideal.nD Cert.ReferenceSmall1024Ideal.τ).loc Cert.ReferenceSmall1024Ideal.main_arg3)
          ∧ r.2.mem ((c.tc : Thread Cert.ReferenceSmall1024Ideal.nD Cert.ReferenceSmall1024Ideal.τ).loc Cert.ReferenceSmall1024Ideal.main_arg4) = m' ((c.tc : Thread Cert.ReferenceSmall1024Ideal.nD Cert.ReferenceSmall1024Ideal.τ).loc Cert.ReferenceSmall1024Ideal.main_arg4)
          ∧ r.2.mem ((c.tc : Thread Cert.ReferenceSmall1024Ideal.nD Cert.ReferenceSmall1024Ideal.τ).loc Cert.ReferenceSmall1024Ideal.main_arg5) = m' ((c.tc : Thread Cert.ReferenceSmall1024Ideal.nD Cert.ReferenceSmall1024Ideal.τ).loc Cert.ReferenceSmall1024Ideal.main_arg5))

def preserves_KernelSmall3072_KernelSmall3072Ideal : Prop :=
  True

def algebraic_KernelSmall3072Ideal_ReferenceSmall3072Ideal [hKernelSmall3072Ideal : Cert.KernelSmall3072Ideal.Facts] [hReferenceSmall3072Ideal : Cert.ReferenceSmall3072Ideal.Facts] : Prop :=
  ∀ (m : (ℓ : Loc Cert.KernelSmall3072Ideal.nD Cert.KernelSmall3072Ideal.τ Cert.KernelSmall3072Ideal.sig) → Buf (Elt Ideal) ℓ) (g : Dev Cert.KernelSmall3072Ideal.nD → PrngReg)
    (m' : (ℓ : Loc Cert.ReferenceSmall3072Ideal.nD Cert.ReferenceSmall3072Ideal.τ Cert.ReferenceSmall3072Ideal.sig) → Buf (Elt Ideal) ℓ) (g' : Dev Cert.ReferenceSmall3072Ideal.nD → PrngReg), Pre_KernelSmall3072Ideal m →
    (∀ c : Dev Cert.KernelSmall3072Ideal.nD,
      m' ((c.tc : Thread Cert.ReferenceSmall3072Ideal.nD Cert.ReferenceSmall3072Ideal.τ).loc Cert.ReferenceSmall3072Ideal.main_arg0) = m ((c.tc : Thread Cert.KernelSmall3072Ideal.nD Cert.KernelSmall3072Ideal.τ).loc Cert.KernelSmall3072Ideal.main_arg0)
      ∧ m' ((c.tc : Thread Cert.ReferenceSmall3072Ideal.nD Cert.ReferenceSmall3072Ideal.τ).loc Cert.ReferenceSmall3072Ideal.main_arg1) = m ((c.tc : Thread Cert.KernelSmall3072Ideal.nD Cert.KernelSmall3072Ideal.τ).loc Cert.KernelSmall3072Ideal.main_arg1)
      ∧ m' ((c.tc : Thread Cert.ReferenceSmall3072Ideal.nD Cert.ReferenceSmall3072Ideal.τ).loc Cert.ReferenceSmall3072Ideal.main_arg2) = m ((c.tc : Thread Cert.KernelSmall3072Ideal.nD Cert.KernelSmall3072Ideal.τ).loc Cert.KernelSmall3072Ideal.main_arg2)
      ∧ m' ((c.tc : Thread Cert.ReferenceSmall3072Ideal.nD Cert.ReferenceSmall3072Ideal.τ).loc Cert.ReferenceSmall3072Ideal.main_arg3) = m ((c.tc : Thread Cert.KernelSmall3072Ideal.nD Cert.KernelSmall3072Ideal.τ).loc Cert.KernelSmall3072Ideal.main_arg3)
      ∧ m' ((c.tc : Thread Cert.ReferenceSmall3072Ideal.nD Cert.ReferenceSmall3072Ideal.τ).loc Cert.ReferenceSmall3072Ideal.main_arg4) = m ((c.tc : Thread Cert.KernelSmall3072Ideal.nD Cert.KernelSmall3072Ideal.τ).loc Cert.KernelSmall3072Ideal.main_arg4)
      ∧ m' ((c.tc : Thread Cert.ReferenceSmall3072Ideal.nD Cert.ReferenceSmall3072Ideal.τ).loc Cert.ReferenceSmall3072Ideal.main_arg5) = m ((c.tc : Thread Cert.KernelSmall3072Ideal.nD Cert.KernelSmall3072Ideal.τ).loc Cert.KernelSmall3072Ideal.main_arg5)) →
    ∃ (v0 : (c : Dev Cert.KernelSmall3072Ideal.nD) → Buf (Elt Ideal) ((c.tc : Thread Cert.KernelSmall3072Ideal.nD Cert.KernelSmall3072Ideal.τ).loc Cert.KernelSmall3072Ideal.main_v0_0)) (v1 : (c : Dev Cert.KernelSmall3072Ideal.nD) → Buf (Elt Ideal) ((c.tc : Thread Cert.KernelSmall3072Ideal.nD Cert.KernelSmall3072Ideal.τ).loc Cert.KernelSmall3072Ideal.main_v0_1)) (v2 : (c : Dev Cert.KernelSmall3072Ideal.nD) → Buf (Elt Ideal) ((c.tc : Thread Cert.KernelSmall3072Ideal.nD Cert.KernelSmall3072Ideal.τ).loc Cert.KernelSmall3072Ideal.main_v0_2)) (v3 : (c : Dev Cert.KernelSmall3072Ideal.nD) → Buf (Elt Ideal) ((c.tc : Thread Cert.KernelSmall3072Ideal.nD Cert.KernelSmall3072Ideal.τ).loc Cert.KernelSmall3072Ideal.main_v0_3)) (v4 : (c : Dev Cert.KernelSmall3072Ideal.nD) → Buf (Elt Ideal) ((c.tc : Thread Cert.KernelSmall3072Ideal.nD Cert.KernelSmall3072Ideal.τ).loc Cert.KernelSmall3072Ideal.main_v0_4)),
      θ_run (Cert.KernelSmall3072Ideal.defs (F := Ideal)) (onTc (τ := Cert.KernelSmall3072Ideal.τ) (Cert.KernelSmall3072Ideal.main (F := Ideal))) ⟨m, fun _ => 0, g⟩ (fun r => ∀ c : Dev Cert.KernelSmall3072Ideal.nD,
          r.2.mem ((c.tc : Thread Cert.KernelSmall3072Ideal.nD Cert.KernelSmall3072Ideal.τ).loc Cert.KernelSmall3072Ideal.main_v0_0) = v0 c
          ∧ r.2.mem ((c.tc : Thread Cert.KernelSmall3072Ideal.nD Cert.KernelSmall3072Ideal.τ).loc Cert.KernelSmall3072Ideal.main_v0_1) = v1 c
          ∧ r.2.mem ((c.tc : Thread Cert.KernelSmall3072Ideal.nD Cert.KernelSmall3072Ideal.τ).loc Cert.KernelSmall3072Ideal.main_v0_2) = v2 c
          ∧ r.2.mem ((c.tc : Thread Cert.KernelSmall3072Ideal.nD Cert.KernelSmall3072Ideal.τ).loc Cert.KernelSmall3072Ideal.main_v0_3) = v3 c
          ∧ r.2.mem ((c.tc : Thread Cert.KernelSmall3072Ideal.nD Cert.KernelSmall3072Ideal.τ).loc Cert.KernelSmall3072Ideal.main_v0_4) = v4 c
          ∧ r.2.mem ((c.tc : Thread Cert.KernelSmall3072Ideal.nD Cert.KernelSmall3072Ideal.τ).loc Cert.KernelSmall3072Ideal.main_arg0) = m ((c.tc : Thread Cert.KernelSmall3072Ideal.nD Cert.KernelSmall3072Ideal.τ).loc Cert.KernelSmall3072Ideal.main_arg0)
          ∧ r.2.mem ((c.tc : Thread Cert.KernelSmall3072Ideal.nD Cert.KernelSmall3072Ideal.τ).loc Cert.KernelSmall3072Ideal.main_arg1) = m ((c.tc : Thread Cert.KernelSmall3072Ideal.nD Cert.KernelSmall3072Ideal.τ).loc Cert.KernelSmall3072Ideal.main_arg1)
          ∧ r.2.mem ((c.tc : Thread Cert.KernelSmall3072Ideal.nD Cert.KernelSmall3072Ideal.τ).loc Cert.KernelSmall3072Ideal.main_arg2) = m ((c.tc : Thread Cert.KernelSmall3072Ideal.nD Cert.KernelSmall3072Ideal.τ).loc Cert.KernelSmall3072Ideal.main_arg2)
          ∧ r.2.mem ((c.tc : Thread Cert.KernelSmall3072Ideal.nD Cert.KernelSmall3072Ideal.τ).loc Cert.KernelSmall3072Ideal.main_arg3) = m ((c.tc : Thread Cert.KernelSmall3072Ideal.nD Cert.KernelSmall3072Ideal.τ).loc Cert.KernelSmall3072Ideal.main_arg3)
          ∧ r.2.mem ((c.tc : Thread Cert.KernelSmall3072Ideal.nD Cert.KernelSmall3072Ideal.τ).loc Cert.KernelSmall3072Ideal.main_arg4) = m ((c.tc : Thread Cert.KernelSmall3072Ideal.nD Cert.KernelSmall3072Ideal.τ).loc Cert.KernelSmall3072Ideal.main_arg4)
          ∧ r.2.mem ((c.tc : Thread Cert.KernelSmall3072Ideal.nD Cert.KernelSmall3072Ideal.τ).loc Cert.KernelSmall3072Ideal.main_arg5) = m ((c.tc : Thread Cert.KernelSmall3072Ideal.nD Cert.KernelSmall3072Ideal.τ).loc Cert.KernelSmall3072Ideal.main_arg5))
      ∧ θ_run (Cert.ReferenceSmall3072Ideal.defs (F := Ideal)) (onTc (τ := Cert.ReferenceSmall3072Ideal.τ) (Cert.ReferenceSmall3072Ideal.main (F := Ideal))) ⟨m', fun _ => 0, g'⟩ (fun r => ∀ c : Dev Cert.ReferenceSmall3072Ideal.nD,
          r.2.mem ((c.tc : Thread Cert.ReferenceSmall3072Ideal.nD Cert.ReferenceSmall3072Ideal.τ).loc Cert.ReferenceSmall3072Ideal.main_v0) = v0 c
          ∧ r.2.mem ((c.tc : Thread Cert.ReferenceSmall3072Ideal.nD Cert.ReferenceSmall3072Ideal.τ).loc Cert.ReferenceSmall3072Ideal.main_v24) = v1 c
          ∧ r.2.mem ((c.tc : Thread Cert.ReferenceSmall3072Ideal.nD Cert.ReferenceSmall3072Ideal.τ).loc Cert.ReferenceSmall3072Ideal.main_v5) = v2 c
          ∧ r.2.mem ((c.tc : Thread Cert.ReferenceSmall3072Ideal.nD Cert.ReferenceSmall3072Ideal.τ).loc Cert.ReferenceSmall3072Ideal.main_v11) = v3 c
          ∧ r.2.mem ((c.tc : Thread Cert.ReferenceSmall3072Ideal.nD Cert.ReferenceSmall3072Ideal.τ).loc Cert.ReferenceSmall3072Ideal.main_v26) = v4 c
          ∧ r.2.mem ((c.tc : Thread Cert.ReferenceSmall3072Ideal.nD Cert.ReferenceSmall3072Ideal.τ).loc Cert.ReferenceSmall3072Ideal.main_arg0) = m' ((c.tc : Thread Cert.ReferenceSmall3072Ideal.nD Cert.ReferenceSmall3072Ideal.τ).loc Cert.ReferenceSmall3072Ideal.main_arg0)
          ∧ r.2.mem ((c.tc : Thread Cert.ReferenceSmall3072Ideal.nD Cert.ReferenceSmall3072Ideal.τ).loc Cert.ReferenceSmall3072Ideal.main_arg1) = m' ((c.tc : Thread Cert.ReferenceSmall3072Ideal.nD Cert.ReferenceSmall3072Ideal.τ).loc Cert.ReferenceSmall3072Ideal.main_arg1)
          ∧ r.2.mem ((c.tc : Thread Cert.ReferenceSmall3072Ideal.nD Cert.ReferenceSmall3072Ideal.τ).loc Cert.ReferenceSmall3072Ideal.main_arg2) = m' ((c.tc : Thread Cert.ReferenceSmall3072Ideal.nD Cert.ReferenceSmall3072Ideal.τ).loc Cert.ReferenceSmall3072Ideal.main_arg2)
          ∧ r.2.mem ((c.tc : Thread Cert.ReferenceSmall3072Ideal.nD Cert.ReferenceSmall3072Ideal.τ).loc Cert.ReferenceSmall3072Ideal.main_arg3) = m' ((c.tc : Thread Cert.ReferenceSmall3072Ideal.nD Cert.ReferenceSmall3072Ideal.τ).loc Cert.ReferenceSmall3072Ideal.main_arg3)
          ∧ r.2.mem ((c.tc : Thread Cert.ReferenceSmall3072Ideal.nD Cert.ReferenceSmall3072Ideal.τ).loc Cert.ReferenceSmall3072Ideal.main_arg4) = m' ((c.tc : Thread Cert.ReferenceSmall3072Ideal.nD Cert.ReferenceSmall3072Ideal.τ).loc Cert.ReferenceSmall3072Ideal.main_arg4)
          ∧ r.2.mem ((c.tc : Thread Cert.ReferenceSmall3072Ideal.nD Cert.ReferenceSmall3072Ideal.τ).loc Cert.ReferenceSmall3072Ideal.main_arg5) = m' ((c.tc : Thread Cert.ReferenceSmall3072Ideal.nD Cert.ReferenceSmall3072Ideal.τ).loc Cert.ReferenceSmall3072Ideal.main_arg5))

def preserves_KernelSmall32_KernelSmall32Ideal : Prop :=
  True

def algebraic_KernelSmall32Ideal_ReferenceSmall32Ideal [hKernelSmall32Ideal : Cert.KernelSmall32Ideal.Facts] [hReferenceSmall32Ideal : Cert.ReferenceSmall32Ideal.Facts] : Prop :=
  ∀ (m : (ℓ : Loc Cert.KernelSmall32Ideal.nD Cert.KernelSmall32Ideal.τ Cert.KernelSmall32Ideal.sig) → Buf (Elt Ideal) ℓ) (g : Dev Cert.KernelSmall32Ideal.nD → PrngReg)
    (m' : (ℓ : Loc Cert.ReferenceSmall32Ideal.nD Cert.ReferenceSmall32Ideal.τ Cert.ReferenceSmall32Ideal.sig) → Buf (Elt Ideal) ℓ) (g' : Dev Cert.ReferenceSmall32Ideal.nD → PrngReg), Pre_KernelSmall32Ideal m →
    (∀ c : Dev Cert.KernelSmall32Ideal.nD,
      m' ((c.tc : Thread Cert.ReferenceSmall32Ideal.nD Cert.ReferenceSmall32Ideal.τ).loc Cert.ReferenceSmall32Ideal.main_arg0) = m ((c.tc : Thread Cert.KernelSmall32Ideal.nD Cert.KernelSmall32Ideal.τ).loc Cert.KernelSmall32Ideal.main_arg0)
      ∧ m' ((c.tc : Thread Cert.ReferenceSmall32Ideal.nD Cert.ReferenceSmall32Ideal.τ).loc Cert.ReferenceSmall32Ideal.main_arg1) = m ((c.tc : Thread Cert.KernelSmall32Ideal.nD Cert.KernelSmall32Ideal.τ).loc Cert.KernelSmall32Ideal.main_arg1)
      ∧ m' ((c.tc : Thread Cert.ReferenceSmall32Ideal.nD Cert.ReferenceSmall32Ideal.τ).loc Cert.ReferenceSmall32Ideal.main_arg2) = m ((c.tc : Thread Cert.KernelSmall32Ideal.nD Cert.KernelSmall32Ideal.τ).loc Cert.KernelSmall32Ideal.main_arg2)
      ∧ m' ((c.tc : Thread Cert.ReferenceSmall32Ideal.nD Cert.ReferenceSmall32Ideal.τ).loc Cert.ReferenceSmall32Ideal.main_arg3) = m ((c.tc : Thread Cert.KernelSmall32Ideal.nD Cert.KernelSmall32Ideal.τ).loc Cert.KernelSmall32Ideal.main_arg3)
      ∧ m' ((c.tc : Thread Cert.ReferenceSmall32Ideal.nD Cert.ReferenceSmall32Ideal.τ).loc Cert.ReferenceSmall32Ideal.main_arg4) = m ((c.tc : Thread Cert.KernelSmall32Ideal.nD Cert.KernelSmall32Ideal.τ).loc Cert.KernelSmall32Ideal.main_arg4)
      ∧ m' ((c.tc : Thread Cert.ReferenceSmall32Ideal.nD Cert.ReferenceSmall32Ideal.τ).loc Cert.ReferenceSmall32Ideal.main_arg5) = m ((c.tc : Thread Cert.KernelSmall32Ideal.nD Cert.KernelSmall32Ideal.τ).loc Cert.KernelSmall32Ideal.main_arg5)) →
    ∃ (v0 : (c : Dev Cert.KernelSmall32Ideal.nD) → Buf (Elt Ideal) ((c.tc : Thread Cert.KernelSmall32Ideal.nD Cert.KernelSmall32Ideal.τ).loc Cert.KernelSmall32Ideal.main_v0_0)) (v1 : (c : Dev Cert.KernelSmall32Ideal.nD) → Buf (Elt Ideal) ((c.tc : Thread Cert.KernelSmall32Ideal.nD Cert.KernelSmall32Ideal.τ).loc Cert.KernelSmall32Ideal.main_v0_1)) (v2 : (c : Dev Cert.KernelSmall32Ideal.nD) → Buf (Elt Ideal) ((c.tc : Thread Cert.KernelSmall32Ideal.nD Cert.KernelSmall32Ideal.τ).loc Cert.KernelSmall32Ideal.main_v0_2)) (v3 : (c : Dev Cert.KernelSmall32Ideal.nD) → Buf (Elt Ideal) ((c.tc : Thread Cert.KernelSmall32Ideal.nD Cert.KernelSmall32Ideal.τ).loc Cert.KernelSmall32Ideal.main_v0_3)) (v4 : (c : Dev Cert.KernelSmall32Ideal.nD) → Buf (Elt Ideal) ((c.tc : Thread Cert.KernelSmall32Ideal.nD Cert.KernelSmall32Ideal.τ).loc Cert.KernelSmall32Ideal.main_v0_4)),
      θ_run (Cert.KernelSmall32Ideal.defs (F := Ideal)) (onTc (τ := Cert.KernelSmall32Ideal.τ) (Cert.KernelSmall32Ideal.main (F := Ideal))) ⟨m, fun _ => 0, g⟩ (fun r => ∀ c : Dev Cert.KernelSmall32Ideal.nD,
          r.2.mem ((c.tc : Thread Cert.KernelSmall32Ideal.nD Cert.KernelSmall32Ideal.τ).loc Cert.KernelSmall32Ideal.main_v0_0) = v0 c
          ∧ r.2.mem ((c.tc : Thread Cert.KernelSmall32Ideal.nD Cert.KernelSmall32Ideal.τ).loc Cert.KernelSmall32Ideal.main_v0_1) = v1 c
          ∧ r.2.mem ((c.tc : Thread Cert.KernelSmall32Ideal.nD Cert.KernelSmall32Ideal.τ).loc Cert.KernelSmall32Ideal.main_v0_2) = v2 c
          ∧ r.2.mem ((c.tc : Thread Cert.KernelSmall32Ideal.nD Cert.KernelSmall32Ideal.τ).loc Cert.KernelSmall32Ideal.main_v0_3) = v3 c
          ∧ r.2.mem ((c.tc : Thread Cert.KernelSmall32Ideal.nD Cert.KernelSmall32Ideal.τ).loc Cert.KernelSmall32Ideal.main_v0_4) = v4 c
          ∧ r.2.mem ((c.tc : Thread Cert.KernelSmall32Ideal.nD Cert.KernelSmall32Ideal.τ).loc Cert.KernelSmall32Ideal.main_arg0) = m ((c.tc : Thread Cert.KernelSmall32Ideal.nD Cert.KernelSmall32Ideal.τ).loc Cert.KernelSmall32Ideal.main_arg0)
          ∧ r.2.mem ((c.tc : Thread Cert.KernelSmall32Ideal.nD Cert.KernelSmall32Ideal.τ).loc Cert.KernelSmall32Ideal.main_arg1) = m ((c.tc : Thread Cert.KernelSmall32Ideal.nD Cert.KernelSmall32Ideal.τ).loc Cert.KernelSmall32Ideal.main_arg1)
          ∧ r.2.mem ((c.tc : Thread Cert.KernelSmall32Ideal.nD Cert.KernelSmall32Ideal.τ).loc Cert.KernelSmall32Ideal.main_arg2) = m ((c.tc : Thread Cert.KernelSmall32Ideal.nD Cert.KernelSmall32Ideal.τ).loc Cert.KernelSmall32Ideal.main_arg2)
          ∧ r.2.mem ((c.tc : Thread Cert.KernelSmall32Ideal.nD Cert.KernelSmall32Ideal.τ).loc Cert.KernelSmall32Ideal.main_arg3) = m ((c.tc : Thread Cert.KernelSmall32Ideal.nD Cert.KernelSmall32Ideal.τ).loc Cert.KernelSmall32Ideal.main_arg3)
          ∧ r.2.mem ((c.tc : Thread Cert.KernelSmall32Ideal.nD Cert.KernelSmall32Ideal.τ).loc Cert.KernelSmall32Ideal.main_arg4) = m ((c.tc : Thread Cert.KernelSmall32Ideal.nD Cert.KernelSmall32Ideal.τ).loc Cert.KernelSmall32Ideal.main_arg4)
          ∧ r.2.mem ((c.tc : Thread Cert.KernelSmall32Ideal.nD Cert.KernelSmall32Ideal.τ).loc Cert.KernelSmall32Ideal.main_arg5) = m ((c.tc : Thread Cert.KernelSmall32Ideal.nD Cert.KernelSmall32Ideal.τ).loc Cert.KernelSmall32Ideal.main_arg5))
      ∧ θ_run (Cert.ReferenceSmall32Ideal.defs (F := Ideal)) (onTc (τ := Cert.ReferenceSmall32Ideal.τ) (Cert.ReferenceSmall32Ideal.main (F := Ideal))) ⟨m', fun _ => 0, g'⟩ (fun r => ∀ c : Dev Cert.ReferenceSmall32Ideal.nD,
          r.2.mem ((c.tc : Thread Cert.ReferenceSmall32Ideal.nD Cert.ReferenceSmall32Ideal.τ).loc Cert.ReferenceSmall32Ideal.main_v1) = v0 c
          ∧ r.2.mem ((c.tc : Thread Cert.ReferenceSmall32Ideal.nD Cert.ReferenceSmall32Ideal.τ).loc Cert.ReferenceSmall32Ideal.main_v25) = v1 c
          ∧ r.2.mem ((c.tc : Thread Cert.ReferenceSmall32Ideal.nD Cert.ReferenceSmall32Ideal.τ).loc Cert.ReferenceSmall32Ideal.main_v6) = v2 c
          ∧ r.2.mem ((c.tc : Thread Cert.ReferenceSmall32Ideal.nD Cert.ReferenceSmall32Ideal.τ).loc Cert.ReferenceSmall32Ideal.main_v12) = v3 c
          ∧ r.2.mem ((c.tc : Thread Cert.ReferenceSmall32Ideal.nD Cert.ReferenceSmall32Ideal.τ).loc Cert.ReferenceSmall32Ideal.main_v27) = v4 c
          ∧ r.2.mem ((c.tc : Thread Cert.ReferenceSmall32Ideal.nD Cert.ReferenceSmall32Ideal.τ).loc Cert.ReferenceSmall32Ideal.main_arg0) = m' ((c.tc : Thread Cert.ReferenceSmall32Ideal.nD Cert.ReferenceSmall32Ideal.τ).loc Cert.ReferenceSmall32Ideal.main_arg0)
          ∧ r.2.mem ((c.tc : Thread Cert.ReferenceSmall32Ideal.nD Cert.ReferenceSmall32Ideal.τ).loc Cert.ReferenceSmall32Ideal.main_arg1) = m' ((c.tc : Thread Cert.ReferenceSmall32Ideal.nD Cert.ReferenceSmall32Ideal.τ).loc Cert.ReferenceSmall32Ideal.main_arg1)
          ∧ r.2.mem ((c.tc : Thread Cert.ReferenceSmall32Ideal.nD Cert.ReferenceSmall32Ideal.τ).loc Cert.ReferenceSmall32Ideal.main_arg2) = m' ((c.tc : Thread Cert.ReferenceSmall32Ideal.nD Cert.ReferenceSmall32Ideal.τ).loc Cert.ReferenceSmall32Ideal.main_arg2)
          ∧ r.2.mem ((c.tc : Thread Cert.ReferenceSmall32Ideal.nD Cert.ReferenceSmall32Ideal.τ).loc Cert.ReferenceSmall32Ideal.main_arg3) = m' ((c.tc : Thread Cert.ReferenceSmall32Ideal.nD Cert.ReferenceSmall32Ideal.τ).loc Cert.ReferenceSmall32Ideal.main_arg3)
          ∧ r.2.mem ((c.tc : Thread Cert.ReferenceSmall32Ideal.nD Cert.ReferenceSmall32Ideal.τ).loc Cert.ReferenceSmall32Ideal.main_arg4) = m' ((c.tc : Thread Cert.ReferenceSmall32Ideal.nD Cert.ReferenceSmall32Ideal.τ).loc Cert.ReferenceSmall32Ideal.main_arg4)
          ∧ r.2.mem ((c.tc : Thread Cert.ReferenceSmall32Ideal.nD Cert.ReferenceSmall32Ideal.τ).loc Cert.ReferenceSmall32Ideal.main_arg5) = m' ((c.tc : Thread Cert.ReferenceSmall32Ideal.nD Cert.ReferenceSmall32Ideal.τ).loc Cert.ReferenceSmall32Ideal.main_arg5))

def preserves_KernelSmall2048_KernelSmall2048Ideal : Prop :=
  True

def algebraic_KernelSmall2048Ideal_ReferenceSmall2048Ideal [hKernelSmall2048Ideal : Cert.KernelSmall2048Ideal.Facts] [hReferenceSmall2048Ideal : Cert.ReferenceSmall2048Ideal.Facts] : Prop :=
  ∀ (m : (ℓ : Loc Cert.KernelSmall2048Ideal.nD Cert.KernelSmall2048Ideal.τ Cert.KernelSmall2048Ideal.sig) → Buf (Elt Ideal) ℓ) (g : Dev Cert.KernelSmall2048Ideal.nD → PrngReg)
    (m' : (ℓ : Loc Cert.ReferenceSmall2048Ideal.nD Cert.ReferenceSmall2048Ideal.τ Cert.ReferenceSmall2048Ideal.sig) → Buf (Elt Ideal) ℓ) (g' : Dev Cert.ReferenceSmall2048Ideal.nD → PrngReg), Pre_KernelSmall2048Ideal m →
    (∀ c : Dev Cert.KernelSmall2048Ideal.nD,
      m' ((c.tc : Thread Cert.ReferenceSmall2048Ideal.nD Cert.ReferenceSmall2048Ideal.τ).loc Cert.ReferenceSmall2048Ideal.main_arg0) = m ((c.tc : Thread Cert.KernelSmall2048Ideal.nD Cert.KernelSmall2048Ideal.τ).loc Cert.KernelSmall2048Ideal.main_arg0)
      ∧ m' ((c.tc : Thread Cert.ReferenceSmall2048Ideal.nD Cert.ReferenceSmall2048Ideal.τ).loc Cert.ReferenceSmall2048Ideal.main_arg1) = m ((c.tc : Thread Cert.KernelSmall2048Ideal.nD Cert.KernelSmall2048Ideal.τ).loc Cert.KernelSmall2048Ideal.main_arg1)
      ∧ m' ((c.tc : Thread Cert.ReferenceSmall2048Ideal.nD Cert.ReferenceSmall2048Ideal.τ).loc Cert.ReferenceSmall2048Ideal.main_arg2) = m ((c.tc : Thread Cert.KernelSmall2048Ideal.nD Cert.KernelSmall2048Ideal.τ).loc Cert.KernelSmall2048Ideal.main_arg2)
      ∧ m' ((c.tc : Thread Cert.ReferenceSmall2048Ideal.nD Cert.ReferenceSmall2048Ideal.τ).loc Cert.ReferenceSmall2048Ideal.main_arg3) = m ((c.tc : Thread Cert.KernelSmall2048Ideal.nD Cert.KernelSmall2048Ideal.τ).loc Cert.KernelSmall2048Ideal.main_arg3)
      ∧ m' ((c.tc : Thread Cert.ReferenceSmall2048Ideal.nD Cert.ReferenceSmall2048Ideal.τ).loc Cert.ReferenceSmall2048Ideal.main_arg4) = m ((c.tc : Thread Cert.KernelSmall2048Ideal.nD Cert.KernelSmall2048Ideal.τ).loc Cert.KernelSmall2048Ideal.main_arg4)
      ∧ m' ((c.tc : Thread Cert.ReferenceSmall2048Ideal.nD Cert.ReferenceSmall2048Ideal.τ).loc Cert.ReferenceSmall2048Ideal.main_arg5) = m ((c.tc : Thread Cert.KernelSmall2048Ideal.nD Cert.KernelSmall2048Ideal.τ).loc Cert.KernelSmall2048Ideal.main_arg5)) →
    ∃ (v0 : (c : Dev Cert.KernelSmall2048Ideal.nD) → Buf (Elt Ideal) ((c.tc : Thread Cert.KernelSmall2048Ideal.nD Cert.KernelSmall2048Ideal.τ).loc Cert.KernelSmall2048Ideal.main_v0_0)) (v1 : (c : Dev Cert.KernelSmall2048Ideal.nD) → Buf (Elt Ideal) ((c.tc : Thread Cert.KernelSmall2048Ideal.nD Cert.KernelSmall2048Ideal.τ).loc Cert.KernelSmall2048Ideal.main_v0_1)) (v2 : (c : Dev Cert.KernelSmall2048Ideal.nD) → Buf (Elt Ideal) ((c.tc : Thread Cert.KernelSmall2048Ideal.nD Cert.KernelSmall2048Ideal.τ).loc Cert.KernelSmall2048Ideal.main_v0_2)) (v3 : (c : Dev Cert.KernelSmall2048Ideal.nD) → Buf (Elt Ideal) ((c.tc : Thread Cert.KernelSmall2048Ideal.nD Cert.KernelSmall2048Ideal.τ).loc Cert.KernelSmall2048Ideal.main_v0_3)) (v4 : (c : Dev Cert.KernelSmall2048Ideal.nD) → Buf (Elt Ideal) ((c.tc : Thread Cert.KernelSmall2048Ideal.nD Cert.KernelSmall2048Ideal.τ).loc Cert.KernelSmall2048Ideal.main_v0_4)),
      θ_run (Cert.KernelSmall2048Ideal.defs (F := Ideal)) (onTc (τ := Cert.KernelSmall2048Ideal.τ) (Cert.KernelSmall2048Ideal.main (F := Ideal))) ⟨m, fun _ => 0, g⟩ (fun r => ∀ c : Dev Cert.KernelSmall2048Ideal.nD,
          r.2.mem ((c.tc : Thread Cert.KernelSmall2048Ideal.nD Cert.KernelSmall2048Ideal.τ).loc Cert.KernelSmall2048Ideal.main_v0_0) = v0 c
          ∧ r.2.mem ((c.tc : Thread Cert.KernelSmall2048Ideal.nD Cert.KernelSmall2048Ideal.τ).loc Cert.KernelSmall2048Ideal.main_v0_1) = v1 c
          ∧ r.2.mem ((c.tc : Thread Cert.KernelSmall2048Ideal.nD Cert.KernelSmall2048Ideal.τ).loc Cert.KernelSmall2048Ideal.main_v0_2) = v2 c
          ∧ r.2.mem ((c.tc : Thread Cert.KernelSmall2048Ideal.nD Cert.KernelSmall2048Ideal.τ).loc Cert.KernelSmall2048Ideal.main_v0_3) = v3 c
          ∧ r.2.mem ((c.tc : Thread Cert.KernelSmall2048Ideal.nD Cert.KernelSmall2048Ideal.τ).loc Cert.KernelSmall2048Ideal.main_v0_4) = v4 c
          ∧ r.2.mem ((c.tc : Thread Cert.KernelSmall2048Ideal.nD Cert.KernelSmall2048Ideal.τ).loc Cert.KernelSmall2048Ideal.main_arg0) = m ((c.tc : Thread Cert.KernelSmall2048Ideal.nD Cert.KernelSmall2048Ideal.τ).loc Cert.KernelSmall2048Ideal.main_arg0)
          ∧ r.2.mem ((c.tc : Thread Cert.KernelSmall2048Ideal.nD Cert.KernelSmall2048Ideal.τ).loc Cert.KernelSmall2048Ideal.main_arg1) = m ((c.tc : Thread Cert.KernelSmall2048Ideal.nD Cert.KernelSmall2048Ideal.τ).loc Cert.KernelSmall2048Ideal.main_arg1)
          ∧ r.2.mem ((c.tc : Thread Cert.KernelSmall2048Ideal.nD Cert.KernelSmall2048Ideal.τ).loc Cert.KernelSmall2048Ideal.main_arg2) = m ((c.tc : Thread Cert.KernelSmall2048Ideal.nD Cert.KernelSmall2048Ideal.τ).loc Cert.KernelSmall2048Ideal.main_arg2)
          ∧ r.2.mem ((c.tc : Thread Cert.KernelSmall2048Ideal.nD Cert.KernelSmall2048Ideal.τ).loc Cert.KernelSmall2048Ideal.main_arg3) = m ((c.tc : Thread Cert.KernelSmall2048Ideal.nD Cert.KernelSmall2048Ideal.τ).loc Cert.KernelSmall2048Ideal.main_arg3)
          ∧ r.2.mem ((c.tc : Thread Cert.KernelSmall2048Ideal.nD Cert.KernelSmall2048Ideal.τ).loc Cert.KernelSmall2048Ideal.main_arg4) = m ((c.tc : Thread Cert.KernelSmall2048Ideal.nD Cert.KernelSmall2048Ideal.τ).loc Cert.KernelSmall2048Ideal.main_arg4)
          ∧ r.2.mem ((c.tc : Thread Cert.KernelSmall2048Ideal.nD Cert.KernelSmall2048Ideal.τ).loc Cert.KernelSmall2048Ideal.main_arg5) = m ((c.tc : Thread Cert.KernelSmall2048Ideal.nD Cert.KernelSmall2048Ideal.τ).loc Cert.KernelSmall2048Ideal.main_arg5))
      ∧ θ_run (Cert.ReferenceSmall2048Ideal.defs (F := Ideal)) (onTc (τ := Cert.ReferenceSmall2048Ideal.τ) (Cert.ReferenceSmall2048Ideal.main (F := Ideal))) ⟨m', fun _ => 0, g'⟩ (fun r => ∀ c : Dev Cert.ReferenceSmall2048Ideal.nD,
          r.2.mem ((c.tc : Thread Cert.ReferenceSmall2048Ideal.nD Cert.ReferenceSmall2048Ideal.τ).loc Cert.ReferenceSmall2048Ideal.main_v0) = v0 c
          ∧ r.2.mem ((c.tc : Thread Cert.ReferenceSmall2048Ideal.nD Cert.ReferenceSmall2048Ideal.τ).loc Cert.ReferenceSmall2048Ideal.main_v24) = v1 c
          ∧ r.2.mem ((c.tc : Thread Cert.ReferenceSmall2048Ideal.nD Cert.ReferenceSmall2048Ideal.τ).loc Cert.ReferenceSmall2048Ideal.main_v5) = v2 c
          ∧ r.2.mem ((c.tc : Thread Cert.ReferenceSmall2048Ideal.nD Cert.ReferenceSmall2048Ideal.τ).loc Cert.ReferenceSmall2048Ideal.main_v11) = v3 c
          ∧ r.2.mem ((c.tc : Thread Cert.ReferenceSmall2048Ideal.nD Cert.ReferenceSmall2048Ideal.τ).loc Cert.ReferenceSmall2048Ideal.main_v26) = v4 c
          ∧ r.2.mem ((c.tc : Thread Cert.ReferenceSmall2048Ideal.nD Cert.ReferenceSmall2048Ideal.τ).loc Cert.ReferenceSmall2048Ideal.main_arg0) = m' ((c.tc : Thread Cert.ReferenceSmall2048Ideal.nD Cert.ReferenceSmall2048Ideal.τ).loc Cert.ReferenceSmall2048Ideal.main_arg0)
          ∧ r.2.mem ((c.tc : Thread Cert.ReferenceSmall2048Ideal.nD Cert.ReferenceSmall2048Ideal.τ).loc Cert.ReferenceSmall2048Ideal.main_arg1) = m' ((c.tc : Thread Cert.ReferenceSmall2048Ideal.nD Cert.ReferenceSmall2048Ideal.τ).loc Cert.ReferenceSmall2048Ideal.main_arg1)
          ∧ r.2.mem ((c.tc : Thread Cert.ReferenceSmall2048Ideal.nD Cert.ReferenceSmall2048Ideal.τ).loc Cert.ReferenceSmall2048Ideal.main_arg2) = m' ((c.tc : Thread Cert.ReferenceSmall2048Ideal.nD Cert.ReferenceSmall2048Ideal.τ).loc Cert.ReferenceSmall2048Ideal.main_arg2)
          ∧ r.2.mem ((c.tc : Thread Cert.ReferenceSmall2048Ideal.nD Cert.ReferenceSmall2048Ideal.τ).loc Cert.ReferenceSmall2048Ideal.main_arg3) = m' ((c.tc : Thread Cert.ReferenceSmall2048Ideal.nD Cert.ReferenceSmall2048Ideal.τ).loc Cert.ReferenceSmall2048Ideal.main_arg3)
          ∧ r.2.mem ((c.tc : Thread Cert.ReferenceSmall2048Ideal.nD Cert.ReferenceSmall2048Ideal.τ).loc Cert.ReferenceSmall2048Ideal.main_arg4) = m' ((c.tc : Thread Cert.ReferenceSmall2048Ideal.nD Cert.ReferenceSmall2048Ideal.τ).loc Cert.ReferenceSmall2048Ideal.main_arg4)
          ∧ r.2.mem ((c.tc : Thread Cert.ReferenceSmall2048Ideal.nD Cert.ReferenceSmall2048Ideal.τ).loc Cert.ReferenceSmall2048Ideal.main_arg5) = m' ((c.tc : Thread Cert.ReferenceSmall2048Ideal.nD Cert.ReferenceSmall2048Ideal.τ).loc Cert.ReferenceSmall2048Ideal.main_arg5))

def preserves_KernelSmall5632_KernelSmall5632Ideal : Prop :=
  True

def algebraic_KernelSmall5632Ideal_ReferenceSmall5632Ideal [hKernelSmall5632Ideal : Cert.KernelSmall5632Ideal.Facts] [hReferenceSmall5632Ideal : Cert.ReferenceSmall5632Ideal.Facts] : Prop :=
  ∀ (m : (ℓ : Loc Cert.KernelSmall5632Ideal.nD Cert.KernelSmall5632Ideal.τ Cert.KernelSmall5632Ideal.sig) → Buf (Elt Ideal) ℓ) (g : Dev Cert.KernelSmall5632Ideal.nD → PrngReg)
    (m' : (ℓ : Loc Cert.ReferenceSmall5632Ideal.nD Cert.ReferenceSmall5632Ideal.τ Cert.ReferenceSmall5632Ideal.sig) → Buf (Elt Ideal) ℓ) (g' : Dev Cert.ReferenceSmall5632Ideal.nD → PrngReg), Pre_KernelSmall5632Ideal m →
    (∀ c : Dev Cert.KernelSmall5632Ideal.nD,
      m' ((c.tc : Thread Cert.ReferenceSmall5632Ideal.nD Cert.ReferenceSmall5632Ideal.τ).loc Cert.ReferenceSmall5632Ideal.main_arg0) = m ((c.tc : Thread Cert.KernelSmall5632Ideal.nD Cert.KernelSmall5632Ideal.τ).loc Cert.KernelSmall5632Ideal.main_arg0)
      ∧ m' ((c.tc : Thread Cert.ReferenceSmall5632Ideal.nD Cert.ReferenceSmall5632Ideal.τ).loc Cert.ReferenceSmall5632Ideal.main_arg1) = m ((c.tc : Thread Cert.KernelSmall5632Ideal.nD Cert.KernelSmall5632Ideal.τ).loc Cert.KernelSmall5632Ideal.main_arg1)
      ∧ m' ((c.tc : Thread Cert.ReferenceSmall5632Ideal.nD Cert.ReferenceSmall5632Ideal.τ).loc Cert.ReferenceSmall5632Ideal.main_arg2) = m ((c.tc : Thread Cert.KernelSmall5632Ideal.nD Cert.KernelSmall5632Ideal.τ).loc Cert.KernelSmall5632Ideal.main_arg2)
      ∧ m' ((c.tc : Thread Cert.ReferenceSmall5632Ideal.nD Cert.ReferenceSmall5632Ideal.τ).loc Cert.ReferenceSmall5632Ideal.main_arg3) = m ((c.tc : Thread Cert.KernelSmall5632Ideal.nD Cert.KernelSmall5632Ideal.τ).loc Cert.KernelSmall5632Ideal.main_arg3)
      ∧ m' ((c.tc : Thread Cert.ReferenceSmall5632Ideal.nD Cert.ReferenceSmall5632Ideal.τ).loc Cert.ReferenceSmall5632Ideal.main_arg4) = m ((c.tc : Thread Cert.KernelSmall5632Ideal.nD Cert.KernelSmall5632Ideal.τ).loc Cert.KernelSmall5632Ideal.main_arg4)
      ∧ m' ((c.tc : Thread Cert.ReferenceSmall5632Ideal.nD Cert.ReferenceSmall5632Ideal.τ).loc Cert.ReferenceSmall5632Ideal.main_arg5) = m ((c.tc : Thread Cert.KernelSmall5632Ideal.nD Cert.KernelSmall5632Ideal.τ).loc Cert.KernelSmall5632Ideal.main_arg5)) →
    ∃ (v0 : (c : Dev Cert.KernelSmall5632Ideal.nD) → Buf (Elt Ideal) ((c.tc : Thread Cert.KernelSmall5632Ideal.nD Cert.KernelSmall5632Ideal.τ).loc Cert.KernelSmall5632Ideal.main_v0_0)) (v1 : (c : Dev Cert.KernelSmall5632Ideal.nD) → Buf (Elt Ideal) ((c.tc : Thread Cert.KernelSmall5632Ideal.nD Cert.KernelSmall5632Ideal.τ).loc Cert.KernelSmall5632Ideal.main_v0_1)) (v2 : (c : Dev Cert.KernelSmall5632Ideal.nD) → Buf (Elt Ideal) ((c.tc : Thread Cert.KernelSmall5632Ideal.nD Cert.KernelSmall5632Ideal.τ).loc Cert.KernelSmall5632Ideal.main_v0_2)) (v3 : (c : Dev Cert.KernelSmall5632Ideal.nD) → Buf (Elt Ideal) ((c.tc : Thread Cert.KernelSmall5632Ideal.nD Cert.KernelSmall5632Ideal.τ).loc Cert.KernelSmall5632Ideal.main_v0_3)) (v4 : (c : Dev Cert.KernelSmall5632Ideal.nD) → Buf (Elt Ideal) ((c.tc : Thread Cert.KernelSmall5632Ideal.nD Cert.KernelSmall5632Ideal.τ).loc Cert.KernelSmall5632Ideal.main_v0_4)),
      θ_run (Cert.KernelSmall5632Ideal.defs (F := Ideal)) (onTc (τ := Cert.KernelSmall5632Ideal.τ) (Cert.KernelSmall5632Ideal.main (F := Ideal))) ⟨m, fun _ => 0, g⟩ (fun r => ∀ c : Dev Cert.KernelSmall5632Ideal.nD,
          r.2.mem ((c.tc : Thread Cert.KernelSmall5632Ideal.nD Cert.KernelSmall5632Ideal.τ).loc Cert.KernelSmall5632Ideal.main_v0_0) = v0 c
          ∧ r.2.mem ((c.tc : Thread Cert.KernelSmall5632Ideal.nD Cert.KernelSmall5632Ideal.τ).loc Cert.KernelSmall5632Ideal.main_v0_1) = v1 c
          ∧ r.2.mem ((c.tc : Thread Cert.KernelSmall5632Ideal.nD Cert.KernelSmall5632Ideal.τ).loc Cert.KernelSmall5632Ideal.main_v0_2) = v2 c
          ∧ r.2.mem ((c.tc : Thread Cert.KernelSmall5632Ideal.nD Cert.KernelSmall5632Ideal.τ).loc Cert.KernelSmall5632Ideal.main_v0_3) = v3 c
          ∧ r.2.mem ((c.tc : Thread Cert.KernelSmall5632Ideal.nD Cert.KernelSmall5632Ideal.τ).loc Cert.KernelSmall5632Ideal.main_v0_4) = v4 c
          ∧ r.2.mem ((c.tc : Thread Cert.KernelSmall5632Ideal.nD Cert.KernelSmall5632Ideal.τ).loc Cert.KernelSmall5632Ideal.main_arg0) = m ((c.tc : Thread Cert.KernelSmall5632Ideal.nD Cert.KernelSmall5632Ideal.τ).loc Cert.KernelSmall5632Ideal.main_arg0)
          ∧ r.2.mem ((c.tc : Thread Cert.KernelSmall5632Ideal.nD Cert.KernelSmall5632Ideal.τ).loc Cert.KernelSmall5632Ideal.main_arg1) = m ((c.tc : Thread Cert.KernelSmall5632Ideal.nD Cert.KernelSmall5632Ideal.τ).loc Cert.KernelSmall5632Ideal.main_arg1)
          ∧ r.2.mem ((c.tc : Thread Cert.KernelSmall5632Ideal.nD Cert.KernelSmall5632Ideal.τ).loc Cert.KernelSmall5632Ideal.main_arg2) = m ((c.tc : Thread Cert.KernelSmall5632Ideal.nD Cert.KernelSmall5632Ideal.τ).loc Cert.KernelSmall5632Ideal.main_arg2)
          ∧ r.2.mem ((c.tc : Thread Cert.KernelSmall5632Ideal.nD Cert.KernelSmall5632Ideal.τ).loc Cert.KernelSmall5632Ideal.main_arg3) = m ((c.tc : Thread Cert.KernelSmall5632Ideal.nD Cert.KernelSmall5632Ideal.τ).loc Cert.KernelSmall5632Ideal.main_arg3)
          ∧ r.2.mem ((c.tc : Thread Cert.KernelSmall5632Ideal.nD Cert.KernelSmall5632Ideal.τ).loc Cert.KernelSmall5632Ideal.main_arg4) = m ((c.tc : Thread Cert.KernelSmall5632Ideal.nD Cert.KernelSmall5632Ideal.τ).loc Cert.KernelSmall5632Ideal.main_arg4)
          ∧ r.2.mem ((c.tc : Thread Cert.KernelSmall5632Ideal.nD Cert.KernelSmall5632Ideal.τ).loc Cert.KernelSmall5632Ideal.main_arg5) = m ((c.tc : Thread Cert.KernelSmall5632Ideal.nD Cert.KernelSmall5632Ideal.τ).loc Cert.KernelSmall5632Ideal.main_arg5))
      ∧ θ_run (Cert.ReferenceSmall5632Ideal.defs (F := Ideal)) (onTc (τ := Cert.ReferenceSmall5632Ideal.τ) (Cert.ReferenceSmall5632Ideal.main (F := Ideal))) ⟨m', fun _ => 0, g'⟩ (fun r => ∀ c : Dev Cert.ReferenceSmall5632Ideal.nD,
          r.2.mem ((c.tc : Thread Cert.ReferenceSmall5632Ideal.nD Cert.ReferenceSmall5632Ideal.τ).loc Cert.ReferenceSmall5632Ideal.main_v0) = v0 c
          ∧ r.2.mem ((c.tc : Thread Cert.ReferenceSmall5632Ideal.nD Cert.ReferenceSmall5632Ideal.τ).loc Cert.ReferenceSmall5632Ideal.main_v24) = v1 c
          ∧ r.2.mem ((c.tc : Thread Cert.ReferenceSmall5632Ideal.nD Cert.ReferenceSmall5632Ideal.τ).loc Cert.ReferenceSmall5632Ideal.main_v5) = v2 c
          ∧ r.2.mem ((c.tc : Thread Cert.ReferenceSmall5632Ideal.nD Cert.ReferenceSmall5632Ideal.τ).loc Cert.ReferenceSmall5632Ideal.main_v11) = v3 c
          ∧ r.2.mem ((c.tc : Thread Cert.ReferenceSmall5632Ideal.nD Cert.ReferenceSmall5632Ideal.τ).loc Cert.ReferenceSmall5632Ideal.main_v26) = v4 c
          ∧ r.2.mem ((c.tc : Thread Cert.ReferenceSmall5632Ideal.nD Cert.ReferenceSmall5632Ideal.τ).loc Cert.ReferenceSmall5632Ideal.main_arg0) = m' ((c.tc : Thread Cert.ReferenceSmall5632Ideal.nD Cert.ReferenceSmall5632Ideal.τ).loc Cert.ReferenceSmall5632Ideal.main_arg0)
          ∧ r.2.mem ((c.tc : Thread Cert.ReferenceSmall5632Ideal.nD Cert.ReferenceSmall5632Ideal.τ).loc Cert.ReferenceSmall5632Ideal.main_arg1) = m' ((c.tc : Thread Cert.ReferenceSmall5632Ideal.nD Cert.ReferenceSmall5632Ideal.τ).loc Cert.ReferenceSmall5632Ideal.main_arg1)
          ∧ r.2.mem ((c.tc : Thread Cert.ReferenceSmall5632Ideal.nD Cert.ReferenceSmall5632Ideal.τ).loc Cert.ReferenceSmall5632Ideal.main_arg2) = m' ((c.tc : Thread Cert.ReferenceSmall5632Ideal.nD Cert.ReferenceSmall5632Ideal.τ).loc Cert.ReferenceSmall5632Ideal.main_arg2)
          ∧ r.2.mem ((c.tc : Thread Cert.ReferenceSmall5632Ideal.nD Cert.ReferenceSmall5632Ideal.τ).loc Cert.ReferenceSmall5632Ideal.main_arg3) = m' ((c.tc : Thread Cert.ReferenceSmall5632Ideal.nD Cert.ReferenceSmall5632Ideal.τ).loc Cert.ReferenceSmall5632Ideal.main_arg3)
          ∧ r.2.mem ((c.tc : Thread Cert.ReferenceSmall5632Ideal.nD Cert.ReferenceSmall5632Ideal.τ).loc Cert.ReferenceSmall5632Ideal.main_arg4) = m' ((c.tc : Thread Cert.ReferenceSmall5632Ideal.nD Cert.ReferenceSmall5632Ideal.τ).loc Cert.ReferenceSmall5632Ideal.main_arg4)
          ∧ r.2.mem ((c.tc : Thread Cert.ReferenceSmall5632Ideal.nD Cert.ReferenceSmall5632Ideal.τ).loc Cert.ReferenceSmall5632Ideal.main_arg5) = m' ((c.tc : Thread Cert.ReferenceSmall5632Ideal.nD Cert.ReferenceSmall5632Ideal.τ).loc Cert.ReferenceSmall5632Ideal.main_arg5))

def Claim : Prop :=
  ∃ (hKernel : Cert.Kernel.Facts) (hKernelIdeal : Cert.KernelIdeal.Facts) (hReferenceIdeal : Cert.ReferenceIdeal.Facts) (hKernelDU1 : Cert.KernelDU1.Facts) (hKernelDU1Ideal : Cert.KernelDU1Ideal.Facts) (hReferenceDU1Ideal : Cert.ReferenceDU1Ideal.Facts) (hKernelGW2048 : Cert.KernelGW2048.Facts) (hKernelGW2048Ideal : Cert.KernelGW2048Ideal.Facts) (hReferenceGW2048Ideal : Cert.ReferenceGW2048Ideal.Facts) (hKernelGW4096 : Cert.KernelGW4096.Facts) (hKernelGW4096Ideal : Cert.KernelGW4096Ideal.Facts) (hReferenceGW4096Ideal : Cert.ReferenceGW4096Ideal.Facts) (hKernelGW3072 : Cert.KernelGW3072.Facts) (hKernelGW3072Ideal : Cert.KernelGW3072Ideal.Facts) (hReferenceGW3072Ideal : Cert.ReferenceGW3072Ideal.Facts) (hKernelGW128 : Cert.KernelGW128.Facts) (hKernelGW128Ideal : Cert.KernelGW128Ideal.Facts) (hReferenceGW128Ideal : Cert.ReferenceGW128Ideal.Facts) (hKernelGUp : Cert.KernelGUp.Facts) (hKernelGUpIdeal : Cert.KernelGUpIdeal.Facts) (hReferenceGUpIdeal : Cert.ReferenceGUpIdeal.Facts) (hKernelDU2 : Cert.KernelDU2.Facts) (hKernelDU2Ideal : Cert.KernelDU2Ideal.Facts) (hReferenceDU2Ideal : Cert.ReferenceDU2Ideal.Facts) (hKernelDU2v : Cert.KernelDU2v.Facts) (hKernelDU2vIdeal : Cert.KernelDU2vIdeal.Facts) (hReferenceDU2vIdeal : Cert.ReferenceDU2vIdeal.Facts) (hKernelDAct : Cert.KernelDAct.Facts) (hKernelDActIdeal : Cert.KernelDActIdeal.Facts) (hReferenceDActIdeal : Cert.ReferenceDActIdeal.Facts) (hKernelGDown : Cert.KernelGDown.Facts) (hKernelGDownIdeal : Cert.KernelGDownIdeal.Facts) (hReferenceGDownIdeal : Cert.ReferenceGDownIdeal.Facts) (hKernelDY : Cert.KernelDY.Facts) (hKernelDYIdeal : Cert.KernelDYIdeal.Facts) (hReferenceDYIdeal : Cert.ReferenceDYIdeal.Facts) (hKernelGBranch : Cert.KernelGBranch.Facts) (hKernelGBranchIdeal : Cert.KernelGBranchIdeal.Facts) (hReferenceGBranchIdeal : Cert.ReferenceGBranchIdeal.Facts) (hKernelDMerged : Cert.KernelDMerged.Facts) (hKernelDMergedIdeal : Cert.KernelDMergedIdeal.Facts) (hReferenceDMergedIdeal : Cert.ReferenceDMergedIdeal.Facts) (hKernelGOut : Cert.KernelGOut.Facts) (hKernelGOutIdeal : Cert.KernelGOutIdeal.Facts) (hReferenceGOutIdeal : Cert.ReferenceGOutIdeal.Facts) (hKernelGate : Cert.KernelGate.Facts) (hKernelGateIdeal : Cert.KernelGateIdeal.Facts) (hReferenceGateIdeal : Cert.ReferenceGateIdeal.Facts) (hKernelProj : Cert.KernelProj.Facts) (hKernelProjIdeal : Cert.KernelProjIdeal.Facts) (hReferenceProjIdeal : Cert.ReferenceProjIdeal.Facts) (hKernelBranch : Cert.KernelBranch.Facts) (hKernelBranchIdeal : Cert.KernelBranchIdeal.Facts) (hReferenceBranchIdeal : Cert.ReferenceBranchIdeal.Facts) (hKernelOutProj : Cert.KernelOutProj.Facts) (hKernelOutProjIdeal : Cert.KernelOutProjIdeal.Facts) (hReferenceOutProjIdeal : Cert.ReferenceOutProjIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelGateF : Cert.KernelGateF.Facts) (hKernelGateFIdeal : Cert.KernelGateFIdeal.Facts) (hReferenceGateFIdeal : Cert.ReferenceGateFIdeal.Facts) (hKernelRmsF : Cert.KernelRmsF.Facts) (hKernelRmsFIdeal : Cert.KernelRmsFIdeal.Facts) (hReferenceRmsFIdeal : Cert.ReferenceRmsFIdeal.Facts) (hKernelRms : Cert.KernelRms.Facts) (hKernelRmsIdeal : Cert.KernelRmsIdeal.Facts) (hReferenceRmsIdeal : Cert.ReferenceRmsIdeal.Facts) (hKernelAdamIn : Cert.KernelAdamIn.Facts) (hKernelAdamInIdeal : Cert.KernelAdamInIdeal.Facts) (hReferenceAdamInIdeal : Cert.ReferenceAdamInIdeal.Facts) (hKernelAdamBranch : Cert.KernelAdamBranch.Facts) (hKernelAdamBranchIdeal : Cert.KernelAdamBranchIdeal.Facts) (hReferenceAdamBranchIdeal : Cert.ReferenceAdamBranchIdeal.Facts) (hKernelAdamOut : Cert.KernelAdamOut.Facts) (hKernelAdamOutIdeal : Cert.KernelAdamOutIdeal.Facts) (hReferenceAdamOutIdeal : Cert.ReferenceAdamOutIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelLoss : Cert.KernelLoss.Facts) (hKernelLossIdeal : Cert.KernelLossIdeal.Facts) (hReferenceLossIdeal : Cert.ReferenceLossIdeal.Facts) (hKernelFfnConv : Cert.KernelFfnConv.Facts) (hKernelFfnConvIdeal : Cert.KernelFfnConvIdeal.Facts) (hReferenceFfnConvIdeal : Cert.ReferenceFfnConvIdeal.Facts) (hKernelSsdConv : Cert.KernelSsdConv.Facts) (hKernelSsdConvIdeal : Cert.KernelSsdConvIdeal.Facts) (hReferenceSsdConvIdeal : Cert.ReferenceSsdConvIdeal.Facts) (hKernelSmallMeta : Cert.KernelSmallMeta.Facts) (hKernelSmallMetaIdeal : Cert.KernelSmallMetaIdeal.Facts) (hReferenceSmallMetaIdeal : Cert.ReferenceSmallMetaIdeal.Facts) (hKernelSmallSsd : Cert.KernelSmallSsd.Facts) (hKernelSmallSsdIdeal : Cert.KernelSmallSsdIdeal.Facts) (hReferenceSmallSsdIdeal : Cert.ReferenceSmallSsdIdeal.Facts) (hKernelSmallFfn : Cert.KernelSmallFfn.Facts) (hKernelSmallFfnIdeal : Cert.KernelSmallFfnIdeal.Facts) (hReferenceSmallFfnIdeal : Cert.ReferenceSmallFfnIdeal.Facts) (hKernelSmall1024 : Cert.KernelSmall1024.Facts) (hKernelSmall1024Ideal : Cert.KernelSmall1024Ideal.Facts) (hReferenceSmall1024Ideal : Cert.ReferenceSmall1024Ideal.Facts) (hKernelSmall3072 : Cert.KernelSmall3072.Facts) (hKernelSmall3072Ideal : Cert.KernelSmall3072Ideal.Facts) (hReferenceSmall3072Ideal : Cert.ReferenceSmall3072Ideal.Facts) (hKernelSmall32 : Cert.KernelSmall32.Facts) (hKernelSmall32Ideal : Cert.KernelSmall32Ideal.Facts) (hReferenceSmall32Ideal : Cert.ReferenceSmall32Ideal.Facts) (hKernelSmall2048 : Cert.KernelSmall2048.Facts) (hKernelSmall2048Ideal : Cert.KernelSmall2048Ideal.Facts) (hReferenceSmall2048Ideal : Cert.ReferenceSmall2048Ideal.Facts) (hKernelSmall5632 : Cert.KernelSmall5632.Facts) (hKernelSmall5632Ideal : Cert.KernelSmall5632Ideal.Facts) (hReferenceSmall5632Ideal : Cert.ReferenceSmall5632Ideal.Facts) (hPre_finite : Cert.Pre_finite.Facts) (hPre_chip_meta : Cert.Pre_chip_meta.Facts) (hPre_chip_ssd : Cert.Pre_chip_ssd.Facts) (hPre_chip_ffn : Cert.Pre_chip_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDU1 (hKernelDU1 := hKernelDU1)
    ∧ quiescent_KernelDU1Ideal (hKernelDU1Ideal := hKernelDU1Ideal)
    ∧ quiescent_ReferenceDU1Ideal (hReferenceDU1Ideal := hReferenceDU1Ideal)
    ∧ quiescent_KernelGW2048 (hKernelGW2048 := hKernelGW2048)
    ∧ quiescent_KernelGW2048Ideal (hKernelGW2048Ideal := hKernelGW2048Ideal)
    ∧ quiescent_ReferenceGW2048Ideal (hReferenceGW2048Ideal := hReferenceGW2048Ideal)
    ∧ quiescent_KernelGW4096 (hKernelGW4096 := hKernelGW4096)
    ∧ quiescent_KernelGW4096Ideal (hKernelGW4096Ideal := hKernelGW4096Ideal)
    ∧ quiescent_ReferenceGW4096Ideal (hReferenceGW4096Ideal := hReferenceGW4096Ideal)
    ∧ quiescent_KernelGW3072 (hKernelGW3072 := hKernelGW3072)
    ∧ quiescent_KernelGW3072Ideal (hKernelGW3072Ideal := hKernelGW3072Ideal)
    ∧ quiescent_ReferenceGW3072Ideal (hReferenceGW3072Ideal := hReferenceGW3072Ideal)
    ∧ quiescent_KernelGW128 (hKernelGW128 := hKernelGW128)
    ∧ quiescent_KernelGW128Ideal (hKernelGW128Ideal := hKernelGW128Ideal)
    ∧ quiescent_ReferenceGW128Ideal (hReferenceGW128Ideal := hReferenceGW128Ideal)
    ∧ quiescent_KernelGUp (hKernelGUp := hKernelGUp)
    ∧ quiescent_KernelGUpIdeal (hKernelGUpIdeal := hKernelGUpIdeal)
    ∧ quiescent_ReferenceGUpIdeal (hReferenceGUpIdeal := hReferenceGUpIdeal)
    ∧ quiescent_KernelDU2 (hKernelDU2 := hKernelDU2)
    ∧ quiescent_KernelDU2Ideal (hKernelDU2Ideal := hKernelDU2Ideal)
    ∧ quiescent_ReferenceDU2Ideal (hReferenceDU2Ideal := hReferenceDU2Ideal)
    ∧ quiescent_KernelDU2v (hKernelDU2v := hKernelDU2v)
    ∧ quiescent_KernelDU2vIdeal (hKernelDU2vIdeal := hKernelDU2vIdeal)
    ∧ quiescent_ReferenceDU2vIdeal (hReferenceDU2vIdeal := hReferenceDU2vIdeal)
    ∧ quiescent_KernelDAct (hKernelDAct := hKernelDAct)
    ∧ quiescent_KernelDActIdeal (hKernelDActIdeal := hKernelDActIdeal)
    ∧ quiescent_ReferenceDActIdeal (hReferenceDActIdeal := hReferenceDActIdeal)
    ∧ quiescent_KernelGDown (hKernelGDown := hKernelGDown)
    ∧ quiescent_KernelGDownIdeal (hKernelGDownIdeal := hKernelGDownIdeal)
    ∧ quiescent_ReferenceGDownIdeal (hReferenceGDownIdeal := hReferenceGDownIdeal)
    ∧ quiescent_KernelDY (hKernelDY := hKernelDY)
    ∧ quiescent_KernelDYIdeal (hKernelDYIdeal := hKernelDYIdeal)
    ∧ quiescent_ReferenceDYIdeal (hReferenceDYIdeal := hReferenceDYIdeal)
    ∧ quiescent_KernelGBranch (hKernelGBranch := hKernelGBranch)
    ∧ quiescent_KernelGBranchIdeal (hKernelGBranchIdeal := hKernelGBranchIdeal)
    ∧ quiescent_ReferenceGBranchIdeal (hReferenceGBranchIdeal := hReferenceGBranchIdeal)
    ∧ quiescent_KernelDMerged (hKernelDMerged := hKernelDMerged)
    ∧ quiescent_KernelDMergedIdeal (hKernelDMergedIdeal := hKernelDMergedIdeal)
    ∧ quiescent_ReferenceDMergedIdeal (hReferenceDMergedIdeal := hReferenceDMergedIdeal)
    ∧ quiescent_KernelGOut (hKernelGOut := hKernelGOut)
    ∧ quiescent_KernelGOutIdeal (hKernelGOutIdeal := hKernelGOutIdeal)
    ∧ quiescent_ReferenceGOutIdeal (hReferenceGOutIdeal := hReferenceGOutIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelBranch (hKernelBranch := hKernelBranch)
    ∧ quiescent_KernelBranchIdeal (hKernelBranchIdeal := hKernelBranchIdeal)
    ∧ quiescent_ReferenceBranchIdeal (hReferenceBranchIdeal := hReferenceBranchIdeal)
    ∧ quiescent_KernelOutProj (hKernelOutProj := hKernelOutProj)
    ∧ quiescent_KernelOutProjIdeal (hKernelOutProjIdeal := hKernelOutProjIdeal)
    ∧ quiescent_ReferenceOutProjIdeal (hReferenceOutProjIdeal := hReferenceOutProjIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGateF (hKernelGateF := hKernelGateF)
    ∧ quiescent_KernelGateFIdeal (hKernelGateFIdeal := hKernelGateFIdeal)
    ∧ quiescent_ReferenceGateFIdeal (hReferenceGateFIdeal := hReferenceGateFIdeal)
    ∧ quiescent_KernelRmsF (hKernelRmsF := hKernelRmsF)
    ∧ quiescent_KernelRmsFIdeal (hKernelRmsFIdeal := hKernelRmsFIdeal)
    ∧ quiescent_ReferenceRmsFIdeal (hReferenceRmsFIdeal := hReferenceRmsFIdeal)
    ∧ quiescent_KernelRms (hKernelRms := hKernelRms)
    ∧ quiescent_KernelRmsIdeal (hKernelRmsIdeal := hKernelRmsIdeal)
    ∧ quiescent_ReferenceRmsIdeal (hReferenceRmsIdeal := hReferenceRmsIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamBranch (hKernelAdamBranch := hKernelAdamBranch)
    ∧ quiescent_KernelAdamBranchIdeal (hKernelAdamBranchIdeal := hKernelAdamBranchIdeal)
    ∧ quiescent_ReferenceAdamBranchIdeal (hReferenceAdamBranchIdeal := hReferenceAdamBranchIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelFfnConv (hKernelFfnConv := hKernelFfnConv)
    ∧ quiescent_KernelFfnConvIdeal (hKernelFfnConvIdeal := hKernelFfnConvIdeal)
    ∧ quiescent_ReferenceFfnConvIdeal (hReferenceFfnConvIdeal := hReferenceFfnConvIdeal)
    ∧ quiescent_KernelSsdConv (hKernelSsdConv := hKernelSsdConv)
    ∧ quiescent_KernelSsdConvIdeal (hKernelSsdConvIdeal := hKernelSsdConvIdeal)
    ∧ quiescent_ReferenceSsdConvIdeal (hReferenceSsdConvIdeal := hReferenceSsdConvIdeal)
    ∧ quiescent_KernelSmallMeta (hKernelSmallMeta := hKernelSmallMeta) (hPre_chip_meta := hPre_chip_meta)
    ∧ quiescent_KernelSmallMetaIdeal (hKernelSmallMetaIdeal := hKernelSmallMetaIdeal) (hPre_chip_meta := hPre_chip_meta)
    ∧ quiescent_ReferenceSmallMetaIdeal (hReferenceSmallMetaIdeal := hReferenceSmallMetaIdeal)
    ∧ quiescent_ReferenceSmallMetaIdeal_pre_chip_meta (hReferenceSmallMetaIdeal := hReferenceSmallMetaIdeal) (hPre_chip_meta := hPre_chip_meta)
    ∧ quiescent_KernelSmallSsd (hKernelSmallSsd := hKernelSmallSsd) (hPre_chip_ssd := hPre_chip_ssd)
    ∧ quiescent_KernelSmallSsdIdeal (hKernelSmallSsdIdeal := hKernelSmallSsdIdeal) (hPre_chip_ssd := hPre_chip_ssd)
    ∧ quiescent_ReferenceSmallSsdIdeal (hReferenceSmallSsdIdeal := hReferenceSmallSsdIdeal)
    ∧ quiescent_ReferenceSmallSsdIdeal_pre_chip_ssd (hReferenceSmallSsdIdeal := hReferenceSmallSsdIdeal) (hPre_chip_ssd := hPre_chip_ssd)
    ∧ quiescent_KernelSmallFfn (hKernelSmallFfn := hKernelSmallFfn) (hPre_chip_ffn := hPre_chip_ffn)
    ∧ quiescent_KernelSmallFfnIdeal (hKernelSmallFfnIdeal := hKernelSmallFfnIdeal) (hPre_chip_ffn := hPre_chip_ffn)
    ∧ quiescent_ReferenceSmallFfnIdeal (hReferenceSmallFfnIdeal := hReferenceSmallFfnIdeal)
    ∧ quiescent_ReferenceSmallFfnIdeal_pre_chip_ffn (hReferenceSmallFfnIdeal := hReferenceSmallFfnIdeal) (hPre_chip_ffn := hPre_chip_ffn)
    ∧ quiescent_KernelSmall1024 (hKernelSmall1024 := hKernelSmall1024)
    ∧ quiescent_KernelSmall1024Ideal (hKernelSmall1024Ideal := hKernelSmall1024Ideal)
    ∧ quiescent_ReferenceSmall1024Ideal (hReferenceSmall1024Ideal := hReferenceSmall1024Ideal)
    ∧ quiescent_KernelSmall3072 (hKernelSmall3072 := hKernelSmall3072)
    ∧ quiescent_KernelSmall3072Ideal (hKernelSmall3072Ideal := hKernelSmall3072Ideal)
    ∧ quiescent_ReferenceSmall3072Ideal (hReferenceSmall3072Ideal := hReferenceSmall3072Ideal)
    ∧ quiescent_KernelSmall32 (hKernelSmall32 := hKernelSmall32)
    ∧ quiescent_KernelSmall32Ideal (hKernelSmall32Ideal := hKernelSmall32Ideal)
    ∧ quiescent_ReferenceSmall32Ideal (hReferenceSmall32Ideal := hReferenceSmall32Ideal)
    ∧ quiescent_KernelSmall2048 (hKernelSmall2048 := hKernelSmall2048)
    ∧ quiescent_KernelSmall2048Ideal (hKernelSmall2048Ideal := hKernelSmall2048Ideal)
    ∧ quiescent_ReferenceSmall2048Ideal (hReferenceSmall2048Ideal := hReferenceSmall2048Ideal)
    ∧ quiescent_KernelSmall5632 (hKernelSmall5632 := hKernelSmall5632)
    ∧ quiescent_KernelSmall5632Ideal (hKernelSmall5632Ideal := hKernelSmall5632Ideal)
    ∧ quiescent_ReferenceSmall5632Ideal (hReferenceSmall5632Ideal := hReferenceSmall5632Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDU1_KernelDU1Ideal
    ∧ algebraic_KernelDU1Ideal_ReferenceDU1Ideal (hKernelDU1Ideal := hKernelDU1Ideal) (hReferenceDU1Ideal := hReferenceDU1Ideal)
    ∧ preserves_KernelGW2048_KernelGW2048Ideal
    ∧ algebraic_KernelGW2048Ideal_ReferenceGW2048Ideal (hKernelGW2048Ideal := hKernelGW2048Ideal) (hReferenceGW2048Ideal := hReferenceGW2048Ideal)
    ∧ preserves_KernelGW4096_KernelGW4096Ideal
    ∧ algebraic_KernelGW4096Ideal_ReferenceGW4096Ideal (hKernelGW4096Ideal := hKernelGW4096Ideal) (hReferenceGW4096Ideal := hReferenceGW4096Ideal)
    ∧ preserves_KernelGW3072_KernelGW3072Ideal
    ∧ algebraic_KernelGW3072Ideal_ReferenceGW3072Ideal (hKernelGW3072Ideal := hKernelGW3072Ideal) (hReferenceGW3072Ideal := hReferenceGW3072Ideal)
    ∧ preserves_KernelGW128_KernelGW128Ideal
    ∧ algebraic_KernelGW128Ideal_ReferenceGW128Ideal (hKernelGW128Ideal := hKernelGW128Ideal) (hReferenceGW128Ideal := hReferenceGW128Ideal)
    ∧ preserves_KernelGUp_KernelGUpIdeal
    ∧ algebraic_KernelGUpIdeal_ReferenceGUpIdeal (hKernelGUpIdeal := hKernelGUpIdeal) (hReferenceGUpIdeal := hReferenceGUpIdeal)
    ∧ preserves_KernelDU2_KernelDU2Ideal
    ∧ algebraic_KernelDU2Ideal_ReferenceDU2Ideal (hKernelDU2Ideal := hKernelDU2Ideal) (hReferenceDU2Ideal := hReferenceDU2Ideal)
    ∧ preserves_KernelDU2v_KernelDU2vIdeal
    ∧ algebraic_KernelDU2vIdeal_ReferenceDU2vIdeal (hKernelDU2vIdeal := hKernelDU2vIdeal) (hReferenceDU2vIdeal := hReferenceDU2vIdeal)
    ∧ preserves_KernelDAct_KernelDActIdeal
    ∧ algebraic_KernelDActIdeal_ReferenceDActIdeal (hKernelDActIdeal := hKernelDActIdeal) (hReferenceDActIdeal := hReferenceDActIdeal)
    ∧ preserves_KernelGDown_KernelGDownIdeal
    ∧ algebraic_KernelGDownIdeal_ReferenceGDownIdeal (hKernelGDownIdeal := hKernelGDownIdeal) (hReferenceGDownIdeal := hReferenceGDownIdeal)
    ∧ preserves_KernelDY_KernelDYIdeal
    ∧ algebraic_KernelDYIdeal_ReferenceDYIdeal (hKernelDYIdeal := hKernelDYIdeal) (hReferenceDYIdeal := hReferenceDYIdeal)
    ∧ preserves_KernelGBranch_KernelGBranchIdeal
    ∧ algebraic_KernelGBranchIdeal_ReferenceGBranchIdeal (hKernelGBranchIdeal := hKernelGBranchIdeal) (hReferenceGBranchIdeal := hReferenceGBranchIdeal)
    ∧ preserves_KernelDMerged_KernelDMergedIdeal
    ∧ algebraic_KernelDMergedIdeal_ReferenceDMergedIdeal (hKernelDMergedIdeal := hKernelDMergedIdeal) (hReferenceDMergedIdeal := hReferenceDMergedIdeal)
    ∧ preserves_KernelGOut_KernelGOutIdeal
    ∧ algebraic_KernelGOutIdeal_ReferenceGOutIdeal (hKernelGOutIdeal := hKernelGOutIdeal) (hReferenceGOutIdeal := hReferenceGOutIdeal)
    ∧ preserves_KernelGate_KernelGateIdeal
    ∧ algebraic_KernelGateIdeal_ReferenceGateIdeal (hKernelGateIdeal := hKernelGateIdeal) (hReferenceGateIdeal := hReferenceGateIdeal)
    ∧ preserves_KernelProj_KernelProjIdeal
    ∧ algebraic_KernelProjIdeal_ReferenceProjIdeal (hKernelProjIdeal := hKernelProjIdeal) (hReferenceProjIdeal := hReferenceProjIdeal)
    ∧ preserves_KernelBranch_KernelBranchIdeal
    ∧ algebraic_KernelBranchIdeal_ReferenceBranchIdeal (hKernelBranchIdeal := hKernelBranchIdeal) (hReferenceBranchIdeal := hReferenceBranchIdeal)
    ∧ preserves_KernelOutProj_KernelOutProjIdeal
    ∧ algebraic_KernelOutProjIdeal_ReferenceOutProjIdeal (hKernelOutProjIdeal := hKernelOutProjIdeal) (hReferenceOutProjIdeal := hReferenceOutProjIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelGateF_KernelGateFIdeal
    ∧ algebraic_KernelGateFIdeal_ReferenceGateFIdeal (hKernelGateFIdeal := hKernelGateFIdeal) (hReferenceGateFIdeal := hReferenceGateFIdeal)
    ∧ preserves_KernelRmsF_KernelRmsFIdeal
    ∧ algebraic_KernelRmsFIdeal_ReferenceRmsFIdeal (hKernelRmsFIdeal := hKernelRmsFIdeal) (hReferenceRmsFIdeal := hReferenceRmsFIdeal)
    ∧ preserves_KernelRms_KernelRmsIdeal
    ∧ algebraic_KernelRmsIdeal_ReferenceRmsIdeal (hKernelRmsIdeal := hKernelRmsIdeal) (hReferenceRmsIdeal := hReferenceRmsIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamBranch_KernelAdamBranchIdeal
    ∧ algebraic_KernelAdamBranchIdeal_ReferenceAdamBranchIdeal (hKernelAdamBranchIdeal := hKernelAdamBranchIdeal) (hReferenceAdamBranchIdeal := hReferenceAdamBranchIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelLoss_KernelLossIdeal
    ∧ algebraic_KernelLossIdeal_ReferenceLossIdeal (hKernelLossIdeal := hKernelLossIdeal) (hReferenceLossIdeal := hReferenceLossIdeal)
    ∧ preserves_KernelFfnConv_KernelFfnConvIdeal
    ∧ algebraic_KernelFfnConvIdeal_ReferenceFfnConvIdeal (hKernelFfnConvIdeal := hKernelFfnConvIdeal) (hReferenceFfnConvIdeal := hReferenceFfnConvIdeal)
    ∧ preserves_KernelSsdConv_KernelSsdConvIdeal
    ∧ algebraic_KernelSsdConvIdeal_ReferenceSsdConvIdeal (hKernelSsdConvIdeal := hKernelSsdConvIdeal) (hReferenceSsdConvIdeal := hReferenceSsdConvIdeal)
    ∧ preserves_KernelSmallMeta_KernelSmallMetaIdeal
    ∧ algebraic_KernelSmallMetaIdeal_ReferenceSmallMetaIdeal (hKernelSmallMetaIdeal := hKernelSmallMetaIdeal) (hReferenceSmallMetaIdeal := hReferenceSmallMetaIdeal) (hPre_chip_meta := hPre_chip_meta)
    ∧ preserves_KernelSmallSsd_KernelSmallSsdIdeal
    ∧ algebraic_KernelSmallSsdIdeal_ReferenceSmallSsdIdeal (hKernelSmallSsdIdeal := hKernelSmallSsdIdeal) (hReferenceSmallSsdIdeal := hReferenceSmallSsdIdeal) (hPre_chip_ssd := hPre_chip_ssd)
    ∧ preserves_KernelSmallFfn_KernelSmallFfnIdeal
    ∧ algebraic_KernelSmallFfnIdeal_ReferenceSmallFfnIdeal (hKernelSmallFfnIdeal := hKernelSmallFfnIdeal) (hReferenceSmallFfnIdeal := hReferenceSmallFfnIdeal) (hPre_chip_ffn := hPre_chip_ffn)
    ∧ preserves_KernelSmall1024_KernelSmall1024Ideal
    ∧ algebraic_KernelSmall1024Ideal_ReferenceSmall1024Ideal (hKernelSmall1024Ideal := hKernelSmall1024Ideal) (hReferenceSmall1024Ideal := hReferenceSmall1024Ideal)
    ∧ preserves_KernelSmall3072_KernelSmall3072Ideal
    ∧ algebraic_KernelSmall3072Ideal_ReferenceSmall3072Ideal (hKernelSmall3072Ideal := hKernelSmall3072Ideal) (hReferenceSmall3072Ideal := hReferenceSmall3072Ideal)
    ∧ preserves_KernelSmall32_KernelSmall32Ideal
    ∧ algebraic_KernelSmall32Ideal_ReferenceSmall32Ideal (hKernelSmall32Ideal := hKernelSmall32Ideal) (hReferenceSmall32Ideal := hReferenceSmall32Ideal)
    ∧ preserves_KernelSmall2048_KernelSmall2048Ideal
    ∧ algebraic_KernelSmall2048Ideal_ReferenceSmall2048Ideal (hKernelSmall2048Ideal := hKernelSmall2048Ideal) (hReferenceSmall2048Ideal := hReferenceSmall2048Ideal)
    ∧ preserves_KernelSmall5632_KernelSmall5632Ideal
    ∧ algebraic_KernelSmall5632Ideal_ReferenceSmall5632Ideal (hKernelSmall5632Ideal := hKernelSmall5632Ideal) (hReferenceSmall5632Ideal := hReferenceSmall5632Ideal)
-- ==== Pre_chip_ffn.lean ====
abbrev S1 : Shape := ⟨1, ![1]⟩
abbrev S8x8x5632 : Shape := ⟨3, ![8, 8, 5632]⟩
abbrev S8x8x128 : Shape := ⟨3, ![8, 8, 128]⟩
abbrev S3x1408 : Shape := ⟨2, ![3, 1408]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x8x5632 .f32) (main_arg2 : FVec F S8x8x128 .f32) (main_arg3 : FVec F S3x1408 .f32) (main_arg4 : FVec F S3x1408 .f32) (main_arg5 : FVec F S3x1408 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_chip_meta.lean ====
abbrev S1 : Shape := ⟨1, ![1]⟩
abbrev S8x16x1024 : Shape := ⟨3, ![8, 16, 1024]⟩
abbrev S8x8x128 : Shape := ⟨3, ![8, 8, 128]⟩
abbrev S16x256 : Shape := ⟨2, ![16, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x16x1024 .f32) (main_arg2 : FVec F S8x8x128 .f32) (main_arg3 : FVec F S16x256 .f32) (main_arg4 : FVec F S16x256 .f32) (main_arg5 : FVec F S16x256 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_chip_ssd.lean ====
abbrev S1 : Shape := ⟨1, ![1]⟩
abbrev S8x8x3072 : Shape := ⟨3, ![8, 8, 3072]⟩
abbrev S8x8x128 : Shape := ⟨3, ![8, 8, 128]⟩
abbrev S4x768 : Shape := ⟨2, ![4, 768]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x8x3072 .f32) (main_arg2 : FVec F S8x8x128 .f32) (main_arg3 : FVec F S4x768 .f32) (main_arg4 : FVec F S4x768 .f32) (main_arg5 : FVec F S4x768 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_finite.lean ====
abbrev S8320x1024 : Shape := ⟨2, ![8320, 1024]⟩
abbrev S8320x2048 : Shape := ⟨2, ![8320, 2048]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S8320x2048 : S_.BroadcastsInDim S8320x2048 (![] : Fin 0 → Fin S8320x2048.rank)
  reducesTo_S8320x2048_S_d0_1 : S8320x2048.ReducesTo [0, 1] S_

variable [Facts]

def fn_part1 {F : FTy → Type} [FloatOps F] (main_arg4 : FVec F S8320x2048 .f32) (main_v3 : IVec S_ 1) (main_v7 : IVec S_ 1) (main_v11 : IVec S_ 1) (main_v15 : IVec S_ 1) : IVec S_ 1 :=
  let main_v16 : FVec F S8320x2048 .f32 := Host.absf main_arg4
  let main_cst_6 : FVec F S_ .f32 := constant S_ .f32 0x7F800000#32
  let main_v17 : FVec F S8320x2048 .f32 := broadcastInDim S8320x2048 ![] bcast_S_S8320x2048 main_cst_6
  let main_v18 : IVec S8320x2048 1 := cmpf .olt main_v16 main_v17
  let main_c_7 : IVec S_ 1 := constantI S_ 1 1#1
  let main_v19 : IVec S_ 1 := (fun x v => Host.reduce IntOp.andi x v reducesTo_S8320x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8320x1024 .f32) (main_arg1 : FVec F S8320x1024 .f32) (main_arg2 : FVec F S8320x2048 .f32) (main_arg3 : FVec F S8320x2048 .f32) (main_arg4 : FVec F S8320x2048 .f32) : IVec S_ 1 :=
  let main_v0 : FVec F S8320x1024 .f32 := Host.absf main_arg0
  let main_cst : FVec F S_ .f32 := constant S_ .f32 0x7F800000#32
  let main_v1 : FVec F S8320x1024 .f32 := broadcastInDim S8320x1024 ![] bcast_S_S8320x1024 main_cst
  let main_v2 : IVec S8320x1024 1 := cmpf .olt main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S8320x1024 .f32 := Host.absf main_arg1
  let main_cst_0 : FVec F S_ .f32 := constant S_ .f32 0x7F800000#32
  let main_v5 : FVec F S8320x1024 .f32 := broadcastInDim S8320x1024 ![] bcast_S_S8320x1024 main_cst_0
  let main_v6 : IVec S8320x1024 1 := cmpf .olt main_v4 main_v5
  let main_c_1 : IVec S_ 1 := constantI S_ 1 1#1
  let main_v7 : IVec S_ 1 := (fun x v => Host.reduce IntOp.andi x v reducesTo_S8320x1024_S_d0_1 h_S_) main_v6 main_c_1
  let main_v8 : FVec F S8320x2048 .f32 := Host.absf main_arg2
  let main_cst_2 : FVec F S_ .f32 := constant S_ .f32 0x7F800000#32
  let main_v9 : FVec F S8320x2048 .f32 := broadcastInDim S8320x2048 ![] bcast_S_S8320x2048 main_cst_2
  let main_v10 : IVec S8320x2048 1 := cmpf .olt main_v8 main_v9
  let main_c_3 : IVec S_ 1 := constantI S_ 1 1#1
  let main_v11 : IVec S_ 1 := (fun x v => Host.reduce IntOp.andi x v reducesTo_S8320x2048_S_d0_1 h_S_) main_v10 main_c_3
  let main_v12 : FVec F S8320x2048 .f32 := Host.absf main_arg3
  let main_cst_4 : FVec F S_ .f32 := constant S_ .f32 0x7F800000#32
  let main_v13 : FVec F S8320x2048 .f32 := broadcastInDim S8320x2048 ![] bcast_S_S8320x2048 main_cst_4
  let main_v14 : IVec S8320x2048 1 := cmpf .olt main_v12 main_v13
  let main_c_5 : IVec S_ 1 := constantI S_ 1 1#1
  let main_v15 : IVec S_ 1 := (fun x v => Host.reduce IntOp.andi x v reducesTo_S8320x2048_S_d0_1 h_S_) main_v14 main_c_5
  fn_part1 (F := F) main_arg4 main_v3 main_v7 main_v11 main_v15
-- ==== Kernel.lean ====
abbrev S8320x1024 : Shape := ⟨2, ![8320, 1024]⟩
abbrev S8320x2048 : Shape := ⟨2, ![8320, 2048]⟩
abbrev S8320x6144 : Shape := ⟨2, ![8320, 6144]⟩
abbrev S8320 : Shape := ⟨1, ![8320]⟩
abbrev S_ : Shape := ⟨0, ![]⟩
abbrev S127 : Shape := ⟨1, ![127]⟩
abbrev S1 : Shape := ⟨1, ![1]⟩
abbrev S128 : Shape := ⟨1, ![128]⟩
abbrev S8320x1 : Shape := ⟨2, ![8320, 1]⟩
abbrev S1x128 : Shape := ⟨2, ![1, 128]⟩
abbrev S8320x128 : Shape := ⟨2, ![8320, 128]⟩
abbrev S8320x4x256 : Shape := ⟨3, ![8320, 4, 256]⟩
abbrev S8320x4x512 : Shape := ⟨3, ![8320, 4, 512]⟩
abbrev S8320x1x128 : Shape := ⟨3, ![8320, 1, 128]⟩
abbrev S8320x4x128 : Shape := ⟨3, ![8320, 4, 128]⟩
abbrev S1x8320 : Shape := ⟨2, ![1, 8320]⟩
abbrev S8320x8320 : Shape := ⟨2, ![8320, 8320]⟩
abbrev S4 : Shape := ⟨1, ![4]⟩
abbrev S4x1x1 : Shape := ⟨3, ![4, 1, 1]⟩
abbrev S1x8320x8320 : Shape := ⟨3, ![1, 8320, 8320]⟩
abbrev S4x8320x8320 : Shape := ⟨3, ![4, 8320, 8320]⟩
abbrev S4x512x8320 : Shape := ⟨3, ![4, 512, 8320]⟩
abbrev S65 : Shape := ⟨1, ![65]⟩
abbrev S65x1 : Shape := ⟨2, ![65, 1]⟩
abbrev S65x8320 : Shape := ⟨2, ![65, 8320]⟩
abbrev S65x8320x1 : Shape := ⟨3, ![65, 8320, 1]⟩
abbrev S1x1x4 : Shape := ⟨3, ![1, 1, 4]⟩
abbrev S65x8320x4 : Shape := ⟨3, ![65, 8320, 4]⟩
abbrev S65x8320x4x1 : Shape := ⟨4, ![65, 8320, 4, 1]⟩
abbrev S1x8320x4x256 : Shape := ⟨4, ![1, 8320, 4, 256]⟩
abbrev S65x8320x4x256 : Shape := ⟨4, ![65, 8320, 4, 256]⟩
abbrev S4x512x65x256 : Shape := ⟨4, ![4, 512, 65, 256]⟩
abbrev S65x4x256x512 : Shape := ⟨4, ![65, 4, 256, 512]⟩
abbrev S65x1024x512 : Shape := ⟨3, ![65, 1024, 512]⟩
abbrev S8320x4096 : Shape := ⟨2, ![8320, 4096]⟩
abbrev S128x2048 : Shape := ⟨2, ![128, 2048]⟩
abbrev S128x1024 : Shape := ⟨2, ![128, 1024]⟩
abbrev S1x1024x512 : Shape := ⟨3, ![1, 1024, 512]⟩
abbrev S128x128 : Shape := ⟨2, ![128, 128]⟩
abbrev S128x4096 : Shape := ⟨2, ![128, 4096]⟩
abbrev S1024x512 : Shape := ⟨2, ![1024, 512]⟩
abbrev S128x1 : Shape := ⟨2, ![128, 1]⟩
abbrev S128x512 : Shape := ⟨2, ![128, 512]⟩
abbrev S128x256 : Shape := ⟨2, ![128, 256]⟩
abbrev S1x256x512 : Shape := ⟨3, ![1, 256, 512]⟩
abbrev S256x512 : Shape := ⟨2, ![256, 512]⟩

abbrev nBuf : Space → Nat
  | .hbm => 206
  | .vmem => 23
  | .smem => 0
  | _ => 0

abbrev hbmTy0_0 (i : Nat) : BufTy := match i % 128 with
  | 0 => ⟨S8320x1024, .f32⟩
  | 1 => ⟨S8320x1024, .f32⟩
  | 2 => ⟨S8320x2048, .f32⟩
  | 3 => ⟨S8320x2048, .f32⟩
  | 4 => ⟨S8320x2048, .f32⟩
  | 5 => ⟨S8320x6144, .f32⟩
  | 6 => ⟨S8320, .f32⟩
  | 7 => ⟨S_, .f32⟩
  | 8 => ⟨S8320, .f32⟩
  | 9 => ⟨S8320, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S127, .f32⟩
  | 18 => ⟨S_, .f32⟩
  | 19 => ⟨S127, .f32⟩
  | 20 => ⟨S127, .f32⟩
  | 21 => ⟨S1, .f32⟩
  | 22 => ⟨S_, .f32⟩
  | 23 => ⟨S127, .f32⟩
  | 24 => ⟨S127, .f32⟩
  | 25 => ⟨S127, .f32⟩
  | 26 => ⟨S127, .f32⟩
  | 27 => ⟨S1, .f32⟩
  | 28 => ⟨S127, .f32⟩
  | 29 => ⟨S127, .f32⟩
  | 30 => ⟨S127, .f32⟩
  | 31 => ⟨S1, .f32⟩
  | 32 => ⟨S128, .f32⟩
  | 33 => ⟨S128, .f32⟩
  | 34 => ⟨S_, .f32⟩
  | 35 => ⟨S128, .f32⟩
  | 36 => ⟨S128, .f32⟩
  | 37 => ⟨S8320x1, .f32⟩
  | 38 => ⟨S1x128, .f32⟩
  | 39 => ⟨S8320x128, .f32⟩
  | 40 => ⟨S8320x128, .f32⟩
  | 41 => ⟨S8320x128, .f32⟩
  | 42 => ⟨S8320x128, .f32⟩
  | 43 => ⟨S8320x128, .f32⟩
  | 44 => ⟨S8320x4x256, .f32⟩
  | 45 => ⟨S8320x4x256, .f32⟩
  | 46 => ⟨S8320x4x512, .f32⟩
  | 47 => ⟨S8320, .f32⟩
  | 48 => ⟨S_, .f32⟩
  | 49 => ⟨S8320, .f32⟩
  | 50 => ⟨S8320, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S127, .f32⟩
  | 59 => ⟨S_, .f32⟩
  | 60 => ⟨S127, .f32⟩
  | 61 => ⟨S127, .f32⟩
  | 62 => ⟨S1, .f32⟩
  | 63 => ⟨S_, .f32⟩
  | 64 => ⟨S127, .f32⟩
  | 65 => ⟨S127, .f32⟩
  | 66 => ⟨S127, .f32⟩
  | 67 => ⟨S127, .f32⟩
  | 68 => ⟨S1, .f32⟩
  | 69 => ⟨S127, .f32⟩
  | 70 => ⟨S127, .f32⟩
  | 71 => ⟨S127, .f32⟩
  | 72 => ⟨S1, .f32⟩
  | 73 => ⟨S128, .f32⟩
  | 74 => ⟨S128, .f32⟩
  | 75 => ⟨S_, .f32⟩
  | 76 => ⟨S128, .f32⟩
  | 77 => ⟨S128, .f32⟩
  | 78 => ⟨S8320x1, .f32⟩
  | 79 => ⟨S1x128, .f32⟩
  | 80 => ⟨S8320x128, .f32⟩
  | 81 => ⟨S8320x128, .f32⟩
  | 82 => ⟨S8320x128, .f32⟩
  | 83 => ⟨S8320x128, .f32⟩
  | 84 => ⟨S8320x1x128, .f32⟩
  | 85 => ⟨S8320x128, .f32⟩
  | 86 => ⟨S8320x1x128, .f32⟩
  | 87 => ⟨S8320x4x128, .f32⟩
  | 88 => ⟨S8320x4x128, .f32⟩
  | 89 => ⟨S8320x4x128, .f32⟩
  | 90 => ⟨S8320x4x128, .f32⟩
  | 91 => ⟨S8320x4x128, .f32⟩
  | 92 => ⟨S8320x4x128, .f32⟩
  | 93 => ⟨S8320x4x128, .f32⟩
  | 94 => ⟨S8320x4x128, .f32⟩
  | 95 => ⟨S8320x4x128, .f32⟩
  | 96 => ⟨S8320x4x128, .f32⟩
  | 97 => ⟨S8320x4x128, .f32⟩
  | 98 => ⟨S8320x4x128, .f32⟩
  | 99 => ⟨S8320x4x256, .f32⟩
  | 100 => ⟨S8320x4x128, .f32⟩
  | 101 => ⟨S8320x4x128, .f32⟩
  | 102 => ⟨S8320x4x128, .f32⟩
  | 103 => ⟨S8320x4x128, .f32⟩
  | 104 => ⟨S8320x4x128, .f32⟩
  | 105 => ⟨S8320x4x128, .f32⟩
  | 106 => ⟨S8320x4x128, .f32⟩
  | 107 => ⟨S8320x4x128, .f32⟩
  | 108 => ⟨S8320x4x128, .f32⟩
  | 109 => ⟨S8320x4x128, .f32⟩
  | 110 => ⟨S8320x4x128, .f32⟩
  | 111 => ⟨S8320x4x128, .f32⟩
  | 112 => ⟨S8320x4x256, .f32⟩
  | 113 => ⟨S_, .f32⟩
  | 114 => ⟨S8320x4x256, .f32⟩
  | 115 => ⟨S8320x4x256, .f32⟩
  | 116 => ⟨S8320, .f32⟩
  | 117 => ⟨S8320x1, .f32⟩
  | 118 => ⟨S1x8320, .f32⟩
  | 119 => ⟨S8320x8320, .f32⟩
  | 120 => ⟨S8320x8320, .f32⟩
  | 121 => ⟨S8320x8320, .f32⟩
  | 122 => ⟨S_, .f32⟩
  | 123 => ⟨S8320x8320, .f32⟩
  | 124 => ⟨S8320x8320, .i1⟩
  | 125 => ⟨S4, .f32⟩
  | 126 => ⟨S_, .f32⟩
  | 127 => ⟨S4, .f32⟩
  | _ => ⟨S8320x1024, .f32⟩

abbrev hbmTy0_1 (i : Nat) : BufTy := match i % 128 with
  | 0 => ⟨S4, .f32⟩
  | 1 => ⟨S_, .f32⟩
  | 2 => ⟨S4, .f32⟩
  | 3 => ⟨S4, .f32⟩
  | 4 => ⟨S_, .f32⟩
  | 5 => ⟨S4, .f32⟩
  | 6 => ⟨S4, .f32⟩
  | 7 => ⟨S4, .f32⟩
  | 8 => ⟨S4x1x1, .f32⟩
  | 9 => ⟨S1x8320x8320, .f32⟩
  | 10 => ⟨S4x8320x8320, .f32⟩
  | 11 => ⟨S4x8320x8320, .f32⟩
  | 12 => ⟨S4x8320x8320, .f32⟩
  | 13 => ⟨S_, .f32⟩
  | 14 => ⟨S_, .f32⟩
  | 15 => ⟨S4x8320x8320, .i1⟩
  | 16 => ⟨S4x8320x8320, .f32⟩
  | 17 => ⟨S4x8320x8320, .f32⟩
  | 18 => ⟨S4x8320x8320, .f32⟩
  | 19 => ⟨S4x8320x8320, .f32⟩
  | 20 => ⟨S4x8320x8320, .f32⟩
  | 21 => ⟨S4x512x8320, .f32⟩
  | 22 => ⟨S8320x4x512, .f32⟩
  | 23 => ⟨S65, .f32⟩
  | 24 => ⟨S_, .f32⟩
  | 25 => ⟨S65, .f32⟩
  | 26 => ⟨S65, .f32⟩
  | 27 => ⟨S_, .f32⟩
  | 28 => ⟨S65, .f32⟩
  | 29 => ⟨S65, .f32⟩
  | 30 => ⟨S65x1, .f32⟩
  | 31 => ⟨S8320, .f32⟩
  | 32 => ⟨S1x8320, .f32⟩
  | 33 => ⟨S65x8320, .f32⟩
  | 34 => ⟨S65x8320, .f32⟩
  | 35 => ⟨S65x8320, .f32⟩
  | 36 => ⟨S_, .f32⟩
  | 37 => ⟨S65x8320, .f32⟩
  | 38 => ⟨S65x8320, .i1⟩
  | 39 => ⟨S65x8320x1, .i1⟩
  | 40 => ⟨S65x8320x1, .f32⟩
  | 41 => ⟨S4, .f32⟩
  | 42 => ⟨S_, .f32⟩
  | 43 => ⟨S4, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S1x1x4, .f32⟩
  | 53 => ⟨S65x8320x4, .f32⟩
  | 54 => ⟨S65x8320x4, .f32⟩
  | 55 => ⟨S65x8320x4, .f32⟩
  | 56 => ⟨S_, .f32⟩
  | 57 => ⟨S_, .f32⟩
  | 58 => ⟨S65x8320x4, .i1⟩
  | 59 => ⟨S65x8320x4, .f32⟩
  | 60 => ⟨S65x8320x4, .f32⟩
  | 61 => ⟨S65x8320x4, .f32⟩
  | 62 => ⟨S65x8320x4x1, .f32⟩
  | 63 => ⟨S1x8320x4x256, .f32⟩
  | 64 => ⟨S65x8320x4x256, .f32⟩
  | 65 => ⟨S65x8320x4x256, .f32⟩
  | 66 => ⟨S65x8320x4x256, .f32⟩
  | 67 => ⟨S4x512x65x256, .f32⟩
  | 68 => ⟨S65x4x256x512, .f32⟩
  | 69 => ⟨S8320x2048, .f32⟩
  | 70 => ⟨S8320x1024, .f32⟩
  | 71 => ⟨S8320x1024, .bf16⟩
  | 72 => ⟨S8320x1024, .f32⟩
  | 73 => ⟨S8320x1024, .bf16⟩
  | 74 => ⟨S65x1024x512, .f32⟩
  | 75 => ⟨S65x1024x512, .bf16⟩
  | 76 => ⟨S8320x2048, .bf16⟩
  | 77 => ⟨S8320x4096, .bf16⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S1x1024x512, .bf16⟩
  | .local _ .vmem, ⟨13, _⟩ => ⟨S1x1024x512, .bf16⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x2048, .bf16⟩
  | .local _ .vmem, ⟨19, _⟩ => ⟨S128x2048, .bf16⟩
  | .local _ .vmem, ⟨20, _⟩ => ⟨S128x4096, .bf16⟩
  | .local _ .vmem, ⟨21, _⟩ => ⟨S128x4096, .bf16⟩
  | .local _ .vmem, ⟨22, _⟩ => ⟨S1024x512, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v4 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_cst : Ref sig .tc := ⟨.hbm, 56, rfl⟩
abbrev main_call1_v3 : Ref sig .tc := ⟨.hbm, 57, rfl⟩
abbrev main_call1_v4 : Ref sig .tc := ⟨.hbm, 58, rfl⟩
abbrev main_call1_cst_0 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_v15 : Ref sig .tc := ⟨.hbm, 71, rfl⟩
abbrev main_call1_v16 : Ref sig .tc := ⟨.hbm, 72, rfl⟩
abbrev main_v21 : Ref sig .tc := ⟨.hbm, 73, rfl⟩
abbrev main_v22 : Ref sig .tc := ⟨.hbm, 74, rfl⟩
abbrev main_cst_6 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_7 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_8 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_9 : Ref sig .tc := ⟨.hbm, 126, rfl⟩
abbrev main_v71 : Ref sig .tc := ⟨.hbm, 127, rfl⟩
abbrev main_v72 : Ref sig .tc := ⟨.hbm, 128, rfl⟩
abbrev main_cst_10 : Ref sig .tc := ⟨.hbm, 129, rfl⟩
abbrev main_v73 : Ref sig .tc := ⟨.hbm, 130, rfl⟩
abbrev main_v74 : Ref sig .tc := ⟨.hbm, 131, rfl⟩
abbrev main_cst_11 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_12 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_cst_13 : Ref sig .tc := ⟨.hbm, 152, rfl⟩
abbrev main_v90 : Ref sig .tc := ⟨.hbm, 153, rfl⟩
abbrev main_v91 : Ref sig .tc := ⟨.hbm, 154, rfl⟩
abbrev main_cst_14 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_15 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_16 : Ref sig .tc := ⟨.hbm, 170, rfl⟩
abbrev main_v105 : Ref sig .tc := ⟨.hbm, 171, rfl⟩
abbrev main_v106 : Ref sig .tc := ⟨.hbm, 172, rfl⟩
abbrev main_cst_17 : Ref sig .tc := ⟨.hbm, 173, rfl⟩
abbrev main_v107 : Ref sig .tc := ⟨.hbm, 174, rfl⟩
abbrev main_v108 : Ref sig .tc := ⟨.hbm, 175, rfl⟩
abbrev main_cst_18 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_19 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132_0 : Ref sig .tc := ⟨.hbm, 204, rfl⟩
abbrev main_v132_1 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi c64_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
abbrev S8320x1024 : Shape := ⟨2, ![8320, 1024]⟩
abbrev S8320x2048 : Shape := ⟨2, ![8320, 2048]⟩
abbrev S8320x6144 : Shape := ⟨2, ![8320, 6144]⟩
abbrev S8320 : Shape := ⟨1, ![8320]⟩
abbrev S_ : Shape := ⟨0, ![]⟩
abbrev S127 : Shape := ⟨1, ![127]⟩
abbrev S1 : Shape := ⟨1, ![1]⟩
abbrev S128 : Shape := ⟨1, ![128]⟩
abbrev S8320x1 : Shape := ⟨2, ![8320, 1]⟩
abbrev S1x128 : Shape := ⟨2, ![1, 128]⟩
abbrev S8320x128 : Shape := ⟨2, ![8320, 128]⟩
abbrev S8320x4x256 : Shape := ⟨3, ![8320, 4, 256]⟩
abbrev S8320x4x512 : Shape := ⟨3, ![8320, 4, 512]⟩
abbrev S8320x1x128 : Shape := ⟨3, ![8320, 1, 128]⟩
abbrev S8320x4x128 : Shape := ⟨3, ![8320, 4, 128]⟩
abbrev S1x8320 : Shape := ⟨2, ![1, 8320]⟩
abbrev S8320x8320 : Shape := ⟨2, ![8320, 8320]⟩
abbrev S4 : Shape := ⟨1, ![4]⟩
abbrev S4x1x1 : Shape := ⟨3, ![4, 1, 1]⟩
abbrev S1x8320x8320 : Shape := ⟨3, ![1, 8320, 8320]⟩
abbrev S4x8320x8320 : Shape := ⟨3, ![4, 8320, 8320]⟩
abbrev S4x512x8320 : Shape := ⟨3, ![4, 512, 8320]⟩
abbrev S65 : Shape := ⟨1, ![65]⟩
abbrev S65x1 : Shape := ⟨2, ![65, 1]⟩
abbrev S65x8320 : Shape := ⟨2, ![65, 8320]⟩
abbrev S65x8320x1 : Shape := ⟨3, ![65, 8320, 1]⟩
abbrev S1x1x4 : Shape := ⟨3, ![1, 1, 4]⟩
abbrev S65x8320x4 : Shape := ⟨3, ![65, 8320, 4]⟩
abbrev S65x8320x4x1 : Shape := ⟨4, ![65, 8320, 4, 1]⟩
abbrev S1x8320x4x256 : Shape := ⟨4, ![1, 8320, 4, 256]⟩
abbrev S65x8320x4x256 : Shape := ⟨4, ![65, 8320, 4, 256]⟩
abbrev S4x512x65x256 : Shape := ⟨4, ![4, 512, 65, 256]⟩
abbrev S65x4x256x512 : Shape := ⟨4, ![65, 4, 256, 512]⟩
abbrev S65x1024x512 : Shape := ⟨3, ![65, 1024, 512]⟩
abbrev S8320x4096 : Shape := ⟨2, ![8320, 4096]⟩
abbrev S128x2048 : Shape := ⟨2, ![128, 2048]⟩
abbrev S128x1024 : Shape := ⟨2, ![128, 1024]⟩
abbrev S1x1024x512 : Shape := ⟨3, ![1, 1024, 512]⟩
abbrev S128x128 : Shape := ⟨2, ![128, 128]⟩
abbrev S128x4096 : Shape := ⟨2, ![128, 4096]⟩
abbrev S1024x512 : Shape := ⟨2, ![1024, 512]⟩
abbrev S128x1 : Shape := ⟨2, ![128, 1]⟩
abbrev S128x512 : Shape := ⟨2, ![128, 512]⟩
abbrev S128x256 : Shape := ⟨2, ![128, 256]⟩
abbrev S1x256x512 : Shape := ⟨3, ![1, 256, 512]⟩
abbrev S256x512 : Shape := ⟨2, ![256, 512]⟩

abbrev nBuf : Space → Nat
  | .hbm => 206
  | .vmem => 23
  | .smem => 0
  | _ => 0

abbrev hbmTy0_0 (i : Nat) : BufTy := match i % 128 with
  | 0 => ⟨S8320x1024, .f32⟩
  | 1 => ⟨S8320x1024, .f32⟩
  | 2 => ⟨S8320x2048, .f32⟩
  | 3 => ⟨S8320x2048, .f32⟩
  | 4 => ⟨S8320x2048, .f32⟩
  | 5 => ⟨S8320x6144, .f32⟩
  | 6 => ⟨S8320, .f32⟩
  | 7 => ⟨S_, .f32⟩
  | 8 => ⟨S8320, .f32⟩
  | 9 => ⟨S8320, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S127, .f32⟩
  | 18 => ⟨S_, .f32⟩
  | 19 => ⟨S127, .f32⟩
  | 20 => ⟨S127, .f32⟩
  | 21 => ⟨S1, .f32⟩
  | 22 => ⟨S_, .f32⟩
  | 23 => ⟨S127, .f32⟩
  | 24 => ⟨S127, .f32⟩
  | 25 => ⟨S127, .f32⟩
  | 26 => ⟨S127, .f32⟩
  | 27 => ⟨S1, .f32⟩
  | 28 => ⟨S127, .f32⟩
  | 29 => ⟨S127, .f32⟩
  | 30 => ⟨S127, .f32⟩
  | 31 => ⟨S1, .f32⟩
  | 32 => ⟨S128, .f32⟩
  | 33 => ⟨S128, .f32⟩
  | 34 => ⟨S_, .f32⟩
  | 35 => ⟨S128, .f32⟩
  | 36 => ⟨S128, .f32⟩
  | 37 => ⟨S8320x1, .f32⟩
  | 38 => ⟨S1x128, .f32⟩
  | 39 => ⟨S8320x128, .f32⟩
  | 40 => ⟨S8320x128, .f32⟩
  | 41 => ⟨S8320x128, .f32⟩
  | 42 => ⟨S8320x128, .f32⟩
  | 43 => ⟨S8320x128, .f32⟩
  | 44 => ⟨S8320x4x256, .f32⟩
  | 45 => ⟨S8320x4x256, .f32⟩
  | 46 => ⟨S8320x4x512, .f32⟩
  | 47 => ⟨S8320, .f32⟩
  | 48 => ⟨S_, .f32⟩
  | 49 => ⟨S8320, .f32⟩
  | 50 => ⟨S8320, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S127, .f32⟩
  | 59 => ⟨S_, .f32⟩
  | 60 => ⟨S127, .f32⟩
  | 61 => ⟨S127, .f32⟩
  | 62 => ⟨S1, .f32⟩
  | 63 => ⟨S_, .f32⟩
  | 64 => ⟨S127, .f32⟩
  | 65 => ⟨S127, .f32⟩
  | 66 => ⟨S127, .f32⟩
  | 67 => ⟨S127, .f32⟩
  | 68 => ⟨S1, .f32⟩
  | 69 => ⟨S127, .f32⟩
  | 70 => ⟨S127, .f32⟩
  | 71 => ⟨S127, .f32⟩
  | 72 => ⟨S1, .f32⟩
  | 73 => ⟨S128, .f32⟩
  | 74 => ⟨S128, .f32⟩
  | 75 => ⟨S_, .f32⟩
  | 76 => ⟨S128, .f32⟩
  | 77 => ⟨S128, .f32⟩
  | 78 => ⟨S8320x1, .f32⟩
  | 79 => ⟨S1x128, .f32⟩
  | 80 => ⟨S8320x128, .f32⟩
  | 81 => ⟨S8320x128, .f32⟩
  | 82 => ⟨S8320x128, .f32⟩
  | 83 => ⟨S8320x128, .f32⟩
  | 84 => ⟨S8320x1x128, .f32⟩
  | 85 => ⟨S8320x128, .f32⟩
  | 86 => ⟨S8320x1x128, .f32⟩
  | 87 => ⟨S8320x4x128, .f32⟩
  | 88 => ⟨S8320x4x128, .f32⟩
  | 89 => ⟨S8320x4x128, .f32⟩
  | 90 => ⟨S8320x4x128, .f32⟩
  | 91 => ⟨S8320x4x128, .f32⟩
  | 92 => ⟨S8320x4x128, .f32⟩
  | 93 => ⟨S8320x4x128, .f32⟩
  | 94 => ⟨S8320x4x128, .f32⟩
  | 95 => ⟨S8320x4x128, .f32⟩
  | 96 => ⟨S8320x4x128, .f32⟩
  | 97 => ⟨S8320x4x128, .f32⟩
  | 98 => ⟨S8320x4x128, .f32⟩
  | 99 => ⟨S8320x4x256, .f32⟩
  | 100 => ⟨S8320x4x128, .f32⟩
  | 101 => ⟨S8320x4x128, .f32⟩
  | 102 => ⟨S8320x4x128, .f32⟩
  | 103 => ⟨S8320x4x128, .f32⟩
  | 104 => ⟨S8320x4x128, .f32⟩
  | 105 => ⟨S8320x4x128, .f32⟩
  | 106 => ⟨S8320x4x128, .f32⟩
  | 107 => ⟨S8320x4x128, .f32⟩
  | 108 => ⟨S8320x4x128, .f32⟩
  | 109 => ⟨S8320x4x128, .f32⟩
  | 110 => ⟨S8320x4x128, .f32⟩
  | 111 => ⟨S8320x4x128, .f32⟩
  | 112 => ⟨S8320x4x256, .f32⟩
  | 113 => ⟨S_, .f32⟩
  | 114 => ⟨S8320x4x256, .f32⟩
  | 115 => ⟨S8320x4x256, .f32⟩
  | 116 => ⟨S8320, .f32⟩
  | 117 => ⟨S8320x1, .f32⟩
  | 118 => ⟨S1x8320, .f32⟩
  | 119 => ⟨S8320x8320, .f32⟩
  | 120 => ⟨S8320x8320, .f32⟩
  | 121 => ⟨S8320x8320, .f32⟩
  | 122 => ⟨S_, .f32⟩
  | 123 => ⟨S8320x8320, .f32⟩
  | 124 => ⟨S8320x8320, .i1⟩
  | 125 => ⟨S4, .f32⟩
  | 126 => ⟨S_, .f32⟩
  | 127 => ⟨S4, .f32⟩
  | _ => ⟨S8320x1024, .f32⟩

abbrev hbmTy0_1 (i : Nat) : BufTy := match i % 128 with
  | 0 => ⟨S4, .f32⟩
  | 1 => ⟨S_, .f32⟩
  | 2 => ⟨S4, .f32⟩
  | 3 => ⟨S4, .f32⟩
  | 4 => ⟨S_, .f32⟩
  | 5 => ⟨S4, .f32⟩
  | 6 => ⟨S4, .f32⟩
  | 7 => ⟨S4, .f32⟩
  | 8 => ⟨S4x1x1, .f32⟩
  | 9 => ⟨S1x8320x8320, .f32⟩
  | 10 => ⟨S4x8320x8320, .f32⟩
  | 11 => ⟨S4x8320x8320, .f32⟩
  | 12 => ⟨S4x8320x8320, .f32⟩
  | 13 => ⟨S_, .f32⟩
  | 14 => ⟨S_, .f32⟩
  | 15 => ⟨S4x8320x8320, .i1⟩
  | 16 => ⟨S4x8320x8320, .f32⟩
  | 17 => ⟨S4x8320x8320, .f32⟩
  | 18 => ⟨S4x8320x8320, .f32⟩
  | 19 => ⟨S4x8320x8320, .f32⟩
  | 20 => ⟨S4x8320x8320, .f32⟩
  | 21 => ⟨S4x512x8320, .f32⟩
  | 22 => ⟨S8320x4x512, .f32⟩
  | 23 => ⟨S65, .f32⟩
  | 24 => ⟨S_, .f32⟩
  | 25 => ⟨S65, .f32⟩
  | 26 => ⟨S65, .f32⟩
  | 27 => ⟨S_, .f32⟩
  | 28 => ⟨S65, .f32⟩
  | 29 => ⟨S65, .f32⟩
  | 30 => ⟨S65x1, .f32⟩
  | 31 => ⟨S8320, .f32⟩
  | 32 => ⟨S1x8320, .f32⟩
  | 33 => ⟨S65x8320, .f32⟩
  | 34 => ⟨S65x8320, .f32⟩
  | 35 => ⟨S65x8320, .f32⟩
  | 36 => ⟨S_, .f32⟩
  | 37 => ⟨S65x8320, .f32⟩
  | 38 => ⟨S65x8320, .i1⟩
  | 39 => ⟨S65x8320x1, .i1⟩
  | 40 => ⟨S65x8320x1, .f32⟩
  | 41 => ⟨S4, .f32⟩
  | 42 => ⟨S_, .f32⟩
  | 43 => ⟨S4, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S1x1x4, .f32⟩
  | 53 => ⟨S65x8320x4, .f32⟩
  | 54 => ⟨S65x8320x4, .f32⟩
  | 55 => ⟨S65x8320x4, .f32⟩
  | 56 => ⟨S_, .f32⟩
  | 57 => ⟨S_, .f32⟩
  | 58 => ⟨S65x8320x4, .i1⟩
  | 59 => ⟨S65x8320x4, .f32⟩
  | 60 => ⟨S65x8320x4, .f32⟩
  | 61 => ⟨S65x8320x4, .f32⟩
  | 62 => ⟨S65x8320x4x1, .f32⟩
  | 63 => ⟨S1x8320x4x256, .f32⟩
  | 64 => ⟨S65x8320x4x256, .f32⟩
  | 65 => ⟨S65x8320x4x256, .f32⟩
  | 66 => ⟨S65x8320x4x256, .f32⟩
  | 67 => ⟨S4x512x65x256, .f32⟩
  | 68 => ⟨S65x4x256x512, .f32⟩
  | 69 => ⟨S8320x2048, .f32⟩
  | 70 => ⟨S8320x1024, .f32⟩
  | 71 => ⟨S8320x1024, .bf16⟩
  | 72 => ⟨S8320x1024, .f32⟩
  | 73 => ⟨S8320x1024, .bf16⟩
  | 74 => ⟨S65x1024x512, .f32⟩
  | 75 => ⟨S65x1024x512, .bf16⟩
  | 76 => ⟨S8320x2048, .bf16⟩
  | 77 => ⟨S8320x4096, .bf16⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S1x1024x512, .bf16⟩
  | .local _ .vmem, ⟨13, _⟩ => ⟨S1x1024x512, .bf16⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x2048, .bf16⟩
  | .local _ .vmem, ⟨19, _⟩ => ⟨S128x2048, .bf16⟩
  | .local _ .vmem, ⟨20, _⟩ => ⟨S128x4096, .bf16⟩
  | .local _ .vmem, ⟨21, _⟩ => ⟨S128x4096, .bf16⟩
  | .local _ .vmem, ⟨22, _⟩ => ⟨S1024x512, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v4 : Ref sig .tc := ⟨.hbm, 32, rfl⟩
abbrev main_v5 : Ref sig .tc := ⟨.hbm, 33, rfl⟩
abbrev main_cst_2 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_cst_5 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_cst : Ref sig .tc := ⟨.hbm, 56, rfl⟩
abbrev main_call1_v3 : Ref sig .tc := ⟨.hbm, 57, rfl⟩
abbrev main_call1_v4 : Ref sig .tc := ⟨.hbm, 58, rfl⟩
abbrev main_call1_cst_0 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_v15 : Ref sig .tc := ⟨.hbm, 71, rfl⟩
abbrev main_call1_v16 : Ref sig .tc := ⟨.hbm, 72, rfl⟩
abbrev main_v21 : Ref sig .tc := ⟨.hbm, 73, rfl⟩
abbrev main_v22 : Ref sig .tc := ⟨.hbm, 74, rfl⟩
abbrev main_cst_6 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_7 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_8 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_cst_9 : Ref sig .tc := ⟨.hbm, 126, rfl⟩
abbrev main_v71 : Ref sig .tc := ⟨.hbm, 127, rfl⟩
abbrev main_v72 : Ref sig .tc := ⟨.hbm, 128, rfl⟩
abbrev main_cst_10 : Ref sig .tc := ⟨.hbm, 129, rfl⟩
abbrev main_v73 : Ref sig .tc := ⟨.hbm, 130, rfl⟩
abbrev main_v74 : Ref sig .tc := ⟨.hbm, 131, rfl⟩
abbrev main_cst_11 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_cst_12 : Ref sig .tc := ⟨.hbm, 141, rfl⟩
abbrev main_call2_v0 : Ref sig .tc := ⟨.hbm, 142, rfl⟩
abbrev main_call2_v1 : Ref sig .tc := ⟨.hbm, 143, rfl⟩
abbrev main_call2_v2 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_cst_13 : Ref sig .tc := ⟨.hbm, 152, rfl⟩
abbrev main_v90 : Ref sig .tc := ⟨.hbm, 153, rfl⟩
abbrev main_v91 : Ref sig .tc := ⟨.hbm, 154, rfl⟩
abbrev main_cst_14 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_15 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_16 : Ref sig .tc := ⟨.hbm, 170, rfl⟩
abbrev main_v105 : Ref sig .tc := ⟨.hbm, 171, rfl⟩
abbrev main_v106 : Ref sig .tc := ⟨.hbm, 172, rfl⟩
abbrev main_cst_17 : Ref sig .tc := ⟨.hbm, 173, rfl⟩
abbrev main_v107 : Ref sig .tc := ⟨.hbm, 174, rfl⟩
abbrev main_v108 : Ref sig .tc := ⟨.hbm, 175, rfl⟩
abbrev main_cst_18 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_cst_19 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132_0 : Ref sig .tc := ⟨.hbm, 204, rfl⟩
abbrev main_v132_1 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "gamma_chunk_0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "gamma_chunk_1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gamma_chunk_2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gamma_chunk_3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none

abbrev grid0 : Pipeline.Grid := ⟨1, ![65], ![false]⟩

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi c64_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8320x1024 : Shape := ⟨2, ![8320, 1024]⟩
abbrev S8320x2048 : Shape := ⟨2, ![8320, 2048]⟩
abbrev S8320x4x256 : Shape := ⟨3, ![8320, 4, 256]⟩
abbrev S8320x4x512 : Shape := ⟨3, ![8320, 4, 512]⟩
abbrev S8320 : Shape := ⟨1, ![8320]⟩
abbrev S_ : Shape := ⟨0, ![]⟩
abbrev S127 : Shape := ⟨1, ![127]⟩
abbrev S1 : Shape := ⟨1, ![1]⟩
abbrev S128 : Shape := ⟨1, ![128]⟩
abbrev S8320x1 : Shape := ⟨2, ![8320, 1]⟩
abbrev S1x128 : Shape := ⟨2, ![1, 128]⟩
abbrev S8320x128 : Shape := ⟨2, ![8320, 128]⟩
abbrev S8320x1x128 : Shape := ⟨3, ![8320, 1, 128]⟩
abbrev S8320x4x128 : Shape := ⟨3, ![8320, 4, 128]⟩
abbrev S1x8320 : Shape := ⟨2, ![1, 8320]⟩
abbrev S8320x8320 : Shape := ⟨2, ![8320, 8320]⟩
abbrev S4 : Shape := ⟨1, ![4]⟩
abbrev S4x1x1 : Shape := ⟨3, ![4, 1, 1]⟩
abbrev S1x8320x8320 : Shape := ⟨3, ![1, 8320, 8320]⟩
abbrev S4x8320x8320 : Shape := ⟨3, ![4, 8320, 8320]⟩
abbrev S4x512x8320 : Shape := ⟨3, ![4, 512, 8320]⟩
abbrev S8320x4 : Shape := ⟨2, ![8320, 4]⟩
abbrev S8320x4x1 : Shape := ⟨3, ![8320, 4, 1]⟩
abbrev S4x8320x256 : Shape := ⟨3, ![4, 8320, 256]⟩
abbrev S8320x4096 : Shape := ⟨2, ![8320, 4096]⟩

abbrev nBuf : Space → Nat
  | .hbm => 223
  | .vmem => 0
  | .smem => 0
  | _ => 0

abbrev hbmTy0_0 (i : Nat) : BufTy := match i % 128 with
  | 0 => ⟨S8320x1024, .f32⟩
  | 1 => ⟨S8320x1024, .f32⟩
  | 2 => ⟨S8320x2048, .f32⟩
  | 3 => ⟨S8320x2048, .f32⟩
  | 4 => ⟨S8320x2048, .f32⟩
  | 5 => ⟨S8320x4x256, .f32⟩
  | 6 => ⟨S8320x4x256, .f32⟩
  | 7 => ⟨S8320x4x512, .f32⟩
  | 8 => ⟨S8320, .f32⟩
  | 9 => ⟨S_, .f32⟩
  | 10 => ⟨S8320, .f32⟩
  | 11 => ⟨S8320, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S127, .f32⟩
  | 20 => ⟨S_, .f32⟩
  | 21 => ⟨S127, .f32⟩
  | 22 => ⟨S127, .f32⟩
  | 23 => ⟨S1, .f32⟩
  | 24 => ⟨S_, .f32⟩
  | 25 => ⟨S127, .f32⟩
  | 26 => ⟨S127, .f32⟩
  | 27 => ⟨S127, .f32⟩
  | 28 => ⟨S127, .f32⟩
  | 29 => ⟨S1, .f32⟩
  | 30 => ⟨S127, .f32⟩
  | 31 => ⟨S127, .f32⟩
  | 32 => ⟨S127, .f32⟩
  | 33 => ⟨S1, .f32⟩
  | 34 => ⟨S128, .f32⟩
  | 35 => ⟨S128, .f32⟩
  | 36 => ⟨S_, .f32⟩
  | 37 => ⟨S128, .f32⟩
  | 38 => ⟨S128, .f32⟩
  | 39 => ⟨S8320x1, .f32⟩
  | 40 => ⟨S1x128, .f32⟩
  | 41 => ⟨S8320x128, .f32⟩
  | 42 => ⟨S8320x128, .f32⟩
  | 43 => ⟨S8320x128, .f32⟩
  | 44 => ⟨S8320x128, .f32⟩
  | 45 => ⟨S8320x1x128, .f32⟩
  | 46 => ⟨S8320x128, .f32⟩
  | 47 => ⟨S8320x1x128, .f32⟩
  | 48 => ⟨S8320x4x128, .f32⟩
  | 49 => ⟨S8320x4x128, .f32⟩
  | 50 => ⟨S8320x4x128, .f32⟩
  | 51 => ⟨S8320x4x128, .f32⟩
  | 52 => ⟨S8320x4x128, .f32⟩
  | 53 => ⟨S8320x4x128, .f32⟩
  | 54 => ⟨S8320x4x128, .f32⟩
  | 55 => ⟨S8320x4x128, .f32⟩
  | 56 => ⟨S8320x4x128, .f32⟩
  | 57 => ⟨S8320x4x128, .f32⟩
  | 58 => ⟨S8320x4x128, .f32⟩
  | 59 => ⟨S8320x4x128, .f32⟩
  | 60 => ⟨S8320x4x256, .f32⟩
  | 61 => ⟨S8320x4x128, .f32⟩
  | 62 => ⟨S8320x4x128, .f32⟩
  | 63 => ⟨S8320x4x128, .f32⟩
  | 64 => ⟨S8320x4x128, .f32⟩
  | 65 => ⟨S8320x4x128, .f32⟩
  | 66 => ⟨S8320x4x128, .f32⟩
  | 67 => ⟨S8320x4x128, .f32⟩
  | 68 => ⟨S8320x4x128, .f32⟩
  | 69 => ⟨S8320x4x128, .f32⟩
  | 70 => ⟨S8320x4x128, .f32⟩
  | 71 => ⟨S8320x4x128, .f32⟩
  | 72 => ⟨S8320x4x128, .f32⟩
  | 73 => ⟨S8320x4x256, .f32⟩
  | 74 => ⟨S_, .f32⟩
  | 75 => ⟨S8320x4x256, .f32⟩
  | 76 => ⟨S8320x4x256, .f32⟩
  | 77 => ⟨S8320, .f32⟩
  | 78 => ⟨S8320x1, .f32⟩
  | 79 => ⟨S1x8320, .f32⟩
  | 80 => ⟨S8320x8320, .f32⟩
  | 81 => ⟨S8320x8320, .f32⟩
  | 82 => ⟨S8320x8320, .f32⟩
  | 83 => ⟨S_, .f32⟩
  | 84 => ⟨S8320x8320, .f32⟩
  | 85 => ⟨S8320x8320, .i1⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S4x1x1, .f32⟩
  | 98 => ⟨S1x8320x8320, .f32⟩
  | 99 => ⟨S4x8320x8320, .f32⟩
  | 100 => ⟨S4x8320x8320, .f32⟩
  | 101 => ⟨S4x8320x8320, .f32⟩
  | 102 => ⟨S_, .f32⟩
  | 103 => ⟨S_, .f32⟩
  | 104 => ⟨S4x8320x8320, .i1⟩
  | 105 => ⟨S4x8320x8320, .f32⟩
  | 106 => ⟨S4x8320x8320, .f32⟩
  | 107 => ⟨S4x8320x8320, .f32⟩
  | 108 => ⟨S4x8320x8320, .f32⟩
  | 109 => ⟨S4x8320x8320, .f32⟩
  | 110 => ⟨S4x512x8320, .f32⟩
  | 111 => ⟨S8320x4x512, .f32⟩
  | 112 => ⟨S8320x4x512, .f32⟩
  | 113 => ⟨S_, .f32⟩
  | 114 => ⟨S8320x4, .f32⟩
  | 115 => ⟨S8320x4x1, .f32⟩
  | 116 => ⟨S_, .f32⟩
  | 117 => ⟨S8320x4x1, .f32⟩
  | 118 => ⟨S8320x4x1, .f32⟩
  | 119 => ⟨S_, .f32⟩
  | 120 => ⟨S8320x4x1, .f32⟩
  | 121 => ⟨S8320x4x1, .f32⟩
  | 122 => ⟨S8320x4x1, .f32⟩
  | 123 => ⟨S8320x4x1, .f32⟩
  | 124 => ⟨S_, .f32⟩
  | 125 => ⟨S8320x4x1, .f32⟩
  | 126 => ⟨S8320x4x1, .f32⟩
  | 127 => ⟨S8320x4x512, .f32⟩
  | _ => ⟨S8320x1024, .f32⟩

abbrev hbmTy0_1 (i : Nat) : BufTy := match i % 128 with
  | 0 => ⟨S8320x4x512, .f32⟩
  | 1 => ⟨S8320x2048, .f32⟩
  | 2 => ⟨S8320x2048, .f32⟩
  | 3 => ⟨S_, .f32⟩
  | 4 => ⟨S8320x2048, .f32⟩
  | 5 => ⟨S8320x2048, .f32⟩
  | 6 => ⟨S_, .f32⟩
  | 7 => ⟨S8320x2048, .f32⟩
  | 8 => ⟨S8320x2048, .f32⟩
  | 9 => ⟨S_, .f32⟩
  | 10 => ⟨S8320x2048, .f32⟩
  | 11 => ⟨S8320x2048, .f32⟩
  | 12 => ⟨S8320x2048, .f32⟩
  | 13 => ⟨S8320x2048, .f32⟩
  | 14 => ⟨S8320x2048, .f32⟩
  | 15 => ⟨S8320x2048, .f32⟩
  | 16 => ⟨S8320x2048, .f32⟩
  | 17 => ⟨S8320x2048, .f32⟩
  | 18 => ⟨S8320x4x512, .f32⟩
  | 19 => ⟨S8320x2048, .f32⟩
  | 20 => ⟨S8320x2048, .f32⟩
  | 21 => ⟨S8320x2048, .f32⟩
  | 22 => ⟨S8320x2048, .f32⟩
  | 23 => ⟨S8320x4x512, .f32⟩
  | 24 => ⟨S_, .f32⟩
  | 25 => ⟨S8320x4, .f32⟩
  | 26 => ⟨S8320x4x1, .f32⟩
  | 27 => ⟨S8320x4x512, .f32⟩
  | 28 => ⟨S8320x4x512, .f32⟩
  | 29 => ⟨S8320x4x1, .f32⟩
  | 30 => ⟨S_, .f32⟩
  | 31 => ⟨S8320x4x1, .f32⟩
  | 32 => ⟨S8320x4x1, .f32⟩
  | 33 => ⟨S_, .f32⟩
  | 34 => ⟨S8320x4, .f32⟩
  | 35 => ⟨S8320x4x512, .f32⟩
  | 36 => ⟨S8320x4x512, .f32⟩
  | 37 => ⟨S8320x4x512, .f32⟩
  | 38 => ⟨S8320x4x512, .f32⟩
  | 39 => ⟨S8320x4x512, .f32⟩
  | 40 => ⟨S4x512x8320, .f32⟩
  | 41 => ⟨S4x8320x8320, .f32⟩
  | 42 => ⟨S4x512x8320, .f32⟩
  | 43 => ⟨S8320x4x512, .f32⟩
  | 44 => ⟨S4x8320x8320, .f32⟩
  | 45 => ⟨S4x8320x256, .f32⟩
  | 46 => ⟨S8320x4x256, .f32⟩
  | 47 => ⟨S4x8320x256, .f32⟩
  | 48 => ⟨S8320x4x256, .f32⟩
  | 49 => ⟨S_, .f32⟩
  | 50 => ⟨S8320x4x256, .f32⟩
  | 51 => ⟨S8320x4x256, .f32⟩
  | 52 => ⟨S8320x4x128, .f32⟩
  | 53 => ⟨S8320x4x128, .f32⟩
  | 54 => ⟨S8320x4x128, .f32⟩
  | 55 => ⟨S8320x4x128, .f32⟩
  | 56 => ⟨S8320x4x128, .f32⟩
  | 57 => ⟨S8320x4x128, .f32⟩
  | 58 => ⟨S8320x4x128, .f32⟩
  | 59 => ⟨S8320x4x128, .f32⟩
  | 60 => ⟨S8320x4x128, .f32⟩
  | 61 => ⟨S8320x4x128, .f32⟩
  | 62 => ⟨S8320x4x128, .f32⟩
  | 63 => ⟨S8320x4x128, .f32⟩
  | 64 => ⟨S8320x4x128, .f32⟩
  | 65 => ⟨S_, .f32⟩
  | 66 => ⟨S8320x4x256, .f32⟩
  | 67 => ⟨S_, .f32⟩
  | 68 => ⟨S8320x4x256, .f32⟩
  | 69 => ⟨S8320x4x256, .f32⟩
  | 70 => ⟨S8320x4x128, .f32⟩
  | 71 => ⟨S8320x4x128, .f32⟩
  | 72 => ⟨S8320x4x128, .f32⟩
  | 73 => ⟨S8320x4x128, .f32⟩
  | 74 => ⟨S8320x4x128, .f32⟩
  | 75 => ⟨S8320x4x128, .f32⟩
  | 76 => ⟨S8320x4x128, .f32⟩
  | 77 => ⟨S8320x4x128, .f32⟩
  | 78 => ⟨S8320x4x128, .f32⟩
  | 79 => ⟨S8320x4x128, .f32⟩
  | 80 => ⟨S8320x4x128, .f32⟩
  | 81 => ⟨S8320x4x128, .f32⟩
  | 82 => ⟨S8320x4x128, .f32⟩
  | 83 => ⟨S_, .f32⟩
  | 84 => ⟨S8320x4x256, .f32⟩
  | 85 => ⟨S_, .f32⟩
  | 86 => ⟨S8320x4x256, .f32⟩
  | 87 => ⟨S8320x4x256, .f32⟩
  | 88 => ⟨S8320x2048, .f32⟩
  | 89 => ⟨S8320x1024, .f32⟩
  | 90 => ⟨S8320x1024, .f32⟩
  | 91 => ⟨S8320x2048, .f32⟩
  | 92 => ⟨S8320x2048, .bf16⟩
  | 93 => ⟨S8320x4096, .f32⟩
  | 94 => ⟨S8320x4096, .bf16⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_3 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_5 : Ref sig .tc := ⟨.hbm, 87, rfl⟩
abbrev main_v56 : Ref sig .tc := ⟨.hbm, 88, rfl⟩
abbrev main_v57 : Ref sig .tc := ⟨.hbm, 89, rfl⟩
abbrev main_cst_6 : Ref sig .tc := ⟨.hbm, 90, rfl⟩
abbrev main_v58 : Ref sig .tc := ⟨.hbm, 91, rfl⟩
abbrev main_v59 : Ref sig .tc := ⟨.hbm, 92, rfl⟩
abbrev main_cst_7 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_9 : Ref sig .tc := ⟨.hbm, 113, rfl⟩
abbrev main_v75 : Ref sig .tc := ⟨.hbm, 114, rfl⟩
abbrev main_v76 : Ref sig .tc := ⟨.hbm, 115, rfl⟩
abbrev main_cst_10 : Ref sig .tc := ⟨.hbm, 116, rfl⟩
abbrev main_v77 : Ref sig .tc := ⟨.hbm, 117, rfl⟩
abbrev main_v78 : Ref sig .tc := ⟨.hbm, 118, rfl⟩
abbrev main_cst_11 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_12 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_call2_v0 : Ref sig .tc := ⟨.hbm, 129, rfl⟩
abbrev main_call2_v1 : Ref sig .tc := ⟨.hbm, 130, rfl⟩
abbrev main_call2_cst : Ref sig .tc := ⟨.hbm, 131, rfl⟩
abbrev main_call2_v2 : Ref sig .tc := ⟨.hbm, 132, rfl⟩
abbrev main_call2_v3 : Ref sig .tc := ⟨.hbm, 133, rfl⟩
abbrev main_call2_cst_0 : Ref sig .tc := ⟨.hbm, 134, rfl⟩
abbrev main_call2_v4 : Ref sig .tc := ⟨.hbm, 135, rfl⟩
abbrev main_v87_2 : Ref sig .tc := ⟨.hbm, 136, rfl⟩
abbrev main_call2_cst_1 : Ref sig .tc := ⟨.hbm, 137, rfl⟩
abbrev main_call2_v6 : Ref sig .tc := ⟨.hbm, 138, rfl⟩
abbrev main_call2_v7 : Ref sig .tc := ⟨.hbm, 139, rfl⟩
abbrev main_v87_1 : Ref sig .tc := ⟨.hbm, 140, rfl⟩
abbrev main_v87_0 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_call3_v0 : Ref sig .tc := ⟨.hbm, 147, rfl⟩
abbrev main_call3_v1 : Ref sig .tc := ⟨.hbm, 148, rfl⟩
abbrev main_call3_v2 : Ref sig .tc := ⟨.hbm, 149, rfl⟩
abbrev main_v93 : Ref sig .tc := ⟨.hbm, 150, rfl⟩
abbrev main_v94 : Ref sig .tc := ⟨.hbm, 151, rfl⟩
abbrev main_cst_13 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_cst_14 : Ref sig .tc := ⟨.hbm, 158, rfl⟩
abbrev main_v100 : Ref sig .tc := ⟨.hbm, 159, rfl⟩
abbrev main_v101 : Ref sig .tc := ⟨.hbm, 160, rfl⟩
abbrev main_cst_15 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_cst_16 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_17 : Ref sig .tc := ⟨.hbm, 193, rfl⟩
abbrev main_v132 : Ref sig .tc := ⟨.hbm, 194, rfl⟩
abbrev main_cst_18 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_cst_19 : Ref sig .tc := ⟨.hbm, 211, rfl⟩
abbrev main_v148 : Ref sig .tc := ⟨.hbm, 212, rfl⟩
abbrev main_cst_20 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩

abbrev nD : Nat := 1
abbrev τ : Topo := Topo.v7x

variable {F : FTy → Type} [FloatOps F]
-- ==== KernelDU1.lean ====
abbrev S8320x2048 : Shape := ⟨2, ![8320, 2048]⟩
abbrev S8320x4096 : Shape := ⟨2, ![8320, 4096]⟩
abbrev S8320x3072 : Shape := ⟨2, ![8320, 3072]⟩
abbrev S8320x128 : Shape := ⟨2, ![8320, 128]⟩
abbrev S1024x13344 : Shape := ⟨2, ![1024, 13344]⟩
abbrev S1024x2048 : Shape := ⟨2, ![1024, 2048]⟩
abbrev S1024x3072 : Shape := ⟨2, ![1024, 3072]⟩
abbrev S1024x1024 : Shape := ⟨2, ![1024, 1024]⟩
abbrev S1024x32 : Shape := ⟨2, ![1024, 32]⟩
abbrev S_ : Shape := ⟨0, ![]⟩
abbrev S1024x96 : Shape := ⟨2, ![1024, 96]⟩
abbrev S1024x13440 : Shape := ⟨2, ![1024, 13440]⟩
abbrev S8320x1024 : Shape := ⟨2, ![8320, 1024]⟩
abbrev S1664x512 : Shape := ⟨2, ![1664, 512]⟩
abbrev S1664x128 : Shape := ⟨2, ![1664, 128]⟩
abbrev S1024x512 : Shape := ⟨2, ![1024, 512]⟩
abbrev S1024x128 : Shape := ⟨2, ![1024, 128]⟩
abbrev S1664x1024 : Shape := ⟨2, ![1664, 1024]⟩

abbrev nBuf : Space → Nat
  | .hbm => 21
  | .vmem => 26
  | .smem => 0
  | _ => 0

abbrev bufTy : (tb : Table) → Fin (tcTables nBuf tb) → BufTy
  | .hbm, ⟨0, _⟩ => ⟨S8320x2048, .bf16⟩
  | .hbm, ⟨1, _⟩ => ⟨S8320x4096, .bf16⟩
  | .hbm, ⟨2, _⟩ => ⟨S8320x3072, .bf16⟩
  | .hbm, ⟨3, _⟩ => ⟨S8320x2048, .bf16⟩
  | .hbm, ⟨4, _⟩ => ⟨S8320x2048, .bf16⟩
  | .hbm, ⟨5, _⟩ => ⟨S8320x128, .bf16⟩
  | .hbm, ⟨6, _⟩ => ⟨S1024x13344, .f32⟩
  | .hbm, ⟨7, _⟩ => ⟨S1024x13344, .bf16⟩
  | .hbm, ⟨8, _⟩ => ⟨S1024x2048, .bf16⟩
  | .hbm, ⟨9, _⟩ => ⟨S1024x2048, .bf16⟩
  | .hbm, ⟨10, _⟩ => ⟨S1024x2048, .bf16⟩
  | .hbm, ⟨11, _⟩ => ⟨S1024x3072, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x32, .bf16⟩
  | .hbm, ⟨17, _⟩ => ⟨S_, .bf16⟩
  | .hbm, ⟨18, _⟩ => ⟨S1024x96, .bf16⟩
  | .hbm, ⟨19, _⟩ => ⟨S1024x13440, .bf16⟩
  | .hbm, ⟨20, _⟩ => ⟨S8320x1024, .f32⟩
  | .local _ .vmem, ⟨0, _⟩ => ⟨S1664x512, .bf16⟩
  | .local _ .vmem, ⟨1, _⟩ => ⟨S1664x512, .bf16⟩
  | .local _ .vmem, ⟨2, _⟩ => ⟨S1664x512, .bf16⟩
  | .local _ .vmem, ⟨3, _⟩ => ⟨S1664x512, .bf16⟩
  | .local _ .vmem, ⟨4, _⟩ => ⟨S1664x512, .bf16⟩
  | .local _ .vmem, ⟨5, _⟩ => ⟨S1664x512, .bf16⟩
  | .local _ .vmem, ⟨6, _⟩ => ⟨S1664x512, .bf16⟩
  | .local _ .vmem, ⟨7, _⟩ => ⟨S1664x512, .bf16⟩
  | .local _ .vmem, ⟨8, _⟩ => ⟨S1664x512, .bf16⟩
  | .local _ .vmem, ⟨9, _⟩ => ⟨S1664x512, .bf16⟩
  | .local _ .vmem, ⟨10, _⟩ => ⟨S1664x128, .bf16⟩
  | .local _ .vmem, ⟨11, _⟩ => ⟨S1664x128, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x128, .bf16⟩
  | .local _ .vmem, ⟨23, _⟩ => ⟨S1024x128, .bf16⟩
  | .local _ .vmem, ⟨24, _⟩ => ⟨S1664x1024, .f32⟩
  | .local _ .vmem, ⟨25, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![5, 1, 27], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c4_i32 : BitVec 32 := 4#32
  let v4 : BitVec 1 := Scalar.cmpi .slt arg2 c4_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg2 : BitVec 32 := BitVec.ofNat 32 (i 2).val
  let c4_i32_2 : BitVec 32 := 4#32
  let v8 : BitVec 1 := Scalar.cmpi .sge arg2 c4_i32_2
  let c12_i32 : BitVec 32 := 12#32
  let v9 : BitVec 1 := Scalar.cmpi .slt arg2 c12_i32
  let v10 : BitVec 1 := Scalar.andi v8 v9
  let v11 : BitVec 32 := Scalar.extui v10
  let c0_i32_3 : BitVec 32 := 0#32
  let v12 : BitVec 1 := Scalar.cmpi .ne v11 c0_i32_3
  v12

def k0_cond4 (i : grid0.Coords) : BitVec 1 :=
  let arg2 : BitVec 32 := BitVec.ofNat 32 (i 2).val
  let c12_i32_4 : BitVec 32 := 12#32
  let v13 : BitVec 1 := Scalar.cmpi .sge arg2 c12_i32_4
  let c18_i32 : BitVec 32 := 18#32
  let v14 : BitVec 1 := Scalar.cmpi .slt arg2 c18_i32
  let v15 : BitVec 1 := Scalar.andi v13 v14
  let v16 : BitVec 32 := Scalar.extui v15
  let c0_i32_5 : BitVec 32 := 0#32
  let v17 : BitVec 1 := Scalar.cmpi .ne v16 c0_i32_5
  v17

def k0_cond5 (i : grid0.Coords) : BitVec 1 :=
  let arg2 : BitVec 32 := BitVec.ofNat 32 (i 2).val
  let c18_i32_6 : BitVec 32 := 18#32
  let v18 : BitVec 1 := Scalar.cmpi .sge arg2 c18_i32_6
  let c22_i32 : BitVec 32 := 22#32
  let v19 : BitVec 1 := Scalar.cmpi .slt arg2 c22_i32
  let v20 : BitVec 1 := Scalar.andi v18 v19
  let v21 : BitVec 32 := Scalar.extui v20
  let c0_i32_7 : BitVec 32 := 0#32
  let v22 : BitVec 1 := Scalar.cmpi .ne v21 c0_i32_7
  v22

def k0_cond6 (i : grid0.Coords) : BitVec 1 :=
  let arg2 : BitVec 32 := BitVec.ofNat 32 (i 2).val
  let c22_i32_8 : BitVec 32 := 22#32
  let v23 : BitVec 1 := Scalar.cmpi .sge arg2 c22_i32_8
  let c26_i32 : BitVec 32 := 26#32
  let v24 : BitVec 1 := Scalar.cmpi .slt arg2 c26_i32
  let v25 : BitVec 1 := Scalar.andi v23 v24
  let v26 : BitVec 32 := Scalar.extui v25
  let c0_i32_9 : BitVec 32 := 0#32
  let v27 : BitVec 1 := Scalar.cmpi .ne v26 c0_i32_9
  v27

def k0_cond7 (i : grid0.Coords) : BitVec 1 :=
  let arg2 : BitVec 32 := BitVec.ofNat 32 (i 2).val
  let c26_i32_10 : BitVec 32 := 26#32
  let v28 : BitVec 1 := Scalar.cmpi .sge arg2 c26_i32_10
  let c27_i32 : BitVec 32 := 27#32
  let v29 : BitVec 1 := Scalar.cmpi .slt arg2 c27_i32
  let v30 : BitVec 1 := Scalar.andi v28 v29
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let c5_i32 : BitVec 32 := 5#32
  let v1 : BitVec 32 := Scalar.maxsi c0_i32 v0
  let v2 : BitVec 32 := Scalar.minsi c5_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.subi arg2 c18_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.subi arg2 c22_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.subi arg2 c26_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 v2
  let c0_i32_2 : BitVec 32 := 0#32
  ![arg1.toNat, v3.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c7_i32 : BitVec 32 := 7#32
  let v1 : BitVec 32 := Scalar.maxsi c0_i32 v0
  let v2 : BitVec 32 := Scalar.minsi c7_i32 v1
  let c4_i32_0 : BitVec 32 := 4#32
  let v3 : BitVec 32 := Scalar.addi c4_i32_0 v2
  let c0_i32_1 : BitVec 32 := 0#32
  ![arg1.toNat, v3.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.subi arg2 c12_i32
  let c0_i32 : BitVec 32 := 0#32
  let c5_i32 : BitVec 32 := 5#32
  let v1 : BitVec 32 := Scalar.maxsi c0_i32 v0
  let v2 : BitVec 32 := Scalar.minsi c5_i32 v1
  let c12_i32_0 : BitVec 32 := 12#32
  let v3 : BitVec 32 := Scalar.addi c12_i32_0 v2
  let c0_i32_1 : BitVec 32 := 0#32
  ![arg1.toNat, v3.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.subi arg2 c18_i32
  let c0_i32 : BitVec 32 := 0#32
  let c3_i32 : BitVec 32 := 3#32
  let v1 : BitVec 32 := Scalar.maxsi c0_i32 v0
  let v2 : BitVec 32 := Scalar.minsi c3_i32 v1
  let c18_i32_0 : BitVec 32 := 18#32
  let v3 : BitVec 32 := Scalar.addi c18_i32_0 v2
  let c0_i32_1 : BitVec 32 := 0#32
  ![arg1.toNat, v3.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.subi arg2 c22_i32
  let c0_i32 : BitVec 32 := 0#32
  let c3_i32 : BitVec 32 := 3#32
  let v1 : BitVec 32 := Scalar.maxsi c0_i32 v0
  let v2 : BitVec 32 := Scalar.minsi c3_i32 v1
  let c22_i32_0 : BitVec 32 := 22#32
  let v3 : BitVec 32 := Scalar.addi c22_i32_0 v2
  let c0_i32_1 : BitVec 32 := 0#32
  ![arg1.toNat, v3.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.subi arg2 c26_i32
  let c0_i32 : BitVec 32 := 0#32
  let c0_i32_0 : BitVec 32 := 0#32
  let v1 : BitVec 32 := Scalar.maxsi c0_i32 v0
  let v2 : BitVec 32 := Scalar.minsi c0_i32_0 v1
  let c104_i32 : BitVec 32 := 104#32
  let v3 : BitVec 32 := Scalar.addi c104_i32 v2
  let c0_i32_1 : BitVec 32 := 0#32
  ![arg1.toNat, v3.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1664x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1664x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1664x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S1664x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ReferenceDU1Ideal.lean ====
abbrev S8320x2048 : Shape := ⟨2, ![8320, 2048]⟩
abbrev S8320x4096 : Shape := ⟨2, ![8320, 4096]⟩
abbrev S8320x3072 : Shape := ⟨2, ![8320, 3072]⟩
abbrev S8320x128 : Shape := ⟨2, ![8320, 128]⟩
abbrev S1024x13344 : Shape := ⟨2, ![1024, 13344]⟩
abbrev S8320x32 : Shape := ⟨2, ![8320, 32]⟩
abbrev S8320x13344 : Shape := ⟨2, ![8320, 13344]⟩
abbrev S_ : Shape := ⟨0, ![]⟩
abbrev S8320x1024 : Shape := ⟨2, ![8320, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x4096, .bf16⟩
  | .hbm, ⟨2, _⟩ => ⟨S8320x3072, .bf16⟩
  | .hbm, ⟨3, _⟩ => ⟨S8320x2048, .bf16⟩
  | .hbm, ⟨4, _⟩ => ⟨S8320x2048, .bf16⟩
  | .hbm, ⟨5, _⟩ => ⟨S8320x128, .bf16⟩
  | .hbm, ⟨6, _⟩ => ⟨S1024x13344, .f32⟩
  | .hbm, ⟨7, _⟩ => ⟨S8320x32, .bf16⟩
  | .hbm, ⟨8, _⟩ => ⟨S8320x13344, .bf16⟩
  | .hbm, ⟨9, _⟩ => ⟨S8320x13344, .f32⟩
  | .hbm, ⟨10, _⟩ => ⟨S_, .f32⟩
  | .hbm, ⟨11, _⟩ => ⟨S8320x1024, .f32⟩
  | .hbm, ⟨12, _⟩ => ⟨S8320x13344, .f32⟩
  | .hbm, ⟨13, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== KernelGW2048.lean ====
abbrev S8320x1024 : Shape := ⟨2, ![8320, 1024]⟩
abbrev S8320x2048 : Shape := ⟨2, ![8320, 2048]⟩
abbrev S1024x2048 : Shape := ⟨2, ![1024, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S1024x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGW2048Ideal.lean ====
abbrev S8320x1024 : Shape := ⟨2, ![8320, 1024]⟩
abbrev S8320x2048 : Shape := ⟨2, ![8320, 2048]⟩
abbrev S1024x2048 : Shape := ⟨2, ![1024, 2048]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S1024x2048, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGW2048Ideal.lean ====
abbrev S8320x1024 : Shape := ⟨2, ![8320, 1024]⟩
abbrev S8320x2048 : Shape := ⟨2, ![8320, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2048, .bf16⟩
  | .hbm, ⟨2, _⟩ => ⟨S8320x1024, .f32⟩
  | .hbm, ⟨3, _⟩ => ⟨S8320x2048, .f32⟩
  | .hbm, ⟨4, _⟩ => ⟨S_, .f32⟩
  | .hbm, ⟨5, _⟩ => ⟨S1024x2048, .f32⟩
  | .hbm, ⟨6, _⟩ => ⟨S8320x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGW4096.lean ====
abbrev S8320x1024 : Shape := ⟨2, ![8320, 1024]⟩
abbrev S8320x4096 : Shape := ⟨2, ![8320, 4096]⟩
abbrev S1024x4096 : Shape := ⟨2, ![1024, 4096]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x4096, .bf16⟩
  | .hbm, ⟨2, _⟩ => ⟨S1024x4096, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGW4096Ideal.lean ====
abbrev S8320x1024 : Shape := ⟨2, ![8320, 1024]⟩
abbrev S8320x4096 : Shape := ⟨2, ![8320, 4096]⟩
abbrev S1024x4096 : Shape := ⟨2, ![1024, 4096]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x4096, .bf16⟩
  | .hbm, ⟨2, _⟩ => ⟨S1024x4096, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGW4096Ideal.lean ====
abbrev S8320x1024 : Shape := ⟨2, ![8320, 1024]⟩
abbrev S8320x4096 : Shape := ⟨2, ![8320, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x4096, .bf16⟩
  | .hbm, ⟨2, _⟩ => ⟨S8320x1024, .f32⟩
  | .hbm, ⟨3, _⟩ => ⟨S8320x4096, .f32⟩
  | .hbm, ⟨4, _⟩ => ⟨S_, .f32⟩
  | .hbm, ⟨5, _⟩ => ⟨S1024x4096, .f32⟩
  | .hbm, ⟨6, _⟩ => ⟨S8320x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGW3072.lean ====
abbrev S8320x1024 : Shape := ⟨2, ![8320, 1024]⟩
abbrev S8320x3072 : Shape := ⟨2, ![8320, 3072]⟩
abbrev S1024x3072 : Shape := ⟨2, ![1024, 3072]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x3072, .bf16⟩
  | .hbm, ⟨2, _⟩ => ⟨S1024x3072, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KernelGW3072Ideal.lean ====
abbrev S8320x1024 : Shape := ⟨2, ![8320, 1024]⟩
abbrev S8320x3072 : Shape := ⟨2, ![8320, 3072]⟩
abbrev S1024x3072 : Shape := ⟨2, ![1024, 3072]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S8320x3072, .bf16⟩
  | .hbm, ⟨2, _⟩ => ⟨S1024x3072, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGW3072Ideal.lean ====
abbrev S8320x1024 : Shape := ⟨2, ![8320, 1024]⟩
abbrev S8320x3072 : Shape := ⟨2, ![8320, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x3072, .bf16⟩
  | .hbm, ⟨2, _⟩ => ⟨S8320x1024, .f32⟩
  | .hbm, ⟨3, _⟩ => ⟨S8320x3072, .f32⟩
  | .hbm, ⟨4, _⟩ => ⟨S_, .f32⟩
  | .hbm, ⟨5, _⟩ => ⟨S1024x3072, .f32⟩
  | .hbm, ⟨6, _⟩ => ⟨S8320x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGW128.lean ====
abbrev S8320x1024 : Shape := ⟨2, ![8320, 1024]⟩
abbrev S8320x128 : Shape := ⟨2, ![8320, 128]⟩
abbrev S1024x128 : Shape := ⟨2, ![1024, 128]⟩
abbrev S1664x1024 : Shape := ⟨2, ![1664, 1024]⟩
abbrev S1664x128 : Shape := ⟨2, ![1664, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x128, .bf16⟩
  | .hbm, ⟨2, _⟩ => ⟨S1024x128, .bf16⟩
  | .local _ .vmem, ⟨0, _⟩ => ⟨S1664x1024, .bf16⟩
  | .local _ .vmem, ⟨1, _⟩ => ⟨S1664x1024, .bf16⟩
  | .local _ .vmem, ⟨2, _⟩ => ⟨S1664x128, .bf16⟩
  | .local _ .vmem, ⟨3, _⟩ => ⟨S1664x128, .bf16⟩
  | .local _ .vmem, ⟨4, _⟩ => ⟨S1024x128, .bf16⟩
  | .local _ .vmem, ⟨5, _⟩ => ⟨S1024x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32_3 : BitVec 32 := 4#32
  let v8 : BitVec 1 := Scalar.cmpi .eq arg2 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGW128Ideal.lean ====
abbrev S8320x1024 : Shape := ⟨2, ![8320, 1024]⟩
abbrev S8320x128 : Shape := ⟨2, ![8320, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x128, .bf16⟩
  | .hbm, ⟨2, _⟩ => ⟨S8320x1024, .f32⟩
  | .hbm, ⟨3, _⟩ => ⟨S8320x128, .f32⟩
  | .hbm, ⟨4, _⟩ => ⟨S_, .f32⟩
  | .hbm, ⟨5, _⟩ => ⟨S1024x128, .f32⟩
  | .hbm, ⟨6, _⟩ => ⟨S8320x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGUp.lean ====
abbrev S8320x1024 : Shape := ⟨2, ![8320, 1024]⟩
abbrev S8320x2816 : Shape := ⟨2, ![8320, 2816]⟩
abbrev S1024x2816 : Shape := ⟨2, ![1024, 2816]⟩
abbrev S1664x1024 : Shape := ⟨2, ![1664, 1024]⟩
abbrev S1664x1408 : Shape := ⟨2, ![1664, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x2816, .bf16⟩
  | .hbm, ⟨2, _⟩ => ⟨S1024x2816, .f32⟩
  | .local _ .vmem, ⟨0, _⟩ => ⟨S1664x1024, .bf16⟩
  | .local _ .vmem, ⟨1, _⟩ => ⟨S1664x1024, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .f32⟩
  | .local _ .vmem, ⟨5, _⟩ => ⟨S1024x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGUpIdeal.lean ====
abbrev S8320x1024 : Shape := ⟨2, ![8320, 1024]⟩
abbrev S8320x2816 : Shape := ⟨2, ![8320, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x2816, .bf16⟩
  | .hbm, ⟨2, _⟩ => ⟨S8320x1024, .f32⟩
  | .hbm, ⟨3, _⟩ => ⟨S8320x2816, .f32⟩
  | .hbm, ⟨4, _⟩ => ⟨S_, .f32⟩
  | .hbm, ⟨5, _⟩ => ⟨S1024x2816, .f32⟩
  | .hbm, ⟨6, _⟩ => ⟨S8320x2816, .f32⟩
  | .hbm, ⟨7, _⟩ => ⟨S2816x1024, .f32⟩
  | .hbm, ⟨8, _⟩ => ⟨S1024x2816, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDU2.lean ====
abbrev S8320x2816 : Shape := ⟨2, ![8320, 2816]⟩
abbrev S1024x5632 : Shape := ⟨2, ![1024, 5632]⟩
abbrev S1024x2816 : Shape := ⟨2, ![1024, 2816]⟩
abbrev S8320x1024 : Shape := ⟨2, ![8320, 1024]⟩
abbrev S1664x1408 : Shape := ⟨2, ![1664, 1408]⟩
abbrev S1024x1408 : Shape := ⟨2, ![1024, 1408]⟩
abbrev S1664x1024 : Shape := ⟨2, ![1664, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x2816, .bf16⟩
  | .hbm, ⟨1, _⟩ => ⟨S1024x5632, .f32⟩
  | .hbm, ⟨2, _⟩ => ⟨S1024x5632, .bf16⟩
  | .hbm, ⟨3, _⟩ => ⟨S1024x2816, .bf16⟩
  | .hbm, ⟨4, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1024, .f32⟩
  | .local _ .vmem, ⟨5, _⟩ => ⟨S1664x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDU2Ideal.lean ====
abbrev S8320x2816 : Shape := ⟨2, ![8320, 2816]⟩
abbrev S1024x5632 : Shape := ⟨2, ![1024, 5632]⟩
abbrev S1024x2816 : Shape := ⟨2, ![1024, 2816]⟩
abbrev S_ : Shape := ⟨0, ![]⟩
abbrev S8320x1024 : Shape := ⟨2, ![8320, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x5632, .f32⟩
  | .hbm, ⟨2, _⟩ => ⟨S1024x2816, .f32⟩
  | .hbm, ⟨3, _⟩ => ⟨S8320x2816, .f32⟩
  | .hbm, ⟨4, _⟩ => ⟨S_, .f32⟩
  | .hbm, ⟨5, _⟩ => ⟨S8320x1024, .f32⟩
  | .hbm, ⟨6, _⟩ => ⟨S8320x2816, .f32⟩
  | .hbm, ⟨7, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDU2v.lean ====
abbrev S8320x2816 : Shape := ⟨2, ![8320, 2816]⟩
abbrev S1024x5632 : Shape := ⟨2, ![1024, 5632]⟩
abbrev S8320x1024 : Shape := ⟨2, ![8320, 1024]⟩
abbrev S1024x2816 : Shape := ⟨2, ![1024, 2816]⟩
abbrev S1664x1408 : Shape := ⟨2, ![1664, 1408]⟩
abbrev S1024x1408 : Shape := ⟨2, ![1024, 1408]⟩
abbrev S1664x1024 : Shape := ⟨2, ![1664, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S1024x5632, .f32⟩
  | .hbm, ⟨2, _⟩ => ⟨S8320x1024, .f32⟩
  | .hbm, ⟨3, _⟩ => ⟨S1024x5632, .bf16⟩
  | .hbm, ⟨4, _⟩ => ⟨S1024x2816, .bf16⟩
  | .hbm, ⟨5, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | .local _ .vmem, ⟨7, _⟩ => ⟨S1664x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDU2vIdeal.lean ====
abbrev S8320x2816 : Shape := ⟨2, ![8320, 2816]⟩
abbrev S1024x5632 : Shape := ⟨2, ![1024, 5632]⟩
abbrev S8320x1024 : Shape := ⟨2, ![8320, 1024]⟩
abbrev S1024x2816 : Shape := ⟨2, ![1024, 2816]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x5632, .f32⟩
  | .hbm, ⟨2, _⟩ => ⟨S8320x1024, .f32⟩
  | .hbm, ⟨3, _⟩ => ⟨S1024x2816, .f32⟩
  | .hbm, ⟨4, _⟩ => ⟨S8320x2816, .f32⟩
  | .hbm, ⟨5, _⟩ => ⟨S_, .f32⟩
  | .hbm, ⟨6, _⟩ => ⟨S8320x1024, .f32⟩
  | .hbm, ⟨7, _⟩ => ⟨S8320x2816, .f32⟩
  | .hbm, ⟨8, _⟩ => ⟨S8320x1024, .f32⟩
  | .hbm, ⟨9, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDAct.lean ====
abbrev S8320x1024 : Shape := ⟨2, ![8320, 1024]⟩
abbrev S2816x1024 : Shape := ⟨2, ![2816, 1024]⟩
abbrev S8320x2816 : Shape := ⟨2, ![8320, 2816]⟩
abbrev S1664x1024 : Shape := ⟨2, ![1664, 1024]⟩
abbrev S1408x1024 : Shape := ⟨2, ![1408, 1024]⟩
abbrev S1664x1408 : Shape := ⟨2, ![1664, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S2816x1024, .f32⟩
  | .hbm, ⟨2, _⟩ => ⟨S2816x1024, .bf16⟩
  | .hbm, ⟨3, _⟩ => ⟨S8320x2816, .f32⟩
  | .local _ .vmem, ⟨0, _⟩ => ⟨S1664x1024, .f32⟩
  | .local _ .vmem, ⟨1, _⟩ => ⟨S1664x1024, .f32⟩
  | .local _ .vmem, ⟨2, _⟩ => ⟨S1408x1024, .bf16⟩
  | .local _ .vmem, ⟨3, _⟩ => ⟨S1408x1024, .bf16⟩
  | .local _ .vmem, ⟨4, _⟩ => ⟨S1664x1408, .f32⟩
  | .local _ .vmem, ⟨5, _⟩ => ⟨S1664x1408, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDActIdeal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S2816x1024, .f32⟩
  | .hbm, ⟨2, _⟩ => ⟨S_, .f32⟩
  | .hbm, ⟨3, _⟩ => ⟨S8320x2816, .f32⟩
  | .hbm, ⟨4, _⟩ => ⟨S8320x1024, .f32⟩
  | .hbm, ⟨5, _⟩ => ⟨S8320x2816, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelGDown.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S2816x1024, .f32⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .f32⟩
  | .local _ .vmem, ⟨5, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGDownIdeal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S8320x2816, .f32⟩
  | .hbm, ⟨3, _⟩ => ⟨S_, .f32⟩
  | .hbm, ⟨4, _⟩ => ⟨S2816x1024, .f32⟩
  | .hbm, ⟨5, _⟩ => ⟨S8320x1024, .f32⟩
  | .hbm, ⟨6, _⟩ => ⟨S1024x2816, .f32⟩
  | .hbm, ⟨7, _⟩ => ⟨S2816x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDY.lean ====
abbrev S8320x1024 : Shape := ⟨2, ![8320, 1024]⟩
abbrev S2048x1024 : Shape := ⟨2, ![2048, 1024]⟩
abbrev S8320x2048 : Shape := ⟨2, ![8320, 2048]⟩
abbrev S1664x1024 : Shape := ⟨2, ![1664, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .f32⟩
  | .hbm, ⟨2, _⟩ => ⟨S2048x1024, .bf16⟩
  | .hbm, ⟨3, _⟩ => ⟨S8320x2048, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .f32⟩
  | .local _ .vmem, ⟨5, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDYIdeal.lean ====
abbrev S8320x1024 : Shape := ⟨2, ![8320, 1024]⟩
abbrev S2048x1024 : Shape := ⟨2, ![2048, 1024]⟩
abbrev S_ : Shape := ⟨0, ![]⟩
abbrev S8320x2048 : Shape := ⟨2, ![8320, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2048x1024, .f32⟩
  | .hbm, ⟨2, _⟩ => ⟨S8320x1024, .f32⟩
  | .hbm, ⟨3, _⟩ => ⟨S_, .f32⟩
  | .hbm, ⟨4, _⟩ => ⟨S8320x2048, .f32⟩
  | .hbm, ⟨5, _⟩ => ⟨S8320x1024, .f32⟩
  | .hbm, ⟨6, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGBranch.lean ====
abbrev S8320x2048 : Shape := ⟨2, ![8320, 2048]⟩
abbrev S8320x1024 : Shape := ⟨2, ![8320, 1024]⟩
abbrev S2048x1024 : Shape := ⟨2, ![2048, 1024]⟩
abbrev S1664x1024 : Shape := ⟨2, ![1664, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S2048x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGBranchIdeal.lean ====
abbrev S8320x2048 : Shape := ⟨2, ![8320, 2048]⟩
abbrev S8320x1024 : Shape := ⟨2, ![8320, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x1024, .bf16⟩
  | .hbm, ⟨2, _⟩ => ⟨S8320x2048, .f32⟩
  | .hbm, ⟨3, _⟩ => ⟨S8320x1024, .f32⟩
  | .hbm, ⟨4, _⟩ => ⟨S_, .f32⟩
  | .hbm, ⟨5, _⟩ => ⟨S2048x1024, .f32⟩
  | .hbm, ⟨6, _⟩ => ⟨S8320x1024, .f32⟩
  | .hbm, ⟨7, _⟩ => ⟨S1024x2048, .f32⟩
  | .hbm, ⟨8, _⟩ => ⟨S2048x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDMerged.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S1024x1024, .bf16⟩
  | .hbm, ⟨3, _⟩ => ⟨S8320x1024, .f32⟩
  | .local _ .vmem, ⟨0, _⟩ => ⟨S1664x1024, .f32⟩
  | .local _ .vmem, ⟨1, _⟩ => ⟨S1664x1024, .f32⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDMergedIdeal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S_, .f32⟩
  | .hbm, ⟨3, _⟩ => ⟨S8320x1024, .f32⟩
  | .hbm, ⟨4, _⟩ => ⟨S8320x1024, .f32⟩
  | .hbm, ⟨5, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelGOut.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1024x1024, .f32⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceGOutIdeal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S8320x1024, .f32⟩
  | .hbm, ⟨3, _⟩ => ⟨S_, .f32⟩
  | .hbm, ⟨4, _⟩ => ⟨S1024x1024, .f32⟩
  | .hbm, ⟨5, _⟩ => ⟨S8320x1024, .f32⟩
  | .hbm, ⟨6, _⟩ => ⟨S1024x1024, .f32⟩
  | .hbm, ⟨7, _⟩ => ⟨S1024x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelGate.lean ====
abbrev S8320x1024 : Shape := ⟨2, ![8320, 1024]⟩
abbrev S8320x2048 : Shape := ⟨2, ![8320, 2048]⟩
abbrev S640x1024 : Shape := ⟨2, ![640, 1024]⟩
abbrev S640x2048 : Shape := ⟨2, ![640, 2048]⟩

abbrev nBuf : Space → Nat
  | .hbm => 7
  | .vmem => 16
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x2048, .f32⟩
  | .hbm, ⟨4, _⟩ => ⟨S8320x1024, .bf16⟩
  | .hbm, ⟨5, _⟩ => ⟨S8320x1024, .bf16⟩
  | .hbm, ⟨6, _⟩ => ⟨S8320x2048, .bf16⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | .local _ .vmem, ⟨12, _⟩ => ⟨S640x1024, .bf16⟩
  | .local _ .vmem, ⟨13, _⟩ => ⟨S640x1024, .bf16⟩
  | .local _ .vmem, ⟨14, _⟩ => ⟨S640x2048, .bf16⟩
  | .local _ .vmem, ⟨15, _⟩ => ⟨S640x2048, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceGateIdeal.lean ====
abbrev S8320x1024 : Shape := ⟨2, ![8320, 1024]⟩
abbrev S8320x2048 : Shape := ⟨2, ![8320, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x2048, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S_, .f32⟩
  | .hbm, ⟨9, _⟩ => ⟨S8320x1024, .f32⟩
  | .hbm, ⟨10, _⟩ => ⟨S8320x1024, .f32⟩
  | .hbm, ⟨11, _⟩ => ⟨S_, .f32⟩
  | .hbm, ⟨12, _⟩ => ⟨S8320x1024, .f32⟩
  | .hbm, ⟨13, _⟩ => ⟨S8320x1024, .f32⟩
  | .hbm, ⟨14, _⟩ => ⟨S_, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S_, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S8320x1024, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x2048, .f32⟩
  | .hbm, ⟨42, _⟩ => ⟨S8320x1024, .bf16⟩
  | .hbm, ⟨43, _⟩ => ⟨S8320x1024, .bf16⟩
  | .hbm, ⟨44, _⟩ => ⟨S8320x2048, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== KernelProj.lean ====
abbrev S8320x1024 : Shape := ⟨2, ![8320, 1024]⟩
abbrev S1024x13344 : Shape := ⟨2, ![1024, 13344]⟩
abbrev S1024x2048 : Shape := ⟨2, ![1024, 2048]⟩
abbrev S1024x3072 : Shape := ⟨2, ![1024, 3072]⟩
abbrev S1024x1024 : Shape := ⟨2, ![1024, 1024]⟩
abbrev S1024x32 : Shape := ⟨2, ![1024, 32]⟩
abbrev S_ : Shape := ⟨0, ![]⟩
abbrev S1024x96 : Shape := ⟨2, ![1024, 96]⟩
abbrev S1024x13440 : Shape := ⟨2, ![1024, 13440]⟩
abbrev S8320x13440 : Shape := ⟨2, ![8320, 13440]⟩
abbrev S1664x1024 : Shape := ⟨2, ![1664, 1024]⟩
abbrev S1024x1920 : Shape := ⟨2, ![1024, 1920]⟩
abbrev S1664x1920 : Shape := ⟨2, ![1664, 1920]⟩

abbrev nBuf : Space → Nat
  | .hbm => 16
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x13344, .f32⟩
  | .hbm, ⟨2, _⟩ => ⟨S1024x13344, .bf16⟩
  | .hbm, ⟨3, _⟩ => ⟨S1024x2048, .bf16⟩
  | .hbm, ⟨4, _⟩ => ⟨S1024x2048, .bf16⟩
  | .hbm, ⟨5, _⟩ => ⟨S1024x2048, .bf16⟩
  | .hbm, ⟨6, _⟩ => ⟨S1024x3072, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x32, .bf16⟩
  | .hbm, ⟨12, _⟩ => ⟨S_, .bf16⟩
  | .hbm, ⟨13, _⟩ => ⟨S1024x96, .bf16⟩
  | .hbm, ⟨14, _⟩ => ⟨S1024x13440, .bf16⟩
  | .hbm, ⟨15, _⟩ => ⟨S8320x13440, .f32⟩
  | .local _ .vmem, ⟨0, _⟩ => ⟨S1664x1024, .bf16⟩
  | .local _ .vmem, ⟨1, _⟩ => ⟨S1664x1024, .bf16⟩
  | .local _ .vmem, ⟨2, _⟩ => ⟨S1024x1920, .bf16⟩
  | .local _ .vmem, ⟨3, _⟩ => ⟨S1024x1920, .bf16⟩
  | .local _ .vmem, ⟨4, _⟩ => ⟨S1664x1920, .f32⟩
  | .local _ .vmem, ⟨5, _⟩ => ⟨S1664x1920, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S8320x1024 : Shape := ⟨2, ![8320, 1024]⟩
abbrev S1024x13344 : Shape := ⟨2, ![1024, 13344]⟩
abbrev S8320x13344 : Shape := ⟨2, ![8320, 13344]⟩
abbrev S8320x2048 : Shape := ⟨2, ![8320, 2048]⟩
abbrev S8320x3072 : Shape := ⟨2, ![8320, 3072]⟩
abbrev S8320x32 : Shape := ⟨2, ![8320, 32]⟩
abbrev S_ : Shape := ⟨0, ![]⟩
abbrev S8320x96 : Shape := ⟨2, ![8320, 96]⟩
abbrev S8320x13440 : Shape := ⟨2, ![8320, 13440]⟩

abbrev nBuf : Space → Nat
  | .hbm => 16
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x13344, .f32⟩
  | .hbm, ⟨2, _⟩ => ⟨S8320x1024, .f32⟩
  | .hbm, ⟨3, _⟩ => ⟨S8320x13344, .f32⟩
  | .hbm, ⟨4, _⟩ => ⟨S8320x2048, .f32⟩
  | .hbm, ⟨5, _⟩ => ⟨S8320x3072, .f32⟩
  | .hbm, ⟨6, _⟩ => ⟨S8320x32, .f32⟩
  | .hbm, ⟨7, _⟩ => ⟨S8320x1024, .f32⟩
  | .hbm, ⟨8, _⟩ => ⟨S8320x1024, .f32⟩
  | .hbm, ⟨9, _⟩ => ⟨S8320x2048, .f32⟩
  | .hbm, ⟨10, _⟩ => ⟨S8320x2048, .f32⟩
  | .hbm, ⟨11, _⟩ => ⟨S8320x1024, .f32⟩
  | .hbm, ⟨12, _⟩ => ⟨S8320x1024, .f32⟩
  | .hbm, ⟨13, _⟩ => ⟨S_, .f32⟩
  | .hbm, ⟨14, _⟩ => ⟨S8320x96, .f32⟩
  | .hbm, ⟨15, _⟩ => ⟨S8320x13440, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== KernelBranch.lean ====
abbrev S8320x2048 : Shape := ⟨2, ![8320, 2048]⟩
abbrev S2048x1024 : Shape := ⟨2, ![2048, 1024]⟩
abbrev S8320x1024 : Shape := ⟨2, ![8320, 1024]⟩
abbrev S1664x1024 : Shape := ⟨2, ![1664, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .f32⟩
  | .hbm, ⟨2, _⟩ => ⟨S2048x1024, .bf16⟩
  | .hbm, ⟨3, _⟩ => ⟨S8320x1024, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1664x1024, .f32⟩
  | .local _ .vmem, ⟨5, _⟩ => ⟨S1664x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchIdeal.lean ====
abbrev S8320x2048 : Shape := ⟨2, ![8320, 2048]⟩
abbrev S2048x1024 : Shape := ⟨2, ![2048, 1024]⟩
abbrev S8320x1024 : Shape := ⟨2, ![8320, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2048x1024, .f32⟩
  | .hbm, ⟨2, _⟩ => ⟨S8320x2048, .f32⟩
  | .hbm, ⟨3, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOutProj.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .f32⟩
  | .hbm, ⟨2, _⟩ => ⟨S8320x1024, .f32⟩
  | .hbm, ⟨3, _⟩ => ⟨S1024x1024, .bf16⟩
  | .hbm, ⟨4, _⟩ => ⟨S8320x1024, .f32⟩
  | .local _ .vmem, ⟨0, _⟩ => ⟨S1664x1024, .bf16⟩
  | .local _ .vmem, ⟨1, _⟩ => ⟨S1664x1024, .bf16⟩
  | .local _ .vmem, ⟨2, _⟩ => ⟨S1024x1024, .bf16⟩
  | .local _ .vmem, ⟨3, _⟩ => ⟨S1664x1024, .f32⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutProjIdeal.lean ====
abbrev S8320x1024 : Shape := ⟨2, ![8320, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelUp.lean ====
abbrev S8320x1024 : Shape := ⟨2, ![8320, 1024]⟩
abbrev S1024x5632 : Shape := ⟨2, ![1024, 5632]⟩
abbrev S8320x5632 : Shape := ⟨2, ![8320, 5632]⟩
abbrev S1664x1024 : Shape := ⟨2, ![1664, 1024]⟩
abbrev S1024x1408 : Shape := ⟨2, ![1024, 1408]⟩
abbrev S1664x1408 : Shape := ⟨2, ![1664, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .f32⟩
  | .hbm, ⟨2, _⟩ => ⟨S1024x5632, .bf16⟩
  | .hbm, ⟨3, _⟩ => ⟨S8320x5632, .f32⟩
  | .local _ .vmem, ⟨0, _⟩ => ⟨S1664x1024, .bf16⟩
  | .local _ .vmem, ⟨1, _⟩ => ⟨S1664x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1664x1408, .f32⟩
  | .local _ .vmem, ⟨5, _⟩ => ⟨S1664x1408, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8320x1024 : Shape := ⟨2, ![8320, 1024]⟩
abbrev S1024x5632 : Shape := ⟨2, ![1024, 5632]⟩
abbrev S8320x5632 : Shape := ⟨2, ![8320, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x5632, .f32⟩
  | .hbm, ⟨2, _⟩ => ⟨S8320x1024, .f32⟩
  | .hbm, ⟨3, _⟩ => ⟨S8320x5632, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelDown.lean ====
abbrev S8320x2816 : Shape := ⟨2, ![8320, 2816]⟩
abbrev S2816x1024 : Shape := ⟨2, ![2816, 1024]⟩
abbrev S8320x1024 : Shape := ⟨2, ![8320, 1024]⟩
abbrev S1664x1408 : Shape := ⟨2, ![1664, 1408]⟩
abbrev S1408x1024 : Shape := ⟨2, ![1408, 1024]⟩
abbrev S1664x1024 : Shape := ⟨2, ![1664, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .f32⟩
  | .hbm, ⟨2, _⟩ => ⟨S8320x1024, .f32⟩
  | .hbm, ⟨3, _⟩ => ⟨S2816x1024, .bf16⟩
  | .hbm, ⟨4, _⟩ => ⟨S8320x1024, .f32⟩
  | .local _ .vmem, ⟨0, _⟩ => ⟨S1664x1408, .bf16⟩
  | .local _ .vmem, ⟨1, _⟩ => ⟨S1664x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1664x1024, .f32⟩
  | .local _ .vmem, ⟨5, _⟩ => ⟨S1664x1024, .f32⟩
  | .local _ .vmem, ⟨6, _⟩ => ⟨S1664x1024, .f32⟩
  | .local _ .vmem, ⟨7, _⟩ => ⟨S1664x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![5, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1664x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1664x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .f32⟩
  | .hbm, ⟨2, _⟩ => ⟨S8320x1024, .f32⟩
  | .hbm, ⟨3, _⟩ => ⟨S8320x2816, .f32⟩
  | .hbm, ⟨4, _⟩ => ⟨S8320x1024, .f32⟩
  | .hbm, ⟨5, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelGateF.lean ====
abbrev S8320x1024 : Shape := ⟨2, ![8320, 1024]⟩
abbrev S8320x2048 : Shape := ⟨2, ![8320, 2048]⟩
abbrev S640x1024 : Shape := ⟨2, ![640, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x2048, .f32⟩
  | .hbm, ⟨3, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .bf16⟩
  | .local _ .vmem, ⟨9, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceGateFIdeal.lean ====
abbrev S8320x1024 : Shape := ⟨2, ![8320, 1024]⟩
abbrev S8320x2048 : Shape := ⟨2, ![8320, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x2048, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S_, .f32⟩
  | .hbm, ⟨8, _⟩ => ⟨S8320x1024, .f32⟩
  | .hbm, ⟨9, _⟩ => ⟨S8320x1024, .f32⟩
  | .hbm, ⟨10, _⟩ => ⟨S_, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S_, .f32⟩
  | .hbm, ⟨17, _⟩ => ⟨S8320x1024, .f32⟩
  | .hbm, ⟨18, _⟩ => ⟨S8320x1024, .f32⟩
  | .hbm, ⟨19, _⟩ => ⟨S_, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelRmsF.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRmsFIdeal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩

abbrev nBuf : Space → Nat
  | .hbm => 18
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelRms.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceRmsIdeal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S8320x1024, .f32⟩
  | .hbm, ⟨34, _⟩ => ⟨S8320x1024, .f32⟩
  | .hbm, ⟨35, _⟩ => ⟨S8320x1, .f32⟩
  | .hbm, ⟨36, _⟩ => ⟨S_, .f32⟩
  | .hbm, ⟨37, _⟩ => ⟨S8320x1, .f32⟩
  | .hbm, ⟨38, _⟩ => ⟨S8320x1, .f32⟩
  | .hbm, ⟨39, _⟩ => ⟨S_, .f32⟩
  | .hbm, ⟨40, _⟩ => ⟨S8320, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== KernelAdamIn.lean ====
abbrev S1 : Shape := ⟨1, ![1]⟩
abbrev S1024x3336 : Shape := ⟨2, ![1024, 3336]⟩
abbrev S512x3336 : Shape := ⟨2, ![512, 3336]⟩
abbrev S128x3336 : Shape := ⟨2, ![128, 3336]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S1024x3336, .f32⟩
  | .hbm, ⟨2, _⟩ => ⟨S512x3336, .f32⟩
  | .hbm, ⟨3, _⟩ => ⟨S512x3336, .f32⟩
  | .hbm, ⟨4, _⟩ => ⟨S1024x3336, .f32⟩
  | .hbm, ⟨5, _⟩ => ⟨S1024x3336, .f32⟩
  | .hbm, ⟨6, _⟩ => ⟨S1024x3336, .f32⟩
  | .hbm, ⟨7, _⟩ => ⟨S1024x3336, .f32⟩
  | .hbm, ⟨8, _⟩ => ⟨S1024x3336, .f32⟩
  | .hbm, ⟨9, _⟩ => ⟨S1024x3336, .f32⟩
  | .local _ .vmem, ⟨0, _⟩ => ⟨S128x3336, .f32⟩
  | .local _ .vmem, ⟨1, _⟩ => ⟨S128x3336, .f32⟩
  | .local _ .vmem, ⟨2, _⟩ => ⟨S128x3336, .f32⟩
  | .local _ .vmem, ⟨3, _⟩ => ⟨S128x3336, .f32⟩
  | .local _ .vmem, ⟨4, _⟩ => ⟨S128x3336, .f32⟩
  | .local _ .vmem, ⟨5, _⟩ => ⟨S128x3336, .f32⟩
  | .local _ .vmem, ⟨6, _⟩ => ⟨S128x3336, .f32⟩
  | .local _ .vmem, ⟨7, _⟩ => ⟨S128x3336, .f32⟩
  | .local _ .vmem, ⟨8, _⟩ => ⟨S128x3336, .f32⟩
  | .local _ .vmem, ⟨9, _⟩ => ⟨S128x3336, .f32⟩
  | .local _ .vmem, ⟨10, _⟩ => ⟨S128x3336, .f32⟩
  | .local _ .vmem, ⟨11, _⟩ => ⟨S128x3336, .f32⟩
  | .local _ .vmem, ⟨12, _⟩ => ⟨S128x3336, .f32⟩
  | .local _ .vmem, ⟨13, _⟩ => ⟨S128x3336, .f32⟩
  | .local _ .vmem, ⟨14, _⟩ => ⟨S128x3336, .f32⟩
  | .local _ .vmem, ⟨15, _⟩ => ⟨S128x3336, .f32⟩
  | .local _ .vmem, ⟨16, _⟩ => ⟨S128x3336, .f32⟩
  | .local _ .vmem, ⟨17, _⟩ => ⟨S128x3336, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3336 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3336 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3336 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3336 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3336 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3336 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3336 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3336 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3336 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelAdamInIdeal.lean ====
abbrev S1 : Shape := ⟨1, ![1]⟩
abbrev S1024x3336 : Shape := ⟨2, ![1024, 3336]⟩
abbrev S512x3336 : Shape := ⟨2, ![512, 3336]⟩
abbrev S128x3336 : Shape := ⟨2, ![128, 3336]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S1024x3336, .f32⟩
  | .hbm, ⟨2, _⟩ => ⟨S512x3336, .f32⟩
  | .hbm, ⟨3, _⟩ => ⟨S512x3336, .f32⟩
  | .hbm, ⟨4, _⟩ => ⟨S1024x3336, .f32⟩
  | .hbm, ⟨5, _⟩ => ⟨S1024x3336, .f32⟩
  | .hbm, ⟨6, _⟩ => ⟨S1024x3336, .f32⟩
  | .hbm, ⟨7, _⟩ => ⟨S1024x3336, .f32⟩
  | .hbm, ⟨8, _⟩ => ⟨S1024x3336, .f32⟩
  | .hbm, ⟨9, _⟩ => ⟨S1024x3336, .f32⟩
  | .local _ .vmem, ⟨0, _⟩ => ⟨S128x3336, .f32⟩
  | .local _ .vmem, ⟨1, _⟩ => ⟨S128x3336, .f32⟩
  | .local _ .vmem, ⟨2, _⟩ => ⟨S128x3336, .f32⟩
  | .local _ .vmem, ⟨3, _⟩ => ⟨S128x3336, .f32⟩
  | .local _ .vmem, ⟨4, _⟩ => ⟨S128x3336, .f32⟩
  | .local _ .vmem, ⟨5, _⟩ => ⟨S128x3336, .f32⟩
  | .local _ .vmem, ⟨6, _⟩ => ⟨S128x3336, .f32⟩
  | .local _ .vmem, ⟨7, _⟩ => ⟨S128x3336, .f32⟩
  | .local _ .vmem, ⟨8, _⟩ => ⟨S128x3336, .f32⟩
  | .local _ .vmem, ⟨9, _⟩ => ⟨S128x3336, .f32⟩
  | .local _ .vmem, ⟨10, _⟩ => ⟨S128x3336, .f32⟩
  | .local _ .vmem, ⟨11, _⟩ => ⟨S128x3336, .f32⟩
  | .local _ .vmem, ⟨12, _⟩ => ⟨S128x3336, .f32⟩
  | .local _ .vmem, ⟨13, _⟩ => ⟨S128x3336, .f32⟩
  | .local _ .vmem, ⟨14, _⟩ => ⟨S128x3336, .f32⟩
  | .local _ .vmem, ⟨15, _⟩ => ⟨S128x3336, .f32⟩
  | .local _ .vmem, ⟨16, _⟩ => ⟨S128x3336, .f32⟩
  | .local _ .vmem, ⟨17, _⟩ => ⟨S128x3336, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x3336 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3336 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3336 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3336 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3336 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3336 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3336 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3336 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3336 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceAdamInIdeal.lean ====
abbrev S1 : Shape := ⟨1, ![1]⟩
abbrev S1024x3336 : Shape := ⟨2, ![1024, 3336]⟩
abbrev S512x3336 : Shape := ⟨2, ![512, 3336]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x3336, .f32⟩
  | .hbm, ⟨2, _⟩ => ⟨S512x3336, .f32⟩
  | .hbm, ⟨3, _⟩ => ⟨S512x3336, .f32⟩
  | .hbm, ⟨4, _⟩ => ⟨S1024x3336, .f32⟩
  | .hbm, ⟨5, _⟩ => ⟨S1024x3336, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x3336, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x3336, .f32⟩
  | .hbm, ⟨14, _⟩ => ⟨S1024x3336, .f32⟩
  | .hbm, ⟨15, _⟩ => ⟨S_, .f32⟩
  | .hbm, ⟨16, _⟩ => ⟨S1024x3336, .f32⟩
  | .hbm, ⟨17, _⟩ => ⟨S1024x3336, .f32⟩
  | .hbm, ⟨18, _⟩ => ⟨S_, .f32⟩
  | .hbm, ⟨19, _⟩ => ⟨S1024x3336, .f32⟩
  | .hbm, ⟨20, _⟩ => ⟨S1024x3336, .f32⟩
  | .hbm, ⟨21, _⟩ => ⟨S1024x3336, .f32⟩
  | .hbm, ⟨22, _⟩ => ⟨S_, .f32⟩
  | .hbm, ⟨23, _⟩ => ⟨S1024x3336, .f32⟩
  | .hbm, ⟨24, _⟩ => ⟨S1024x3336, .f32⟩
  | .hbm, ⟨25, _⟩ => ⟨S1024x3336, .f32⟩
  | .hbm, ⟨26, _⟩ => ⟨S_, .f32⟩
  | .hbm, ⟨27, _⟩ => ⟨S1024x3336, .f32⟩
  | .hbm, ⟨28, _⟩ => ⟨S1024x3336, .f32⟩
  | .hbm, ⟨29, _⟩ => ⟨S1024x3336, .f32⟩
  | .hbm, ⟨30, _⟩ => ⟨S_, .f32⟩
  | .hbm, ⟨31, _⟩ => ⟨S1024x3336, .f32⟩
  | .hbm, ⟨32, _⟩ => ⟨S1024x3336, .f32⟩
  | .hbm, ⟨33, _⟩ => ⟨S_, .f32⟩
  | .hbm, ⟨34, _⟩ => ⟨S1024x3336, .f32⟩
  | .hbm, ⟨35, _⟩ => ⟨S1024x3336, .f32⟩
  | .hbm, ⟨36, _⟩ => ⟨S1024x3336, .f32⟩
  | .hbm, ⟨37, _⟩ => ⟨S_, .f32⟩
  | .hbm, ⟨38, _⟩ => ⟨S1024x3336, .f32⟩
  | .hbm, ⟨39, _⟩ => ⟨S1024x3336, .f32⟩
  | .hbm, ⟨40, _⟩ => ⟨S1024x3336, .f32⟩
  | .hbm, ⟨41, _⟩ => ⟨S_, .f32⟩
  | .hbm, ⟨42, _⟩ => ⟨S1024x3336, .f32⟩
  | .hbm, ⟨43, _⟩ => ⟨S1024x3336, .f32⟩
  | .hbm, ⟨44, _⟩ => ⟨S1024x3336, .f32⟩
  | .hbm, ⟨45, _⟩ => ⟨S_, .f32⟩
  | .hbm, ⟨46, _⟩ => ⟨S1024x3336, .f32⟩
  | .hbm, ⟨47, _⟩ => ⟨S1024x3336, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdamBranch.lean ====
abbrev S1 : Shape := ⟨1, ![1]⟩
abbrev S512x1024 : Shape := ⟨2, ![512, 1024]⟩
abbrev S256x1024 : Shape := ⟨2, ![256, 1024]⟩
abbrev S128x1024 : Shape := ⟨2, ![128, 1024]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S512x1024, .f32⟩
  | .hbm, ⟨2, _⟩ => ⟨S256x1024, .f32⟩
  | .hbm, ⟨3, _⟩ => ⟨S256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelAdamBranchIdeal.lean ====
abbrev S1 : Shape := ⟨1, ![1]⟩
abbrev S512x1024 : Shape := ⟨2, ![512, 1024]⟩
abbrev S256x1024 : Shape := ⟨2, ![256, 1024]⟩
abbrev S128x1024 : Shape := ⟨2, ![128, 1024]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S512x1024, .f32⟩
  | .hbm, ⟨2, _⟩ => ⟨S256x1024, .f32⟩
  | .hbm, ⟨3, _⟩ => ⟨S256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceAdamBranchIdeal.lean ====
abbrev S1 : Shape := ⟨1, ![1]⟩
abbrev S512x1024 : Shape := ⟨2, ![512, 1024]⟩
abbrev S256x1024 : Shape := ⟨2, ![256, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x1024, .f32⟩
  | .hbm, ⟨2, _⟩ => ⟨S256x1024, .f32⟩
  | .hbm, ⟨3, _⟩ => ⟨S256x1024, .f32⟩
  | .hbm, ⟨4, _⟩ => ⟨S512x1024, .f32⟩
  | .hbm, ⟨5, _⟩ => ⟨S512x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S256x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S256x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512x1024, .f32⟩
  | .hbm, ⟨43, _⟩ => ⟨S512x1024, .f32⟩
  | .hbm, ⟨44, _⟩ => ⟨S512x1024, .f32⟩
  | .hbm, ⟨45, _⟩ => ⟨S_, .f32⟩
  | .hbm, ⟨46, _⟩ => ⟨S512x1024, .f32⟩
  | .hbm, ⟨47, _⟩ => ⟨S512x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdamOut.lean ====
abbrev S1 : Shape := ⟨1, ![1]⟩
abbrev S256x1024 : Shape := ⟨2, ![256, 1024]⟩
abbrev S128x1024 : Shape := ⟨2, ![128, 1024]⟩

abbrev nBuf : Space → Nat
  | .hbm => 10
  | .vmem => 16
  | .smem => 1
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelAdamOutIdeal.lean ====
abbrev S1 : Shape := ⟨1, ![1]⟩
abbrev S256x1024 : Shape := ⟨2, ![256, 1024]⟩
abbrev S128x1024 : Shape := ⟨2, ![128, 1024]⟩

abbrev nBuf : Space → Nat
  | .hbm => 10
  | .vmem => 16
  | .smem => 1
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceAdamOutIdeal.lean ====
abbrev S1 : Shape := ⟨1, ![1]⟩
abbrev S256x1024 : Shape := ⟨2, ![256, 1024]⟩
abbrev S128x1024 : Shape := ⟨2, ![128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S256x1024, .f32⟩
  | .hbm, ⟨2, _⟩ => ⟨S128x1024, .f32⟩
  | .hbm, ⟨3, _⟩ => ⟨S128x1024, .f32⟩
  | .hbm, ⟨4, _⟩ => ⟨S256x1024, .f32⟩
  | .hbm, ⟨5, _⟩ => ⟨S256x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S128x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S128x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S256x1024, .f32⟩
  | .hbm, ⟨47, _⟩ => ⟨S256x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdamUp.lean ====
abbrev S1 : Shape := ⟨1, ![1]⟩
abbrev S1024x1408 : Shape := ⟨2, ![1024, 1408]⟩
abbrev S512x1408 : Shape := ⟨2, ![512, 1408]⟩
abbrev S128x1408 : Shape := ⟨2, ![128, 1408]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S1024x1408, .f32⟩
  | .hbm, ⟨2, _⟩ => ⟨S512x1408, .f32⟩
  | .hbm, ⟨3, _⟩ => ⟨S512x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelAdamUpIdeal.lean ====
abbrev S1 : Shape := ⟨1, ![1]⟩
abbrev S1024x1408 : Shape := ⟨2, ![1024, 1408]⟩
abbrev S512x1408 : Shape := ⟨2, ![512, 1408]⟩
abbrev S128x1408 : Shape := ⟨2, ![128, 1408]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S1024x1408, .f32⟩
  | .hbm, ⟨2, _⟩ => ⟨S512x1408, .f32⟩
  | .hbm, ⟨3, _⟩ => ⟨S512x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | .local _ .vmem, ⟨17, _⟩ => ⟨S128x1408, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceAdamUpIdeal.lean ====
abbrev S1 : Shape := ⟨1, ![1]⟩
abbrev S1024x1408 : Shape := ⟨2, ![1024, 1408]⟩
abbrev S512x1408 : Shape := ⟨2, ![512, 1408]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1408, .f32⟩
  | .hbm, ⟨2, _⟩ => ⟨S512x1408, .f32⟩
  | .hbm, ⟨3, _⟩ => ⟨S512x1408, .f32⟩
  | .hbm, ⟨4, _⟩ => ⟨S1024x1408, .f32⟩
  | .hbm, ⟨5, _⟩ => ⟨S1024x1408, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x1408, .f32⟩
  | .hbm, ⟨14, _⟩ => ⟨S1024x1408, .f32⟩
  | .hbm, ⟨15, _⟩ => ⟨S_, .f32⟩
  | .hbm, ⟨16, _⟩ => ⟨S1024x1408, .f32⟩
  | .hbm, ⟨17, _⟩ => ⟨S1024x1408, .f32⟩
  | .hbm, ⟨18, _⟩ => ⟨S_, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S_, .f32⟩
  | .hbm, ⟨23, _⟩ => ⟨S1024x1408, .f32⟩
  | .hbm, ⟨24, _⟩ => ⟨S1024x1408, .f32⟩
  | .hbm, ⟨25, _⟩ => ⟨S1024x1408, .f32⟩
  | .hbm, ⟨26, _⟩ => ⟨S_, .f32⟩
  | .hbm, ⟨27, _⟩ => ⟨S1024x1408, .f32⟩
  | .hbm, ⟨28, _⟩ => ⟨S1024x1408, .f32⟩
  | .hbm, ⟨29, _⟩ => ⟨S1024x1408, .f32⟩
  | .hbm, ⟨30, _⟩ => ⟨S_, .f32⟩
  | .hbm, ⟨31, _⟩ => ⟨S1024x1408, .f32⟩
  | .hbm, ⟨32, _⟩ => ⟨S1024x1408, .f32⟩
  | .hbm, ⟨33, _⟩ => ⟨S_, .f32⟩
  | .hbm, ⟨34, _⟩ => ⟨S1024x1408, .f32⟩
  | .hbm, ⟨35, _⟩ => ⟨S1024x1408, .f32⟩
  | .hbm, ⟨36, _⟩ => ⟨S1024x1408, .f32⟩
  | .hbm, ⟨37, _⟩ => ⟨S_, .f32⟩
  | .hbm, ⟨38, _⟩ => ⟨S1024x1408, .f32⟩
  | .hbm, ⟨39, _⟩ => ⟨S1024x1408, .f32⟩
  | .hbm, ⟨40, _⟩ => ⟨S1024x1408, .f32⟩
  | .hbm, ⟨41, _⟩ => ⟨S_, .f32⟩
  | .hbm, ⟨42, _⟩ => ⟨S1024x1408, .f32⟩
  | .hbm, ⟨43, _⟩ => ⟨S1024x1408, .f32⟩
  | .hbm, ⟨44, _⟩ => ⟨S1024x1408, .f32⟩
  | .hbm, ⟨45, _⟩ => ⟨S_, .f32⟩
  | .hbm, ⟨46, _⟩ => ⟨S1024x1408, .f32⟩
  | .hbm, ⟨47, _⟩ => ⟨S1024x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdamDown.lean ====
abbrev S1 : Shape := ⟨1, ![1]⟩
abbrev S704x1024 : Shape := ⟨2, ![704, 1024]⟩
abbrev S352x1024 : Shape := ⟨2, ![352, 1024]⟩
abbrev S176x1024 : Shape := ⟨2, ![176, 1024]⟩

abbrev nBuf : Space → Nat
  | .hbm => 10
  | .vmem => 18
  | .smem => 1
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S352x1024, .f32⟩
  | .hbm, ⟨3, _⟩ => ⟨S352x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceAdamDownIdeal.lean ====
abbrev S1 : Shape := ⟨1, ![1]⟩
abbrev S704x1024 : Shape := ⟨2, ![704, 1024]⟩
abbrev S352x1024 : Shape := ⟨2, ![352, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S352x1024, .f32⟩
  | .hbm, ⟨3, _⟩ => ⟨S352x1024, .f32⟩
  | .hbm, ⟨4, _⟩ => ⟨S704x1024, .f32⟩
  | .hbm, ⟨5, _⟩ => ⟨S704x1024, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S352x1024, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S352x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | .hbm, ⟨40, _⟩ => ⟨S704x1024, .f32⟩
  | .hbm, ⟨41, _⟩ => ⟨S_, .f32⟩
  | .hbm, ⟨42, _⟩ => ⟨S704x1024, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelLoss.lean ====
abbrev S8320x1024 : Shape := ⟨2, ![8320, 1024]⟩
abbrev S1x1024 : Shape := ⟨2, ![1, 1024]⟩
abbrev S8192x1024 : Shape := ⟨2, ![8192, 1024]⟩
abbrev S8x128 : Shape := ⟨2, ![8, 128]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8320x1024, .f32⟩
  | .hbm, ⟨5, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S8x128, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceLossIdeal.lean ====
abbrev S8320x1024 : Shape := ⟨2, ![8320, 1024]⟩
abbrev S1x1024 : Shape := ⟨2, ![1, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x128 : Shape := ⟨2, ![8, 128]⟩

abbrev nBuf : Space → Nat
  | .hbm => 72
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8320x1024, .f32⟩
  | .hbm, ⟨71, _⟩ => ⟨S8x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_13 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== KernelFfnConv.lean ====
abbrev S8320x5632 : Shape := ⟨2, ![8320, 5632]⟩
abbrev S3x5632 : Shape := ⟨2, ![3, 5632]⟩
abbrev S1x5632 : Shape := ⟨2, ![1, 5632]⟩
abbrev S8320x2816 : Shape := ⟨2, ![8320, 2816]⟩
abbrev S640x256 : Shape := ⟨2, ![640, 256]⟩
abbrev S8x256 : Shape := ⟨2, ![8, 256]⟩
abbrev S3x256 : Shape := ⟨2, ![3, 256]⟩
abbrev S1x256 : Shape := ⟨2, ![1, 256]⟩
abbrev S632x256 : Shape := ⟨2, ![632, 256]⟩

abbrev nBuf : Space → Nat
  | .hbm => 4
  | .vmem => 18
  | .smem => 0
  | _ => 0

abbrev bufTy : (tb : Table) → Fin (tcTables nBuf tb) → BufTy
  | .hbm, ⟨0, _⟩ => ⟨S8320x5632, .f32⟩
  | .hbm, ⟨1, _⟩ => ⟨S3x5632, .f32⟩
  | .hbm, ⟨2, _⟩ => ⟨S1x5632, .f32⟩
  | .hbm, ⟨3, _⟩ => ⟨S8320x2816, .bf16⟩
  | .local _ .vmem, ⟨0, _⟩ => ⟨S640x256, .f32⟩
  | .local _ .vmem, ⟨1, _⟩ => ⟨S640x256, .f32⟩
  | .local _ .vmem, ⟨2, _⟩ => ⟨S8x256, .f32⟩
  | .local _ .vmem, ⟨3, _⟩ => ⟨S8x256, .f32⟩
  | .local _ .vmem, ⟨4, _⟩ => ⟨S640x256, .f32⟩
  | .local _ .vmem, ⟨5, _⟩ => ⟨S640x256, .f32⟩
  | .local _ .vmem, ⟨6, _⟩ => ⟨S8x256, .f32⟩
  | .local _ .vmem, ⟨7, _⟩ => ⟨S8x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S640x256, .bf16⟩
  | .local _ .vmem, ⟨17, _⟩ => ⟨S640x256, .bf16⟩
  | _, _ => ⟨S8320x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg1 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi arg0 c0_i32_0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg1 c80_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let v3 : BitVec 32 := Scalar.addi arg0 c11_i32
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S640x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceFfnConvIdeal.lean ====
abbrev S8320x5632 : Shape := ⟨2, ![8320, 5632]⟩
abbrev S3x5632 : Shape := ⟨2, ![3, 5632]⟩
abbrev S1x5632 : Shape := ⟨2, ![1, 5632]⟩
abbrev S_ : Shape := ⟨0, ![]⟩
abbrev S8322x5632 : Shape := ⟨2, ![8322, 5632]⟩
abbrev S5632 : Shape := ⟨1, ![5632]⟩
abbrev S8320x2816 : Shape := ⟨2, ![8320, 2816]⟩

abbrev nBuf : Space → Nat
  | .hbm => 41
  | .vmem => 0
  | .smem => 0
  | _ => 0

abbrev bufTy : (tb : Table) → Fin (tcTables nBuf tb) → BufTy
  | .hbm, ⟨0, _⟩ => ⟨S8320x5632, .f32⟩
  | .hbm, ⟨1, _⟩ => ⟨S3x5632, .f32⟩
  | .hbm, ⟨2, _⟩ => ⟨S1x5632, .f32⟩
  | .hbm, ⟨3, _⟩ => ⟨S_, .i32⟩
  | .hbm, ⟨4, _⟩ => ⟨S_, .f32⟩
  | .hbm, ⟨5, _⟩ => ⟨S8322x5632, .f32⟩
  | .hbm, ⟨6, _⟩ => ⟨S8320x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S8320x5632, .f32⟩
  | .hbm, ⟨11, _⟩ => ⟨S8320x5632, .f32⟩
  | .hbm, ⟨12, _⟩ => ⟨S8320x5632, .f32⟩
  | .hbm, ⟨13, _⟩ => ⟨S8320x5632, .f32⟩
  | .hbm, ⟨14, _⟩ => ⟨S8320x5632, .f32⟩
  | .hbm, ⟨15, _⟩ => ⟨S1x5632, .f32⟩
  | .hbm, ⟨16, _⟩ => ⟨S5632, .f32⟩
  | .hbm, ⟨17, _⟩ => ⟨S1x5632, .f32⟩
  | .hbm, ⟨18, _⟩ => ⟨S8320x5632, .f32⟩
  | .hbm, ⟨19, _⟩ => ⟨S8320x5632, .f32⟩
  | .hbm, ⟨20, _⟩ => ⟨S8320x5632, .f32⟩
  | .hbm, ⟨21, _⟩ => ⟨S8320x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8320x5632, .f32⟩
  | .hbm, ⟨26, _⟩ => ⟨S8320x5632, .f32⟩
  | .hbm, ⟨27, _⟩ => ⟨S8320x5632, .f32⟩
  | .hbm, ⟨28, _⟩ => ⟨S8320x2816, .f32⟩
  | .hbm, ⟨29, _⟩ => ⟨S8320x2816, .f32⟩
  | .hbm, ⟨30, _⟩ => ⟨S8320x2816, .f32⟩
  | .hbm, ⟨31, _⟩ => ⟨S8320x2816, .f32⟩
  | .hbm, ⟨32, _⟩ => ⟨S_, .f32⟩
  | .hbm, ⟨33, _⟩ => ⟨S8320x2816, .f32⟩
  | .hbm, ⟨34, _⟩ => ⟨S8320x2816, .f32⟩
  | .hbm, ⟨35, _⟩ => ⟨S_, .f32⟩
  | .hbm, ⟨36, _⟩ => ⟨S8320x2816, .f32⟩
  | .hbm, ⟨37, _⟩ => ⟨S8320x2816, .f32⟩
  | .hbm, ⟨38, _⟩ => ⟨S8320x2816, .f32⟩
  | .hbm, ⟨39, _⟩ => ⟨S8320x2816, .f32⟩
  | .hbm, ⟨40, _⟩ => ⟨S8320x2816, .bf16⟩
  | _, _ => ⟨S8320x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelSsdConv.lean ====
abbrev S8320x3072 : Shape := ⟨2, ![8320, 3072]⟩
abbrev S4x3072 : Shape := ⟨2, ![4, 3072]⟩
abbrev S1x3072 : Shape := ⟨2, ![1, 3072]⟩
abbrev S640x512 : Shape := ⟨2, ![640, 512]⟩
abbrev S8x512 : Shape := ⟨2, ![8, 512]⟩
abbrev S4x512 : Shape := ⟨2, ![4, 512]⟩
abbrev S1x512 : Shape := ⟨2, ![1, 512]⟩
abbrev S632x512 : Shape := ⟨2, ![632, 512]⟩
abbrev S640x1 : Shape := ⟨2, ![640, 1]⟩

abbrev nBuf : Space → Nat
  | .hbm => 4
  | .vmem => 10
  | .smem => 0
  | _ => 0

abbrev bufTy : (tb : Table) → Fin (tcTables nBuf tb) → BufTy
  | .hbm, ⟨0, _⟩ => ⟨S8320x3072, .f32⟩
  | .hbm, ⟨1, _⟩ => ⟨S4x3072, .f32⟩
  | .hbm, ⟨2, _⟩ => ⟨S1x3072, .f32⟩
  | .hbm, ⟨3, _⟩ => ⟨S8320x3072, .f32⟩
  | .local _ .vmem, ⟨0, _⟩ => ⟨S640x512, .f32⟩
  | .local _ .vmem, ⟨1, _⟩ => ⟨S640x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S640x512, .f32⟩
  | .local _ .vmem, ⟨9, _⟩ => ⟨S640x512, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg1 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceSsdConvIdeal.lean ====
abbrev S8320x3072 : Shape := ⟨2, ![8320, 3072]⟩
abbrev S4x3072 : Shape := ⟨2, ![4, 3072]⟩
abbrev S1x3072 : Shape := ⟨2, ![1, 3072]⟩
abbrev S_ : Shape := ⟨0, ![]⟩
abbrev S8323x3072 : Shape := ⟨2, ![8323, 3072]⟩
abbrev S3072 : Shape := ⟨1, ![3072]⟩
abbrev S8208x3072 : Shape := ⟨2, ![8208, 3072]⟩

abbrev nBuf : Space → Nat
  | .hbm => 48
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S4x3072, .f32⟩
  | .hbm, ⟨2, _⟩ => ⟨S1x3072, .f32⟩
  | .hbm, ⟨3, _⟩ => ⟨S_, .i32⟩
  | .hbm, ⟨4, _⟩ => ⟨S_, .f32⟩
  | .hbm, ⟨5, _⟩ => ⟨S8323x3072, .f32⟩
  | .hbm, ⟨6, _⟩ => ⟨S8320x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S8320x3072, .f32⟩
  | .hbm, ⟨11, _⟩ => ⟨S8320x3072, .f32⟩
  | .hbm, ⟨12, _⟩ => ⟨S8320x3072, .f32⟩
  | .hbm, ⟨13, _⟩ => ⟨S8320x3072, .f32⟩
  | .hbm, ⟨14, _⟩ => ⟨S8320x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S8320x3072, .f32⟩
  | .hbm, ⟨19, _⟩ => ⟨S8320x3072, .f32⟩
  | .hbm, ⟨20, _⟩ => ⟨S8320x3072, .f32⟩
  | .hbm, ⟨21, _⟩ => ⟨S8320x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S8320x3072, .f32⟩
  | .hbm, ⟨26, _⟩ => ⟨S8320x3072, .f32⟩
  | .hbm, ⟨27, _⟩ => ⟨S8320x3072, .f32⟩
  | .hbm, ⟨28, _⟩ => ⟨S8320x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S8320x3072, .f32⟩
  | .hbm, ⟨33, _⟩ => ⟨S8320x3072, .f32⟩
  | .hbm, ⟨34, _⟩ => ⟨S8320x3072, .f32⟩
  | .hbm, ⟨35, _⟩ => ⟨S8320x3072, .f32⟩
  | .hbm, ⟨36, _⟩ => ⟨S8320x3072, .f32⟩
  | .hbm, ⟨37, _⟩ => ⟨S_, .f32⟩
  | .hbm, ⟨38, _⟩ => ⟨S8320x3072, .f32⟩
  | .hbm, ⟨39, _⟩ => ⟨S8320x3072, .f32⟩
  | .hbm, ⟨40, _⟩ => ⟨S_, .f32⟩
  | .hbm, ⟨41, _⟩ => ⟨S8320x3072, .f32⟩
  | .hbm, ⟨42, _⟩ => ⟨S8320x3072, .f32⟩
  | .hbm, ⟨43, _⟩ => ⟨S8320x3072, .f32⟩
  | .hbm, ⟨44, _⟩ => ⟨S8208x3072, .f32⟩
  | .hbm, ⟨45, _⟩ => ⟨S_, .i32⟩
  | .hbm, ⟨46, _⟩ => ⟨S_, .f32⟩
  | .hbm, ⟨47, _⟩ => ⟨S8320x3072, .f32⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v30 : Ref sig .tc := ⟨.hbm, 43, rfl⟩
abbrev main_v31 : Ref sig .tc := ⟨.hbm, 44, rfl⟩
abbrev main_c_0 : Ref sig .tc := ⟨.hbm, 45, rfl⟩
abbrev main_call2_v0 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== KernelSmallMeta.lean ====
abbrev S1 : Shape := ⟨1, ![1]⟩
abbrev S8x16x1024 : Shape := ⟨3, ![8, 16, 1024]⟩
abbrev S8x8x128 : Shape := ⟨3, ![8, 8, 128]⟩
abbrev S16x256 : Shape := ⟨2, ![16, 256]⟩
abbrev S1x1 : Shape := ⟨2, ![1, 1]⟩
abbrev S8x16x256 : Shape := ⟨3, ![8, 16, 256]⟩
abbrev S1x16x256 : Shape := ⟨3, ![1, 16, 256]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x16x1024, .f32⟩
  | .hbm, ⟨1, _⟩ => ⟨S8x8x128, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .hbm, ⟨9, _⟩ => ⟨S1x1, .f32⟩
  | .local _ .vmem, ⟨0, _⟩ => ⟨S8x16x256, .f32⟩
  | .local _ .vmem, ⟨1, _⟩ => ⟨S8x8x128, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S1x1, .f32⟩
  | .local _ .smem, ⟨0, _⟩ => ⟨S1, .i32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelSmallMetaIdeal.lean ====
abbrev S1 : Shape := ⟨1, ![1]⟩
abbrev S8x16x1024 : Shape := ⟨3, ![8, 16, 1024]⟩
abbrev S8x8x128 : Shape := ⟨3, ![8, 8, 128]⟩
abbrev S16x256 : Shape := ⟨2, ![16, 256]⟩
abbrev S1x1 : Shape := ⟨2, ![1, 1]⟩
abbrev S8x16x256 : Shape := ⟨3, ![8, 16, 256]⟩
abbrev S1x16x256 : Shape := ⟨3, ![1, 16, 256]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x16x1024, .f32⟩
  | .hbm, ⟨1, _⟩ => ⟨S8x8x128, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .hbm, ⟨9, _⟩ => ⟨S1x1, .f32⟩
  | .local _ .vmem, ⟨0, _⟩ => ⟨S8x16x256, .f32⟩
  | .local _ .vmem, ⟨1, _⟩ => ⟨S8x8x128, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S1x1, .f32⟩
  | .local _ .smem, ⟨0, _⟩ => ⟨S1, .i32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmallMetaIdeal.lean ====
abbrev S1 : Shape := ⟨1, ![1]⟩
abbrev S8x16x1024 : Shape := ⟨3, ![8, 16, 1024]⟩
abbrev S8x8x128 : Shape := ⟨3, ![8, 8, 128]⟩
abbrev S16x256 : Shape := ⟨2, ![16, 256]⟩
abbrev S_ : Shape := ⟨0, ![]⟩
abbrev S16x1024 : Shape := ⟨2, ![16, 1024]⟩
abbrev S8x128 : Shape := ⟨2, ![8, 128]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x16x1024, .f32⟩
  | .hbm, ⟨2, _⟩ => ⟨S8x8x128, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S_, .f32⟩
  | .hbm, ⟨7, _⟩ => ⟨S16x1024, .f32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S16x256, .f32⟩
  | .hbm, ⟨12, _⟩ => ⟨S_, .f32⟩
  | .hbm, ⟨13, _⟩ => ⟨S_, .f32⟩
  | .hbm, ⟨14, _⟩ => ⟨S16x256, .f32⟩
  | .hbm, ⟨15, _⟩ => ⟨S16x256, .f32⟩
  | .hbm, ⟨16, _⟩ => ⟨S_, .f32⟩
  | .hbm, ⟨17, _⟩ => ⟨S16x256, .f32⟩
  | .hbm, ⟨18, _⟩ => ⟨S16x256, .f32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S16x256, .f32⟩
  | .hbm, ⟨23, _⟩ => ⟨S_, .f32⟩
  | .hbm, ⟨24, _⟩ => ⟨S_, .f32⟩
  | .hbm, ⟨25, _⟩ => ⟨S16x256, .f32⟩
  | .hbm, ⟨26, _⟩ => ⟨S16x256, .f32⟩
  | .hbm, ⟨27, _⟩ => ⟨S16x256, .f32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S16x256, .f32⟩
  | .hbm, ⟨32, _⟩ => ⟨S_, .f32⟩
  | .hbm, ⟨33, _⟩ => ⟨S_, .f32⟩
  | .hbm, ⟨34, _⟩ => ⟨S16x256, .f32⟩
  | .hbm, ⟨35, _⟩ => ⟨S16x256, .f32⟩
  | .hbm, ⟨36, _⟩ => ⟨S16x256, .f32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S16x256, .f32⟩
  | .hbm, ⟨41, _⟩ => ⟨S_, .f32⟩
  | .hbm, ⟨42, _⟩ => ⟨S_, .f32⟩
  | .hbm, ⟨43, _⟩ => ⟨S16x256, .f32⟩
  | .hbm, ⟨44, _⟩ => ⟨S16x256, .f32⟩
  | .hbm, ⟨45, _⟩ => ⟨S16x256, .f32⟩
  | .hbm, ⟨46, _⟩ => ⟨S_, .f32⟩
  | .hbm, ⟨47, _⟩ => ⟨S16x256, .f32⟩
  | .hbm, ⟨48, _⟩ => ⟨S16x256, .f32⟩
  | .hbm, ⟨49, _⟩ => ⟨S_, .f32⟩
  | .hbm, ⟨50, _⟩ => ⟨S16x256, .f32⟩
  | .hbm, ⟨51, _⟩ => ⟨S16x256, .f32⟩
  | .hbm, ⟨52, _⟩ => ⟨S16x256, .f32⟩
  | .hbm, ⟨53, _⟩ => ⟨S_, .f32⟩
  | .hbm, ⟨54, _⟩ => ⟨S16x256, .f32⟩
  | .hbm, ⟨55, _⟩ => ⟨S16x256, .f32⟩
  | .hbm, ⟨56, _⟩ => ⟨S16x256, .f32⟩
  | .hbm, ⟨57, _⟩ => ⟨S_, .f32⟩
  | .hbm, ⟨58, _⟩ => ⟨S16x256, .f32⟩
  | .hbm, ⟨59, _⟩ => ⟨S16x256, .f32⟩
  | .hbm, ⟨60, _⟩ => ⟨S16x256, .f32⟩
  | .hbm, ⟨61, _⟩ => ⟨S_, .f32⟩
  | .hbm, ⟨62, _⟩ => ⟨S16x256, .f32⟩
  | .hbm, ⟨63, _⟩ => ⟨S16x256, .f32⟩
  | .hbm, ⟨64, _⟩ => ⟨S_, .f32⟩
  | .hbm, ⟨65, _⟩ => ⟨S16x256, .f32⟩
  | .hbm, ⟨66, _⟩ => ⟨S16x256, .f32⟩
  | .hbm, ⟨67, _⟩ => ⟨S16x256, .f32⟩
  | .hbm, ⟨68, _⟩ => ⟨S_, .f32⟩
  | .hbm, ⟨69, _⟩ => ⟨S16x256, .f32⟩
  | .hbm, ⟨70, _⟩ => ⟨S16x256, .f32⟩
  | .hbm, ⟨71, _⟩ => ⟨S16x256, .f32⟩
  | .hbm, ⟨72, _⟩ => ⟨S_, .f32⟩
  | .hbm, ⟨73, _⟩ => ⟨S16x256, .f32⟩
  | .hbm, ⟨74, _⟩ => ⟨S16x256, .f32⟩
  | .hbm, ⟨75, _⟩ => ⟨S16x256, .f32⟩
  | .hbm, ⟨76, _⟩ => ⟨S_, .f32⟩
  | .hbm, ⟨77, _⟩ => ⟨S16x256, .f32⟩
  | .hbm, ⟨78, _⟩ => ⟨S16x256, .f32⟩
  | .hbm, ⟨79, _⟩ => ⟨S_, .f32⟩
  | .hbm, ⟨80, _⟩ => ⟨S8x128, .f32⟩
  | .hbm, ⟨81, _⟩ => ⟨S1x1, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_call2_v0 : Ref sig .tc := ⟨.hbm, 33, rfl⟩
abbrev main_call2_v1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_cst_7 : Ref sig .tc := ⟨.hbm, 41, rfl⟩
abbrev main_call3_v0 : Ref sig .tc := ⟨.hbm, 42, rfl⟩
abbrev main_call3_v1 : Ref sig .tc := ⟨.hbm, 43, rfl⟩
abbrev main_v20 : Ref sig .tc := ⟨.hbm, 44, rfl⟩
abbrev main_v21 : Ref sig .tc := ⟨.hbm, 45, rfl⟩
abbrev main_cst_8 : Ref sig .tc := ⟨.hbm, 46, rfl⟩
abbrev main_v22 : Ref sig .tc := ⟨.hbm, 47, rfl⟩
abbrev main_v23 : Ref sig .tc := ⟨.hbm, 48, rfl⟩
abbrev main_cst_9 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_10 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_11 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_12 : Ref sig .tc := ⟨.hbm, 61, rfl⟩
abbrev main_v33 : Ref sig .tc := ⟨.hbm, 62, rfl⟩
abbrev main_v34 : Ref sig .tc := ⟨.hbm, 63, rfl⟩
abbrev main_cst_13 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_14 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_15 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_16 : Ref sig .tc := ⟨.hbm, 76, rfl⟩
abbrev main_v44 : Ref sig .tc := ⟨.hbm, 77, rfl⟩
abbrev main_v45 : Ref sig .tc := ⟨.hbm, 78, rfl⟩
abbrev main_cst_17 : Ref sig .tc := ⟨.hbm, 79, rfl⟩
abbrev main_v46 : Ref sig .tc := ⟨.hbm, 80, rfl⟩
abbrev main_v47 : Ref sig .tc := ⟨.hbm, 81, rfl⟩

abbrev nD : Nat := 1
abbrev τ : Topo := Topo.v7x

variable {F : FTy → Type} [FloatOps F]
-- ==== KernelSmallSsd.lean ====
abbrev S1 : Shape := ⟨1, ![1]⟩
abbrev S8x8x3072 : Shape := ⟨3, ![8, 8, 3072]⟩
abbrev S8x8x128 : Shape := ⟨3, ![8, 8, 128]⟩
abbrev S4x768 : Shape := ⟨2, ![4, 768]⟩
abbrev S1x1 : Shape := ⟨2, ![1, 1]⟩
abbrev S8x8x768 : Shape := ⟨3, ![8, 8, 768]⟩
abbrev S1x4x768 : Shape := ⟨3, ![1, 4, 768]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x8x3072, .f32⟩
  | .hbm, ⟨1, _⟩ => ⟨S8x8x128, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x768, .f32⟩
  | .hbm, ⟨8, _⟩ => ⟨S4x768, .f32⟩
  | .hbm, ⟨9, _⟩ => ⟨S1x1, .f32⟩
  | .local _ .vmem, ⟨0, _⟩ => ⟨S8x8x768, .f32⟩
  | .local _ .vmem, ⟨1, _⟩ => ⟨S8x8x128, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | .local _ .vmem, ⟨8, _⟩ => ⟨S4x768, .f32⟩
  | .local _ .vmem, ⟨9, _⟩ => ⟨S1x1, .f32⟩
  | .local _ .smem, ⟨0, _⟩ => ⟨S1, .i32⟩
  | _, _ => ⟨S8x8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelSmallSsdIdeal.lean ====
abbrev S1 : Shape := ⟨1, ![1]⟩
abbrev S8x8x3072 : Shape := ⟨3, ![8, 8, 3072]⟩
abbrev S8x8x128 : Shape := ⟨3, ![8, 8, 128]⟩
abbrev S4x768 : Shape := ⟨2, ![4, 768]⟩
abbrev S1x1 : Shape := ⟨2, ![1, 1]⟩
abbrev S8x8x768 : Shape := ⟨3, ![8, 8, 768]⟩
abbrev S1x4x768 : Shape := ⟨3, ![1, 4, 768]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x8x3072, .f32⟩
  | .hbm, ⟨1, _⟩ => ⟨S8x8x128, .f32⟩
  | .hbm, ⟨2, _⟩ => ⟨S4x768, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S4x768, .f32⟩
  | .hbm, ⟨7, _⟩ => ⟨S4x768, .f32⟩
  | .hbm, ⟨8, _⟩ => ⟨S4x768, .f32⟩
  | .hbm, ⟨9, _⟩ => ⟨S1x1, .f32⟩
  | .local _ .vmem, ⟨0, _⟩ => ⟨S8x8x768, .f32⟩
  | .local _ .vmem, ⟨1, _⟩ => ⟨S8x8x128, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | .local _ .vmem, ⟨8, _⟩ => ⟨S4x768, .f32⟩
  | .local _ .vmem, ⟨9, _⟩ => ⟨S1x1, .f32⟩
  | .local _ .smem, ⟨0, _⟩ => ⟨S1, .i32⟩
  | _, _ => ⟨S8x8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmallSsdIdeal.lean ====
abbrev S1 : Shape := ⟨1, ![1]⟩
abbrev S8x8x3072 : Shape := ⟨3, ![8, 8, 3072]⟩
abbrev S8x8x128 : Shape := ⟨3, ![8, 8, 128]⟩
abbrev S4x768 : Shape := ⟨2, ![4, 768]⟩
abbrev S_ : Shape := ⟨0, ![]⟩
abbrev S8x3072 : Shape := ⟨2, ![8, 3072]⟩
abbrev S4x3072 : Shape := ⟨2, ![4, 3072]⟩
abbrev S8x128 : Shape := ⟨2, ![8, 128]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x8x3072, .f32⟩
  | .hbm, ⟨2, _⟩ => ⟨S8x8x128, .f32⟩
  | .hbm, ⟨3, _⟩ => ⟨S4x768, .f32⟩
  | .hbm, ⟨4, _⟩ => ⟨S4x768, .f32⟩
  | .hbm, ⟨5, _⟩ => ⟨S4x768, .f32⟩
  | .hbm, ⟨6, _⟩ => ⟨S_, .f32⟩
  | .hbm, ⟨7, _⟩ => ⟨S8x3072, .f32⟩
  | .hbm, ⟨8, _⟩ => ⟨S4x3072, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S4x768, .f32⟩
  | .hbm, ⟨13, _⟩ => ⟨S_, .f32⟩
  | .hbm, ⟨14, _⟩ => ⟨S_, .f32⟩
  | .hbm, ⟨15, _⟩ => ⟨S4x768, .f32⟩
  | .hbm, ⟨16, _⟩ => ⟨S4x768, .f32⟩
  | .hbm, ⟨17, _⟩ => ⟨S_, .f32⟩
  | .hbm, ⟨18, _⟩ => ⟨S4x768, .f32⟩
  | .hbm, ⟨19, _⟩ => ⟨S4x768, .f32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S4x768, .f32⟩
  | .hbm, ⟨24, _⟩ => ⟨S_, .f32⟩
  | .hbm, ⟨25, _⟩ => ⟨S_, .f32⟩
  | .hbm, ⟨26, _⟩ => ⟨S4x768, .f32⟩
  | .hbm, ⟨27, _⟩ => ⟨S4x768, .f32⟩
  | .hbm, ⟨28, _⟩ => ⟨S4x768, .f32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S4x768, .f32⟩
  | .hbm, ⟨33, _⟩ => ⟨S_, .f32⟩
  | .hbm, ⟨34, _⟩ => ⟨S_, .f32⟩
  | .hbm, ⟨35, _⟩ => ⟨S4x768, .f32⟩
  | .hbm, ⟨36, _⟩ => ⟨S4x768, .f32⟩
  | .hbm, ⟨37, _⟩ => ⟨S4x768, .f32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S4x768, .f32⟩
  | .hbm, ⟨42, _⟩ => ⟨S_, .f32⟩
  | .hbm, ⟨43, _⟩ => ⟨S_, .f32⟩
  | .hbm, ⟨44, _⟩ => ⟨S4x768, .f32⟩
  | .hbm, ⟨45, _⟩ => ⟨S4x768, .f32⟩
  | .hbm, ⟨46, _⟩ => ⟨S4x768, .f32⟩
  | .hbm, ⟨47, _⟩ => ⟨S_, .f32⟩
  | .hbm, ⟨48, _⟩ => ⟨S4x768, .f32⟩
  | .hbm, ⟨49, _⟩ => ⟨S4x768, .f32⟩
  | .hbm, ⟨50, _⟩ => ⟨S_, .f32⟩
  | .hbm, ⟨51, _⟩ => ⟨S4x768, .f32⟩
  | .hbm, ⟨52, _⟩ => ⟨S4x768, .f32⟩
  | .hbm, ⟨53, _⟩ => ⟨S4x768, .f32⟩
  | .hbm, ⟨54, _⟩ => ⟨S_, .f32⟩
  | .hbm, ⟨55, _⟩ => ⟨S4x768, .f32⟩
  | .hbm, ⟨56, _⟩ => ⟨S4x768, .f32⟩
  | .hbm, ⟨57, _⟩ => ⟨S4x768, .f32⟩
  | .hbm, ⟨58, _⟩ => ⟨S_, .f32⟩
  | .hbm, ⟨59, _⟩ => ⟨S4x768, .f32⟩
  | .hbm, ⟨60, _⟩ => ⟨S4x768, .f32⟩
  | .hbm, ⟨61, _⟩ => ⟨S4x768, .f32⟩
  | .hbm, ⟨62, _⟩ => ⟨S_, .f32⟩
  | .hbm, ⟨63, _⟩ => ⟨S4x768, .f32⟩
  | .hbm, ⟨64, _⟩ => ⟨S4x768, .f32⟩
  | .hbm, ⟨65, _⟩ => ⟨S_, .f32⟩
  | .hbm, ⟨66, _⟩ => ⟨S4x768, .f32⟩
  | .hbm, ⟨67, _⟩ => ⟨S4x768, .f32⟩
  | .hbm, ⟨68, _⟩ => ⟨S4x768, .f32⟩
  | .hbm, ⟨69, _⟩ => ⟨S_, .f32⟩
  | .hbm, ⟨70, _⟩ => ⟨S4x768, .f32⟩
  | .hbm, ⟨71, _⟩ => ⟨S4x768, .f32⟩
  | .hbm, ⟨72, _⟩ => ⟨S4x768, .f32⟩
  | .hbm, ⟨73, _⟩ => ⟨S_, .f32⟩
  | .hbm, ⟨74, _⟩ => ⟨S4x768, .f32⟩
  | .hbm, ⟨75, _⟩ => ⟨S4x768, .f32⟩
  | .hbm, ⟨76, _⟩ => ⟨S4x768, .f32⟩
  | .hbm, ⟨77, _⟩ => ⟨S_, .f32⟩
  | .hbm, ⟨78, _⟩ => ⟨S4x768, .f32⟩
  | .hbm, ⟨79, _⟩ => ⟨S4x768, .f32⟩
  | .hbm, ⟨80, _⟩ => ⟨S_, .f32⟩
  | .hbm, ⟨81, _⟩ => ⟨S8x128, .f32⟩
  | .hbm, ⟨82, _⟩ => ⟨S1x1, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_call2_v0 : Ref sig .tc := ⟨.hbm, 34, rfl⟩
abbrev main_call2_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_10 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_11 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_12 : Ref sig .tc := ⟨.hbm, 62, rfl⟩
abbrev main_v34 : Ref sig .tc := ⟨.hbm, 63, rfl⟩
abbrev main_v35 : Ref sig .tc := ⟨.hbm, 64, rfl⟩
abbrev main_cst_13 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_14 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_15 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_16 : Ref sig .tc := ⟨.hbm, 77, rfl⟩
abbrev main_v45 : Ref sig .tc := ⟨.hbm, 78, rfl⟩
abbrev main_v46 : Ref sig .tc := ⟨.hbm, 79, rfl⟩
abbrev main_cst_17 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]
-- ==== KernelSmallFfn.lean ====
abbrev S1 : Shape := ⟨1, ![1]⟩
abbrev S8x8x5632 : Shape := ⟨3, ![8, 8, 5632]⟩
abbrev S8x8x128 : Shape := ⟨3, ![8, 8, 128]⟩
abbrev S3x1408 : Shape := ⟨2, ![3, 1408]⟩
abbrev S1x1 : Shape := ⟨2, ![1, 1]⟩
abbrev S8x8x1408 : Shape := ⟨3, ![8, 8, 1408]⟩
abbrev S1x3x1408 : Shape := ⟨3, ![1, 3, 1408]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x8x5632, .f32⟩
  | .hbm, ⟨1, _⟩ => ⟨S8x8x128, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .hbm, ⟨8, _⟩ => ⟨S3x1408, .f32⟩
  | .hbm, ⟨9, _⟩ => ⟨S1x1, .f32⟩
  | .local _ .vmem, ⟨0, _⟩ => ⟨S8x8x1408, .f32⟩
  | .local _ .vmem, ⟨1, _⟩ => ⟨S8x8x128, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S1x1, .f32⟩
  | .local _ .smem, ⟨0, _⟩ => ⟨S1, .i32⟩
  | _, _ => ⟨S8x8x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelSmallFfnIdeal.lean ====
abbrev S1 : Shape := ⟨1, ![1]⟩
abbrev S8x8x5632 : Shape := ⟨3, ![8, 8, 5632]⟩
abbrev S8x8x128 : Shape := ⟨3, ![8, 8, 128]⟩
abbrev S3x1408 : Shape := ⟨2, ![3, 1408]⟩
abbrev S1x1 : Shape := ⟨2, ![1, 1]⟩
abbrev S8x8x1408 : Shape := ⟨3, ![8, 8, 1408]⟩
abbrev S1x3x1408 : Shape := ⟨3, ![1, 3, 1408]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x8x5632, .f32⟩
  | .hbm, ⟨1, _⟩ => ⟨S8x8x128, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .hbm, ⟨8, _⟩ => ⟨S3x1408, .f32⟩
  | .hbm, ⟨9, _⟩ => ⟨S1x1, .f32⟩
  | .local _ .vmem, ⟨0, _⟩ => ⟨S8x8x1408, .f32⟩
  | .local _ .vmem, ⟨1, _⟩ => ⟨S8x8x128, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S1x1, .f32⟩
  | .local _ .smem, ⟨0, _⟩ => ⟨S1, .i32⟩
  | _, _ => ⟨S8x8x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmallFfnIdeal.lean ====
abbrev S1 : Shape := ⟨1, ![1]⟩
abbrev S8x8x5632 : Shape := ⟨3, ![8, 8, 5632]⟩
abbrev S8x8x128 : Shape := ⟨3, ![8, 8, 128]⟩
abbrev S3x1408 : Shape := ⟨2, ![3, 1408]⟩
abbrev S_ : Shape := ⟨0, ![]⟩
abbrev S8x5632 : Shape := ⟨2, ![8, 5632]⟩
abbrev S3x5632 : Shape := ⟨2, ![3, 5632]⟩
abbrev S8x128 : Shape := ⟨2, ![8, 128]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x8x5632, .f32⟩
  | .hbm, ⟨2, _⟩ => ⟨S8x8x128, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S_, .f32⟩
  | .hbm, ⟨7, _⟩ => ⟨S8x5632, .f32⟩
  | .hbm, ⟨8, _⟩ => ⟨S3x5632, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S3x1408, .f32⟩
  | .hbm, ⟨13, _⟩ => ⟨S_, .f32⟩
  | .hbm, ⟨14, _⟩ => ⟨S_, .f32⟩
  | .hbm, ⟨15, _⟩ => ⟨S3x1408, .f32⟩
  | .hbm, ⟨16, _⟩ => ⟨S3x1408, .f32⟩
  | .hbm, ⟨17, _⟩ => ⟨S_, .f32⟩
  | .hbm, ⟨18, _⟩ => ⟨S3x1408, .f32⟩
  | .hbm, ⟨19, _⟩ => ⟨S3x1408, .f32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S3x1408, .f32⟩
  | .hbm, ⟨24, _⟩ => ⟨S_, .f32⟩
  | .hbm, ⟨25, _⟩ => ⟨S_, .f32⟩
  | .hbm, ⟨26, _⟩ => ⟨S3x1408, .f32⟩
  | .hbm, ⟨27, _⟩ => ⟨S3x1408, .f32⟩
  | .hbm, ⟨28, _⟩ => ⟨S3x1408, .f32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S3x1408, .f32⟩
  | .hbm, ⟨33, _⟩ => ⟨S_, .f32⟩
  | .hbm, ⟨34, _⟩ => ⟨S_, .f32⟩
  | .hbm, ⟨35, _⟩ => ⟨S3x1408, .f32⟩
  | .hbm, ⟨36, _⟩ => ⟨S3x1408, .f32⟩
  | .hbm, ⟨37, _⟩ => ⟨S3x1408, .f32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S3x1408, .f32⟩
  | .hbm, ⟨42, _⟩ => ⟨S_, .f32⟩
  | .hbm, ⟨43, _⟩ => ⟨S_, .f32⟩
  | .hbm, ⟨44, _⟩ => ⟨S3x1408, .f32⟩
  | .hbm, ⟨45, _⟩ => ⟨S3x1408, .f32⟩
  | .hbm, ⟨46, _⟩ => ⟨S3x1408, .f32⟩
  | .hbm, ⟨47, _⟩ => ⟨S_, .f32⟩
  | .hbm, ⟨48, _⟩ => ⟨S3x1408, .f32⟩
  | .hbm, ⟨49, _⟩ => ⟨S3x1408, .f32⟩
  | .hbm, ⟨50, _⟩ => ⟨S_, .f32⟩
  | .hbm, ⟨51, _⟩ => ⟨S3x1408, .f32⟩
  | .hbm, ⟨52, _⟩ => ⟨S3x1408, .f32⟩
  | .hbm, ⟨53, _⟩ => ⟨S3x1408, .f32⟩
  | .hbm, ⟨54, _⟩ => ⟨S_, .f32⟩
  | .hbm, ⟨55, _⟩ => ⟨S3x1408, .f32⟩
  | .hbm, ⟨56, _⟩ => ⟨S3x1408, .f32⟩
  | .hbm, ⟨57, _⟩ => ⟨S3x1408, .f32⟩
  | .hbm, ⟨58, _⟩ => ⟨S_, .f32⟩
  | .hbm, ⟨59, _⟩ => ⟨S3x1408, .f32⟩
  | .hbm, ⟨60, _⟩ => ⟨S3x1408, .f32⟩
  | .hbm, ⟨61, _⟩ => ⟨S3x1408, .f32⟩
  | .hbm, ⟨62, _⟩ => ⟨S_, .f32⟩
  | .hbm, ⟨63, _⟩ => ⟨S3x1408, .f32⟩
  | .hbm, ⟨64, _⟩ => ⟨S3x1408, .f32⟩
  | .hbm, ⟨65, _⟩ => ⟨S_, .f32⟩
  | .hbm, ⟨66, _⟩ => ⟨S3x1408, .f32⟩
  | .hbm, ⟨67, _⟩ => ⟨S3x1408, .f32⟩
  | .hbm, ⟨68, _⟩ => ⟨S3x1408, .f32⟩
  | .hbm, ⟨69, _⟩ => ⟨S_, .f32⟩
  | .hbm, ⟨70, _⟩ => ⟨S3x1408, .f32⟩
  | .hbm, ⟨71, _⟩ => ⟨S3x1408, .f32⟩
  | .hbm, ⟨72, _⟩ => ⟨S3x1408, .f32⟩
  | .hbm, ⟨73, _⟩ => ⟨S_, .f32⟩
  | .hbm, ⟨74, _⟩ => ⟨S3x1408, .f32⟩
  | .hbm, ⟨75, _⟩ => ⟨S3x1408, .f32⟩
  | .hbm, ⟨76, _⟩ => ⟨S3x1408, .f32⟩
  | .hbm, ⟨77, _⟩ => ⟨S_, .f32⟩
  | .hbm, ⟨78, _⟩ => ⟨S3x1408, .f32⟩
  | .hbm, ⟨79, _⟩ => ⟨S3x1408, .f32⟩
  | .hbm, ⟨80, _⟩ => ⟨S_, .f32⟩
  | .hbm, ⟨81, _⟩ => ⟨S8x128, .f32⟩
  | .hbm, ⟨82, _⟩ => ⟨S1x1, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_call2_v0 : Ref sig .tc := ⟨.hbm, 34, rfl⟩
abbrev main_call2_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_6 : Ref sig .tc := ⟨.hbm, 39, rfl⟩
abbrev main_v19 : Ref sig .tc := ⟨.hbm, 40, rfl⟩
abbrev main_v20 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_cst_9 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_10 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_11 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_12 : Ref sig .tc := ⟨.hbm, 62, rfl⟩
abbrev main_v34 : Ref sig .tc := ⟨.hbm, 63, rfl⟩
abbrev main_v35 : Ref sig .tc := ⟨.hbm, 64, rfl⟩
abbrev main_cst_13 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_14 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_15 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_16 : Ref sig .tc := ⟨.hbm, 77, rfl⟩
abbrev main_v45 : Ref sig .tc := ⟨.hbm, 78, rfl⟩
abbrev main_v46 : Ref sig .tc := ⟨.hbm, 79, rfl⟩
abbrev main_cst_17 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]
-- ==== KernelSmall1024.lean ====
abbrev S1 : Shape := ⟨1, ![1]⟩
abbrev S8x1x1024 : Shape := ⟨3, ![8, 1, 1024]⟩
abbrev S8x8x128 : Shape := ⟨3, ![8, 8, 128]⟩
abbrev S1x1024 : Shape := ⟨2, ![1, 1024]⟩
abbrev S1x1 : Shape := ⟨2, ![1, 1]⟩
abbrev S1x1x1024 : Shape := ⟨3, ![1, 1, 1024]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x1024, .f32⟩
  | .hbm, ⟨1, _⟩ => ⟨S8x8x128, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1, .f32⟩
  | .local _ .vmem, ⟨0, _⟩ => ⟨S8x1x1024, .f32⟩
  | .local _ .vmem, ⟨1, _⟩ => ⟨S8x8x128, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1, .f32⟩
  | .local _ .smem, ⟨0, _⟩ => ⟨S1, .i32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelSmall1024Ideal.lean ====
abbrev S1 : Shape := ⟨1, ![1]⟩
abbrev S8x1x1024 : Shape := ⟨3, ![8, 1, 1024]⟩
abbrev S8x8x128 : Shape := ⟨3, ![8, 8, 128]⟩
abbrev S1x1024 : Shape := ⟨2, ![1, 1024]⟩
abbrev S1x1 : Shape := ⟨2, ![1, 1]⟩
abbrev S1x1x1024 : Shape := ⟨3, ![1, 1, 1024]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x1024, .f32⟩
  | .hbm, ⟨1, _⟩ => ⟨S8x8x128, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1, .f32⟩
  | .local _ .vmem, ⟨0, _⟩ => ⟨S8x1x1024, .f32⟩
  | .local _ .vmem, ⟨1, _⟩ => ⟨S8x8x128, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1, .f32⟩
  | .local _ .smem, ⟨0, _⟩ => ⟨S1, .i32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmall1024Ideal.lean ====
abbrev S1 : Shape := ⟨1, ![1]⟩
abbrev S8x1x1024 : Shape := ⟨3, ![8, 1, 1024]⟩
abbrev S8x8x128 : Shape := ⟨3, ![8, 8, 128]⟩
abbrev S1x1024 : Shape := ⟨2, ![1, 1024]⟩
abbrev S_ : Shape := ⟨0, ![]⟩
abbrev S8x128 : Shape := ⟨2, ![8, 128]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x1024, .f32⟩
  | .hbm, ⟨2, _⟩ => ⟨S8x8x128, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S8x128, .f32⟩
  | .hbm, ⟨43, _⟩ => ⟨S1x1, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== KernelSmall3072.lean ====
abbrev S1 : Shape := ⟨1, ![1]⟩
abbrev S8x1x3072 : Shape := ⟨3, ![8, 1, 3072]⟩
abbrev S8x8x128 : Shape := ⟨3, ![8, 8, 128]⟩
abbrev S1x3072 : Shape := ⟨2, ![1, 3072]⟩
abbrev S1x1 : Shape := ⟨2, ![1, 1]⟩
abbrev S1x1x3072 : Shape := ⟨3, ![1, 1, 3072]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x3072, .f32⟩
  | .hbm, ⟨1, _⟩ => ⟨S8x8x128, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S1x1, .f32⟩
  | .local _ .vmem, ⟨0, _⟩ => ⟨S8x1x3072, .f32⟩
  | .local _ .vmem, ⟨1, _⟩ => ⟨S8x8x128, .f32⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | .local _ .vmem, ⟨8, _⟩ => ⟨S1x3072, .f32⟩
  | .local _ .vmem, ⟨9, _⟩ => ⟨S1x1, .f32⟩
  | .local _ .smem, ⟨0, _⟩ => ⟨S1, .i32⟩
  | _, _ => ⟨S8x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelSmall3072Ideal.lean ====
abbrev S1 : Shape := ⟨1, ![1]⟩
abbrev S8x1x3072 : Shape := ⟨3, ![8, 1, 3072]⟩
abbrev S8x8x128 : Shape := ⟨3, ![8, 8, 128]⟩
abbrev S1x3072 : Shape := ⟨2, ![1, 3072]⟩
abbrev S1x1 : Shape := ⟨2, ![1, 1]⟩
abbrev S1x1x3072 : Shape := ⟨3, ![1, 1, 3072]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x3072, .f32⟩
  | .hbm, ⟨1, _⟩ => ⟨S8x8x128, .f32⟩
  | .hbm, ⟨2, _⟩ => ⟨S1x3072, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S1x1, .f32⟩
  | .local _ .vmem, ⟨0, _⟩ => ⟨S8x1x3072, .f32⟩
  | .local _ .vmem, ⟨1, _⟩ => ⟨S8x8x128, .f32⟩
  | .local _ .vmem, ⟨2, _⟩ => ⟨S1x3072, .f32⟩
  | .local _ .vmem, ⟨3, _⟩ => ⟨S1x3072, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | .local _ .vmem, ⟨8, _⟩ => ⟨S1x3072, .f32⟩
  | .local _ .vmem, ⟨9, _⟩ => ⟨S1x1, .f32⟩
  | .local _ .smem, ⟨0, _⟩ => ⟨S1, .i32⟩
  | _, _ => ⟨S8x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmall3072Ideal.lean ====
abbrev S1 : Shape := ⟨1, ![1]⟩
abbrev S8x1x3072 : Shape := ⟨3, ![8, 1, 3072]⟩
abbrev S8x8x128 : Shape := ⟨3, ![8, 8, 128]⟩
abbrev S1x3072 : Shape := ⟨2, ![1, 3072]⟩
abbrev S_ : Shape := ⟨0, ![]⟩
abbrev S8x128 : Shape := ⟨2, ![8, 128]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x3072, .f32⟩
  | .hbm, ⟨2, _⟩ => ⟨S8x8x128, .f32⟩
  | .hbm, ⟨3, _⟩ => ⟨S1x3072, .f32⟩
  | .hbm, ⟨4, _⟩ => ⟨S1x3072, .f32⟩
  | .hbm, ⟨5, _⟩ => ⟨S1x3072, .f32⟩
  | .hbm, ⟨6, _⟩ => ⟨S_, .f32⟩
  | .hbm, ⟨7, _⟩ => ⟨S1x3072, .f32⟩
  | .hbm, ⟨8, _⟩ => ⟨S_, .f32⟩
  | .hbm, ⟨9, _⟩ => ⟨S1x3072, .f32⟩
  | .hbm, ⟨10, _⟩ => ⟨S1x3072, .f32⟩
  | .hbm, ⟨11, _⟩ => ⟨S_, .f32⟩
  | .hbm, ⟨12, _⟩ => ⟨S1x3072, .f32⟩
  | .hbm, ⟨13, _⟩ => ⟨S1x3072, .f32⟩
  | .hbm, ⟨14, _⟩ => ⟨S1x3072, .f32⟩
  | .hbm, ⟨15, _⟩ => ⟨S_, .f32⟩
  | .hbm, ⟨16, _⟩ => ⟨S1x3072, .f32⟩
  | .hbm, ⟨17, _⟩ => ⟨S1x3072, .f32⟩
  | .hbm, ⟨18, _⟩ => ⟨S1x3072, .f32⟩
  | .hbm, ⟨19, _⟩ => ⟨S_, .f32⟩
  | .hbm, ⟨20, _⟩ => ⟨S1x3072, .f32⟩
  | .hbm, ⟨21, _⟩ => ⟨S1x3072, .f32⟩
  | .hbm, ⟨22, _⟩ => ⟨S1x3072, .f32⟩
  | .hbm, ⟨23, _⟩ => ⟨S_, .f32⟩
  | .hbm, ⟨24, _⟩ => ⟨S1x3072, .f32⟩
  | .hbm, ⟨25, _⟩ => ⟨S1x3072, .f32⟩
  | .hbm, ⟨26, _⟩ => ⟨S_, .f32⟩
  | .hbm, ⟨27, _⟩ => ⟨S1x3072, .f32⟩
  | .hbm, ⟨28, _⟩ => ⟨S1x3072, .f32⟩
  | .hbm, ⟨29, _⟩ => ⟨S1x3072, .f32⟩
  | .hbm, ⟨30, _⟩ => ⟨S_, .f32⟩
  | .hbm, ⟨31, _⟩ => ⟨S1x3072, .f32⟩
  | .hbm, ⟨32, _⟩ => ⟨S1x3072, .f32⟩
  | .hbm, ⟨33, _⟩ => ⟨S1x3072, .f32⟩
  | .hbm, ⟨34, _⟩ => ⟨S_, .f32⟩
  | .hbm, ⟨35, _⟩ => ⟨S1x3072, .f32⟩
  | .hbm, ⟨36, _⟩ => ⟨S1x3072, .f32⟩
  | .hbm, ⟨37, _⟩ => ⟨S1x3072, .f32⟩
  | .hbm, ⟨38, _⟩ => ⟨S_, .f32⟩
  | .hbm, ⟨39, _⟩ => ⟨S1x3072, .f32⟩
  | .hbm, ⟨40, _⟩ => ⟨S1x3072, .f32⟩
  | .hbm, ⟨41, _⟩ => ⟨S_, .f32⟩
  | .hbm, ⟨42, _⟩ => ⟨S8x128, .f32⟩
  | .hbm, ⟨43, _⟩ => ⟨S1x1, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== KernelSmall32.lean ====
abbrev S1 : Shape := ⟨1, ![1]⟩
abbrev S8x1x128 : Shape := ⟨3, ![8, 1, 128]⟩
abbrev S8x8x128 : Shape := ⟨3, ![8, 8, 128]⟩
abbrev S1x32 : Shape := ⟨2, ![1, 32]⟩
abbrev S1x1 : Shape := ⟨2, ![1, 1]⟩
abbrev S1x1x32 : Shape := ⟨3, ![1, 1, 32]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x128, .f32⟩
  | .hbm, ⟨1, _⟩ => ⟨S8x8x128, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x1, .f32⟩
  | .local _ .vmem, ⟨0, _⟩ => ⟨S8x1x128, .f32⟩
  | .local _ .vmem, ⟨1, _⟩ => ⟨S8x8x128, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x1, .f32⟩
  | .local _ .smem, ⟨0, _⟩ => ⟨S1, .i32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelSmall32Ideal.lean ====
abbrev S1 : Shape := ⟨1, ![1]⟩
abbrev S8x1x128 : Shape := ⟨3, ![8, 1, 128]⟩
abbrev S8x8x128 : Shape := ⟨3, ![8, 8, 128]⟩
abbrev S1x32 : Shape := ⟨2, ![1, 32]⟩
abbrev S1x1 : Shape := ⟨2, ![1, 1]⟩
abbrev S1x1x32 : Shape := ⟨3, ![1, 1, 32]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x128, .f32⟩
  | .hbm, ⟨1, _⟩ => ⟨S8x8x128, .f32⟩
  | .hbm, ⟨2, _⟩ => ⟨S1x32, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x32, .f32⟩
  | .hbm, ⟨8, _⟩ => ⟨S1x32, .f32⟩
  | .hbm, ⟨9, _⟩ => ⟨S1x1, .f32⟩
  | .local _ .vmem, ⟨0, _⟩ => ⟨S8x1x128, .f32⟩
  | .local _ .vmem, ⟨1, _⟩ => ⟨S8x8x128, .f32⟩
  | .local _ .vmem, ⟨2, _⟩ => ⟨S1x32, .f32⟩
  | .local _ .vmem, ⟨3, _⟩ => ⟨S1x32, .f32⟩
  | .local _ .vmem, ⟨4, _⟩ => ⟨S1x32, .f32⟩
  | .local _ .vmem, ⟨5, _⟩ => ⟨S1x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .vmem, ⟨9, _⟩ => ⟨S1x1, .f32⟩
  | .local _ .smem, ⟨0, _⟩ => ⟨S1, .i32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmall32Ideal.lean ====
abbrev S1 : Shape := ⟨1, ![1]⟩
abbrev S8x1x128 : Shape := ⟨3, ![8, 1, 128]⟩
abbrev S8x8x128 : Shape := ⟨3, ![8, 8, 128]⟩
abbrev S1x32 : Shape := ⟨2, ![1, 32]⟩
abbrev S_ : Shape := ⟨0, ![]⟩
abbrev S1x128 : Shape := ⟨2, ![1, 128]⟩
abbrev S8x128 : Shape := ⟨2, ![8, 128]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x128, .f32⟩
  | .hbm, ⟨2, _⟩ => ⟨S8x8x128, .f32⟩
  | .hbm, ⟨3, _⟩ => ⟨S1x32, .f32⟩
  | .hbm, ⟨4, _⟩ => ⟨S1x32, .f32⟩
  | .hbm, ⟨5, _⟩ => ⟨S1x32, .f32⟩
  | .hbm, ⟨6, _⟩ => ⟨S_, .f32⟩
  | .hbm, ⟨7, _⟩ => ⟨S1x128, .f32⟩
  | .hbm, ⟨8, _⟩ => ⟨S1x32, .f32⟩
  | .hbm, ⟨9, _⟩ => ⟨S_, .f32⟩
  | .hbm, ⟨10, _⟩ => ⟨S1x32, .f32⟩
  | .hbm, ⟨11, _⟩ => ⟨S1x32, .f32⟩
  | .hbm, ⟨12, _⟩ => ⟨S_, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S_, .f32⟩
  | .hbm, ⟨17, _⟩ => ⟨S1x32, .f32⟩
  | .hbm, ⟨18, _⟩ => ⟨S1x32, .f32⟩
  | .hbm, ⟨19, _⟩ => ⟨S1x32, .f32⟩
  | .hbm, ⟨20, _⟩ => ⟨S_, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S_, .f32⟩
  | .hbm, ⟨25, _⟩ => ⟨S1x32, .f32⟩
  | .hbm, ⟨26, _⟩ => ⟨S1x32, .f32⟩
  | .hbm, ⟨27, _⟩ => ⟨S_, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S_, .f32⟩
  | .hbm, ⟨32, _⟩ => ⟨S1x32, .f32⟩
  | .hbm, ⟨33, _⟩ => ⟨S1x32, .f32⟩
  | .hbm, ⟨34, _⟩ => ⟨S1x32, .f32⟩
  | .hbm, ⟨35, _⟩ => ⟨S_, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S_, .f32⟩
  | .hbm, ⟨40, _⟩ => ⟨S1x32, .f32⟩
  | .hbm, ⟨41, _⟩ => ⟨S1x32, .f32⟩
  | .hbm, ⟨42, _⟩ => ⟨S_, .f32⟩
  | .hbm, ⟨43, _⟩ => ⟨S8x128, .f32⟩
  | .hbm, ⟨44, _⟩ => ⟨S1x1, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_cst_9 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== KernelSmall2048.lean ====
abbrev S1 : Shape := ⟨1, ![1]⟩
abbrev S8x1x2048 : Shape := ⟨3, ![8, 1, 2048]⟩
abbrev S8x8x128 : Shape := ⟨3, ![8, 8, 128]⟩
abbrev S1x2048 : Shape := ⟨2, ![1, 2048]⟩
abbrev S1x1 : Shape := ⟨2, ![1, 1]⟩
abbrev S1x1x2048 : Shape := ⟨3, ![1, 1, 2048]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x2048, .f32⟩
  | .hbm, ⟨1, _⟩ => ⟨S8x8x128, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x1, .f32⟩
  | .local _ .vmem, ⟨0, _⟩ => ⟨S8x1x2048, .f32⟩
  | .local _ .vmem, ⟨1, _⟩ => ⟨S8x8x128, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x1, .f32⟩
  | .local _ .smem, ⟨0, _⟩ => ⟨S1, .i32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelSmall2048Ideal.lean ====
abbrev S1 : Shape := ⟨1, ![1]⟩
abbrev S8x1x2048 : Shape := ⟨3, ![8, 1, 2048]⟩
abbrev S8x8x128 : Shape := ⟨3, ![8, 8, 128]⟩
abbrev S1x2048 : Shape := ⟨2, ![1, 2048]⟩
abbrev S1x1 : Shape := ⟨2, ![1, 1]⟩
abbrev S1x1x2048 : Shape := ⟨3, ![1, 1, 2048]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x2048, .f32⟩
  | .hbm, ⟨1, _⟩ => ⟨S8x8x128, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S1x1, .f32⟩
  | .local _ .vmem, ⟨0, _⟩ => ⟨S8x1x2048, .f32⟩
  | .local _ .vmem, ⟨1, _⟩ => ⟨S8x8x128, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x1, .f32⟩
  | .local _ .smem, ⟨0, _⟩ => ⟨S1, .i32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmall2048Ideal.lean ====
abbrev S1 : Shape := ⟨1, ![1]⟩
abbrev S8x1x2048 : Shape := ⟨3, ![8, 1, 2048]⟩
abbrev S8x8x128 : Shape := ⟨3, ![8, 8, 128]⟩
abbrev S1x2048 : Shape := ⟨2, ![1, 2048]⟩
abbrev S_ : Shape := ⟨0, ![]⟩
abbrev S8x128 : Shape := ⟨2, ![8, 128]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x2048, .f32⟩
  | .hbm, ⟨2, _⟩ => ⟨S8x8x128, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S_, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S_, .f32⟩
  | .hbm, ⟨42, _⟩ => ⟨S8x128, .f32⟩
  | .hbm, ⟨43, _⟩ => ⟨S1x1, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== KernelSmall5632.lean ====
abbrev S1 : Shape := ⟨1, ![1]⟩
abbrev S8x1x5632 : Shape := ⟨3, ![8, 1, 5632]⟩
abbrev S8x8x128 : Shape := ⟨3, ![8, 8, 128]⟩
abbrev S1x5632 : Shape := ⟨2, ![1, 5632]⟩
abbrev S1x1 : Shape := ⟨2, ![1, 1]⟩
abbrev S1x1x5632 : Shape := ⟨3, ![1, 1, 5632]⟩
abbrev S1x1x1 : Shape := ⟨3, ![1, 1, 1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x5632, .f32⟩
  | .hbm, ⟨1, _⟩ => ⟨S8x8x128, .f32⟩
  | .hbm, ⟨2, _⟩ => ⟨S1x5632, .f32⟩
  | .hbm, ⟨3, _⟩ => ⟨S1x5632, .f32⟩
  | .hbm, ⟨4, _⟩ => ⟨S1x5632, .f32⟩
  | .hbm, ⟨5, _⟩ => ⟨S1x5632, .f32⟩
  | .hbm, ⟨6, _⟩ => ⟨S1x5632, .f32⟩
  | .hbm, ⟨7, _⟩ => ⟨S1x5632, .f32⟩
  | .hbm, ⟨8, _⟩ => ⟨S1x5632, .f32⟩
  | .hbm, ⟨9, _⟩ => ⟨S1x1, .f32⟩
  | .local _ .vmem, ⟨0, _⟩ => ⟨S8x1x5632, .f32⟩
  | .local _ .vmem, ⟨1, _⟩ => ⟨S8x8x128, .f32⟩
  | .local _ .vmem, ⟨2, _⟩ => ⟨S1x5632, .f32⟩
  | .local _ .vmem, ⟨3, _⟩ => ⟨S1x5632, .f32⟩
  | .local _ .vmem, ⟨4, _⟩ => ⟨S1x5632, .f32⟩
  | .local _ .vmem, ⟨5, _⟩ => ⟨S1x5632, .f32⟩
  | .local _ .vmem, ⟨6, _⟩ => ⟨S1x5632, .f32⟩
  | .local _ .vmem, ⟨7, _⟩ => ⟨S1x5632, .f32⟩
  | .local _ .vmem, ⟨8, _⟩ => ⟨S1x5632, .f32⟩
  | .local _ .vmem, ⟨9, _⟩ => ⟨S1x1, .f32⟩
  | .local _ .smem, ⟨0, _⟩ => ⟨S1, .i32⟩
  | _, _ => ⟨S8x1x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceSmall5632Ideal.lean ====
abbrev S1 : Shape := ⟨1, ![1]⟩
abbrev S8x1x5632 : Shape := ⟨3, ![8, 1, 5632]⟩
abbrev S8x8x128 : Shape := ⟨3, ![8, 8, 128]⟩
abbrev S1x5632 : Shape := ⟨2, ![1, 5632]⟩
abbrev S_ : Shape := ⟨0, ![]⟩
abbrev S8x128 : Shape := ⟨2, ![8, 128]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x5632, .f32⟩
  | .hbm, ⟨2, _⟩ => ⟨S8x8x128, .f32⟩
  | .hbm, ⟨3, _⟩ => ⟨S1x5632, .f32⟩
  | .hbm, ⟨4, _⟩ => ⟨S1x5632, .f32⟩
  | .hbm, ⟨5, _⟩ => ⟨S1x5632, .f32⟩
  | .hbm, ⟨6, _⟩ => ⟨S_, .f32⟩
  | .hbm, ⟨7, _⟩ => ⟨S1x5632, .f32⟩
  | .hbm, ⟨8, _⟩ => ⟨S_, .f32⟩
  | .hbm, ⟨9, _⟩ => ⟨S1x5632, .f32⟩
  | .hbm, ⟨10, _⟩ => ⟨S1x5632, .f32⟩
  | .hbm, ⟨11, _⟩ => ⟨S_, .f32⟩
  | .hbm, ⟨12, _⟩ => ⟨S1x5632, .f32⟩
  | .hbm, ⟨13, _⟩ => ⟨S1x5632, .f32⟩
  | .hbm, ⟨14, _⟩ => ⟨S1x5632, .f32⟩
  | .hbm, ⟨15, _⟩ => ⟨S_, .f32⟩
  | .hbm, ⟨16, _⟩ => ⟨S1x5632, .f32⟩
  | .hbm, ⟨17, _⟩ => ⟨S1x5632, .f32⟩
  | .hbm, ⟨18, _⟩ => ⟨S1x5632, .f32⟩
  | .hbm, ⟨19, _⟩ => ⟨S_, .f32⟩
  | .hbm, ⟨20, _⟩ => ⟨S1x5632, .f32⟩
  | .hbm, ⟨21, _⟩ => ⟨S1x5632, .f32⟩
  | .hbm, ⟨22, _⟩ => ⟨S1x5632, .f32⟩
  | .hbm, ⟨23, _⟩ => ⟨S_, .f32⟩
  | .hbm, ⟨24, _⟩ => ⟨S1x5632, .f32⟩
  | .hbm, ⟨25, _⟩ => ⟨S1x5632, .f32⟩
  | .hbm, ⟨26, _⟩ => ⟨S_, .f32⟩
  | .hbm, ⟨27, _⟩ => ⟨S1x5632, .f32⟩
  | .hbm, ⟨28, _⟩ => ⟨S1x5632, .f32⟩
  | .hbm, ⟨29, _⟩ => ⟨S1x5632, .f32⟩
  | .hbm, ⟨30, _⟩ => ⟨S_, .f32⟩
  | .hbm, ⟨31, _⟩ => ⟨S1x5632, .f32⟩
  | .hbm, ⟨32, _⟩ => ⟨S1x5632, .f32⟩
  | .hbm, ⟨33, _⟩ => ⟨S1x5632, .f32⟩
  | .hbm, ⟨34, _⟩ => ⟨S_, .f32⟩
  | .hbm, ⟨35, _⟩ => ⟨S1x5632, .f32⟩
  | .hbm, ⟨36, _⟩ => ⟨S1x5632, .f32⟩
  | .hbm, ⟨37, _⟩ => ⟨S1x5632, .f32⟩
  | .hbm, ⟨38, _⟩ => ⟨S_, .f32⟩
  | .hbm, ⟨39, _⟩ => ⟨S1x5632, .f32⟩
  | .hbm, ⟨40, _⟩ => ⟨S1x5632, .f32⟩
  | .hbm, ⟨41, _⟩ => ⟨S_, .f32⟩
  | .hbm, ⟨42, _⟩ => ⟨S8x128, .f32⟩
  | .hbm, ⟨43, _⟩ => ⟨S1x1, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Proof.Coe.lean ====
/-
  The ideal operations on extended reals that are real numbers: each is the real operation, under the coercion. A proof
  that all arguments of a program are finite pushes the coercion outward with these and goes on in the reals.
-/
module

public import Idealize.ShloMosaic.PureOps.Ideal
public import Idealize.ShloMosaic.PureOps.Ideal.Laws

@[expose] public section

namespace Cert.Ret

open Idealize.ShloMosaic

/-- The coercion of a finite sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_mul' (a b : ℝ) : ((a : EReal) * (b : EReal)) = ((a * b : ℝ) : EReal) := (EReal.coe_mul a b).symm
theorem coe_add' (a b : ℝ) : ((a : EReal) + (b : EReal)) = ((a + b : ℝ) : EReal) := (EReal.coe_add a b).symm
theorem coe_sub' (a b : ℝ) : ((a : EReal) - (b : EReal)) = ((a - b : ℝ) : EReal) := (EReal.coe_sub a b).symm
theorem coe_neg' (a : ℝ) : (-(a : EReal)) = ((-a : ℝ) : EReal) := (EReal.coe_neg a).symm
theorem coe_zero' : (0 : EReal) = ((0 : ℝ) : EReal) := rfl
theorem coe_one' : (1 : EReal) = ((1 : ℝ) : EReal) := rfl

theorem exp_coe (a : ℝ) : Ideal.exp (a : EReal) = ((Real.exp a : ℝ) : EReal) := rfl
theorem exp_bot : Ideal.exp (⊥ : EReal) = ((0 : ℝ) : EReal) := rfl
theorem cos_coe (a : ℝ) : Ideal.cos (a : EReal) = ((Real.cos a : ℝ) : EReal) := rfl
theorem sin_coe (a : ℝ) : Ideal.sin (a : EReal) = ((Real.sin a : ℝ) : EReal) := rfl
theorem pow_coe (a b : ℝ) : Ideal.pow (a : EReal) (b : EReal) = ((Real.rpow a b : ℝ) : EReal) := rfl

theorem log_coe {a : ℝ} (h : 0 < a) : Ideal.log (a : EReal) = ((Real.log a : ℝ) : EReal) := by
  show (if a ≤ 0 then (⊥ : EReal) else _) = _
  rw [if_neg (not_le.mpr h)]

theorem rsqrt_coe {a : ℝ} (h : 0 < a) : Ideal.rsqrt (a : EReal) = (((Real.sqrt a)⁻¹ : ℝ) : EReal) := by
  show (if a < 0 then (⊥ : EReal) else if a = 0 then ⊤ else _) = _
  rw [if_neg (not_lt.mpr h.le), if_neg h.ne']

theorem div_coe_coe (a : ℝ) {b : ℝ} (h : b ≠ 0) : Ideal.div (a : EReal) (b : EReal) = ((a / b : ℝ) : EReal) := by
  unfold Ideal.div
  rw [if_neg (by simpa using h), ← EReal.coe_inv, ← EReal.coe_mul, div_eq_mul_inv]

/-- A comparison of coerced reals, as a bit. -/
theorem oge_coe (a b : ℝ) : Ideal.cmp .oge (a : EReal) (b : EReal) = BitVec.ofBool (decide (b ≤ a)) := by
  simp [Ideal.cmp]

theorem ole_coe (a b : ℝ) : Ideal.cmp .ole (a : EReal) (b : EReal) = BitVec.ofBool (decide (a ≤ b)) := by
  simp [Ideal.cmp]

/-- A choice between a real and the exponential's bottom, exponentiated. -/
theorem exp_select (p : Prop) [Decidable p] (a : ℝ) :
    Ideal.exp (Scalar.select (BitVec.ofBool (decide p)) (a : EReal) (⊥ : EReal)) = ((if p then Real.exp a else 0 : ℝ) : EReal) := by
  by_cases h : p <;> simp [h, Scalar.select, exp_coe, exp_bot]

end Cert.Ret
-- ==== Proof.Real.lean ====
/-
  The gradient of the retention mixer over the real numbers, row by row: what the reference's lines compute where every
  argument is finite. Rows are numbered by naturals, a head's lanes too, so that no bound is carried along.
-/
module

public import Mathlib.Analysis.SpecialFunctions.Pow.Real
public import Mathlib.Analysis.SpecialFunctions.Trigonometric.Basic
public import Mathlib.Analysis.SpecialFunctions.Log.Basic
public import Mathlib.Algebra.BigOperators.Fin

@[expose] public section

noncomputable section

namespace Cert.Ret

/-- The five arguments as tables of real numbers: `q`, `k` with 4 · 256 columns, `v`, the gate `g` and the gradient
    `y` of the mixer's result with 4 · 512. -/
structure Arg where
  q : ℕ → ℕ → ℝ
  k : ℕ → ℕ → ℝ
  v : ℕ → ℕ → ℝ
  g : ℕ → ℕ → ℝ
  y : ℕ → ℕ → ℝ

/-- `linspace(0, 1, 128)`. -/
def lin (d : ℕ) : ℝ := if d < 127 then (d : ℝ) / 127 else 1

/-- The angle of row `l` at lane `d` of a half head. -/
def ang (l d : ℕ) : ℝ := ((l : ℝ) - 112) * Real.rpow 10000 (-lin d)

/-- The rotary turn of a row: the lower half of a head's lanes, and the upper. -/
def rotLo (x : ℕ → ℕ → ℝ) (l h d : ℕ) : ℝ :=
  x l (h * 256 + d) * Real.cos (ang l d) - x l (h * 256 + (128 + d)) * Real.sin (ang l d)
def rotHi (x : ℕ → ℕ → ℝ) (l h d : ℕ) : ℝ :=
  x l (h * 256 + (128 + d)) * Real.cos (ang l d) + x l (h * 256 + d) * Real.sin (ang l d)
/-- The turned row, head `h`, lane `d`. -/
def rot (x : ℕ → ℕ → ℝ) (l h d : ℕ) : ℝ := if d < 128 then rotLo x l h d else rotHi x l h (d - 128)

/-- The transposed turn, the two halves and the whole. -/
def unLo (x : ℕ → ℕ → ℕ → ℝ) (l h d : ℕ) : ℝ := x l h d * Real.cos (ang l d) + x l h (128 + d) * Real.sin (ang l d)
def unHi (x : ℕ → ℕ → ℕ → ℝ) (l h d : ℕ) : ℝ := x l h (128 + d) * Real.cos (ang l d) - x l h d * Real.sin (ang l d)
def unrot (x : ℕ → ℕ → ℕ → ℝ) (l h d : ℕ) : ℝ := if d < 128 then unLo x l h d else unHi x l h (d - 128)

/-- The logarithm of head `h`'s decay. -/
def lg (h : ℕ) : ℝ := Real.log (1 - Real.rpow 2 (-5 - (h : ℝ)))

/-- The causal decay from row `s` to row `l`. -/
def dec (h l s : ℕ) : ℝ := if 0 ≤ (l : ℝ) - (s : ℝ) then Real.exp (((l : ℝ) - (s : ℝ)) * lg h) else 0

/-- The norm's epsilon, the number its float word is. -/
def eps : ℝ := 8796093 / 8796093022208

/-- The logistic function. -/
def sig (x : ℝ) : ℝ := 1 / (1 + Real.exp (-x))

/-- The decay of row `s` in the state before chunk `c`. -/
def decS (h c s : ℕ) : ℝ := if 0 ≤ 128 * (c : ℝ) - 1 - (s : ℝ) then Real.exp ((128 * (c : ℝ) - 1 - (s : ℝ)) * lg h) else 0

variable (a : Arg)

/-- The scaled and turned key. -/
def ks (l h d : ℕ) : ℝ := rot a.k l h d * (1 / 16)

/-- The state before chunk `c`. -/
def st (c h d e : ℕ) : ℝ := ∑ s : Fin 8320, a.v s (h * 512 + e) * (ks a s h d * decS h c s)

/-- The decayed score of row `l` with row `s`. -/
def sc (h l s : ℕ) : ℝ := (∑ x : Fin 256, rot a.q l h x * ks a s h x) * dec h l s

/-- The mixed row. -/
def out (l h e : ℕ) : ℝ := ∑ s : Fin 8320, a.v s (h * 512 + e) * sc a h l s

/-- The mean square of a head's row, plus epsilon. -/
def ms (l h : ℕ) : ℝ := (∑ x : Fin 512, out a l h x * out a l h x) / 512 + eps

/-- Its inverse square root. -/
def rs (l h : ℕ) : ℝ := (Real.sqrt (ms a l h))⁻¹

/-- The gradient of the normed row. -/
def dn (l h e : ℕ) : ℝ := a.g l (h * 512 + e) * sig (a.g l (h * 512 + e)) * a.y l (h * 512 + e)

/-- What the norm's scale passes back, per head and row. -/
def back (l h : ℕ) : ℝ :=
  (∑ x : Fin 512, out a l h x * dn a l h x) * (-(1 / 2) * (rs a l h / ms a l h)) / 512

/-- The gradient of the mixed row. -/
def dO (l h e : ℕ) : ℝ := dn a l h e * rs a l h + out a l h e * back a l h + back a l h * out a l h e

/-- The decayed gradient of a score. -/
def ds (h l s : ℕ) : ℝ := (∑ e : Fin 512, dO a l h e * a.v s (h * 512 + e)) * dec h l s

/-- The gradient of the turned query. -/
def dq (l h d : ℕ) : ℝ := ∑ s : Fin 8320, ds a h l s * ks a s h d

/-- The gradient of the turned key, the scale included. -/
def dk (s h d : ℕ) : ℝ := (∑ l : Fin 8320, ds a h l s * rot a.q l h d) * (1 / 16)

/-- The gradient of the value. -/
def dv (s h e : ℕ) : ℝ := ∑ l : Fin 8320, dO a l h e * sc a h l s

/-- The gradient of the gate. -/
def dg (l h e : ℕ) : ℝ :=
  a.y l (h * 512 + e) * (out a l h e * rs a l h) * sig (a.g l (h * 512 + e))
    + a.g l (h * 512 + e) * (a.y l (h * 512 + e) * (out a l h e * rs a l h))
      * (sig (a.g l (h * 512 + e)) * (1 - sig (a.g l (h * 512 + e))))

end Cert.Ret
-- ==== Proof.RefValue.lean ====
/-
  The reference's named terms at an index, over arguments that are real numbers: each is the real table of Real.lean.
-/
module

public import proofs.«01_k».proof.Proof.Gen.ReferenceIdeal.Run
public import proofs.«01_k».proof.Proof.Coe
public import proofs.«01_k».proof.Proof.Real
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem StableHlo
open Cert.Ret

/-- The number a float word is. -/
theorem word_0 : Ideal.ofBits .f32 0x00000000#32 = ((0 : ℝ) : EReal) := by simp [Ideal.ofBits, Ideal.ieee]
theorem word_1 : Ideal.ofBits .f32 0x3F800000#32 = ((1 : ℝ) : EReal) := by simp [Ideal.ofBits, Ideal.ieee, -EReal.coe_mul]; norm_num
theorem word_112 : Ideal.ofBits .f32 0x42E00000#32 = ((112 : ℝ) : EReal) := by simp [Ideal.ofBits, Ideal.ieee, -EReal.coe_mul]; norm_num
theorem word_127 : Ideal.ofBits .f32 0x42FE0000#32 = ((127 : ℝ) : EReal) := by simp [Ideal.ofBits, Ideal.ieee, -EReal.coe_mul]; norm_num
theorem word_128 : Ideal.ofBits .f32 0x43000000#32 = ((128 : ℝ) : EReal) := by simp [Ideal.ofBits, Ideal.ieee, -EReal.coe_mul]; norm_num
theorem word_10000 : Ideal.ofBits .f32 0x461C4000#32 = ((10000 : ℝ) : EReal) := by simp [Ideal.ofBits, Ideal.ieee, -EReal.coe_mul]; norm_num
theorem word_2 : Ideal.ofBits .f32 0x40000000#32 = ((2 : ℝ) : EReal) := by simp [Ideal.ofBits, Ideal.ieee, -EReal.coe_mul]; norm_num
theorem word_m5 : Ideal.ofBits .f32 0xC0A00000#32 = ((-5 : ℝ) : EReal) := by simp [Ideal.ofBits, Ideal.ieee, -EReal.coe_mul]; norm_num
theorem word_512 : Ideal.ofBits .f32 0x44000000#32 = ((512 : ℝ) : EReal) := by simp [Ideal.ofBits, Ideal.ieee, -EReal.coe_mul]; norm_num
theorem word_sixteenth : Ideal.ofBits .f32 0x3D800000#32 = ((1 / 16 : ℝ) : EReal) := by simp [Ideal.ofBits, Ideal.ieee, -EReal.coe_mul]; norm_num
theorem word_mhalf : Ideal.ofBits .f32 0xBF000000#32 = ((-(1 / 2) : ℝ) : EReal) := by simp [Ideal.ofBits, Ideal.ieee, -EReal.coe_mul]; norm_num
theorem word_eps : Ideal.ofBits .f32 0x358637BD#32 = ((eps : ℝ) : EReal) := by simp [Ideal.ofBits, Ideal.ieee, -EReal.coe_mul, eps]; norm_num
theorem word_minf : Ideal.ofBits .f32 0xFF800000#32 = (⊥ : EReal) := by simp [Ideal.ofBits, Ideal.ieee]

/-- A row or lane number converted to a float is that number. -/
theorem sitofp_small {n : ℕ} (h : n < 16384) : (FloatOps.sitofp (F := Ideal) .f32 (BitVec.ofNat 32 n) : EReal) = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]; omega
  rw [this]; norm_num

theorem sitofp_row (l : Fin 8320) : (FloatOps.sitofp (F := Ideal) .f32 (BitVec.ofNat 32 l.val) : EReal) = ((l.val : ℝ) : EReal) :=
  sitofp_small (by omega)
theorem sitofp_lane (l : Fin 128) : (FloatOps.sitofp (F := Ideal) .f32 (BitVec.ofNat 32 l.val) : EReal) = ((l.val : ℝ) : EReal) :=
  sitofp_small (by omega)
theorem sitofp_head (l : Fin 4) : (FloatOps.sitofp (F := Ideal) .f32 (BitVec.ofNat 32 l.val) : EReal) = ((l.val : ℝ) : EReal) :=
  sitofp_small (by omega)

/-- The arguments of a run are the real tables. -/
structure Reads (V0 : Valuation τ sig (Elt Ideal)) (a : Arg) : Prop where
  q : ∀ (l : Fin 8320) (c : Fin 1024), (V0 (Proc.tc.devRef main_arg0) (ix2 l c) : EReal) = ((a.q l.val c.val : ℝ) : EReal)
  k : ∀ (l : Fin 8320) (c : Fin 1024), (V0 (Proc.tc.devRef main_arg1) (ix2 l c) : EReal) = ((a.k l.val c.val : ℝ) : EReal)
  v : ∀ (l : Fin 8320) (c : Fin 2048), (V0 (Proc.tc.devRef main_arg2) (ix2 l c) : EReal) = ((a.v l.val c.val : ℝ) : EReal)
  g : ∀ (l : Fin 8320) (c : Fin 2048), (V0 (Proc.tc.devRef main_arg3) (ix2 l c) : EReal) = ((a.g l.val c.val : ℝ) : EReal)
  y : ∀ (l : Fin 8320) (c : Fin 2048), (V0 (Proc.tc.devRef main_arg4) (ix2 l c) : EReal) = ((a.y l.val c.val : ℝ) : EReal)

variable {V0 : Valuation τ sig (Elt Ideal)} {a : Arg}

theorem v14_val (l : Fin 8320) (d : Fin 128) : (res_main_v14 V0 (ix2 l d) : EReal) = ((ang l.val d.val : ℝ) : EReal) := by
  unfold res_main_v14 res_main_call0_v6 res_main_call0_v0 res_main_call0_v1
  clean_types
  pointwise
  simp only [sitofp_row, sitofp_lane, word_112, word_10000, word_127, id_eq]
  have h0 : (constant (F := Ideal) S_ FTy.f32 (0#32) ix0 : EReal) = ((0 : ℝ) : EReal) := word_0
  have h1 : (constant (F := Ideal) S_ FTy.f32 (1065353216#32) ix0 : EReal) = ((1 : ℝ) : EReal) := word_1
  simp only [h0, h1, div_coe_coe _ (show (127:ℝ) ≠ 0 by norm_num), coe_one', coe_mul', coe_sub', coe_add', ang, lin]
  by_cases h : d.val < 127
  · simp only [h, dif_pos, if_pos, coe_neg', pow_coe, coe_mul', zero_mul, zero_add, one_mul]
  · simp only [h, dif_neg, if_neg, not_false_eq_true, coe_neg', pow_coe, coe_mul']

theorem v16_val (l : Fin 8320) (d : Fin 128) (u : Fin 1) : (res_main_v16 V0 (ix3 l u d) : EReal) = ((Real.cos (ang l.val d.val) : ℝ) : EReal) := by
  unfold res_main_v16
  clean_types
  pointwise
  rw [v14_val, cos_coe]

theorem v18_val (l : Fin 8320) (d : Fin 128) (u : Fin 1) : (res_main_v18 V0 (ix3 l u d) : EReal) = ((Real.sin (ang l.val d.val) : ℝ) : EReal) := by
  unfold res_main_v18
  clean_types
  pointwise
  rw [v14_val, sin_coe]

theorem v31_val (R : Reads V0 a) (l : Fin 8320) (h : Fin 4) (d : Fin 256) :
    (res_main_v31 V0 (ix3 l h d) : EReal) = ((rot a.q l.val h.val d.val : ℝ) : EReal) := by
  unfold res_main_v31 res_main_v19 res_main_v20 res_main_v16 res_main_v18 res_main_v0
  clean_types
  pointwise
  simp only [v14_val, R.q, cos_coe, sin_coe, coe_mul', coe_sub', coe_add', rot, rotLo, rotHi]
  split <;> rfl

theorem v46_val (R : Reads V0 a) (l : Fin 8320) (h : Fin 4) (d : Fin 256) :
    (res_main_v46 V0 (ix3 l h d) : EReal) = ((ks a l.val h.val d.val : ℝ) : EReal) := by
  unfold res_main_v46 res_main_v32 res_main_v33 res_main_v16 res_main_v18 res_main_v1
  clean_types
  pointwise
  simp only [v14_val, R.k, cos_coe, sin_coe, word_sixteenth, coe_mul', coe_sub', coe_add', ks, rot, rotLo, rotHi]
  split <;> simp only [coe_mul']

theorem gam_pos (h : Fin 4) : 0 < 1 - Real.rpow 2 (-5 - (h.val : ℝ)) := by
  have : Real.rpow 2 (-5 - (h.val : ℝ)) < 1 :=
    Real.rpow_lt_one_of_one_lt_of_neg (by norm_num) (by have : (0 : ℝ) ≤ h.val := Nat.cast_nonneg _; linarith)
  linarith

theorem v69_val (l s : Fin 8320) (h : Fin 4) : (res_main_v69 V0 (ix3 h l s) : EReal) = ((dec h.val l.val s.val : ℝ) : EReal) := by
  unfold res_main_v69 res_main_v52 res_main_v47
  clean_types
  pointwise
  have h0 : (constant (F := Ideal) S_ FTy.f32 (4286578688#32) ix0 : EReal) = (⊥ : EReal) := word_minf
  simp only [sitofp_row, sitofp_head, word_2, word_m5, id_eq, h0, coe_one', coe_sub', pow_coe, log_coe (gam_pos h), coe_mul', dec, lg]
  by_cases hh : (0 : ℝ) ≤ (l.val : ℝ) - (s.val : ℝ)
  · rw [if_pos (by exact_mod_cast hh), if_pos hh]; rfl
  · rw [if_neg (by exact_mod_cast hh), if_neg hh]; rfl

theorem v71_val (R : Reads V0 a) (l s : Fin 8320) (h : Fin 4) :
    (res_main_v71 V0 (ix3 h l s) : EReal) = ((sc a h.val l.val s.val : ℝ) : EReal) := by
  unfold res_main_v71
  clean_types
  pointwise
  simp only [v31_val R, v46_val R, v69_val, coe_mul', coe_sum, sc]

theorem v73_val (R : Reads V0 a) (l : Fin 8320) (h : Fin 4) (e : Fin 512) :
    (res_main_v73 V0 (ix3 l h e) : EReal) = ((out a l.val h.val e.val : ℝ) : EReal) := by
  unfold res_main_v73 res_main_v2
  clean_types
  pointwise
  simp only [v71_val R, R.v, coe_mul', coe_sum, out]

theorem v80_val (R : Reads V0 a) (l : Fin 8320) (h : Fin 4) (u : Fin 1) :
    (res_main_v80 V0 (ix3 l h u) : EReal) = ((ms a l.val h.val : ℝ) : EReal) := by
  unfold res_main_v80
  clean_types
  pointwise
  simp only [v73_val R, word_512, word_eps, coe_mul', ms]
  simp only [coe_mul', coe_sum, div_coe_coe _ (show (512:ℝ) ≠ 0 by norm_num), coe_add']

theorem ms_pos (a : Arg) (l h : ℕ) : 0 < ms a l h := by
  unfold ms eps
  have : 0 ≤ ∑ x : Fin 512, out a l h x * out a l h x := Finset.sum_nonneg fun _ _ => mul_self_nonneg _
  positivity

theorem v81_val (R : Reads V0 a) (l : Fin 8320) (h : Fin 4) (u : Fin 1) :
    (res_main_v81 V0 (ix3 l h u) : EReal) = ((rs a l.val h.val : ℝ) : EReal) := by
  unfold res_main_v81
  clean_types
  pointwise
  simp only [v80_val R, rsqrt_coe (ms_pos _ _ _), rs]

theorem v87_2_val (R : Reads V0 a) (l : Fin 8320) (c : Fin 2048) :
    (res_main_v87_2 V0 (ix2 l c) : EReal) = ((Ret.sig (a.g l.val c.val) : ℝ) : EReal) := by
  unfold res_main_v87_2
  clean_types
  pointwise
  simp only [R.g, Ret.sig, coe_neg', exp_coe, coe_one', coe_add']
  rw [div_coe_coe _ (by positivity)]

theorem v87_0_val (R : Reads V0 a) (l : Fin 8320) (c : Fin 2048) :
    (res_main_v87_0 V0 (ix2 l c) : EReal) = ((a.g l.val c.val * Ret.sig (a.g l.val c.val) : ℝ) : EReal) := by
  unfold res_main_v87_0
  clean_types
  pointwise
  simp only [R.g, v87_2_val R, coe_mul']

theorem v88_val (R : Reads V0 a) (l : Fin 8320) (c : Fin 2048) :
    (res_main_v88 V0 (ix2 l c) : EReal) = ((out a l.val (c.val / 512) (c.val % 512) * rs a l.val (c.val / 512) : ℝ) : EReal) := by
  unfold res_main_v88
  clean_types
  pointwise
  simp only [v73_val R, v81_val R, coe_mul']

theorem v91_val (R : Reads V0 a) (l : Fin 8320) (c : Fin 2048) :
    (res_main_v91 V0 (ix2 l c) : EReal) = ((a.y l.val c.val * (out a l.val (c.val / 512) (c.val % 512) * rs a l.val (c.val / 512)) : ℝ) : EReal) := by
  unfold res_main_v91
  clean_types
  pointwise
  simp only [v88_val R, R.y, coe_mul']

theorem v92_val (R : Reads V0 a) (l : Fin 8320) (h : Fin 4) (e : Fin 512) :
    (res_main_v92 V0 (ix3 l h e) : EReal) = ((dn a l.val h.val e.val : ℝ) : EReal) := by
  unfold res_main_v92
  clean_types
  pointwise
  simp only [v87_0_val R, R.y, coe_mul', dn]

theorem v103_val (R : Reads V0 a) (l : Fin 8320) (h : Fin 4) (e : Fin 512) :
    (res_main_v103 V0 (ix3 l h e) : EReal) = ((back a l.val h.val : ℝ) : EReal) := by
  unfold res_main_v103
  clean_types
  pointwise
  simp only [v73_val R, v81_val R, v80_val R, v92_val R, word_512, word_mhalf, coe_mul', back, div_coe_coe _ (ms_pos _ _ _).ne']
  simp only [coe_sum, coe_mul', div_coe_coe _ (show (512:ℝ) ≠ 0 by norm_num), Finset.univ_unique, Finset.sum_singleton]

theorem v108_val (R : Reads V0 a) (l : Fin 8320) (h : Fin 4) (e : Fin 512) :
    (res_main_v108 V0 (ix3 h e l) : EReal) = ((dO a l.val h.val e.val : ℝ) : EReal) := by
  unfold res_main_v108
  clean_types
  pointwise
  simp only [v73_val R, v81_val R, v92_val R, v103_val R, coe_mul', coe_add', dO]

theorem v112_val (R : Reads V0 a) (l s : Fin 8320) (h : Fin 4) :
    (res_main_v112 V0 (ix3 h l s) : EReal) = ((ds a h.val l.val s.val : ℝ) : EReal) := by
  unfold res_main_v112 res_main_v2
  clean_types
  pointwise
  simp only [v108_val R, v69_val, R.v, coe_mul', coe_sum, ds]

theorem v116_val (R : Reads V0 a) (l : Fin 8320) (h : Fin 4) (d : Fin 256) :
    (res_main_v116 V0 (ix3 l h d) : EReal) = ((dq a l.val h.val d.val : ℝ) : EReal) := by
  unfold res_main_v116
  clean_types
  pointwise
  simp only [v112_val R, v46_val R, coe_mul', coe_sum, dq]

theorem v118_val (R : Reads V0 a) (l : Fin 8320) (h : Fin 4) (d : Fin 256) :
    (res_main_v118 V0 (ix3 l h d) : EReal) = ((dk a l.val h.val d.val : ℝ) : EReal) := by
  unfold res_main_v118
  clean_types
  pointwise
  simp only [v112_val R, v31_val R, word_sixteenth, coe_mul', coe_sum, dk]

end Cert.ReferenceIdeal.Value
-- ==== Proof.Prefix.lean ====
module

public import proofs.«01_k».proof.Proof.Gen.KernelIdeal.Value
public import proofs.«01_k».proof.Proof.RefValue
public import Idealize.ShloMosaic.Lib.StableHlo.ReadAt

@[expose] public section

set_option maxRecDepth 16384

noncomputable section

namespace Cert.KernelIdeal.Prefix

open Cert.KernelIdeal Cert.KernelIdeal.Gen Idealize.ShloMosaic Idealize.ShloMosaic.TcCoe Idealize.SL.Sem StableHlo
open Cert.Ret
open Cert.ReferenceIdeal.Value (sitofp_row sitofp_lane sitofp_head sitofp_small word_0 word_1 word_112 word_127 word_128 word_2 word_m5 word_512 word_10000 word_sixteenth word_mhalf word_eps word_minf)

/-- The arguments of the kernel's program are the real tables. -/
structure Reads (m : (ℓ : Loc nD τ sig) → Buf (Elt Ideal) ℓ) (c : Dev nD) (a : Arg) : Prop where
  q : ∀ (l : Fin 8320) (j : Fin 1024), (m (c, Proc.devRef .tc main_arg0) (ix2 l j) : EReal) = ((a.q l.val j.val : ℝ) : EReal)
  k : ∀ (l : Fin 8320) (j : Fin 1024), (m (c, Proc.devRef .tc main_arg1) (ix2 l j) : EReal) = ((a.k l.val j.val : ℝ) : EReal)
  v : ∀ (l : Fin 8320) (j : Fin 2048), (m (c, Proc.devRef .tc main_arg2) (ix2 l j) : EReal) = ((a.v l.val j.val : ℝ) : EReal)
  g : ∀ (l : Fin 8320) (j : Fin 2048), (m (c, Proc.devRef .tc main_arg3) (ix2 l j) : EReal) = ((a.g l.val j.val : ℝ) : EReal)
  y : ∀ (l : Fin 8320) (j : Fin 2048), (m (c, Proc.devRef .tc main_arg4) (ix2 l j) : EReal) = ((a.y l.val j.val : ℝ) : EReal)

variable {m : (ℓ : Loc nD τ sig) → Buf (Elt Ideal) ℓ} {c : Dev nD} {a : Arg}

theorem const_0 : (constant (F := Ideal) S_ FTy.f32 (0#32) ix0 : EReal) = ((0 : ℝ) : EReal) := word_0
theorem const_1 : (constant (F := Ideal) S_ FTy.f32 (1065353216#32) ix0 : EReal) = ((1 : ℝ) : EReal) := word_1
theorem const_minf : (constant (F := Ideal) S_ FTy.f32 (4286578688#32) ix0 : EReal) = (⊥ : EReal) := word_minf

/-- `linspace(0, 1, 128)` at a lane, as the host's lines write it. -/
theorem lin_dite {d : ℕ} :
    (if d < 127 then ((0 : ℝ) : EReal) * (1 - (((d : ℝ) / 127 : ℝ) : EReal)) + ((1 : ℝ) : EReal) * (((d : ℝ) / 127 : ℝ) : EReal)
      else ((1 : ℝ) : EReal)) = ((lin d : ℝ) : EReal) := by
  simp only [coe_one', coe_sub', coe_mul', coe_add', lin]
  split <;> simp

theorem rot_dite {x : ℕ → ℕ → ℝ} {l h d : ℕ} :
    (if d < 128 then ((rotLo x l h d : ℝ) : EReal) else ((rotHi x l h (d - 128) : ℝ) : EReal)) = ((rot x l h d : ℝ) : EReal) := by
  unfold rot; split <;> rfl

theorem exp_ite {p : Prop} [Decidable p] {x : ℝ} :
    Ideal.exp (if p then (x : EReal) else (⊥ : EReal)) = ((if p then Real.exp x else 0 : ℝ) : EReal) := by
  split <;> rfl

theorem v13_val (l : Fin 8320) (d : Fin 128) :
    (Gen.V m c main_v13 (ix2 l d) : EReal) = ((Real.cos (ang l.val d.val) : ℝ) : EReal) := by
  unfold Gen.V
  after_reads_at
  after_reads_at
  simp (disch := omega) only [sitofp_row, sitofp_small, word_112, word_10000, word_127, id_eq, const_0, const_1, div_coe_coe _ (show (127:ℝ) ≠ 0 by norm_num), dite_eq_ite, lin_dite]
  simp only [coe_neg', pow_coe, coe_sub', coe_mul', cos_coe, ang]

theorem v14_val (l : Fin 8320) (d : Fin 128) :
    (Gen.V m c main_v14 (ix2 l d) : EReal) = ((Real.sin (ang l.val d.val) : ℝ) : EReal) := by
  unfold Gen.V
  after_reads_at
  after_reads_at
  simp (disch := omega) only [sitofp_row, sitofp_small, word_112, word_10000, word_127, id_eq, const_0, const_1, div_coe_coe _ (show (127:ℝ) ≠ 0 by norm_num), dite_eq_ite, lin_dite]
  simp only [coe_neg', pow_coe, coe_sub', coe_mul', sin_coe, ang]

theorem v40_val (R : Reads m c a) (l : Fin 8320) (h : Fin 4) (d : Fin 128) :
    (upto [hostOps0, hostOps0_1, hostOps0_2, hostOps0_3, hostOps0_4, hostOps0_5, hostOps0_6, hostOps0_7, hostOps0_8].flatten (fun b => m (c, b)) 94 (Proc.devRef .tc main_v40) (ix3 l h d) : EReal) = ((rotLo a.q l.val h.val d.val : ℝ) : EReal) := by
  after_reads_at
  after_reads_at
  simp (disch := omega) only [sitofp_row, sitofp_small, word_112, word_10000, word_127, id_eq, const_0, const_1, div_coe_coe _ (show (127:ℝ) ≠ 0 by norm_num), dite_eq_ite, lin_dite]
  simp only [coe_neg', pow_coe, coe_sub', coe_add', coe_mul', cos_coe, sin_coe, R.q, ang, rotLo]

theorem v45_val (R : Reads m c a) (l : Fin 8320) (h : Fin 4) (d : Fin 128) :
    (upto [hostOps0, hostOps0_1, hostOps0_2, hostOps0_3, hostOps0_4, hostOps0_5, hostOps0_6, hostOps0_7, hostOps0_8].flatten (fun b => m (c, b)) 94 (Proc.devRef .tc main_v45) (ix3 l h d) : EReal) = ((rotHi a.q l.val h.val d.val : ℝ) : EReal) := by
  after_reads_at
  after_reads_at
  simp (disch := omega) only [sitofp_row, sitofp_small, word_112, word_10000, word_127, id_eq, const_0, const_1, div_coe_coe _ (show (127:ℝ) ≠ 0 by norm_num), dite_eq_ite, lin_dite]
  simp only [coe_neg', pow_coe, coe_sub', coe_add', coe_mul', cos_coe, sin_coe, R.q, ang, rotHi]

theorem v53_val (R : Reads m c a) (l : Fin 8320) (h : Fin 4) (d : Fin 128) :
    (upto [hostOps0, hostOps0_1, hostOps0_2, hostOps0_3, hostOps0_4, hostOps0_5, hostOps0_6, hostOps0_7, hostOps0_8].flatten (fun b => m (c, b)) 107 (Proc.devRef .tc main_v53) (ix3 l h d) : EReal) = ((rotLo a.k l.val h.val d.val : ℝ) : EReal) := by
  after_reads_at
  after_reads_at
  simp (disch := omega) only [sitofp_row, sitofp_small, word_112, word_10000, word_127, id_eq, const_0, const_1, div_coe_coe _ (show (127:ℝ) ≠ 0 by norm_num), dite_eq_ite, lin_dite]
  simp only [coe_neg', pow_coe, coe_sub', coe_add', coe_mul', cos_coe, sin_coe, R.k, ang, rotLo]

theorem v58_val (R : Reads m c a) (l : Fin 8320) (h : Fin 4) (d : Fin 128) :
    (upto [hostOps0, hostOps0_1, hostOps0_2, hostOps0_3, hostOps0_4, hostOps0_5, hostOps0_6, hostOps0_7, hostOps0_8].flatten (fun b => m (c, b)) 107 (Proc.devRef .tc main_v58) (ix3 l h d) : EReal) = ((rotHi a.k l.val h.val d.val : ℝ) : EReal) := by
  after_reads_at
  after_reads_at
  simp (disch := omega) only [sitofp_row, sitofp_small, word_112, word_10000, word_127, id_eq, const_0, const_1, div_coe_coe _ (show (127:ℝ) ≠ 0 by norm_num), dite_eq_ite, lin_dite]
  simp only [coe_neg', pow_coe, coe_sub', coe_add', coe_mul', cos_coe, sin_coe, R.k, ang, rotHi]

/-- A sum over a head's lanes, half by half. -/
theorem sum_halves (f : ℕ → ℝ) : ∑ x : Fin 256, f x.val = ∑ x : Fin 128, f x.val + ∑ x : Fin 128, f (128 + x.val) := by
  exact Fin.sum_univ_add (a := 128) (b := 128) (fun i => f i.val)

/-- A score over the lanes, half by half. -/
theorem sum_rot (q k : ℕ → ℕ → ℝ) (l s h : ℕ) :
    ∑ x : Fin 128, rotLo q l h x.val * (rotLo k s h x.val * (1 / 16)) + ∑ x : Fin 128, rotHi q l h x.val * (rotHi k s h x.val * (1 / 16))
      = ∑ x : Fin 256, rot q l h x.val * (rot k s h x.val * (1 / 16)) := by
  rw [sum_halves (fun x => rot q l h x * (rot k s h x * (1 / 16)))]
  refine congrArg₂ (· + ·) (Finset.sum_congr rfl fun x _ => ?_) (Finset.sum_congr rfl fun x _ => ?_)
  · simp only [rot, if_pos x.isLt]
  · simp only [rot, if_neg (show ¬ (128 + x.val < 128) by omega), Nat.add_sub_cancel_left]

/-- The gate's and the decay's host lines: the logarithm of a head's decay. -/
theorem log_head {h : ℕ} : Ideal.log ((1 - Real.rpow 2 (-5 - (h : ℝ)) : ℝ) : EReal) = ((lg h : ℝ) : EReal) := log_coe (by
  have : Real.rpow 2 (-5 - (h : ℝ)) < 1 :=
    Real.rpow_lt_one_of_one_lt_of_neg (by norm_num) (by have : (0 : ℝ) ≤ h := Nat.cast_nonneg _; linarith)
  linarith)

theorem ge_coe {x : ℝ} : ((0 : EReal) ≤ (x : EReal)) = (0 ≤ x) := propext EReal.coe_nonneg

theorem v127_val (R : Reads m c a) (l : Fin 8320) (j : Fin 1024) :
    (Gen.V m c main_v127 (ix2 l j) : EReal) = ((rot a.q l.val (j.val / 256) (j.val % 256) : ℝ) : EReal) := by
  unfold Gen.V
  after_reads_at
  simp only [v40_val R, v45_val R, dite_eq_ite, rot_dite]

theorem v129_val (R : Reads m c a) (l : Fin 8320) (j : Fin 1024) :
    (Gen.V m c main_v129 (ix2 l j) : EReal) = ((ks a l.val (j.val / 256) (j.val % 256) : ℝ) : EReal) := by
  unfold Gen.V
  after_reads_at
  simp only [v53_val R, v58_val R, dite_eq_ite, rot_dite, word_sixteenth, coe_mul', ks]

theorem v125_val (R : Reads m c a) (l : Fin 8320) (j : Fin 2048) :
    (Gen.V m c main_v125 (ix2 l j) : EReal) = ((out a l.val (j.val / 512) (j.val % 512) : ℝ) : EReal) := by
  unfold Gen.V
  after_reads_at
  simp (disch := omega) only [v40_val R, v45_val R, v53_val R, v58_val R, word_sixteenth, coe_mul', coe_sum, coe_add', sum_rot, sitofp_row, sitofp_head, sitofp_small, word_2, word_m5,
    id_eq, const_minf, coe_one', coe_sub', pow_coe, log_head, ge_coe, exp_ite, R.v]
  simp only [out, sc, ks, dec]

theorem v131_val (R : Reads m c a) (l : Fin 65) (h : Fin 1024) (e : Fin 512) :
    (Gen.V m c main_v131 (ix3 l h e) : EReal) = ((st a l.val (h.val / 256) (h.val % 256) e.val : ℝ) : EReal) := by
  unfold Gen.V
  after_reads_at
  simp (disch := omega) only [v53_val R, v58_val R, dite_eq_ite, rot_dite, word_sixteenth, coe_mul', coe_sum, coe_add', sitofp_row, sitofp_head, sitofp_small, word_2, word_m5, word_128,
    id_eq, const_minf, coe_one', coe_sub', pow_coe, log_head, ge_coe, exp_ite, R.v]
  simp only [st, ks, decS]

theorem arg4_val (R : Reads m c a) (l : Fin 8320) (j : Fin 2048) :
    (Gen.V m c main_arg4 (ix2 l j) : EReal) = ((a.y l.val j.val : ℝ) : EReal) := by
  unfold Gen.V
  after_reads_at
  exact R.y l j

/-- The projection's columns, `v` then the gate. -/
theorem v0_v (R : Reads m c a) (l : Fin 8320) (j : Fin 2048) :
    (Gen.V m c main_v0 (ix2 l (⟨j.val, by omega⟩ : Fin 6144)) : EReal) = ((a.v l.val j.val : ℝ) : EReal) := by
  unfold Gen.V
  after_reads_at
  exact R.v l j

theorem v0_g (R : Reads m c a) (l : Fin 8320) (j : Fin 2048) :
    (Gen.V m c main_v0 (ix2 l (⟨2048 + j.val, by omega⟩ : Fin 6144)) : EReal) = ((a.g l.val j.val : ℝ) : EReal) := by
  unfold Gen.V
  after_reads_at
  exact R.g l j

end Cert.KernelIdeal.Prefix
-- ==== Proof.Finite.lean ====
/-
  The precondition: every entry of every argument is finite, so each is a real number.
-/
module

public import proofs.«01_k».proof.Defs
public import proofs.«01_k».proof.Proof.Gen.Pre_finite
public import proofs.«01_k».proof.Proof.Prefix
public import proofs.«01_k».proof.Proof.RefValue
public import Idealize.ShloMosaic.Lib.ReduceAll

@[expose] public section

set_option maxRecDepth 16384

noncomputable section

namespace Cert.Finite

open Idealize.ShloMosaic Idealize.ShloMosaic.TcCoe Idealize.SL.Sem StableHlo Cert.Ret

instance : Subsingleton Cert.Pre_finite.S_.Idx := ⟨fun x y => funext fun i => i.elim0⟩

/-- An extended real whose size is below the infinite word is real. -/
theorem real_of_lt (x : Ideal .f32)
    (h : FloatOps.cmpf .olt (FloatOps.hostAbsf x) (FloatOps.ofBits (F := Ideal) .f32 0x7F800000#32) = 1#1) :
    (x : EReal) = ((x : EReal).toReal : ℝ) := by
  have hw : (FloatOps.ofBits (F := Ideal) .f32 0x7F800000#32 : EReal) = ⊤ := by
    show Ideal.ofBits .f32 0x7F800000#32 = ⊤
    simp [Ideal.ofBits, Ideal.ieee]
  rw [hw] at h
  refine (EReal.coe_toReal ?_ ?_).symm
  · rintro rfl
    revert h
    show ¬ (Ideal.cmp .olt (max (⊤ : EReal) (-⊤)) ⊤ = 1#1)
    simp [Ideal.cmp]
  · rintro rfl
    revert h
    show ¬ (Ideal.cmp .olt (max (⊥ : EReal) (-⊥)) ⊤ = 1#1)
    simp [Ideal.cmp]

/-- The real tables of five arrays. -/
def arg (q k : Vec Ideal Cert.Pre_finite.S8320x1024 .f32) (v g y : Vec Ideal Cert.Pre_finite.S8320x2048 .f32) : Arg where
  q l j := if h : l < 8320 ∧ j < 1024 then ((q (ix2 ⟨l, h.1⟩ ⟨j, h.2⟩) : Elt Ideal .f32) : EReal).toReal else 0
  k l j := if h : l < 8320 ∧ j < 1024 then ((k (ix2 ⟨l, h.1⟩ ⟨j, h.2⟩) : Elt Ideal .f32) : EReal).toReal else 0
  v l j := if h : l < 8320 ∧ j < 2048 then ((v (ix2 ⟨l, h.1⟩ ⟨j, h.2⟩) : Elt Ideal .f32) : EReal).toReal else 0
  g l j := if h : l < 8320 ∧ j < 2048 then ((g (ix2 ⟨l, h.1⟩ ⟨j, h.2⟩) : Elt Ideal .f32) : EReal).toReal else 0
  y l j := if h : l < 8320 ∧ j < 2048 then ((y (ix2 ⟨l, h.1⟩ ⟨j, h.2⟩) : Elt Ideal .f32) : EReal).toReal else 0

theorem both {x y : BitVec 1} (h : IntOp.andi x y = 1#1) : x = 1#1 ∧ y = 1#1 := by
  revert x y; decide

/-- What the precondition says of each array. -/
theorem fn_finite {q k : Vec Ideal Cert.Pre_finite.S8320x1024 .f32} {v g y : Vec Ideal Cert.Pre_finite.S8320x2048 .f32}
    (h : (@Cert.Pre_finite.fn Cert.Pre_finite.Gen.facts Ideal _ q k v g y) = fun _ => 1#1) :
    (∀ i, (q i : EReal) = ((q i : EReal).toReal : ℝ)) ∧ (∀ i, (k i : EReal) = ((k i : EReal).toReal : ℝ)) ∧ (∀ i, (v i : EReal) = ((v i : EReal).toReal : ℝ))
      ∧ (∀ i, (g i : EReal) = ((g i : EReal).toReal : ℝ)) ∧ (∀ i, (y i : EReal) = ((y i : EReal).toReal : ℝ)) := by
  have h := congrFun h fun i => i.elim0
  unfold Cert.Pre_finite.fn Cert.Pre_finite.fn_part1 at h
  dsimp only at h
  obtain ⟨h, hy⟩ := both h
  obtain ⟨h, hg⟩ := both h
  obtain ⟨h, hv⟩ := both h
  obtain ⟨hq, hk⟩ := both h
  exact ⟨fun i => real_of_lt _ (Host.reduce_andi_all _ _ _ _ _ hq i), fun i => real_of_lt _ (Host.reduce_andi_all _ _ _ _ _ hk i),
    fun i => real_of_lt _ (Host.reduce_andi_all _ _ _ _ _ hv i), fun i => real_of_lt _ (Host.reduce_andi_all _ _ _ _ _ hg i),
    fun i => real_of_lt _ (Host.reduce_andi_all _ _ _ _ _ hy i)⟩

end Cert.Finite
-- ==== Proof.Sweep.lean ====
/-
  The blocks that the grid's points read, and what the sweep over the chunks, from the last to the first, carries.
-/
module

public import proofs.«01_k».proof.Proof.Prefix
public import Idealize.ShloMosaic.Lib.Pipeline.ReadBack
public import Idealize.ShloMosaic.Lib.Pipeline.ValueKit

@[expose] public section

set_option maxRecDepth 16384

noncomputable section

namespace Cert.KernelIdeal.Sweep

open Cert.KernelIdeal Cert.KernelIdeal.Gen Idealize.ShloMosaic Idealize.ShloMosaic.TcCoe Idealize.SL.Sem StableHlo
open Cert.Ret

variable {m : (ℓ : Loc nD τ sig) → Buf (Elt Ideal) ℓ} {c : Dev nD}

theorem idx : ∀ t : Fin cfg0.N, win0_0.index t = ![64 - t.val, 0] ∧ win0_1.index t = ![64 - t.val, 0] ∧ win0_2.index t = ![64 - t.val, 1]
    ∧ win0_3.index t = ![64 - t.val, 0] ∧ win0_4.index t = ![64 - t.val, 0] ∧ win0_5.index t = ![64 - t.val, 0]
    ∧ win0_6.index t = ![64 - t.val, 0, 0] ∧ win0_7.index t = ![64 - t.val, 0] ∧ win0_8.index t = ![64 - t.val, 0]
    ∧ win0_9.index t = ![64 - t.val, 0] ∧ win0_10.index t = ![64 - t.val, 0] := by decide +kernel

theorem lt_65 (t : Fin cfg0.N) : t.val < 65 := lt_of_lt_of_eq t.isLt N_0

theorem iblk0 (t : Fin cfg0.N) (i : Fin 128) (j : Fin 2048) :
    iblk m c 0 t (ix2 i j) = V m c main_arg4 (ix2 (⟨(64 - t.val) * 128 + i.val, by omega⟩ : Fin 8320) j) := by
  have := lt_65 t
  blk_ext [iblk, idx t]

theorem iblk1 (t : Fin cfg0.N) (i : Fin 128) (j : Fin 2048) :
    iblk m c 1 t (ix2 i j) = V m c main_v0 (ix2 (⟨(64 - t.val) * 128 + i.val, by omega⟩ : Fin 8320) (⟨j.val, by omega⟩ : Fin 6144)) := by
  have := lt_65 t
  blk_ext [iblk, idx t]

theorem iblk2 (t : Fin cfg0.N) (i : Fin 128) (j : Fin 2048) :
    iblk m c 2 t (ix2 i j) = V m c main_v0 (ix2 (⟨(64 - t.val) * 128 + i.val, by omega⟩ : Fin 8320) (⟨2048 + j.val, by omega⟩ : Fin 6144)) := by
  have := lt_65 t
  blk_ext [iblk, idx t]

theorem iblk3 (t : Fin cfg0.N) (i : Fin 128) (j : Fin 2048) :
    iblk m c 3 t (ix2 i j) = V m c main_v125 (ix2 (⟨(64 - t.val) * 128 + i.val, by omega⟩ : Fin 8320) j) := by
  have := lt_65 t
  blk_ext [iblk, idx t]

theorem iblk4 (t : Fin cfg0.N) (i : Fin 128) (j : Fin 1024) :
    iblk m c 4 t (ix2 i j) = V m c main_v127 (ix2 (⟨(64 - t.val) * 128 + i.val, by omega⟩ : Fin 8320) j) := by
  have := lt_65 t
  blk_ext [iblk, idx t]

theorem iblk5 (t : Fin cfg0.N) (i : Fin 128) (j : Fin 1024) :
    iblk m c 5 t (ix2 i j) = V m c main_v129 (ix2 (⟨(64 - t.val) * 128 + i.val, by omega⟩ : Fin 8320) j) := by
  have := lt_65 t
  blk_ext [iblk, idx t]

theorem iblk6 (t : Fin cfg0.N) (u : Fin 1) (i : Fin 1024) (j : Fin 512) :
    iblk m c 6 t (ix3 u i j) = V m c main_v131 (ix3 (⟨64 - t.val, by omega⟩ : Fin 65) i j) := by
  have := lt_65 t
  blk_ext [iblk, idx t]

theorem iblk7 (t : Fin cfg0.N) (i : Fin 128) (j : Fin 128) :
    iblk m c 7 t (ix2 i j) = V m c main_v13 (ix2 (⟨(64 - t.val) * 128 + i.val, by omega⟩ : Fin 8320) j) := by
  have := lt_65 t
  blk_ext [iblk, idx t]

theorem iblk8 (t : Fin cfg0.N) (i : Fin 128) (j : Fin 128) :
    iblk m c 8 t (ix2 i j) = V m c main_v14 (ix2 (⟨(64 - t.val) * 128 + i.val, by omega⟩ : Fin 8320) j) := by
  have := lt_65 t
  blk_ext [iblk, idx t]

end Cert.KernelIdeal.Sweep
-- ==== Proof.Tile.lean ====
/-
  One chunk of the backward sweep over the real numbers: what a grid point makes, for one head, of the tiles that it
  loads, and the constants of a head that the kernel spells.
-/
module

public import proofs.«01_k».proof.KernelIdeal
public import proofs.«01_k».proof.Proof.Coe
public import proofs.«01_k».proof.Proof.Real

@[expose] public section

noncomputable section

namespace Cert.Ret

/-! ## The tiles -/

/-- The mean square of a row, plus epsilon, and its inverse square root. -/
def tms (o : ℕ → ℕ → ℝ) (i : ℕ) : ℝ := (∑ x : Fin 512, o i x * o i x) / 512 + eps
def trs (o : ℕ → ℕ → ℝ) (i : ℕ) : ℝ := (Real.sqrt (tms o i))⁻¹

/-- The gradient of the normed row. -/
def tdn (g y : ℕ → ℕ → ℝ) (i e : ℕ) : ℝ := y i e * (g i e * sig (g i e))

/-- The gradient of the mixed row. -/
def tdO (o g y : ℕ → ℕ → ℝ) (i e : ℕ) : ℝ :=
  trs o i * (tdn g y i e - o i e * trs o i * ((∑ x : Fin 512, tdn g y i x * (o i x * trs o i)) / 512))

/-- The gradient of the gate. -/
def tdg (o g y : ℕ → ℕ → ℝ) (i e : ℕ) : ℝ :=
  y i e * (o i e * trs o i) * (sig (g i e) * (1 + g i e * (1 - sig (g i e))))

/-- The decay within a chunk, from row `j` to row `i`, and its transpose. -/
def dm (h i j : ℕ) : ℝ := if 0 ≤ (i : ℝ) - (j : ℝ) then Real.exp (((i : ℝ) - (j : ℝ)) * lg h) else 0
def dmt (h i j : ℕ) : ℝ := if (i : ℝ) - (j : ℝ) ≤ 0 then Real.exp ((0 - ((i : ℝ) - (j : ℝ))) * lg h) else 0

/-- The decay from the state to row `i`, and from row `i` to the chunk's end. -/
def cs (h i : ℕ) : ℝ := Real.exp (((i : ℝ) + 1) * lg h)
def kdec (h i : ℕ) : ℝ := Real.exp ((127 - (i : ℝ)) * lg h)

/-- The decay over a whole chunk. -/
def gam (h : ℕ) : ℝ := Real.exp (128 * lg h)

/-- The gradient of the turned query, from the chunk and from the state `t`. -/
def tdq (h : ℕ) (dO v k t : ℕ → ℕ → ℝ) (i d : ℕ) : ℝ :=
  ∑ j : Fin 128, (∑ e : Fin 512, dO i e * v j e) * dm h i j * k j d + ∑ e : Fin 512, cs h i * dO i e * t d e

/-- The gradient of the turned key, from the chunk and from the carried gradient `D`. -/
def tdk (h : ℕ) (dO v q D : ℕ → ℕ → ℝ) (j d : ℕ) : ℝ :=
  ∑ i : Fin 128, (∑ e : Fin 512, v j e * dO i e) * dmt h j i * q i d + kdec h j * ∑ e : Fin 512, v j e * D d e

/-- The gradient of the value. -/
def tdv (h : ℕ) (dO q k D : ℕ → ℕ → ℝ) (j e : ℕ) : ℝ :=
  ∑ i : Fin 128, (∑ d : Fin 256, k j d * q i d) * dmt h j i * dO i e + ∑ d : Fin 256, k j d * kdec h j * D d e

/-- The carried gradient after the chunk. -/
def tD (h : ℕ) (dO q D : ℕ → ℕ → ℝ) (d e : ℕ) : ℝ := gam h * D d e + ∑ i : Fin 128, q i d * (cs h i * dO i e)

/-- The transposed turn of a tile, its halves and the whole. -/
def tunLo (co si x : ℕ → ℕ → ℝ) (i d : ℕ) : ℝ := x i d * co i d + x i (128 + d) * si i d
def tunHi (co si x : ℕ → ℕ → ℝ) (i d : ℕ) : ℝ := x i (128 + d) * co i d - x i d * si i d
def tun (co si x : ℕ → ℕ → ℝ) (i d : ℕ) : ℝ := if d < 128 then tunLo co si x i d else tunHi co si x i (d - 128)

theorem tms_pos (o : ℕ → ℕ → ℝ) (i : ℕ) : 0 < tms o i := by
  unfold tms eps
  have : 0 ≤ ∑ x : Fin 512, o i x * o i x := Finset.sum_nonneg fun _ _ => mul_self_nonneg _
  positivity

/-! ## The ideal operations on tiles of reals -/

open Idealize.ShloMosaic

theorem rsqrt_tms (o : ℕ → ℕ → ℝ) (i : ℕ) :
    Ideal.rsqrt (((∑ x : Fin 512, o i x * o i x) / 512 + eps : ℝ) : EReal) = ((trs o i : ℝ) : EReal) :=
  rsqrt_coe (tms_pos o i)

theorem logistic_coe (x : ℝ) : Ideal.logistic (x : EReal) = ((sig x : ℝ) : EReal) := by
  have h : (1 + Real.exp (-x)) ≠ 0 := by positivity
  show Ideal.div 1 (1 + Ideal.exp (-(x : EReal))) = _
  rw [coe_neg', exp_coe, coe_one', coe_add', div_coe_coe _ h, sig]

theorem div_512 (a : ℝ) : Ideal.div (a : EReal) ((512 : ℝ) : EReal) = ((a / 512 : ℝ) : EReal) := div_coe_coe a (by norm_num)

theorem coe_ite (p : Prop) [Decidable p] (a b : ℝ) : (if p then (a : EReal) else (b : EReal)) = ((if p then a else b : ℝ) : EReal) := by
  split <;> rfl

theorem exp_ite_bot (p : Prop) [Decidable p] (x : ℝ) :
    Ideal.exp (if p then (x : EReal) else (⊥ : EReal)) = ((if p then Real.exp x else 0 : ℝ) : EReal) := by
  split <;> rfl

theorem coe_le_coe' (a b : ℝ) : ((a : EReal) ≤ (b : EReal)) = (a ≤ b) := propext EReal.coe_le_coe_iff

/-! ## The constants of a head -/

theorem lg_of {h : ℕ} {n : ℝ} (hn : n = 1 - 1 / 2 ^ (5 + h)) : lg h = Real.log n := by
  have : Real.rpow 2 (-5 - (h : ℝ)) = 1 / 2 ^ (5 + h) := by
    show (2 : ℝ) ^ (-5 - (h : ℝ)) = _
    rw [show (-5 - (h : ℝ)) = -((5 + h : ℕ) : ℝ) by push_cast; ring, Real.rpow_neg (by norm_num), Real.rpow_natCast, one_div]
  rw [lg, this, ← hn]

theorem lg_0 : Real.log (31 / 32) = lg 0 := (lg_of (by norm_num)).symm
theorem lg_1 : Real.log (63 / 64) = lg 1 := (lg_of (by norm_num)).symm
theorem lg_2 : Real.log (127 / 128) = lg 2 := (lg_of (by norm_num)).symm
theorem lg_3 : Real.log (255 / 256) = lg 3 := (lg_of (by norm_num)).symm

theorem gam_of {h : ℕ} {n x : ℝ} (hl : Real.log n = lg h) (hn : 0 < n) (hx : x = n ^ 128) : x = gam h := by
  rw [gam, ← hl, hx, mul_comm, ← Real.rpow_def_of_pos hn]
  exact (Real.rpow_natCast n 128).symm

theorem named_lg_0 : (Named.named (F := Ideal) (φ := .f32) Cert.KernelIdeal.κ "log_gamma_0" 0xBD020AEC#32 : EReal) = ((lg 0 : ℝ) : EReal) := by
  rw [← lg_0]; exact IdealRules.named_const.ideal_named_scalar (φ := .f32) _ _ _ _ rfl
theorem named_gam_0 : (Named.named (F := Ideal) (φ := .f32) Cert.KernelIdeal.κ "gamma_chunk_0" 0x3C8CC36A#32 : EReal) = ((gam 0 : ℝ) : EReal) := by
  rw [← gam_of lg_0 (by norm_num) rfl]
  refine (IdealRules.named_const.ideal_named_scalar (φ := .f32) _ _ _ _ rfl).trans ?_
  norm_num

theorem named_lg_1 : (Named.named (F := Ideal) (φ := .f32) Cert.KernelIdeal.κ "log_gamma_1" 0xBC8102B3#32 : EReal) = ((lg 1 : ℝ) : EReal) := by
  rw [← lg_1]; exact IdealRules.named_const.ideal_named_scalar (φ := .f32) _ _ _ _ rfl
theorem named_gam_1 : (Named.named (F := Ideal) (φ := .f32) Cert.KernelIdeal.κ "gamma_chunk_1" 0x3E08698E#32 : EReal) = ((gam 1 : ℝ) : EReal) := by
  rw [← gam_of lg_1 (by norm_num) rfl]
  refine (IdealRules.named_const.ideal_named_scalar (φ := .f32) _ _ _ _ rfl).trans ?_
  norm_num

theorem named_lg_2 : (Named.named (F := Ideal) (φ := .f32) Cert.KernelIdeal.κ "log_gamma_2" 0xBC0080AC#32 : EReal) = ((lg 2 : ℝ) : EReal) := by
  rw [← lg_2]; exact IdealRules.named_const.ideal_named_scalar (φ := .f32) _ _ _ _ rfl
theorem named_gam_2 : (Named.named (F := Ideal) (φ := .f32) Cert.KernelIdeal.κ "gamma_chunk_2" 0x3EBB9DB9#32 : EReal) = ((gam 2 : ℝ) : EReal) := by
  rw [← gam_of lg_2 (by norm_num) rfl]
  refine (IdealRules.named_const.ideal_named_scalar (φ := .f32) _ _ _ _ rfl).trans ?_
  norm_num

theorem named_lg_3 : (Named.named (F := Ideal) (φ := .f32) Cert.KernelIdeal.κ "log_gamma_3" 0xBB80402B#32 : EReal) = ((lg 3 : ℝ) : EReal) := by
  rw [← lg_3]; exact IdealRules.named_const.ideal_named_scalar (φ := .f32) _ _ _ _ rfl
theorem named_gam_3 : (Named.named (F := Ideal) (φ := .f32) Cert.KernelIdeal.κ "gamma_chunk_3" 0x3F1B1EB1#32 : EReal) = ((gam 3 : ℝ) : EReal) := by
  rw [← gam_of lg_3 (by norm_num) rfl]
  refine (IdealRules.named_const.ideal_named_scalar (φ := .f32) _ _ _ _ rfl).trans ?_
  norm_num

end Cert.Ret
-- ==== Proof.Head0.lean ====
/-
  Head 0 of one chunk: the values that the kernel stores, as tiles of real numbers.
-/
module

public import proofs.«01_k».proof.Proof.Gen.KernelIdeal.Value
public import proofs.«01_k».proof.Proof.RefValue
public import proofs.«01_k».proof.Proof.Tile

@[expose] public section

set_option maxRecDepth 16384
set_option maxHeartbeats 400000

noncomputable section

namespace Cert.KernelIdeal.Head0

open Cert.KernelIdeal Cert.KernelIdeal.Gen Idealize.ShloMosaic Idealize.ShloMosaic.TcCoe Idealize.SL.Sem StableHlo
open Cert.Ret
open Cert.ReferenceIdeal.Value (sitofp_lane word_0 word_1 word_127 word_512 word_sixteenth word_eps word_minf)

variable {O G Y V : Vec Ideal S128x512 .f32} {Q K : Vec Ideal S128x256 .bf16} {T : Vec Ideal S1x256x512 .bf16} {D : Vec Ideal S256x512 .f32} {C S : Vec Ideal S128x128 .f32}
  {o g y v q k t w co si : ℕ → ℕ → ℝ}

/-- The gradient of the gate. -/
theorem dg_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (i : Fin 128) (x : Fin 512) :
    (k0_pay16 O G Y (ix2 i x) : EReal)
      = ((tdg o g y i.val x.val : ℝ) : EReal) := by
  unfold k0_pay16 k0_pay15 k0_pay14 k0_pay13 k0_pay12
  clean_types
  pointwise
  simp only [hO, hG, hY, sitofp_lane, word_0, word_127, word_512, word_sixteenth, word_eps, word_minf, named_lg_0, named_gam_0, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The carried gradient of the state. -/
theorem sD_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hQ : ∀ i e, (Q (ix2 i e) : EReal) = ((q i.val e.val : ℝ) : EReal)) (hD : ∀ i e, (D (ix2 i e) : EReal) = ((w i.val e.val : ℝ) : EReal)) (i : Fin 256) (x : Fin 512) :
    (k0_pay28 (k0_pay18 Q) D (k0_pay21 k0_pay10 (k0_pay17 O G Y)) (ix2 i x) : EReal)
      = ((tD 0 (tdO o g y) q w i.val x.val : ℝ) : EReal) := by
  unfold k0_pay28 k0_pay21 k0_pay18 k0_pay17 k0_pay15 k0_pay14 k0_pay13 k0_pay12 k0_pay10 k0_pay6
  clean_types
  pointwise
  simp only [hO, hG, hY, hQ, hD, sitofp_lane, word_0, word_127, word_512, word_sixteenth, word_eps, word_minf, named_lg_0, named_gam_0, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the value. -/
theorem dv_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hQ : ∀ i e, (Q (ix2 i e) : EReal) = ((q i.val e.val : ℝ) : EReal)) (hK : ∀ i e, (K (ix2 i e) : EReal) = ((k i.val e.val : ℝ) : EReal)) (hD : ∀ i e, (D (ix2 i e) : EReal) = ((w i.val e.val : ℝ) : EReal)) (i : Fin 128) (x : Fin 512) :
    (k0_pay27 (k0_pay24 k0_pay9 (k0_pay17 O G Y) Q K) (k0_pay25 k0_pay11 K) (k0_pay26 D) (constant S128x512 FTy.f32 0#32) (ix2 i x) : EReal)
      = ((tdv 0 (tdO o g y) q k w i.val x.val : ℝ) : EReal) := by
  unfold k0_pay27 k0_pay26 k0_pay25 k0_pay24 k0_pay19 k0_pay18 k0_pay17 k0_pay15 k0_pay14 k0_pay13 k0_pay12 k0_pay11 k0_pay9 k0_pay7 k0_pay6
  clean_types
  pointwise
  simp only [hO, hG, hY, hQ, hK, hD, sitofp_lane, word_0, word_127, word_512, word_sixteenth, word_eps, word_minf, named_lg_0, named_gam_0, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the mixed rows. -/
theorem dO_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (i : Fin 128) (x : Fin 512) :
    (k0_pay17 O G Y (ix2 i x) : EReal) = ((tdO o g y i.val x.val : ℝ) : EReal) := by
  unfold k0_pay17 k0_pay15 k0_pay14 k0_pay13 k0_pay12
  clean_types
  pointwise
  simp only [hO, hG, hY, sitofp_lane, word_0, word_127, word_512, word_sixteenth, word_eps, word_minf, named_lg_0, named_gam_0, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the turned query, from the gradient of the mixed rows. -/
theorem tdq_val {W : FVec Ideal S128x512 .f32} {z : ℕ → ℕ → ℝ} (hW : ∀ i e, (W (ix2 i e) : EReal) = ((z i.val e.val : ℝ) : EReal)) (hV : ∀ i e, (V (ix2 i e) : EReal) = ((v i.val e.val : ℝ) : EReal)) (hK : ∀ i e, (K (ix2 i e) : EReal) = ((k i.val e.val : ℝ) : EReal)) (hT : ∀ u i e, (T (ix3 u i e) : EReal) = ((t i.val e.val : ℝ) : EReal)) (i : Fin 128) (x : Fin 256) :
    (k0_pay22 k0_pay8 k0_pay10 W K V T (ix2 i x) : EReal) = ((tdq 0 z v k t i.val x.val : ℝ) : EReal) := by
  unfold k0_pay22 k0_pay21 k0_pay20 k0_pay19 k0_pay10 k0_pay8 k0_pay7 k0_pay6
  clean_types
  pointwise
  simp only [hW, hV, hK, hT, sitofp_lane, word_0, word_127, word_512, word_sixteenth, word_eps, word_minf, named_lg_0, named_gam_0, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the query, turned back. -/
theorem dq_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (hK : ∀ i e, (K (ix2 i e) : EReal) = ((k i.val e.val : ℝ) : EReal)) (hT : ∀ u i e, (T (ix3 u i e) : EReal) = ((t i.val e.val : ℝ) : EReal)) (hC : ∀ i e, (C (ix2 i e) : EReal) = ((co i.val e.val : ℝ) : EReal)) (hS : ∀ i e, (S (ix2 i e) : EReal) = ((si i.val e.val : ℝ) : EReal)) (i : Fin 128) (x : Fin 256) :
    (k0_pay29 (k0_pay4 C) (k0_pay5 S) (k0_pay22 k0_pay8 k0_pay10 (k0_pay17 O G Y) K V T) (ix2 i x) : EReal)
      = ((tun co si (tdq 0 (tdO o g y) v k t) i.val x.val : ℝ) : EReal) := by
  have hX : ∀ (i : Fin 128) (x : Fin 256), (k0_pay22 k0_pay8 k0_pay10 (k0_pay17 O G Y) K V T (ix2 i x) : EReal) = ((tdq 0 (tdO o g y) v k t i.val x.val : ℝ) : EReal) :=
    fun i x => tdq_val (fun i e => dO_val hO hG hY i e) hV hK hT i x
  generalize k0_pay22 k0_pay8 k0_pay10 (k0_pay17 O G Y) K V T = X at hX ⊢
  unfold k0_pay29 k0_pay5 k0_pay4
  clean_types
  pointwise
  simp only [hX, hC, hS, sitofp_lane, word_0, word_127, word_512, word_sixteenth, word_eps, word_minf, named_lg_0, named_gam_0, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the key, scaled and turned back. -/
theorem dk_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (hQ : ∀ i e, (Q (ix2 i e) : EReal) = ((q i.val e.val : ℝ) : EReal)) (hD : ∀ i e, (D (ix2 i e) : EReal) = ((w i.val e.val : ℝ) : EReal)) (hC : ∀ i e, (C (ix2 i e) : EReal) = ((co i.val e.val : ℝ) : EReal)) (hS : ∀ i e, (S (ix2 i e) : EReal) = ((si i.val e.val : ℝ) : EReal)) (i : Fin 128) (x : Fin 256) :
    (k0_pay31 (k0_pay30 (k0_pay4 C) (k0_pay5 S) (k0_pay23 k0_pay9 k0_pay11 (k0_pay17 O G Y) Q V D)) (ix2 i x) : EReal)
      = ((tun co si (fun i d => tdk 0 (tdO o g y) v q w i d * (1 / 16)) i.val x.val : ℝ) : EReal) := by
  unfold k0_pay31 k0_pay30 k0_pay23 k0_pay20 k0_pay18 k0_pay17 k0_pay15 k0_pay14 k0_pay13 k0_pay12 k0_pay11 k0_pay9 k0_pay7 k0_pay6 k0_pay5 k0_pay4
  clean_types
  pointwise
  simp only [hO, hG, hY, hV, hQ, hD, hC, hS, sitofp_lane, word_0, word_127, word_512, word_sixteenth, word_eps, word_minf, named_lg_0, named_gam_0, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

end Cert.KernelIdeal.Head0
-- ==== Proof.Head1.lean ====
/-
  Head 1 of one chunk: the values that the kernel stores, as tiles of real numbers.
-/
module

public import proofs.«01_k».proof.Proof.Gen.KernelIdeal.Value
public import proofs.«01_k».proof.Proof.RefValue
public import proofs.«01_k».proof.Proof.Tile

@[expose] public section

set_option maxRecDepth 16384
set_option maxHeartbeats 400000

noncomputable section

namespace Cert.KernelIdeal.Head1

open Cert.KernelIdeal Cert.KernelIdeal.Gen Idealize.ShloMosaic Idealize.ShloMosaic.TcCoe Idealize.SL.Sem StableHlo
open Cert.Ret
open Cert.ReferenceIdeal.Value (sitofp_lane word_0 word_1 word_127 word_512 word_sixteenth word_eps word_minf)

variable {O G Y V : Vec Ideal S128x512 .f32} {Q K : Vec Ideal S128x256 .bf16} {T : Vec Ideal S1x256x512 .bf16} {D : Vec Ideal S256x512 .f32} {C S : Vec Ideal S128x128 .f32}
  {o g y v q k t w co si : ℕ → ℕ → ℝ}

/-- The gradient of the gate. -/
theorem dg_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (i : Fin 128) (x : Fin 512) :
    (k0_pay42 (k0_pay38 O) (k0_pay39 G) Y (ix2 i x) : EReal)
      = ((tdg o g y i.val x.val : ℝ) : EReal) := by
  unfold k0_pay42 k0_pay41 k0_pay40 k0_pay39 k0_pay38
  clean_types
  pointwise
  simp only [hO, hG, hY, sitofp_lane, word_0, word_127, word_512, word_sixteenth, word_eps, word_minf, named_lg_1, named_gam_1, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The carried gradient of the state. -/
theorem sD_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hQ : ∀ i e, (Q (ix2 i e) : EReal) = ((q i.val e.val : ℝ) : EReal)) (hD : ∀ i e, (D (ix2 i e) : EReal) = ((w i.val e.val : ℝ) : EReal)) (i : Fin 256) (x : Fin 512) :
    (k0_pay52 (k0_pay44 Q) D (k0_pay47 k0_pay36 (k0_pay43 (k0_pay38 O) (k0_pay39 G) Y)) (ix2 i x) : EReal)
      = ((tD 1 (tdO o g y) q w i.val x.val : ℝ) : EReal) := by
  unfold k0_pay52 k0_pay47 k0_pay44 k0_pay43 k0_pay41 k0_pay40 k0_pay39 k0_pay38 k0_pay36 k0_pay32
  clean_types
  pointwise
  simp only [hO, hG, hY, hQ, hD, sitofp_lane, word_0, word_127, word_512, word_sixteenth, word_eps, word_minf, named_lg_1, named_gam_1, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the value. -/
theorem dv_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hQ : ∀ i e, (Q (ix2 i e) : EReal) = ((q i.val e.val : ℝ) : EReal)) (hK : ∀ i e, (K (ix2 i e) : EReal) = ((k i.val e.val : ℝ) : EReal)) (hD : ∀ i e, (D (ix2 i e) : EReal) = ((w i.val e.val : ℝ) : EReal)) (i : Fin 128) (x : Fin 512) :
    (k0_pay51 (k0_pay50 k0_pay35 k0_pay37 (k0_pay43 (k0_pay38 O) (k0_pay39 G) Y) (k0_pay44 Q) (k0_pay45 K) D) (ix2 i x) : EReal)
      = ((tdv 1 (tdO o g y) q k w i.val x.val : ℝ) : EReal) := by
  unfold k0_pay51 k0_pay50 k0_pay45 k0_pay44 k0_pay43 k0_pay41 k0_pay40 k0_pay39 k0_pay38 k0_pay37 k0_pay35 k0_pay33 k0_pay32
  clean_types
  pointwise
  simp only [hO, hG, hY, hQ, hK, hD, sitofp_lane, word_0, word_127, word_512, word_sixteenth, word_eps, word_minf, named_lg_1, named_gam_1, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the mixed rows. -/
theorem dO_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (i : Fin 128) (x : Fin 512) :
    (k0_pay43 (k0_pay38 O) (k0_pay39 G) Y (ix2 i x) : EReal) = ((tdO o g y i.val x.val : ℝ) : EReal) := by
  unfold k0_pay43 k0_pay41 k0_pay40 k0_pay39 k0_pay38
  clean_types
  pointwise
  simp only [hO, hG, hY, sitofp_lane, word_0, word_127, word_512, word_sixteenth, word_eps, word_minf, named_lg_1, named_gam_1, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the turned query, from the gradient of the mixed rows. -/
theorem tdq_val {W : FVec Ideal S128x512 .f32} {z : ℕ → ℕ → ℝ} (hW : ∀ i e, (W (ix2 i e) : EReal) = ((z i.val e.val : ℝ) : EReal)) (hV : ∀ i e, (V (ix2 i e) : EReal) = ((v i.val e.val : ℝ) : EReal)) (hK : ∀ i e, (K (ix2 i e) : EReal) = ((k i.val e.val : ℝ) : EReal)) (hT : ∀ u i e, (T (ix3 u i e) : EReal) = ((t i.val e.val : ℝ) : EReal)) (i : Fin 128) (x : Fin 256) :
    (k0_pay48 k0_pay34 k0_pay36 W (k0_pay45 K) V T (ix2 i x) : EReal) = ((tdq 1 z v k t i.val x.val : ℝ) : EReal) := by
  unfold k0_pay48 k0_pay47 k0_pay46 k0_pay45 k0_pay36 k0_pay34 k0_pay33 k0_pay32
  clean_types
  pointwise
  simp only [hW, hV, hK, hT, sitofp_lane, word_0, word_127, word_512, word_sixteenth, word_eps, word_minf, named_lg_1, named_gam_1, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the query, turned back. -/
theorem dq_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (hK : ∀ i e, (K (ix2 i e) : EReal) = ((k i.val e.val : ℝ) : EReal)) (hT : ∀ u i e, (T (ix3 u i e) : EReal) = ((t i.val e.val : ℝ) : EReal)) (hC : ∀ i e, (C (ix2 i e) : EReal) = ((co i.val e.val : ℝ) : EReal)) (hS : ∀ i e, (S (ix2 i e) : EReal) = ((si i.val e.val : ℝ) : EReal)) (i : Fin 128) (x : Fin 256) :
    (k0_pay53 (k0_pay4 C) (k0_pay5 S) (k0_pay48 k0_pay34 k0_pay36 (k0_pay43 (k0_pay38 O) (k0_pay39 G) Y) (k0_pay45 K) V T) (ix2 i x) : EReal)
      = ((tun co si (tdq 1 (tdO o g y) v k t) i.val x.val : ℝ) : EReal) := by
  have hX : ∀ (i : Fin 128) (x : Fin 256), (k0_pay48 k0_pay34 k0_pay36 (k0_pay43 (k0_pay38 O) (k0_pay39 G) Y) (k0_pay45 K) V T (ix2 i x) : EReal) = ((tdq 1 (tdO o g y) v k t i.val x.val : ℝ) : EReal) :=
    fun i x => tdq_val (fun i e => dO_val hO hG hY i e) hV hK hT i x
  generalize k0_pay48 k0_pay34 k0_pay36 (k0_pay43 (k0_pay38 O) (k0_pay39 G) Y) (k0_pay45 K) V T = X at hX ⊢
  unfold k0_pay53 k0_pay5 k0_pay4
  clean_types
  pointwise
  simp only [hX, hC, hS, sitofp_lane, word_0, word_127, word_512, word_sixteenth, word_eps, word_minf, named_lg_1, named_gam_1, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the key, scaled and turned back. -/
theorem dk_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (hQ : ∀ i e, (Q (ix2 i e) : EReal) = ((q i.val e.val : ℝ) : EReal)) (hD : ∀ i e, (D (ix2 i e) : EReal) = ((w i.val e.val : ℝ) : EReal)) (hC : ∀ i e, (C (ix2 i e) : EReal) = ((co i.val e.val : ℝ) : EReal)) (hS : ∀ i e, (S (ix2 i e) : EReal) = ((si i.val e.val : ℝ) : EReal)) (i : Fin 128) (x : Fin 256) :
    (k0_pay54 (k0_pay4 C) (k0_pay5 S) (k0_pay49 k0_pay35 k0_pay37 (k0_pay43 (k0_pay38 O) (k0_pay39 G) Y) (k0_pay44 Q) V D) (ix2 i x) : EReal)
      = ((tun co si (fun i d => tdk 1 (tdO o g y) v q w i d * (1 / 16)) i.val x.val : ℝ) : EReal) := by
  unfold k0_pay54 k0_pay49 k0_pay46 k0_pay44 k0_pay43 k0_pay41 k0_pay40 k0_pay39 k0_pay38 k0_pay37 k0_pay35 k0_pay33 k0_pay32 k0_pay5 k0_pay4
  clean_types
  pointwise
  simp only [hO, hG, hY, hV, hQ, hD, hC, hS, sitofp_lane, word_0, word_127, word_512, word_sixteenth, word_eps, word_minf, named_lg_1, named_gam_1, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

end Cert.KernelIdeal.Head1
-- ==== Proof.Head2.lean ====
/-
  Head 2 of one chunk: the values that the kernel stores, as tiles of real numbers.
-/
module

public import proofs.«01_k».proof.Proof.Gen.KernelIdeal.Value
public import proofs.«01_k».proof.Proof.RefValue
public import proofs.«01_k».proof.Proof.Tile

@[expose] public section

set_option maxRecDepth 16384
set_option maxHeartbeats 400000

noncomputable section

namespace Cert.KernelIdeal.Head2

open Cert.KernelIdeal Cert.KernelIdeal.Gen Idealize.ShloMosaic Idealize.ShloMosaic.TcCoe Idealize.SL.Sem StableHlo
open Cert.Ret
open Cert.ReferenceIdeal.Value (sitofp_lane word_0 word_1 word_127 word_512 word_sixteenth word_eps word_minf)

variable {O G Y V : Vec Ideal S128x512 .f32} {Q K : Vec Ideal S128x256 .bf16} {T : Vec Ideal S1x256x512 .bf16} {D : Vec Ideal S256x512 .f32} {C S : Vec Ideal S128x128 .f32}
  {o g y v q k t w co si : ℕ → ℕ → ℝ}

/-- The gradient of the gate. -/
theorem dg_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (i : Fin 128) (x : Fin 512) :
    (k0_pay66 (k0_pay61 O) (k0_pay62 G) Y (k0_pay63 O) (FloatOps.ofBits FTy.f32 897988541#32) (ix2 i x) : EReal)
      = ((tdg o g y i.val x.val : ℝ) : EReal) := by
  unfold k0_pay66 k0_pay65 k0_pay64 k0_pay63 k0_pay62 k0_pay61
  clean_types
  pointwise
  simp only [hO, hG, hY, sitofp_lane, word_0, word_127, word_512, word_sixteenth, word_eps, word_minf, named_lg_2, named_gam_2, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The carried gradient of the state. -/
theorem sD_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hQ : ∀ i e, (Q (ix2 i e) : EReal) = ((q i.val e.val : ℝ) : EReal)) (hD : ∀ i e, (D (ix2 i e) : EReal) = ((w i.val e.val : ℝ) : EReal)) (i : Fin 256) (x : Fin 512) :
    (k0_pay77 (k0_pay76 (k0_pay59 k0_pay55) (k0_pay67 (k0_pay61 O) (k0_pay62 G) Y (k0_pay63 O) (FloatOps.ofBits FTy.f32 897988541#32)) (k0_pay68 Q) D) (ix2 i x) : EReal)
      = ((tD 2 (tdO o g y) q w i.val x.val : ℝ) : EReal) := by
  unfold k0_pay77 k0_pay76 k0_pay72 k0_pay68 k0_pay67 k0_pay65 k0_pay64 k0_pay63 k0_pay62 k0_pay61 k0_pay59 k0_pay55
  clean_types
  pointwise
  simp only [hO, hG, hY, hQ, hD, sitofp_lane, word_0, word_127, word_512, word_sixteenth, word_eps, word_minf, named_lg_2, named_gam_2, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the value. -/
theorem dv_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hQ : ∀ i e, (Q (ix2 i e) : EReal) = ((q i.val e.val : ℝ) : EReal)) (hK : ∀ i e, (K (ix2 i e) : EReal) = ((k i.val e.val : ℝ) : EReal)) (hD : ∀ i e, (D (ix2 i e) : EReal) = ((w i.val e.val : ℝ) : EReal)) (i : Fin 128) (x : Fin 512) :
    (k0_pay75 (k0_pay58 k0_pay55 (iota Kind.tc S1x128 32 [1] iota_S1x128_d1_w32)) (k0_pay60 k0_pay55) (k0_pay67 (k0_pay61 O) (k0_pay62 G) Y (k0_pay63 O) (FloatOps.ofBits FTy.f32 897988541#32)) (k0_pay68 Q) (k0_pay69 K) D (ix2 i x) : EReal)
      = ((tdv 2 (tdO o g y) q k w i.val x.val : ℝ) : EReal) := by
  unfold k0_pay75 k0_pay69 k0_pay68 k0_pay67 k0_pay65 k0_pay64 k0_pay63 k0_pay62 k0_pay61 k0_pay60 k0_pay58 k0_pay56 k0_pay55
  clean_types
  pointwise
  simp only [hO, hG, hY, hQ, hK, hD, sitofp_lane, word_0, word_127, word_512, word_sixteenth, word_eps, word_minf, named_lg_2, named_gam_2, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the mixed rows. -/
theorem dO_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (i : Fin 128) (x : Fin 512) :
    (k0_pay67 (k0_pay61 O) (k0_pay62 G) Y (k0_pay63 O) (FloatOps.ofBits FTy.f32 897988541#32) (ix2 i x) : EReal) = ((tdO o g y i.val x.val : ℝ) : EReal) := by
  unfold k0_pay67 k0_pay65 k0_pay64 k0_pay63 k0_pay62 k0_pay61
  clean_types
  pointwise
  simp only [hO, hG, hY, sitofp_lane, word_0, word_127, word_512, word_sixteenth, word_eps, word_minf, named_lg_2, named_gam_2, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the turned query, from the gradient of the mixed rows. -/
theorem tdq_val {W : FVec Ideal S128x512 .f32} {z : ℕ → ℕ → ℝ} (hW : ∀ i e, (W (ix2 i e) : EReal) = ((z i.val e.val : ℝ) : EReal)) (hV : ∀ i e, (V (ix2 i e) : EReal) = ((v i.val e.val : ℝ) : EReal)) (hK : ∀ i e, (K (ix2 i e) : EReal) = ((k i.val e.val : ℝ) : EReal)) (hT : ∀ u i e, (T (ix3 u i e) : EReal) = ((t i.val e.val : ℝ) : EReal)) (i : Fin 128) (x : Fin 256) :
    (k0_pay73 (k0_pay57 k0_pay55 (iota Kind.tc S1x128 32 [1] iota_S1x128_d1_w32)) (k0_pay59 k0_pay55) W (k0_pay69 K) (k0_pay70 V) (k0_pay71 T) (ix2 i x) : EReal) = ((tdq 2 z v k t i.val x.val : ℝ) : EReal) := by
  unfold k0_pay73 k0_pay72 k0_pay71 k0_pay70 k0_pay69 k0_pay59 k0_pay57 k0_pay56 k0_pay55
  clean_types
  pointwise
  simp only [hW, hV, hK, hT, sitofp_lane, word_0, word_127, word_512, word_sixteenth, word_eps, word_minf, named_lg_2, named_gam_2, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the query, turned back. -/
theorem dq_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (hK : ∀ i e, (K (ix2 i e) : EReal) = ((k i.val e.val : ℝ) : EReal)) (hT : ∀ u i e, (T (ix3 u i e) : EReal) = ((t i.val e.val : ℝ) : EReal)) (hC : ∀ i e, (C (ix2 i e) : EReal) = ((co i.val e.val : ℝ) : EReal)) (hS : ∀ i e, (S (ix2 i e) : EReal) = ((si i.val e.val : ℝ) : EReal)) (i : Fin 128) (x : Fin 256) :
    (k0_pay78 (k0_pay4 C) (k0_pay5 S) (k0_pay73 (k0_pay57 k0_pay55 (iota Kind.tc S1x128 32 [1] iota_S1x128_d1_w32)) (k0_pay59 k0_pay55) (k0_pay67 (k0_pay61 O) (k0_pay62 G) Y (k0_pay63 O) (FloatOps.ofBits FTy.f32 897988541#32)) (k0_pay69 K) (k0_pay70 V) (k0_pay71 T)) (ix2 i x) : EReal)
      = ((tun co si (tdq 2 (tdO o g y) v k t) i.val x.val : ℝ) : EReal) := by
  have hX : ∀ (i : Fin 128) (x : Fin 256), (k0_pay73 (k0_pay57 k0_pay55 (iota Kind.tc S1x128 32 [1] iota_S1x128_d1_w32)) (k0_pay59 k0_pay55) (k0_pay67 (k0_pay61 O) (k0_pay62 G) Y (k0_pay63 O) (FloatOps.ofBits FTy.f32 897988541#32)) (k0_pay69 K) (k0_pay70 V) (k0_pay71 T) (ix2 i x) : EReal) = ((tdq 2 (tdO o g y) v k t i.val x.val : ℝ) : EReal) :=
    fun i x => tdq_val (fun i e => dO_val hO hG hY i e) hV hK hT i x
  generalize k0_pay73 (k0_pay57 k0_pay55 (iota Kind.tc S1x128 32 [1] iota_S1x128_d1_w32)) (k0_pay59 k0_pay55) (k0_pay67 (k0_pay61 O) (k0_pay62 G) Y (k0_pay63 O) (FloatOps.ofBits FTy.f32 897988541#32)) (k0_pay69 K) (k0_pay70 V) (k0_pay71 T) = X at hX ⊢
  unfold k0_pay78 k0_pay5 k0_pay4
  clean_types
  pointwise
  simp only [hX, hC, hS, sitofp_lane, word_0, word_127, word_512, word_sixteenth, word_eps, word_minf, named_lg_2, named_gam_2, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the key, scaled and turned back. -/
theorem dk_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (hQ : ∀ i e, (Q (ix2 i e) : EReal) = ((q i.val e.val : ℝ) : EReal)) (hD : ∀ i e, (D (ix2 i e) : EReal) = ((w i.val e.val : ℝ) : EReal)) (hC : ∀ i e, (C (ix2 i e) : EReal) = ((co i.val e.val : ℝ) : EReal)) (hS : ∀ i e, (S (ix2 i e) : EReal) = ((si i.val e.val : ℝ) : EReal)) (i : Fin 128) (x : Fin 256) :
    (k0_pay79 (k0_pay4 C) (k0_pay5 S) (k0_pay74 (k0_pay58 k0_pay55 (iota Kind.tc S1x128 32 [1] iota_S1x128_d1_w32)) (k0_pay60 k0_pay55) (k0_pay67 (k0_pay61 O) (k0_pay62 G) Y (k0_pay63 O) (FloatOps.ofBits FTy.f32 897988541#32)) (k0_pay68 Q) (k0_pay70 V) D) (ix2 i x) : EReal)
      = ((tun co si (fun i d => tdk 2 (tdO o g y) v q w i d * (1 / 16)) i.val x.val : ℝ) : EReal) := by
  unfold k0_pay79 k0_pay74 k0_pay70 k0_pay68 k0_pay67 k0_pay65 k0_pay64 k0_pay63 k0_pay62 k0_pay61 k0_pay60 k0_pay58 k0_pay56 k0_pay55 k0_pay5 k0_pay4
  clean_types
  pointwise
  simp only [hO, hG, hY, hV, hQ, hD, hC, hS, sitofp_lane, word_0, word_127, word_512, word_sixteenth, word_eps, word_minf, named_lg_2, named_gam_2, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

end Cert.KernelIdeal.Head2
-- ==== Proof.Head3.lean ====
/-
  Head 3 of one chunk: the values that the kernel stores, as tiles of real numbers.
-/
module

public import proofs.«01_k».proof.Proof.Gen.KernelIdeal.Value
public import proofs.«01_k».proof.Proof.RefValue
public import proofs.«01_k».proof.Proof.Tile

@[expose] public section

set_option maxRecDepth 16384
set_option maxHeartbeats 400000

noncomputable section

namespace Cert.KernelIdeal.Head3

open Cert.KernelIdeal Cert.KernelIdeal.Gen Idealize.ShloMosaic Idealize.ShloMosaic.TcCoe Idealize.SL.Sem StableHlo
open Cert.Ret
open Cert.ReferenceIdeal.Value (sitofp_lane word_0 word_1 word_127 word_512 word_sixteenth word_eps word_minf)

variable {O G Y V : Vec Ideal S128x512 .f32} {Q K : Vec Ideal S128x256 .bf16} {T : Vec Ideal S1x256x512 .bf16} {D : Vec Ideal S256x512 .f32} {C S : Vec Ideal S128x128 .f32}
  {o g y v q k t w co si : ℕ → ℕ → ℝ}

/-- The gradient of the gate. -/
theorem dg_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (i : Fin 128) (x : Fin 512) :
    (k0_pay94 (k0_pay89 G) (k0_pay93 O Y) (ix2 i x) : EReal)
      = ((tdg o g y i.val x.val : ℝ) : EReal) := by
  unfold k0_pay94 k0_pay93 k0_pay91 k0_pay90 k0_pay89 k0_pay88
  clean_types
  pointwise
  simp only [hO, hG, hY, sitofp_lane, word_0, word_127, word_512, word_sixteenth, word_eps, word_minf, named_lg_3, named_gam_3, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The carried gradient of the state. -/
theorem sD_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hQ : ∀ i e, (Q (ix2 i e) : EReal) = ((q i.val e.val : ℝ) : EReal)) (hD : ∀ i e, (D (ix2 i e) : EReal) = ((w i.val e.val : ℝ) : EReal)) (i : Fin 256) (x : Fin 512) :
    (k0_pay107 (k0_pay96 Q) D (k0_pay100 (k0_pay86 k0_pay80) (k0_pay90 O) (k0_pay91 O) (k0_pay92 G Y)) (ix2 i x) : EReal)
      = ((tD 3 (tdO o g y) q w i.val x.val : ℝ) : EReal) := by
  unfold k0_pay107 k0_pay100 k0_pay96 k0_pay95 k0_pay92 k0_pay91 k0_pay90 k0_pay89 k0_pay88 k0_pay86 k0_pay80
  clean_types
  pointwise
  simp only [hO, hG, hY, hQ, hD, sitofp_lane, word_0, word_127, word_512, word_sixteenth, word_eps, word_minf, named_lg_3, named_gam_3, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the value. -/
theorem dv_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hQ : ∀ i e, (Q (ix2 i e) : EReal) = ((q i.val e.val : ℝ) : EReal)) (hK : ∀ i e, (K (ix2 i e) : EReal) = ((k i.val e.val : ℝ) : EReal)) (hD : ∀ i e, (D (ix2 i e) : EReal) = ((w i.val e.val : ℝ) : EReal)) (i : Fin 128) (x : Fin 512) :
    (k0_pay106 (k0_pay85 k0_pay81) (k0_pay87 k0_pay80) (k0_pay95 (k0_pay90 O) (k0_pay91 O) (k0_pay92 G Y)) (k0_pay96 Q) (k0_pay97 K) D (ix2 i x) : EReal)
      = ((tdv 3 (tdO o g y) q k w i.val x.val : ℝ) : EReal) := by
  unfold k0_pay106 k0_pay97 k0_pay96 k0_pay95 k0_pay92 k0_pay91 k0_pay90 k0_pay89 k0_pay88 k0_pay87 k0_pay85 k0_pay81 k0_pay80
  clean_types
  pointwise
  simp only [hO, hG, hY, hQ, hK, hD, sitofp_lane, word_0, word_127, word_512, word_sixteenth, word_eps, word_minf, named_lg_3, named_gam_3, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the mixed rows, decayed from the chunk's start. -/
theorem csdO_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (i : Fin 128) (x : Fin 512) :
    (k0_pay100 (k0_pay86 k0_pay80) (k0_pay90 O) (k0_pay91 O) (k0_pay92 G Y) (ix2 i x) : EReal) = ((cs 3 i.val * tdO o g y i.val x.val : ℝ) : EReal) := by
  unfold k0_pay100 k0_pay95 k0_pay92 k0_pay91 k0_pay90 k0_pay89 k0_pay88 k0_pay86 k0_pay80
  clean_types
  pointwise
  simp only [hO, hG, hY, sitofp_lane, word_0, word_127, word_512, word_sixteenth, word_eps, word_minf, named_lg_3, named_gam_3, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the scores, decayed. -/
theorem ds_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (i : Fin 128) (x : Fin 128) :
    (k0_pay101 (k0_pay84 k0_pay81 (k0_pay82 (F := Ideal)) k0_pay83) (k0_pay90 O) (k0_pay91 O) (k0_pay92 G Y) V (ix2 i x) : EReal) = (((∑ e : Fin 512, tdO o g y i.val e.val * v x.val e.val) * dm 3 i.val x.val : ℝ) : EReal) := by
  unfold k0_pay101 k0_pay98 k0_pay95 k0_pay92 k0_pay91 k0_pay90 k0_pay89 k0_pay88 k0_pay84 k0_pay83 k0_pay82 k0_pay81 k0_pay80
  clean_types
  pointwise
  simp only [hO, hG, hY, hV, sitofp_lane, word_0, word_127, word_512, word_sixteenth, word_eps, word_minf, named_lg_3, named_gam_3, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the turned query, from the two. -/
theorem tdq_val {Z : FVec Ideal S128x512 .f32} {W : FVec Ideal S128x128 .f32} {z : ℕ → ℕ → ℝ}
    (hZ : ∀ i e, (Z (ix2 i e) : EReal) = ((cs 3 i.val * z i.val e.val : ℝ) : EReal))
    (hW : ∀ (i j : Fin 128), (W (ix2 i j) : EReal) = (((∑ e : Fin 512, z i.val e.val * v j.val e.val) * dm 3 i.val j.val : ℝ) : EReal)) (hK : ∀ i e, (K (ix2 i e) : EReal) = ((k i.val e.val : ℝ) : EReal)) (hT : ∀ u i e, (T (ix3 u i e) : EReal) = ((t i.val e.val : ℝ) : EReal)) (i : Fin 128) (x : Fin 256) :
    (k0_pay104 (k0_pay97 K) (k0_pay99 T) Z W (ix2 i x) : EReal) = ((tdq 3 z v k t i.val x.val : ℝ) : EReal) := by
  unfold k0_pay104 k0_pay99 k0_pay97
  clean_types
  pointwise
  simp only [hW, hZ, hK, hT, sitofp_lane, word_0, word_127, word_512, word_sixteenth, word_eps, word_minf, named_lg_3, named_gam_3, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, kdec]

/-- The gradient of the query, turned back. -/
theorem dq_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (hK : ∀ i e, (K (ix2 i e) : EReal) = ((k i.val e.val : ℝ) : EReal)) (hT : ∀ u i e, (T (ix3 u i e) : EReal) = ((t i.val e.val : ℝ) : EReal)) (hC : ∀ i e, (C (ix2 i e) : EReal) = ((co i.val e.val : ℝ) : EReal)) (hS : ∀ i e, (S (ix2 i e) : EReal) = ((si i.val e.val : ℝ) : EReal)) (i : Fin 128) (x : Fin 256) :
    (k0_pay1 (k0_pay4 C) (k0_pay5 S) (k0_pay108 (k0_pay97 K) (k0_pay99 T) (k0_pay100 (k0_pay86 k0_pay80) (k0_pay90 O) (k0_pay91 O) (k0_pay92 G Y)) (k0_pay101 (k0_pay84 k0_pay81 (k0_pay82 (F := Ideal)) k0_pay83) (k0_pay90 O) (k0_pay91 O) (k0_pay92 G Y) V)) (k0_pay109 (k0_pay97 K) (k0_pay99 T) (k0_pay100 (k0_pay86 k0_pay80) (k0_pay90 O) (k0_pay91 O) (k0_pay92 G Y)) (k0_pay101 (k0_pay84 k0_pay81 (k0_pay82 (F := Ideal)) k0_pay83) (k0_pay90 O) (k0_pay91 O) (k0_pay92 G Y) V)) (k0_pay110 (k0_pay4 C) (k0_pay97 K) (k0_pay99 T) (k0_pay100 (k0_pay86 k0_pay80) (k0_pay90 O) (k0_pay91 O) (k0_pay92 G Y)) (k0_pay101 (k0_pay84 k0_pay81 (k0_pay82 (F := Ideal)) k0_pay83) (k0_pay90 O) (k0_pay91 O) (k0_pay92 G Y) V)) (ix2 i x) : EReal)
      = ((tun co si (tdq 3 (tdO o g y) v k t) i.val x.val : ℝ) : EReal) := by
  unfold k0_pay1 k0_pay110 k0_pay109 k0_pay108 k0_pay5 k0_pay4
  have hX : ∀ (i : Fin 128) (x : Fin 256), (k0_pay104 (k0_pay97 K) (k0_pay99 T) (k0_pay100 (k0_pay86 k0_pay80) (k0_pay90 O) (k0_pay91 O) (k0_pay92 G Y)) (k0_pay101 (k0_pay84 k0_pay81 (k0_pay82 (F := Ideal)) k0_pay83) (k0_pay90 O) (k0_pay91 O) (k0_pay92 G Y) V) (ix2 i x) : EReal) = ((tdq 3 (tdO o g y) v k t i.val x.val : ℝ) : EReal) :=
    fun i x => tdq_val (fun i e => csdO_val hO hG hY i e) (fun i e => ds_val hO hG hY hV i e) hK hT i x
  generalize k0_pay104 (k0_pay97 K) (k0_pay99 T) (k0_pay100 (k0_pay86 k0_pay80) (k0_pay90 O) (k0_pay91 O) (k0_pay92 G Y)) (k0_pay101 (k0_pay84 k0_pay81 (k0_pay82 (F := Ideal)) k0_pay83) (k0_pay90 O) (k0_pay91 O) (k0_pay92 G Y) V) = X at hX ⊢
  clean_types
  pointwise
  simp only [hX, hC, hS, sitofp_lane, word_0, word_127, word_512, word_sixteenth, word_eps, word_minf, named_lg_3, named_gam_3, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

/-- The gradient of the key, scaled and turned back. -/
theorem dk_val (hO : ∀ i e, (O (ix2 i e) : EReal) = ((o i.val e.val : ℝ) : EReal)) (hG : ∀ i e, (G (ix2 i e) : EReal) = ((g i.val e.val : ℝ) : EReal)) (hY : ∀ i e, (Y (ix2 i e) : EReal) = ((y i.val e.val : ℝ) : EReal)) (hV : ∀ i e, (V (ix2 i e) : EReal) = ((v i.val e.val : ℝ) : EReal)) (hQ : ∀ i e, (Q (ix2 i e) : EReal) = ((q i.val e.val : ℝ) : EReal)) (hD : ∀ i e, (D (ix2 i e) : EReal) = ((w i.val e.val : ℝ) : EReal)) (hC : ∀ i e, (C (ix2 i e) : EReal) = ((co i.val e.val : ℝ) : EReal)) (hS : ∀ i e, (S (ix2 i e) : EReal) = ((si i.val e.val : ℝ) : EReal)) (i : Fin 128) (x : Fin 256) :
    (k0_pay2 (k0_pay4 C) (k0_pay5 S) (k0_pay105 (k0_pay85 k0_pay81) (k0_pay87 k0_pay80) (k0_pay96 Q) (k0_pay98 V) D (k0_pay102 V) (k0_pay103 (k0_pay90 O) (k0_pay91 O) (k0_pay92 G Y))) (ix2 i x) : EReal)
      = ((tun co si (fun i d => tdk 3 (tdO o g y) v q w i d * (1 / 16)) i.val x.val : ℝ) : EReal) := by
  unfold k0_pay105 k0_pay103 k0_pay102 k0_pay98 k0_pay96 k0_pay95 k0_pay92 k0_pay91 k0_pay90 k0_pay89 k0_pay88 k0_pay87 k0_pay85 k0_pay81 k0_pay80 k0_pay5 k0_pay4 k0_pay2
  clean_types
  pointwise
  simp only [hO, hG, hY, hV, hQ, hD, hC, hS, sitofp_lane, word_0, word_127, word_512, word_sixteenth, word_eps, word_minf, named_lg_3, named_gam_3, dite_eq_ite]
  simp only [coe_zero', coe_one', coe_neg', coe_add', coe_sub', coe_mul', coe_sum, div_512, logistic_coe, rsqrt_tms, exp_coe, coe_le_coe', exp_ite_bot, coe_ite]
  simp only [tun, tunLo, tunHi, tdq, tdk, tdv, tD, tdg, tdO, tdn, dm, dmt, cs, kdec]

end Cert.KernelIdeal.Head3
-- ==== Proof.Block.lean ====
/-
  The blocks of one grid point: the tables of its inputs, what it leaves in its outputs and its scratch as tables of
  real numbers, and the reading of a head's part.
-/
module

public import proofs.«01_k».proof.Proof.Head0
public import proofs.«01_k».proof.Proof.Head1
public import proofs.«01_k».proof.Proof.Head2
public import proofs.«01_k».proof.Proof.Head3

@[expose] public section

set_option maxRecDepth 16384

noncomputable section

namespace Cert.KernelIdeal.Block

open Cert.KernelIdeal Cert.KernelIdeal.Gen Idealize.ShloMosaic Idealize.ShloMosaic.TcCoe Idealize.SL.Sem StableHlo
open Cert.Ret

/-- The tables of a grid point's inputs. -/
structure Tabs where
  y : ℕ → ℕ → ℝ
  v : ℕ → ℕ → ℝ
  g : ℕ → ℕ → ℝ
  o : ℕ → ℕ → ℝ
  q : ℕ → ℕ → ℝ
  k : ℕ → ℕ → ℝ
  t : ℕ → ℕ → ℝ
  co : ℕ → ℕ → ℝ
  si : ℕ → ℕ → ℝ

/-- The columns from `n`, and the rows from `n`, of a table. -/
def col (n : ℕ) (f : ℕ → ℕ → ℝ) (i e : ℕ) : ℝ := f i (n + e)
def row (n : ℕ) (f : ℕ → ℕ → ℝ) (d e : ℕ) : ℝ := f (n + d) e

variable (T : Tabs) (w : ℕ → ℕ → ℝ)

/-- Head `h` of the block: the gradient of the mixed rows, and what is stored. -/
def hdO (h : ℕ) : ℕ → ℕ → ℝ := tdO (col (h * 512) T.o) (col (h * 512) T.g) (col (h * 512) T.y)
def hdq (h : ℕ) : ℕ → ℕ → ℝ := tun T.co T.si (tdq h (hdO T h) (col (h * 512) T.v) (col (h * 256) T.k) (row (h * 256) T.t))
def hdk (h : ℕ) : ℕ → ℕ → ℝ :=
  tun T.co T.si (fun i d => tdk h (hdO T h) (col (h * 512) T.v) (col (h * 256) T.q) (row (h * 256) w) i d * (1 / 16))
def hdv (h : ℕ) : ℕ → ℕ → ℝ := tdv h (hdO T h) (col (h * 256) T.q) (col (h * 256) T.k) (row (h * 256) w)
def hdg (h : ℕ) : ℕ → ℕ → ℝ := tdg (col (h * 512) T.o) (col (h * 512) T.g) (col (h * 512) T.y)
def hD (h : ℕ) : ℕ → ℕ → ℝ := tD h (hdO T h) (col (h * 256) T.q) (row (h * 256) w)

/-- The block of the first output, of the second, and the scratch. -/
def b9 (i j : ℕ) : ℝ := if j < 1024 then hdq T (j / 256) i (j % 256) else hdk T w ((j - 1024) / 256) i ((j - 1024) % 256)
def b10 (i j : ℕ) : ℝ := if j < 2048 then hdv T w (j / 512) i (j % 512) else hdg T ((j - 2048) / 512) i ((j - 2048) % 512)
def bS (r e : ℕ) : ℝ := hD T w (r / 256) (r % 256) e

def G9 : S128x2048.Idx → Elt Ideal .bf16 := fun x => ((b9 T w (x 0).val (x 1).val : ℝ) : EReal)
def G10 : S128x4096.Idx → Elt Ideal .bf16 := fun x => ((b10 T w (x 0).val (x 1).val : ℝ) : EReal)
def GS : S1024x512.Idx → Elt Ideal .f32 := fun x => ((bS T w (x 0).val (x 1).val : ℝ) : EReal)

variable {T w}

theorem G9_q {h i e : ℕ} (he : e < 256) (hh : h < 4) {x : S128x2048.Idx} (h0 : (x 0).val = i) (h1 : (x 1).val = h * 256 + e) :
    ((hdq T h i e : ℝ) : EReal) = G9 T w x := by
  unfold G9 b9
  rw [h0, h1, if_pos (by omega), show (h * 256 + e) / 256 = h by omega, show (h * 256 + e) % 256 = e by omega]

theorem G9_k {h i e : ℕ} (he : e < 256) {x : S128x2048.Idx} (h0 : (x 0).val = i) (h1 : (x 1).val = 1024 + h * 256 + e) :
    ((hdk T w h i e : ℝ) : EReal) = G9 T w x := by
  unfold G9 b9
  rw [h0, h1, if_neg (by omega), show (1024 + h * 256 + e - 1024) / 256 = h by omega, show (1024 + h * 256 + e - 1024) % 256 = e by omega]

theorem G10_v {h i e : ℕ} (he : e < 512) (hh : h < 4) {x : S128x4096.Idx} (h0 : (x 0).val = i) (h1 : (x 1).val = h * 512 + e) :
    ((hdv T w h i e : ℝ) : EReal) = G10 T w x := by
  unfold G10 b10
  rw [h0, h1, if_pos (by omega), show (h * 512 + e) / 512 = h by omega, show (h * 512 + e) % 512 = e by omega]

theorem G10_g {h i e : ℕ} (he : e < 512) {x : S128x4096.Idx} (h0 : (x 0).val = i) (h1 : (x 1).val = 2048 + h * 512 + e) :
    ((hdg T h i e : ℝ) : EReal) = G10 T w x := by
  unfold G10 b10
  rw [h0, h1, if_neg (by omega), show (2048 + h * 512 + e - 2048) / 512 = h by omega, show (2048 + h * 512 + e - 2048) % 512 = e by omega]

theorem GS_d {h d e : ℕ} (hd : d < 256) {x : S1024x512.Idx} (h0 : (x 0).val = h * 256 + d) (h1 : (x 1).val = e) :
    ((hD T w h d e : ℝ) : EReal) = GS T w x := by
  unfold GS bS
  rw [h0, h1, show (h * 256 + d) / 256 = h by omega, show (h * 256 + d) % 256 = d by omega]

/-! ## A head's part of a block -/

theorem ld_wide {X : Vec Ideal S128x2048 .f32} {f : ℕ → ℕ → ℝ} (hX : ∀ i j, (X (ix2 i j) : EReal) = ((f i.val j.val : ℝ) : EReal))
    (n : ℕ) {inb : ∀ a, (![0, n] : Fin 2 → ℕ) a + (![128, 512] : Fin 2 → ℕ) a ≤ S128x2048.size a} (i : Fin 128) (e : Fin 512) :
    (View.ld (Val := Elt Ideal) X (Rect.unit (s := S128x2048) ![0, n] ![128, 512] inb) (ix2 i e) : EReal) = ((col n f i.val e.val : ℝ) : EReal) := by
  have hn : n + 512 ≤ 2048 := inb 1
  pointwise
  exact hX i ⟨n + e.val, by omega⟩

theorem ld_half {X : Vec Ideal S128x1024 .bf16} {f : ℕ → ℕ → ℝ} (hX : ∀ i j, (X (ix2 i j) : EReal) = ((f i.val j.val : ℝ) : EReal))
    (n : ℕ) {inb : ∀ a, (![0, n] : Fin 2 → ℕ) a + (![128, 256] : Fin 2 → ℕ) a ≤ S128x1024.size a} (i : Fin 128) (e : Fin 256) :
    (View.ld (Val := Elt Ideal) X (Rect.unit (s := S128x1024) ![0, n] ![128, 256] inb) (ix2 i e) : EReal) = ((col n f i.val e.val : ℝ) : EReal) := by
  have hn : n + 256 ≤ 1024 := inb 1
  pointwise
  exact hX i ⟨n + e.val, by omega⟩

theorem ld_state {X : Vec Ideal S1x1024x512 .bf16} {f : ℕ → ℕ → ℝ} (hX : ∀ u i j, (X (ix3 u i j) : EReal) = ((f i.val j.val : ℝ) : EReal))
    (n : ℕ) {inb : ∀ a, (![0, n, 0] : Fin 3 → ℕ) a + (![1, 256, 512] : Fin 3 → ℕ) a ≤ S1x1024x512.size a} (u : Fin 1) (d : Fin 256) (e : Fin 512) :
    (View.ld (Val := Elt Ideal) X (Rect.unit (s := S1x1024x512) ![0, n, 0] ![1, 256, 512] inb) (ix3 u d e) : EReal) = ((row n f d.val e.val : ℝ) : EReal) := by
  have hn : n + 256 ≤ 1024 := inb 1
  pointwise
  exact hX 0 ⟨n + d.val, by omega⟩ e

theorem ld_carry {X : Vec Ideal S1024x512 .f32} {f : ℕ → ℕ → ℝ} (hX : ∀ i j, (X (ix2 i j) : EReal) = ((f i.val j.val : ℝ) : EReal))
    (n : ℕ) {inb : ∀ a, (![n, 0] : Fin 2 → ℕ) a + (![256, 512] : Fin 2 → ℕ) a ≤ S1024x512.size a} (d : Fin 256) (e : Fin 512) :
    (View.ld (Val := Elt Ideal) X (Rect.unit (s := S1024x512) ![n, 0] ![256, 512] inb) (ix2 d e) : EReal) = ((row n f d.val e.val : ℝ) : EReal) := by
  have hn : n + 256 ≤ 1024 := inb 0
  pointwise
  exact hX ⟨n + d.val, by omega⟩ e

/-- The inputs' blocks are the tables. -/
structure Holds (T : Tabs) (x0 x1 x2 x3 : Vec Ideal S128x2048 .f32) (x4 x5 : Vec Ideal S128x1024 .bf16) (x6 : Vec Ideal S1x1024x512 .bf16)
    (x7 x8 : Vec Ideal S128x128 .f32) : Prop where
  y : ∀ i j, (x0 (ix2 i j) : EReal) = ((T.y i.val j.val : ℝ) : EReal)
  v : ∀ i j, (x1 (ix2 i j) : EReal) = ((T.v i.val j.val : ℝ) : EReal)
  g : ∀ i j, (x2 (ix2 i j) : EReal) = ((T.g i.val j.val : ℝ) : EReal)
  o : ∀ i j, (x3 (ix2 i j) : EReal) = ((T.o i.val j.val : ℝ) : EReal)
  q : ∀ i j, (x4 (ix2 i j) : EReal) = ((T.q i.val j.val : ℝ) : EReal)
  k : ∀ i j, (x5 (ix2 i j) : EReal) = ((T.k i.val j.val : ℝ) : EReal)
  t : ∀ u i j, (x6 (ix3 u i j) : EReal) = ((T.t i.val j.val : ℝ) : EReal)
  co : ∀ i j, (x7 (ix2 i j) : EReal) = ((T.co i.val j.val : ℝ) : EReal)
  si : ∀ i j, (x8 (ix2 i j) : EReal) = ((T.si i.val j.val : ℝ) : EReal)

end Cert.KernelIdeal.Block
-- ==== Proof.Body.lean ====
/-
  One grid point: what the kernel's body leaves in the two outputs and in the carried scratch, as tables of real numbers,
  at the first point (case A: the scratch is set to zero first) and at the later ones (case B).
-/
module

public import proofs.«01_k».proof.Proof.Block
public import Idealize.ShloMosaic.Lib.Pipeline.ReadBack
public import Idealize.ShloMosaic.Lib.Pipeline.ValueKit

@[expose] public section

set_option maxRecDepth 16384

noncomputable section

namespace Cert.KernelIdeal.Body

open Cert.KernelIdeal Cert.KernelIdeal.Gen Idealize.ShloMosaic Idealize.ShloMosaic.TcCoe Idealize.SL.Sem StableHlo
open Cert.Ret Cert.KernelIdeal.Block

/-- The scratch after it is set to zero. -/
theorem pay3_val (i : Fin 1024) (j : Fin 512) : (k0_pay3 (F := Ideal) (ix2 i j) : EReal) = (((fun _ _ => 0 : ℕ → ℕ → ℝ) i.val j.val : ℝ) : EReal) := by
  unfold k0_pay3
  clean_types
  pointwise
  rfl

theorem out0_A_9_val (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x1024x512 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x4096 .bf16) (harg11 : arg11.IsWhole) (arg12 : Memref sig .tc .vmem S1024x512 .f32) (harg12 : arg12.IsWhole) (hc0 : cond0_0 i)
    (x0 : Vec Ideal S128x2048 .f32) (x1 : Vec Ideal S128x2048 .f32) (x2 : Vec Ideal S128x2048 .f32) (x3 : Vec Ideal S128x2048 .f32) (x4 : Vec Ideal S128x1024 .bf16) (x5 : Vec Ideal S128x1024 .bf16) (x6 : Vec Ideal S1x1024x512 .bf16) (x7 : Vec Ideal S128x128 .f32) (x8 : Vec Ideal S128x128 .f32) {T : Tabs}
    (H : Holds T x0 x1 x2 x3 x4 x5 x6 x7 x8) (z) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 z = G9 T (fun _ _ => 0) z := by
  frame_open
  simp (disch := decide) only [↓ View.readCov_skip, ↓ View.readCov_cons_toLoadRect, ↓ View.readCov_fill]
  frame_out
  have HW := pay3_val
  refine View.canon_apply_of_pieces (Val := Elt Ideal) (e := .bf16) (G9 T (fun _ _ => 0)) _ ?_ z ?_
  · refine View.PiecesOf.mem (G := G9 T (fun _ _ => 0)) ⟨fun x => ?_, fun x => ?_, fun x => ?_, fun x => ?_, fun x => ?_, fun x => ?_, fun x => ?_, fun x => ?_, trivial⟩
    · obtain ⟨i, e, rfl⟩ : ∃ (i : Fin 128) (e : Fin 256), x = ix2 i e := ⟨_, _, eq_ix2 x⟩
      exact (Head3.dk_val (ld_wide H.o 1536) (ld_wide H.g 1536) (ld_wide H.y 1536) (ld_wide H.v 1536) (ld_half H.q 768) (ld_carry HW 768) H.co H.si _ _).trans (G9_k (h := 3) e.isLt (by show 0 + 1 * i.val = i.val; omega) (by show 1792 + 1 * e.val = 1024 + 3 * 256 + e.val; omega))
    · obtain ⟨i, e, rfl⟩ : ∃ (i : Fin 128) (e : Fin 256), x = ix2 i e := ⟨_, _, eq_ix2 x⟩
      exact (Head3.dq_val (ld_wide H.o 1536) (ld_wide H.g 1536) (ld_wide H.y 1536) (ld_wide H.v 1536) (ld_half H.k 768) (ld_state H.t 768) H.co H.si _ _).trans (G9_q (h := 3) e.isLt (by omega) (by show 0 + 1 * i.val = i.val; omega) (by show 768 + 1 * e.val = 3 * 256 + e.val; omega))
    · obtain ⟨i, e, rfl⟩ : ∃ (i : Fin 128) (e : Fin 256), x = ix2 i e := ⟨_, _, eq_ix2 x⟩
      exact (Head2.dk_val (ld_wide H.o 1024) (ld_wide H.g 1024) (ld_wide H.y 1024) (ld_wide H.v 1024) (ld_half H.q 512) (ld_carry HW 512) H.co H.si _ _).trans (G9_k (h := 2) e.isLt (by show 0 + 1 * i.val = i.val; omega) (by show 1536 + 1 * e.val = 1024 + 2 * 256 + e.val; omega))
    · obtain ⟨i, e, rfl⟩ : ∃ (i : Fin 128) (e : Fin 256), x = ix2 i e := ⟨_, _, eq_ix2 x⟩
      exact (Head2.dq_val (ld_wide H.o 1024) (ld_wide H.g 1024) (ld_wide H.y 1024) (ld_wide H.v 1024) (ld_half H.k 512) (ld_state H.t 512) H.co H.si _ _).trans (G9_q (h := 2) e.isLt (by omega) (by show 0 + 1 * i.val = i.val; omega) (by show 512 + 1 * e.val = 2 * 256 + e.val; omega))
    · obtain ⟨i, e, rfl⟩ : ∃ (i : Fin 128) (e : Fin 256), x = ix2 i e := ⟨_, _, eq_ix2 x⟩
      exact (Head1.dk_val (ld_wide H.o 512) (ld_wide H.g 512) (ld_wide H.y 512) (ld_wide H.v 512) (ld_half H.q 256) (ld_carry HW 256) H.co H.si _ _).trans (G9_k (h := 1) e.isLt (by show 0 + 1 * i.val = i.val; omega) (by show 1280 + 1 * e.val = 1024 + 1 * 256 + e.val; omega))
    · obtain ⟨i, e, rfl⟩ : ∃ (i : Fin 128) (e : Fin 256), x = ix2 i e := ⟨_, _, eq_ix2 x⟩
      exact (Head1.dq_val (ld_wide H.o 512) (ld_wide H.g 512) (ld_wide H.y 512) (ld_wide H.v 512) (ld_half H.k 256) (ld_state H.t 256) H.co H.si _ _).trans (G9_q (h := 1) e.isLt (by omega) (by show 0 + 1 * i.val = i.val; omega) (by show 256 + 1 * e.val = 1 * 256 + e.val; omega))
    · obtain ⟨i, e, rfl⟩ : ∃ (i : Fin 128) (e : Fin 256), x = ix2 i e := ⟨_, _, eq_ix2 x⟩
      exact (Head0.dk_val (ld_wide H.o 0) (ld_wide H.g 0) (ld_wide H.y 0) (ld_wide H.v 0) (ld_half H.q 0) (ld_carry HW 0) H.co H.si _ _).trans (G9_k (h := 0) e.isLt (by show 0 + 1 * i.val = i.val; omega) (by show 1024 + 1 * e.val = 1024 + 0 * 256 + e.val; omega))
    · obtain ⟨i, e, rfl⟩ : ∃ (i : Fin 128) (e : Fin 256), x = ix2 i e := ⟨_, _, eq_ix2 x⟩
      exact (Head0.dq_val (ld_wide H.o 0) (ld_wide H.g 0) (ld_wide H.y 0) (ld_wide H.v 0) (ld_half H.k 0) (ld_state H.t 0) H.co H.si _ _).trans (G9_q (h := 0) e.isLt (by omega) (by show 0 + 1 * i.val = i.val; omega) (by show 0 + 1 * e.val = 0 * 256 + e.val; omega))
  · have h0 : (z 0).val < 128 := (z 0).isLt
    have h1 : (z 1).val < 2048 := (z 1).isLt
    rcases (by omega : (1792 ≤ (z 1).val ∧ (z 1).val < 2048) ∨ (768 ≤ (z 1).val ∧ (z 1).val < 1024) ∨ (1536 ≤ (z 1).val ∧ (z 1).val < 1792) ∨ (512 ≤ (z 1).val ∧ (z 1).val < 768) ∨ (1280 ≤ (z 1).val ∧ (z 1).val < 1536) ∨ (256 ≤ (z 1).val ∧ (z 1).val < 512) ∨ (1024 ≤ (z 1).val ∧ (z 1).val < 1280) ∨ (0 ≤ (z 1).val ∧ (z 1).val < 256)) with h | h | h | h | h | h | h | h
    · refine ⟨_, .head _, ?_⟩
      dsimp only
      rw [Rect.mem_set_unit]
      exact (Fin.forall_fin_two.mpr ⟨⟨Nat.zero_le _, by simpa using h0⟩, ⟨h.1, h.2⟩⟩)
    · refine ⟨_, .tail _ (.head _), ?_⟩
      dsimp only
      rw [Rect.mem_set_unit]
      exact (Fin.forall_fin_two.mpr ⟨⟨Nat.zero_le _, by simpa using h0⟩, ⟨h.1, h.2⟩⟩)
    · refine ⟨_, .tail _ (.tail _ (.head _)), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.head _))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.head _)))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.head _))))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.tail _ (.head _)))))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.tail _ (.tail _ (.head _))))))), ?_⟩
      dsimp only
      rw [Rect.mem_set_unit]
      exact (Fin.forall_fin_two.mpr ⟨⟨Nat.zero_le _, by simpa using h0⟩, ⟨h.1, h.2⟩⟩)

theorem out0_A_10_val (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x1024x512 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x4096 .bf16) (harg11 : arg11.IsWhole) (arg12 : Memref sig .tc .vmem S1024x512 .f32) (harg12 : arg12.IsWhole) (hc0 : cond0_0 i)
    (x0 : Vec Ideal S128x2048 .f32) (x1 : Vec Ideal S128x2048 .f32) (x2 : Vec Ideal S128x2048 .f32) (x3 : Vec Ideal S128x2048 .f32) (x4 : Vec Ideal S128x1024 .bf16) (x5 : Vec Ideal S128x1024 .bf16) (x6 : Vec Ideal S1x1024x512 .bf16) (x7 : Vec Ideal S128x128 .f32) (x8 : Vec Ideal S128x128 .f32) {T : Tabs}
    (H : Holds T x0 x1 x2 x3 x4 x5 x6 x7 x8) (z) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 z = G10 T (fun _ _ => 0) z := by
  frame_open
  simp (disch := decide) only [↓ View.readCov_skip, ↓ View.readCov_cons_toLoadRect, ↓ View.readCov_fill]
  frame_out
  have HW := pay3_val
  refine View.canon_apply_of_pieces (Val := Elt Ideal) (e := .bf16) (G10 T (fun _ _ => 0)) _ ?_ z ?_
  · refine View.PiecesOf.mem (G := G10 T (fun _ _ => 0)) ⟨fun x => ?_, fun x => ?_, fun x => ?_, fun x => ?_, fun x => ?_, fun x => ?_, fun x => ?_, fun x => ?_, trivial⟩
    · obtain ⟨i, e, rfl⟩ : ∃ (i : Fin 128) (e : Fin 512), x = ix2 i e := ⟨_, _, eq_ix2 x⟩
      exact (Head3.dv_val (ld_wide H.o 1536) (ld_wide H.g 1536) (ld_wide H.y 1536) (ld_half H.q 768) (ld_half H.k 768) (ld_carry HW 768) _ _).trans (G10_v (h := 3) e.isLt (by omega) (by show 0 + 1 * i.val = i.val; omega) (by show 1536 + 1 * e.val = 3 * 512 + e.val; omega))
    · obtain ⟨i, e, rfl⟩ : ∃ (i : Fin 128) (e : Fin 512), x = ix2 i e := ⟨_, _, eq_ix2 x⟩
      exact (Head3.dg_val (ld_wide H.o 1536) (ld_wide H.g 1536) (ld_wide H.y 1536) _ _).trans (G10_g (h := 3) e.isLt (by show 0 + 1 * i.val = i.val; omega) (by show 3584 + 1 * e.val = 2048 + 3 * 512 + e.val; omega))
    · obtain ⟨i, e, rfl⟩ : ∃ (i : Fin 128) (e : Fin 512), x = ix2 i e := ⟨_, _, eq_ix2 x⟩
      exact (Head2.dv_val (ld_wide H.o 1024) (ld_wide H.g 1024) (ld_wide H.y 1024) (ld_half H.q 512) (ld_half H.k 512) (ld_carry HW 512) _ _).trans (G10_v (h := 2) e.isLt (by omega) (by show 0 + 1 * i.val = i.val; omega) (by show 1024 + 1 * e.val = 2 * 512 + e.val; omega))
    · obtain ⟨i, e, rfl⟩ : ∃ (i : Fin 128) (e : Fin 512), x = ix2 i e := ⟨_, _, eq_ix2 x⟩
      exact (Head2.dg_val (ld_wide H.o 1024) (ld_wide H.g 1024) (ld_wide H.y 1024) _ _).trans (G10_g (h := 2) e.isLt (by show 0 + 1 * i.val = i.val; omega) (by show 3072 + 1 * e.val = 2048 + 2 * 512 + e.val; omega))
    · obtain ⟨i, e, rfl⟩ : ∃ (i : Fin 128) (e : Fin 512), x = ix2 i e := ⟨_, _, eq_ix2 x⟩
      exact (Head1.dv_val (ld_wide H.o 512) (ld_wide H.g 512) (ld_wide H.y 512) (ld_half H.q 256) (ld_half H.k 256) (ld_carry HW 256) _ _).trans (G10_v (h := 1) e.isLt (by omega) (by show 0 + 1 * i.val = i.val; omega) (by show 512 + 1 * e.val = 1 * 512 + e.val; omega))
    · obtain ⟨i, e, rfl⟩ : ∃ (i : Fin 128) (e : Fin 512), x = ix2 i e := ⟨_, _, eq_ix2 x⟩
      exact (Head1.dg_val (ld_wide H.o 512) (ld_wide H.g 512) (ld_wide H.y 512) _ _).trans (G10_g (h := 1) e.isLt (by show 0 + 1 * i.val = i.val; omega) (by show 2560 + 1 * e.val = 2048 + 1 * 512 + e.val; omega))
    · obtain ⟨i, e, rfl⟩ : ∃ (i : Fin 128) (e : Fin 512), x = ix2 i e := ⟨_, _, eq_ix2 x⟩
      exact (Head0.dv_val (ld_wide H.o 0) (ld_wide H.g 0) (ld_wide H.y 0) (ld_half H.q 0) (ld_half H.k 0) (ld_carry HW 0) _ _).trans (G10_v (h := 0) e.isLt (by omega) (by show 0 + 1 * i.val = i.val; omega) (by show 0 + 1 * e.val = 0 * 512 + e.val; omega))
    · obtain ⟨i, e, rfl⟩ : ∃ (i : Fin 128) (e : Fin 512), x = ix2 i e := ⟨_, _, eq_ix2 x⟩
      exact (Head0.dg_val (ld_wide H.o 0) (ld_wide H.g 0) (ld_wide H.y 0) _ _).trans (G10_g (h := 0) e.isLt (by show 0 + 1 * i.val = i.val; omega) (by show 2048 + 1 * e.val = 2048 + 0 * 512 + e.val; omega))
  · have h0 : (z 0).val < 128 := (z 0).isLt
    have h1 : (z 1).val < 4096 := (z 1).isLt
    rcases (by omega : (1536 ≤ (z 1).val ∧ (z 1).val < 2048) ∨ (3584 ≤ (z 1).val ∧ (z 1).val < 4096) ∨ (1024 ≤ (z 1).val ∧ (z 1).val < 1536) ∨ (3072 ≤ (z 1).val ∧ (z 1).val < 3584) ∨ (512 ≤ (z 1).val ∧ (z 1).val < 1024) ∨ (2560 ≤ (z 1).val ∧ (z 1).val < 3072) ∨ (0 ≤ (z 1).val ∧ (z 1).val < 512) ∨ (2048 ≤ (z 1).val ∧ (z 1).val < 2560)) with h | h | h | h | h | h | h | h
    · refine ⟨_, .head _, ?_⟩
      dsimp only
      rw [Rect.mem_set_unit]
      exact (Fin.forall_fin_two.mpr ⟨⟨Nat.zero_le _, by simpa using h0⟩, ⟨h.1, h.2⟩⟩)
    · refine ⟨_, .tail _ (.head _), ?_⟩
      dsimp only
      rw [Rect.mem_set_unit]
      exact (Fin.forall_fin_two.mpr ⟨⟨Nat.zero_le _, by simpa using h0⟩, ⟨h.1, h.2⟩⟩)
    · refine ⟨_, .tail _ (.tail _ (.head _)), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.head _))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.head _)))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.head _))))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.tail _ (.head _)))))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.tail _ (.tail _ (.head _))))))), ?_⟩
      dsimp only
      rw [Rect.mem_set_unit]
      exact (Fin.forall_fin_two.mpr ⟨⟨Nat.zero_le _, by simpa using h0⟩, ⟨h.1, h.2⟩⟩)

theorem sout0_A_0_val (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x1024x512 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x4096 .bf16) (harg11 : arg11.IsWhole) (arg12 : Memref sig .tc .vmem S1024x512 .f32) (harg12 : arg12.IsWhole) (hc0 : cond0_0 i)
    (x0 : Vec Ideal S128x2048 .f32) (x1 : Vec Ideal S128x2048 .f32) (x2 : Vec Ideal S128x2048 .f32) (x3 : Vec Ideal S128x2048 .f32) (x4 : Vec Ideal S128x1024 .bf16) (x5 : Vec Ideal S128x1024 .bf16) (x6 : Vec Ideal S1x1024x512 .bf16) (x7 : Vec Ideal S128x128 .f32) (x8 : Vec Ideal S128x128 .f32) {T : Tabs}
    (H : Holds T x0 x1 x2 x3 x4 x5 x6 x7 x8) (z) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 z = GS T (fun _ _ => 0) z := by
  frame_open
  simp (disch := decide) only [↓ View.readCov_skip, ↓ View.readCov_cons_toLoadRect, ↓ View.readCov_fill]
  frame_out
  have HW := pay3_val
  refine View.canon_append_of_piecesOf (Val := Elt Ideal) (e := .f32) (GS T (fun _ _ => 0)) [_] [_, _, _, _] ⟨fun x => ?_, fun x => ?_, fun x => ?_, fun x => ?_, trivial⟩ z ?_
  · obtain ⟨i, e, rfl⟩ : ∃ (i : Fin 256) (e : Fin 512), x = ix2 i e := ⟨_, _, eq_ix2 x⟩
    exact (Head3.sD_val (ld_wide H.o 1536) (ld_wide H.g 1536) (ld_wide H.y 1536) (ld_half H.q 768) (ld_carry HW 768) _ _).trans (GS_d (h := 3) i.isLt (by show 768 + 1 * i.val = 3 * 256 + i.val; omega) (by show 0 + 1 * e.val = e.val; omega))
  · obtain ⟨i, e, rfl⟩ : ∃ (i : Fin 256) (e : Fin 512), x = ix2 i e := ⟨_, _, eq_ix2 x⟩
    exact (Head2.sD_val (ld_wide H.o 1024) (ld_wide H.g 1024) (ld_wide H.y 1024) (ld_half H.q 512) (ld_carry HW 512) _ _).trans (GS_d (h := 2) i.isLt (by show 512 + 1 * i.val = 2 * 256 + i.val; omega) (by show 0 + 1 * e.val = e.val; omega))
  · obtain ⟨i, e, rfl⟩ : ∃ (i : Fin 256) (e : Fin 512), x = ix2 i e := ⟨_, _, eq_ix2 x⟩
    exact (Head1.sD_val (ld_wide H.o 512) (ld_wide H.g 512) (ld_wide H.y 512) (ld_half H.q 256) (ld_carry HW 256) _ _).trans (GS_d (h := 1) i.isLt (by show 256 + 1 * i.val = 1 * 256 + i.val; omega) (by show 0 + 1 * e.val = e.val; omega))
  · obtain ⟨i, e, rfl⟩ : ∃ (i : Fin 256) (e : Fin 512), x = ix2 i e := ⟨_, _, eq_ix2 x⟩
    exact (Head0.sD_val (ld_wide H.o 0) (ld_wide H.g 0) (ld_wide H.y 0) (ld_half H.q 0) (ld_carry HW 0) _ _).trans (GS_d (h := 0) i.isLt (by show 0 + 1 * i.val = 0 * 256 + i.val; omega) (by show 0 + 1 * e.val = e.val; omega))
  · have h0 : (z 0).val < 1024 := (z 0).isLt
    have h1 : (z 1).val < 512 := (z 1).isLt
    rcases (by omega : (768 ≤ (z 0).val ∧ (z 0).val < 1024) ∨ (512 ≤ (z 0).val ∧ (z 0).val < 768) ∨ (256 ≤ (z 0).val ∧ (z 0).val < 512) ∨ (0 ≤ (z 0).val ∧ (z 0).val < 256)) with h | h | h | h
    · refine ⟨_, .head _, ?_⟩
      dsimp only
      rw [Rect.mem_set_unit]
      exact (Fin.forall_fin_two.mpr ⟨⟨h.1, h.2⟩, ⟨Nat.zero_le _, by simpa using h1⟩⟩)
    · refine ⟨_, .tail _ (.head _), ?_⟩
      dsimp only
      rw [Rect.mem_set_unit]
      exact (Fin.forall_fin_two.mpr ⟨⟨h.1, h.2⟩, ⟨Nat.zero_le _, by simpa using h1⟩⟩)
    · refine ⟨_, .tail _ (.tail _ (.head _)), ?_⟩
      dsimp only
      rw [Rect.mem_set_unit]
      exact (Fin.forall_fin_two.mpr ⟨⟨h.1, h.2⟩, ⟨Nat.zero_le _, by simpa using h1⟩⟩)
    · refine ⟨_, .tail _ (.tail _ (.tail _ (.head _))), ?_⟩
      dsimp only
      rw [Rect.mem_set_unit]
      exact (Fin.forall_fin_two.mpr ⟨⟨h.1, h.2⟩, ⟨Nat.zero_le _, by simpa using h1⟩⟩)

theorem out0_B_9_val (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x1024x512 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x4096 .bf16) (harg11 : arg11.IsWhole) (arg12 : Memref sig .tc .vmem S1024x512 .f32) (harg12 : arg12.IsWhole) (hc0 : ¬cond0_0 i)
    (x0 : Vec Ideal S128x2048 .f32) (x1 : Vec Ideal S128x2048 .f32) (x2 : Vec Ideal S128x2048 .f32) (x3 : Vec Ideal S128x2048 .f32) (x4 : Vec Ideal S128x1024 .bf16) (x5 : Vec Ideal S128x1024 .bf16) (x6 : Vec Ideal S1x1024x512 .bf16) (x7 : Vec Ideal S128x128 .f32) (x8 : Vec Ideal S128x128 .f32) (xs0 : Vec Ideal S1024x512 .f32) {T : Tabs}
    (H : Holds T x0 x1 x2 x3 x4 x5 x6 x7 x8) {w : ℕ → ℕ → ℝ} (HW : ∀ i j, (xs0 (ix2 i j) : EReal) = ((w i.val j.val : ℝ) : EReal)) (z) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 z = G9 T w z := by
  frame_open
  frame_out
  refine View.canon_apply_of_pieces (Val := Elt Ideal) (e := .bf16) (G9 T w) _ ?_ z ?_
  · refine View.PiecesOf.mem (G := G9 T w) ⟨fun x => ?_, fun x => ?_, fun x => ?_, fun x => ?_, fun x => ?_, fun x => ?_, fun x => ?_, fun x => ?_, trivial⟩
    · obtain ⟨i, e, rfl⟩ : ∃ (i : Fin 128) (e : Fin 256), x = ix2 i e := ⟨_, _, eq_ix2 x⟩
      exact (Head3.dk_val (ld_wide H.o 1536) (ld_wide H.g 1536) (ld_wide H.y 1536) (ld_wide H.v 1536) (ld_half H.q 768) (ld_carry HW 768) H.co H.si _ _).trans (G9_k (h := 3) e.isLt (by show 0 + 1 * i.val = i.val; omega) (by show 1792 + 1 * e.val = 1024 + 3 * 256 + e.val; omega))
    · obtain ⟨i, e, rfl⟩ : ∃ (i : Fin 128) (e : Fin 256), x = ix2 i e := ⟨_, _, eq_ix2 x⟩
      exact (Head3.dq_val (ld_wide H.o 1536) (ld_wide H.g 1536) (ld_wide H.y 1536) (ld_wide H.v 1536) (ld_half H.k 768) (ld_state H.t 768) H.co H.si _ _).trans (G9_q (h := 3) e.isLt (by omega) (by show 0 + 1 * i.val = i.val; omega) (by show 768 + 1 * e.val = 3 * 256 + e.val; omega))
    · obtain ⟨i, e, rfl⟩ : ∃ (i : Fin 128) (e : Fin 256), x = ix2 i e := ⟨_, _, eq_ix2 x⟩
      exact (Head2.dk_val (ld_wide H.o 1024) (ld_wide H.g 1024) (ld_wide H.y 1024) (ld_wide H.v 1024) (ld_half H.q 512) (ld_carry HW 512) H.co H.si _ _).trans (G9_k (h := 2) e.isLt (by show 0 + 1 * i.val = i.val; omega) (by show 1536 + 1 * e.val = 1024 + 2 * 256 + e.val; omega))
    · obtain ⟨i, e, rfl⟩ : ∃ (i : Fin 128) (e : Fin 256), x = ix2 i e := ⟨_, _, eq_ix2 x⟩
      exact (Head2.dq_val (ld_wide H.o 1024) (ld_wide H.g 1024) (ld_wide H.y 1024) (ld_wide H.v 1024) (ld_half H.k 512) (ld_state H.t 512) H.co H.si _ _).trans (G9_q (h := 2) e.isLt (by omega) (by show 0 + 1 * i.val = i.val; omega) (by show 512 + 1 * e.val = 2 * 256 + e.val; omega))
    · obtain ⟨i, e, rfl⟩ : ∃ (i : Fin 128) (e : Fin 256), x = ix2 i e := ⟨_, _, eq_ix2 x⟩
      exact (Head1.dk_val (ld_wide H.o 512) (ld_wide H.g 512) (ld_wide H.y 512) (ld_wide H.v 512) (ld_half H.q 256) (ld_carry HW 256) H.co H.si _ _).trans (G9_k (h := 1) e.isLt (by show 0 + 1 * i.val = i.val; omega) (by show 1280 + 1 * e.val = 1024 + 1 * 256 + e.val; omega))
    · obtain ⟨i, e, rfl⟩ : ∃ (i : Fin 128) (e : Fin 256), x = ix2 i e := ⟨_, _, eq_ix2 x⟩
      exact (Head1.dq_val (ld_wide H.o 512) (ld_wide H.g 512) (ld_wide H.y 512) (ld_wide H.v 512) (ld_half H.k 256) (ld_state H.t 256) H.co H.si _ _).trans (G9_q (h := 1) e.isLt (by omega) (by show 0 + 1 * i.val = i.val; omega) (by show 256 + 1 * e.val = 1 * 256 + e.val; omega))
    · obtain ⟨i, e, rfl⟩ : ∃ (i : Fin 128) (e : Fin 256), x = ix2 i e := ⟨_, _, eq_ix2 x⟩
      exact (Head0.dk_val (ld_wide H.o 0) (ld_wide H.g 0) (ld_wide H.y 0) (ld_wide H.v 0) (ld_half H.q 0) (ld_carry HW 0) H.co H.si _ _).trans (G9_k (h := 0) e.isLt (by show 0 + 1 * i.val = i.val; omega) (by show 1024 + 1 * e.val = 1024 + 0 * 256 + e.val; omega))
    · obtain ⟨i, e, rfl⟩ : ∃ (i : Fin 128) (e : Fin 256), x = ix2 i e := ⟨_, _, eq_ix2 x⟩
      exact (Head0.dq_val (ld_wide H.o 0) (ld_wide H.g 0) (ld_wide H.y 0) (ld_wide H.v 0) (ld_half H.k 0) (ld_state H.t 0) H.co H.si _ _).trans (G9_q (h := 0) e.isLt (by omega) (by show 0 + 1 * i.val = i.val; omega) (by show 0 + 1 * e.val = 0 * 256 + e.val; omega))
  · have h0 : (z 0).val < 128 := (z 0).isLt
    have h1 : (z 1).val < 2048 := (z 1).isLt
    rcases (by omega : (1792 ≤ (z 1).val ∧ (z 1).val < 2048) ∨ (768 ≤ (z 1).val ∧ (z 1).val < 1024) ∨ (1536 ≤ (z 1).val ∧ (z 1).val < 1792) ∨ (512 ≤ (z 1).val ∧ (z 1).val < 768) ∨ (1280 ≤ (z 1).val ∧ (z 1).val < 1536) ∨ (256 ≤ (z 1).val ∧ (z 1).val < 512) ∨ (1024 ≤ (z 1).val ∧ (z 1).val < 1280) ∨ (0 ≤ (z 1).val ∧ (z 1).val < 256)) with h | h | h | h | h | h | h | h
    · refine ⟨_, .head _, ?_⟩
      dsimp only
      rw [Rect.mem_set_unit]
      exact (Fin.forall_fin_two.mpr ⟨⟨Nat.zero_le _, by simpa using h0⟩, ⟨h.1, h.2⟩⟩)
    · refine ⟨_, .tail _ (.head _), ?_⟩
      dsimp only
      rw [Rect.mem_set_unit]
      exact (Fin.forall_fin_two.mpr ⟨⟨Nat.zero_le _, by simpa using h0⟩, ⟨h.1, h.2⟩⟩)
    · refine ⟨_, .tail _ (.tail _ (.head _)), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.head _))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.head _)))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.head _))))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.tail _ (.head _)))))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.tail _ (.tail _ (.head _))))))), ?_⟩
      dsimp only
      rw [Rect.mem_set_unit]
      exact (Fin.forall_fin_two.mpr ⟨⟨Nat.zero_le _, by simpa using h0⟩, ⟨h.1, h.2⟩⟩)

theorem out0_B_10_val (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x1024x512 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x4096 .bf16) (harg11 : arg11.IsWhole) (arg12 : Memref sig .tc .vmem S1024x512 .f32) (harg12 : arg12.IsWhole) (hc0 : ¬cond0_0 i)
    (x0 : Vec Ideal S128x2048 .f32) (x1 : Vec Ideal S128x2048 .f32) (x2 : Vec Ideal S128x2048 .f32) (x3 : Vec Ideal S128x2048 .f32) (x4 : Vec Ideal S128x1024 .bf16) (x5 : Vec Ideal S128x1024 .bf16) (x6 : Vec Ideal S1x1024x512 .bf16) (x7 : Vec Ideal S128x128 .f32) (x8 : Vec Ideal S128x128 .f32) (xs0 : Vec Ideal S1024x512 .f32) {T : Tabs}
    (H : Holds T x0 x1 x2 x3 x4 x5 x6 x7 x8) {w : ℕ → ℕ → ℝ} (HW : ∀ i j, (xs0 (ix2 i j) : EReal) = ((w i.val j.val : ℝ) : EReal)) (z) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 z = G10 T w z := by
  frame_open
  frame_out
  refine View.canon_apply_of_pieces (Val := Elt Ideal) (e := .bf16) (G10 T w) _ ?_ z ?_
  · refine View.PiecesOf.mem (G := G10 T w) ⟨fun x => ?_, fun x => ?_, fun x => ?_, fun x => ?_, fun x => ?_, fun x => ?_, fun x => ?_, fun x => ?_, trivial⟩
    · obtain ⟨i, e, rfl⟩ : ∃ (i : Fin 128) (e : Fin 512), x = ix2 i e := ⟨_, _, eq_ix2 x⟩
      exact (Head3.dv_val (ld_wide H.o 1536) (ld_wide H.g 1536) (ld_wide H.y 1536) (ld_half H.q 768) (ld_half H.k 768) (ld_carry HW 768) _ _).trans (G10_v (h := 3) e.isLt (by omega) (by show 0 + 1 * i.val = i.val; omega) (by show 1536 + 1 * e.val = 3 * 512 + e.val; omega))
    · obtain ⟨i, e, rfl⟩ : ∃ (i : Fin 128) (e : Fin 512), x = ix2 i e := ⟨_, _, eq_ix2 x⟩
      exact (Head3.dg_val (ld_wide H.o 1536) (ld_wide H.g 1536) (ld_wide H.y 1536) _ _).trans (G10_g (h := 3) e.isLt (by show 0 + 1 * i.val = i.val; omega) (by show 3584 + 1 * e.val = 2048 + 3 * 512 + e.val; omega))
    · obtain ⟨i, e, rfl⟩ : ∃ (i : Fin 128) (e : Fin 512), x = ix2 i e := ⟨_, _, eq_ix2 x⟩
      exact (Head2.dv_val (ld_wide H.o 1024) (ld_wide H.g 1024) (ld_wide H.y 1024) (ld_half H.q 512) (ld_half H.k 512) (ld_carry HW 512) _ _).trans (G10_v (h := 2) e.isLt (by omega) (by show 0 + 1 * i.val = i.val; omega) (by show 1024 + 1 * e.val = 2 * 512 + e.val; omega))
    · obtain ⟨i, e, rfl⟩ : ∃ (i : Fin 128) (e : Fin 512), x = ix2 i e := ⟨_, _, eq_ix2 x⟩
      exact (Head2.dg_val (ld_wide H.o 1024) (ld_wide H.g 1024) (ld_wide H.y 1024) _ _).trans (G10_g (h := 2) e.isLt (by show 0 + 1 * i.val = i.val; omega) (by show 3072 + 1 * e.val = 2048 + 2 * 512 + e.val; omega))
    · obtain ⟨i, e, rfl⟩ : ∃ (i : Fin 128) (e : Fin 512), x = ix2 i e := ⟨_, _, eq_ix2 x⟩
      exact (Head1.dv_val (ld_wide H.o 512) (ld_wide H.g 512) (ld_wide H.y 512) (ld_half H.q 256) (ld_half H.k 256) (ld_carry HW 256) _ _).trans (G10_v (h := 1) e.isLt (by omega) (by show 0 + 1 * i.val = i.val; omega) (by show 512 + 1 * e.val = 1 * 512 + e.val; omega))
    · obtain ⟨i, e, rfl⟩ : ∃ (i : Fin 128) (e : Fin 512), x = ix2 i e := ⟨_, _, eq_ix2 x⟩
      exact (Head1.dg_val (ld_wide H.o 512) (ld_wide H.g 512) (ld_wide H.y 512) _ _).trans (G10_g (h := 1) e.isLt (by show 0 + 1 * i.val = i.val; omega) (by show 2560 + 1 * e.val = 2048 + 1 * 512 + e.val; omega))
    · obtain ⟨i, e, rfl⟩ : ∃ (i : Fin 128) (e : Fin 512), x = ix2 i e := ⟨_, _, eq_ix2 x⟩
      exact (Head0.dv_val (ld_wide H.o 0) (ld_wide H.g 0) (ld_wide H.y 0) (ld_half H.q 0) (ld_half H.k 0) (ld_carry HW 0) _ _).trans (G10_v (h := 0) e.isLt (by omega) (by show 0 + 1 * i.val = i.val; omega) (by show 0 + 1 * e.val = 0 * 512 + e.val; omega))
    · obtain ⟨i, e, rfl⟩ : ∃ (i : Fin 128) (e : Fin 512), x = ix2 i e := ⟨_, _, eq_ix2 x⟩
      exact (Head0.dg_val (ld_wide H.o 0) (ld_wide H.g 0) (ld_wide H.y 0) _ _).trans (G10_g (h := 0) e.isLt (by show 0 + 1 * i.val = i.val; omega) (by show 2048 + 1 * e.val = 2048 + 0 * 512 + e.val; omega))
  · have h0 : (z 0).val < 128 := (z 0).isLt
    have h1 : (z 1).val < 4096 := (z 1).isLt
    rcases (by omega : (1536 ≤ (z 1).val ∧ (z 1).val < 2048) ∨ (3584 ≤ (z 1).val ∧ (z 1).val < 4096) ∨ (1024 ≤ (z 1).val ∧ (z 1).val < 1536) ∨ (3072 ≤ (z 1).val ∧ (z 1).val < 3584) ∨ (512 ≤ (z 1).val ∧ (z 1).val < 1024) ∨ (2560 ≤ (z 1).val ∧ (z 1).val < 3072) ∨ (0 ≤ (z 1).val ∧ (z 1).val < 512) ∨ (2048 ≤ (z 1).val ∧ (z 1).val < 2560)) with h | h | h | h | h | h | h | h
    · refine ⟨_, .head _, ?_⟩
      dsimp only
      rw [Rect.mem_set_unit]
      exact (Fin.forall_fin_two.mpr ⟨⟨Nat.zero_le _, by simpa using h0⟩, ⟨h.1, h.2⟩⟩)
    · refine ⟨_, .tail _ (.head _), ?_⟩
      dsimp only
      rw [Rect.mem_set_unit]
      exact (Fin.forall_fin_two.mpr ⟨⟨Nat.zero_le _, by simpa using h0⟩, ⟨h.1, h.2⟩⟩)
    · refine ⟨_, .tail _ (.tail _ (.head _)), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.head _))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.head _)))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.head _))))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.tail _ (.head _)))))), ?_⟩
      dsimp only
      rw [Rect.mem_set_unit]
      exact (Fin.forall_fin_two.mpr ⟨⟨Nat.zero_le _, by simpa using h0⟩, ⟨h.1, h.2⟩⟩)
    · refine ⟨_, .tail _ (.tail _ (.tail _ (.tail _ (.tail _ (.tail _ (.tail _ (.head _))))))), ?_⟩
      dsimp only
      rw [Rect.mem_set_unit]
      exact (Fin.forall_fin_two.mpr ⟨⟨Nat.zero_le _, by simpa using h0⟩, ⟨h.1, h.2⟩⟩)

theorem sout0_B_0_val (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x1024x512 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x4096 .bf16) (harg11 : arg11.IsWhole) (arg12 : Memref sig .tc .vmem S1024x512 .f32) (harg12 : arg12.IsWhole) (hc0 : ¬cond0_0 i)
    (x0 : Vec Ideal S128x2048 .f32) (x1 : Vec Ideal S128x2048 .f32) (x2 : Vec Ideal S128x2048 .f32) (x3 : Vec Ideal S128x2048 .f32) (x4 : Vec Ideal S128x1024 .bf16) (x5 : Vec Ideal S128x1024 .bf16) (x6 : Vec Ideal S1x1024x512 .bf16) (x7 : Vec Ideal S128x128 .f32) (x8 : Vec Ideal S128x128 .f32) (xs0 : Vec Ideal S1024x512 .f32) {T : Tabs}
    (H : Holds T x0 x1 x2 x3 x4 x5 x6 x7 x8) {w : ℕ → ℕ → ℝ} (HW : ∀ i j, (xs0 (ix2 i j) : EReal) = ((w i.val j.val : ℝ) : EReal)) (z) :
    sout0_B_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 z = GS T w z := by
  frame_open
  frame_out
  refine View.canon_apply_of_pieces (Val := Elt Ideal) (e := .f32) (GS T w) _ ?_ z ?_
  · refine View.PiecesOf.mem (G := GS T w) ⟨fun x => ?_, fun x => ?_, fun x => ?_, fun x => ?_, trivial⟩
    · obtain ⟨i, e, rfl⟩ : ∃ (i : Fin 256) (e : Fin 512), x = ix2 i e := ⟨_, _, eq_ix2 x⟩
      exact (Head3.sD_val (ld_wide H.o 1536) (ld_wide H.g 1536) (ld_wide H.y 1536) (ld_half H.q 768) (ld_carry HW 768) _ _).trans (GS_d (h := 3) i.isLt (by show 768 + 1 * i.val = 3 * 256 + i.val; omega) (by show 0 + 1 * e.val = e.val; omega))
    · obtain ⟨i, e, rfl⟩ : ∃ (i : Fin 256) (e : Fin 512), x = ix2 i e := ⟨_, _, eq_ix2 x⟩
      exact (Head2.sD_val (ld_wide H.o 1024) (ld_wide H.g 1024) (ld_wide H.y 1024) (ld_half H.q 512) (ld_carry HW 512) _ _).trans (GS_d (h := 2) i.isLt (by show 512 + 1 * i.val = 2 * 256 + i.val; omega) (by show 0 + 1 * e.val = e.val; omega))
    · obtain ⟨i, e, rfl⟩ : ∃ (i : Fin 256) (e : Fin 512), x = ix2 i e := ⟨_, _, eq_ix2 x⟩
      exact (Head1.sD_val (ld_wide H.o 512) (ld_wide H.g 512) (ld_wide H.y 512) (ld_half H.q 256) (ld_carry HW 256) _ _).trans (GS_d (h := 1) i.isLt (by show 256 + 1 * i.val = 1 * 256 + i.val; omega) (by show 0 + 1 * e.val = e.val; omega))
    · obtain ⟨i, e, rfl⟩ : ∃ (i : Fin 256) (e : Fin 512), x = ix2 i e := ⟨_, _, eq_ix2 x⟩
      exact (Head0.sD_val (ld_wide H.o 0) (ld_wide H.g 0) (ld_wide H.y 0) (ld_half H.q 0) (ld_carry HW 0) _ _).trans (GS_d (h := 0) i.isLt (by show 0 + 1 * i.val = 0 * 256 + i.val; omega) (by show 0 + 1 * e.val = e.val; omega))
  · have h0 : (z 0).val < 1024 := (z 0).isLt
    have h1 : (z 1).val < 512 := (z 1).isLt
    rcases (by omega : (768 ≤ (z 0).val ∧ (z 0).val < 1024) ∨ (512 ≤ (z 0).val ∧ (z 0).val < 768) ∨ (256 ≤ (z 0).val ∧ (z 0).val < 512) ∨ (0 ≤ (z 0).val ∧ (z 0).val < 256)) with h | h | h | h
    · refine ⟨_, .head _, ?_⟩
      dsimp only
      rw [Rect.mem_set_unit]
      exact (Fin.forall_fin_two.mpr ⟨⟨h.1, h.2⟩, ⟨Nat.zero_le _, by simpa using h1⟩⟩)
    · refine ⟨_, .tail _ (.head _), ?_⟩
      dsimp only
      rw [Rect.mem_set_unit]
      exact (Fin.forall_fin_two.mpr ⟨⟨h.1, h.2⟩, ⟨Nat.zero_le _, by simpa using h1⟩⟩)
    · refine ⟨_, .tail _ (.tail _ (.head _)), ?_⟩
      dsimp only
      rw [Rect.mem_set_unit]
      exact (Fin.forall_fin_two.mpr ⟨⟨h.1, h.2⟩, ⟨Nat.zero_le _, by simpa using h1⟩⟩)
    · refine ⟨_, .tail _ (.tail _ (.tail _ (.head _))), ?_⟩
      dsimp only
      rw [Rect.mem_set_unit]
      exact (Fin.forall_fin_two.mpr ⟨⟨h.1, h.2⟩, ⟨Nat.zero_le _, by simpa using h1⟩⟩)

end Cert.KernelIdeal.Body
-- ==== Proof.Result.lean ====
/-
  The two results as tables of real numbers, and the reference's program leaving them.
-/
module

public import proofs.«01_k».proof.Proof.RefValue
public import proofs.«01_k».proof.Proof.Tile

@[expose] public section

set_option maxRecDepth 16384

noncomputable section

namespace Cert.Ret

variable (a : Arg)

/-- The first result: the gradients of the query and of the key, side by side. -/
def r9 (l j : ℕ) : ℝ :=
  if j < 1024 then unrot (dq a) l (j / 256) (j % 256) else unrot (dk a) l ((j - 1024) / 256) ((j - 1024) % 256)

/-- The second result: the gradients of the value and of the gate, side by side. -/
def r10 (l j : ℕ) : ℝ :=
  if j < 2048 then dv a l (j / 512) (j % 512) else dg a l ((j - 2048) / 512) ((j - 2048) % 512)

end Cert.Ret

namespace Cert.ReferenceIdeal.Value

open Cert.ReferenceIdeal Cert.ReferenceIdeal.Gen Idealize.ShloMosaic Idealize.ShloMosaic.TcCoe Idealize.SL.Sem StableHlo
open Cert.Ret

variable {V0 : Valuation τ sig (Elt Ideal)} {a : Arg}

/-- The two halves, each padded to the whole head, and added: the transposed turn. -/
theorem unpad {x : ℕ → ℕ → ℕ → ℝ} {l h d : ℕ} (hh : h < 4) (hd : d < 256) :
    ((if h < 4 ∧ 128 ≤ d ∧ d - 128 < 128 then
        x l h (128 + (d - 128)) * Real.cos (ang l (d - 128)) + -x l h (d - 128) * Real.sin (ang l (d - 128)) else 0)
      + if h < 4 ∧ d < 128 then x l h (128 + d) * Real.sin (ang l d) + x l h d * Real.cos (ang l d) else 0) = unrot x l h d := by
  unfold unrot unLo unHi
  by_cases hc : d < 128
  · rw [if_neg (by omega), if_pos ⟨hh, hc⟩, if_pos hc]; ring
  · rw [if_pos (by omega), if_neg (by omega), if_neg hc]; ring

theorem v155_val (R : Reads V0 a) (l : Fin 8320) (j : Fin 2048) :
    (val4 V0 (Proc.devRef .tc main_v155) (ix2 l j) : EReal) = ((r9 a l.val j.val : ℝ) : EReal) := by
  rw [val4_main_v155]
  unfold res_main_v135 res_main_v136 res_main_v119 res_main_v120
  clean_types
  pointwise
  simp only [v116_val R, v118_val R, v16_val, v18_val, coe_zero', coe_neg', coe_mul', coe_add', dite_eq_ite]
  simp only [coe_ite, coe_add']
  rw [r9]
  split
  · rw [unpad (by omega) (Nat.mod_lt _ (by norm_num))]
  · rw [unpad (by omega) (Nat.mod_lt _ (by norm_num))]

theorem v157_val (R : Reads V0 a) (l : Fin 8320) (j : Fin 4096) :
    (val4 V0 (Proc.devRef .tc main_v157) (ix2 l j) : EReal) = ((r10 a l.val j.val : ℝ) : EReal) := by
  rw [val4_main_v157]
  clean_types
  pointwise
  simp only [v108_val R, v71_val R, v91_val R, v87_2_val R, R.g, word_1, coe_one', coe_sub', coe_mul', coe_sum, coe_add', dite_eq_ite]
  rw [coe_ite, r10]
  have h := j.isLt
  simp only [dv, dg, show ((j.val - 2048) / 512) * 512 + (j.val - 2048) % 512 = j.val - 2048 by omega]

end Cert.ReferenceIdeal.Value
-- ==== Proof.Math.lean ====
/-
  The chunked backward sweep is the backward pass over the whole sequence: a sum over all rows is a sum over the rows
  before a chunk, in it, and after it, and the decay over the boundary of a chunk factors.
-/
module

public import proofs.«01_k».proof.Proof.Block
public import proofs.«01_k».proof.Proof.Result

@[expose] public section

set_option maxRecDepth 16384

noncomputable section

namespace Cert.Ret

open Cert.KernelIdeal.Block

variable (a : Arg)

/-- The tables of chunk `n`. -/
def tabs (n : ℕ) : Tabs where
  y i j := a.y (n * 128 + i) j
  v i j := a.v (n * 128 + i) j
  g i j := a.g (n * 128 + i) j
  o i j := out a (n * 128 + i) (j / 512) (j % 512)
  q i j := rot a.q (n * 128 + i) (j / 256) (j % 256)
  k i j := ks a (n * 128 + i) (j / 256) (j % 256)
  t r e := st a n (r / 256) (r % 256) e
  co i d := Real.cos (ang (n * 128 + i) d)
  si i d := Real.sin (ang (n * 128 + i) d)

/-- The decay from row `b - 1` to a row `l` from `b` on. -/
def decR (h b l : ℕ) : ℝ := if b ≤ l then Real.exp (((l : ℝ) - (b : ℝ) + 1) * lg h) else 0

/-- The gradient of the state that the rows from `b` on pass back. -/
def carry (b h d e : ℕ) : ℝ := ∑ l : Fin 8320, decR h b l * (rot a.q l h d * dO a l h e)

/-- The same, the heads' rows stacked. -/
def wt (b r e : ℕ) : ℝ := carry a b (r / 256) (r % 256) e

/-! ## Sums over a chunk -/

/-- A sum over all rows of a function that is zero outside chunk `n`. -/
theorem sum_in {n : ℕ} (hn : n < 65) (f : ℕ → ℝ) :
    ∑ s : Fin 8320, (if n * 128 ≤ s.val ∧ s.val < n * 128 + 128 then f s.val else 0) = ∑ j : Fin 128, f (n * 128 + j.val) := by
  rw [Fin.sum_univ_eq_sum_range (fun s => if n * 128 ≤ s ∧ s < n * 128 + 128 then f s else 0) 8320,
    Fin.sum_univ_eq_sum_range (fun j => f (n * 128 + j)) 128, ← Finset.sum_filter]
  refine Finset.sum_bij' (fun s _ => s - n * 128) (fun j _ => n * 128 + j) ?_ ?_ ?_ ?_ ?_
  · intro s hs; simp only [Finset.mem_filter, Finset.mem_range] at hs ⊢; omega
  · intro s hs; simp only [Finset.mem_filter, Finset.mem_range] at hs ⊢; omega
  · intro s hs; simp only [Finset.mem_filter, Finset.mem_range] at hs ⊢; omega
  · intro s hs; simp only [Finset.mem_range] at hs ⊢; omega
  · intro s hs; simp only [Finset.mem_filter, Finset.mem_range] at hs
    rw [show n * 128 + (s - n * 128) = s by omega]

theorem sum_of_in {n : ℕ} (hn : n < 65) {g : Fin 128 → ℝ} (f : ℕ → ℝ) (h : ∀ j, g j = f (n * 128 + j.val)) :
    ∑ j, g j = ∑ s : Fin 8320, (if n * 128 ≤ s.val ∧ s.val < n * 128 + 128 then f s.val else 0) := by
  rw [sum_in hn, Finset.sum_congr rfl fun j _ => h j]

/-! ## The decay over a chunk's boundary -/

theorem dec_q (h n i s : ℕ) (hi : i < 128) :
    dec h (n * 128 + i) s = (if n * 128 ≤ s ∧ s < n * 128 + 128 then dm h i (s - n * 128) else 0) + cs h i * decS h n s := by
  unfold dec dm cs decS
  have e1 : (0 ≤ ((n * 128 + i : ℕ) : ℝ) - (s : ℝ)) ↔ s ≤ n * 128 + i := by rw [sub_nonneg, Nat.cast_le]
  have e2 : (0 ≤ 128 * (n : ℝ) - 1 - (s : ℝ)) ↔ s < n * 128 := by
    rw [sub_nonneg, le_sub_iff_add_le, show (s : ℝ) + 1 = ((s + 1 : ℕ) : ℝ) by push_cast; ring,
      show 128 * (n : ℝ) = ((n * 128 : ℕ) : ℝ) by push_cast; ring, Nat.cast_le, Nat.succ_le_iff]
  simp only [e1, e2]
  by_cases h1 : s < n * 128
  · rw [if_pos (by omega), if_neg (by omega), if_pos h1, ← Real.exp_add, zero_add]
    congr 1; push_cast; ring
  · rw [if_neg h1, mul_zero, add_zero]
    by_cases h2 : s < n * 128 + 128
    · have e3 : ((s - n * 128 : ℕ) : ℝ) = (s : ℝ) - (n : ℝ) * 128 := by
        rw [Nat.cast_sub (by omega)]; push_cast; ring
      have e4 : (0 ≤ (i : ℝ) - ((s - n * 128 : ℕ) : ℝ)) ↔ s ≤ n * 128 + i := by
        rw [sub_nonneg, Nat.cast_le]; omega
      rw [if_pos (show n * 128 ≤ s ∧ s < n * 128 + 128 from ⟨by omega, h2⟩)]
      simp only [e4]
      by_cases h3 : s ≤ n * 128 + i
      · rw [if_pos h3, if_pos h3, e3]; congr 1; push_cast; ring
      · rw [if_neg h3, if_neg h3]
    · rw [if_neg (by omega), if_neg (by omega)]

theorem dec_k (h n j l : ℕ) (hj : j < 128) :
    dec h l (n * 128 + j) = (if n * 128 ≤ l ∧ l < n * 128 + 128 then dmt h j (l - n * 128) else 0) + kdec h j * decR h (n * 128 + 128) l := by
  unfold dec dmt kdec decR
  have e1 : (0 ≤ (l : ℝ) - ((n * 128 + j : ℕ) : ℝ)) ↔ n * 128 + j ≤ l := by rw [sub_nonneg, Nat.cast_le]
  simp only [e1]
  by_cases h1 : n * 128 + 128 ≤ l
  · rw [if_pos (by omega), if_neg (by omega), if_pos h1, ← Real.exp_add, zero_add]
    congr 1; push_cast; ring
  · rw [if_neg h1, mul_zero, add_zero]
    by_cases h2 : n * 128 ≤ l
    · have e3 : ((l - n * 128 : ℕ) : ℝ) = (l : ℝ) - (n : ℝ) * 128 := by
        rw [Nat.cast_sub (by omega)]; push_cast; ring
      have e4 : ((j : ℝ) - ((l - n * 128 : ℕ) : ℝ) ≤ 0) ↔ n * 128 + j ≤ l := by
        rw [sub_nonpos, Nat.cast_le]; omega
      rw [if_pos (show n * 128 ≤ l ∧ l < n * 128 + 128 from ⟨h2, by omega⟩)]
      simp only [e4]
      by_cases h3 : n * 128 + j ≤ l
      · rw [if_pos h3, if_pos h3, e3]; congr 1; push_cast; ring
      · rw [if_neg h3, if_neg h3]
    · rw [if_neg (by omega), if_neg (by omega)]

theorem decR_step (h n l : ℕ) :
    decR h (n * 128) l = gam h * decR h (n * 128 + 128) l
      + (if n * 128 ≤ l ∧ l < n * 128 + 128 then cs h (l - n * 128) else 0) := by
  unfold decR gam cs
  by_cases h1 : n * 128 + 128 ≤ l
  · rw [if_pos (by omega), if_pos h1, if_neg (by omega), ← Real.exp_add, add_zero]
    congr 1; push_cast; ring
  · rw [if_neg h1, mul_zero, zero_add]
    by_cases h2 : n * 128 ≤ l
    · rw [if_pos h2, if_pos ⟨h2, by omega⟩, Nat.cast_sub h2]
    · rw [if_neg h2, if_neg (by omega)]

/-! ## The gradient of the mixed rows -/

variable {a}

theorem col_o {n h i e : ℕ} (he : e < 512) : col (h * 512) (tabs a n).o i e = out a (n * 128 + i) h e := by
  unfold col tabs
  dsimp only
  rw [show (h * 512 + e) / 512 = h by omega, show (h * 512 + e) % 512 = e by omega]

theorem col_q {n h i d : ℕ} (hd : d < 256) : col (h * 256) (tabs a n).q i d = rot a.q (n * 128 + i) h d := by
  unfold col tabs
  dsimp only
  rw [show (h * 256 + d) / 256 = h by omega, show (h * 256 + d) % 256 = d by omega]

theorem col_k {n h i d : ℕ} (hd : d < 256) : col (h * 256) (tabs a n).k i d = ks a (n * 128 + i) h d := by
  unfold col tabs
  dsimp only
  rw [show (h * 256 + d) / 256 = h by omega, show (h * 256 + d) % 256 = d by omega]

theorem row_t {n h d e : ℕ} (hd : d < 256) : row (h * 256) (tabs a n).t d e = st a n h d e := by
  unfold row tabs
  dsimp only
  rw [show (h * 256 + d) / 256 = h by omega, show (h * 256 + d) % 256 = d by omega]

theorem row_w {b h d e : ℕ} (hd : d < 256) : row (h * 256) (wt a b) d e = carry a b h d e := by
  unfold row wt
  rw [show (h * 256 + d) / 256 = h by omega, show (h * 256 + d) % 256 = d by omega]

theorem trs_eq {n h i : ℕ} : trs (col (h * 512) (tabs a n).o) i = rs a (n * 128 + i) h := by
  unfold trs tms rs ms
  have : ∀ x : Fin 512, col (h * 512) (tabs a n).o i x = out a (n * 128 + i) h x := fun x => col_o x.isLt
  simp only [this]

/-- The square of the inverse square root. -/
theorem rs_sq (l h : ℕ) : rs a l h * rs a l h = 1 / ms a l h := by
  have hp : 0 < ms a l h := by
    unfold ms eps
    have : 0 ≤ ∑ x : Fin 512, out a l h x * out a l h x := Finset.sum_nonneg fun _ _ => mul_self_nonneg _
    positivity
  unfold rs
  rw [← mul_inv, Real.mul_self_sqrt hp.le, one_div]

theorem hdO_eq {n h i e : ℕ} (he : e < 512) : hdO (tabs a n) h i e = dO a (n * 128 + i) h e := by
  unfold hdO tdO
  rw [trs_eq, col_o he]
  have hd : ∀ x, tdn (col (h * 512) (tabs a n).g) (col (h * 512) (tabs a n).y) i x = dn a (n * 128 + i) h x := fun x => by
    unfold tdn dn col tabs; dsimp only; ring
  have hs : (∑ x : Fin 512, tdn (col (h * 512) (tabs a n).g) (col (h * 512) (tabs a n).y) i x
        * (col (h * 512) (tabs a n).o i x * rs a (n * 128 + i) h))
      = (∑ x : Fin 512, out a (n * 128 + i) h x * dn a (n * 128 + i) h x) * rs a (n * 128 + i) h := by
    rw [Finset.sum_mul]
    refine Finset.sum_congr rfl fun x _ => ?_
    rw [hd, col_o x.isLt]; ring
  rw [hs, hd]
  unfold dO back
  have := rs_sq (a := a) (n * 128 + i) h
  generalize (∑ x : Fin 512, out a (n * 128 + i) h x * dn a (n * 128 + i) h x) = S
  rw [div_eq_mul_one_div (rs a (n * 128 + i) h) (ms a (n * 128 + i) h), ← this]
  ring

/-! ## The five gradients -/

theorem hdg_eq {n h i e : ℕ} (he : e < 512) : hdg (tabs a n) h i e = dg a (n * 128 + i) h e := by
  unfold hdg tdg
  rw [trs_eq, col_o he]
  unfold dg col tabs
  dsimp only
  ring

theorem tdq_eq {n h i d : ℕ} (hn : n < 65) (hi : i < 128) (hd : d < 256) :
    tdq h (hdO (tabs a n) h) (col (h * 512) (tabs a n).v) (col (h * 256) (tabs a n).k) (row (h * 256) (tabs a n).t) i d
      = dq a (n * 128 + i) h d := by
  have hv : ∀ s : ℕ, (∑ e : Fin 512, hdO (tabs a n) h i e * a.v s (h * 512 + e)) = ∑ e : Fin 512, dO a (n * 128 + i) h e * a.v s (h * 512 + e) :=
    fun s => Finset.sum_congr rfl fun e _ => by rw [hdO_eq e.isLt]
  unfold tdq
  have h1 : ∀ j : Fin 128, (∑ e : Fin 512, hdO (tabs a n) h i e * col (h * 512) (tabs a n).v j e) * dm h i j * col (h * 256) (tabs a n).k j d
      = (fun s => (∑ e : Fin 512, dO a (n * 128 + i) h e * a.v s (h * 512 + e)) * dm h i (s - n * 128) * ks a s h d) (n * 128 + j.val) := fun j => by
    dsimp only
    rw [col_k hd, ← hv, Nat.add_sub_cancel_left]
    rfl
  rw [sum_of_in hn (fun s => (∑ e : Fin 512, dO a (n * 128 + i) h e * a.v s (h * 512 + e)) * dm h i (s - n * 128) * ks a s h d) h1]
  have h2 : (∑ e : Fin 512, cs h i * hdO (tabs a n) h i e * row (h * 256) (tabs a n).t d e)
      = ∑ s : Fin 8320, (∑ e : Fin 512, dO a (n * 128 + i) h e * a.v s (h * 512 + e)) * (cs h i * decS h n s) * ks a s h d := by
    have : ∀ e : Fin 512, cs h i * hdO (tabs a n) h i e * row (h * 256) (tabs a n).t d e
        = ∑ s : Fin 8320, dO a (n * 128 + i) h e * a.v s (h * 512 + e) * (cs h i * decS h n s) * ks a s h d := fun e => by
      rw [row_t hd, hdO_eq e.isLt, st, Finset.mul_sum]
      exact Finset.sum_congr rfl fun s _ => by ring
    simp only [this]
    rw [Finset.sum_comm]
    refine Finset.sum_congr rfl fun s _ => ?_
    rw [Finset.sum_mul, Finset.sum_mul]
  rw [h2, ← Finset.sum_add_distrib, dq]
  refine Finset.sum_congr rfl fun s _ => ?_
  rw [ds, dec_q h n i s hi]
  split <;> ring

theorem tdk_eq {n h j d : ℕ} (hn : n < 65) (hj : j < 128) (hd : d < 256) :
    tdk h (hdO (tabs a n) h) (col (h * 512) (tabs a n).v) (col (h * 256) (tabs a n).q) (row (h * 256) (wt a (n * 128 + 128))) j d * (1 / 16)
      = dk a (n * 128 + j) h d := by
  unfold tdk dk
  congr 1
  have h1 : ∀ i : Fin 128, (∑ e : Fin 512, col (h * 512) (tabs a n).v j e * hdO (tabs a n) h i e) * dmt h j i * col (h * 256) (tabs a n).q i d
      = (fun l => (∑ e : Fin 512, dO a l h e * a.v (n * 128 + j) (h * 512 + e)) * dmt h j (l - n * 128) * rot a.q l h d) (n * 128 + i.val) := fun i => by
    dsimp only
    rw [col_q hd, Nat.add_sub_cancel_left]
    congr 2
    refine Finset.sum_congr rfl fun e _ => ?_
    rw [hdO_eq e.isLt, mul_comm]; rfl
  rw [sum_of_in hn (fun l => (∑ e : Fin 512, dO a l h e * a.v (n * 128 + j) (h * 512 + e)) * dmt h j (l - n * 128) * rot a.q l h d) h1]
  have h2 : (kdec h j * ∑ e : Fin 512, col (h * 512) (tabs a n).v j e * row (h * 256) (wt a (n * 128 + 128)) d e)
      = ∑ l : Fin 8320, (∑ e : Fin 512, dO a l h e * a.v (n * 128 + j) (h * 512 + e)) * (kdec h j * decR h (n * 128 + 128) l) * rot a.q l h d := by
    rw [Finset.mul_sum]
    have : ∀ e : Fin 512, kdec h j * (col (h * 512) (tabs a n).v j e * row (h * 256) (wt a (n * 128 + 128)) d e)
        = ∑ l : Fin 8320, dO a l h e * a.v (n * 128 + j) (h * 512 + e) * (kdec h j * decR h (n * 128 + 128) l) * rot a.q l h d := fun e => by
      rw [row_w hd, carry, Finset.mul_sum, Finset.mul_sum]
      refine Finset.sum_congr rfl fun l _ => ?_
      show kdec h j * (a.v (n * 128 + j) (h * 512 + e) * _) = _
      ring
    simp only [this]
    rw [Finset.sum_comm]
    refine Finset.sum_congr rfl fun s _ => ?_
    rw [Finset.sum_mul, Finset.sum_mul]
  rw [h2, ← Finset.sum_add_distrib]
  refine Finset.sum_congr rfl fun l _ => ?_
  rw [ds, dec_k h n j l hj]
  split <;> ring

theorem hdv_eq {n h j e : ℕ} (hn : n < 65) (hj : j < 128) (he : e < 512) :
    hdv (tabs a n) (wt a (n * 128 + 128)) h j e = dv a (n * 128 + j) h e := by
  unfold hdv tdv
  have h1 : ∀ i : Fin 128, (∑ d : Fin 256, col (h * 256) (tabs a n).k j d * col (h * 256) (tabs a n).q i d) * dmt h j i * hdO (tabs a n) h i e
      = (fun l => (∑ d : Fin 256, rot a.q l h d * ks a (n * 128 + j) h d) * dmt h j (l - n * 128) * dO a l h e) (n * 128 + i.val) := fun i => by
    dsimp only
    rw [hdO_eq he, Nat.add_sub_cancel_left]
    congr 2
    refine Finset.sum_congr rfl fun d _ => ?_
    rw [col_q d.isLt, col_k d.isLt, mul_comm]
  rw [sum_of_in hn (fun l => (∑ d : Fin 256, rot a.q l h d * ks a (n * 128 + j) h d) * dmt h j (l - n * 128) * dO a l h e) h1]
  have h2 : (∑ d : Fin 256, col (h * 256) (tabs a n).k j d * kdec h j * row (h * 256) (wt a (n * 128 + 128)) d e)
      = ∑ l : Fin 8320, (∑ d : Fin 256, rot a.q l h d * ks a (n * 128 + j) h d) * (kdec h j * decR h (n * 128 + 128) l) * dO a l h e := by
    have : ∀ d : Fin 256, col (h * 256) (tabs a n).k j d * kdec h j * row (h * 256) (wt a (n * 128 + 128)) d e
        = ∑ l : Fin 8320, rot a.q l h d * ks a (n * 128 + j) h d * (kdec h j * decR h (n * 128 + 128) l) * dO a l h e := fun d => by
      rw [row_w d.isLt, col_k d.isLt, carry, Finset.mul_sum]
      exact Finset.sum_congr rfl fun l _ => by ring
    simp only [this]
    rw [Finset.sum_comm]
    refine Finset.sum_congr rfl fun s _ => ?_
    rw [Finset.sum_mul, Finset.sum_mul]
  rw [h2, ← Finset.sum_add_distrib, dv]
  refine Finset.sum_congr rfl fun l _ => ?_
  rw [sc, dec_k h n j l hj]
  split <;> ring

theorem hD_eq {n h d e : ℕ} (hn : n < 65) (hd : d < 256) (he : e < 512) :
    hD (tabs a n) (wt a (n * 128 + 128)) h d e = carry a (n * 128) h d e := by
  unfold hD tD
  have h1 : ∀ i : Fin 128, col (h * 256) (tabs a n).q i d * (cs h i * hdO (tabs a n) h i e)
      = (fun l => cs h (l - n * 128) * (rot a.q l h d * dO a l h e)) (n * 128 + i.val) := fun i => by
    dsimp only
    rw [hdO_eq he, col_q hd, Nat.add_sub_cancel_left]; ring
  rw [sum_of_in hn (fun l => cs h (l - n * 128) * (rot a.q l h d * dO a l h e)) h1, row_w hd, carry, carry, Finset.mul_sum, ← Finset.sum_add_distrib]
  refine Finset.sum_congr rfl fun l _ => ?_
  rw [decR_step h n l]
  split <;> ring

/-! ## The blocks -/

theorem tun_eq {n i d : ℕ} {h : ℕ} {x : ℕ → ℕ → ℝ} {z : ℕ → ℕ → ℕ → ℝ} (hx : ∀ d < 256, x i d = z (n * 128 + i) h d) (hd : d < 256) :
    tun (tabs a n).co (tabs a n).si x i d = unrot z (n * 128 + i) h d := by
  unfold tun unrot tunLo tunHi unLo unHi
  split
  · rw [hx d hd, hx (128 + d) (by omega)]; rfl
  · rw [hx (128 + (d - 128)) (by omega), hx (d - 128) (by omega)]; rfl

/-- The first output's block is the first result's rows. -/
theorem b9_eq {n i j : ℕ} (hn : n < 65) (hi : i < 128) : b9 (tabs a n) (wt a (n * 128 + 128)) i j = r9 a (n * 128 + i) j := by
  unfold b9 r9 hdq hdk
  split
  · exact tun_eq (fun d hd => tdq_eq hn hi hd) (Nat.mod_lt _ (by norm_num))
  · exact tun_eq (fun d hd => tdk_eq hn hi hd) (Nat.mod_lt _ (by norm_num))

/-- The second output's block is the second result's rows. -/
theorem b10_eq {n i j : ℕ} (hn : n < 65) (hi : i < 128) : b10 (tabs a n) (wt a (n * 128 + 128)) i j = r10 a (n * 128 + i) j := by
  unfold b10 r10
  split
  · exact hdv_eq hn hi (Nat.mod_lt _ (by norm_num))
  · exact hdg_eq (Nat.mod_lt _ (by norm_num))

/-- The scratch after chunk `n` is what the rows from chunk `n` on pass back. -/
theorem bS_eq {n r e : ℕ} (hn : n < 65) (he : e < 512) : bS (tabs a n) (wt a (n * 128 + 128)) r e = wt a (n * 128) r e := by
  unfold bS wt
  exact hD_eq hn (Nat.mod_lt _ (by norm_num)) he

/-- After the last chunk there is nothing to pass back. -/
theorem wt_last (r e : ℕ) : wt a (64 * 128 + 128) r e = 0 := by
  unfold wt carry decR
  refine Finset.sum_eq_zero fun l _ => ?_
  rw [if_neg (by have := l.isLt; omega), zero_mul]

end Cert.Ret
-- ==== Proof.Final.lean ====
/-
  The run of the sweep: each point reads the tables of its chunk, the scratch carries what the later rows pass back, and
  the two output arrays are the two results.
-/
module

public import proofs.«01_k».proof.Proof.Sweep
public import proofs.«01_k».proof.Proof.Body
public import proofs.«01_k».proof.Proof.Math
public import proofs.«01_k».proof.Proof.Gen.KernelIdeal.Value

@[expose] public section

set_option maxRecDepth 16384

noncomputable section

namespace Cert.KernelIdeal.Final

open Cert.KernelIdeal Cert.KernelIdeal.Gen Idealize.ShloMosaic Idealize.ShloMosaic.TcCoe Idealize.SL.Sem StableHlo
open Cert.Ret Cert.KernelIdeal.Block Cert.KernelIdeal.Body Cert.KernelIdeal.Sweep Cert.KernelIdeal.Prefix

variable {m : (ℓ : Loc nD τ sig) → Buf (Elt Ideal) ℓ} {c : Dev nD} {a : Arg}

/-- The blocks that a point reads hold the tables of its chunk. -/
theorem holds (R : Reads m c a) (t : Fin cfg0.N) :
    Holds (tabs a (64 - t.val)) (iblk m c 0 t) (iblk m c 1 t) (iblk m c 2 t) (iblk m c 3 t) (iblk m c 4 t) (iblk m c 5 t) (iblk m c 6 t)
      (iblk m c 7 t) (iblk m c 8 t) where
  y i j := (iblk0 t i j).trans (arg4_val R _ _)
  v i j := (iblk1 t i j).trans (v0_v R _ _)
  g i j := (iblk2 t i j).trans (v0_g R _ _)
  o i j := (iblk3 t i j).trans (v125_val R _ _)
  q i j := (iblk4 t i j).trans (v127_val R _ _)
  k i j := (iblk5 t i j).trans (v129_val R _ _)
  t u i j := (iblk6 t u i j).trans (v131_val R _ _ _)
  co i j := (iblk7 t i j).trans (v13_val _ _)
  si i j := (iblk8 t i j).trans (v14_val _ _)

/-- Before the first point the scratch counts as zero, and so do the rows after the last chunk. -/
theorem wt_zero {n : ℕ} (hn : n = 0) : (fun _ _ => 0 : ℕ → ℕ → ℝ) = wt a ((64 - n) * 128 + 128) := by
  subst hn; funext r e; exact (wt_last r e).symm

/-- The scratch after a point holds what the rows from its chunk on pass back. -/
theorem scratch (R : Reads m c a) : ∀ (n : ℕ) (hn : n < cfg0.N) (r : Fin 1024) (e : Fin 512),
    ((outsAt0 m c n hn).2.2 (ix2 r e) : EReal) = ((wt a ((64 - n) * 128) r.val e.val : ℝ) : EReal) := by
  intro n
  induction n with
  | zero =>
    intro hn r e
    rw [outsAt0_A m c ⟨0, hn⟩ rfl]
    dsimp only
    rw [sout0_A_0_val (T := tabs a (64 - 0)) _ _ _ _ _ _ _ _ _ _ _ _ _ _ _ _ _ _ _ _ _ _ _ _ _ _ _ _ _ _ _ _ _ _ _ _ (holds R ⟨0, hn⟩), wt_zero (a := a) (n := 0) rfl]
    exact congrArg _ (bS_eq (n := 64 - 0) (by omega) e.isLt)
  | succ n ih =>
    intro hn r e
    have h65 : n + 1 < 65 := lt_65 ⟨n + 1, hn⟩
    rw [outsAt0_B m c ⟨n + 1, hn⟩ (by show ¬(n + 1) % 65 = 0; omega)]
    dsimp only
    rw [sout0_B_0_val (T := tabs a (64 - (n + 1))) (w := wt a ((64 - (n + 1)) * 128 + 128)) _ _ _ _ _ _ _ _ _ _ _ _ _ _ _ _ _ _ _ _ _ _ _ _ _ _ _ _ _ _ _ _ _ _ _ _ _ (holds R ⟨n + 1, hn⟩)
      (fun i j => by rw [show (64 - (n + 1)) * 128 + 128 = (64 - n) * 128 by omega]; exact ih _ i j)]
    exact congrArg _ (bS_eq (by omega) e.isLt)

/-- Output 0 of a point holds the rows of its chunk. -/
theorem out9 (R : Reads m c a) (t : Fin cfg0.N) (i : Fin 128) (j : Fin 2048) :
    ((outsAt0 m c t.val t.isLt).1 (ix2 i j) : EReal) = ((r9 a ((64 - t.val) * 128 + i.val) j.val : ℝ) : EReal) := by
  have h65 := lt_65 t
  by_cases h0 : t.val % 65 = 0
  · rw [outsAt0_A m c t h0]
    dsimp only
    rw [out0_A_9_val (T := tabs a (64 - t.val)) _ _ _ _ _ _ _ _ _ _ _ _ _ _ _ _ _ _ _ _ _ _ _ _ _ _ _ _ _ _ _ _ _ _ _ _ (holds R t), wt_zero (a := a) (n := t.val) (by omega)]
    exact congrArg _ (b9_eq (by omega) i.isLt)
  · rw [outsAt0_B m c t h0]
    dsimp only
    rw [out0_B_9_val (T := tabs a (64 - t.val)) (w := wt a ((64 - t.val) * 128 + 128)) _ _ _ _ _ _ _ _ _ _ _ _ _ _ _ _ _ _ _ _ _ _ _ _ _ _ _ _ _ _ _ _ _ _ _ _ _ (holds R t)
      (fun i j => by rw [show (64 - t.val) * 128 + 128 = (64 - (t.val - 1)) * 128 by omega]; exact scratch R _ _ i j)]
    exact congrArg _ (b9_eq (by omega) i.isLt)

/-- The array of output 0 after the run. -/
theorem arr9 (R : Reads m c a) : (dats m 0 c).arrAt 9 cfg0.N = (fun x => ((r9 a (x 0).val (x 1).val : ℝ) : EReal) : S8320x2048.Idx → Elt Ideal .bf16) := by
  refine (dats m 0 c).arrAt_eq_of_covers 9 _ (by decide +kernel) fun t hf y => ?_
  obtain ⟨i, j, rfl⟩ : ∃ (i : Fin 128) (j : Fin 2048), y = ix2 i j := ⟨_, _, eq_ix2 y⟩
  rw [after0_9]
  refine (out9 R t i j).trans ?_
  blk_simp [idx t]

/-- Output 1 of a point holds the rows of its chunk. -/
theorem out10 (R : Reads m c a) (t : Fin cfg0.N) (i : Fin 128) (j : Fin 4096) :
    ((outsAt0 m c t.val t.isLt).2.1 (ix2 i j) : EReal) = ((r10 a ((64 - t.val) * 128 + i.val) j.val : ℝ) : EReal) := by
  have h65 := lt_65 t
  by_cases h0 : t.val % 65 = 0
  · rw [outsAt0_A m c t h0]
    dsimp only
    rw [out0_A_10_val (T := tabs a (64 - t.val)) _ _ _ _ _ _ _ _ _ _ _ _ _ _ _ _ _ _ _ _ _ _ _ _ _ _ _ _ _ _ _ _ _ _ _ _ (holds R t), wt_zero (a := a) (n := t.val) (by omega)]
    exact congrArg _ (b10_eq (by omega) i.isLt)
  · rw [outsAt0_B m c t h0]
    dsimp only
    rw [out0_B_10_val (T := tabs a (64 - t.val)) (w := wt a ((64 - t.val) * 128 + 128)) _ _ _ _ _ _ _ _ _ _ _ _ _ _ _ _ _ _ _ _ _ _ _ _ _ _ _ _ _ _ _ _ _ _ _ _ _ (holds R t)
      (fun i j => by rw [show (64 - t.val) * 128 + 128 = (64 - (t.val - 1)) * 128 by omega]; exact scratch R _ _ i j)]
    exact congrArg _ (b10_eq (by omega) i.isLt)

/-- The array of output 1 after the run. -/
theorem arr10 (R : Reads m c a) : (dats m 0 c).arrAt 10 cfg0.N = (fun x => ((r10 a (x 0).val (x 1).val : ℝ) : EReal) : S8320x4096.Idx → Elt Ideal .bf16) := by
  refine (dats m 0 c).arrAt_eq_of_covers 10 _ (by decide +kernel) fun t hf y => ?_
  obtain ⟨i, j, rfl⟩ : ∃ (i : Fin 128) (j : Fin 4096), y = ix2 i j := ⟨_, _, eq_ix2 y⟩
  rw [after0_10]
  refine (out10 R t i j).trans ?_
  blk_simp [idx t]

end Cert.KernelIdeal.Final
-- ==== Proof.Product.lean ====
/-
  Sums of products of extended reals, and their regrouping into blocks of consecutive terms. Addition of the extended
  reals is commutative and associative, so nothing is assumed of the terms.
-/
module

public import proofs.«01_k».proof.Proof.Sweep

@[expose] public section

namespace Cert.Product

open Idealize.ShloMosaic

/-- The sum of the products of two lists of extended reals. -/
noncomputable def dot {n : ℕ} (x y : Fin n → EReal) : EReal := ∑ k, x k * y k

theorem dot_congr {n : ℕ} {x x' y y' : Fin n → EReal} (hx : ∀ k, x k = x' k) (hy : ∀ k, y k = y' k) : dot x y = dot x' y' := by
  rw [funext hx, funext hy]

theorem dot_comm {n : ℕ} (x y : Fin n → EReal) : ∑ k, y k * x k = dot x y := Finset.sum_congr rfl fun _ _ => mul_comm _ _

/-- The sum over `S` blocks of `n` terms each is the sum over all terms. -/
theorem dot_blocks {S n L : ℕ} (hL : L = S * n) {x y : Fin L → EReal} {X Y : Fin S → Fin n → EReal}
    (hX : ∀ (s : Fin S) (k : Fin n) (h : s.val * n + k.val < L), X s k = x ⟨s.val * n + k.val, h⟩)
    (hY : ∀ (s : Fin S) (k : Fin n) (h : s.val * n + k.val < L), Y s k = y ⟨s.val * n + k.val, h⟩) :
    ∑ s, dot (X s) (Y s) = dot x y :=
  Fin.sum_mul_add_congr (fun s k h => by rw [hX s k h, hY s k h]) hL

/-- A quantity that is set at the first of every `J` points and added to at the others: after the last of `J` points it is
    what the first one started from and the sum over all terms, where the points' terms are consecutive blocks of them. -/
theorem acc_dot {N n L : ℕ} {ι : Type*} (f : (p : ℕ) → p < N → ι → EReal) (J : ℕ) [NeZero J] (r : Fin N → ι → EReal)
    (X Y : Fin N → ι → Fin n → EReal) (h0 : ∀ t : Fin N, t.val % J = 0 → ∀ z, f t.val t.isLt z = r t z + dot (X t z) (Y t z))
    (hs : ∀ t : Fin N, ¬t.val % J = 0 → ∀ z,
      f t.val t.isLt z = f (t.val - 1) (Nat.lt_of_le_of_lt (Nat.sub_le _ _) t.isLt) z + dot (X t z) (Y t z))
    (t : Fin N) (ht : t.val % J = J - 1) (z : ι) {R : EReal} {x y : Fin L → EReal} (hL : L = J * n)
    (hR : ∀ p : Fin N, p.val = J * (t.val / J) → r p z = R)
    (hX : ∀ (p : Fin N) (s : Fin J) (k : Fin n) (h : s.val * n + k.val < L), p.val = J * (t.val / J) + s.val →
      X p z k = x ⟨s.val * n + k.val, h⟩)
    (hY : ∀ (p : Fin N) (s : Fin J) (k : Fin n) (h : s.val * n + k.val < L), p.val = J * (t.val / J) + s.val →
      Y p z k = y ⟨s.val * n + k.val, h⟩) :
    f t.val t.isLt z = R + dot x y := by
  rw [Pipeline.eq_sum_fin_of_reset_step_apply_of_flush f J (fun _ => (0 : EReal))
    (fun t z => (if t.val % J = 0 then r t z else 0) + dot (X t z) (Y t z))
    (fun t h z => by rw [h0 t h z, if_pos h, zero_add]) (fun t h z => by rw [hs t h z, if_neg h, zero_add]) t ht,
    zero_add, Finset.sum_add_distrib]
  refine congrArg₂ (· + ·) ?_ (dot_blocks hL (fun s k h => hX _ s k h rfl) fun s k h => hY _ s k h rfl)
  rw [Finset.sum_eq_single (0 : Fin J)]
  · rw [if_pos (by show (J * (t.val / J) + 0) % J = 0; rw [add_zero, Nat.mul_mod_right])]
    exact hR _ rfl
  · intro s _ h
    refine if_neg fun e => h (Fin.ext ?_)
    have e : (J * (t.val / J) + s.val) % J = 0 := e
    rw [Nat.mul_add_mod, Nat.mod_eq_of_lt s.isLt] at e
    exact e
  · intro h
    exact absurd (Finset.mem_univ _) h

end Cert.Product
-- ==== Proof.Columns.lean ====
/-
  The order in which the kernel lays the input projections' columns out: z, the retention's values and gate, the
  convolution's columns, queries and keys, the two branch gates, the step sizes, and zeros up to the last block.
-/
module

public import proofs.«01_k».proof.Proof.Product

@[expose] public section

namespace Cert.Columns

/-- The weights' column that stands at column `r` of the kernel's order. -/
def src (r : ℕ) : ℕ :=
  if r < 2048 then r else if r < 6144 then r + 5152 else if r < 9216 then r - 4096 else if r < 11264 then r - 4064
  else if r < 13312 then r + 32 else r - 8192

theorem src_lt {r : ℕ} (h : r < 13344) : src r < 13344 := by
  unfold src
  split_ifs <;> omega

/-- A row of the weights in the kernel's order. -/
noncomputable def lay (w : Fin 13344 → EReal) (r : ℕ) : EReal := if h : r < 13344 then w ⟨src r, src_lt h⟩ else 0

theorem lay_of (w : Fin 13344 → EReal) {r : ℕ} (h : r < 13344) (q : Fin 13344) (hq : q.val = src r) : w q = lay w r := by
  unfold lay
  rw [dif_pos h]
  exact congrArg w (Fin.ext hq)

theorem lay_zero (w : Fin 13344 → EReal) {r : ℕ} (h : ¬ r < 13344) : lay w r = 0 := dif_neg h

/-- A row times a column of zeros. -/
theorem dot_zero {n : ℕ} {x y : Fin n → EReal} (h : ∀ k, y k = 0) : Product.dot x y = 0 :=
  Finset.sum_eq_zero fun k _ => (congrArg (x k * ·) (h k)).trans (mul_zero _)

/-- A value by cases is `c` where both cases are. -/
theorem cases {α : Sort*} {p : Prop} [Decidable p] {a : p → α} {b : ¬ p → α} {c : α} (ha : ∀ h, a h = c) (hb : ∀ h, b h = c) : dite p a b = c := by
  by_cases h : p
  · exact (dif_pos h).trans (ha h)
  · exact (dif_neg h).trans (hb h)

/-- Terms that are zero may be left out at the end of a sum. -/
theorem sum_cut {n N : ℕ} (h : n ≤ N) (g : ℕ → EReal) (hz : ∀ k, n ≤ k → k < N → g k = 0) : ∑ k : Fin N, g k.val = ∑ k : Fin n, g k.val := by
  rw [Fin.sum_univ_eq_sum_range, Fin.sum_univ_eq_sum_range]
  refine (Finset.sum_subset (Finset.range_mono h) fun k hk hn => ?_).symm
  exact hz k (by simpa using hn) (by simpa using hk)

/-- The kernel's order only permutes the weights' columns. -/
theorem sum_src (f : Fin 13344 → EReal) : ∑ r : Fin 13344, f ⟨src r.val, src_lt r.isLt⟩ = ∑ q, f q := by
  refine Fintype.sum_bijective (fun r : Fin 13344 => (⟨src r.val, src_lt r.isLt⟩ : Fin 13344)) (Finite.injective_iff_bijective.mp fun a b h => ?_) _ _ fun _ => rfl
  have hs : src a.val = src b.val := congrArg Fin.val h
  have ha := a.isLt
  have hb := b.isLt
  unfold src at hs
  apply Fin.ext
  split_ifs at hs <;> omega

/-- The gradients' pieces laid side by side in the kernel's order, zeros behind them. -/
noncomputable def cat (a0 : Fin 2048 → EReal) (a1 : Fin 4096 → EReal) (a2 : Fin 3072 → EReal) (a3 a4 : Fin 2048 → EReal) (a5 : Fin 128 → EReal) (r : ℕ) : EReal :=
  if h : r < 2048 then a0 ⟨r, h⟩ else if h : r - 2048 < 4096 then a1 ⟨r - 2048, h⟩ else if h : r - 6144 < 3072 then a2 ⟨r - 6144, h⟩
  else if h : r - 9216 < 2048 then a3 ⟨r - 9216, h⟩ else if h : r - 11264 < 2048 then a4 ⟨r - 11264, h⟩
  else if h : r - 13312 < 128 then a5 ⟨r - 13312, h⟩ else 0

section
variable (a0 : Fin 2048 → EReal) (a1 : Fin 4096 → EReal) (a2 : Fin 3072 → EReal) (a3 a4 : Fin 2048 → EReal) (a5 : Fin 128 → EReal) (r : ℕ)

theorem cat0 (k : Fin 2048) (h : r = k.val) : cat a0 a1 a2 a3 a4 a5 r = a0 k := by
  subst h
  exact dif_pos k.isLt

theorem cat1 (k : Fin 4096) (h : r = 2048 + k.val) : cat a0 a1 a2 a3 a4 a5 r = a1 k := by
  unfold cat
  rw [dif_neg (by omega), dif_pos (show r - 2048 < 4096 by omega)]
  exact congrArg a1 (Fin.ext (by dsimp only; omega))

theorem cat2 (k : Fin 3072) (h : r = 6144 + k.val) : cat a0 a1 a2 a3 a4 a5 r = a2 k := by
  unfold cat
  rw [dif_neg (by omega), dif_neg (by omega), dif_pos (show r - 6144 < 3072 by omega)]
  exact congrArg a2 (Fin.ext (by dsimp only; omega))

theorem cat3 (k : Fin 2048) (h : r = 9216 + k.val) : cat a0 a1 a2 a3 a4 a5 r = a3 k := by
  unfold cat
  rw [dif_neg (by omega), dif_neg (by omega), dif_neg (by omega), dif_pos (show r - 9216 < 2048 by omega)]
  exact congrArg a3 (Fin.ext (by dsimp only; omega))

theorem cat4 (k : Fin 2048) (h : r = 11264 + k.val) : cat a0 a1 a2 a3 a4 a5 r = a4 k := by
  unfold cat
  rw [dif_neg (by omega), dif_neg (by omega), dif_neg (by omega), dif_neg (by omega), dif_pos (show r - 11264 < 2048 by omega)]
  exact congrArg a4 (Fin.ext (by dsimp only; omega))

theorem cat5 (k : Fin 128) (h : r = 13312 + k.val) : cat a0 a1 a2 a3 a4 a5 r = a5 k := by
  unfold cat
  rw [dif_neg (by omega), dif_neg (by omega), dif_neg (by omega), dif_neg (by omega), dif_neg (by omega), dif_pos (show r - 13312 < 128 by omega)]
  exact congrArg a5 (Fin.ext (by dsimp only; omega))

/-- The same pieces in the weights' order: z, the convolution's columns, the step sizes, queries and keys, values and gate,
the branch gates. -/
noncomputable def side (q : ℕ) : EReal :=
  if h : q < 2048 then a0 ⟨q, h⟩ else if h : q - 2048 < 3072 then a2 ⟨q - 2048, h⟩
  else if h : q - 2048 - 3072 < 32 then a5 ⟨q - 2048 - 3072, by omega⟩ else if h : q - 2048 - 3072 - 32 < 2048 then a3 ⟨q - 2048 - 3072 - 32, h⟩
  else if h : q - 2048 - 3072 - 32 - 2048 < 4096 then a1 ⟨q - 2048 - 3072 - 32 - 2048, h⟩
  else if h : q - 2048 - 3072 - 32 - 2048 - 4096 < 2048 then a4 ⟨q - 2048 - 3072 - 32 - 2048 - 4096, h⟩ else 0

theorem side_src (h : r < 13344) : side a0 a1 a2 a3 a4 a5 (src r) = cat a0 a1 a2 a3 a4 a5 r := by
  rcases (by omega : r < 2048 ∨ (2048 ≤ r ∧ r < 6144) ∨ (6144 ≤ r ∧ r < 9216) ∨ (9216 ≤ r ∧ r < 11264) ∨ (11264 ≤ r ∧ r < 13312) ∨ 13312 ≤ r)
    with hc | hc | hc | hc | hc | hc
  · have hs : src r = r := by unfold src; split_ifs <;> omega
    rw [hs, cat0 _ _ _ _ _ _ r ⟨r, hc⟩ rfl]
    exact dif_pos hc
  · have hs : src r = r + 5152 := by unfold src; split_ifs <;> omega
    rw [hs, cat1 _ _ _ _ _ _ r ⟨r - 2048, by omega⟩ (by dsimp only; omega)]
    unfold side
    rw [dif_neg (by omega), dif_neg (by omega), dif_neg (by omega), dif_neg (by omega), dif_pos (by omega)]
    exact congrArg a1 (Fin.ext (by dsimp only; omega))
  · have hs : src r = r - 4096 := by unfold src; split_ifs <;> omega
    rw [hs, cat2 _ _ _ _ _ _ r ⟨r - 6144, by omega⟩ (by dsimp only; omega)]
    unfold side
    rw [dif_neg (by omega), dif_pos (by omega)]
    exact congrArg a2 (Fin.ext (by dsimp only; omega))
  · have hs : src r = r - 4064 := by unfold src; split_ifs <;> omega
    rw [hs, cat3 _ _ _ _ _ _ r ⟨r - 9216, by omega⟩ (by dsimp only; omega)]
    unfold side
    rw [dif_neg (by omega), dif_neg (by omega), dif_neg (by omega), dif_pos (by omega)]
    exact congrArg a3 (Fin.ext (by dsimp only; omega))
  · have hs : src r = r + 32 := by unfold src; split_ifs <;> omega
    rw [hs, cat4 _ _ _ _ _ _ r ⟨r - 11264, by omega⟩ (by dsimp only; omega)]
    unfold side
    rw [dif_neg (by omega), dif_neg (by omega), dif_neg (by omega), dif_neg (by omega), dif_neg (by omega), dif_pos (by omega)]
    exact congrArg a4 (Fin.ext (by dsimp only; omega))
  · have hs : src r = r - 8192 := by unfold src; split_ifs <;> omega
    rw [hs, cat5 _ _ _ _ _ _ r ⟨r - 13312, by omega⟩ (by dsimp only; omega)]
    unfold side
    rw [dif_neg (by omega), dif_neg (by omega), dif_pos (by omega)]
    exact congrArg a5 (Fin.ext (by dsimp only; omega))

/-- A product over the kernel's padded order is the product over the weights' order. -/
theorem dot_order (w : Fin 13344 → EReal) :
    Product.dot (fun l : Fin 13824 => cat a0 a1 a2 a3 a4 a5 l.val) (fun l => lay w l.val) = ∑ q : Fin 13344, side a0 a1 a2 a3 a4 a5 q.val * w q := by
  refine (sum_cut (n := 13344) (N := 13824) (by omega) (fun l => cat a0 a1 a2 a3 a4 a5 l * lay w l) fun k h _ => ?_).trans ?_
  · exact (congrArg (_ * ·) (lay_zero w (by omega))).trans (mul_zero _)
  · refine .trans (Finset.sum_congr rfl fun r _ => ?_) (sum_src fun q => side a0 a1 a2 a3 a4 a5 q.val * w q)
    exact congrArg₂ (· * ·) (side_src _ _ _ _ _ _ _ r.isLt).symm (lay_of w r.isLt _ rfl).symm

end

end Cert.Columns
-- ==== Proof.DU1.lean ====
/-
  The gradient of the projections' input: the pieces' gradients side by side times the weights' transpose, summed block by
  block in the kernel's order of the columns.
-/
module

public import proofs.«01_k».proof.Proof.Columns
public import proofs.«01_k».proof.Proof.Gen.KernelDU1Ideal.Value
public import proofs.«01_k».proof.Proof.Gen.ReferenceDU1Ideal.Run
public import proofs.«01_k».proof.Defs
public import Idealize.ShloMosaic.Lib.StableHlo.ReadAt

@[expose] public section

set_option maxRecDepth 16384

noncomputable section

namespace Cert.DU1

open Cert.KernelDU1Ideal Cert.KernelDU1Ideal.Gen Idealize.ShloMosaic Idealize.ShloMosaic.TcCoe Idealize.SL.Sem StableHlo
open Cert.Ret Cert.Product Cert.Columns

variable {m : (ℓ : Loc nD τ sig) → Buf (Elt Ideal) ℓ} {c : Dev nD}

theorem idx : ∀ t : Fin cfg0.N, t.val < 135 ∧ win0_0.index t = ![t.val / 27, min 3 (t.val % 27 - 0)]
    ∧ win0_1.index t = ![t.val / 27, min 7 (t.val % 27 - 4)]
    ∧ win0_2.index t = ![t.val / 27, min 5 (t.val % 27 - 12)]
    ∧ win0_3.index t = ![t.val / 27, min 3 (t.val % 27 - 18)]
    ∧ win0_4.index t = ![t.val / 27, min 3 (t.val % 27 - 22)]
    ∧ win0_5.index t = ![t.val / 27, 0]
    ∧ win0_6.index t = ![0, 0 + min 3 (t.val % 27 - 0)]
    ∧ win0_7.index t = ![0, 4 + min 7 (t.val % 27 - 4)]
    ∧ win0_8.index t = ![0, 12 + min 5 (t.val % 27 - 12)]
    ∧ win0_9.index t = ![0, 18 + min 3 (t.val % 27 - 18)]
    ∧ win0_10.index t = ![0, 22 + min 3 (t.val % 27 - 22)]
    ∧ win0_11.index t = ![0, 104]
    ∧ win0_12.index t = ![t.val / 27, 0] := by decide +kernel

/-- The weights, as the blocks are read from them. -/
theorem weight (l : Fin 1024) (r : Fin 13440) : V m c main_v11 (ix2 l r) = lay (fun q => m (c.tc.loc main_arg6) (ix2 l q)) r.val := by
  unfold Gen.V
  after_reads_at
  refine cases (fun h => ?_) fun h => cases (fun h => ?_) fun h => cases (fun h => ?_) fun h => cases (fun h => ?_) fun h => cases (fun h => ?_) fun h =>
    cases (fun h => ?_) fun h => cases (fun h => ?_) fun h => cases (fun h => ?_) fun h => cases (fun h => ?_) fun h => ?_
  all_goals after_reads_at
  on_goal 10 => exact (lay_zero _ (by omega)).symm
  all_goals refine lay_of (fun q => m (c.tc.loc main_arg6) (ix2 l q)) (by omega) ⟨_, _⟩ ?_
  all_goals
    unfold src
    dsimp only
    split_ifs <;> omega

theorem iblk0 (t : Fin cfg0.N) (i : Fin 1664) (k : Fin 512) (p : Fin 8320) (q : Fin 2048)
    (hp : p.val = t.val / 27 * 1664 + i.val) (hq : q.val = min 3 (t.val % 27 - 0) * 512 + k.val) :
    iblk m c 0 t (ix2 i k) = m (c.tc.loc main_arg0) (ix2 p q) := by
  have := (idx t).1
  have h0 : t.val / 27 * 1664 + i.val < 8320 := by omega
  have h1 : min 3 (t.val % 27 - 0) * 512 + k.val < 2048 := by omega
  obtain rfl : p = ⟨_, h0⟩ := Fin.ext hp
  obtain rfl : q = ⟨_, h1⟩ := Fin.ext hq
  blk_ext [iblk, idx t]

theorem iblk1 (t : Fin cfg0.N) (i : Fin 1664) (k : Fin 512) (p : Fin 8320) (q : Fin 4096)
    (hp : p.val = t.val / 27 * 1664 + i.val) (hq : q.val = min 7 (t.val % 27 - 4) * 512 + k.val) :
    iblk m c 1 t (ix2 i k) = m (c.tc.loc main_arg1) (ix2 p q) := by
  have := (idx t).1
  have h0 : t.val / 27 * 1664 + i.val < 8320 := by omega
  have h1 : min 7 (t.val % 27 - 4) * 512 + k.val < 4096 := by omega
  obtain rfl : p = ⟨_, h0⟩ := Fin.ext hp
  obtain rfl : q = ⟨_, h1⟩ := Fin.ext hq
  blk_ext [iblk, idx t]

theorem iblk2 (t : Fin cfg0.N) (i : Fin 1664) (k : Fin 512) (p : Fin 8320) (q : Fin 3072)
    (hp : p.val = t.val / 27 * 1664 + i.val) (hq : q.val = min 5 (t.val % 27 - 12) * 512 + k.val) :
    iblk m c 2 t (ix2 i k) = m (c.tc.loc main_arg2) (ix2 p q) := by
  have := (idx t).1
  have h0 : t.val / 27 * 1664 + i.val < 8320 := by omega
  have h1 : min 5 (t.val % 27 - 12) * 512 + k.val < 3072 := by omega
  obtain rfl : p = ⟨_, h0⟩ := Fin.ext hp
  obtain rfl : q = ⟨_, h1⟩ := Fin.ext hq
  blk_ext [iblk, idx t]

theorem iblk3 (t : Fin cfg0.N) (i : Fin 1664) (k : Fin 512) (p : Fin 8320) (q : Fin 2048)
    (hp : p.val = t.val / 27 * 1664 + i.val) (hq : q.val = min 3 (t.val % 27 - 18) * 512 + k.val) :
    iblk m c 3 t (ix2 i k) = m (c.tc.loc main_arg3) (ix2 p q) := by
  have := (idx t).1
  have h0 : t.val / 27 * 1664 + i.val < 8320 := by omega
  have h1 : min 3 (t.val % 27 - 18) * 512 + k.val < 2048 := by omega
  obtain rfl : p = ⟨_, h0⟩ := Fin.ext hp
  obtain rfl : q = ⟨_, h1⟩ := Fin.ext hq
  blk_ext [iblk, idx t]

theorem iblk4 (t : Fin cfg0.N) (i : Fin 1664) (k : Fin 512) (p : Fin 8320) (q : Fin 2048)
    (hp : p.val = t.val / 27 * 1664 + i.val) (hq : q.val = min 3 (t.val % 27 - 22) * 512 + k.val) :
    iblk m c 4 t (ix2 i k) = m (c.tc.loc main_arg4) (ix2 p q) := by
  have := (idx t).1
  have h0 : t.val / 27 * 1664 + i.val < 8320 := by omega
  have h1 : min 3 (t.val % 27 - 22) * 512 + k.val < 2048 := by omega
  obtain rfl : p = ⟨_, h0⟩ := Fin.ext hp
  obtain rfl : q = ⟨_, h1⟩ := Fin.ext hq
  blk_ext [iblk, idx t]

theorem iblk5 (t : Fin cfg0.N) (i : Fin 1664) (k : Fin 128) (p : Fin 8320) (hp : p.val = t.val / 27 * 1664 + i.val) :
    iblk m c 5 t (ix2 i k) = m (c.tc.loc main_arg5) (ix2 p k) := by
  have := (idx t).1
  have h0 : t.val / 27 * 1664 + i.val < 8320 := by omega
  obtain rfl : p = ⟨_, h0⟩ := Fin.ext hp
  blk_ext [iblk, idx t]

theorem iblk11 (t : Fin cfg0.N) (j : Fin 1024) (k : Fin 128) :
    iblk m c 11 t (ix2 j k) = V m c main_v11 (ix2 j (⟨13312 + k.val, by omega⟩ : Fin 13440)) := by
  have := (idx t).1
  blk_ext [iblk, idx t]

theorem blk6 (t : Fin cfg0.N) (j : Fin 1024) (k : Fin 512) (q : Fin 13440) (hq : q.val = min 3 (t.val % 27 - 0) * 512 + k.val) :
    X0_6 m c t (ix2 j k) = V m c main_v11 (ix2 j q) := by
  have := (idx t).1
  have h1 : min 3 (t.val % 27 - 0) * 512 + k.val < 13440 := by omega
  obtain rfl : q = ⟨_, h1⟩ := Fin.ext hq
  unfold X0_6 Pipeline.Window.fill
  rw [dif_pos (moved0_6 t _)]
  blk_ext [iblk, idx t]

theorem blk7 (t : Fin cfg0.N) (j : Fin 1024) (k : Fin 512) (q : Fin 13440) (hq : q.val = (4 + min 7 (t.val % 27 - 4)) * 512 + k.val) :
    X0_7 m c t (ix2 j k) = V m c main_v11 (ix2 j q) := by
  have := (idx t).1
  have h1 : (4 + min 7 (t.val % 27 - 4)) * 512 + k.val < 13440 := by omega
  obtain rfl : q = ⟨_, h1⟩ := Fin.ext hq
  unfold X0_7 Pipeline.Window.fill
  rw [dif_pos (moved0_7 t _)]
  blk_ext [iblk, idx t]

theorem blk8 (t : Fin cfg0.N) (j : Fin 1024) (k : Fin 512) (q : Fin 13440) (hq : q.val = (12 + min 5 (t.val % 27 - 12)) * 512 + k.val) :
    X0_8 m c t (ix2 j k) = V m c main_v11 (ix2 j q) := by
  have := (idx t).1
  have h1 : (12 + min 5 (t.val % 27 - 12)) * 512 + k.val < 13440 := by omega
  obtain rfl : q = ⟨_, h1⟩ := Fin.ext hq
  unfold X0_8 Pipeline.Window.fill
  rw [dif_pos (moved0_8 t _)]
  blk_ext [iblk, idx t]

theorem blk9 (t : Fin cfg0.N) (j : Fin 1024) (k : Fin 512) (q : Fin 13440) (hq : q.val = (18 + min 3 (t.val % 27 - 18)) * 512 + k.val) :
    X0_9 m c t (ix2 j k) = V m c main_v11 (ix2 j q) := by
  have := (idx t).1
  have h1 : (18 + min 3 (t.val % 27 - 18)) * 512 + k.val < 13440 := by omega
  obtain rfl : q = ⟨_, h1⟩ := Fin.ext hq
  unfold X0_9 Pipeline.Window.fill
  rw [dif_pos (moved0_9 t _)]
  blk_ext [iblk, idx t]

theorem blk10 (t : Fin cfg0.N) (j : Fin 1024) (k : Fin 512) (q : Fin 13440) (hq : q.val = (22 + min 3 (t.val % 27 - 22)) * 512 + k.val) :
    X0_10 m c t (ix2 j k) = V m c main_v11 (ix2 j q) := by
  have := (idx t).1
  have h1 : (22 + min 3 (t.val % 27 - 22)) * 512 + k.val < 13440 := by omega
  obtain rfl : q = ⟨_, h1⟩ := Fin.ext hq
  unfold X0_10 Pipeline.Window.fill
  rw [dif_pos (moved0_10 t _)]
  blk_ext [iblk, idx t]

/-- One row of the pieces, in the kernel's order. -/
def left (m : (ℓ : Loc nD τ sig) → Buf (Elt Ideal) ℓ) (c : Dev nD) (p : Fin 8320) : ℕ → EReal :=
  cat (fun k => m (c.tc.loc main_arg0) (ix2 p k)) (fun k => m (c.tc.loc main_arg1) (ix2 p k)) (fun k => m (c.tc.loc main_arg2) (ix2 p k))
    (fun k => m (c.tc.loc main_arg3) (ix2 p k)) (fun k => m (c.tc.loc main_arg4) (ix2 p k)) (fun k => m (c.tc.loc main_arg5) (ix2 p k))

/-- One row of the weights, in the kernel's order. -/
def right (m : (ℓ : Loc nD τ sig) → Buf (Elt Ideal) ℓ) (c : Dev nD) (j : Fin 1024) : ℕ → EReal :=
  lay (fun q => m (c.tc.loc main_arg6) (ix2 j q))

/-- The row of the array that a block's row is. -/
def row (t : Fin cfg0.N) (i : Fin 1664) : Fin 8320 := ⟨t.val / 27 * 1664 + i.val, by have := (idx t).1; omega⟩

/-- What one point multiplies: its columns of both, a block of 512, the last one filled up with zeros. -/
def X (m : (ℓ : Loc nD τ sig) → Buf (Elt Ideal) ℓ) (c : Dev nD) (t : Fin cfg0.N) (z : S1664x1024.Idx) (k : Fin 512) : EReal :=
  left m c (row t (z 0)) (t.val % 27 * 512 + k.val)

def Y (m : (ℓ : Loc nD τ sig) → Buf (Elt Ideal) ℓ) (c : Dev nD) (t : Fin cfg0.N) (z : S1664x1024.Idx) (k : Fin 512) : EReal :=
  right m c (z 1) (t.val % 27 * 512 + k.val)

theorem piece0 (t : Fin cfg0.N) (z : S1664x1024.Idx) (h : t.val % 27 ≤ 3) :
    dot (fun k : Fin 512 => iblk m c 0 t (ix2 (z 0) k)) (fun k : Fin 512 => X0_6 m c t (ix2 (z 1) k)) = dot (X m c t z) (Y m c t z) := by
  refine dot_congr (fun k => ?_) fun k => ?_
  · unfold X left
    refine .trans ?_ (cat0 _ _ _ _ _ _ (t.val % 27 * 512 + k.val) ⟨min 3 (t.val % 27 - 0) * 512 + k.val, by omega⟩ (by dsimp only; omega)).symm
    exact iblk0 t (z 0) k (row t (z 0)) ⟨min 3 (t.val % 27 - 0) * 512 + k.val, by omega⟩ rfl rfl
  · exact (blk6 t (z 1) k ⟨t.val % 27 * 512 + k.val, by omega⟩ (by dsimp only; omega)).trans (weight _ _)

theorem piece1 (t : Fin cfg0.N) (z : S1664x1024.Idx) (h : 4 ≤ t.val % 27 ∧ t.val % 27 ≤ 11) :
    dot (fun k : Fin 512 => iblk m c 1 t (ix2 (z 0) k)) (fun k : Fin 512 => X0_7 m c t (ix2 (z 1) k)) = dot (X m c t z) (Y m c t z) := by
  refine dot_congr (fun k => ?_) fun k => ?_
  · unfold X left
    refine .trans ?_ (cat1 _ _ _ _ _ _ (t.val % 27 * 512 + k.val) ⟨min 7 (t.val % 27 - 4) * 512 + k.val, by omega⟩ (by dsimp only; omega)).symm
    exact iblk1 t (z 0) k (row t (z 0)) ⟨min 7 (t.val % 27 - 4) * 512 + k.val, by omega⟩ rfl rfl
  · exact (blk7 t (z 1) k ⟨t.val % 27 * 512 + k.val, by omega⟩ (by dsimp only; omega)).trans (weight _ _)

theorem piece2 (t : Fin cfg0.N) (z : S1664x1024.Idx) (h : 12 ≤ t.val % 27 ∧ t.val % 27 ≤ 17) :
    dot (fun k : Fin 512 => iblk m c 2 t (ix2 (z 0) k)) (fun k : Fin 512 => X0_8 m c t (ix2 (z 1) k)) = dot (X m c t z) (Y m c t z) := by
  refine dot_congr (fun k => ?_) fun k => ?_
  · unfold X left
    refine .trans ?_ (cat2 _ _ _ _ _ _ (t.val % 27 * 512 + k.val) ⟨min 5 (t.val % 27 - 12) * 512 + k.val, by omega⟩ (by dsimp only; omega)).symm
    exact iblk2 t (z 0) k (row t (z 0)) ⟨min 5 (t.val % 27 - 12) * 512 + k.val, by omega⟩ rfl rfl
  · exact (blk8 t (z 1) k ⟨t.val % 27 * 512 + k.val, by omega⟩ (by dsimp only; omega)).trans (weight _ _)

theorem piece3 (t : Fin cfg0.N) (z : S1664x1024.Idx) (h : 18 ≤ t.val % 27 ∧ t.val % 27 ≤ 21) :
    dot (fun k : Fin 512 => iblk m c 3 t (ix2 (z 0) k)) (fun k : Fin 512 => X0_9 m c t (ix2 (z 1) k)) = dot (X m c t z) (Y m c t z) := by
  refine dot_congr (fun k => ?_) fun k => ?_
  · unfold X left
    refine .trans ?_ (cat3 _ _ _ _ _ _ (t.val % 27 * 512 + k.val) ⟨min 3 (t.val % 27 - 18) * 512 + k.val, by omega⟩ (by dsimp only; omega)).symm
    exact iblk3 t (z 0) k (row t (z 0)) ⟨min 3 (t.val % 27 - 18) * 512 + k.val, by omega⟩ rfl rfl
  · exact (blk9 t (z 1) k ⟨t.val % 27 * 512 + k.val, by omega⟩ (by dsimp only; omega)).trans (weight _ _)

theorem piece4 (t : Fin cfg0.N) (z : S1664x1024.Idx) (h : 22 ≤ t.val % 27 ∧ t.val % 27 ≤ 25) :
    dot (fun k : Fin 512 => iblk m c 4 t (ix2 (z 0) k)) (fun k : Fin 512 => X0_10 m c t (ix2 (z 1) k)) = dot (X m c t z) (Y m c t z) := by
  refine dot_congr (fun k => ?_) fun k => ?_
  · unfold X left
    refine .trans ?_ (cat4 _ _ _ _ _ _ (t.val % 27 * 512 + k.val) ⟨min 3 (t.val % 27 - 22) * 512 + k.val, by omega⟩ (by dsimp only; omega)).symm
    exact iblk4 t (z 0) k (row t (z 0)) ⟨min 3 (t.val % 27 - 22) * 512 + k.val, by omega⟩ rfl rfl
  · exact (blk10 t (z 1) k ⟨t.val % 27 * 512 + k.val, by omega⟩ (by dsimp only; omega)).trans (weight _ _)

theorem piece5 (t : Fin cfg0.N) (z : S1664x1024.Idx) (h : t.val % 27 = 26) :
    dot (fun k : Fin 128 => iblk m c 5 t (ix2 (z 0) k)) (fun k : Fin 128 => iblk m c 11 t (ix2 (z 1) k)) = dot (X m c t z) (Y m c t z) := by
  refine (dot_congr (fun k => ?_) fun k => ?_).trans (sum_cut (n := 128) (N := 512) (by omega)
    (fun k => left m c (row t (z 0)) (t.val % 27 * 512 + k) * right m c (z 1) (t.val % 27 * 512 + k)) fun k h1 h2 => ?_).symm
  · unfold left
    refine .trans ?_ (cat5 _ _ _ _ _ _ (t.val % 27 * 512 + k.val) k (by omega)).symm
    exact iblk5 t (z 0) k (row t (z 0)) rfl
  · exact (iblk11 t (z 1) k).trans ((weight _ _).trans (congrArg (right m c (z 1)) (by dsimp only; omega)))
  · exact (congrArg (_ * ·) (lay_zero _ (by omega))).trans (mul_zero _)

theorem first_val (x : Vec Ideal S1664x512 .bf16) (y : Vec Ideal S1024x512 .bf16) (z : S1664x1024.Idx) :
    k0_pay2 (F := Ideal) x y z = (0 + dot (fun k : Fin 512 => x (ix2 (z 0) k)) (fun k => y (ix2 (z 1) k)) : EReal) := by
  obtain ⟨i, j, rfl⟩ : ∃ (i : Fin 1664) (j : Fin 1024), z = ix2 i j := ⟨_, _, eq_ix2 z⟩
  unfold k0_pay2
  clean_types
  pointwise
  rfl

theorem next_val (a : Vec Ideal S1664x1024 .f32) (x : Vec Ideal S1664x512 .bf16) (y : Vec Ideal S1024x512 .bf16) (z : S1664x1024.Idx) :
    k0_pay3 (F := Ideal) a x y z = ((a z : EReal) + dot (fun k : Fin 512 => x (ix2 (z 0) k)) (fun k => y (ix2 (z 1) k)) : EReal) := by
  obtain ⟨i, j, rfl⟩ : ∃ (i : Fin 1664) (j : Fin 1024), z = ix2 i j := ⟨_, _, eq_ix2 z⟩
  unfold k0_pay3
  clean_types
  pointwise
  rfl

theorem last_val (a : Vec Ideal S1664x1024 .f32) (x : Vec Ideal S1664x128 .bf16) (y : Vec Ideal S1024x128 .bf16) (z : S1664x1024.Idx) :
    k0_pay1 (F := Ideal) a x y z = ((a z : EReal) + dot (fun k : Fin 128 => x (ix2 (z 0) k)) (fun k => y (ix2 (z 1) k)) : EReal) := by
  obtain ⟨i, j, rfl⟩ : ∃ (i : Fin 1664) (j : Fin 1024), z = ix2 i j := ⟨_, _, eq_ix2 z⟩
  unfold k0_pay1
  clean_types
  pointwise
  rfl

/-- The first block's product starts the sum. -/
theorem start (t : Fin cfg0.N) (h : t.val % 27 = 0) (z : S1664x1024.Idx) :
    (outsAt0 m c t.val t.isLt z : EReal) = 0 + dot (X m c t z) (Y m c t z) := by
  rw [outsAt0_A m c t h (by omega) (by omega) (by omega) (by omega) (by omega) (by omega)]
  frame_out
  exact (first_val _ _ z).trans (congrArg (0 + ·) (piece0 t z (by omega)))

/-- Every later block's product is added. -/
theorem step (t : Fin cfg0.N) (h : ¬ t.val % 27 = 0) (z : S1664x1024.Idx) :
    (outsAt0 m c t.val t.isLt z : EReal)
      = outsAt0 m c (t.val - 1) (Nat.lt_of_le_of_lt (Nat.sub_le _ _) t.isLt) z + dot (X m c t z) (Y m c t z) := by
  rcases (by omega : (1 ≤ t.val % 27 ∧ t.val % 27 ≤ 3) ∨ (4 ≤ t.val % 27 ∧ t.val % 27 ≤ 11) ∨ (12 ≤ t.val % 27 ∧ t.val % 27 ≤ 17)
    ∨ (18 ≤ t.val % 27 ∧ t.val % 27 ≤ 21) ∨ (22 ≤ t.val % 27 ∧ t.val % 27 ≤ 25) ∨ t.val % 27 = 26) with hc | hc | hc | hc | hc | hc
  · rw [outsAt0_B m c t h hc (by omega) (by omega) (by omega) (by omega) (by omega)]
    frame_out
    exact (next_val _ _ _ z).trans (congrArg (_ + ·) (piece0 t z (by omega)))
  · rw [outsAt0_C m c t h (by omega) hc (by omega) (by omega) (by omega) (by omega)]
    frame_out
    exact (next_val _ _ _ z).trans (congrArg (_ + ·) (piece1 t z hc))
  · rw [outsAt0_D m c t h (by omega) (by omega) hc (by omega) (by omega) (by omega)]
    frame_out
    exact (next_val _ _ _ z).trans (congrArg (_ + ·) (piece2 t z hc))
  · rw [outsAt0_E m c t h (by omega) (by omega) (by omega) hc (by omega) (by omega)]
    frame_out
    exact (next_val _ _ _ z).trans (congrArg (_ + ·) (piece3 t z hc))
  · rw [outsAt0_F m c t h (by omega) (by omega) (by omega) (by omega) hc (by omega)]
    frame_out
    exact (next_val _ _ _ z).trans (congrArg (_ + ·) (piece4 t z hc))
  · rw [outsAt0_G m c t h (by omega) (by omega) (by omega) (by omega) (by omega) hc]
    frame_out
    exact (last_val _ _ _ z).trans (congrArg (_ + ·) (piece5 t z hc))

/-- The result. -/
def res (m : (ℓ : Loc nD τ sig) → Buf (Elt Ideal) ℓ) (c : Dev nD) : Vec Ideal S8320x1024 .f32 := fun z =>
  dot (fun l : Fin 13824 => left m c (z 0) l.val) fun l => right m c (z 1) l.val

/-- Where the array holds an entry of the block that a point writes. -/
theorem emb (t : Fin cfg0.N) (z : S1664x1024.Idx) : (((cfg0.win 12).blk t).view.emb z 0).val = t.val / 27 * 1664 + (z 0).val
    ∧ (((cfg0.win 12).blk t).view.emb z 1).val = (z 1).val := by
  constructor
  · show win0_12.index t 0 * 1664 + 1 * (z 0).val = _
    simp only [(idx t).2.2.2.2.2.2.2.2.2.2.2.2.2, Matrix.cons_val_zero, Matrix.cons_val_one, one_mul, zero_mul, zero_add]
  · show win0_12.index t 1 * 1024 + 1 * (z 1).val = _
    simp only [(idx t).2.2.2.2.2.2.2.2.2.2.2.2.2, Matrix.cons_val_zero, Matrix.cons_val_one, one_mul, zero_mul, zero_add]

theorem arr : (dats m 0 c).arrAt 12 cfg0.N = res m c := by
  refine (dats m 0 c).arrAt_eq_of_covers 12 _ (by decide +kernel) fun t hf z => ?_
  obtain ⟨e0, e1⟩ := emb t z
  have hl := (flush0_12 t).mp hf
  rw [after0_12]
  refine (acc_dot (fun n h z => (outsAt0 m c n h z : EReal)) 27 (fun _ _ => 0) (X m c) (Y m c) (fun t h z => start t h z) (fun t h z => step t h z) t hl z (L := 13824)
    rfl (fun _ _ => rfl) (x := fun l => left m c (((cfg0.win 12).blk t).view.emb z 0) l.val) (y := fun l => right m c (((cfg0.win 12).blk t).view.emb z 1) l.val)
    (fun p s k h hp => ?_) (fun p s k h hp => ?_)).trans (zero_add _)
  · exact congrArg₂ (left m c) (Fin.ext (by show p.val / 27 * 1664 + (z 0).val = _; rw [e0, show p.val / 27 = t.val / 27 by omega])) (by dsimp only; omega)
  · exact congrArg₂ (right m c) (Fin.ext e1.symm) (by dsimp only; omega)

theorem algebraic : Cert.algebraic_KernelDU1Ideal_ReferenceDU1Ideal (hKernelDU1Ideal := Cert.KernelDU1Ideal.Gen.facts)
    (hReferenceDU1Ideal := Cert.ReferenceDU1Ideal.Gen.facts) := by
  intro m g m' g' _ hagree
  refine ⟨fun c => res m c, ?_, ?_⟩
  · exact (θ_run defs _ _).mono (fun r h c => ⟨(h c).1.trans arr, (h c).2⟩) (Cert.KernelDU1Ideal.Value.run_blocks (F := Ideal) m g)
  · refine (θ_run Cert.ReferenceDU1Ideal.defs _ _).mono (fun r h c => ⟨(h c).1.trans (funext fun z => ?_), (h c).2⟩) (Cert.ReferenceDU1Ideal.Value.run (F := Ideal) m' g')
    clear h
    obtain ⟨i, j, rfl⟩ : ∃ (i : Fin 8320) (j : Fin 1024), z = ix2 i j := ⟨_, _, eq_ix2 z⟩
    obtain ⟨h0, h1, h2, h3, h4, h5, h6⟩ := hagree c
    rw [h0, h1, h2, h3, h4, h5, h6]
    clean_types
    pointwise
    refine .trans (Finset.sum_congr rfl fun q _ => ?_) (dot_order _ _ _ _ _ _ _).symm
    unfold side
    refine congrArg (· * _) (Columns.cases (fun h => ?_) fun h => ?_)
    · refine .trans ?_ (dif_pos h).symm
      rfl
    refine .trans ?_ (dif_neg h).symm
    refine Columns.cases (fun h => ?_) fun h => ?_
    · refine .trans ?_ (dif_pos h).symm
      rfl
    refine .trans ?_ (dif_neg h).symm
    refine Columns.cases (fun h => ?_) fun h => ?_
    · refine .trans ?_ (dif_pos h).symm
      rfl
    refine .trans ?_ (dif_neg h).symm
    refine Columns.cases (fun h => ?_) fun h => ?_
    · refine .trans ?_ (dif_pos h).symm
      rfl
    refine .trans ?_ (dif_neg h).symm
    refine Columns.cases (fun h => ?_) fun h => ?_
    · refine .trans ?_ (dif_pos h).symm
      rfl
    refine .trans ?_ (dif_neg h).symm
    refine .trans ?_ (dif_pos (by omega)).symm
    rfl

end Cert.DU1
-- ==== Proof.GW2048.lean ====
/-
  The gradient of 2048 columns of the projections' weights: rows transposed by rows, accumulated over five blocks of rows in
  a scratch that the last one rounds into the result, against one contraction over all rows.
-/
module

public import proofs.«01_k».proof.Proof.Product
public import proofs.«01_k».proof.Proof.Gen.KernelGW2048Ideal.Value
public import proofs.«01_k».proof.Proof.Gen.ReferenceGW2048Ideal.Run
public import proofs.«01_k».proof.Defs

@[expose] public section

set_option maxRecDepth 16384

noncomputable section

namespace Cert.GW2048

open Cert.KernelGW2048Ideal Cert.KernelGW2048Ideal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val % 5, 0] ∧ win0_1.index t = ![t.val % 5, t.val / 5]
    ∧ win0_2.index t = ![0, t.val / 5] := by decide +kernel

/-- What one point computes of its blocks. -/
def part (x : Vec Ideal S1664x1024 .bf16) (y : Vec Ideal S1664x1024 .bf16) (z : S1024x1024.Idx) : EReal :=
  dot (fun k : Fin 1664 => x (ix2 k (z 0))) fun k => y (ix2 k (z 1))

theorem first_val (x : Vec Ideal S1664x1024 .bf16) (y : Vec Ideal S1664x1024 .bf16) (z : S1024x1024.Idx) :
    k0_pay1 (F := Ideal) x y z = (0 + part x y z : EReal) := by
  obtain ⟨i, j, rfl⟩ : ∃ (i : Fin 1024) (j : Fin 1024), z = ix2 i j := ⟨_, _, eq_ix2 z⟩
  unfold k0_pay1
  clean_types
  pointwise
  rfl

theorem next_val (a : Vec Ideal S1024x1024 .f32) (x : Vec Ideal S1664x1024 .bf16) (y : Vec Ideal S1664x1024 .bf16) (z : S1024x1024.Idx) :
    k0_pay2 (F := Ideal) a x y z = ((a z : EReal) + part x y z : EReal) := by
  obtain ⟨i, j, rfl⟩ : ∃ (i : Fin 1024) (j : Fin 1024), z = ix2 i j := ⟨_, _, eq_ix2 z⟩
  unfold k0_pay2
  clean_types
  pointwise
  rfl

theorem last_val (a : Vec Ideal S1024x1024 .f32) (x : Vec Ideal S1664x1024 .bf16) (y : Vec Ideal S1664x1024 .bf16) (z : S1024x1024.Idx) :
    k0_pay3 (F := Ideal) a x y z = ((a z : EReal) + part x y z : EReal) := by
  obtain ⟨i, j, rfl⟩ : ∃ (i : Fin 1024) (j : Fin 1024), z = ix2 i j := ⟨_, _, eq_ix2 z⟩
  unfold k0_pay3
  clean_types
  pointwise
  rfl

theorem iblk0 (t : Fin cfg0.N) (i : Fin 1664) (k : Fin 1024) (p : Fin 8320) (q : Fin 1024)
    (hp : p.val = t.val % 5 * 1664 + i.val) (hq : q.val = k.val) :
    iblk m c 0 t (ix2 i k) = m (c.tc.loc main_arg0) (ix2 p q) := by
  have := (idx t).1
  have h0 : t.val % 5 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1664) (j : Fin 1024) (p : Fin 8320) (q : Fin 2048)
    (hp : p.val = t.val % 5 * 1664 + k.val) (hq : q.val = t.val / 5 * 1024 + j.val) :
    iblk m c 1 t (ix2 k j) = m (c.tc.loc main_arg1) (ix2 p q) := by
  have := (idx t).1
  have h0 : t.val % 5 * 1664 + k.val < 8320 := by omega
  have h1 : t.val / 5 * 1024 + j.val < 2048 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S8320x2048 .bf16) : Vec Ideal S1024x2048 .bf16 := fun z =>
  dot (fun l : Fin 8320 => a (ix2 l (z 0))) fun l : Fin 8320 => b (ix2 l (z 1))

/-- Where the array holds an entry of the block that a point writes. -/
theorem emb (t : Fin cfg0.N) (z : S1024x1024.Idx) : (((cfg0.win 2).blk t).view.emb z 0).val = (z 0).val
    ∧ (((cfg0.win 2).blk t).view.emb z 1).val = t.val / 5 * 1024 + (z 1).val := by
  constructor
  · show win0_2.index t 0 * 1024 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  have hl := (flush0_2 t).mp hf
  rw [after0_2]
  show ((outsAt0 m c t.val t.isLt).1 z : EReal) = _
  rw [← if_pos (c := t.val % 5 = 4) (t := ((outsAt0 m c t.val t.isLt).1 z : EReal)) (e := (outsAt0 m c t.val t.isLt).2 z) hl]
  refine (acc_dot (fun n h z => if n % 5 = 4 then ((outsAt0 m c n h).1 z : EReal) else (outsAt0 m c n h).2 z) 5 (fun _ _ => 0)
    (fun t z k => iblk m c 0 t (ix2 k (z 0))) (fun t z k => iblk m c 1 t (ix2 k (z 1)))
    (fun t h z => ?_) (fun t h z => ?_) t hl z (L := 8320) rfl (fun _ _ => rfl) (fun p s k h hp => ?_) (fun p s k h hp => ?_)).trans (zero_add _)
  · rw [if_neg (by omega), outsAt0_A m c t h (by omega) (by omega)]
    frame_out
    exact first_val _ _ z
  · rw [if_neg (show ¬(t.val - 1) % 5 = 4 by omega)]
    by_cases h4 : t.val % 5 = 4
    · rw [if_pos h4, outsAt0_C m c t h (by omega) h4]
      frame_out
      exact (last_val _ _ _ z).trans (congrArg (fun u : Vec Ideal S1024x1024 .f32 => (u z : EReal) + _) (Memref.IsWhole.read_unread _ _))
    · rw [if_neg h4, outsAt0_B m c t h (by omega) h4]
      frame_out
      exact (next_val _ _ _ z).trans (congrArg (fun u : Vec Ideal S1024x1024 .f32 => (u z : EReal) + _) (Memref.IsWhole.read_unread _ _))
  · exact iblk0 p k _ _ _ (by dsimp only; omega) e0
  · exact iblk1 p k _ _ _ (by dsimp only; omega) (e1.trans (by rw [show p.val / 5 = t.val / 5 by omega]))

theorem algebraic : Cert.algebraic_KernelGW2048Ideal_ReferenceGW2048Ideal (hKernelGW2048Ideal := Cert.KernelGW2048Ideal.Gen.facts)
    (hReferenceGW2048Ideal := Cert.ReferenceGW2048Ideal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelGW2048Ideal.Value.run_blocks (F := Ideal) m g)
  · refine (θ_run Cert.ReferenceGW2048Ideal.defs _ _).mono (fun r h c => ⟨(h c).1.trans (funext fun z => ?_), (h c).2⟩) (Cert.ReferenceGW2048Ideal.Value.run (F := Ideal) m' g')
    obtain ⟨i, j, rfl⟩ : ∃ (i : Fin 1024) (j : Fin 2048), z = ix2 i j := ⟨_, _, eq_ix2 z⟩
    rw [(hagree c).1, (hagree c).2]
    clean_types
    pointwise
    exact dot_comm _ _

end Cert.GW2048
-- ==== Proof.GW4096.lean ====
/-
  The gradient of 4096 columns of the projections' weights: see GW2048.
-/
module

public import proofs.«01_k».proof.Proof.Product
public import proofs.«01_k».proof.Proof.Gen.KernelGW4096Ideal.Value
public import proofs.«01_k».proof.Proof.Gen.ReferenceGW4096Ideal.Run
public import proofs.«01_k».proof.Defs

@[expose] public section

set_option maxRecDepth 16384

noncomputable section

namespace Cert.GW4096

open Cert.KernelGW4096Ideal Cert.KernelGW4096Ideal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 20 ∧ win0_0.index t = ![t.val % 5, 0] ∧ win0_1.index t = ![t.val % 5, t.val / 5]
    ∧ win0_2.index t = ![0, t.val / 5] := by decide +kernel

/-- What one point computes of its blocks. -/
def part (x : Vec Ideal S1664x1024 .bf16) (y : Vec Ideal S1664x1024 .bf16) (z : S1024x1024.Idx) : EReal :=
  dot (fun k : Fin 1664 => x (ix2 k (z 0))) fun k => y (ix2 k (z 1))

theorem first_val (x : Vec Ideal S1664x1024 .bf16) (y : Vec Ideal S1664x1024 .bf16) (z : S1024x1024.Idx) :
    k0_pay1 (F := Ideal) x y z = (0 + part x y z : EReal) := by
  obtain ⟨i, j, rfl⟩ : ∃ (i : Fin 1024) (j : Fin 1024), z = ix2 i j := ⟨_, _, eq_ix2 z⟩
  unfold k0_pay1
  clean_types
  pointwise
  rfl

theorem next_val (a : Vec Ideal S1024x1024 .f32) (x : Vec Ideal S1664x1024 .bf16) (y : Vec Ideal S1664x1024 .bf16) (z : S1024x1024.Idx) :
    k0_pay2 (F := Ideal) a x y z = ((a z : EReal) + part x y z : EReal) := by
  obtain ⟨i, j, rfl⟩ : ∃ (i : Fin 1024) (j : Fin 1024), z = ix2 i j := ⟨_, _, eq_ix2 z⟩
  unfold k0_pay2
  clean_types
  pointwise
  rfl

theorem last_val (a : Vec Ideal S1024x1024 .f32) (x : Vec Ideal S1664x1024 .bf16) (y : Vec Ideal S1664x1024 .bf16) (z : S1024x1024.Idx) :
    k0_pay3 (F := Ideal) a x y z = ((a z : EReal) + part x y z : EReal) := by
  obtain ⟨i, j, rfl⟩ : ∃ (i : Fin 1024) (j : Fin 1024), z = ix2 i j := ⟨_, _, eq_ix2 z⟩
  unfold k0_pay3
  clean_types
  pointwise
  rfl

theorem iblk0 (t : Fin cfg0.N) (i : Fin 1664) (k : Fin 1024) (p : Fin 8320) (q : Fin 1024)
    (hp : p.val = t.val % 5 * 1664 + i.val) (hq : q.val = k.val) :
    iblk m c 0 t (ix2 i k) = m (c.tc.loc main_arg0) (ix2 p q) := by
  have := (idx t).1
  have h0 : t.val % 5 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1664) (j : Fin 1024) (p : Fin 8320) (q : Fin 4096)
    (hp : p.val = t.val % 5 * 1664 + k.val) (hq : q.val = t.val / 5 * 1024 + j.val) :
    iblk m c 1 t (ix2 k j) = m (c.tc.loc main_arg1) (ix2 p q) := by
  have := (idx t).1
  have h0 : t.val % 5 * 1664 + k.val < 8320 := by omega
  have h1 : t.val / 5 * 1024 + j.val < 4096 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S8320x4096 .bf16) : Vec Ideal S1024x4096 .bf16 := fun z =>
  dot (fun l : Fin 8320 => a (ix2 l (z 0))) fun l : Fin 8320 => b (ix2 l (z 1))

/-- Where the array holds an entry of the block that a point writes. -/
theorem emb (t : Fin cfg0.N) (z : S1024x1024.Idx) : (((cfg0.win 2).blk t).view.emb z 0).val = (z 0).val
    ∧ (((cfg0.win 2).blk t).view.emb z 1).val = t.val / 5 * 1024 + (z 1).val := by
  constructor
  · show win0_2.index t 0 * 1024 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  have hl := (flush0_2 t).mp hf
  rw [after0_2]
  show ((outsAt0 m c t.val t.isLt).1 z : EReal) = _
  rw [← if_pos (c := t.val % 5 = 4) (t := ((outsAt0 m c t.val t.isLt).1 z : EReal)) (e := (outsAt0 m c t.val t.isLt).2 z) hl]
  refine (acc_dot (fun n h z => if n % 5 = 4 then ((outsAt0 m c n h).1 z : EReal) else (outsAt0 m c n h).2 z) 5 (fun _ _ => 0)
    (fun t z k => iblk m c 0 t (ix2 k (z 0))) (fun t z k => iblk m c 1 t (ix2 k (z 1)))
    (fun t h z => ?_) (fun t h z => ?_) t hl z (L := 8320) rfl (fun _ _ => rfl) (fun p s k h hp => ?_) (fun p s k h hp => ?_)).trans (zero_add _)
  · rw [if_neg (by omega), outsAt0_A m c t h (by omega) (by omega)]
    frame_out
    exact first_val _ _ z
  · rw [if_neg (show ¬(t.val - 1) % 5 = 4 by omega)]
    by_cases h4 : t.val % 5 = 4
    · rw [if_pos h4, outsAt0_C m c t h (by omega) h4]
      frame_out
      exact (last_val _ _ _ z).trans (congrArg (fun u : Vec Ideal S1024x1024 .f32 => (u z : EReal) + _) (Memref.IsWhole.read_unread _ _))
    · rw [if_neg h4, outsAt0_B m c t h (by omega) h4]
      frame_out
      exact (next_val _ _ _ z).trans (congrArg (fun u : Vec Ideal S1024x1024 .f32 => (u z : EReal) + _) (Memref.IsWhole.read_unread _ _))
  · exact iblk0 p k _ _ _ (by dsimp only; omega) e0
  · exact iblk1 p k _ _ _ (by dsimp only; omega) (e1.trans (by rw [show p.val / 5 = t.val / 5 by omega]))

theorem algebraic : Cert.algebraic_KernelGW4096Ideal_ReferenceGW4096Ideal (hKernelGW4096Ideal := Cert.KernelGW4096Ideal.Gen.facts)
    (hReferenceGW4096Ideal := Cert.ReferenceGW4096Ideal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelGW4096Ideal.Value.run_blocks (F := Ideal) m g)
  · refine (θ_run Cert.ReferenceGW4096Ideal.defs _ _).mono (fun r h c => ⟨(h c).1.trans (funext fun z => ?_), (h c).2⟩) (Cert.ReferenceGW4096Ideal.Value.run (F := Ideal) m' g')
    obtain ⟨i, j, rfl⟩ : ∃ (i : Fin 1024) (j : Fin 4096), z = ix2 i j := ⟨_, _, eq_ix2 z⟩
    rw [(hagree c).1, (hagree c).2]
    clean_types
    pointwise
    exact dot_comm _ _

end Cert.GW4096
-- ==== Proof.GW3072.lean ====
/-
  The gradient of 3072 columns of the projections' weights: see GW2048.
-/
module

public import proofs.«01_k».proof.Proof.Product
public import proofs.«01_k».proof.Proof.Gen.KernelGW3072Ideal.Value
public import proofs.«01_k».proof.Proof.Gen.ReferenceGW3072Ideal.Run
public import proofs.«01_k».proof.Defs

@[expose] public section

set_option maxRecDepth 16384

noncomputable section

namespace Cert.GW3072

open Cert.KernelGW3072Ideal Cert.KernelGW3072Ideal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 15 ∧ win0_0.index t = ![t.val % 5, 0] ∧ win0_1.index t = ![t.val % 5, t.val / 5]
    ∧ win0_2.index t = ![0, t.val / 5] := by decide +kernel

/-- What one point computes of its blocks. -/
def part (x : Vec Ideal S1664x1024 .bf16) (y : Vec Ideal S1664x1024 .bf16) (z : S1024x1024.Idx) : EReal :=
  dot (fun k : Fin 1664 => x (ix2 k (z 0))) fun k => y (ix2 k (z 1))

theorem first_val (x : Vec Ideal S1664x1024 .bf16) (y : Vec Ideal S1664x1024 .bf16) (z : S1024x1024.Idx) :
    k0_pay1 (F := Ideal) x y z = (0 + part x y z : EReal) := by
  obtain ⟨i, j, rfl⟩ : ∃ (i : Fin 1024) (j : Fin 1024), z = ix2 i j := ⟨_, _, eq_ix2 z⟩
  unfold k0_pay1
  clean_types
  pointwise
  rfl

theorem next_val (a : Vec Ideal S1024x1024 .f32) (x : Vec Ideal S1664x1024 .bf16) (y : Vec Ideal S1664x1024 .bf16) (z : S1024x1024.Idx) :
    k0_pay2 (F := Ideal) a x y z = ((a z : EReal) + part x y z : EReal) := by
  obtain ⟨i, j, rfl⟩ : ∃ (i : Fin 1024) (j : Fin 1024), z = ix2 i j := ⟨_, _, eq_ix2 z⟩
  unfold k0_pay2
  clean_types
  pointwise
  rfl

theorem last_val (a : Vec Ideal S1024x1024 .f32) (x : Vec Ideal S1664x1024 .bf16) (y : Vec Ideal S1664x1024 .bf16) (z : S1024x1024.Idx) :
    k0_pay3 (F := Ideal) a x y z = ((a z : EReal) + part x y z : EReal) := by
  obtain ⟨i, j, rfl⟩ : ∃ (i : Fin 1024) (j : Fin 1024), z = ix2 i j := ⟨_, _, eq_ix2 z⟩
  unfold k0_pay3
  clean_types
  pointwise
  rfl

theorem iblk0 (t : Fin cfg0.N) (i : Fin 1664) (k : Fin 1024) (p : Fin 8320) (q : Fin 1024)
    (hp : p.val = t.val % 5 * 1664 + i.val) (hq : q.val = k.val) :
    iblk m c 0 t (ix2 i k) = m (c.tc.loc main_arg0) (ix2 p q) := by
  have := (idx t).1
  have h0 : t.val % 5 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1664) (j : Fin 1024) (p : Fin 8320) (q : Fin 3072)
    (hp : p.val = t.val % 5 * 1664 + k.val) (hq : q.val = t.val / 5 * 1024 + j.val) :
    iblk m c 1 t (ix2 k j) = m (c.tc.loc main_arg1) (ix2 p q) := by
  have := (idx t).1
  have h0 : t.val % 5 * 1664 + k.val < 8320 := by omega
  have h1 : t.val / 5 * 1024 + j.val < 3072 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S8320x3072 .bf16) : Vec Ideal S1024x3072 .bf16 := fun z =>
  dot (fun l : Fin 8320 => a (ix2 l (z 0))) fun l : Fin 8320 => b (ix2 l (z 1))

/-- Where the array holds an entry of the block that a point writes. -/
theorem emb (t : Fin cfg0.N) (z : S1024x1024.Idx) : (((cfg0.win 2).blk t).view.emb z 0).val = (z 0).val
    ∧ (((cfg0.win 2).blk t).view.emb z 1).val = t.val / 5 * 1024 + (z 1).val := by
  constructor
  · show win0_2.index t 0 * 1024 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  have hl := (flush0_2 t).mp hf
  rw [after0_2]
  show ((outsAt0 m c t.val t.isLt).1 z : EReal) = _
  rw [← if_pos (c := t.val % 5 = 4) (t := ((outsAt0 m c t.val t.isLt).1 z : EReal)) (e := (outsAt0 m c t.val t.isLt).2 z) hl]
  refine (acc_dot (fun n h z => if n % 5 = 4 then ((outsAt0 m c n h).1 z : EReal) else (outsAt0 m c n h).2 z) 5 (fun _ _ => 0)
    (fun t z k => iblk m c 0 t (ix2 k (z 0))) (fun t z k => iblk m c 1 t (ix2 k (z 1)))
    (fun t h z => ?_) (fun t h z => ?_) t hl z (L := 8320) rfl (fun _ _ => rfl) (fun p s k h hp => ?_) (fun p s k h hp => ?_)).trans (zero_add _)
  · rw [if_neg (by omega), outsAt0_A m c t h (by omega) (by omega)]
    frame_out
    exact first_val _ _ z
  · rw [if_neg (show ¬(t.val - 1) % 5 = 4 by omega)]
    by_cases h4 : t.val % 5 = 4
    · rw [if_pos h4, outsAt0_C m c t h (by omega) h4]
      frame_out
      exact (last_val _ _ _ z).trans (congrArg (fun u : Vec Ideal S1024x1024 .f32 => (u z : EReal) + _) (Memref.IsWhole.read_unread _ _))
    · rw [if_neg h4, outsAt0_B m c t h (by omega) h4]
      frame_out
      exact (next_val _ _ _ z).trans (congrArg (fun u : Vec Ideal S1024x1024 .f32 => (u z : EReal) + _) (Memref.IsWhole.read_unread _ _))
  · exact iblk0 p k _ _ _ (by dsimp only; omega) e0
  · exact iblk1 p k _ _ _ (by dsimp only; omega) (e1.trans (by rw [show p.val / 5 = t.val / 5 by omega]))

theorem algebraic : Cert.algebraic_KernelGW3072Ideal_ReferenceGW3072Ideal (hKernelGW3072Ideal := Cert.KernelGW3072Ideal.Gen.facts)
    (hReferenceGW3072Ideal := Cert.ReferenceGW3072Ideal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelGW3072Ideal.Value.run_blocks (F := Ideal) m g)
  · refine (θ_run Cert.ReferenceGW3072Ideal.defs _ _).mono (fun r h c => ⟨(h c).1.trans (funext fun z => ?_), (h c).2⟩) (Cert.ReferenceGW3072Ideal.Value.run (F := Ideal) m' g')
    obtain ⟨i, j, rfl⟩ : ∃ (i : Fin 1024) (j : Fin 3072), z = ix2 i j := ⟨_, _, eq_ix2 z⟩
    rw [(hagree c).1, (hagree c).2]
    clean_types
    pointwise
    exact dot_comm _ _

end Cert.GW3072
-- ==== Proof.GW128.lean ====
/-
  The gradient of 128 columns of the projections' weights: see GW2048.
-/
module

public import proofs.«01_k».proof.Proof.Product
public import proofs.«01_k».proof.Proof.Gen.KernelGW128Ideal.Value
public import proofs.«01_k».proof.Proof.Gen.ReferenceGW128Ideal.Run
public import proofs.«01_k».proof.Defs

@[expose] public section

set_option maxRecDepth 16384

noncomputable section

namespace Cert.GW128

open Cert.KernelGW128Ideal Cert.KernelGW128Ideal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 5 ∧ win0_0.index t = ![t.val % 5, 0] ∧ win0_1.index t = ![t.val % 5, 0]
    ∧ win0_2.index t = ![0, 0] := by decide +kernel

/-- What one point computes of its blocks. -/
def part (x : Vec Ideal S1664x1024 .bf16) (y : Vec Ideal S1664x128 .bf16) (z : S1024x128.Idx) : EReal :=
  dot (fun k : Fin 1664 => x (ix2 k (z 0))) fun k => y (ix2 k (z 1))

theorem first_val (x : Vec Ideal S1664x1024 .bf16) (y : Vec Ideal S1664x128 .bf16) (z : S1024x128.Idx) :
    k0_pay1 (F := Ideal) x y z = (0 + part x y z : EReal) := by
  obtain ⟨i, j, rfl⟩ : ∃ (i : Fin 1024) (j : Fin 128), z = ix2 i j := ⟨_, _, eq_ix2 z⟩
  unfold k0_pay1
  clean_types
  pointwise
  rfl

theorem next_val (a : Vec Ideal S1024x128 .f32) (x : Vec Ideal S1664x1024 .bf16) (y : Vec Ideal S1664x128 .bf16) (z : S1024x128.Idx) :
    k0_pay2 (F := Ideal) a x y z = ((a z : EReal) + part x y z : EReal) := by
  obtain ⟨i, j, rfl⟩ : ∃ (i : Fin 1024) (j : Fin 128), z = ix2 i j := ⟨_, _, eq_ix2 z⟩
  unfold k0_pay2
  clean_types
  pointwise
  rfl

theorem last_val (a : Vec Ideal S1024x128 .f32) (x : Vec Ideal S1664x1024 .bf16) (y : Vec Ideal S1664x128 .bf16) (z : S1024x128.Idx) :
    k0_pay3 (F := Ideal) a x y z = ((a z : EReal) + part x y z : EReal) := by
  obtain ⟨i, j, rfl⟩ : ∃ (i : Fin 1024) (j : Fin 128), z = ix2 i j := ⟨_, _, eq_ix2 z⟩
  unfold k0_pay3
  clean_types
  pointwise
  rfl

theorem iblk0 (t : Fin cfg0.N) (i : Fin 1664) (k : Fin 1024) (p : Fin 8320) (q : Fin 1024)
    (hp : p.val = t.val % 5 * 1664 + i.val) (hq : q.val = k.val) :
    iblk m c 0 t (ix2 i k) = m (c.tc.loc main_arg0) (ix2 p q) := by
  have := (idx t).1
  have h0 : t.val % 5 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1664) (j : Fin 128) (p : Fin 8320) (q : Fin 128)
    (hp : p.val = t.val % 5 * 1664 + k.val) (hq : q.val = j.val) :
    iblk m c 1 t (ix2 k j) = m (c.tc.loc main_arg1) (ix2 p q) := by
  have := (idx t).1
  have h0 : t.val % 5 * 1664 + k.val < 8320 := by omega
  have h1 : j.val < 128 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S8320x128 .bf16) : Vec Ideal S1024x128 .bf16 := fun z =>
  dot (fun l : Fin 8320 => a (ix2 l (z 0))) fun l : Fin 8320 => b (ix2 l (z 1))

/-- Where the array holds an entry of the block that a point writes. -/
theorem emb (t : Fin cfg0.N) (z : S1024x128.Idx) : (((cfg0.win 2).blk t).view.emb z 0).val = (z 0).val
    ∧ (((cfg0.win 2).blk t).view.emb z 1).val = (z 1).val := by
  constructor
  · show win0_2.index t 0 * 1024 + 1 * (z 0).val = _
    simp only [(idx t).2.2.2, Matrix.cons_val_zero, Matrix.cons_val_one, one_mul, zero_mul, zero_add]
  · show win0_2.index t 1 * 128 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  have hl := (flush0_2 t).mp hf
  rw [after0_2]
  show ((outsAt0 m c t.val t.isLt).1 z : EReal) = _
  rw [← if_pos (c := t.val % 5 = 4) (t := ((outsAt0 m c t.val t.isLt).1 z : EReal)) (e := (outsAt0 m c t.val t.isLt).2 z) hl]
  refine (acc_dot (fun n h z => if n % 5 = 4 then ((outsAt0 m c n h).1 z : EReal) else (outsAt0 m c n h).2 z) 5 (fun _ _ => 0)
    (fun t z k => iblk m c 0 t (ix2 k (z 0))) (fun t z k => iblk m c 1 t (ix2 k (z 1)))
    (fun t h z => ?_) (fun t h z => ?_) t hl z (L := 8320) rfl (fun _ _ => rfl) (fun p s k h hp => ?_) (fun p s k h hp => ?_)).trans (zero_add _)
  · rw [if_neg (by omega), outsAt0_A m c t h (by omega) (by omega)]
    frame_out
    exact first_val _ _ z
  · rw [if_neg (show ¬(t.val - 1) % 5 = 4 by omega)]
    by_cases h4 : t.val % 5 = 4
    · rw [if_pos h4, outsAt0_C m c t h (by omega) h4]
      frame_out
      exact (last_val _ _ _ z).trans (congrArg (fun u : Vec Ideal S1024x128 .f32 => (u z : EReal) + _) (Memref.IsWhole.read_unread _ _))
    · rw [if_neg h4, outsAt0_B m c t h (by omega) h4]
      frame_out
      exact (next_val _ _ _ z).trans (congrArg (fun u : Vec Ideal S1024x128 .f32 => (u z : EReal) + _) (Memref.IsWhole.read_unread _ _))
  · exact iblk0 p k _ _ _ (by dsimp only; omega) e0
  · exact iblk1 p k _ _ _ (by dsimp only; omega) e1

theorem algebraic : Cert.algebraic_KernelGW128Ideal_ReferenceGW128Ideal (hKernelGW128Ideal := Cert.KernelGW128Ideal.Gen.facts)
    (hReferenceGW128Ideal := Cert.ReferenceGW128Ideal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelGW128Ideal.Value.run_blocks (F := Ideal) m g)
  · refine (θ_run Cert.ReferenceGW128Ideal.defs _ _).mono (fun r h c => ⟨(h c).1.trans (funext fun z => ?_), (h c).2⟩) (Cert.ReferenceGW128Ideal.Value.run (F := Ideal) m' g')
    obtain ⟨i, j, rfl⟩ : ∃ (i : Fin 1024) (j : Fin 128), z = ix2 i j := ⟨_, _, eq_ix2 z⟩
    rw [(hagree c).1, (hagree c).2]
    clean_types
    pointwise
    exact dot_comm _ _

end Cert.GW128
-- ==== Proof.GUp.lean ====
/-
  The gradient of the feed-forward block's first weights: rows transposed by rows, accumulated over five blocks of rows,
  against one contraction over all rows.
-/
module

public import proofs.«01_k».proof.Proof.Product
public import proofs.«01_k».proof.Proof.Gen.KernelGUpIdeal.Value
public import proofs.«01_k».proof.Proof.Gen.ReferenceGUpIdeal.Run
public import proofs.«01_k».proof.Defs

@[expose] public section

set_option maxRecDepth 16384

noncomputable section

namespace Cert.GUp

open Cert.KernelGUpIdeal Cert.KernelGUpIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val % 5, 0] ∧ win0_1.index t = ![t.val % 5, t.val / 5]
    ∧ win0_2.index t = ![0, t.val / 5] := by decide +kernel

/-- What one point computes of its blocks. -/
def part (x : Vec Ideal S1664x1024 .bf16) (y : Vec Ideal S1664x1408 .bf16) (z : S1024x1408.Idx) : EReal :=
  dot (fun k : Fin 1664 => x (ix2 k (z 0))) fun k => y (ix2 k (z 1))

theorem first_val (x : Vec Ideal S1664x1024 .bf16) (y : Vec Ideal S1664x1408 .bf16) (z : S1024x1408.Idx) :
    k0_pay1 (F := Ideal) x y z = (0 + part x y z : EReal) := by
  obtain ⟨i, j, rfl⟩ : ∃ (i : Fin 1024) (j : Fin 1408), z = ix2 i j := ⟨_, _, eq_ix2 z⟩
  unfold k0_pay1
  clean_types
  pointwise
  rfl

theorem next_val (a : Vec Ideal S1024x1408 .f32) (x : Vec Ideal S1664x1024 .bf16) (y : Vec Ideal S1664x1408 .bf16) (z : S1024x1408.Idx) :
    k0_pay2 (F := Ideal) a x y z = ((a z : EReal) + part x y z : EReal) := by
  obtain ⟨i, j, rfl⟩ : ∃ (i : Fin 1024) (j : Fin 1408), z = ix2 i j := ⟨_, _, eq_ix2 z⟩
  unfold k0_pay2
  clean_types
  pointwise
  rfl

theorem iblk0 (t : Fin cfg0.N) (i : Fin 1664) (k : Fin 1024) (p : Fin 8320) (q : Fin 1024)
    (hp : p.val = t.val % 5 * 1664 + i.val) (hq : q.val = k.val) :
    iblk m c 0 t (ix2 i k) = m (c.tc.loc main_arg0) (ix2 p q) := by
  have := (idx t).1
  have h0 : t.val % 5 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1664) (j : Fin 1408) (p : Fin 8320) (q : Fin 2816)
    (hp : p.val = t.val % 5 * 1664 + k.val) (hq : q.val = t.val / 5 * 1408 + j.val) :
    iblk m c 1 t (ix2 k j) = m (c.tc.loc main_arg1) (ix2 p q) := by
  have := (idx t).1
  have h0 : t.val % 5 * 1664 + k.val < 8320 := by omega
  have h1 : t.val / 5 * 1408 + j.val < 2816 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S8320x2816 .bf16) : Vec Ideal S1024x2816 .f32 := fun z =>
  dot (fun l : Fin 8320 => a (ix2 l (z 0))) fun l : Fin 8320 => b (ix2 l (z 1))

/-- Where the array holds an entry of the block that a point writes. -/
theorem emb (t : Fin cfg0.N) (z : S1024x1408.Idx) : (((cfg0.win 2).blk t).view.emb z 0).val = (z 0).val
    ∧ (((cfg0.win 2).blk t).view.emb z 1).val = t.val / 5 * 1408 + (z 1).val := by
  constructor
  · show win0_2.index t 0 * 1024 + 1 * (z 0).val = _
    simp only [(idx t).2.2.2, Matrix.cons_val_zero, Matrix.cons_val_one, one_mul, zero_mul, zero_add]
  · show win0_2.index t 1 * 1408 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  refine (acc_dot (fun n h => outsAt0 m c n h) 5 (fun _ _ => 0)
    (fun t z k => iblk m c 0 t (ix2 k (z 0))) (fun t z k => iblk m c 1 t (ix2 k (z 1)))
    (fun t h z => ?_) (fun t h z => ?_) t ((flush0_2 t).mp hf) z (L := 8320) rfl (fun _ _ => rfl) (fun p s k h hp => ?_) (fun p s k h hp => ?_)).trans (zero_add _)
  · rw [outsAt0_A m c t h (by have := (idx t).1; omega)]
    frame_out
    exact first_val _ _ z
  · rw [outsAt0_B m c t h (by have := (idx t).1; omega)]
    frame_out
    exact next_val _ _ _ z
  · exact iblk0 p k _ _ _ (by dsimp only; omega) e0
  · exact iblk1 p k _ _ _ (by dsimp only; omega) (e1.trans (by rw [show p.val / 5 = t.val / 5 by omega]))

theorem algebraic : Cert.algebraic_KernelGUpIdeal_ReferenceGUpIdeal (hKernelGUpIdeal := Cert.KernelGUpIdeal.Gen.facts)
    (hReferenceGUpIdeal := Cert.ReferenceGUpIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelGUpIdeal.Value.run_blocks (F := Ideal) m g)
  · refine (θ_run Cert.ReferenceGUpIdeal.defs _ _).mono (fun r h c => ⟨(h c).1.trans (funext fun z => ?_), (h c).2⟩) (Cert.ReferenceGUpIdeal.Value.run (F := Ideal) m' g')
    obtain ⟨i, j, rfl⟩ : ∃ (i : Fin 1024) (j : Fin 2816), z = ix2 i j := ⟨_, _, eq_ix2 z⟩
    rw [(hagree c).1, (hagree c).2]
    clean_types
    pointwise
    exact dot_comm _ _

end Cert.GUp
-- ==== Proof.DU2.lean ====
/-
  The gradient of the feed-forward block's rows through its gate: rows by the first 2816 columns of the first weights,
  accumulated over two blocks of columns.
-/
module

public import proofs.«01_k».proof.Proof.Product
public import proofs.«01_k».proof.Proof.Gen.KernelDU2Ideal.Value
public import proofs.«01_k».proof.Proof.Gen.ReferenceDU2Ideal.Run
public import proofs.«01_k».proof.Defs
public import Idealize.ShloMosaic.Lib.StableHlo.ReadAt

@[expose] public section

set_option maxRecDepth 16384

noncomputable section

namespace Cert.DU2

open Cert.KernelDU2Ideal Cert.KernelDU2Ideal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val / 2, t.val % 2] ∧ win0_1.index t = ![0, t.val % 2]
    ∧ win0_2.index t = ![t.val / 2, 0] := by decide +kernel

/-- What one point computes of its blocks. -/
def part (x : Vec Ideal S1664x1408 .bf16) (y : Vec Ideal S1024x1408 .bf16) (z : S1664x1024.Idx) : EReal :=
  dot (fun k : Fin 1408 => x (ix2 (z 0) k)) fun k => y (ix2 (z 1) k)

theorem first_val (x : Vec Ideal S1664x1408 .bf16) (y : Vec Ideal S1024x1408 .bf16) (z : S1664x1024.Idx) :
    k0_pay1 (F := Ideal) x y z = (0 + part x y z : EReal) := by
  obtain ⟨i, j, rfl⟩ : ∃ (i : Fin 1664) (j : Fin 1024), z = ix2 i j := ⟨_, _, eq_ix2 z⟩
  unfold k0_pay1
  clean_types
  pointwise
  rfl

theorem next_val (a : Vec Ideal S1664x1024 .f32) (x : Vec Ideal S1664x1408 .bf16) (y : Vec Ideal S1024x1408 .bf16) (z : S1664x1024.Idx) :
    k0_pay2 (F := Ideal) a x y z = ((a z : EReal) + part x y z : EReal) := by
  obtain ⟨i, j, rfl⟩ : ∃ (i : Fin 1664) (j : Fin 1024), z = ix2 i j := ⟨_, _, eq_ix2 z⟩
  unfold k0_pay2
  clean_types
  pointwise
  rfl

/-- The weights, as the blocks are read from them. -/
theorem weight (l : Fin 1024) (r : Fin 2816) : V m c main_v1 (ix2 l r) = (m (c.tc.loc main_arg1) (ix2 l ((⟨r.val, by omega⟩ : Fin 5632))) : EReal) := by
  unfold Gen.V
  after_reads_at

theorem iblk0 (t : Fin cfg0.N) (i : Fin 1664) (k : Fin 1408) (p : Fin 8320) (q : Fin 2816)
    (hp : p.val = t.val / 2 * 1664 + i.val) (hq : q.val = t.val % 2 * 1408 + k.val) :
    iblk m c 0 t (ix2 i k) = m (c.tc.loc main_arg0) (ix2 p q) := by
  have := (idx t).1
  have h0 : t.val / 2 * 1664 + i.val < 8320 := by omega
  have h1 : t.val % 2 * 1408 + k.val < 2816 := by omega
  obtain rfl : p = ⟨_, h0⟩ := Fin.ext hp
  obtain rfl : q = ⟨_, h1⟩ := Fin.ext hq
  blk_ext [iblk, idx t]

theorem iblk1 (t : Fin cfg0.N) (k : Fin 1024) (j : Fin 1408) (p : Fin 1024) (q : Fin 2816)
    (hp : p.val = k.val) (hq : q.val = t.val % 2 * 1408 + j.val) :
    iblk m c 1 t (ix2 k j) = V m c main_v1 (ix2 p q) := by
  have := (idx t).1
  have h0 : k.val < 1024 := by omega
  have h1 : t.val % 2 * 1408 + j.val < 2816 := by omega
  obtain rfl : p = ⟨_, h0⟩ := Fin.ext hp
  obtain rfl : q = ⟨_, h1⟩ := Fin.ext hq
  blk_ext [iblk, idx t]

/-- The result. -/
def res (a : Vec Ideal S8320x2816 .bf16) (b : Vec Ideal S1024x5632 .f32) : Vec Ideal S8320x1024 .f32 := fun z =>
  dot (fun l : Fin 2816 => a (ix2 (z 0) l)) fun l : Fin 2816 => b (ix2 (z 1) (⟨l.val, by omega⟩ : Fin 5632))

/-- Where the array holds an entry of the block that a point writes. -/
theorem emb (t : Fin cfg0.N) (z : S1664x1024.Idx) : (((cfg0.win 2).blk t).view.emb z 0).val = t.val / 2 * 1664 + (z 0).val
    ∧ (((cfg0.win 2).blk t).view.emb z 1).val = (z 1).val := by
  constructor
  · show win0_2.index t 0 * 1664 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  refine (acc_dot (fun n h => outsAt0 m c n h) 2 (fun _ _ => 0)
    (fun t z k => iblk m c 0 t (ix2 (z 0) k)) (fun t z k => iblk m c 1 t (ix2 (z 1) k))
    (fun t h z => ?_) (fun t h z => ?_) t ((flush0_2 t).mp hf) z (L := 2816) rfl (fun _ _ => rfl) (fun p s k h hp => ?_) (fun p s k h hp => ?_)).trans (zero_add _)
  · rw [outsAt0_A m c t h (by have := (idx t).1; omega)]
    frame_out
    exact first_val _ _ z
  · rw [outsAt0_B m c t h (by have := (idx t).1; omega)]
    frame_out
    exact next_val _ _ _ z
  · exact iblk0 p _ k _ _ (e0.trans (by rw [show p.val / 2 = t.val / 2 by omega])) (by dsimp only; omega)
  · exact (iblk1 p _ k _ _ e1 (by dsimp only; omega)).trans (weight _ _)

theorem algebraic : Cert.algebraic_KernelDU2Ideal_ReferenceDU2Ideal (hKernelDU2Ideal := Cert.KernelDU2Ideal.Gen.facts)
    (hReferenceDU2Ideal := Cert.ReferenceDU2Ideal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelDU2Ideal.Value.run_blocks (F := Ideal) m g)
  · refine (θ_run Cert.ReferenceDU2Ideal.defs _ _).mono (fun r h c => ⟨(h c).1.trans (funext fun z => ?_), (h c).2⟩) (Cert.ReferenceDU2Ideal.Value.run (F := Ideal) m' g')
    obtain ⟨i, j, rfl⟩ : ∃ (i : Fin 8320) (j : Fin 1024), z = ix2 i j := ⟨_, _, eq_ix2 z⟩
    rw [(hagree c).1, (hagree c).2]
    clean_types
    pointwise
    rfl

end Cert.DU2
-- ==== Proof.DU2v.lean ====
/-
  The gradient of the feed-forward block's rows: what came through the gate, and rows by the last 2816 columns of the first
  weights, accumulated over two blocks of columns.
-/
module

public import proofs.«01_k».proof.Proof.Product
public import proofs.«01_k».proof.Proof.Gen.KernelDU2vIdeal.Value
public import proofs.«01_k».proof.Proof.Gen.ReferenceDU2vIdeal.Run
public import proofs.«01_k».proof.Defs
public import Idealize.ShloMosaic.Lib.StableHlo.ReadAt

@[expose] public section

set_option maxRecDepth 16384

noncomputable section

namespace Cert.DU2v

open Cert.KernelDU2vIdeal Cert.KernelDU2vIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val / 2, t.val % 2] ∧ win0_1.index t = ![0, t.val % 2]
    ∧ win0_2.index t = ![t.val / 2, 0]
    ∧ win0_3.index t = ![t.val / 2, 0] := by decide +kernel

/-- What one point computes of its blocks. -/
def part (x : Vec Ideal S1664x1408 .bf16) (y : Vec Ideal S1024x1408 .bf16) (z : S1664x1024.Idx) : EReal :=
  dot (fun k : Fin 1408 => x (ix2 (z 0) k)) fun k => y (ix2 (z 1) k)

theorem first_val (x : Vec Ideal S1664x1408 .bf16) (y : Vec Ideal S1024x1408 .bf16) (r : Vec Ideal S1664x1024 .f32) (z : S1664x1024.Idx) :
    k0_pay1 (F := Ideal) x y r z = ((r z : EReal) + part x y z : EReal) := by
  obtain ⟨i, j, rfl⟩ : ∃ (i : Fin 1664) (j : Fin 1024), z = ix2 i j := ⟨_, _, eq_ix2 z⟩
  unfold k0_pay1
  clean_types
  pointwise
  exact add_comm _ _

theorem next_val (a : Vec Ideal S1664x1024 .f32) (x : Vec Ideal S1664x1408 .bf16) (y : Vec Ideal S1024x1408 .bf16) (z : S1664x1024.Idx) :
    k0_pay2 (F := Ideal) a x y z = ((a z : EReal) + part x y z : EReal) := by
  obtain ⟨i, j, rfl⟩ : ∃ (i : Fin 1664) (j : Fin 1024), z = ix2 i j := ⟨_, _, eq_ix2 z⟩
  unfold k0_pay2
  clean_types
  pointwise
  rfl

/-- The weights, as the blocks are read from them. -/
theorem weight (l : Fin 1024) (r : Fin 2816) : V m c main_v1 (ix2 l r) = (m (c.tc.loc main_arg1) (ix2 l ((⟨2816 + r.val, by omega⟩ : Fin 5632))) : EReal) := by
  unfold Gen.V
  after_reads_at

theorem iblk0 (t : Fin cfg0.N) (i : Fin 1664) (k : Fin 1408) (p : Fin 8320) (q : Fin 2816)
    (hp : p.val = t.val / 2 * 1664 + i.val) (hq : q.val = t.val % 2 * 1408 + k.val) :
    iblk m c 0 t (ix2 i k) = m (c.tc.loc main_arg0) (ix2 p q) := by
  have := (idx t).1
  have h0 : t.val / 2 * 1664 + i.val < 8320 := by omega
  have h1 : t.val % 2 * 1408 + k.val < 2816 := by omega
  obtain rfl : p = ⟨_, h0⟩ := Fin.ext hp
  obtain rfl : q = ⟨_, h1⟩ := Fin.ext hq
  blk_ext [iblk, idx t]

theorem iblk1 (t : Fin cfg0.N) (k : Fin 1024) (j : Fin 1408) (p : Fin 1024) (q : Fin 2816)
    (hp : p.val = k.val) (hq : q.val = t.val % 2 * 1408 + j.val) :
    iblk m c 1 t (ix2 k j) = V m c main_v1 (ix2 p q) := by
  have := (idx t).1
  have h0 : k.val < 1024 := by omega
  have h1 : t.val % 2 * 1408 + j.val < 2816 := by omega
  obtain rfl : p = ⟨_, h0⟩ := Fin.ext hp
  obtain rfl : q = ⟨_, h1⟩ := Fin.ext hq
  blk_ext [iblk, idx t]

theorem iblk2 (t : Fin cfg0.N) (i : Fin 1664) (j : Fin 1024) (p : Fin 8320) (q : Fin 1024)
    (hp : p.val = t.val / 2 * 1664 + i.val) (hq : q.val = j.val) :
    iblk m c 2 t (ix2 i j) = m (c.tc.loc main_arg2) (ix2 p q) := by
  have := (idx t).1
  have h0 : t.val / 2 * 1664 + i.val < 8320 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x2816 .bf16) (b : Vec Ideal S1024x5632 .f32) (r : Vec Ideal S8320x1024 .f32) : Vec Ideal S8320x1024 .f32 := fun z =>
  (r z : EReal) + dot (fun l : Fin 2816 => a (ix2 (z 0) l)) fun l : Fin 2816 => b (ix2 (z 1) (⟨2816 + l.val, by omega⟩ : Fin 5632))

/-- Where the array holds an entry of the block that a point writes. -/
theorem emb (t : Fin cfg0.N) (z : S1664x1024.Idx) : (((cfg0.win 3).blk t).view.emb z 0).val = t.val / 2 * 1664 + (z 0).val
    ∧ (((cfg0.win 3).blk t).view.emb z 1).val = (z 1).val := by
  constructor
  · show win0_3.index t 0 * 1664 + 1 * (z 0).val = _
    simp only [(idx t).2.2.2.2, Matrix.cons_val_zero, Matrix.cons_val_one, one_mul, zero_mul, zero_add]
  · show win0_3.index t 1 * 1024 + 1 * (z 1).val = _
    simp only [(idx t).2.2.2.2, Matrix.cons_val_zero, Matrix.cons_val_one, one_mul, zero_mul, zero_add]

theorem arr : (dats m 0 c).arrAt 3 cfg0.N = res (m (c.tc.loc main_arg0)) (m (c.tc.loc main_arg1)) (m (c.tc.loc main_arg2)) := by
  refine (dats m 0 c).arrAt_eq_of_covers 3 _ (by decide +kernel) fun t hf z => ?_
  have := (idx t).1
  obtain ⟨e0, e1⟩ := emb t z
  rw [after0_3]
  refine acc_dot (fun n h => outsAt0 m c n h) 2 (fun t z => iblk m c 2 t (ix2 (z 0) (z 1)))
    (fun t z k => iblk m c 0 t (ix2 (z 0) k)) (fun t z k => iblk m c 1 t (ix2 (z 1) k))
    (fun t h z => ?_) (fun t h z => ?_) t ((flush0_3 t).mp hf) z (L := 2816) rfl (fun p hp => ?_) (fun p s k h hp => ?_) (fun p s k h hp => ?_)
  · rw [outsAt0_A m c t h (by have := (idx t).1; omega)]
    frame_out
    exact (first_val _ _ _ z).trans (congrArg (fun u => (u : EReal) + _) (congrArg _ (eq_ix2 z)))
  · rw [outsAt0_B m c t h (by have := (idx t).1; omega)]
    frame_out
    exact next_val _ _ _ z
  · exact (iblk2 p _ _ _ _ (e0.trans (by rw [show p.val / 2 = t.val / 2 by omega])) e1).trans (congrArg _ (eq_ix2 _).symm)
  · exact iblk0 p _ k _ _ (e0.trans (by rw [show p.val / 2 = t.val / 2 by omega])) (by dsimp only; omega)
  · exact (iblk1 p _ k _ _ e1 (by dsimp only; omega)).trans (weight _ _)

theorem algebraic : Cert.algebraic_KernelDU2vIdeal_ReferenceDU2vIdeal (hKernelDU2vIdeal := Cert.KernelDU2vIdeal.Gen.facts)
    (hReferenceDU2vIdeal := Cert.ReferenceDU2vIdeal.Gen.facts) := by
  intro m g m' g' _ hagree
  refine ⟨fun c => res (m (c.tc.loc main_arg0)) (m (c.tc.loc main_arg1)) (m (c.tc.loc main_arg2)), ?_, ?_⟩
  · exact (θ_run defs _ _).mono (fun r h c => ⟨(h c).1.trans arr, (h c).2⟩) (Cert.KernelDU2vIdeal.Value.run_blocks (F := Ideal) m g)
  · refine (θ_run Cert.ReferenceDU2vIdeal.defs _ _).mono (fun r h c => ⟨(h c).1.trans (funext fun z => ?_), (h c).2⟩) (Cert.ReferenceDU2vIdeal.Value.run (F := Ideal) m' g')
    obtain ⟨i, j, rfl⟩ : ∃ (i : Fin 8320) (j : Fin 1024), z = ix2 i j := ⟨_, _, eq_ix2 z⟩
    rw [(hagree c).1, (hagree c).2.1, (hagree c).2.2]
    clean_types
    pointwise
    rfl

end Cert.DU2v
-- ==== Proof.DAct.lean ====
/-
  The gradient of the feed-forward block's activations: rows by the second weights' rows.
-/
module

public import proofs.«01_k».proof.Proof.Product
public import proofs.«01_k».proof.Proof.Gen.KernelDActIdeal.Value
public import proofs.«01_k».proof.Proof.Gen.ReferenceDActIdeal.Run
public import proofs.«01_k».proof.Defs
public import Idealize.ShloMosaic.Lib.StableHlo.ReadAt

@[expose] public section

set_option maxRecDepth 16384

noncomputable section

namespace Cert.DAct

open Cert.KernelDActIdeal Cert.KernelDActIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val / 2, 0] ∧ win0_1.index t = ![t.val % 2, 0]
    ∧ win0_2.index t = ![t.val / 2, t.val % 2] := by decide +kernel

/-- What one point computes of its blocks. -/
def part (x : Vec Ideal S1664x1024 .f32) (y : Vec Ideal S1408x1024 .bf16) (z : S1664x1408.Idx) : EReal :=
  dot (fun k : Fin 1024 => x (ix2 (z 0) k)) fun k => y (ix2 (z 1) k)

theorem first_val (x : Vec Ideal S1664x1024 .f32) (y : Vec Ideal S1408x1024 .bf16) (z : S1664x1408.Idx) :
    k0_pay1 (F := Ideal) x y z = (0 + part x y z : EReal) := by
  obtain ⟨i, j, rfl⟩ : ∃ (i : Fin 1664) (j : Fin 1408), z = ix2 i j := ⟨_, _, eq_ix2 z⟩
  unfold k0_pay1
  clean_types
  pointwise
  rfl

/-- The weights, as the blocks are read from them. -/
theorem weight (l : Fin 2816) (r : Fin 1024) : V m c main_v0 (ix2 l r) = (m (c.tc.loc main_arg1) (ix2 l (r)) : EReal) := by
  unfold Gen.V
  after_reads_at

theorem iblk0 (t : Fin cfg0.N) (i : Fin 1664) (k : Fin 1024) (p : Fin 8320) (q : Fin 1024)
    (hp : p.val = t.val / 2 * 1664 + i.val) (hq : q.val = k.val) :
    iblk m c 0 t (ix2 i k) = m (c.tc.loc main_arg0) (ix2 p q) := by
  have := (idx t).1
  have h0 : t.val / 2 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1408) (j : Fin 1024) (p : Fin 2816) (q : Fin 1024)
    (hp : p.val = t.val % 2 * 1408 + k.val) (hq : q.val = j.val) :
    iblk m c 1 t (ix2 k j) = V m c main_v0 (ix2 p q) := by
  have := (idx t).1
  have h0 : t.val % 2 * 1408 + k.val < 2816 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x1024 .f32) (b : Vec Ideal S2816x1024 .f32) : Vec Ideal S8320x2816 .f32 := fun z =>
  dot (fun l : Fin 1024 => a (ix2 (z 0) l)) fun l : Fin 1024 => b (ix2 (z 1) l)

/-- Where the array holds an entry of the block that a point writes. -/
theorem emb (t : Fin cfg0.N) (z : S1664x1408.Idx) : (((cfg0.win 2).blk t).view.emb z 0).val = t.val / 2 * 1664 + (z 0).val
    ∧ (((cfg0.win 2).blk t).view.emb z 1).val = t.val % 2 * 1408 + (z 1).val := by
  constructor
  · show win0_2.index t 0 * 1664 + 1 * (z 0).val = _
    simp only [(idx t).2.2.2, Matrix.cons_val_zero, Matrix.cons_val_one, one_mul, zero_mul, zero_add]
  · show win0_2.index t 1 * 1408 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  unfold out0_2
  frame_out
  refine (first_val _ _ z).trans ((zero_add _).trans (dot_congr (fun k => ?_) fun k => ?_))
  · exact iblk0 t _ k _ _ e0 rfl
  · exact (iblk1 t _ k _ _ e1 rfl).trans (weight _ _)

theorem algebraic : Cert.algebraic_KernelDActIdeal_ReferenceDActIdeal (hKernelDActIdeal := Cert.KernelDActIdeal.Gen.facts)
    (hReferenceDActIdeal := Cert.ReferenceDActIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelDActIdeal.Value.run_blocks (F := Ideal) m g)
  · refine (θ_run Cert.ReferenceDActIdeal.defs _ _).mono (fun r h c => ⟨(h c).1.trans (funext fun z => ?_), (h c).2⟩) (Cert.ReferenceDActIdeal.Value.run (F := Ideal) m' g')
    obtain ⟨i, j, rfl⟩ : ∃ (i : Fin 8320) (j : Fin 2816), z = ix2 i j := ⟨_, _, eq_ix2 z⟩
    rw [(hagree c).1, (hagree c).2]
    clean_types
    pointwise
    rfl

end Cert.DAct
-- ==== Proof.GDown.lean ====
/-
  The gradient of the feed-forward block's second weights: rows transposed by rows, accumulated over five blocks of rows,
  against one contraction over all rows.
-/
module

public import proofs.«01_k».proof.Proof.Product
public import proofs.«01_k».proof.Proof.Gen.KernelGDownIdeal.Value
public import proofs.«01_k».proof.Proof.Gen.ReferenceGDownIdeal.Run
public import proofs.«01_k».proof.Defs

@[expose] public section

set_option maxRecDepth 16384

noncomputable section

namespace Cert.GDown

open Cert.KernelGDownIdeal Cert.KernelGDownIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val % 5, t.val / 5] ∧ win0_1.index t = ![t.val % 5, 0]
    ∧ win0_2.index t = ![t.val / 5, 0] := by decide +kernel

/-- What one point computes of its blocks. -/
def part (x : Vec Ideal S1664x1408 .bf16) (y : Vec Ideal S1664x1024 .f32) (z : S1408x1024.Idx) : EReal :=
  dot (fun k : Fin 1664 => x (ix2 k (z 0))) fun k => y (ix2 k (z 1))

theorem first_val (x : Vec Ideal S1664x1408 .bf16) (y : Vec Ideal S1664x1024 .f32) (z : S1408x1024.Idx) :
    k0_pay1 (F := Ideal) x y z = (0 + part x y z : EReal) := by
  obtain ⟨i, j, rfl⟩ : ∃ (i : Fin 1408) (j : Fin 1024), z = ix2 i j := ⟨_, _, eq_ix2 z⟩
  unfold k0_pay1
  clean_types
  pointwise
  rfl

theorem next_val (a : Vec Ideal S1408x1024 .f32) (x : Vec Ideal S1664x1408 .bf16) (y : Vec Ideal S1664x1024 .f32) (z : S1408x1024.Idx) :
    k0_pay2 (F := Ideal) a x y z = ((a z : EReal) + part x y z : EReal) := by
  obtain ⟨i, j, rfl⟩ : ∃ (i : Fin 1408) (j : Fin 1024), z = ix2 i j := ⟨_, _, eq_ix2 z⟩
  unfold k0_pay2
  clean_types
  pointwise
  rfl

theorem iblk0 (t : Fin cfg0.N) (i : Fin 1664) (k : Fin 1408) (p : Fin 8320) (q : Fin 2816)
    (hp : p.val = t.val % 5 * 1664 + i.val) (hq : q.val = t.val / 5 * 1408 + k.val) :
    iblk m c 0 t (ix2 i k) = m (c.tc.loc main_arg0) (ix2 p q) := by
  have := (idx t).1
  have h0 : t.val % 5 * 1664 + i.val < 8320 := by omega
  have h1 : t.val / 5 * 1408 + k.val < 2816 := by omega
  obtain rfl : p = ⟨_, h0⟩ := Fin.ext hp
  obtain rfl : q = ⟨_, h1⟩ := Fin.ext hq
  blk_ext [iblk, idx t]

theorem iblk1 (t : Fin cfg0.N) (k : Fin 1664) (j : Fin 1024) (p : Fin 8320) (q : Fin 1024)
    (hp : p.val = t.val % 5 * 1664 + k.val) (hq : q.val = j.val) :
    iblk m c 1 t (ix2 k j) = m (c.tc.loc main_arg1) (ix2 p q) := by
  have := (idx t).1
  have h0 : t.val % 5 * 1664 + k.val < 8320 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x2816 .bf16) (b : Vec Ideal S8320x1024 .f32) : Vec Ideal S2816x1024 .f32 := fun z =>
  dot (fun l : Fin 8320 => a (ix2 l (z 0))) fun l : Fin 8320 => b (ix2 l (z 1))

/-- Where the array holds an entry of the block that a point writes. -/
theorem emb (t : Fin cfg0.N) (z : S1408x1024.Idx) : (((cfg0.win 2).blk t).view.emb z 0).val = t.val / 5 * 1408 + (z 0).val
    ∧ (((cfg0.win 2).blk t).view.emb z 1).val = (z 1).val := by
  constructor
  · show win0_2.index t 0 * 1408 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  refine (acc_dot (fun n h => outsAt0 m c n h) 5 (fun _ _ => 0)
    (fun t z k => iblk m c 0 t (ix2 k (z 0))) (fun t z k => iblk m c 1 t (ix2 k (z 1)))
    (fun t h z => ?_) (fun t h z => ?_) t ((flush0_2 t).mp hf) z (L := 8320) rfl (fun _ _ => rfl) (fun p s k h hp => ?_) (fun p s k h hp => ?_)).trans (zero_add _)
  · rw [outsAt0_A m c t h (by have := (idx t).1; omega)]
    frame_out
    exact first_val _ _ z
  · rw [outsAt0_B m c t h (by have := (idx t).1; omega)]
    frame_out
    exact next_val _ _ _ z
  · exact iblk0 p k _ _ _ (by dsimp only; omega) (e0.trans (by rw [show p.val / 5 = t.val / 5 by omega]))
  · exact iblk1 p k _ _ _ (by dsimp only; omega) e1

theorem algebraic : Cert.algebraic_KernelGDownIdeal_ReferenceGDownIdeal (hKernelGDownIdeal := Cert.KernelGDownIdeal.Gen.facts)
    (hReferenceGDownIdeal := Cert.ReferenceGDownIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelGDownIdeal.Value.run_blocks (F := Ideal) m g)
  · refine (θ_run Cert.ReferenceGDownIdeal.defs _ _).mono (fun r h c => ⟨(h c).1.trans (funext fun z => ?_), (h c).2⟩) (Cert.ReferenceGDownIdeal.Value.run (F := Ideal) m' g')
    obtain ⟨i, j, rfl⟩ : ∃ (i : Fin 2816) (j : Fin 1024), z = ix2 i j := ⟨_, _, eq_ix2 z⟩
    rw [(hagree c).1, (hagree c).2]
    clean_types
    pointwise
    exact dot_comm _ _

end Cert.GDown
-- ==== Proof.DY.lean ====
/-
  The gradient of a branch's rows: rows by the branch's weights' rows.
-/
module

public import proofs.«01_k».proof.Proof.Product
public import proofs.«01_k».proof.Proof.Gen.KernelDYIdeal.Value
public import proofs.«01_k».proof.Proof.Gen.ReferenceDYIdeal.Run
public import proofs.«01_k».proof.Defs
public import Idealize.ShloMosaic.Lib.StableHlo.ReadAt

@[expose] public section

set_option maxRecDepth 16384

noncomputable section

namespace Cert.DY

open Cert.KernelDYIdeal Cert.KernelDYIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val / 2, 0] ∧ win0_1.index t = ![t.val % 2, 0]
    ∧ win0_2.index t = ![t.val / 2, t.val % 2] := by decide +kernel

/-- What one point computes of its blocks. -/
def part (x : Vec Ideal S1664x1024 .bf16) (y : Vec Ideal S1024x1024 .bf16) (z : S1664x1024.Idx) : EReal :=
  dot (fun k : Fin 1024 => x (ix2 (z 0) k)) fun k => y (ix2 (z 1) k)

theorem first_val (x : Vec Ideal S1664x1024 .bf16) (y : Vec Ideal S1024x1024 .bf16) (z : S1664x1024.Idx) :
    k0_pay1 (F := Ideal) x y z = (0 + part x y z : EReal) := by
  obtain ⟨i, j, rfl⟩ : ∃ (i : Fin 1664) (j : Fin 1024), z = ix2 i j := ⟨_, _, eq_ix2 z⟩
  unfold k0_pay1
  clean_types
  pointwise
  rfl

/-- The weights, as the blocks are read from them. -/
theorem weight (l : Fin 2048) (r : Fin 1024) : V m c main_v0 (ix2 l r) = (m (c.tc.loc main_arg1) (ix2 l (r)) : EReal) := by
  unfold Gen.V
  after_reads_at

theorem iblk0 (t : Fin cfg0.N) (i : Fin 1664) (k : Fin 1024) (p : Fin 8320) (q : Fin 1024)
    (hp : p.val = t.val / 2 * 1664 + i.val) (hq : q.val = k.val) :
    iblk m c 0 t (ix2 i k) = m (c.tc.loc main_arg0) (ix2 p q) := by
  have := (idx t).1
  have h0 : t.val / 2 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1024) (j : Fin 1024) (p : Fin 2048) (q : Fin 1024)
    (hp : p.val = t.val % 2 * 1024 + k.val) (hq : q.val = j.val) :
    iblk m c 1 t (ix2 k j) = V m c main_v0 (ix2 p q) := by
  have := (idx t).1
  have h0 : t.val % 2 * 1024 + k.val < 2048 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S2048x1024 .f32) : Vec Ideal S8320x2048 .f32 := fun z =>
  dot (fun l : Fin 1024 => a (ix2 (z 0) l)) fun l : Fin 1024 => b (ix2 (z 1) l)

/-- Where the array holds an entry of the block that a point writes. -/
theorem emb (t : Fin cfg0.N) (z : S1664x1024.Idx) : (((cfg0.win 2).blk t).view.emb z 0).val = t.val / 2 * 1664 + (z 0).val
    ∧ (((cfg0.win 2).blk t).view.emb z 1).val = t.val % 2 * 1024 + (z 1).val := by
  constructor
  · show win0_2.index t 0 * 1664 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  unfold out0_2
  frame_out
  refine (first_val _ _ z).trans ((zero_add _).trans (dot_congr (fun k => ?_) fun k => ?_))
  · exact iblk0 t _ k _ _ e0 rfl
  · exact (iblk1 t _ k _ _ e1 rfl).trans (weight _ _)

theorem algebraic : Cert.algebraic_KernelDYIdeal_ReferenceDYIdeal (hKernelDYIdeal := Cert.KernelDYIdeal.Gen.facts)
    (hReferenceDYIdeal := Cert.ReferenceDYIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelDYIdeal.Value.run_blocks (F := Ideal) m g)
  · refine (θ_run Cert.ReferenceDYIdeal.defs _ _).mono (fun r h c => ⟨(h c).1.trans (funext fun z => ?_), (h c).2⟩) (Cert.ReferenceDYIdeal.Value.run (F := Ideal) m' g')
    obtain ⟨i, j, rfl⟩ : ∃ (i : Fin 8320) (j : Fin 2048), z = ix2 i j := ⟨_, _, eq_ix2 z⟩
    rw [(hagree c).1, (hagree c).2]
    clean_types
    pointwise
    rfl

end Cert.DY
-- ==== Proof.GBranch.lean ====
/-
  The gradient of a branch's output weights: rows transposed by rows, accumulated over five blocks of rows, against one
  contraction over all rows.
-/
module

public import proofs.«01_k».proof.Proof.Product
public import proofs.«01_k».proof.Proof.Gen.KernelGBranchIdeal.Value
public import proofs.«01_k».proof.Proof.Gen.ReferenceGBranchIdeal.Run
public import proofs.«01_k».proof.Defs

@[expose] public section

set_option maxRecDepth 16384

noncomputable section

namespace Cert.GBranch

open Cert.KernelGBranchIdeal Cert.KernelGBranchIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val % 5, t.val / 5] ∧ win0_1.index t = ![t.val % 5, 0]
    ∧ win0_2.index t = ![t.val / 5, 0] := by decide +kernel

/-- What one point computes of its blocks. -/
def part (x : Vec Ideal S1664x1024 .bf16) (y : Vec Ideal S1664x1024 .bf16) (z : S1024x1024.Idx) : EReal :=
  dot (fun k : Fin 1664 => x (ix2 k (z 0))) fun k => y (ix2 k (z 1))

theorem first_val (x : Vec Ideal S1664x1024 .bf16) (y : Vec Ideal S1664x1024 .bf16) (z : S1024x1024.Idx) :
    k0_pay1 (F := Ideal) x y z = (0 + part x y z : EReal) := by
  obtain ⟨i, j, rfl⟩ : ∃ (i : Fin 1024) (j : Fin 1024), z = ix2 i j := ⟨_, _, eq_ix2 z⟩
  unfold k0_pay1
  clean_types
  pointwise
  rfl

theorem next_val (a : Vec Ideal S1024x1024 .f32) (x : Vec Ideal S1664x1024 .bf16) (y : Vec Ideal S1664x1024 .bf16) (z : S1024x1024.Idx) :
    k0_pay2 (F := Ideal) a x y z = ((a z : EReal) + part x y z : EReal) := by
  obtain ⟨i, j, rfl⟩ : ∃ (i : Fin 1024) (j : Fin 1024), z = ix2 i j := ⟨_, _, eq_ix2 z⟩
  unfold k0_pay2
  clean_types
  pointwise
  rfl

theorem iblk0 (t : Fin cfg0.N) (i : Fin 1664) (k : Fin 1024) (p : Fin 8320) (q : Fin 2048)
    (hp : p.val = t.val % 5 * 1664 + i.val) (hq : q.val = t.val / 5 * 1024 + k.val) :
    iblk m c 0 t (ix2 i k) = m (c.tc.loc main_arg0) (ix2 p q) := by
  have := (idx t).1
  have h0 : t.val % 5 * 1664 + i.val < 8320 := by omega
  have h1 : t.val / 5 * 1024 + k.val < 2048 := by omega
  obtain rfl : p = ⟨_, h0⟩ := Fin.ext hp
  obtain rfl : q = ⟨_, h1⟩ := Fin.ext hq
  blk_ext [iblk, idx t]

theorem iblk1 (t : Fin cfg0.N) (k : Fin 1664) (j : Fin 1024) (p : Fin 8320) (q : Fin 1024)
    (hp : p.val = t.val % 5 * 1664 + k.val) (hq : q.val = j.val) :
    iblk m c 1 t (ix2 k j) = m (c.tc.loc main_arg1) (ix2 p q) := by
  have := (idx t).1
  have h0 : t.val % 5 * 1664 + k.val < 8320 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x2048 .bf16) (b : Vec Ideal S8320x1024 .bf16) : Vec Ideal S2048x1024 .f32 := fun z =>
  dot (fun l : Fin 8320 => a (ix2 l (z 0))) fun l : Fin 8320 => b (ix2 l (z 1))

/-- Where the array holds an entry of the block that a point writes. -/
theorem emb (t : Fin cfg0.N) (z : S1024x1024.Idx) : (((cfg0.win 2).blk t).view.emb z 0).val = t.val / 5 * 1024 + (z 0).val
    ∧ (((cfg0.win 2).blk t).view.emb z 1).val = (z 1).val := by
  constructor
  · show win0_2.index t 0 * 1024 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  refine (acc_dot (fun n h => outsAt0 m c n h) 5 (fun _ _ => 0)
    (fun t z k => iblk m c 0 t (ix2 k (z 0))) (fun t z k => iblk m c 1 t (ix2 k (z 1)))
    (fun t h z => ?_) (fun t h z => ?_) t ((flush0_2 t).mp hf) z (L := 8320) rfl (fun _ _ => rfl) (fun p s k h hp => ?_) (fun p s k h hp => ?_)).trans (zero_add _)
  · rw [outsAt0_A m c t h (by have := (idx t).1; omega)]
    frame_out
    exact first_val _ _ z
  · rw [outsAt0_B m c t h (by have := (idx t).1; omega)]
    frame_out
    exact next_val _ _ _ z
  · exact iblk0 p k _ _ _ (by dsimp only; omega) (e0.trans (by rw [show p.val / 5 = t.val / 5 by omega]))
  · exact iblk1 p k _ _ _ (by dsimp only; omega) e1

theorem algebraic : Cert.algebraic_KernelGBranchIdeal_ReferenceGBranchIdeal (hKernelGBranchIdeal := Cert.KernelGBranchIdeal.Gen.facts)
    (hReferenceGBranchIdeal := Cert.ReferenceGBranchIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelGBranchIdeal.Value.run_blocks (F := Ideal) m g)
  · refine (θ_run Cert.ReferenceGBranchIdeal.defs _ _).mono (fun r h c => ⟨(h c).1.trans (funext fun z => ?_), (h c).2⟩) (Cert.ReferenceGBranchIdeal.Value.run (F := Ideal) m' g')
    obtain ⟨i, j, rfl⟩ : ∃ (i : Fin 2048) (j : Fin 1024), z = ix2 i j := ⟨_, _, eq_ix2 z⟩
    rw [(hagree c).1, (hagree c).2]
    clean_types
    pointwise
    exact dot_comm _ _

end Cert.GBranch
-- ==== Proof.DMerged.lean ====
/-
  The gradient of the merged rows: rows by the weights' rows.
-/
module

public import proofs.«01_k».proof.Proof.Product
public import proofs.«01_k».proof.Proof.Gen.KernelDMergedIdeal.Value
public import proofs.«01_k».proof.Proof.Gen.ReferenceDMergedIdeal.Run
public import proofs.«01_k».proof.Defs
public import Idealize.ShloMosaic.Lib.StableHlo.ReadAt

@[expose] public section

set_option maxRecDepth 16384

noncomputable section

namespace Cert.DMerged

open Cert.KernelDMergedIdeal Cert.KernelDMergedIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 5 ∧ win0_0.index t = ![t.val, 0] ∧ win0_1.index t = ![0, 0]
    ∧ win0_2.index t = ![t.val, 0] := by decide +kernel

/-- What one point computes of its blocks. -/
def part (x : Vec Ideal S1664x1024 .f32) (y : Vec Ideal S1024x1024 .bf16) (z : S1664x1024.Idx) : EReal :=
  dot (fun k : Fin 1024 => x (ix2 (z 0) k)) fun k => y (ix2 (z 1) k)

theorem first_val (x : Vec Ideal S1664x1024 .f32) (y : Vec Ideal S1024x1024 .bf16) (z : S1664x1024.Idx) :
    k0_pay1 (F := Ideal) x y z = (0 + part x y z : EReal) := by
  obtain ⟨i, j, rfl⟩ : ∃ (i : Fin 1664) (j : Fin 1024), z = ix2 i j := ⟨_, _, eq_ix2 z⟩
  unfold k0_pay1
  clean_types
  pointwise
  rfl

/-- The weights, as the blocks are read from them. -/
theorem weight (l : Fin 1024) (r : Fin 1024) : V m c main_v0 (ix2 l r) = (m (c.tc.loc main_arg1) (ix2 l (r)) : EReal) := by
  unfold Gen.V
  after_reads_at

theorem iblk0 (t : Fin cfg0.N) (i : Fin 1664) (k : Fin 1024) (p : Fin 8320) (q : Fin 1024)
    (hp : p.val = t.val * 1664 + i.val) (hq : q.val = k.val) :
    iblk m c 0 t (ix2 i k) = m (c.tc.loc main_arg0) (ix2 p q) := by
  have := (idx t).1
  have h0 : t.val * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1024) (j : Fin 1024) (p : Fin 1024) (q : Fin 1024)
    (hp : p.val = k.val) (hq : q.val = j.val) :
    iblk m c 1 t (ix2 k j) = V m c main_v0 (ix2 p q) := by
  have := (idx t).1
  have h0 : k.val < 1024 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x1024 .f32) (b : Vec Ideal S1024x1024 .f32) : Vec Ideal S8320x1024 .f32 := fun z =>
  dot (fun l : Fin 1024 => a (ix2 (z 0) l)) fun l : Fin 1024 => b (ix2 (z 1) l)

/-- Where the array holds an entry of the block that a point writes. -/
theorem emb (t : Fin cfg0.N) (z : S1664x1024.Idx) : (((cfg0.win 2).blk t).view.emb z 0).val = t.val * 1664 + (z 0).val
    ∧ (((cfg0.win 2).blk t).view.emb z 1).val = (z 1).val := by
  constructor
  · show win0_2.index t 0 * 1664 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  unfold out0_2
  frame_out
  refine (first_val _ _ z).trans ((zero_add _).trans (dot_congr (fun k => ?_) fun k => ?_))
  · exact iblk0 t _ k _ _ e0 rfl
  · exact (iblk1 t _ k _ _ e1 rfl).trans (weight _ _)

theorem algebraic : Cert.algebraic_KernelDMergedIdeal_ReferenceDMergedIdeal (hKernelDMergedIdeal := Cert.KernelDMergedIdeal.Gen.facts)
    (hReferenceDMergedIdeal := Cert.ReferenceDMergedIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelDMergedIdeal.Value.run_blocks (F := Ideal) m g)
  · refine (θ_run Cert.ReferenceDMergedIdeal.defs _ _).mono (fun r h c => ⟨(h c).1.trans (funext fun z => ?_), (h c).2⟩) (Cert.ReferenceDMergedIdeal.Value.run (F := Ideal) m' g')
    obtain ⟨i, j, rfl⟩ : ∃ (i : Fin 8320) (j : Fin 1024), z = ix2 i j := ⟨_, _, eq_ix2 z⟩
    rw [(hagree c).1, (hagree c).2]
    clean_types
    pointwise
    rfl

end Cert.DMerged
-- ==== Proof.GOut.lean ====
/-
  The gradient of the merged rows' weights: rows transposed by rows, accumulated over five blocks of rows, against one
  contraction over all rows.
-/
module

public import proofs.«01_k».proof.Proof.Product
public import proofs.«01_k».proof.Proof.Gen.KernelGOutIdeal.Value
public import proofs.«01_k».proof.Proof.Gen.ReferenceGOutIdeal.Run
public import proofs.«01_k».proof.Defs

@[expose] public section

set_option maxRecDepth 16384

noncomputable section

namespace Cert.GOut

open Cert.KernelGOutIdeal Cert.KernelGOutIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 5 ∧ win0_0.index t = ![t.val % 5, 0] ∧ win0_1.index t = ![t.val % 5, 0]
    ∧ win0_2.index t = ![0, 0] := by decide +kernel

/-- What one point computes of its blocks. -/
def part (x : Vec Ideal S1664x1024 .bf16) (y : Vec Ideal S1664x1024 .f32) (z : S1024x1024.Idx) : EReal :=
  dot (fun k : Fin 1664 => x (ix2 k (z 0))) fun k => y (ix2 k (z 1))

theorem first_val (x : Vec Ideal S1664x1024 .bf16) (y : Vec Ideal S1664x1024 .f32) (z : S1024x1024.Idx) :
    k0_pay1 (F := Ideal) x y z = (0 + part x y z : EReal) := by
  obtain ⟨i, j, rfl⟩ : ∃ (i : Fin 1024) (j : Fin 1024), z = ix2 i j := ⟨_, _, eq_ix2 z⟩
  unfold k0_pay1
  clean_types
  pointwise
  rfl

theorem next_val (a : Vec Ideal S1024x1024 .f32) (x : Vec Ideal S1664x1024 .bf16) (y : Vec Ideal S1664x1024 .f32) (z : S1024x1024.Idx) :
    k0_pay2 (F := Ideal) a x y z = ((a z : EReal) + part x y z : EReal) := by
  obtain ⟨i, j, rfl⟩ : ∃ (i : Fin 1024) (j : Fin 1024), z = ix2 i j := ⟨_, _, eq_ix2 z⟩
  unfold k0_pay2
  clean_types
  pointwise
  rfl

theorem iblk0 (t : Fin cfg0.N) (i : Fin 1664) (k : Fin 1024) (p : Fin 8320) (q : Fin 1024)
    (hp : p.val = t.val % 5 * 1664 + i.val) (hq : q.val = k.val) :
    iblk m c 0 t (ix2 i k) = m (c.tc.loc main_arg0) (ix2 p q) := by
  have := (idx t).1
  have h0 : t.val % 5 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1664) (j : Fin 1024) (p : Fin 8320) (q : Fin 1024)
    (hp : p.val = t.val % 5 * 1664 + k.val) (hq : q.val = j.val) :
    iblk m c 1 t (ix2 k j) = m (c.tc.loc main_arg1) (ix2 p q) := by
  have := (idx t).1
  have h0 : t.val % 5 * 1664 + k.val < 8320 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S8320x1024 .f32) : Vec Ideal S1024x1024 .f32 := fun z =>
  dot (fun l : Fin 8320 => a (ix2 l (z 0))) fun l : Fin 8320 => b (ix2 l (z 1))

/-- Where the array holds an entry of the block that a point writes. -/
theorem emb (t : Fin cfg0.N) (z : S1024x1024.Idx) : (((cfg0.win 2).blk t).view.emb z 0).val = (z 0).val
    ∧ (((cfg0.win 2).blk t).view.emb z 1).val = (z 1).val := by
  constructor
  · show win0_2.index t 0 * 1024 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  refine (acc_dot (fun n h => outsAt0 m c n h) 5 (fun _ _ => 0)
    (fun t z k => iblk m c 0 t (ix2 k (z 0))) (fun t z k => iblk m c 1 t (ix2 k (z 1)))
    (fun t h z => ?_) (fun t h z => ?_) t ((flush0_2 t).mp hf) z (L := 8320) rfl (fun _ _ => rfl) (fun p s k h hp => ?_) (fun p s k h hp => ?_)).trans (zero_add _)
  · rw [outsAt0_A m c t h (by have := (idx t).1; omega)]
    frame_out
    exact first_val _ _ z
  · rw [outsAt0_B m c t h (by have := (idx t).1; omega)]
    frame_out
    exact next_val _ _ _ z
  · exact iblk0 p k _ _ _ (by dsimp only; omega) e0
  · exact iblk1 p k _ _ _ (by dsimp only; omega) e1

theorem algebraic : Cert.algebraic_KernelGOutIdeal_ReferenceGOutIdeal (hKernelGOutIdeal := Cert.KernelGOutIdeal.Gen.facts)
    (hReferenceGOutIdeal := Cert.ReferenceGOutIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelGOutIdeal.Value.run_blocks (F := Ideal) m g)
  · refine (θ_run Cert.ReferenceGOutIdeal.defs _ _).mono (fun r h c => ⟨(h c).1.trans (funext fun z => ?_), (h c).2⟩) (Cert.ReferenceGOutIdeal.Value.run (F := Ideal) m' g')
    obtain ⟨i, j, rfl⟩ : ∃ (i : Fin 1024) (j : Fin 1024), z = ix2 i j := ⟨_, _, eq_ix2 z⟩
    rw [(hagree c).1, (hagree c).2]
    clean_types
    pointwise
    exact dot_comm _ _

end Cert.GOut
-- ==== Proof.Gate.lean ====
/-
  The gradient of the merged branches: the gates' logistics, each product's factors in the order the kernel takes them and
  in the order the derivative gives them.
-/
module

public import proofs.«01_k».proof.Proof.Product
public import proofs.«01_k».proof.Proof.Gen.KernelGateIdeal.Value
public import proofs.«01_k».proof.Proof.Gen.ReferenceGateIdeal.Run
public import proofs.«01_k».proof.Defs

@[expose] public section

set_option maxRecDepth 16384

noncomputable section

namespace Cert.Gate

open Cert.KernelGateIdeal Cert.KernelGateIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 13 ∧ win0_0.index t = ![t.val, 0] ∧ win0_1.index t = ![t.val, 0] ∧ win0_2.index t = ![t.val, 0]
    ∧ win0_3.index t = ![t.val, 0] ∧ win0_4.index t = ![t.val, 1] ∧ win0_5.index t = ![t.val, 0] ∧ win0_6.index t = ![t.val, 0]
    ∧ win0_7.index t = ![t.val, 0] := by decide +kernel

theorem pay3 (g x : Vec Ideal S640x1024 .f32) (z : S640x1024.Idx) :
    k0_pay3 (F := Ideal) g x z = ((g z : EReal) * Ideal.logistic (x z) : EReal) := by
  unfold k0_pay3 k0_pay1
  clean_types
  pointwise

theorem pay4 (g x : Vec Ideal S640x1024 .f32) (z : S640x1024.Idx) :
    k0_pay4 (F := Ideal) g x z = ((g z : EReal) * Ideal.logistic (x z) : EReal) := by
  unfold k0_pay4 k0_pay2
  clean_types
  pointwise

theorem pay5 (g x b : Vec Ideal S640x1024 .f32) (z : S640x1024.Idx) :
    k0_pay5 (F := Ideal) g x b z = ((g z : EReal) * b z * Ideal.logistic (x z) * (1 - Ideal.logistic (x z)) : EReal) := by
  unfold k0_pay5 k0_pay1
  clean_types
  pointwise

theorem pay6 (g x b : Vec Ideal S640x1024 .f32) (z : S640x1024.Idx) :
    k0_pay6 (F := Ideal) g x b z = ((g z : EReal) * b z * Ideal.logistic (x z) * (1 - Ideal.logistic (x z)) : EReal) := by
  unfold k0_pay6 k0_pay2
  clean_types
  pointwise

theorem rows (t : Fin cfg0.N) (i : Fin 640) (k : Fin 1024) (p : Fin 8320) (hp : p.val = t.val * 640 + i.val) :
    iblk m c 0 t (ix2 i k) = m (c.tc.loc main_arg0) (ix2 p k) ∧ iblk m c 1 t (ix2 i k) = m (c.tc.loc main_arg1) (ix2 p k)
    ∧ iblk m c 2 t (ix2 i k) = m (c.tc.loc main_arg2) (ix2 p k)
    ∧ iblk m c 3 t (ix2 i k) = m (c.tc.loc main_arg3) (ix2 p (⟨k.val, by omega⟩ : Fin 2048))
    ∧ iblk m c 4 t (ix2 i k) = m (c.tc.loc main_arg3) (ix2 p (⟨1024 + k.val, by omega⟩ : Fin 2048)) := by
  have := (idx t).1
  have h0 : t.val * 640 + i.val < 8320 := by omega
  obtain rfl : p = ⟨_, h0⟩ := Fin.ext hp
  refine ⟨?_, ?_, ?_, ?_, ?_⟩
  all_goals blk_ext [iblk, idx t]

/-- The gradient of a branch: the merged rows' gradient times the branch's gate, the gates' columns from `o` on. -/
def resB (o : ℕ) (ho : o ≤ 1024) (g : Vec Ideal S8320x1024 .f32) (x : Vec Ideal S8320x2048 .f32) : Vec Ideal S8320x1024 .bf16 := fun z =>
  ((g z : EReal) * Ideal.logistic (x (ix2 (z 0) (⟨o + (z 1).val, by have : (z 1).val < 1024 := (z 1).isLt; omega⟩ : Fin 2048))) : EReal)

/-- A gate's gradient. -/
def half (g b x : EReal) : EReal := g * b * (Ideal.logistic x * (1 - Ideal.logistic x))

/-- The gates' gradients, one branch's columns after the other's. -/
def resG (g b b' : Vec Ideal S8320x1024 .f32) (x : Vec Ideal S8320x2048 .f32) : Vec Ideal S8320x2048 .bf16 := fun z =>
  if h : (z 1).val < 1024 then half (g (ix2 (z 0) (⟨(z 1).val, h⟩ : Fin 1024))) (b (ix2 (z 0) (⟨(z 1).val, h⟩ : Fin 1024))) (x z)
  else half (g (ix2 (z 0) (⟨(z 1).val - 1024, by have : (z 1).val < 2048 := (z 1).isLt; omega⟩ : Fin 1024)))
    (b' (ix2 (z 0) (⟨(z 1).val - 1024, by have : (z 1).val < 2048 := (z 1).isLt; omega⟩ : Fin 1024))) (x z)

theorem resG_lo (g b b' : Vec Ideal S8320x1024 .f32) (x : Vec Ideal S8320x2048 .f32) (p : Fin 8320) (k : Fin 1024) (q : Fin 2048) (h : q.val = k.val) :
    resG g b b' x (ix2 p q) = half (g (ix2 p k)) (b (ix2 p k)) (x (ix2 p q)) := by
  have hq : q.val < 1024 := by omega
  obtain rfl : k = ⟨q.val, hq⟩ := Fin.ext h.symm
  exact dif_pos (show ((ix2 p q : S8320x2048.Idx) 1).val < 1024 by show q.val < 1024; omega)

theorem resG_hi (g b b' : Vec Ideal S8320x1024 .f32) (x : Vec Ideal S8320x2048 .f32) (p : Fin 8320) (k : Fin 1024) (q : Fin 2048) (h : q.val = 1024 + k.val) :
    resG g b b' x (ix2 p q) = half (g (ix2 p k)) (b' (ix2 p k)) (x (ix2 p q)) := by
  have hq : q.val - 1024 < 1024 := by omega
  obtain rfl : k = ⟨q.val - 1024, hq⟩ := Fin.ext (by dsimp only; omega)
  exact dif_neg (show ¬ ((ix2 p q : S8320x2048.Idx) 1).val < 1024 by show ¬ q.val < 1024; omega)

/-- A table of the third output's block. -/
def tab (G : Fin 640 → Fin 2048 → EReal) : S640x2048.Idx → Elt Ideal .bf16 := fun y => (G (y 0) (y 1) : EReal)

/-- A block's row in the array. -/
def row (t : Fin cfg0.N) (p : Fin 640) : Fin 8320 := ⟨t.val * 640 + p.val, by have := (idx t).1; omega⟩

/-- The two stores of the third output, read at one entry. -/
theorem out7_val (x0 x1 x2 x3 x4 : Vec Ideal S640x1024 .f32) (G : Fin 640 → Fin 2048 → EReal)
    (lo : ∀ p (k : Fin 1024) (q : Fin 2048), q.val = k.val → k0_pay5 (F := Ideal) x0 x3 x1 (ix2 p k) = G p q)
    (hi : ∀ p (k : Fin 1024) (q : Fin 2048), q.val = 1024 + k.val → k0_pay6 (F := Ideal) x0 x4 x2 (ix2 p k) = G p q) (z : S640x2048.Idx) :
    out0_7 (F := Ideal) x0 x1 x2 x3 x4 z = G (z 0) (z 1) := by
  unfold out0_7
  frame_out
  refine View.canon_apply_of_pieces (Val := Elt Ideal) (e := .bf16) (tab G) _ ?_ z ?_
  · refine View.PiecesOf.mem (Val := Elt Ideal) (e := .bf16) (G := tab G) ⟨fun x => ?_, fun x => ?_, trivial⟩
    · obtain ⟨p, k, rfl⟩ : ∃ (p : Fin 640) (k : Fin 1024), x = ix2 p k := ⟨_, _, eq_ix2 x⟩
      refine (hi p k ⟨1024 + k.val, by omega⟩ rfl).trans (congrArg₂ G (Fin.ext ?_) (Fin.ext ?_))
      · show p.val = 0 + 1 * p.val
        omega
      · show 1024 + k.val = 1024 + 1 * k.val
        omega
    · obtain ⟨p, k, rfl⟩ : ∃ (p : Fin 640) (k : Fin 1024), x = ix2 p k := ⟨_, _, eq_ix2 x⟩
      refine (lo p k ⟨k.val, by omega⟩ rfl).trans (congrArg₂ G (Fin.ext ?_) (Fin.ext ?_))
      · show p.val = 0 + 1 * p.val
        omega
      · show k.val = 0 + 1 * k.val
        omega
  · have h0 : (z 0).val < 640 := (z 0).isLt
    have h1 : (z 1).val < 2048 := (z 1).isLt
    rcases (by omega : (1024 ≤ (z 1).val ∧ (z 1).val < 2048) ∨ (0 ≤ (z 1).val ∧ (z 1).val < 1024)) with h | h
    · refine ⟨_, .head _, ?_⟩
      dsimp only
      rw [Rect.mem_set_unit]
      exact (Fin.forall_fin_two.mpr ⟨⟨Nat.zero_le _, by simpa using h0⟩, ⟨h.1, h.2⟩⟩)
    · refine ⟨_, .tail _ (.head _), ?_⟩
      dsimp only
      rw [Rect.mem_set_unit]
      exact (Fin.forall_fin_two.mpr ⟨⟨Nat.zero_le _, by simpa using h0⟩, ⟨h.1, h.2⟩⟩)

theorem emb5 (t : Fin cfg0.N) (z : S640x1024.Idx) : (((cfg0.win 5).blk t).view.emb z 0).val = t.val * 640 + (z 0).val
    ∧ (((cfg0.win 5).blk t).view.emb z 1).val = (z 1).val := by
  constructor
  · show win0_5.index t 0 * 640 + 1 * (z 0).val = _
    simp only [(idx t).2.2.2.2.2.2.1, Matrix.cons_val_zero, Matrix.cons_val_one, one_mul, zero_mul, zero_add]
  · show win0_5.index t 1 * 1024 + 1 * (z 1).val = _
    simp only [(idx t).2.2.2.2.2.2.1, Matrix.cons_val_zero, Matrix.cons_val_one, one_mul, zero_mul, zero_add]

theorem emb6 (t : Fin cfg0.N) (z : S640x1024.Idx) : (((cfg0.win 6).blk t).view.emb z 0).val = t.val * 640 + (z 0).val
    ∧ (((cfg0.win 6).blk t).view.emb z 1).val = (z 1).val := by
  constructor
  · show win0_6.index t 0 * 640 + 1 * (z 0).val = _
    simp only [(idx t).2.2.2.2.2.2.2.1, Matrix.cons_val_zero, Matrix.cons_val_one, one_mul, zero_mul, zero_add]
  · show win0_6.index t 1 * 1024 + 1 * (z 1).val = _
    simp only [(idx t).2.2.2.2.2.2.2.1, Matrix.cons_val_zero, Matrix.cons_val_one, one_mul, zero_mul, zero_add]

theorem emb7 (t : Fin cfg0.N) (z : S640x2048.Idx) : (((cfg0.win 7).blk t).view.emb z 0).val = t.val * 640 + (z 0).val
    ∧ (((cfg0.win 7).blk t).view.emb z 1).val = (z 1).val := by
  constructor
  · show win0_7.index t 0 * 640 + 1 * (z 0).val = _
    simp only [(idx t).2.2.2.2.2.2.2.2, Matrix.cons_val_zero, Matrix.cons_val_one, one_mul, zero_mul, zero_add]
  · show win0_7.index t 1 * 2048 + 1 * (z 1).val = _
    simp only [(idx t).2.2.2.2.2.2.2.2, Matrix.cons_val_zero, Matrix.cons_val_one, one_mul, zero_mul, zero_add]

theorem arr5 : (dats m 0 c).arrAt 5 cfg0.N = resB 0 (by omega) (m (c.tc.loc main_arg0)) (m (c.tc.loc main_arg3)) := by
  refine (dats m 0 c).arrAt_eq_of_covers 5 _ (by decide +kernel) fun t hf z => ?_
  obtain ⟨e0, e1⟩ := emb5 t z
  obtain ⟨i, j, rfl⟩ : ∃ (i : Fin 640) (j : Fin 1024), z = ix2 i j := ⟨_, _, eq_ix2 z⟩
  obtain ⟨r0, _, _, r3, _⟩ := rows (m := m) (c := c) t i j _ e0
  rw [after0_5]
  unfold out0_5
  frame_out
  refine (pay3 _ _ _).trans (congrArg₂ (· * ·) (r0.trans ?_) (congrArg Ideal.logistic (r3.trans ?_)))
  · exact congrArg _ ((congrArg (ix2 _) (Fin.ext e1.symm)).trans (eq_ix2 _).symm)
  · exact congrArg _ (congrArg (ix2 _) (Fin.ext ((Nat.zero_add _).trans e1).symm))

theorem arr6 : (dats m 0 c).arrAt 6 cfg0.N = resB 1024 (by omega) (m (c.tc.loc main_arg0)) (m (c.tc.loc main_arg3)) := by
  refine (dats m 0 c).arrAt_eq_of_covers 6 _ (by decide +kernel) fun t hf z => ?_
  obtain ⟨e0, e1⟩ := emb6 t z
  obtain ⟨i, j, rfl⟩ : ∃ (i : Fin 640) (j : Fin 1024), z = ix2 i j := ⟨_, _, eq_ix2 z⟩
  obtain ⟨r0, _, _, _, r4⟩ := rows (m := m) (c := c) t i j _ e0
  rw [after0_6]
  unfold out0_6
  frame_out
  refine (pay4 _ _ _).trans (congrArg₂ (· * ·) (r0.trans ?_) (congrArg Ideal.logistic (r4.trans ?_)))
  · exact congrArg _ ((congrArg (ix2 _) (Fin.ext e1.symm)).trans (eq_ix2 _).symm)
  · exact congrArg _ (congrArg (ix2 _) (Fin.ext (congrArg (1024 + ·) e1.symm)))

theorem lo (t : Fin cfg0.N) (p : Fin 640) (k : Fin 1024) (q : Fin 2048) (h : q.val = k.val) :
    k0_pay5 (F := Ideal) (iblk m c 0 t) (iblk m c 3 t) (iblk m c 1 t) (ix2 p k)
      = resG (m (c.tc.loc main_arg0)) (m (c.tc.loc main_arg1)) (m (c.tc.loc main_arg2)) (m (c.tc.loc main_arg3)) (ix2 (row t p) q) := by
  obtain ⟨r0, r1, r2, r3, r4⟩ := rows (m := m) (c := c) t p k (row t p) rfl
  refine (pay5 _ _ _ _).trans ?_
  rw [r0, r1, r3, mul_assoc, resG_lo _ _ _ _ _ k q h]
  exact congrArg (fun u => half _ _ (m (c.tc.loc main_arg3) (ix2 _ u))) (Fin.ext h.symm)

theorem hi (t : Fin cfg0.N) (p : Fin 640) (k : Fin 1024) (q : Fin 2048) (h : q.val = 1024 + k.val) :
    k0_pay6 (F := Ideal) (iblk m c 0 t) (iblk m c 4 t) (iblk m c 2 t) (ix2 p k)
      = resG (m (c.tc.loc main_arg0)) (m (c.tc.loc main_arg1)) (m (c.tc.loc main_arg2)) (m (c.tc.loc main_arg3)) (ix2 (row t p) q) := by
  obtain ⟨r0, r1, r2, r3, r4⟩ := rows (m := m) (c := c) t p k (row t p) rfl
  refine (pay6 _ _ _ _).trans ?_
  rw [r0, r2, r4, mul_assoc, resG_hi _ _ _ _ _ k q h]
  exact congrArg (fun u => half _ _ (m (c.tc.loc main_arg3) (ix2 _ u))) (Fin.ext h.symm)

theorem at7 (t : Fin cfg0.N) (z : S640x2048.Idx) :
    out0_7 (F := Ideal) (iblk m c 0 t) (iblk m c 1 t) (iblk m c 2 t) (iblk m c 3 t) (iblk m c 4 t) z
      = resG (m (c.tc.loc main_arg0)) (m (c.tc.loc main_arg1)) (m (c.tc.loc main_arg2)) (m (c.tc.loc main_arg3)) (ix2 (row t (z 0)) (z 1)) :=
  out7_val _ _ _ _ _ (fun p q => resG (m (c.tc.loc main_arg0)) (m (c.tc.loc main_arg1)) (m (c.tc.loc main_arg2)) (m (c.tc.loc main_arg3))
    (ix2 (row t p) q)) (lo t) (hi t) z

theorem arr7 : (dats m 0 c).arrAt 7 cfg0.N
    = resG (m (c.tc.loc main_arg0)) (m (c.tc.loc main_arg1)) (m (c.tc.loc main_arg2)) (m (c.tc.loc main_arg3)) := by
  refine (dats m 0 c).arrAt_eq_of_covers 7 _ (by decide +kernel) fun t hf z => ?_
  rw [after0_7, at7]
  obtain ⟨e0, e1⟩ := emb7 t z
  exact congrArg (resG (m (c.tc.loc main_arg0)) (m (c.tc.loc main_arg1)) (m (c.tc.loc main_arg2)) (m (c.tc.loc main_arg3)))
    ((congrArg₂ ix2 (Fin.ext e0.symm) (Fin.ext e1.symm)).trans (eq_ix2 (((cfg0.win 7).blk t).view.emb z)).symm)

theorem algebraic : Cert.algebraic_KernelGateIdeal_ReferenceGateIdeal (hKernelGateIdeal := Cert.KernelGateIdeal.Gen.facts)
    (hReferenceGateIdeal := Cert.ReferenceGateIdeal.Gen.facts) := by
  intro m g m' g' _ hagree
  refine ⟨fun c => resB 0 (by omega) (m (c.tc.loc main_arg0)) (m (c.tc.loc main_arg3)), fun c => resB 1024 (by omega) (m (c.tc.loc main_arg0)) (m (c.tc.loc main_arg3)),
    fun c => resG (m (c.tc.loc main_arg0)) (m (c.tc.loc main_arg1)) (m (c.tc.loc main_arg2)) (m (c.tc.loc main_arg3)), ?_, ?_⟩
  · exact (θ_run defs _ _).mono (fun r h c => ⟨(h c).1.trans arr5, (h c).2.1.trans arr6, (h c).2.2.1.trans arr7, (h c).2.2.2⟩)
      (Cert.KernelGateIdeal.Value.run_blocks (F := Ideal) m g)
  · refine (θ_run Cert.ReferenceGateIdeal.defs _ _).mono (fun r h c => ⟨(h c).1.trans (funext fun z => ?_), (h c).2.1.trans (funext fun z => ?_),
      (h c).2.2.1.trans (funext fun z => ?_), (h c).2.2.2⟩) (Cert.ReferenceGateIdeal.Value.run (F := Ideal) m' g')
    · obtain ⟨i, j, rfl⟩ : ∃ (i : Fin 8320) (j : Fin 1024), z = ix2 i j := ⟨_, _, eq_ix2 z⟩
      rw [(hagree c).1, (hagree c).2.2.2]
      clean_types
      pointwise
      exact (mul_comm _ _).trans (congrArg (fun q => _ * Ideal.logistic (m (c.tc.loc main_arg3) (ix2 i q))) (Fin.ext (Nat.zero_add j.val).symm))
    · obtain ⟨i, j, rfl⟩ : ∃ (i : Fin 8320) (j : Fin 1024), z = ix2 i j := ⟨_, _, eq_ix2 z⟩
      rw [(hagree c).1, (hagree c).2.2.2]
      clean_types
      pointwise
      exact mul_comm _ _
    · obtain ⟨i, j, rfl⟩ : ∃ (i : Fin 8320) (j : Fin 2048), z = ix2 i j := ⟨_, _, eq_ix2 z⟩
      rw [(hagree c).1, (hagree c).2.1, (hagree c).2.2.1, (hagree c).2.2.2]
      clean_types
      pointwise
      by_cases hj : j.val < 1024
      · rw [dif_pos hj]
        exact (resG_lo _ _ _ _ i ⟨j.val, hj⟩ j rfl).symm
      · rw [dif_neg hj, show (⟨1024 + (j.val - 1024), by omega⟩ : Fin 2048) = j from Fin.ext (by dsimp only; omega)]
        exact (resG_hi _ _ _ _ i ⟨j.val - 1024, by omega⟩ j (by dsimp only; omega)).symm

end Cert.Gate
-- ==== Proof.Proj.lean ====
/-
  The input projection: rows by weights, the weights' columns taken in the order the kernel lays the projections out.
-/
module

public import proofs.«01_k».proof.Proof.Columns
public import proofs.«01_k».proof.Proof.Gen.KernelProjIdeal.Value
public import proofs.«01_k».proof.Proof.Gen.ReferenceProjIdeal.Run
public import proofs.«01_k».proof.Defs
public import Idealize.ShloMosaic.Lib.StableHlo.ReadAt

@[expose] public section

set_option maxRecDepth 16384

noncomputable section

namespace Cert.Proj

open Cert.KernelProjIdeal Cert.KernelProjIdeal.Gen Idealize.ShloMosaic Idealize.ShloMosaic.TcCoe Idealize.SL.Sem StableHlo
open Cert.Ret Cert.Product Cert.Columns

variable {m : (ℓ : Loc nD τ sig) → Buf (Elt Ideal) ℓ} {c : Dev nD}

theorem idx : ∀ t : Fin cfg0.N, t.val < 35 ∧ win0_0.index t = ![t.val / 7, 0] ∧ win0_1.index t = ![0, t.val % 7]
    ∧ win0_2.index t = ![t.val / 7, t.val % 7] := by decide +kernel

/-- The weights, as the blocks are read from them. -/
theorem weight (l : Fin 1024) (r : Fin 13440) : V m c main_v11 (ix2 l r) = lay (fun q => m (c.tc.loc main_arg1) (ix2 l q)) r.val := by
  unfold Gen.V
  after_reads_at
  refine cases (fun h => ?_) fun h => cases (fun h => ?_) fun h => cases (fun h => ?_) fun h => cases (fun h => ?_) fun h => cases (fun h => ?_) fun h =>
    cases (fun h => ?_) fun h => cases (fun h => ?_) fun h => cases (fun h => ?_) fun h => cases (fun h => ?_) fun h => ?_
  all_goals after_reads_at
  on_goal 10 => exact (lay_zero _ (by omega)).symm
  all_goals refine lay_of (fun q => m (c.tc.loc main_arg1) (ix2 l q)) (by omega) ⟨_, _⟩ ?_
  all_goals
    unfold src
    dsimp only
    split_ifs <;> omega

theorem part (x : Vec Ideal S1664x1024 .bf16) (y : Vec Ideal S1024x1920 .bf16) (z : S1664x1920.Idx) :
    k0_pay1 (F := Ideal) x y z = (0 + dot (fun k : Fin 1024 => x (ix2 (z 0) k)) (fun k => y (ix2 k (z 1))) : EReal) := by
  obtain ⟨i, j, rfl⟩ : ∃ (i : Fin 1664) (j : Fin 1920), z = ix2 i j := ⟨_, _, eq_ix2 z⟩
  unfold k0_pay1
  clean_types
  pointwise
  rfl

theorem iblk0 (t : Fin cfg0.N) (i : Fin 1664) (k : Fin 1024) (p : Fin 8320) (q : Fin 1024)
    (hp : p.val = t.val / 7 * 1664 + i.val) (hq : q.val = k.val) :
    iblk m c 0 t (ix2 i k) = m (c.tc.loc main_arg0) (ix2 p q) := by
  have := (idx t).1
  have h0 : t.val / 7 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1024) (j : Fin 1920) (p : Fin 1024) (q : Fin 13440)
    (hp : p.val = k.val) (hq : q.val = t.val % 7 * 1920 + j.val) :
    iblk m c 1 t (ix2 k j) = V m c main_v11 (ix2 p q) := by
  have := (idx t).1
  have h0 : k.val < 1024 := by omega
  have h1 : t.val % 7 * 1920 + j.val < 13440 := by omega
  obtain rfl : p = ⟨_, h0⟩ := Fin.ext hp
  obtain rfl : q = ⟨_, h1⟩ := Fin.ext hq
  blk_ext [iblk, idx t]

/-- The result. -/
def res (a : Vec Ideal S8320x1024 .bf16) (w : Vec Ideal S1024x13344 .f32) : Vec Ideal S8320x13440 .f32 := fun z =>
  dot (fun l : Fin 1024 => a (ix2 (z 0) l)) fun l : Fin 1024 => lay (fun q => w (ix2 l q)) (z 1).val

/-- Where the array holds an entry of the block that a point writes. -/
theorem emb (t : Fin cfg0.N) (z : S1664x1920.Idx) : (((cfg0.win 2).blk t).view.emb z 0).val = t.val / 7 * 1664 + (z 0).val
    ∧ (((cfg0.win 2).blk t).view.emb z 1).val = t.val % 7 * 1920 + (z 1).val := by
  constructor
  · show win0_2.index t 0 * 1664 + 1 * (z 0).val = _
    simp only [(idx t).2.2.2, Matrix.cons_val_zero, Matrix.cons_val_one, one_mul, zero_mul, zero_add]
  · show win0_2.index t 1 * 1920 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  obtain ⟨e0, e1⟩ := emb t z
  rw [after0_2]
  unfold out0_2
  frame_out
  refine (part _ _ z).trans ((zero_add _).trans (dot_congr (fun k => ?_) fun k => ?_))
  · exact iblk0 t _ k _ _ e0 rfl
  · exact (iblk1 t k _ _ _ rfl e1).trans (weight _ _)

theorem algebraic : Cert.algebraic_KernelProjIdeal_ReferenceProjIdeal (hKernelProjIdeal := Cert.KernelProjIdeal.Gen.facts)
    (hReferenceProjIdeal := Cert.ReferenceProjIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelProjIdeal.Value.run_blocks (F := Ideal) m g)
  · refine (θ_run Cert.ReferenceProjIdeal.defs _ _).mono (fun r h c => ⟨(h c).1.trans (funext fun z => ?_), (h c).2⟩) (Cert.ReferenceProjIdeal.Value.run (F := Ideal) m' g')
    clear h
    obtain ⟨i, j, rfl⟩ : ∃ (i : Fin 8320) (j : Fin 13440), z = ix2 i j := ⟨_, _, eq_ix2 z⟩
    rw [(hagree c).1, (hagree c).2]
    clean_types
    pointwise
    refine cases (fun h => ?_) fun h => cases (fun h => ?_) fun h => cases (fun h => ?_) fun h => cases (fun h => ?_) fun h => cases (fun h => ?_) fun h =>
      cases (fun h => ?_) fun h => cases (fun h => ?_) fun h => cases (fun h => ?_) fun h => cases (fun h => ?_) fun h => ?_
    on_goal 10 => exact (dot_zero (fun k => lay_zero (fun q => m (c.tc.loc main_arg1) (ix2 k q)) (r := j.val) (by omega))).symm
    all_goals refine dot_congr (fun k => rfl) fun k => lay_of (fun q => m (c.tc.loc main_arg1) (ix2 k q)) (r := j.val) (by omega) ⟨_, _⟩ ?_
    all_goals
      unfold src
      dsimp only
      split_ifs <;> omega

end Cert.Proj
-- ==== Proof.Branch.lean ====
/-
  A branch's product: rows by weights, accumulated over two blocks of columns.
-/
module

public import proofs.«01_k».proof.Proof.Product
public import proofs.«01_k».proof.Proof.Gen.KernelBranchIdeal.Value
public import proofs.«01_k».proof.Proof.Gen.ReferenceBranchIdeal.Run
public import proofs.«01_k».proof.Defs
public import Idealize.ShloMosaic.Lib.StableHlo.ReadAt

@[expose] public section

set_option maxRecDepth 16384

noncomputable section

namespace Cert.Branch

open Cert.KernelBranchIdeal Cert.KernelBranchIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val / 2, t.val % 2] ∧ win0_1.index t = ![t.val % 2, 0]
    ∧ win0_2.index t = ![t.val / 2, 0] := by decide +kernel

/-- What one point computes of its blocks. -/
def part (x : Vec Ideal S1664x1024 .bf16) (y : Vec Ideal S1024x1024 .bf16) (z : S1664x1024.Idx) : EReal :=
  dot (fun k : Fin 1024 => x (ix2 (z 0) k)) fun k => y (ix2 k (z 1))

theorem first_val (x : Vec Ideal S1664x1024 .bf16) (y : Vec Ideal S1024x1024 .bf16) (z : S1664x1024.Idx) :
    k0_pay1 (F := Ideal) x y z = (0 + part x y z : EReal) := by
  obtain ⟨i, j, rfl⟩ : ∃ (i : Fin 1664) (j : Fin 1024), z = ix2 i j := ⟨_, _, eq_ix2 z⟩
  unfold k0_pay1
  clean_types
  pointwise
  rfl

theorem next_val (a : Vec Ideal S1664x1024 .f32) (x : Vec Ideal S1664x1024 .bf16) (y : Vec Ideal S1024x1024 .bf16) (z : S1664x1024.Idx) :
    k0_pay2 (F := Ideal) a x y z = ((a z : EReal) + part x y z : EReal) := by
  obtain ⟨i, j, rfl⟩ : ∃ (i : Fin 1664) (j : Fin 1024), z = ix2 i j := ⟨_, _, eq_ix2 z⟩
  unfold k0_pay2
  clean_types
  pointwise
  rfl

/-- The weights, as the blocks are read from them. -/
theorem weight (l : Fin 2048) (r : Fin 1024) : V m c main_v0 (ix2 l r) = (m (c.tc.loc main_arg1) (ix2 l (r)) : EReal) := by
  unfold Gen.V
  after_reads_at

theorem iblk0 (t : Fin cfg0.N) (i : Fin 1664) (k : Fin 1024) (p : Fin 8320) (q : Fin 2048)
    (hp : p.val = t.val / 2 * 1664 + i.val) (hq : q.val = t.val % 2 * 1024 + k.val) :
    iblk m c 0 t (ix2 i k) = m (c.tc.loc main_arg0) (ix2 p q) := by
  have := (idx t).1
  have h0 : t.val / 2 * 1664 + i.val < 8320 := by omega
  have h1 : t.val % 2 * 1024 + k.val < 2048 := by omega
  obtain rfl : p = ⟨_, h0⟩ := Fin.ext hp
  obtain rfl : q = ⟨_, h1⟩ := Fin.ext hq
  blk_ext [iblk, idx t]

theorem iblk1 (t : Fin cfg0.N) (k : Fin 1024) (j : Fin 1024) (p : Fin 2048) (q : Fin 1024)
    (hp : p.val = t.val % 2 * 1024 + k.val) (hq : q.val = j.val) :
    iblk m c 1 t (ix2 k j) = V m c main_v0 (ix2 p q) := by
  have := (idx t).1
  have h0 : t.val % 2 * 1024 + k.val < 2048 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x2048 .bf16) (b : Vec Ideal S2048x1024 .f32) : Vec Ideal S8320x1024 .f32 := fun z =>
  dot (fun l : Fin 2048 => a (ix2 (z 0) l)) fun l : Fin 2048 => b (ix2 l (z 1))

/-- Where the array holds an entry of the block that a point writes. -/
theorem emb (t : Fin cfg0.N) (z : S1664x1024.Idx) : (((cfg0.win 2).blk t).view.emb z 0).val = t.val / 2 * 1664 + (z 0).val
    ∧ (((cfg0.win 2).blk t).view.emb z 1).val = (z 1).val := by
  constructor
  · show win0_2.index t 0 * 1664 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  refine (acc_dot (fun n h => outsAt0 m c n h) 2 (fun _ _ => 0)
    (fun t z k => iblk m c 0 t (ix2 (z 0) k)) (fun t z k => iblk m c 1 t (ix2 k (z 1)))
    (fun t h z => ?_) (fun t h z => ?_) t ((flush0_2 t).mp hf) z (L := 2048) rfl (fun _ _ => rfl) (fun p s k h hp => ?_) (fun p s k h hp => ?_)).trans (zero_add _)
  · rw [outsAt0_A m c t h (by have := (idx t).1; omega)]
    frame_out
    exact first_val _ _ z
  · rw [outsAt0_B m c t h (by have := (idx t).1; omega)]
    frame_out
    exact next_val _ _ _ z
  · exact iblk0 p _ k _ _ (e0.trans (by rw [show p.val / 2 = t.val / 2 by omega])) (by dsimp only; omega)
  · exact (iblk1 p k _ _ _ (by dsimp only; omega) e1).trans (weight _ _)

theorem algebraic : Cert.algebraic_KernelBranchIdeal_ReferenceBranchIdeal (hKernelBranchIdeal := Cert.KernelBranchIdeal.Gen.facts)
    (hReferenceBranchIdeal := Cert.ReferenceBranchIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelBranchIdeal.Value.run_blocks (F := Ideal) m g)
  · refine (θ_run Cert.ReferenceBranchIdeal.defs _ _).mono (fun r h c => ⟨(h c).1.trans (funext fun z => ?_), (h c).2⟩) (Cert.ReferenceBranchIdeal.Value.run (F := Ideal) m' g')
    obtain ⟨i, j, rfl⟩ : ∃ (i : Fin 8320) (j : Fin 1024), z = ix2 i j := ⟨_, _, eq_ix2 z⟩
    rw [(hagree c).1, (hagree c).2]
    clean_types
    pointwise
    rfl

end Cert.Branch
-- ==== Proof.OutProj.lean ====
/-
  The merged rows' product: the residual rows, and rows by weights.
-/
module

public import proofs.«01_k».proof.Proof.Product
public import proofs.«01_k».proof.Proof.Gen.KernelOutProjIdeal.Value
public import proofs.«01_k».proof.Proof.Gen.ReferenceOutProjIdeal.Run
public import proofs.«01_k».proof.Defs
public import Idealize.ShloMosaic.Lib.StableHlo.ReadAt

@[expose] public section

set_option maxRecDepth 16384

noncomputable section

namespace Cert.OutProj

open Cert.KernelOutProjIdeal Cert.KernelOutProjIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 5 ∧ win0_0.index t = ![t.val, 0] ∧ win0_1.index t = ![0, 0]
    ∧ win0_2.index t = ![t.val, 0]
    ∧ win0_3.index t = ![t.val, 0] := by decide +kernel

/-- What one point computes of its blocks. -/
def part (x : Vec Ideal S1664x1024 .bf16) (y : Vec Ideal S1024x1024 .bf16) (z : S1664x1024.Idx) : EReal :=
  dot (fun k : Fin 1024 => x (ix2 (z 0) k)) fun k => y (ix2 k (z 1))

theorem first_val (x : Vec Ideal S1664x1024 .bf16) (y : Vec Ideal S1024x1024 .bf16) (r : Vec Ideal S1664x1024 .f32) (z : S1664x1024.Idx) :
    k0_pay1 (F := Ideal) x y r z = ((r z : EReal) + part x y z : EReal) := by
  obtain ⟨i, j, rfl⟩ : ∃ (i : Fin 1664) (j : Fin 1024), z = ix2 i j := ⟨_, _, eq_ix2 z⟩
  unfold k0_pay1
  clean_types
  pointwise
  exact add_comm _ _

/-- The weights, as the blocks are read from them. -/
theorem weight (l : Fin 1024) (r : Fin 1024) : V m c main_v0 (ix2 l r) = (m (c.tc.loc main_arg1) (ix2 l (r)) : EReal) := by
  unfold Gen.V
  after_reads_at

theorem iblk0 (t : Fin cfg0.N) (i : Fin 1664) (k : Fin 1024) (p : Fin 8320) (q : Fin 1024)
    (hp : p.val = t.val * 1664 + i.val) (hq : q.val = k.val) :
    iblk m c 0 t (ix2 i k) = m (c.tc.loc main_arg0) (ix2 p q) := by
  have := (idx t).1
  have h0 : t.val * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1024) (j : Fin 1024) (p : Fin 1024) (q : Fin 1024)
    (hp : p.val = k.val) (hq : q.val = j.val) :
    iblk m c 1 t (ix2 k j) = V m c main_v0 (ix2 p q) := by
  have := (idx t).1
  have h0 : k.val < 1024 := by omega
  have h1 : j.val < 1024 := by omega
  obtain rfl : p = ⟨_, h0⟩ := Fin.ext hp
  obtain rfl : q = ⟨_, h1⟩ := Fin.ext hq
  blk_ext [iblk, idx t]

theorem iblk2 (t : Fin cfg0.N) (i : Fin 1664) (j : Fin 1024) (p : Fin 8320) (q : Fin 1024)
    (hp : p.val = t.val * 1664 + i.val) (hq : q.val = j.val) :
    iblk m c 2 t (ix2 i j) = m (c.tc.loc main_arg2) (ix2 p q) := by
  have := (idx t).1
  have h0 : t.val * 1664 + i.val < 8320 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S1024x1024 .f32) (r : Vec Ideal S8320x1024 .f32) : Vec Ideal S8320x1024 .f32 := fun z =>
  (r z : EReal) + dot (fun l : Fin 1024 => a (ix2 (z 0) l)) fun l : Fin 1024 => b (ix2 l (z 1))

/-- Where the array holds an entry of the block that a point writes. -/
theorem emb (t : Fin cfg0.N) (z : S1664x1024.Idx) : (((cfg0.win 3).blk t).view.emb z 0).val = t.val * 1664 + (z 0).val
    ∧ (((cfg0.win 3).blk t).view.emb z 1).val = (z 1).val := by
  constructor
  · show win0_3.index t 0 * 1664 + 1 * (z 0).val = _
    simp only [(idx t).2.2.2.2, Matrix.cons_val_zero, Matrix.cons_val_one, one_mul, zero_mul, zero_add]
  · show win0_3.index t 1 * 1024 + 1 * (z 1).val = _
    simp only [(idx t).2.2.2.2, Matrix.cons_val_zero, Matrix.cons_val_one, one_mul, zero_mul, zero_add]

theorem arr : (dats m 0 c).arrAt 3 cfg0.N = res (m (c.tc.loc main_arg0)) (m (c.tc.loc main_arg1)) (m (c.tc.loc main_arg2)) := by
  refine (dats m 0 c).arrAt_eq_of_covers 3 _ (by decide +kernel) fun t hf z => ?_
  have := (idx t).1
  obtain ⟨e0, e1⟩ := emb t z
  rw [after0_3]
  unfold out0_3
  frame_out
  refine (first_val _ _ _ z).trans (congrArg₂ (· + ·) ?_ (dot_congr (fun k => ?_) fun k => ?_))
  · exact (congrArg _ (eq_ix2 z)).trans ((iblk2 t _ _ _ _ e0 e1).trans (congrArg _ (eq_ix2 _).symm))
  · exact iblk0 t _ k _ _ e0 rfl
  · exact (iblk1 t k _ _ _ rfl e1).trans (weight _ _)

theorem algebraic : Cert.algebraic_KernelOutProjIdeal_ReferenceOutProjIdeal (hKernelOutProjIdeal := Cert.KernelOutProjIdeal.Gen.facts)
    (hReferenceOutProjIdeal := Cert.ReferenceOutProjIdeal.Gen.facts) := by
  intro m g m' g' _ hagree
  refine ⟨fun c => res (m (c.tc.loc main_arg0)) (m (c.tc.loc main_arg1)) (m (c.tc.loc main_arg2)), ?_, ?_⟩
  · exact (θ_run defs _ _).mono (fun r h c => ⟨(h c).1.trans arr, (h c).2⟩) (Cert.KernelOutProjIdeal.Value.run_blocks (F := Ideal) m g)
  · refine (θ_run Cert.ReferenceOutProjIdeal.defs _ _).mono (fun r h c => ⟨(h c).1.trans (funext fun z => ?_), (h c).2⟩) (Cert.ReferenceOutProjIdeal.Value.run (F := Ideal) m' g')
    obtain ⟨i, j, rfl⟩ : ∃ (i : Fin 8320) (j : Fin 1024), z = ix2 i j := ⟨_, _, eq_ix2 z⟩
    rw [(hagree c).1, (hagree c).2.1, (hagree c).2.2]
    clean_types
    pointwise
    rfl

end Cert.OutProj
-- ==== Proof.Up.lean ====
/-
  The feed-forward block's first product: rows by weights.
-/
module

public import proofs.«01_k».proof.Proof.Product
public import proofs.«01_k».proof.Proof.Gen.KernelUpIdeal.Value
public import proofs.«01_k».proof.Proof.Gen.ReferenceUpIdeal.Run
public import proofs.«01_k».proof.Defs
public import Idealize.ShloMosaic.Lib.StableHlo.ReadAt

@[expose] public section

set_option maxRecDepth 16384

noncomputable section

namespace Cert.Up

open Cert.KernelUpIdeal Cert.KernelUpIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 20 ∧ win0_0.index t = ![t.val / 4, 0] ∧ win0_1.index t = ![0, t.val % 4]
    ∧ win0_2.index t = ![t.val / 4, t.val % 4] := by decide +kernel

/-- What one point computes of its blocks. -/
def part (x : Vec Ideal S1664x1024 .bf16) (y : Vec Ideal S1024x1408 .bf16) (z : S1664x1408.Idx) : EReal :=
  dot (fun k : Fin 1024 => x (ix2 (z 0) k)) fun k => y (ix2 k (z 1))

theorem first_val (x : Vec Ideal S1664x1024 .bf16) (y : Vec Ideal S1024x1408 .bf16) (z : S1664x1408.Idx) :
    k0_pay1 (F := Ideal) x y z = (0 + part x y z : EReal) := by
  obtain ⟨i, j, rfl⟩ : ∃ (i : Fin 1664) (j : Fin 1408), z = ix2 i j := ⟨_, _, eq_ix2 z⟩
  unfold k0_pay1
  clean_types
  pointwise
  rfl

/-- The weights, as the blocks are read from them. -/
theorem weight (l : Fin 1024) (r : Fin 5632) : V m c main_v0 (ix2 l r) = (m (c.tc.loc main_arg1) (ix2 l (r)) : EReal) := by
  unfold Gen.V
  after_reads_at

theorem iblk0 (t : Fin cfg0.N) (i : Fin 1664) (k : Fin 1024) (p : Fin 8320) (q : Fin 1024)
    (hp : p.val = t.val / 4 * 1664 + i.val) (hq : q.val = k.val) :
    iblk m c 0 t (ix2 i k) = m (c.tc.loc main_arg0) (ix2 p q) := by
  have := (idx t).1
  have h0 : t.val / 4 * 1664 + i.val < 8320 := by omega
  have h1 : k.val < 1024 := by omega
  obtain rfl : p = ⟨_, h0⟩ := Fin.ext hp
  obtain rfl : q = ⟨_, h1⟩ := Fin.ext hq
  blk_ext [iblk, idx t]

theorem iblk1 (t : Fin cfg0.N) (k : Fin 1024) (j : Fin 1408) (p : Fin 1024) (q : Fin 5632)
    (hp : p.val = k.val) (hq : q.val = t.val % 4 * 1408 + j.val) :
    iblk m c 1 t (ix2 k j) = V m c main_v0 (ix2 p q) := by
  have := (idx t).1
  have h0 : k.val < 1024 := by omega
  have h1 : t.val % 4 * 1408 + j.val < 5632 := by omega
  obtain rfl : p = ⟨_, h0⟩ := Fin.ext hp
  obtain rfl : q = ⟨_, h1⟩ := Fin.ext hq
  blk_ext [iblk, idx t]

/-- The result. -/
def res (a : Vec Ideal S8320x1024 .bf16) (b : Vec Ideal S1024x5632 .f32) : Vec Ideal S8320x5632 .f32 := fun z =>
  dot (fun l : Fin 1024 => a (ix2 (z 0) l)) fun l : Fin 1024 => b (ix2 l (z 1))

/-- Where the array holds an entry of the block that a point writes. -/
theorem emb (t : Fin cfg0.N) (z : S1664x1408.Idx) : (((cfg0.win 2).blk t).view.emb z 0).val = t.val / 4 * 1664 + (z 0).val
    ∧ (((cfg0.win 2).blk t).view.emb z 1).val = t.val % 4 * 1408 + (z 1).val := by
  constructor
  · show win0_2.index t 0 * 1664 + 1 * (z 0).val = _
    simp only [(idx t).2.2.2, Matrix.cons_val_zero, Matrix.cons_val_one, one_mul, zero_mul, zero_add]
  · show win0_2.index t 1 * 1408 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  have := (idx t).1
  obtain ⟨e0, e1⟩ := emb t z
  rw [after0_2]
  unfold out0_2
  frame_out
  refine (first_val _ _ z).trans ((zero_add _).trans (dot_congr (fun k => ?_) fun k => ?_))
  · exact iblk0 t _ k _ _ e0 rfl
  · exact (iblk1 t k _ _ _ rfl e1).trans (weight _ _)

theorem algebraic : Cert.algebraic_KernelUpIdeal_ReferenceUpIdeal (hKernelUpIdeal := Cert.KernelUpIdeal.Gen.facts)
    (hReferenceUpIdeal := Cert.ReferenceUpIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelUpIdeal.Value.run_blocks (F := Ideal) m g)
  · refine (θ_run Cert.ReferenceUpIdeal.defs _ _).mono (fun r h c => ⟨(h c).1.trans (funext fun z => ?_), (h c).2⟩) (Cert.ReferenceUpIdeal.Value.run (F := Ideal) m' g')
    obtain ⟨i, j, rfl⟩ : ∃ (i : Fin 8320) (j : Fin 5632), z = ix2 i j := ⟨_, _, eq_ix2 z⟩
    rw [(hagree c).1, (hagree c).2]
    clean_types
    pointwise
    rfl

end Cert.Up
-- ==== Proof.Down.lean ====
/-
  The feed-forward block's second product: the residual rows, and rows by weights, accumulated over two blocks of columns.
-/
module

public import proofs.«01_k».proof.Proof.Product
public import proofs.«01_k».proof.Proof.Gen.KernelDownIdeal.Value
public import proofs.«01_k».proof.Proof.Gen.ReferenceDownIdeal.Run
public import proofs.«01_k».proof.Defs
public import Idealize.ShloMosaic.Lib.StableHlo.ReadAt

@[expose] public section

set_option maxRecDepth 16384

noncomputable section

namespace Cert.Down

open Cert.KernelDownIdeal Cert.KernelDownIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 10 ∧ win0_0.index t = ![t.val / 2, t.val % 2] ∧ win0_1.index t = ![t.val % 2, 0]
    ∧ win0_2.index t = ![t.val / 2, 0]
    ∧ win0_3.index t = ![t.val / 2, 0] := by decide +kernel

/-- What one point computes of its blocks. -/
def part (x : Vec Ideal S1664x1408 .bf16) (y : Vec Ideal S1408x1024 .bf16) (z : S1664x1024.Idx) : EReal :=
  dot (fun k : Fin 1408 => x (ix2 (z 0) k)) fun k => y (ix2 k (z 1))

theorem first_val (x : Vec Ideal S1664x1408 .bf16) (y : Vec Ideal S1408x1024 .bf16) (r : Vec Ideal S1664x1024 .f32) (z : S1664x1024.Idx) :
    k0_pay1 (F := Ideal) x y r z = ((r z : EReal) + part x y z : EReal) := by
  obtain ⟨i, j, rfl⟩ : ∃ (i : Fin 1664) (j : Fin 1024), z = ix2 i j := ⟨_, _, eq_ix2 z⟩
  unfold k0_pay1
  clean_types
  pointwise
  exact add_comm _ _

theorem next_val (a : Vec Ideal S1664x1024 .f32) (x : Vec Ideal S1664x1408 .bf16) (y : Vec Ideal S1408x1024 .bf16) (z : S1664x1024.Idx) :
    k0_pay2 (F := Ideal) a x y z = ((a z : EReal) + part x y z : EReal) := by
  obtain ⟨i, j, rfl⟩ : ∃ (i : Fin 1664) (j : Fin 1024), z = ix2 i j := ⟨_, _, eq_ix2 z⟩
  unfold k0_pay2
  clean_types
  pointwise
  rfl

/-- The weights, as the blocks are read from them. -/
theorem weight (l : Fin 2816) (r : Fin 1024) : V m c main_v0 (ix2 l r) = (m (c.tc.loc main_arg1) (ix2 l (r)) : EReal) := by
  unfold Gen.V
  after_reads_at

theorem iblk0 (t : Fin cfg0.N) (i : Fin 1664) (k : Fin 1408) (p : Fin 8320) (q : Fin 2816)
    (hp : p.val = t.val / 2 * 1664 + i.val) (hq : q.val = t.val % 2 * 1408 + k.val) :
    iblk m c 0 t (ix2 i k) = m (c.tc.loc main_arg0) (ix2 p q) := by
  have := (idx t).1
  have h0 : t.val / 2 * 1664 + i.val < 8320 := by omega
  have h1 : t.val % 2 * 1408 + k.val < 2816 := by omega
  obtain rfl : p = ⟨_, h0⟩ := Fin.ext hp
  obtain rfl : q = ⟨_, h1⟩ := Fin.ext hq
  blk_ext [iblk, idx t]

theorem iblk1 (t : Fin cfg0.N) (k : Fin 1408) (j : Fin 1024) (p : Fin 2816) (q : Fin 1024)
    (hp : p.val = t.val % 2 * 1408 + k.val) (hq : q.val = j.val) :
    iblk m c 1 t (ix2 k j) = V m c main_v0 (ix2 p q) := by
  have := (idx t).1
  have h0 : t.val % 2 * 1408 + k.val < 2816 := by omega
  have h1 : j.val < 1024 := by omega
  obtain rfl : p = ⟨_, h0⟩ := Fin.ext hp
  obtain rfl : q = ⟨_, h1⟩ := Fin.ext hq
  blk_ext [iblk, idx t]

theorem iblk2 (t : Fin cfg0.N) (i : Fin 1664) (j : Fin 1024) (p : Fin 8320) (q : Fin 1024)
    (hp : p.val = t.val / 2 * 1664 + i.val) (hq : q.val = j.val) :
    iblk m c 2 t (ix2 i j) = m (c.tc.loc main_arg2) (ix2 p q) := by
  have := (idx t).1
  have h0 : t.val / 2 * 1664 + i.val < 8320 := by omega
  have h1 : j.val < 1024 := by omega
  obtain rfl : p = ⟨_, h0⟩ := Fin.ext hp
  obtain rfl : q = ⟨_, h1⟩ := Fin.ext hq
  blk_ext [iblk, idx t]

/-- The result. -/
def res (a : Vec Ideal S8320x2816 .bf16) (b : Vec Ideal S2816x1024 .f32) (r : Vec Ideal S8320x1024 .f32) : Vec Ideal S8320x1024 .f32 := fun z =>
  (r z : EReal) + dot (fun l : Fin 2816 => a (ix2 (z 0) l)) fun l : Fin 2816 => b (ix2 l (z 1))

/-- Where the array holds an entry of the block that a point writes. -/
theorem emb (t : Fin cfg0.N) (z : S1664x1024.Idx) : (((cfg0.win 3).blk t).view.emb z 0).val = t.val / 2 * 1664 + (z 0).val
    ∧ (((cfg0.win 3).blk t).view.emb z 1).val = (z 1).val := by
  constructor
  · show win0_3.index t 0 * 1664 + 1 * (z 0).val = _
    simp only [(idx t).2.2.2.2, Matrix.cons_val_zero, Matrix.cons_val_one, one_mul, zero_mul, zero_add]
  · show win0_3.index t 1 * 1024 + 1 * (z 1).val = _
    simp only [(idx t).2.2.2.2, Matrix.cons_val_zero, Matrix.cons_val_one, one_mul, zero_mul, zero_add]

theorem arr : (dats m 0 c).arrAt 3 cfg0.N = res (m (c.tc.loc main_arg0)) (m (c.tc.loc main_arg1)) (m (c.tc.loc main_arg2)) := by
  refine (dats m 0 c).arrAt_eq_of_covers 3 _ (by decide +kernel) fun t hf z => ?_
  have := (idx t).1
  obtain ⟨e0, e1⟩ := emb t z
  rw [after0_3]
  refine acc_dot (fun n h => outsAt0 m c n h) 2 (fun t z => iblk m c 2 t (ix2 (z 0) (z 1)))
    (fun t z k => iblk m c 0 t (ix2 (z 0) k)) (fun t z k => iblk m c 1 t (ix2 k (z 1)))
    (fun t h z => ?_) (fun t h z => ?_) t ((flush0_3 t).mp hf) z (L := 2816) rfl (fun p hp => ?_) (fun p s k h hp => ?_) (fun p s k h hp => ?_)
  · rw [outsAt0_A m c t h (by have := (idx t).1; omega)]
    frame_out
    exact (first_val _ _ _ z).trans (congrArg (fun u => (u : EReal) + _) (congrArg _ (eq_ix2 z)))
  · rw [outsAt0_B m c t h (by have := (idx t).1; omega)]
    frame_out
    exact next_val _ _ _ z
  · exact (iblk2 p _ _ _ _ (e0.trans (by rw [show p.val / 2 = t.val / 2 by omega])) e1).trans (congrArg _ (eq_ix2 _).symm)
  · exact iblk0 p _ k _ _ (e0.trans (by rw [show p.val / 2 = t.val / 2 by omega])) (by dsimp only; omega)
  · exact (iblk1 p k _ _ _ (by dsimp only; omega) e1).trans (weight _ _)

theorem algebraic : Cert.algebraic_KernelDownIdeal_ReferenceDownIdeal (hKernelDownIdeal := Cert.KernelDownIdeal.Gen.facts)
    (hReferenceDownIdeal := Cert.ReferenceDownIdeal.Gen.facts) := by
  intro m g m' g' _ hagree
  refine ⟨fun c => res (m (c.tc.loc main_arg0)) (m (c.tc.loc main_arg1)) (m (c.tc.loc main_arg2)), ?_, ?_⟩
  · exact (θ_run defs _ _).mono (fun r h c => ⟨(h c).1.trans arr, (h c).2⟩) (Cert.KernelDownIdeal.Value.run_blocks (F := Ideal) m g)
  · refine (θ_run Cert.ReferenceDownIdeal.defs _ _).mono (fun r h c => ⟨(h c).1.trans (funext fun z => ?_), (h c).2⟩) (Cert.ReferenceDownIdeal.Value.run (F := Ideal) m' g')
    obtain ⟨i, j, rfl⟩ : ∃ (i : Fin 8320) (j : Fin 1024), z = ix2 i j := ⟨_, _, eq_ix2 z⟩
    rw [(hagree c).1, (hagree c).2.1, (hagree c).2.2]
    clean_types
    pointwise
    rfl

end Cert.Down
-- ==== Proof.GateF.lean ====
/-
  The forward gates: each branch times the logistic of its gate, added.
-/
module

public import proofs.«01_k».proof.Proof.Product
public import proofs.«01_k».proof.Proof.Gen.KernelGateFIdeal.Value
public import proofs.«01_k».proof.Proof.Gen.ReferenceGateFIdeal.Run
public import proofs.«01_k».proof.Defs
public import Idealize.ShloMosaic.Lib.StableHlo.ReadAt

@[expose] public section

set_option maxRecDepth 16384

noncomputable section

namespace Cert.GateF

open Cert.KernelGateFIdeal Cert.KernelGateFIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 13 ∧ win0_0.index t = ![t.val, 0] ∧ win0_1.index t = ![t.val, 0]
    ∧ win0_2.index t = ![t.val, 0] ∧ win0_3.index t = ![t.val, 1] ∧ win0_4.index t = ![t.val, 0] := by decide +kernel

theorem pay (a b x y : Vec Ideal S640x1024 .f32) (z : S640x1024.Idx) :
    k0_pay1 (F := Ideal) x a y b z = (Ideal.logistic (x z) * (a z : EReal) + Ideal.logistic (y z) * b z : EReal) := by
  unfold k0_pay1
  clean_types
  pointwise

theorem rows (t : Fin cfg0.N) (i : Fin 640) (k : Fin 1024) (p : Fin 8320) (hp : p.val = t.val * 640 + i.val) :
    iblk m c 0 t (ix2 i k) = m (c.tc.loc main_arg0) (ix2 p k) ∧ iblk m c 1 t (ix2 i k) = m (c.tc.loc main_arg1) (ix2 p k)
    ∧ iblk m c 2 t (ix2 i k) = m (c.tc.loc main_arg2) (ix2 p (⟨k.val, by omega⟩ : Fin 2048))
    ∧ iblk m c 3 t (ix2 i k) = m (c.tc.loc main_arg2) (ix2 p (⟨1024 + k.val, by omega⟩ : Fin 2048)) := by
  have := (idx t).1
  have h0 : t.val * 640 + i.val < 8320 := by omega
  obtain rfl : p = ⟨_, h0⟩ := Fin.ext hp
  refine ⟨?_, ?_, ?_, ?_⟩
  all_goals blk_ext [iblk, idx t]

/-- The result. -/
def res (a b : Vec Ideal S8320x1024 .f32) (x : Vec Ideal S8320x2048 .f32) : Vec Ideal S8320x1024 .bf16 := fun z =>
  (Ideal.logistic (x (ix2 (z 0) (⟨(z 1).val, by have : (z 1).val < 1024 := (z 1).isLt; omega⟩ : Fin 2048))) * (a z : EReal)
    + Ideal.logistic (x (ix2 (z 0) (⟨1024 + (z 1).val, by have : (z 1).val < 1024 := (z 1).isLt; omega⟩ : Fin 2048))) * b z : EReal)

theorem emb (t : Fin cfg0.N) (z : S640x1024.Idx) : (((cfg0.win 4).blk t).view.emb z 0).val = t.val * 640 + (z 0).val
    ∧ (((cfg0.win 4).blk t).view.emb z 1).val = (z 1).val := by
  constructor
  · show win0_4.index t 0 * 640 + 1 * (z 0).val = _
    simp only [(idx t).2.2.2.2.2, Matrix.cons_val_zero, Matrix.cons_val_one, one_mul, zero_mul, zero_add]
  · show win0_4.index t 1 * 1024 + 1 * (z 1).val = _
    simp only [(idx t).2.2.2.2.2, Matrix.cons_val_zero, Matrix.cons_val_one, one_mul, zero_mul, zero_add]

theorem arr : (dats m 0 c).arrAt 4 cfg0.N = res (m (c.tc.loc main_arg0)) (m (c.tc.loc main_arg1)) (m (c.tc.loc main_arg2)) := by
  refine (dats m 0 c).arrAt_eq_of_covers 4 _ (by decide +kernel) fun t hf z => ?_
  obtain ⟨e0, e1⟩ := emb t z
  obtain ⟨i, j, rfl⟩ : ∃ (i : Fin 640) (j : Fin 1024), z = ix2 i j := ⟨_, _, eq_ix2 z⟩
  obtain ⟨r0, r1, r2, r3⟩ := rows (m := m) (c := c) t i j _ e0
  have he : (ix2 (((cfg0.win 4).blk t).view.emb (ix2 i j) 0) j : S8320x1024.Idx) = ((cfg0.win 4).blk t).view.emb (ix2 i j) :=
    (congrArg (ix2 _) (Fin.ext e1.symm)).trans (eq_ix2 _).symm
  rw [after0_4]
  unfold out0_4
  frame_out
  refine (pay _ _ _ _ _).trans (congrArg₂ (· + ·) (congrArg₂ (· * ·) (congrArg Ideal.logistic (r2.trans ?_)) (r0.trans ?_))
    (congrArg₂ (· * ·) (congrArg Ideal.logistic (r3.trans ?_)) (r1.trans ?_)))
  · exact congrArg _ (congrArg (ix2 _) (Fin.ext e1.symm))
  · exact congrArg _ he
  · exact congrArg _ (congrArg (ix2 _) (Fin.ext (congrArg (1024 + ·) e1.symm)))
  · exact congrArg _ he

theorem algebraic : Cert.algebraic_KernelGateFIdeal_ReferenceGateFIdeal (hKernelGateFIdeal := Cert.KernelGateFIdeal.Gen.facts)
    (hReferenceGateFIdeal := Cert.ReferenceGateFIdeal.Gen.facts) := by
  intro m g m' g' _ hagree
  refine ⟨fun c => res (m (c.tc.loc main_arg0)) (m (c.tc.loc main_arg1)) (m (c.tc.loc main_arg2)), ?_, ?_⟩
  · exact (θ_run defs _ _).mono (fun r h c => ⟨(h c).1.trans arr, (h c).2⟩) (Cert.KernelGateFIdeal.Value.run_blocks (F := Ideal) m g)
  · refine (θ_run Cert.ReferenceGateFIdeal.defs _ _).mono (fun r h c => ⟨(h c).1.trans (funext fun z => ?_), (h c).2⟩) (Cert.ReferenceGateFIdeal.Value.run (F := Ideal) m' g')
    obtain ⟨i, j, rfl⟩ : ∃ (i : Fin 8320) (j : Fin 1024), z = ix2 i j := ⟨_, _, eq_ix2 z⟩
    rw [(hagree c).1, (hagree c).2.1, (hagree c).2.2]
    clean_types
    pointwise
    rfl

end Cert.GateF
-- ==== Proof.RmsF.lean ====
/-
  The forward normalisation: each row over the root of its mean square, times the weight.
-/
module

public import proofs.«01_k».proof.Proof.Product
public import proofs.«01_k».proof.Proof.Gen.KernelRmsFIdeal.Value
public import proofs.«01_k».proof.Proof.Gen.ReferenceRmsFIdeal.Run
public import proofs.«01_k».proof.Defs
public import Idealize.ShloMosaic.Lib.StableHlo.ReadAt

@[expose] public section

set_option maxRecDepth 16384

noncomputable section

namespace Cert.RmsF

open Cert.KernelRmsFIdeal Cert.KernelRmsFIdeal.Gen Idealize.ShloMosaic Idealize.ShloMosaic.TcCoe Idealize.SL.Sem StableHlo
open Cert.Ret Cert.Product

variable {m : (ℓ : Loc nD τ sig) → Buf (Elt Ideal) ℓ} {c : Dev nD}

theorem idx : ∀ t : Fin cfg0.N, t.val < 13 ∧ win0_0.index t = ![t.val, 0] ∧ win0_1.index t = ![0, 0]
    ∧ win0_2.index t = ![t.val, 0] := by decide +kernel

/-- One row over the root of its mean square, times the weight. -/
def norm (x w : Fin 1024 → EReal) (j : Fin 1024) : EReal :=
  x j * Ideal.rsqrt (Ideal.div (∑ k, x k * x k) (Ideal.ofBits FTy.f32 0x44800000#32) + Ideal.ofBits FTy.f32 0x358637BD#32) * w j

theorem pay (x : Vec Ideal S640x1024 .f32) (w : Vec Ideal S1x1024 .f32) (i : Fin 640) (j : Fin 1024) :
    k0_pay1 (F := Ideal) x w (ix2 i j) = norm (fun k => x (ix2 i k)) (fun k => w (ix2 0 k)) j := by
  unfold k0_pay1
  clean_types
  pointwise
  rfl

theorem rows (t : Fin cfg0.N) (i : Fin 640) (k : Fin 1024) (p : Fin 8320) (hp : p.val = t.val * 640 + i.val) :
    iblk m c 0 t (ix2 i k) = m (c.tc.loc main_arg0) (ix2 p k) ∧ iblk m c 1 t (ix2 0 k) = m (c.tc.loc main_arg1) (ix2 0 k) := by
  have := (idx t).1
  have h0 : t.val * 640 + i.val < 8320 := by omega
  obtain rfl : p = ⟨_, h0⟩ := Fin.ext hp
  refine ⟨?_, ?_⟩
  all_goals blk_ext [iblk, idx t]

/-- The result. -/
def res (x : Vec Ideal S8320x1024 .f32) (w : Vec Ideal S1x1024 .f32) : Vec Ideal S8320x1024 .bf16 := fun z =>
  norm (fun k => x (ix2 (z 0) k)) (fun k => w (ix2 0 k)) (z 1)

theorem emb (t : Fin cfg0.N) (z : S640x1024.Idx) : (((cfg0.win 2).blk t).view.emb z 0).val = t.val * 640 + (z 0).val
    ∧ (((cfg0.win 2).blk t).view.emb z 1).val = (z 1).val := by
  constructor
  · show win0_2.index t 0 * 640 + 1 * (z 0).val = _
    simp only [(idx t).2.2.2, Matrix.cons_val_zero, Matrix.cons_val_one, one_mul, zero_mul, zero_add]
  · show win0_2.index t 1 * 1024 + 1 * (z 1).val = _
    simp only [(idx t).2.2.2, Matrix.cons_val_zero, Matrix.cons_val_one, one_mul, zero_mul, zero_add]

theorem arr : (dats m 0 c).arrAt 2 cfg0.N = res (m (c.tc.loc main_arg0)) (m (c.tc.loc main_arg1)) := by
  refine (dats m 0 c).arrAt_eq_of_covers 2 _ (by decide +kernel) fun t hf z => ?_
  obtain ⟨e0, e1⟩ := emb t z
  obtain ⟨i, j, rfl⟩ : ∃ (i : Fin 640) (j : Fin 1024), z = ix2 i j := ⟨_, _, eq_ix2 z⟩
  rw [after0_2]
  unfold out0_2
  frame_out
  refine (pay _ _ i j).trans ?_
  have hx : (fun k => iblk m c 0 t (ix2 i k)) = fun k => m (c.tc.loc main_arg0) (ix2 (((cfg0.win 2).blk t).view.emb (ix2 i j) 0) k) :=
    funext fun k => (rows (m := m) (c := c) t i k _ e0).1
  have hw : (fun k : Fin 1024 => iblk m c 1 t (ix2 0 k)) = fun k => m (c.tc.loc main_arg1) (ix2 0 k) :=
    funext fun k => (rows (m := m) (c := c) t i k _ e0).2
  exact (congrArg₂ (fun x w => norm x w j) hx hw).trans (congrArg (norm _ _) (Fin.ext e1.symm))

theorem algebraic : Cert.algebraic_KernelRmsFIdeal_ReferenceRmsFIdeal (hKernelRmsFIdeal := Cert.KernelRmsFIdeal.Gen.facts)
    (hReferenceRmsFIdeal := Cert.ReferenceRmsFIdeal.Gen.facts) := by
  intro m g m' g' _ hagree
  refine ⟨fun c => res (m (c.tc.loc main_arg0)) (m (c.tc.loc main_arg1)), ?_, ?_⟩
  · exact (θ_run defs _ _).mono (fun r h c => ⟨(h c).1.trans arr, (h c).2⟩) (Cert.KernelRmsFIdeal.Value.run_blocks (F := Ideal) m g)
  · refine (θ_run Cert.ReferenceRmsFIdeal.defs _ _).mono (fun r h c => ⟨(h c).1.trans (funext fun z => ?_), (h c).2⟩) (Cert.ReferenceRmsFIdeal.Value.run (F := Ideal) m' g')
    obtain ⟨i, j, rfl⟩ : ∃ (i : Fin 8320) (j : Fin 1024), z = ix2 i j := ⟨_, _, eq_ix2 z⟩
    rw [(hagree c).1, (hagree c).2]
    clean_types
    pointwise
    rfl

end Cert.RmsF
-- ==== Proof.Norm.lean ====
/-
  The gradient of the normalisation of a row by the root of its mean square, on the extended reals: the closed form that
  the kernel computes equals what the transposed derivative computes, whatever the row holds. The root of the mean square
  is never zero, so its inverse is a nonnegative real, and a nonnegative real factor distributes over any sum.
-/
module

public import proofs.«01_k».proof.Proof.Coe

@[expose] public section

noncomputable section

namespace Cert.Norm

open Idealize.ShloMosaic Cert.Ret

/-- The mean square of a row plus the small constant. -/
def msq (x : Fin 1024 → EReal) : EReal :=
  Ideal.div (∑ k, x k * x k) (Ideal.ofBits FTy.f32 0x44800000#32) + Ideal.ofBits FTy.f32 0x358637BD#32

/-- The kernel's form of the gradient. -/
def grad (x y : Fin 1024 → EReal) (j : Fin 1024) : EReal :=
  Ideal.rsqrt (msq x) * (y j - x j * Ideal.rsqrt (msq x) *
    Ideal.div (∑ k, y k * (x k * Ideal.rsqrt (msq x))) (Ideal.ofBits FTy.f32 0x44800000#32))

/-- What the derivative of the mean square contributes, once for each factor of a square. -/
def turn (x y : Fin 1024 → EReal) : EReal :=
  ∑ _k : Fin 1, Ideal.div ((∑ k, x k * y k) * (Ideal.ofBits FTy.f32 0xBF000000#32 * Ideal.div (Ideal.rsqrt (msq x)) (msq x)))
    (Ideal.ofBits FTy.f32 0x44800000#32)

theorem word_1024 : Ideal.ofBits .f32 0x44800000#32 = ((1024 : ℝ) : EReal) := by simp [Ideal.ofBits, Ideal.ieee, -EReal.coe_mul]; norm_num
theorem word_mhalf : Ideal.ofBits .f32 0xBF000000#32 = ((-2⁻¹ : ℝ) : EReal) := by simp [Ideal.ofBits, Ideal.ieee, -EReal.coe_mul]; norm_num
theorem word_eps : ∃ e : ℝ, 0 < e ∧ Ideal.ofBits .f32 0x358637BD#32 = (e : EReal) :=
  ⟨8796093 / 8796093022208, by norm_num, by simp [Ideal.ofBits, Ideal.ieee, -EReal.coe_mul]; norm_num⟩

theorem div_coe (a : EReal) {b : ℝ} (h : b ≠ 0) : Ideal.div a (b : EReal) = a * ((b⁻¹ : ℝ) : EReal) := by
  unfold Ideal.div
  rw [if_neg (by simpa using h), EReal.coe_inv]

theorem sq_nonneg' (a : EReal) : 0 ≤ a * a := by
  induction a with
  | bot => simp
  | top => simp
  | coe r => exact EReal.coe_nonneg.mpr (mul_self_nonneg r)

theorem msq_cases (x : Fin 1024 → EReal) : msq x = ⊤ ∨ ∃ s : ℝ, 0 < s ∧ msq x = (s : EReal) := by
  obtain ⟨e, he, hw⟩ := word_eps
  have h : 0 ≤ (∑ k, x k * x k) := Finset.sum_nonneg fun k _ => sq_nonneg' (x k)
  unfold msq
  rw [hw, word_1024, div_coe _ (by norm_num)]
  revert h
  generalize (∑ k, x k * x k) = q
  intro h
  induction q with
  | bot => exact absurd h (by simp)
  | top => left; rw [EReal.top_mul_coe_of_pos (by norm_num)]; rfl
  | coe r =>
    right
    have hr : 0 ≤ r := EReal.coe_nonneg.mp h
    exact ⟨r * 1024⁻¹ + e, by positivity, by rw [coe_mul', coe_add']⟩

/-- A nonnegative real factor moves out of a sum. -/
theorem mul_sum' {ι : Type*} (s : Finset ι) (f : ι → EReal) {b : ℝ} (hb : 0 ≤ b) : ∑ i ∈ s, (b : EReal) * f i = (b : EReal) * ∑ i ∈ s, f i := by
  classical
  induction s using Finset.induction_on with
  | empty => simp
  | insert a s ha ih =>
    rw [Finset.sum_insert ha, Finset.sum_insert ha, ih,
      EReal.left_distrib_of_nonneg_of_ne_top (EReal.coe_nonneg.mpr hb) (EReal.coe_ne_top b)]

theorem double (y : EReal) : y + y = ((2 : ℝ) : EReal) * y := by
  have : ((2 : ℝ) : EReal) = 1 + 1 := by rw [coe_one', coe_add']; norm_num
  rw [this, EReal.right_distrib_of_nonneg zero_le_one zero_le_one, one_mul]

theorem grad_eq (x y : Fin 1024 → EReal) (j : Fin 1024) :
    y j * Ideal.rsqrt (msq x) + x j * turn x y + turn x y * x j = grad x y j := by
  unfold grad turn
  rw [Fin.sum_univ_one, word_1024, word_mhalf, div_coe _ (by norm_num : (1024 : ℝ) ≠ 0), div_coe _ (by norm_num : (1024 : ℝ) ≠ 0)]
  rcases msq_cases x with h | ⟨s, hs, h⟩
  · rw [h]
    simp [Ideal.div]
  · have hb : 0 ≤ (Real.sqrt s)⁻¹ := by positivity
    have h3 : (Real.sqrt s)⁻¹ * s⁻¹ = (Real.sqrt s)⁻¹ * ((Real.sqrt s)⁻¹ * (Real.sqrt s)⁻¹) := by
      rw [← mul_inv (Real.sqrt s) (Real.sqrt s), Real.mul_self_sqrt hs.le]
    rw [h, rsqrt_coe hs, div_coe _ hs.ne']
    generalize (Real.sqrt s)⁻¹ = b at hb h3
    have hq : (∑ k, y k * (x k * (b : EReal))) = (b : EReal) * ∑ k, x k * y k := by
      rw [← mul_sum' _ _ hb]
      exact Finset.sum_congr rfl fun k _ => by rw [← mul_assoc, mul_comm, mul_comm (y k)]
    rw [hq, sub_eq_add_neg, EReal.left_distrib_of_nonneg_of_ne_top (EReal.coe_nonneg.mpr hb) (EReal.coe_ne_top b)]
    generalize (∑ k, x k * y k) = q
    rw [add_assoc, mul_comm _ (x j), double, mul_comm (y j), mul_neg, coe_mul', h3, coe_mul']
    refine congrArg _ ?_
    have e1 : ((2 : ℝ) : EReal) * (x j * (q * ((-2⁻¹ * (b * (b * b)) : ℝ) : EReal) * ((1024⁻¹ : ℝ) : EReal)))
        = x j * q * ((2 * (-2⁻¹ * (b * (b * b))) * 1024⁻¹ : ℝ) : EReal) := by
      simp only [EReal.coe_mul]
      ac_rfl
    have e2 : (b : EReal) * (x j * (b : EReal) * ((b : EReal) * q * ((1024⁻¹ : ℝ) : EReal)))
        = x j * q * ((b * (b * b) * 1024⁻¹ : ℝ) : EReal) := by
      simp only [EReal.coe_mul]
      ac_rfl
    rw [e1, e2, ← mul_neg, coe_neg']
    congr 2
    ring

end Cert.Norm
-- ==== Proof.Rms.lean ====
/-
  The gradient of the normalisation: the rows' gradient with the residual's added, and the weight's gradient, which the
  points of the grid accumulate over blocks of 640 rows.
-/
module

public import proofs.«01_k».proof.Proof.Product
public import proofs.«01_k».proof.Proof.Norm
public import proofs.«01_k».proof.Proof.Gen.KernelRmsIdeal.Value
public import proofs.«01_k».proof.Proof.Gen.ReferenceRmsIdeal.Run
public import proofs.«01_k».proof.Defs
public import Idealize.ShloMosaic.Lib.StableHlo.ReadAt

@[expose] public section

set_option maxRecDepth 16384

noncomputable section

namespace Cert.Rms

open Cert.KernelRmsIdeal Cert.KernelRmsIdeal.Gen Idealize.ShloMosaic Idealize.ShloMosaic.TcCoe Idealize.SL.Sem StableHlo
open Cert.Ret Cert.Product Cert.Norm

variable {m : (ℓ : Loc nD τ sig) → Buf (Elt Ideal) ℓ} {c : Dev nD}

theorem idx : ∀ t : Fin cfg0.N, t.val < 13 ∧ win0_0.index t = ![t.val, 0] ∧ win0_1.index t = ![0, 0]
    ∧ win0_2.index t = ![t.val, 0] ∧ win0_3.index t = ![t.val, 0] ∧ win0_4.index t = ![t.val, 0] ∧ win0_5.index t = ![0, 0] := by decide +kernel

theorem pay4 (x g : Vec Ideal S640x1024 .f32) (w : Vec Ideal S1x1024 .f32) (r : Vec Ideal S640x1024 .f32) (i : Fin 640) (j : Fin 1024) :
    k0_pay4 (F := Ideal) x g w r (ix2 i j)
      = (grad (fun k => x (ix2 i k)) (fun k => g (ix2 i k) * w (ix2 0 k)) j + r (ix2 i j) : EReal) := by
  unfold k0_pay4 k0_pay3 k0_pay2
  clean_types
  pointwise
  rfl

/-- An entry of a row over the root of the row's mean square. -/
def unit (x : Fin 1024 → EReal) (j : Fin 1024) : EReal := x j * Ideal.rsqrt (msq x)

theorem pay5 (x g : Vec Ideal S640x1024 .f32) (a : Vec Ideal S1x1024 .f32) (j : Fin 1024) :
    k0_pay5 (F := Ideal) x g a (ix2 0 j)
      = ((a (ix2 0 j) : EReal) + dot (fun k : Fin 640 => g (ix2 k j)) fun k => unit (fun l => x (ix2 k l)) j : EReal) := by
  unfold k0_pay5 k0_pay3 k0_pay2
  clean_types
  pointwise
  rfl

theorem pay1 (z : S1x1024.Idx) : k0_pay1 (F := Ideal) z = (0 : EReal) := by
  unfold k0_pay1
  clean_types
  pointwise

theorem rows (t : Fin cfg0.N) (i : Fin 640) (k : Fin 1024) (p : Fin 8320) (hp : p.val = t.val * 640 + i.val) :
    iblk m c 0 t (ix2 i k) = m (c.tc.loc main_arg0) (ix2 p k) ∧ iblk m c 1 t (ix2 0 k) = m (c.tc.loc main_arg1) (ix2 0 k)
      ∧ iblk m c 2 t (ix2 i k) = m (c.tc.loc main_arg2) (ix2 p k) ∧ iblk m c 3 t (ix2 i k) = m (c.tc.loc main_arg3) (ix2 p k) := by
  have := (idx t).1
  have h0 : t.val * 640 + i.val < 8320 := by omega
  obtain rfl : p = ⟨_, h0⟩ := Fin.ext hp
  refine ⟨?_, ?_, ?_, ?_⟩
  all_goals blk_ext [iblk, idx t]

/-- A row of the incoming gradient times the weight. -/
def scaled (g : Vec Ideal S8320x1024 .f32) (w : Vec Ideal S1x1024 .f32) (i : Fin 8320) (k : Fin 1024) : EReal := g (ix2 i k) * w (ix2 0 k)

/-- The rows' gradient. -/
def dh (x g r : Vec Ideal S8320x1024 .f32) (w : Vec Ideal S1x1024 .f32) : Vec Ideal S8320x1024 .f32 := fun z =>
  (grad (fun k => x (ix2 (z 0) k)) (scaled g w (z 0)) (z 1) + r z : EReal)

/-- The weight's gradient. -/
def gw (x g : Vec Ideal S8320x1024 .f32) : Vec Ideal S1x1024 .f32 := fun z =>
  dot (fun l : Fin 8320 => g (ix2 l (z 1))) fun l => unit (fun k => x (ix2 l k)) (z 1)

theorem emb4 (t : Fin cfg0.N) (i : Fin 640) (j : Fin 1024) (p : Fin 8320) (hp : p.val = t.val * 640 + i.val) :
    ((cfg0.win 4).blk t).view.emb (ix2 i j) = ix2 p j := by
  obtain ⟨_, _, _, _, _, e, _⟩ := idx t
  refine (eq_ix2 _).trans (congrArg₂ ix2 (Fin.ext ?_) (Fin.ext ?_))
  · show win0_4.index t 0 * 640 + 1 * i.val = _
    simp only [e, hp, Matrix.cons_val_zero, one_mul]
  · show win0_4.index t 1 * 1024 + 1 * j.val = _
    simp only [e, Matrix.cons_val_one, Matrix.cons_val_fin_one, one_mul, zero_mul, zero_add]

theorem emb5 (t : Fin cfg0.N) (j : Fin 1024) : ((cfg0.win 5).blk t).view.emb (ix2 0 j) = ix2 0 j := by
  obtain ⟨_, _, _, _, _, _, e⟩ := idx t
  refine (eq_ix2 _).trans (congrArg₂ ix2 (Fin.ext ?_) (Fin.ext ?_))
  · show win0_5.index t 0 * 1 + 1 * 0 = _
    simp only [e, Matrix.cons_val_zero]
    rfl
  · show win0_5.index t 1 * 1024 + 1 * j.val = _
    simp only [e, Matrix.cons_val_one, Matrix.cons_val_fin_one, one_mul, zero_mul, zero_add]

theorem dh_val (t : Fin cfg0.N) (i : Fin 640) (j : Fin 1024) (p : Fin 8320) (hp : p.val = t.val * 640 + i.val) :
    k0_pay4 (F := Ideal) (iblk m c 0 t) (iblk m c 2 t) (iblk m c 1 t) (iblk m c 3 t) (ix2 i j)
      = dh (m (c.tc.loc main_arg0)) (m (c.tc.loc main_arg2)) (m (c.tc.loc main_arg3)) (m (c.tc.loc main_arg1)) (ix2 p j) := by
  rw [pay4]
  have h := fun k => rows (m := m) (c := c) t i k p hp
  simp only [fun k => (h k).1, fun k => (h k).2.1, fun k => (h k).2.2.1, (h j).2.2.2]
  rfl

theorem arr4 : (dats m 0 c).arrAt 4 cfg0.N = dh (m (c.tc.loc main_arg0)) (m (c.tc.loc main_arg2)) (m (c.tc.loc main_arg3)) (m (c.tc.loc main_arg1)) := by
  refine (dats m 0 c).arrAt_eq_of_covers 4 _ (by decide +kernel) fun t hf z => ?_
  obtain ⟨i, j, rfl⟩ : ∃ (i : Fin 640) (j : Fin 1024), z = ix2 i j := ⟨_, _, eq_ix2 z⟩
  have hp : t.val * 640 + i.val < 8320 := by have := (idx t).1; omega
  rw [emb4 t i j ⟨_, hp⟩ rfl, after0_4]
  by_cases h : t.val % 13 = 0
  · rw [outsAt0_A m c t h]
    unfold out0_A_4
    frame_out
    exact dh_val t i j ⟨_, hp⟩ rfl
  · rw [outsAt0_B m c t h]
    unfold out0_B_4
    frame_out
    exact dh_val t i j ⟨_, hp⟩ rfl

theorem arr5 : (dats m 0 c).arrAt 5 cfg0.N = gw (m (c.tc.loc main_arg0)) (m (c.tc.loc main_arg2)) := by
  refine (dats m 0 c).arrAt_eq_of_covers 5 _ (by decide +kernel) fun t hf z => ?_
  obtain ⟨i, j, rfl⟩ : ∃ (i : Fin 1) (j : Fin 1024), z = ix2 i j := ⟨_, _, eq_ix2 z⟩
  obtain rfl : i = 0 := Subsingleton.elim _ _
  rw [emb5 t j, after0_5]
  refine (acc_dot (fun n h (j : Fin 1024) => ((outsAt0 m c n h).2 (ix2 0 j) : EReal)) 13 (fun _ _ => 0)
    (fun t j k => iblk m c 2 t (ix2 k j)) (fun t j k => unit (fun l => iblk m c 0 t (ix2 k l)) j)
    (fun t h j => ?_) (fun t h j => ?_) t ((flush0_5 t).mp hf) j (L := 8320) rfl (fun _ _ => rfl) (fun p s k h hp => ?_) (fun p s k h hp => ?_)).trans (zero_add _)
  · rw [outsAt0_A m c t h]
    dsimp only
    unfold out0_A_5
    frame_out
    refine (pay5 _ _ _ j).trans ?_
    exact congrArg (· + _) (pay1 _)
  · rw [outsAt0_B m c t h]
    dsimp only
    unfold out0_B_5
    frame_out
    exact (pay5 _ _ _ j)
  · have := (idx p).1
    have := (idx t).1
    exact (rows (m := m) (c := c) p k j _ (by dsimp only; omega)).2.2.1
  · have := (idx p).1
    have := (idx t).1
    exact congrArg (fun x => unit x j) (funext fun l => (rows (m := m) (c := c) p k l _ (by dsimp only; omega)).1)

theorem algebraic : Cert.algebraic_KernelRmsIdeal_ReferenceRmsIdeal (hKernelRmsIdeal := Cert.KernelRmsIdeal.Gen.facts)
    (hReferenceRmsIdeal := Cert.ReferenceRmsIdeal.Gen.facts) := by
  intro m g m' g' _ hagree
  refine ⟨fun c => dh (m (c.tc.loc main_arg0)) (m (c.tc.loc main_arg2)) (m (c.tc.loc main_arg3)) (m (c.tc.loc main_arg1)),
    fun c => gw (m (c.tc.loc main_arg0)) (m (c.tc.loc main_arg2)), ?_, ?_⟩
  · exact (θ_run defs _ _).mono (fun r h c => ⟨(h c).1.trans arr4, (h c).2.1.trans arr5, (h c).2.2⟩) (Cert.KernelRmsIdeal.Value.run_blocks (F := Ideal) m g)
  · refine (θ_run Cert.ReferenceRmsIdeal.defs _ _).mono (fun r h c => ⟨(h c).1.trans (funext fun z => ?_), (h c).2.1.trans (funext fun z => ?_), (h c).2.2⟩) (Cert.ReferenceRmsIdeal.Value.run (F := Ideal) m' g')
    · obtain ⟨i, j, rfl⟩ : ∃ (i : Fin 8320) (j : Fin 1024), z = ix2 i j := ⟨_, _, eq_ix2 z⟩
      rw [(hagree c).1, (hagree c).2.1, (hagree c).2.2.1, (hagree c).2.2.2]
      clear h
      clean_types
      pointwise
      exact congrArg (· + (m (c.tc.loc main_arg3) (ix2 i j) : EReal))
        (grad_eq (fun k => m (c.tc.loc main_arg0) (ix2 i k)) (scaled (m (c.tc.loc main_arg2)) (m (c.tc.loc main_arg1)) i) j)
    · obtain ⟨i, j, rfl⟩ : ∃ (i : Fin 1) (j : Fin 1024), z = ix2 i j := ⟨_, _, eq_ix2 z⟩
      rw [(hagree c).1, (hagree c).2.2.1]
      clear h
      clean_types
      pointwise
      exact dot_comm _ _

end Cert.Rms
-- ==== Proof.Adam.lean ====
/-
  One step of the optimiser on one entry of a weight: the gradient's entry, taken from the half of the rows that this core
  has summed or from the half that it was sent, the two moments and the update.
-/
module

public import Idealize.ShloMosaic.PureOps.Ideal
public import Idealize.ShloMosaic.PureOps.Ideal.Laws
public import Mathlib.Tactic.Ring

@[expose] public section

noncomputable section

namespace Cert.Adam

open Idealize.ShloMosaic

/-- The first moment, decayed, plus its share of the gradient. -/
def mom1 (g m : EReal) : EReal := Ideal.ofBits FTy.f32 0x3F666666#32 * m + Ideal.ofBits FTy.f32 0x3DCCCCCD#32 * g

/-- The second moment, decayed, plus its share of the gradient's square. -/
def mom2 (g v : EReal) : EReal := Ideal.ofBits FTy.f32 0x3F7FBE77#32 * v + Ideal.ofBits FTy.f32 0x3A83126F#32 * (g * g)

/-- The update of the weight. -/
def delta (g w m v : EReal) : EReal :=
  Ideal.ofBits FTy.f32 0xBA83126F#32 * (Ideal.div (Ideal.div (mom1 g m) (Ideal.ofBits FTy.f32 0x3F26BD02#32))
    (Ideal.sqrt (Ideal.div (mom2 g v) (Ideal.ofBits FTy.f32 0x3C231ACC#32)) + Ideal.ofBits FTy.f32 0x322BCC77#32)
    + Ideal.ofBits FTy.f32 0x3C23D70A#32 * w)

/-- The quotient rounded down, as the kernel computes it on words. -/
def fdiv (x n : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt n 0#32)) (Scalar.extui (Scalar.cmpi .slt n 0#32)))) (Scalar.cmpi .ne (Scalar.remsi x n) 0#32))
    (Scalar.subi (Scalar.divsi x n) 1#32) (Scalar.divsi x n)

/-- A choice by whether this core is the one that sums half `n`. -/
def side (core : BitVec 32) (n : ℕ) (a b : EReal) : EReal := Scalar.select (Scalar.cmpi .eq (BitVec.ofNat 32 n) core) a b

/-- Row `p` of the gradient, whose halves have `h` rows each: `a` holds the rows of this core's half, `b` those of the other's. -/
def whole (h : ℕ) [NeZero h] (core : BitVec 32) (a b : Fin h → EReal) (p : ℕ) : EReal :=
  side core (p / h) (a ⟨p % h, Nat.mod_lt _ (NeZero.pos h)⟩) (b ⟨p % h, Nat.mod_lt _ (NeZero.pos h)⟩)

theorem eq_comm' (a b : BitVec 32) : Scalar.cmpi .eq a b = IntOp.cmpi .eq b a := by
  show BitVec.ofBool (a == b) = BitVec.ofBool (b == a)
  rw [BEq.comm]

/-- The two halves one after the other, each chosen by the core's index. -/
theorem whole_dite (h : ℕ) [NeZero h] (core : BitVec 32) (a b : Fin h → EReal) (p : ℕ) (hp : p < h + h) :
    (if hl : p < h then Scalar.select (IntOp.cmpi .eq core 0#32) (a ⟨p, hl⟩) (b ⟨p, hl⟩)
      else Scalar.select (IntOp.cmpi .eq core 1#32) (a ⟨p - h, by omega⟩) (b ⟨p - h, by omega⟩)) = whole h core a b p := by
  unfold whole side
  rw [eq_comm']
  split
  next hl =>
    simp only [Nat.div_eq_of_lt hl, Nat.mod_eq_of_lt hl]
  next hl =>
    have h1 : p / h = 1 := Nat.div_eq_of_lt_le (by omega) (by omega)
    have h2 : p % h = p - h := by rw [Nat.mod_eq_sub_mod (by omega), Nat.mod_eq_of_lt (by omega)]
    simp only [h1, h2]

/-- An entry of a result in column `j`: `f` of the whole gradient's entry and of the weight's and the two moments' entries. -/
def res {R C : ℕ} (h : ℕ) [NeZero h] (f : EReal → EReal → EReal → EReal → EReal) (core : BitVec 32) (a b : Fin h → Fin C → EReal)
    (w u v : Fin R → Fin C → EReal) (p : Fin R) (j : Fin C) : EReal :=
  f (whole h core (fun l => a l j) (fun l => b l j) p.val) (w p j) (u p j) (v p j)

/-- Row `i` of point `t`'s blocks of `d` rows: the halves, of `n` blocks each, are read twice over, the other arrays once. -/
theorem res_block {R C h : ℕ} [NeZero h] (n d : ℕ) (hn : h = n * d) (f : EReal → EReal → EReal → EReal → EReal) (core : BitVec 32)
    (a b : Fin h → Fin C → EReal) (w u v : Fin R → Fin C → EReal) (t i : ℕ) (hi : i < d) (hR : t * d + i < R) (j : Fin C)
    {A B W U V : EReal} (hA : ∀ q : Fin h, q.val = t % n * d + i → A = a q j) (hB : ∀ q : Fin h, q.val = t % n * d + i → B = b q j)
    (hW : W = w ⟨t * d + i, hR⟩ j) (hU : U = u ⟨t * d + i, hR⟩ j) (hV : V = v ⟨t * d + i, hR⟩ j) :
    f (side core (t / n) A B) W U V = res h f core a b w u v ⟨t * d + i, hR⟩ j := by
  subst hn
  have hd : 0 < d := by omega
  have e1 : (t * d + i) / (n * d) = t / n := by
    rw [mul_comm n d, ← Nat.div_div_eq_div_mul, Nat.mul_comm t d, Nat.mul_add_div hd, Nat.div_eq_of_lt hi, Nat.add_zero]
  have e2 : (t * d + i) % (n * d) = t % n * d + i := by
    rw [mul_comm n d, Nat.mod_mul, Nat.mul_comm t d, Nat.mul_add_mod, Nat.mod_eq_of_lt hi, Nat.mul_add_div hd, Nat.div_eq_of_lt hi, Nat.add_zero]
    ring
  unfold res whole
  rw [e1, hA ⟨_, Nat.mod_lt _ (NeZero.pos (n * d))⟩ e2, hB ⟨_, Nat.mod_lt _ (NeZero.pos (n * d))⟩ e2, hW, hU, hV]

end Cert.Adam
-- ==== Proof.AdamIn.lean ====
/-
  The optimiser's step on `w_in`: 8 points of 128 rows each, whose gradients are in halves of 512 rows. See Adam.
-/
module

public import proofs.«01_k».proof.Proof.Product
public import proofs.«01_k».proof.Proof.Adam
public import proofs.«01_k».proof.Proof.Gen.KernelAdamInIdeal.Value
public import proofs.«01_k».proof.Proof.Gen.ReferenceAdamInIdeal.Run
public import proofs.«01_k».proof.Defs
public import Idealize.ShloMosaic.Lib.StableHlo.ReadAt

@[expose] public section

set_option maxRecDepth 16384

noncomputable section

namespace Cert.AdamIn

open Cert.KernelAdamInIdeal Cert.KernelAdamInIdeal.Gen Idealize.ShloMosaic Idealize.ShloMosaic.TcCoe Idealize.SL.Sem StableHlo
open Cert.Ret Cert.Product Cert.Adam

variable {m : (ℓ : Loc nD τ sig) → Buf (Elt Ideal) ℓ} {c : Dev nD}

theorem idx : ∀ t : Fin cfg0.N, t.val < 8 ∧ win0_0.index t = ![0] ∧ win0_1.index t = ![t.val, 0] ∧ win0_2.index t = ![t.val % 4, 0]
    ∧ win0_3.index t = ![t.val % 4, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := by decide +kernel

/-- The half of the rows that a point is in says which gradient it takes. -/
theorem pay2 (t : Fin cfg0.N) (core : BitVec 32) (a b : Vec Ideal S128x3336 .f32) (z : S128x3336.Idx) :
    k0_pay2 (grid0.coords t) core a b z = side core (t.val / 4) (a z) (b z) := by
  show (Scalar.select (Scalar.cmpi .eq (fdiv (BitVec.ofNat 32 (grid0.coords t 0).val) 4#32) core) a b : Vec Ideal S128x3336 .f32) z = _
  rw [(by decide +kernel : ∀ t : Fin cfg0.N, fdiv (BitVec.ofNat 32 (grid0.coords t 0).val) 4#32 = BitVec.ofNat 32 (t.val / 4)) t]
  unfold side Scalar.select
  split <;> rfl

theorem pay3 (t : Fin cfg0.N) (core : BitVec 32) (a b u : Vec Ideal S128x3336 .f32) (i : Fin 128) (j : Fin 3336) :
    k0_pay3 (grid0.coords t) core a b u (ix2 i j) = mom1 (side core (t.val / 4) (a (ix2 i j)) (b (ix2 i j))) (u (ix2 i j)) := by
  rw [← pay2]
  unfold k0_pay3
  clean_types
  pointwise
  rfl

theorem pay4 (t : Fin cfg0.N) (core : BitVec 32) (a b u : Vec Ideal S128x3336 .f32) (i : Fin 128) (j : Fin 3336) :
    k0_pay4 (grid0.coords t) core a b u (ix2 i j) = mom2 (side core (t.val / 4) (a (ix2 i j)) (b (ix2 i j))) (u (ix2 i j)) := by
  rw [← pay2]
  unfold k0_pay4
  clean_types
  pointwise
  rfl

theorem pay1 (t : Fin cfg0.N) (core : BitVec 32) (a b w u v : Vec Ideal S128x3336 .f32) (i : Fin 128) (j : Fin 3336) :
    k0_pay1 w (k0_pay3 (grid0.coords t) core a b u) (k0_pay4 (grid0.coords t) core a b v) (FloatOps.ofBits FTy.f32 0x3F26BD02#32) (ix2 i j)
      = delta (side core (t.val / 4) (a (ix2 i j)) (b (ix2 i j))) (w (ix2 i j)) (u (ix2 i j)) (v (ix2 i j)) := by
  unfold delta
  rw [← pay3, ← pay4]
  unfold k0_pay1
  clean_types
  pointwise

/-- A result, entry by entry. -/
def out (f : EReal → EReal → EReal → EReal → EReal) (core : Vec Ideal S1 .i32) (w : Vec Ideal S1024x3336 .f32) (a b : Vec Ideal S512x3336 .f32)
    (u v : Vec Ideal S1024x3336 .f32) : Vec Ideal S1024x3336 .f32 := fun z =>
  res 512 f (core (ix1 0)) (fun l j => a (ix2 l j)) (fun l j => b (ix2 l j)) (fun p j => w (ix2 p j)) (fun p j => u (ix2 p j)) (fun p j => v (ix2 p j)) (z 0) (z 1)

theorem row_lt (t : Fin cfg0.N) (i : Fin 128) : t.val * 128 + i.val < 1024 := by have := (idx t).1; omega

theorem core_val (t : Fin cfg0.N) (h) :
    View.ld (iblk m c 0 t) (Rect.unit ![0] ![1] inb_S1_S1_0) (Shape.Idx.first h) = m (c.tc.loc main_arg0) (ix1 0) := by
  refine Eq.trans (b := iblk m c 0 t (ix1 0)) ?_ ?_
  · clean_types
    pointwise
  · blk_ext [iblk, idx t]

theorem out_val (f : EReal → EReal → EReal → EReal → EReal) (t : Fin cfg0.N) (i : Fin 128) (j : Fin 3336) (h) :
    f (side (View.ld (iblk m c 0 t) (Rect.unit ![0] ![1] inb_S1_S1_0) (Shape.Idx.first h)) (t.val / 4) (iblk m c 2 t (ix2 i j))
      (iblk m c 3 t (ix2 i j))) (iblk m c 1 t (ix2 i j)) (iblk m c 4 t (ix2 i j)) (iblk m c 5 t (ix2 i j))
      = out f (m (c.tc.loc main_arg0)) (m (c.tc.loc main_arg1)) (m (c.tc.loc main_arg2)) (m (c.tc.loc main_arg3)) (m (c.tc.loc main_arg4))
        (m (c.tc.loc main_arg5)) (ix2 ⟨t.val * 128 + i.val, row_lt t i⟩ j) := by
  rw [core_val]
  have ht := (idx t).1
  refine res_block 4 128 rfl f _ _ _ _ _ _ t.val i.val i.isLt (row_lt t i) j (fun q hq => ?_) (fun q hq => ?_) ?_ ?_ ?_
  · have h0 : t.val % 4 * 128 + i.val < 512 := hq ▸ q.isLt
    obtain rfl : q = ⟨_, h0⟩ := Fin.ext hq
    blk_ext [iblk, idx t]
  · have h0 : t.val % 4 * 128 + i.val < 512 := hq ▸ q.isLt
    obtain rfl : q = ⟨_, h0⟩ := Fin.ext hq
    blk_ext [iblk, idx t]
  all_goals blk_ext [iblk, idx t]

theorem emb (t : Fin cfg0.N) (i : Fin 128) (j : Fin 3336) (p : Fin 1024) (hp : p.val = t.val * 128 + i.val) :
    ((cfg0.win 6).blk t).view.emb (ix2 i j) = ix2 p j ∧ ((cfg0.win 7).blk t).view.emb (ix2 i j) = ix2 p j
      ∧ ((cfg0.win 8).blk t).view.emb (ix2 i j) = ix2 p j ∧ ((cfg0.win 9).blk t).view.emb (ix2 i j) = ix2 p j := by
  have key : ∀ (z : S1024x3336.Idx) (k : Fin 2 → ℕ), k = ![t.val, 0] → (z 0).val = k 0 * 128 + 1 * i.val → (z 1).val = k 1 * 3336 + 1 * j.val → z = ix2 p j := by
    rintro z k rfl h0 h1
    refine (eq_ix2 z).trans (congrArg₂ ix2 (Fin.ext (h0.trans ?_)) (Fin.ext (h1.trans ?_)))
    · simp only [hp, Matrix.cons_val_zero, one_mul]
    · simp only [Matrix.cons_val_one, Matrix.cons_val_fin_one, one_mul, zero_mul, zero_add]
  obtain ⟨_, _, _, _, _, _, _, e6, e7, e8, e9⟩ := idx t
  exact ⟨key _ _ e6 rfl rfl, key _ _ e7 rfl rfl, key _ _ e8 rfl rfl, key _ _ e9 rfl rfl⟩

theorem arr6 : (dats m 0 c).arrAt 6 cfg0.N = out (fun g _ _ _ => g) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 6 _ (by decide +kernel) fun t hf z => ?_
  obtain ⟨i, j, rfl⟩ : ∃ (i : Fin 128) (j : Fin 3336), z = ix2 i j := ⟨_, _, eq_ix2 z⟩
  rw [after0_6]
  unfold outsAt0 out0_A_6
  frame_out
  rw [(emb t i j ⟨_, row_lt t i⟩ rfl).1]
  exact (pay2 t _ _ _ (ix2 i j)).trans (out_val (fun g _ _ _ => g) t i j _)

theorem arr7 : (dats m 0 c).arrAt 7 cfg0.N = out delta (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 7 _ (by decide +kernel) fun t hf z => ?_
  obtain ⟨i, j, rfl⟩ : ∃ (i : Fin 128) (j : Fin 3336), z = ix2 i j := ⟨_, _, eq_ix2 z⟩
  rw [after0_7]
  unfold outsAt0 out0_A_7
  frame_out
  rw [(emb t i j ⟨_, row_lt t i⟩ rfl).2.1]
  exact (pay1 t _ _ _ _ _ _ i j).trans (out_val delta t i j _)

theorem arr8 : (dats m 0 c).arrAt 8 cfg0.N = out (fun g _ u _ => mom1 g u) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 8 _ (by decide +kernel) fun t hf z => ?_
  obtain ⟨i, j, rfl⟩ : ∃ (i : Fin 128) (j : Fin 3336), z = ix2 i j := ⟨_, _, eq_ix2 z⟩
  rw [after0_8]
  unfold outsAt0 out0_A_8
  frame_out
  rw [(emb t i j ⟨_, row_lt t i⟩ rfl).2.2.1]
  exact (pay3 t _ _ _ _ i j).trans (out_val (fun g _ u _ => mom1 g u) t i j _)

theorem arr9 : (dats m 0 c).arrAt 9 cfg0.N = out (fun g _ _ v => mom2 g v) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 9 _ (by decide +kernel) fun t hf z => ?_
  obtain ⟨i, j, rfl⟩ : ∃ (i : Fin 128) (j : Fin 3336), z = ix2 i j := ⟨_, _, eq_ix2 z⟩
  rw [after0_9]
  unfold outsAt0 out0_A_9
  frame_out
  rw [(emb t i j ⟨_, row_lt t i⟩ rfl).2.2.2]
  exact (pay4 t _ _ _ _ i j).trans (out_val (fun g _ _ v => mom2 g v) t i j _)

theorem algebraic : Cert.algebraic_KernelAdamInIdeal_ReferenceAdamInIdeal (hKernelAdamInIdeal := Cert.KernelAdamInIdeal.Gen.facts)
    (hReferenceAdamInIdeal := Cert.ReferenceAdamInIdeal.Gen.facts) := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, ?_, ?_⟩
  · exact (θ_run defs _ _).mono (fun r h c => h c) (Cert.KernelAdamInIdeal.Value.run_blocks (F := Ideal) m g)
  · refine (θ_run Cert.ReferenceAdamInIdeal.defs _ _).mono (fun r h c => ⟨(h c).1.trans (.trans (funext fun z => ?_) arr6.symm),
      (h c).2.1.trans (.trans (funext fun z => ?_) arr7.symm), (h c).2.2.1.trans (.trans (funext fun z => ?_) arr8.symm),
      (h c).2.2.2.1.trans (.trans (funext fun z => ?_) arr9.symm), (h c).2.2.2.2⟩) (Cert.ReferenceAdamInIdeal.Value.run (F := Ideal) m' g')
    all_goals
      obtain ⟨i, j, rfl⟩ : ∃ (i : Fin 1024) (j : Fin 3336), z = ix2 i j := ⟨_, _, eq_ix2 z⟩
      clear h
      obtain ⟨a0, a1, a2, a3, a4, a5⟩ := hagree c
      have hg := whole_dite 512 (m (c.tc.loc main_arg0) (ix1 0)) (fun l => m (c.tc.loc main_arg2) (ix2 l j)) (fun l => m (c.tc.loc main_arg3) (ix2 l j)) i.val i.isLt
    · rw [a0, a2, a3]
      clean_types
      pointwise
      exact hg
    · rw [a0, a1, a2, a3, a4, a5]
      clean_types
      pointwise
      exact congrArg (fun g => delta g (m (c.tc.loc main_arg1) (ix2 i j)) (m (c.tc.loc main_arg4) (ix2 i j)) (m (c.tc.loc main_arg5) (ix2 i j))) hg
    · rw [a0, a2, a3, a4]
      clean_types
      pointwise
      exact congrArg (fun g => mom1 g (m (c.tc.loc main_arg4) (ix2 i j))) hg
    · rw [a0, a2, a3, a5]
      clean_types
      pointwise
      exact congrArg (fun g => mom2 g (m (c.tc.loc main_arg5) (ix2 i j))) hg

end Cert.AdamIn
-- ==== Proof.AdamBranch.lean ====
/-
  The optimiser's step on a branch's weight: 4 points of 128 rows each, whose gradients are in halves of 256 rows. See Adam.
-/
module

public import proofs.«01_k».proof.Proof.Product
public import proofs.«01_k».proof.Proof.Adam
public import proofs.«01_k».proof.Proof.Gen.KernelAdamBranchIdeal.Value
public import proofs.«01_k».proof.Proof.Gen.ReferenceAdamBranchIdeal.Run
public import proofs.«01_k».proof.Defs
public import Idealize.ShloMosaic.Lib.StableHlo.ReadAt

@[expose] public section

set_option maxRecDepth 16384

noncomputable section

namespace Cert.AdamBranch

open Cert.KernelAdamBranchIdeal Cert.KernelAdamBranchIdeal.Gen Idealize.ShloMosaic Idealize.ShloMosaic.TcCoe Idealize.SL.Sem StableHlo
open Cert.Ret Cert.Product Cert.Adam

variable {m : (ℓ : Loc nD τ sig) → Buf (Elt Ideal) ℓ} {c : Dev nD}

theorem idx : ∀ t : Fin cfg0.N, t.val < 4 ∧ win0_0.index t = ![0] ∧ win0_1.index t = ![t.val, 0] ∧ win0_2.index t = ![t.val % 2, 0]
    ∧ win0_3.index t = ![t.val % 2, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := by decide +kernel

/-- The half of the rows that a point is in says which gradient it takes. -/
theorem pay2 (t : Fin cfg0.N) (core : BitVec 32) (a b : Vec Ideal S128x1024 .f32) (z : S128x1024.Idx) :
    k0_pay2 (grid0.coords t) core a b z = side core (t.val / 2) (a z) (b z) := by
  show (Scalar.select (Scalar.cmpi .eq (fdiv (BitVec.ofNat 32 (grid0.coords t 0).val) 2#32) core) a b : Vec Ideal S128x1024 .f32) z = _
  rw [(by decide +kernel : ∀ t : Fin cfg0.N, fdiv (BitVec.ofNat 32 (grid0.coords t 0).val) 2#32 = BitVec.ofNat 32 (t.val / 2)) t]
  unfold side Scalar.select
  split <;> rfl

theorem pay3 (t : Fin cfg0.N) (core : BitVec 32) (a b u : Vec Ideal S128x1024 .f32) (i : Fin 128) (j : Fin 1024) :
    k0_pay3 (grid0.coords t) core a b u (ix2 i j) = mom1 (side core (t.val / 2) (a (ix2 i j)) (b (ix2 i j))) (u (ix2 i j)) := by
  rw [← pay2]
  unfold k0_pay3
  clean_types
  pointwise
  rfl

theorem pay4 (t : Fin cfg0.N) (core : BitVec 32) (a b u : Vec Ideal S128x1024 .f32) (i : Fin 128) (j : Fin 1024) :
    k0_pay4 (grid0.coords t) core a b u (ix2 i j) = mom2 (side core (t.val / 2) (a (ix2 i j)) (b (ix2 i j))) (u (ix2 i j)) := by
  rw [← pay2]
  unfold k0_pay4
  clean_types
  pointwise
  rfl

theorem pay1 (t : Fin cfg0.N) (core : BitVec 32) (a b w u v : Vec Ideal S128x1024 .f32) (i : Fin 128) (j : Fin 1024) :
    k0_pay1 w (k0_pay3 (grid0.coords t) core a b u) (k0_pay4 (grid0.coords t) core a b v) (FloatOps.ofBits FTy.f32 0x3F26BD02#32) (ix2 i j)
      = delta (side core (t.val / 2) (a (ix2 i j)) (b (ix2 i j))) (w (ix2 i j)) (u (ix2 i j)) (v (ix2 i j)) := by
  unfold delta
  rw [← pay3, ← pay4]
  unfold k0_pay1
  clean_types
  pointwise

/-- A result, entry by entry. -/
def out (f : EReal → EReal → EReal → EReal → EReal) (core : Vec Ideal S1 .i32) (w : Vec Ideal S512x1024 .f32) (a b : Vec Ideal S256x1024 .f32)
    (u v : Vec Ideal S512x1024 .f32) : Vec Ideal S512x1024 .f32 := fun z =>
  res 256 f (core (ix1 0)) (fun l j => a (ix2 l j)) (fun l j => b (ix2 l j)) (fun p j => w (ix2 p j)) (fun p j => u (ix2 p j)) (fun p j => v (ix2 p j)) (z 0) (z 1)

theorem row_lt (t : Fin cfg0.N) (i : Fin 128) : t.val * 128 + i.val < 512 := by have := (idx t).1; omega

theorem core_val (t : Fin cfg0.N) (h) :
    View.ld (iblk m c 0 t) (Rect.unit ![0] ![1] inb_S1_S1_0) (Shape.Idx.first h) = m (c.tc.loc main_arg0) (ix1 0) := by
  refine Eq.trans (b := iblk m c 0 t (ix1 0)) ?_ ?_
  · clean_types
    pointwise
  · blk_ext [iblk, idx t]

theorem out_val (f : EReal → EReal → EReal → EReal → EReal) (t : Fin cfg0.N) (i : Fin 128) (j : Fin 1024) (h) :
    f (side (View.ld (iblk m c 0 t) (Rect.unit ![0] ![1] inb_S1_S1_0) (Shape.Idx.first h)) (t.val / 2) (iblk m c 2 t (ix2 i j))
      (iblk m c 3 t (ix2 i j))) (iblk m c 1 t (ix2 i j)) (iblk m c 4 t (ix2 i j)) (iblk m c 5 t (ix2 i j))
      = out f (m (c.tc.loc main_arg0)) (m (c.tc.loc main_arg1)) (m (c.tc.loc main_arg2)) (m (c.tc.loc main_arg3)) (m (c.tc.loc main_arg4))
        (m (c.tc.loc main_arg5)) (ix2 ⟨t.val * 128 + i.val, row_lt t i⟩ j) := by
  rw [core_val]
  have ht := (idx t).1
  refine res_block 2 128 rfl f _ _ _ _ _ _ t.val i.val i.isLt (row_lt t i) j (fun q hq => ?_) (fun q hq => ?_) ?_ ?_ ?_
  · have h0 : t.val % 2 * 128 + i.val < 256 := hq ▸ q.isLt
    obtain rfl : q = ⟨_, h0⟩ := Fin.ext hq
    blk_ext [iblk, idx t]
  · have h0 : t.val % 2 * 128 + i.val < 256 := hq ▸ q.isLt
    obtain rfl : q = ⟨_, h0⟩ := Fin.ext hq
    blk_ext [iblk, idx t]
  all_goals blk_ext [iblk, idx t]

theorem emb (t : Fin cfg0.N) (i : Fin 128) (j : Fin 1024) (p : Fin 512) (hp : p.val = t.val * 128 + i.val) :
    ((cfg0.win 6).blk t).view.emb (ix2 i j) = ix2 p j ∧ ((cfg0.win 7).blk t).view.emb (ix2 i j) = ix2 p j
      ∧ ((cfg0.win 8).blk t).view.emb (ix2 i j) = ix2 p j ∧ ((cfg0.win 9).blk t).view.emb (ix2 i j) = ix2 p j := by
  have key : ∀ (z : S512x1024.Idx) (k : Fin 2 → ℕ), k = ![t.val, 0] → (z 0).val = k 0 * 128 + 1 * i.val → (z 1).val = k 1 * 1024 + 1 * j.val → z = ix2 p j := by
    rintro z k rfl h0 h1
    refine (eq_ix2 z).trans (congrArg₂ ix2 (Fin.ext (h0.trans ?_)) (Fin.ext (h1.trans ?_)))
    · simp only [hp, Matrix.cons_val_zero, one_mul]
    · simp only [Matrix.cons_val_one, Matrix.cons_val_fin_one, one_mul, zero_mul, zero_add]
  obtain ⟨_, _, _, _, _, _, _, e6, e7, e8, e9⟩ := idx t
  exact ⟨key _ _ e6 rfl rfl, key _ _ e7 rfl rfl, key _ _ e8 rfl rfl, key _ _ e9 rfl rfl⟩

theorem arr6 : (dats m 0 c).arrAt 6 cfg0.N = out (fun g _ _ _ => g) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 6 _ (by decide +kernel) fun t hf z => ?_
  obtain ⟨i, j, rfl⟩ : ∃ (i : Fin 128) (j : Fin 1024), z = ix2 i j := ⟨_, _, eq_ix2 z⟩
  rw [after0_6]
  unfold outsAt0 out0_A_6
  frame_out
  rw [(emb t i j ⟨_, row_lt t i⟩ rfl).1]
  exact (pay2 t _ _ _ (ix2 i j)).trans (out_val (fun g _ _ _ => g) t i j _)

theorem arr7 : (dats m 0 c).arrAt 7 cfg0.N = out delta (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 7 _ (by decide +kernel) fun t hf z => ?_
  obtain ⟨i, j, rfl⟩ : ∃ (i : Fin 128) (j : Fin 1024), z = ix2 i j := ⟨_, _, eq_ix2 z⟩
  rw [after0_7]
  unfold outsAt0 out0_A_7
  frame_out
  rw [(emb t i j ⟨_, row_lt t i⟩ rfl).2.1]
  exact (pay1 t _ _ _ _ _ _ i j).trans (out_val delta t i j _)

theorem arr8 : (dats m 0 c).arrAt 8 cfg0.N = out (fun g _ u _ => mom1 g u) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 8 _ (by decide +kernel) fun t hf z => ?_
  obtain ⟨i, j, rfl⟩ : ∃ (i : Fin 128) (j : Fin 1024), z = ix2 i j := ⟨_, _, eq_ix2 z⟩
  rw [after0_8]
  unfold outsAt0 out0_A_8
  frame_out
  rw [(emb t i j ⟨_, row_lt t i⟩ rfl).2.2.1]
  exact (pay3 t _ _ _ _ i j).trans (out_val (fun g _ u _ => mom1 g u) t i j _)

theorem arr9 : (dats m 0 c).arrAt 9 cfg0.N = out (fun g _ _ v => mom2 g v) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 9 _ (by decide +kernel) fun t hf z => ?_
  obtain ⟨i, j, rfl⟩ : ∃ (i : Fin 128) (j : Fin 1024), z = ix2 i j := ⟨_, _, eq_ix2 z⟩
  rw [after0_9]
  unfold outsAt0 out0_A_9
  frame_out
  rw [(emb t i j ⟨_, row_lt t i⟩ rfl).2.2.2]
  exact (pay4 t _ _ _ _ i j).trans (out_val (fun g _ _ v => mom2 g v) t i j _)

theorem algebraic : Cert.algebraic_KernelAdamBranchIdeal_ReferenceAdamBranchIdeal (hKernelAdamBranchIdeal := Cert.KernelAdamBranchIdeal.Gen.facts)
    (hReferenceAdamBranchIdeal := Cert.ReferenceAdamBranchIdeal.Gen.facts) := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, ?_, ?_⟩
  · exact (θ_run defs _ _).mono (fun r h c => h c) (Cert.KernelAdamBranchIdeal.Value.run_blocks (F := Ideal) m g)
  · refine (θ_run Cert.ReferenceAdamBranchIdeal.defs _ _).mono (fun r h c => ⟨(h c).1.trans (.trans (funext fun z => ?_) arr6.symm),
      (h c).2.1.trans (.trans (funext fun z => ?_) arr7.symm), (h c).2.2.1.trans (.trans (funext fun z => ?_) arr8.symm),
      (h c).2.2.2.1.trans (.trans (funext fun z => ?_) arr9.symm), (h c).2.2.2.2⟩) (Cert.ReferenceAdamBranchIdeal.Value.run (F := Ideal) m' g')
    all_goals
      obtain ⟨i, j, rfl⟩ : ∃ (i : Fin 512) (j : Fin 1024), z = ix2 i j := ⟨_, _, eq_ix2 z⟩
      clear h
      obtain ⟨a0, a1, a2, a3, a4, a5⟩ := hagree c
      have hg := whole_dite 256 (m (c.tc.loc main_arg0) (ix1 0)) (fun l => m (c.tc.loc main_arg2) (ix2 l j)) (fun l => m (c.tc.loc main_arg3) (ix2 l j)) i.val i.isLt
    · rw [a0, a2, a3]
      clean_types
      pointwise
      exact hg
    · rw [a0, a1, a2, a3, a4, a5]
      clean_types
      pointwise
      exact congrArg (fun g => delta g (m (c.tc.loc main_arg1) (ix2 i j)) (m (c.tc.loc main_arg4) (ix2 i j)) (m (c.tc.loc main_arg5) (ix2 i j))) hg
    · rw [a0, a2, a3, a4]
      clean_types
      pointwise
      exact congrArg (fun g => mom1 g (m (c.tc.loc main_arg4) (ix2 i j))) hg
    · rw [a0, a2, a3, a5]
      clean_types
      pointwise
      exact congrArg (fun g => mom2 g (m (c.tc.loc main_arg5) (ix2 i j))) hg

end Cert.AdamBranch
-- ==== Proof.AdamOut.lean ====
/-
  The optimiser's step on `w_out`: 2 points of 128 rows each, whose gradients are in halves of 128 rows. See Adam.
-/
module

public import proofs.«01_k».proof.Proof.Product
public import proofs.«01_k».proof.Proof.Adam
public import proofs.«01_k».proof.Proof.Gen.KernelAdamOutIdeal.Value
public import proofs.«01_k».proof.Proof.Gen.ReferenceAdamOutIdeal.Run
public import proofs.«01_k».proof.Defs
public import Idealize.ShloMosaic.Lib.StableHlo.ReadAt

@[expose] public section

set_option maxRecDepth 16384

noncomputable section

namespace Cert.AdamOut

open Cert.KernelAdamOutIdeal Cert.KernelAdamOutIdeal.Gen Idealize.ShloMosaic Idealize.ShloMosaic.TcCoe Idealize.SL.Sem StableHlo
open Cert.Ret Cert.Product Cert.Adam

variable {m : (ℓ : Loc nD τ sig) → Buf (Elt Ideal) ℓ} {c : Dev nD}

theorem idx : ∀ t : Fin cfg0.N, t.val < 2 ∧ win0_0.index t = ![0] ∧ win0_1.index t = ![t.val, 0] ∧ win0_2.index t = ![t.val % 1, 0]
    ∧ win0_3.index t = ![t.val % 1, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := by decide +kernel

/-- The half of the rows that a point is in says which gradient it takes. -/
theorem pay2 (t : Fin cfg0.N) (core : BitVec 32) (a b : Vec Ideal S128x1024 .f32) (z : S128x1024.Idx) :
    k0_pay2 (grid0.coords t) core a b z = side core (t.val / 1) (a z) (b z) := by
  show (Scalar.select (Scalar.cmpi .eq (fdiv (BitVec.ofNat 32 (grid0.coords t 0).val) 1#32) core) a b : Vec Ideal S128x1024 .f32) z = _
  rw [(by decide +kernel : ∀ t : Fin cfg0.N, fdiv (BitVec.ofNat 32 (grid0.coords t 0).val) 1#32 = BitVec.ofNat 32 (t.val / 1)) t]
  unfold side Scalar.select
  split <;> rfl

theorem pay3 (t : Fin cfg0.N) (core : BitVec 32) (a b u : Vec Ideal S128x1024 .f32) (i : Fin 128) (j : Fin 1024) :
    k0_pay3 (grid0.coords t) core a b u (ix2 i j) = mom1 (side core (t.val / 1) (a (ix2 i j)) (b (ix2 i j))) (u (ix2 i j)) := by
  rw [← pay2]
  unfold k0_pay3
  clean_types
  pointwise
  rfl

theorem pay4 (t : Fin cfg0.N) (core : BitVec 32) (a b u : Vec Ideal S128x1024 .f32) (i : Fin 128) (j : Fin 1024) :
    k0_pay4 (grid0.coords t) core a b u (ix2 i j) = mom2 (side core (t.val / 1) (a (ix2 i j)) (b (ix2 i j))) (u (ix2 i j)) := by
  rw [← pay2]
  unfold k0_pay4
  clean_types
  pointwise
  rfl

theorem pay1 (t : Fin cfg0.N) (core : BitVec 32) (a b w u v : Vec Ideal S128x1024 .f32) (i : Fin 128) (j : Fin 1024) :
    k0_pay1 w (k0_pay3 (grid0.coords t) core a b u) (k0_pay4 (grid0.coords t) core a b v) (FloatOps.ofBits FTy.f32 0x3F26BD02#32) (ix2 i j)
      = delta (side core (t.val / 1) (a (ix2 i j)) (b (ix2 i j))) (w (ix2 i j)) (u (ix2 i j)) (v (ix2 i j)) := by
  unfold delta
  rw [← pay3, ← pay4]
  unfold k0_pay1
  clean_types
  pointwise

/-- A result, entry by entry. -/
def out (f : EReal → EReal → EReal → EReal → EReal) (core : Vec Ideal S1 .i32) (w : Vec Ideal S256x1024 .f32) (a b : Vec Ideal S128x1024 .f32)
    (u v : Vec Ideal S256x1024 .f32) : Vec Ideal S256x1024 .f32 := fun z =>
  res 128 f (core (ix1 0)) (fun l j => a (ix2 l j)) (fun l j => b (ix2 l j)) (fun p j => w (ix2 p j)) (fun p j => u (ix2 p j)) (fun p j => v (ix2 p j)) (z 0) (z 1)

theorem row_lt (t : Fin cfg0.N) (i : Fin 128) : t.val * 128 + i.val < 256 := by have := (idx t).1; omega

theorem core_val (t : Fin cfg0.N) (h) :
    View.ld (iblk m c 0 t) (Rect.unit ![0] ![1] inb_S1_S1_0) (Shape.Idx.first h) = m (c.tc.loc main_arg0) (ix1 0) := by
  refine Eq.trans (b := iblk m c 0 t (ix1 0)) ?_ ?_
  · clean_types
    pointwise
  · blk_ext [iblk, idx t]

theorem out_val (f : EReal → EReal → EReal → EReal → EReal) (t : Fin cfg0.N) (i : Fin 128) (j : Fin 1024) (h) :
    f (side (View.ld (iblk m c 0 t) (Rect.unit ![0] ![1] inb_S1_S1_0) (Shape.Idx.first h)) (t.val / 1) (iblk m c 2 t (ix2 i j))
      (iblk m c 3 t (ix2 i j))) (iblk m c 1 t (ix2 i j)) (iblk m c 4 t (ix2 i j)) (iblk m c 5 t (ix2 i j))
      = out f (m (c.tc.loc main_arg0)) (m (c.tc.loc main_arg1)) (m (c.tc.loc main_arg2)) (m (c.tc.loc main_arg3)) (m (c.tc.loc main_arg4))
        (m (c.tc.loc main_arg5)) (ix2 ⟨t.val * 128 + i.val, row_lt t i⟩ j) := by
  rw [core_val]
  have ht := (idx t).1
  refine res_block 1 128 rfl f _ _ _ _ _ _ t.val i.val i.isLt (row_lt t i) j (fun q hq => ?_) (fun q hq => ?_) ?_ ?_ ?_
  · have h0 : t.val % 1 * 128 + i.val < 128 := hq ▸ q.isLt
    obtain rfl : q = ⟨_, h0⟩ := Fin.ext hq
    blk_ext [iblk, idx t]
  · have h0 : t.val % 1 * 128 + i.val < 128 := hq ▸ q.isLt
    obtain rfl : q = ⟨_, h0⟩ := Fin.ext hq
    blk_ext [iblk, idx t]
  all_goals blk_ext [iblk, idx t]

theorem emb (t : Fin cfg0.N) (i : Fin 128) (j : Fin 1024) (p : Fin 256) (hp : p.val = t.val * 128 + i.val) :
    ((cfg0.win 6).blk t).view.emb (ix2 i j) = ix2 p j ∧ ((cfg0.win 7).blk t).view.emb (ix2 i j) = ix2 p j
      ∧ ((cfg0.win 8).blk t).view.emb (ix2 i j) = ix2 p j ∧ ((cfg0.win 9).blk t).view.emb (ix2 i j) = ix2 p j := by
  have key : ∀ (z : S256x1024.Idx) (k : Fin 2 → ℕ), k = ![t.val, 0] → (z 0).val = k 0 * 128 + 1 * i.val → (z 1).val = k 1 * 1024 + 1 * j.val → z = ix2 p j := by
    rintro z k rfl h0 h1
    refine (eq_ix2 z).trans (congrArg₂ ix2 (Fin.ext (h0.trans ?_)) (Fin.ext (h1.trans ?_)))
    · simp only [hp, Matrix.cons_val_zero, one_mul]
    · simp only [Matrix.cons_val_one, Matrix.cons_val_fin_one, one_mul, zero_mul, zero_add]
  obtain ⟨_, _, _, _, _, _, _, e6, e7, e8, e9⟩ := idx t
  exact ⟨key _ _ e6 rfl rfl, key _ _ e7 rfl rfl, key _ _ e8 rfl rfl, key _ _ e9 rfl rfl⟩

theorem arr6 : (dats m 0 c).arrAt 6 cfg0.N = out (fun g _ _ _ => g) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 6 _ (by decide +kernel) fun t hf z => ?_
  obtain ⟨i, j, rfl⟩ : ∃ (i : Fin 128) (j : Fin 1024), z = ix2 i j := ⟨_, _, eq_ix2 z⟩
  rw [after0_6]
  unfold outsAt0 out0_A_6
  frame_out
  rw [(emb t i j ⟨_, row_lt t i⟩ rfl).1]
  exact (pay2 t _ _ _ (ix2 i j)).trans (out_val (fun g _ _ _ => g) t i j _)

theorem arr7 : (dats m 0 c).arrAt 7 cfg0.N = out delta (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 7 _ (by decide +kernel) fun t hf z => ?_
  obtain ⟨i, j, rfl⟩ : ∃ (i : Fin 128) (j : Fin 1024), z = ix2 i j := ⟨_, _, eq_ix2 z⟩
  rw [after0_7]
  unfold outsAt0 out0_A_7
  frame_out
  rw [(emb t i j ⟨_, row_lt t i⟩ rfl).2.1]
  exact (pay1 t _ _ _ _ _ _ i j).trans (out_val delta t i j _)

theorem arr8 : (dats m 0 c).arrAt 8 cfg0.N = out (fun g _ u _ => mom1 g u) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 8 _ (by decide +kernel) fun t hf z => ?_
  obtain ⟨i, j, rfl⟩ : ∃ (i : Fin 128) (j : Fin 1024), z = ix2 i j := ⟨_, _, eq_ix2 z⟩
  rw [after0_8]
  unfold outsAt0 out0_A_8
  frame_out
  rw [(emb t i j ⟨_, row_lt t i⟩ rfl).2.2.1]
  exact (pay3 t _ _ _ _ i j).trans (out_val (fun g _ u _ => mom1 g u) t i j _)

theorem arr9 : (dats m 0 c).arrAt 9 cfg0.N = out (fun g _ _ v => mom2 g v) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 9 _ (by decide +kernel) fun t hf z => ?_
  obtain ⟨i, j, rfl⟩ : ∃ (i : Fin 128) (j : Fin 1024), z = ix2 i j := ⟨_, _, eq_ix2 z⟩
  rw [after0_9]
  unfold outsAt0 out0_A_9
  frame_out
  rw [(emb t i j ⟨_, row_lt t i⟩ rfl).2.2.2]
  exact (pay4 t _ _ _ _ i j).trans (out_val (fun g _ _ v => mom2 g v) t i j _)

theorem algebraic : Cert.algebraic_KernelAdamOutIdeal_ReferenceAdamOutIdeal (hKernelAdamOutIdeal := Cert.KernelAdamOutIdeal.Gen.facts)
    (hReferenceAdamOutIdeal := Cert.ReferenceAdamOutIdeal.Gen.facts) := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, ?_, ?_⟩
  · exact (θ_run defs _ _).mono (fun r h c => h c) (Cert.KernelAdamOutIdeal.Value.run_blocks (F := Ideal) m g)
  · refine (θ_run Cert.ReferenceAdamOutIdeal.defs _ _).mono (fun r h c => ⟨(h c).1.trans (.trans (funext fun z => ?_) arr6.symm),
      (h c).2.1.trans (.trans (funext fun z => ?_) arr7.symm), (h c).2.2.1.trans (.trans (funext fun z => ?_) arr8.symm),
      (h c).2.2.2.1.trans (.trans (funext fun z => ?_) arr9.symm), (h c).2.2.2.2⟩) (Cert.ReferenceAdamOutIdeal.Value.run (F := Ideal) m' g')
    all_goals
      obtain ⟨i, j, rfl⟩ : ∃ (i : Fin 256) (j : Fin 1024), z = ix2 i j := ⟨_, _, eq_ix2 z⟩
      clear h
      obtain ⟨a0, a1, a2, a3, a4, a5⟩ := hagree c
      have hg := whole_dite 128 (m (c.tc.loc main_arg0) (ix1 0)) (fun l => m (c.tc.loc main_arg2) (ix2 l j)) (fun l => m (c.tc.loc main_arg3) (ix2 l j)) i.val i.isLt
    · rw [a0, a2, a3]
      clean_types
      pointwise
      exact hg
    · rw [a0, a1, a2, a3, a4, a5]
      clean_types
      pointwise
      exact congrArg (fun g => delta g (m (c.tc.loc main_arg1) (ix2 i j)) (m (c.tc.loc main_arg4) (ix2 i j)) (m (c.tc.loc main_arg5) (ix2 i j))) hg
    · rw [a0, a2, a3, a4]
      clean_types
      pointwise
      exact congrArg (fun g => mom1 g (m (c.tc.loc main_arg4) (ix2 i j))) hg
    · rw [a0, a2, a3, a5]
      clean_types
      pointwise
      exact congrArg (fun g => mom2 g (m (c.tc.loc main_arg5) (ix2 i j))) hg

end Cert.AdamOut
-- ==== Proof.AdamUp.lean ====
/-
  The optimiser's step on `w_up`: 8 points of 128 rows each, whose gradients are in halves of 512 rows. See Adam.
-/
module

public import proofs.«01_k».proof.Proof.Product
public import proofs.«01_k».proof.Proof.Adam
public import proofs.«01_k».proof.Proof.Gen.KernelAdamUpIdeal.Value
public import proofs.«01_k».proof.Proof.Gen.ReferenceAdamUpIdeal.Run
public import proofs.«01_k».proof.Defs
public import Idealize.ShloMosaic.Lib.StableHlo.ReadAt

@[expose] public section

set_option maxRecDepth 16384

noncomputable section

namespace Cert.AdamUp

open Cert.KernelAdamUpIdeal Cert.KernelAdamUpIdeal.Gen Idealize.ShloMosaic Idealize.ShloMosaic.TcCoe Idealize.SL.Sem StableHlo
open Cert.Ret Cert.Product Cert.Adam

variable {m : (ℓ : Loc nD τ sig) → Buf (Elt Ideal) ℓ} {c : Dev nD}

theorem idx : ∀ t : Fin cfg0.N, t.val < 8 ∧ win0_0.index t = ![0] ∧ win0_1.index t = ![t.val, 0] ∧ win0_2.index t = ![t.val % 4, 0]
    ∧ win0_3.index t = ![t.val % 4, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := by decide +kernel

/-- The half of the rows that a point is in says which gradient it takes. -/
theorem pay2 (t : Fin cfg0.N) (core : BitVec 32) (a b : Vec Ideal S128x1408 .f32) (z : S128x1408.Idx) :
    k0_pay2 (grid0.coords t) core a b z = side core (t.val / 4) (a z) (b z) := by
  show (Scalar.select (Scalar.cmpi .eq (fdiv (BitVec.ofNat 32 (grid0.coords t 0).val) 4#32) core) a b : Vec Ideal S128x1408 .f32) z = _
  rw [(by decide +kernel : ∀ t : Fin cfg0.N, fdiv (BitVec.ofNat 32 (grid0.coords t 0).val) 4#32 = BitVec.ofNat 32 (t.val / 4)) t]
  unfold side Scalar.select
  split <;> rfl

theorem pay3 (t : Fin cfg0.N) (core : BitVec 32) (a b u : Vec Ideal S128x1408 .f32) (i : Fin 128) (j : Fin 1408) :
    k0_pay3 (grid0.coords t) core a b u (ix2 i j) = mom1 (side core (t.val / 4) (a (ix2 i j)) (b (ix2 i j))) (u (ix2 i j)) := by
  rw [← pay2]
  unfold k0_pay3
  clean_types
  pointwise
  rfl

theorem pay4 (t : Fin cfg0.N) (core : BitVec 32) (a b u : Vec Ideal S128x1408 .f32) (i : Fin 128) (j : Fin 1408) :
    k0_pay4 (grid0.coords t) core a b u (ix2 i j) = mom2 (side core (t.val / 4) (a (ix2 i j)) (b (ix2 i j))) (u (ix2 i j)) := by
  rw [← pay2]
  unfold k0_pay4
  clean_types
  pointwise
  rfl

theorem pay1 (t : Fin cfg0.N) (core : BitVec 32) (a b w u v : Vec Ideal S128x1408 .f32) (i : Fin 128) (j : Fin 1408) :
    k0_pay1 w (k0_pay3 (grid0.coords t) core a b u) (k0_pay4 (grid0.coords t) core a b v) (FloatOps.ofBits FTy.f32 0x3F26BD02#32) (ix2 i j)
      = delta (side core (t.val / 4) (a (ix2 i j)) (b (ix2 i j))) (w (ix2 i j)) (u (ix2 i j)) (v (ix2 i j)) := by
  unfold delta
  rw [← pay3, ← pay4]
  unfold k0_pay1
  clean_types
  pointwise

/-- A result, entry by entry. -/
def out (f : EReal → EReal → EReal → EReal → EReal) (core : Vec Ideal S1 .i32) (w : Vec Ideal S1024x1408 .f32) (a b : Vec Ideal S512x1408 .f32)
    (u v : Vec Ideal S1024x1408 .f32) : Vec Ideal S1024x1408 .f32 := fun z =>
  res 512 f (core (ix1 0)) (fun l j => a (ix2 l j)) (fun l j => b (ix2 l j)) (fun p j => w (ix2 p j)) (fun p j => u (ix2 p j)) (fun p j => v (ix2 p j)) (z 0) (z 1)

theorem row_lt (t : Fin cfg0.N) (i : Fin 128) : t.val * 128 + i.val < 1024 := by have := (idx t).1; omega

theorem core_val (t : Fin cfg0.N) (h) :
    View.ld (iblk m c 0 t) (Rect.unit ![0] ![1] inb_S1_S1_0) (Shape.Idx.first h) = m (c.tc.loc main_arg0) (ix1 0) := by
  refine Eq.trans (b := iblk m c 0 t (ix1 0)) ?_ ?_
  · clean_types
    pointwise
  · blk_ext [iblk, idx t]

theorem out_val (f : EReal → EReal → EReal → EReal → EReal) (t : Fin cfg0.N) (i : Fin 128) (j : Fin 1408) (h) :
    f (side (View.ld (iblk m c 0 t) (Rect.unit ![0] ![1] inb_S1_S1_0) (Shape.Idx.first h)) (t.val / 4) (iblk m c 2 t (ix2 i j))
      (iblk m c 3 t (ix2 i j))) (iblk m c 1 t (ix2 i j)) (iblk m c 4 t (ix2 i j)) (iblk m c 5 t (ix2 i j))
      = out f (m (c.tc.loc main_arg0)) (m (c.tc.loc main_arg1)) (m (c.tc.loc main_arg2)) (m (c.tc.loc main_arg3)) (m (c.tc.loc main_arg4))
        (m (c.tc.loc main_arg5)) (ix2 ⟨t.val * 128 + i.val, row_lt t i⟩ j) := by
  rw [core_val]
  have ht := (idx t).1
  refine res_block 4 128 rfl f _ _ _ _ _ _ t.val i.val i.isLt (row_lt t i) j (fun q hq => ?_) (fun q hq => ?_) ?_ ?_ ?_
  · have h0 : t.val % 4 * 128 + i.val < 512 := hq ▸ q.isLt
    obtain rfl : q = ⟨_, h0⟩ := Fin.ext hq
    blk_ext [iblk, idx t]
  · have h0 : t.val % 4 * 128 + i.val < 512 := hq ▸ q.isLt
    obtain rfl : q = ⟨_, h0⟩ := Fin.ext hq
    blk_ext [iblk, idx t]
  all_goals blk_ext [iblk, idx t]

theorem emb (t : Fin cfg0.N) (i : Fin 128) (j : Fin 1408) (p : Fin 1024) (hp : p.val = t.val * 128 + i.val) :
    ((cfg0.win 6).blk t).view.emb (ix2 i j) = ix2 p j ∧ ((cfg0.win 7).blk t).view.emb (ix2 i j) = ix2 p j
      ∧ ((cfg0.win 8).blk t).view.emb (ix2 i j) = ix2 p j ∧ ((cfg0.win 9).blk t).view.emb (ix2 i j) = ix2 p j := by
  have key : ∀ (z : S1024x1408.Idx) (k : Fin 2 → ℕ), k = ![t.val, 0] → (z 0).val = k 0 * 128 + 1 * i.val → (z 1).val = k 1 * 1408 + 1 * j.val → z = ix2 p j := by
    rintro z k rfl h0 h1
    refine (eq_ix2 z).trans (congrArg₂ ix2 (Fin.ext (h0.trans ?_)) (Fin.ext (h1.trans ?_)))
    · simp only [hp, Matrix.cons_val_zero, one_mul]
    · simp only [Matrix.cons_val_one, Matrix.cons_val_fin_one, one_mul, zero_mul, zero_add]
  obtain ⟨_, _, _, _, _, _, _, e6, e7, e8, e9⟩ := idx t
  exact ⟨key _ _ e6 rfl rfl, key _ _ e7 rfl rfl, key _ _ e8 rfl rfl, key _ _ e9 rfl rfl⟩

theorem arr6 : (dats m 0 c).arrAt 6 cfg0.N = out (fun g _ _ _ => g) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 6 _ (by decide +kernel) fun t hf z => ?_
  obtain ⟨i, j, rfl⟩ : ∃ (i : Fin 128) (j : Fin 1408), z = ix2 i j := ⟨_, _, eq_ix2 z⟩
  rw [after0_6]
  unfold outsAt0 out0_A_6
  frame_out
  rw [(emb t i j ⟨_, row_lt t i⟩ rfl).1]
  exact (pay2 t _ _ _ (ix2 i j)).trans (out_val (fun g _ _ _ => g) t i j _)

theorem arr7 : (dats m 0 c).arrAt 7 cfg0.N = out delta (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 7 _ (by decide +kernel) fun t hf z => ?_
  obtain ⟨i, j, rfl⟩ : ∃ (i : Fin 128) (j : Fin 1408), z = ix2 i j := ⟨_, _, eq_ix2 z⟩
  rw [after0_7]
  unfold outsAt0 out0_A_7
  frame_out
  rw [(emb t i j ⟨_, row_lt t i⟩ rfl).2.1]
  exact (pay1 t _ _ _ _ _ _ i j).trans (out_val delta t i j _)

theorem arr8 : (dats m 0 c).arrAt 8 cfg0.N = out (fun g _ u _ => mom1 g u) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 8 _ (by decide +kernel) fun t hf z => ?_
  obtain ⟨i, j, rfl⟩ : ∃ (i : Fin 128) (j : Fin 1408), z = ix2 i j := ⟨_, _, eq_ix2 z⟩
  rw [after0_8]
  unfold outsAt0 out0_A_8
  frame_out
  rw [(emb t i j ⟨_, row_lt t i⟩ rfl).2.2.1]
  exact (pay3 t _ _ _ _ i j).trans (out_val (fun g _ u _ => mom1 g u) t i j _)

theorem arr9 : (dats m 0 c).arrAt 9 cfg0.N = out (fun g _ _ v => mom2 g v) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 9 _ (by decide +kernel) fun t hf z => ?_
  obtain ⟨i, j, rfl⟩ : ∃ (i : Fin 128) (j : Fin 1408), z = ix2 i j := ⟨_, _, eq_ix2 z⟩
  rw [after0_9]
  unfold outsAt0 out0_A_9
  frame_out
  rw [(emb t i j ⟨_, row_lt t i⟩ rfl).2.2.2]
  exact (pay4 t _ _ _ _ i j).trans (out_val (fun g _ _ v => mom2 g v) t i j _)

theorem algebraic : Cert.algebraic_KernelAdamUpIdeal_ReferenceAdamUpIdeal (hKernelAdamUpIdeal := Cert.KernelAdamUpIdeal.Gen.facts)
    (hReferenceAdamUpIdeal := Cert.ReferenceAdamUpIdeal.Gen.facts) := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, ?_, ?_⟩
  · exact (θ_run defs _ _).mono (fun r h c => h c) (Cert.KernelAdamUpIdeal.Value.run_blocks (F := Ideal) m g)
  · refine (θ_run Cert.ReferenceAdamUpIdeal.defs _ _).mono (fun r h c => ⟨(h c).1.trans (.trans (funext fun z => ?_) arr6.symm),
      (h c).2.1.trans (.trans (funext fun z => ?_) arr7.symm), (h c).2.2.1.trans (.trans (funext fun z => ?_) arr8.symm),
      (h c).2.2.2.1.trans (.trans (funext fun z => ?_) arr9.symm), (h c).2.2.2.2⟩) (Cert.ReferenceAdamUpIdeal.Value.run (F := Ideal) m' g')
    all_goals
      obtain ⟨i, j, rfl⟩ : ∃ (i : Fin 1024) (j : Fin 1408), z = ix2 i j := ⟨_, _, eq_ix2 z⟩
      clear h
      obtain ⟨a0, a1, a2, a3, a4, a5⟩ := hagree c
      have hg := whole_dite 512 (m (c.tc.loc main_arg0) (ix1 0)) (fun l => m (c.tc.loc main_arg2) (ix2 l j)) (fun l => m (c.tc.loc main_arg3) (ix2 l j)) i.val i.isLt
    · rw [a0, a2, a3]
      clean_types
      pointwise
      exact hg
    · rw [a0, a1, a2, a3, a4, a5]
      clean_types
      pointwise
      exact congrArg (fun g => delta g (m (c.tc.loc main_arg1) (ix2 i j)) (m (c.tc.loc main_arg4) (ix2 i j)) (m (c.tc.loc main_arg5) (ix2 i j))) hg
    · rw [a0, a2, a3, a4]
      clean_types
      pointwise
      exact congrArg (fun g => mom1 g (m (c.tc.loc main_arg4) (ix2 i j))) hg
    · rw [a0, a2, a3, a5]
      clean_types
      pointwise
      exact congrArg (fun g => mom2 g (m (c.tc.loc main_arg5) (ix2 i j))) hg

end Cert.AdamUp
-- ==== Proof.AdamDown.lean ====
/-
  The optimiser's step on `w_down`: 4 points of 176 rows each, whose gradients are in halves of 352 rows. See Adam.
-/
module

public import proofs.«01_k».proof.Proof.Product
public import proofs.«01_k».proof.Proof.Adam
public import proofs.«01_k».proof.Proof.Gen.KernelAdamDownIdeal.Value
public import proofs.«01_k».proof.Proof.Gen.ReferenceAdamDownIdeal.Run
public import proofs.«01_k».proof.Defs
public import Idealize.ShloMosaic.Lib.StableHlo.ReadAt

@[expose] public section

set_option maxRecDepth 16384

noncomputable section

namespace Cert.AdamDown

open Cert.KernelAdamDownIdeal Cert.KernelAdamDownIdeal.Gen Idealize.ShloMosaic Idealize.ShloMosaic.TcCoe Idealize.SL.Sem StableHlo
open Cert.Ret Cert.Product Cert.Adam

variable {m : (ℓ : Loc nD τ sig) → Buf (Elt Ideal) ℓ} {c : Dev nD}

theorem idx : ∀ t : Fin cfg0.N, t.val < 4 ∧ win0_0.index t = ![0] ∧ win0_1.index t = ![t.val, 0] ∧ win0_2.index t = ![t.val % 2, 0]
    ∧ win0_3.index t = ![t.val % 2, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] := by decide +kernel

/-- The half of the rows that a point is in says which gradient it takes. -/
theorem pay2 (t : Fin cfg0.N) (core : BitVec 32) (a b : Vec Ideal S176x1024 .f32) (z : S176x1024.Idx) :
    k0_pay2 (grid0.coords t) core a b z = side core (t.val / 2) (a z) (b z) := by
  show (Scalar.select (Scalar.cmpi .eq (fdiv (BitVec.ofNat 32 (grid0.coords t 0).val) 2#32) core) a b : Vec Ideal S176x1024 .f32) z = _
  rw [(by decide +kernel : ∀ t : Fin cfg0.N, fdiv (BitVec.ofNat 32 (grid0.coords t 0).val) 2#32 = BitVec.ofNat 32 (t.val / 2)) t]
  unfold side Scalar.select
  split <;> rfl

theorem pay3 (t : Fin cfg0.N) (core : BitVec 32) (a b u : Vec Ideal S176x1024 .f32) (i : Fin 176) (j : Fin 1024) :
    k0_pay3 (grid0.coords t) core a b u (ix2 i j) = mom1 (side core (t.val / 2) (a (ix2 i j)) (b (ix2 i j))) (u (ix2 i j)) := by
  rw [← pay2]
  unfold k0_pay3
  clean_types
  pointwise
  rfl

theorem pay4 (t : Fin cfg0.N) (core : BitVec 32) (a b u : Vec Ideal S176x1024 .f32) (i : Fin 176) (j : Fin 1024) :
    k0_pay4 (grid0.coords t) core a b u (ix2 i j) = mom2 (side core (t.val / 2) (a (ix2 i j)) (b (ix2 i j))) (u (ix2 i j)) := by
  rw [← pay2]
  unfold k0_pay4
  clean_types
  pointwise
  rfl

theorem pay1 (t : Fin cfg0.N) (core : BitVec 32) (a b w u v : Vec Ideal S176x1024 .f32) (i : Fin 176) (j : Fin 1024) :
    k0_pay1 w (k0_pay3 (grid0.coords t) core a b u) (k0_pay4 (grid0.coords t) core a b v) (FloatOps.ofBits FTy.f32 0x3F26BD02#32) (ix2 i j)
      = delta (side core (t.val / 2) (a (ix2 i j)) (b (ix2 i j))) (w (ix2 i j)) (u (ix2 i j)) (v (ix2 i j)) := by
  unfold delta
  rw [← pay3, ← pay4]
  unfold k0_pay1
  clean_types
  pointwise

/-- A result, entry by entry. -/
def out (f : EReal → EReal → EReal → EReal → EReal) (core : Vec Ideal S1 .i32) (w : Vec Ideal S704x1024 .f32) (a b : Vec Ideal S352x1024 .f32)
    (u v : Vec Ideal S704x1024 .f32) : Vec Ideal S704x1024 .f32 := fun z =>
  res 352 f (core (ix1 0)) (fun l j => a (ix2 l j)) (fun l j => b (ix2 l j)) (fun p j => w (ix2 p j)) (fun p j => u (ix2 p j)) (fun p j => v (ix2 p j)) (z 0) (z 1)

theorem row_lt (t : Fin cfg0.N) (i : Fin 176) : t.val * 176 + i.val < 704 := by have := (idx t).1; omega

theorem core_val (t : Fin cfg0.N) (h) :
    View.ld (iblk m c 0 t) (Rect.unit ![0] ![1] inb_S1_S1_0) (Shape.Idx.first h) = m (c.tc.loc main_arg0) (ix1 0) := by
  refine Eq.trans (b := iblk m c 0 t (ix1 0)) ?_ ?_
  · clean_types
    pointwise
  · blk_ext [iblk, idx t]

theorem out_val (f : EReal → EReal → EReal → EReal → EReal) (t : Fin cfg0.N) (i : Fin 176) (j : Fin 1024) (h) :
    f (side (View.ld (iblk m c 0 t) (Rect.unit ![0] ![1] inb_S1_S1_0) (Shape.Idx.first h)) (t.val / 2) (iblk m c 2 t (ix2 i j))
      (iblk m c 3 t (ix2 i j))) (iblk m c 1 t (ix2 i j)) (iblk m c 4 t (ix2 i j)) (iblk m c 5 t (ix2 i j))
      = out f (m (c.tc.loc main_arg0)) (m (c.tc.loc main_arg1)) (m (c.tc.loc main_arg2)) (m (c.tc.loc main_arg3)) (m (c.tc.loc main_arg4))
        (m (c.tc.loc main_arg5)) (ix2 ⟨t.val * 176 + i.val, row_lt t i⟩ j) := by
  rw [core_val]
  have ht := (idx t).1
  refine res_block 2 176 rfl f _ _ _ _ _ _ t.val i.val i.isLt (row_lt t i) j (fun q hq => ?_) (fun q hq => ?_) ?_ ?_ ?_
  · have h0 : t.val % 2 * 176 + i.val < 352 := hq ▸ q.isLt
    obtain rfl : q = ⟨_, h0⟩ := Fin.ext hq
    blk_ext [iblk, idx t]
  · have h0 : t.val % 2 * 176 + i.val < 352 := hq ▸ q.isLt
    obtain rfl : q = ⟨_, h0⟩ := Fin.ext hq
    blk_ext [iblk, idx t]
  all_goals blk_ext [iblk, idx t]

theorem emb (t : Fin cfg0.N) (i : Fin 176) (j : Fin 1024) (p : Fin 704) (hp : p.val = t.val * 176 + i.val) :
    ((cfg0.win 6).blk t).view.emb (ix2 i j) = ix2 p j ∧ ((cfg0.win 7).blk t).view.emb (ix2 i j) = ix2 p j
      ∧ ((cfg0.win 8).blk t).view.emb (ix2 i j) = ix2 p j ∧ ((cfg0.win 9).blk t).view.emb (ix2 i j) = ix2 p j := by
  have key : ∀ (z : S704x1024.Idx) (k : Fin 2 → ℕ), k = ![t.val, 0] → (z 0).val = k 0 * 176 + 1 * i.val → (z 1).val = k 1 * 1024 + 1 * j.val → z = ix2 p j := by
    rintro z k rfl h0 h1
    refine (eq_ix2 z).trans (congrArg₂ ix2 (Fin.ext (h0.trans ?_)) (Fin.ext (h1.trans ?_)))
    · simp only [hp, Matrix.cons_val_zero, one_mul]
    · simp only [Matrix.cons_val_one, Matrix.cons_val_fin_one, one_mul, zero_mul, zero_add]
  obtain ⟨_, _, _, _, _, _, _, e6, e7, e8, e9⟩ := idx t
  exact ⟨key _ _ e6 rfl rfl, key _ _ e7 rfl rfl, key _ _ e8 rfl rfl, key _ _ e9 rfl rfl⟩

theorem arr6 : (dats m 0 c).arrAt 6 cfg0.N = out (fun g _ _ _ => g) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 6 _ (by decide +kernel) fun t hf z => ?_
  obtain ⟨i, j, rfl⟩ : ∃ (i : Fin 176) (j : Fin 1024), z = ix2 i j := ⟨_, _, eq_ix2 z⟩
  rw [after0_6]
  unfold outsAt0 out0_A_6
  frame_out
  rw [(emb t i j ⟨_, row_lt t i⟩ rfl).1]
  exact (pay2 t _ _ _ (ix2 i j)).trans (out_val (fun g _ _ _ => g) t i j _)

theorem arr7 : (dats m 0 c).arrAt 7 cfg0.N = out delta (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 7 _ (by decide +kernel) fun t hf z => ?_
  obtain ⟨i, j, rfl⟩ : ∃ (i : Fin 176) (j : Fin 1024), z = ix2 i j := ⟨_, _, eq_ix2 z⟩
  rw [after0_7]
  unfold outsAt0 out0_A_7
  frame_out
  rw [(emb t i j ⟨_, row_lt t i⟩ rfl).2.1]
  exact (pay1 t _ _ _ _ _ _ i j).trans (out_val delta t i j _)

theorem arr8 : (dats m 0 c).arrAt 8 cfg0.N = out (fun g _ u _ => mom1 g u) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 8 _ (by decide +kernel) fun t hf z => ?_
  obtain ⟨i, j, rfl⟩ : ∃ (i : Fin 176) (j : Fin 1024), z = ix2 i j := ⟨_, _, eq_ix2 z⟩
  rw [after0_8]
  unfold outsAt0 out0_A_8
  frame_out
  rw [(emb t i j ⟨_, row_lt t i⟩ rfl).2.2.1]
  exact (pay3 t _ _ _ _ i j).trans (out_val (fun g _ u _ => mom1 g u) t i j _)

theorem arr9 : (dats m 0 c).arrAt 9 cfg0.N = out (fun g _ _ v => mom2 g v) (m (c.tc.loc main_arg0)) (m (c.tc.loc main_arg1)) (m (c.tc.loc main_arg2))
    (m (c.tc.loc main_arg3)) (m (c.tc.loc main_arg4)) (m (c.tc.loc main_arg5)) := by
  refine (dats m 0 c).arrAt_eq_of_covers 9 _ (by decide +kernel) fun t hf z => ?_
  obtain ⟨i, j, rfl⟩ : ∃ (i : Fin 176) (j : Fin 1024), z = ix2 i j := ⟨_, _, eq_ix2 z⟩
  rw [after0_9]
  unfold outsAt0 out0_A_9
  frame_out
  rw [(emb t i j ⟨_, row_lt t i⟩ rfl).2.2.2]
  exact (pay4 t _ _ _ _ i j).trans (out_val (fun g _ _ v => mom2 g v) t i j _)

theorem algebraic : Cert.algebraic_KernelAdamDownIdeal_ReferenceAdamDownIdeal (hKernelAdamDownIdeal := Cert.KernelAdamDownIdeal.Gen.facts)
    (hReferenceAdamDownIdeal := Cert.ReferenceAdamDownIdeal.Gen.facts) := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, ?_, ?_⟩
  · exact (θ_run defs _ _).mono (fun r h c => h c) (Cert.KernelAdamDownIdeal.Value.run_blocks (F := Ideal) m g)
  · refine (θ_run Cert.ReferenceAdamDownIdeal.defs _ _).mono (fun r h c => ⟨(h c).1.trans (.trans (funext fun z => ?_) arr6.symm),
      (h c).2.1.trans (.trans (funext fun z => ?_) arr7.symm), (h c).2.2.1.trans (.trans (funext fun z => ?_) arr8.symm),
      (h c).2.2.2.1.trans (.trans (funext fun z => ?_) arr9.symm), (h c).2.2.2.2⟩) (Cert.ReferenceAdamDownIdeal.Value.run (F := Ideal) m' g')
    all_goals
      obtain ⟨i, j, rfl⟩ : ∃ (i : Fin 704) (j : Fin 1024), z = ix2 i j := ⟨_, _, eq_ix2 z⟩
      clear h
      obtain ⟨a0, a1, a2, a3, a4, a5⟩ := hagree c
      have hg := whole_dite 352 (m (c.tc.loc main_arg0) (ix1 0)) (fun l => m (c.tc.loc main_arg2) (ix2 l j)) (fun l => m (c.tc.loc main_arg3) (ix2 l j)) i.val i.isLt
    · rw [a0, a2, a3]
      clean_types
      pointwise
      exact hg
    · rw [a0, a1, a2, a3, a4, a5]
      clean_types
      pointwise
      exact congrArg (fun g => delta g (m (c.tc.loc main_arg1) (ix2 i j)) (m (c.tc.loc main_arg4) (ix2 i j)) (m (c.tc.loc main_arg5) (ix2 i j))) hg
    · rw [a0, a2, a3, a4]
      clean_types
      pointwise
      exact congrArg (fun g => mom1 g (m (c.tc.loc main_arg4) (ix2 i j))) hg
    · rw [a0, a2, a3, a5]
      clean_types
      pointwise
      exact congrArg (fun g => mom2 g (m (c.tc.loc main_arg5) (ix2 i j))) hg

end Cert.AdamDown
-- ==== Proof.Loss.lean ====
/-
  The last norm with the loss and its gradient. The points of the grid pass over blocks of 128 rows; the first block lies in
  front of the tokens and contributes nothing, so every quantity is written over all rows with an error that is zero there.
-/
module

public import proofs.«01_k».proof.Proof.Product
public import proofs.«01_k».proof.Proof.Norm
public import proofs.«01_k».proof.Proof.Gen.KernelLossIdeal.Value
public import proofs.«01_k».proof.Proof.Gen.ReferenceLossIdeal.Run
public import proofs.«01_k».proof.Defs
public import Idealize.ShloMosaic.Lib.StableHlo.ReadAt

@[expose] public section

set_option maxRecDepth 16384

noncomputable section

namespace Cert.Loss

open Cert.KernelLossIdeal Cert.KernelLossIdeal.Gen Idealize.ShloMosaic Idealize.ShloMosaic.TcCoe Idealize.SL.Sem StableHlo
open Cert.Ret Cert.Product Cert.Norm

variable {m : (ℓ : Loc nD τ sig) → Buf (Elt Ideal) ℓ} {c : Dev nD}

/-! The mathematics of one row. -/

/-- An entry of a row over the root of the row's mean square. -/
def unit (x : Fin 1024 → EReal) (j : Fin 1024) : EReal := x j * Ideal.rsqrt (msq x)

/-- What the scaled row misses the target by. -/
def diff (x w y : Fin 1024 → EReal) (j : Fin 1024) : EReal := unit x j * w j - y j

/-- A number over the number of columns. -/
def over (a : EReal) : EReal := Ideal.div a (Ideal.ofBits FTy.f32 0x44800000#32)

/-- Half of one over the number of columns. -/
def half : EReal := ((2⁻¹ * 1024⁻¹ : ℝ) : EReal)

/-- A row's sum of squares. -/
def sq (e : Fin 1024 → EReal) : EReal := ∑ k, e k * e k

theorem word_half : Ideal.ofBits .f32 0x3F000000#32 = ((2⁻¹ : ℝ) : EReal) := by simp [Ideal.ofBits, Ideal.ieee, -EReal.coe_mul]; norm_num
theorem word_two : Ideal.ofBits .f32 0x40000000#32 = ((2 : ℝ) : EReal) := by simp [Ideal.ofBits, Ideal.ieee, -EReal.coe_mul]; norm_num

theorem over_eq (a : EReal) : over a = a * ((1024⁻¹ : ℝ) : EReal) := by
  unfold over
  rw [word_1024, div_coe _ (by norm_num)]

theorem over_zero : over 0 = 0 := by rw [over_eq, zero_mul]

/-- Half of the sum of the rows' squares over the number of columns, as the kernel has it. -/
theorem half_sum {n : ℕ} (f : Fin n → EReal) : over (Ideal.ofBits .f32 0x3F000000#32 * ∑ i, f i) = dot (fun _ => half) f := by
  unfold dot half
  rw [over_eq, word_half, mul_sum' _ _ (by norm_num), ← coe_mul', mul_assoc, mul_assoc, mul_comm (((1024⁻¹ : ℝ)) : EReal)]

/-- The same, as the reference has it. -/
theorem sum_half {n : ℕ} (f : Fin n → EReal) : Ideal.ofBits .f32 0x3F000000#32 * ∑ i, over (f i) = dot (fun _ => half) f := by
  unfold dot half
  rw [mul_sum' _ _ (by norm_num), word_half]
  simp only [over_eq, fun a : EReal => mul_comm a ((1024⁻¹ : ℝ) : EReal)]
  rw [mul_sum' _ _ (by norm_num), ← coe_mul', mul_assoc]

/-- The derivative of the square times that of the mean. -/
theorem slope (a : EReal) : over (Ideal.ofBits .f32 0x3F000000#32) * (Ideal.ofBits .f32 0x40000000#32 * a) = over a := by
  rw [over_eq, over_eq, word_half, word_two, coe_mul', ← mul_assoc, coe_mul', mul_comm a]
  norm_num

/-- No error, no gradient. -/
theorem grad_zero (x : Fin 1024 → EReal) (j : Fin 1024) : grad x (fun _ => 0) j = 0 := by
  unfold grad
  simp only [zero_mul, Finset.sum_const_zero]
  show _ * (0 - _ * over 0) = _
  rw [over_zero, mul_zero, sub_zero, mul_zero]

/-- A sum whose first 128 terms are zero. -/
theorem tail (f : Fin 8320 → EReal) (h : ∀ p, p.val < 128 → f p = 0) : ∑ p, f p = ∑ q : Fin 8192, f ⟨128 + q.val, by omega⟩ := by
  refine (Fin.sum_univ_add (a := 128) (b := 8192) f).trans ?_
  rw [Finset.sum_eq_zero fun i _ => h _ i.isLt, zero_add]
  rfl

/-! The results over all rows. -/

/-- A row. -/
def row (x : Vec Ideal S8320x1024 .f32) (p : Fin 8320) (k : Fin 1024) : EReal := x (ix2 p k)

/-- The error of a row: none in front of the tokens. -/
def err (x : Vec Ideal S8320x1024 .f32) (w : Vec Ideal S1x1024 .f32) (y : Vec Ideal S8192x1024 .f32) (p : Fin 8320) (k : Fin 1024) : EReal :=
  if h : 128 ≤ p.val then diff (row x p) (fun k => w (ix2 0 k)) (fun k => y (ix2 ⟨p.val - 128, by omega⟩ k)) k else 0

/-- The rows' gradient. -/
def dh (x : Vec Ideal S8320x1024 .f32) (w : Vec Ideal S1x1024 .f32) (y : Vec Ideal S8192x1024 .f32) : Vec Ideal S8320x1024 .f32 := fun z =>
  grad (row x (z 0)) (fun k => over (err x w y (z 0) k) * w (ix2 0 k)) (z 1)

/-- The weight's gradient. -/
def gw (x : Vec Ideal S8320x1024 .f32) (w : Vec Ideal S1x1024 .f32) (y : Vec Ideal S8192x1024 .f32) : Vec Ideal S1x1024 .f32 := fun z =>
  dot (fun p : Fin 8320 => over (err x w y p (z 1))) fun p => unit (row x p) (z 1)

/-- The loss, in every entry of a tile. -/
def loss (x : Vec Ideal S8320x1024 .f32) (w : Vec Ideal S1x1024 .f32) (y : Vec Ideal S8192x1024 .f32) : Vec Ideal S8x128 .f32 := fun _ =>
  dot (fun _ : Fin 8320 => half) fun p => sq (err x w y p)

theorem err_front (x : Vec Ideal S8320x1024 .f32) (w : Vec Ideal S1x1024 .f32) (y : Vec Ideal S8192x1024 .f32) (p : Fin 8320) (h : p.val < 128) (k : Fin 1024) :
    err x w y p k = 0 := dif_neg (by omega)

theorem over_front (x : Vec Ideal S8320x1024 .f32) (w : Vec Ideal S1x1024 .f32) (y : Vec Ideal S8192x1024 .f32) (p : Fin 8320) (h : p.val < 128) (k : Fin 1024) :
    over (err x w y p k) = 0 := by rw [err_front x w y p h, over_zero]

theorem err_token (x : Vec Ideal S8320x1024 .f32) (w : Vec Ideal S1x1024 .f32) (y : Vec Ideal S8192x1024 .f32) (p : Fin 8320) (q : Fin 8192) (h : p.val = 128 + q.val)
    (k : Fin 1024) : err x w y p k = diff (row x p) (fun k => w (ix2 0 k)) (fun k => y (ix2 q k)) k := by
  unfold err
  rw [dif_pos (by omega)]
  have e : (⟨p.val - 128, by omega⟩ : Fin 8192) = q := Fin.ext (by dsimp only; omega)
  rw [e]

/-! What a point computes from its blocks. -/

/-- The error of a row of a block. -/
def blockErr (x : Vec Ideal S128x1024 .f32) (w : Vec Ideal S1x1024 .f32) (y : Vec Ideal S128x1024 .f32) (i : Fin 128) (k : Fin 1024) : EReal :=
  diff (fun k => x (ix2 i k)) (fun k => w (ix2 0 k)) (fun k => y (ix2 i k)) k

theorem pay4 (x y : Vec Ideal S128x1024 .f32) (w : Vec Ideal S1x1024 .f32) (i : Fin 128) (j : Fin 1024) :
    k0_pay4 (F := Ideal) (k0_pay6 x) (k0_pay7 x) (k0_pay11 x w y w) (k0_pay12 x w y w) (ix2 i j)
      = (grad (fun k => x (ix2 i k)) (fun k => over (blockErr x w y i k) * w (ix2 0 k)) j : EReal) := by
  unfold k0_pay4 k0_pay12 k0_pay11 k0_pay10 k0_pay8 k0_pay7 k0_pay6
  clean_types
  pointwise
  rfl

theorem pay5 (x y : Vec Ideal S128x1024 .f32) (w a : Vec Ideal S1x1024 .f32) (j : Fin 1024) :
    k0_pay5 (F := Ideal) (k0_pay7 x) (k0_pay10 x w y) a (ix2 0 j)
      = ((a (ix2 0 j) : EReal) + dot (fun i : Fin 128 => over (blockErr x w y i j)) fun i => unit (fun k => x (ix2 i k)) j : EReal) := by
  unfold k0_pay5 k0_pay10 k0_pay8 k0_pay7 k0_pay6
  clean_types
  pointwise
  rfl

theorem pay9 (x y : Vec Ideal S128x1024 .f32) (w : Vec Ideal S1x1024 .f32) (a : Vec Ideal S8x128 .f32) (z : S8x128.Idx) :
    k0_pay9 (F := Ideal) x w y a z = ((a z : EReal) + dot (fun _ : Fin 128 => half) fun i => sq (blockErr x w y i) : EReal) := by
  rw [← half_sum]
  obtain ⟨i, j, rfl⟩ : ∃ (i : Fin 8) (j : Fin 128), z = ix2 i j := ⟨_, _, eq_ix2 z⟩
  unfold k0_pay9 k0_pay8 k0_pay7 k0_pay6
  clean_types
  pointwise
  rfl

theorem pay1 (z : S1x1024.Idx) : k0_pay1 (F := Ideal) z = (0 : EReal) := by
  unfold k0_pay1
  clean_types
  pointwise

theorem pay2 (z : S8x128.Idx) : k0_pay2 (F := Ideal) z = (0 : EReal) := by
  unfold k0_pay2
  clean_types
  pointwise

theorem pay3 (z : S128x1024.Idx) : k0_pay3 (F := Ideal) z = (0 : EReal) := by
  unfold k0_pay3
  clean_types
  pointwise

/-! The blocks of a point. -/

theorem idx : ∀ t : Fin cfg0.N, t.val < 65 ∧ win0_0.index t = ![t.val, 0] ∧ win0_1.index t = ![0, 0]
    ∧ win0_2.index t = ![t.val - 1, 0] ∧ win0_3.index t = ![0, 0] ∧ win0_4.index t = ![t.val, 0] ∧ win0_5.index t = ![0, 0] := by decide +kernel

theorem rows (t : Fin cfg0.N) (i : Fin 128) (k : Fin 1024) (p : Fin 8320) (hp : p.val = t.val * 128 + i.val) :
    iblk m c 0 t (ix2 i k) = m (c.tc.loc main_arg0) (ix2 p k) ∧ iblk m c 1 t (ix2 0 k) = m (c.tc.loc main_arg1) (ix2 0 k) := by
  have := (idx t).1
  have h0 : t.val * 128 + i.val < 8320 := by omega
  obtain rfl : p = ⟨_, h0⟩ := Fin.ext hp
  refine ⟨?_, ?_⟩
  all_goals blk_ext [iblk, idx t]

theorem targets (t : Fin cfg0.N) (i : Fin 128) (k : Fin 1024) (q : Fin 8192) (hq : q.val = (t.val - 1) * 128 + i.val) :
    iblk m c 2 t (ix2 i k) = m (c.tc.loc main_arg2) (ix2 q k) := by
  have := (idx t).1
  have h0 : (t.val - 1) * 128 + i.val < 8192 := by omega
  obtain rfl : q = ⟨_, h0⟩ := Fin.ext hq
  blk_ext [iblk, idx t]

theorem err_val (t : Fin cfg0.N) (ht : 1 ≤ t.val) (i : Fin 128) (p : Fin 8320) (hp : p.val = t.val * 128 + i.val) (k : Fin 1024) :
    blockErr (iblk m c 0 t) (iblk m c 1 t) (iblk m c 2 t) i k = err (m (c.tc.loc main_arg0)) (m (c.tc.loc main_arg1)) (m (c.tc.loc main_arg2)) p k := by
  have := (idx t).1
  have hq : (t.val - 1) * 128 + i.val < 8192 := by omega
  rw [err_token _ _ _ p ⟨_, hq⟩ (by dsimp only; omega)]
  unfold blockErr
  simp only [fun k => (rows (m := m) (c := c) t i k p hp).1, fun k => (rows (m := m) (c := c) t i k p hp).2, fun k => targets (m := m) (c := c) t i k ⟨_, hq⟩ rfl]
  rfl

theorem emb4 (t : Fin cfg0.N) (i : Fin 128) (j : Fin 1024) (p : Fin 8320) (hp : p.val = t.val * 128 + i.val) :
    ((cfg0.win 4).blk t).view.emb (ix2 i j) = ix2 p j := by
  obtain ⟨_, _, _, _, _, e, _⟩ := idx t
  refine (eq_ix2 _).trans (congrArg₂ ix2 (Fin.ext ?_) (Fin.ext ?_))
  · show win0_4.index t 0 * 128 + 1 * i.val = _
    simp only [e, hp, Matrix.cons_val_zero, one_mul]
  · show win0_4.index t 1 * 1024 + 1 * j.val = _
    simp only [e, Matrix.cons_val_one, Matrix.cons_val_fin_one, one_mul, zero_mul, zero_add]

theorem emb5 (t : Fin cfg0.N) (j : Fin 1024) : ((cfg0.win 5).blk t).view.emb (ix2 0 j) = ix2 0 j := by
  obtain ⟨_, _, _, _, _, _, e⟩ := idx t
  refine (eq_ix2 _).trans (congrArg₂ ix2 (Fin.ext ?_) (Fin.ext ?_))
  · show win0_5.index t 0 * 1 + 1 * 0 = _
    simp only [e, Matrix.cons_val_zero]
    rfl
  · show win0_5.index t 1 * 1024 + 1 * j.val = _
    simp only [e, Matrix.cons_val_one, Matrix.cons_val_fin_one, one_mul, zero_mul, zero_add]

/-! The kernel's arrays. -/

theorem arr4 : (dats m 0 c).arrAt 4 cfg0.N = dh (m (c.tc.loc main_arg0)) (m (c.tc.loc main_arg1)) (m (c.tc.loc main_arg2)) := by
  refine (dats m 0 c).arrAt_eq_of_covers 4 _ (by decide +kernel) fun t hf z => ?_
  obtain ⟨i, j, rfl⟩ : ∃ (i : Fin 128) (j : Fin 1024), z = ix2 i j := ⟨_, _, eq_ix2 z⟩
  have hp : t.val * 128 + i.val < 8320 := by have := (idx t).1; omega
  rw [emb4 t i j ⟨_, hp⟩ rfl, after0_4]
  have := (idx t).1
  by_cases h : t.val % 65 = 0
  · rw [outsAt0_A m c t h (by omega)]
    unfold out0_A_4
    frame_out
    refine (pay3 (ix2 i j)).trans ((grad_zero (row (m (c.tc.loc main_arg0)) ⟨_, hp⟩) j).symm.trans ?_)
    unfold dh
    refine congrArg (fun y => grad _ y _) (funext fun k => ?_)
    exact (congrArg (· * _) (over_front _ _ _ ⟨t.val * 128 + i.val, hp⟩ (by dsimp only; omega) k)).trans (zero_mul _) |>.symm
  · rw [outsAt0_B m c t h (by omega)]
    unfold out0_B_4
    frame_out
    refine (pay4 _ _ _ i j).trans ?_
    unfold dh
    refine congrArg₂ (fun x y => grad x y j) (funext fun k => (rows (m := m) (c := c) t i k ⟨_, hp⟩ rfl).1) (funext fun k => ?_)
    rw [err_val t (by omega) i ⟨_, hp⟩ rfl k, (rows (m := m) (c := c) t i k ⟨_, hp⟩ rfl).2]
    rfl

theorem arr5 : (dats m 0 c).arrAt 5 cfg0.N = gw (m (c.tc.loc main_arg0)) (m (c.tc.loc main_arg1)) (m (c.tc.loc main_arg2)) := by
  refine (dats m 0 c).arrAt_eq_of_covers 5 _ (by decide +kernel) fun t hf z => ?_
  obtain ⟨i, j, rfl⟩ : ∃ (i : Fin 1) (j : Fin 1024), z = ix2 i j := ⟨_, _, eq_ix2 z⟩
  obtain rfl : i = 0 := Subsingleton.elim _ _
  rw [emb5 t j, after0_5]
  refine (acc_dot (fun n h (j : Fin 1024) => ((outsAt0 m c n h).2.2 (ix2 0 j) : EReal)) 65 (fun _ _ => 0)
    (fun t j k => if t.val % 65 = 0 then 0 else over (blockErr (iblk m c 0 t) (iblk m c 1 t) (iblk m c 2 t) k j))
    (fun t j k => unit (fun l => iblk m c 0 t (ix2 k l)) j)
    (fun t h j => ?_) (fun t h j => ?_) t ((flush0_5 t).mp hf) j (L := 8320) rfl (fun _ _ => rfl) (fun p s k h hp => ?_) (fun p s k h hp => ?_)).trans (zero_add _)
  · have := (idx t).1
    rw [outsAt0_A m c t h (by omega)]
    dsimp only
    unfold out0_A_5
    frame_out
    refine (pay1 _).trans ?_
    simp only [h, if_true, dot, zero_mul, Finset.sum_const_zero, add_zero]
  · rw [outsAt0_B m c t h (by omega)]
    dsimp only
    unfold out0_B_5
    frame_out
    simp only [h, if_false]
    exact (pay5 _ _ _ _ j)
  · have := (idx p).1
    have := (idx t).1
    split
    · exact (over_front _ _ _ ⟨s.val * 128 + k.val, h⟩ (by dsimp only; omega) j).symm
    · exact congrArg over (err_val p (by omega) k _ (by dsimp only; omega) j)
  · have := (idx p).1
    have := (idx t).1
    exact congrArg (fun x => unit x j) (funext fun l => (rows (m := m) (c := c) p k l _ (by dsimp only; omega)).1)

theorem arr3 : (dats m 0 c).arrAt 3 cfg0.N = loss (m (c.tc.loc main_arg0)) (m (c.tc.loc main_arg1)) (m (c.tc.loc main_arg2)) := by
  refine (dats m 0 c).arrAt_eq_of_covers 3 _ (by decide +kernel) fun t hf z => ?_
  rw [after0_3]
  refine (acc_dot (fun n h (z : S8x128.Idx) => ((outsAt0 m c n h).1 z : EReal)) 65 (fun _ _ => 0)
    (fun _ _ _ => half)
    (fun t _ k => if t.val % 65 = 0 then 0 else sq (blockErr (iblk m c 0 t) (iblk m c 1 t) (iblk m c 2 t) k))
    (fun t h z => ?_) (fun t h z => ?_) t ((flush0_3 t).mp hf) z (L := 8320) rfl (fun _ _ => rfl) (fun p s k h hp => rfl) (fun p s k h hp => ?_)).trans (zero_add _)
  · have := (idx t).1
    rw [outsAt0_A m c t h (by omega)]
    dsimp only
    unfold out0_A_3
    frame_out
    refine (pay2 _).trans ?_
    simp only [h, if_true, dot, mul_zero, Finset.sum_const_zero, add_zero]
  · rw [outsAt0_B m c t h (by omega)]
    dsimp only
    unfold out0_B_3
    frame_out
    simp only [h, if_false]
    exact (pay9 _ _ _ _ z)
  · have := (idx p).1
    have := (idx t).1
    split
    · unfold sq
      simp only [fun k' => err_front (m (c.tc.loc main_arg0)) (m (c.tc.loc main_arg1)) (m (c.tc.loc main_arg2)) ⟨s.val * 128 + k.val, h⟩ (by dsimp only; omega) k',
        mul_zero, Finset.sum_const_zero]
    · exact congrArg sq (funext fun l => err_val p (by omega) k _ (by dsimp only; omega) l)

set_option maxHeartbeats 1000000 in
/-- The reference's gradient of the rows. -/
theorem dh_ref {m' : (ℓ : Loc Cert.ReferenceLossIdeal.nD Cert.ReferenceLossIdeal.τ Cert.ReferenceLossIdeal.sig) → Buf (Elt Ideal) ℓ}
    (c : Dev Cert.ReferenceLossIdeal.nD) (i : Fin 8320) (j : Fin 1024) :
    Cert.ReferenceLossIdeal.Value.res_main_v50 (F := Ideal) m' c (ix2 i j)
      = dh (m' (c.tc.loc Cert.ReferenceLossIdeal.main_arg0)) (m' (c.tc.loc Cert.ReferenceLossIdeal.main_arg1)) (m' (c.tc.loc Cert.ReferenceLossIdeal.main_arg2)) (ix2 i j) := by
  unfold Cert.ReferenceLossIdeal.Value.res_main_v50
  generalize m' (c.tc.loc Cert.ReferenceLossIdeal.main_arg0) = x
  generalize m' (c.tc.loc Cert.ReferenceLossIdeal.main_arg1) = w
  generalize m' (c.tc.loc Cert.ReferenceLossIdeal.main_arg2) = y
  clean_types
  refine (pad_apply ..).trans ?_
  by_cases hi : i.val < 128
  · rw [dif_neg fun hin => absurd (hin 0).1 (by show ¬128 ≤ i.val; omega)]
    pointwise
    refine (grad_zero (row x i) j).symm.trans ?_
    refine congrArg (fun v => grad _ v _) (funext fun k => ?_)
    exact (congrArg (· * _) (over_front _ _ _ i hi k)).trans (zero_mul _) |>.symm
  · have hq : i.val - 128 < 8192 := by omega
    rw [dif_pos fun a => by
      fin_cases a
      · show 128 ≤ i.val ∧ (i.val - 128) % 1 = 0 ∧ (i.val - 128) / 1 < 8192
        omega
      · show 0 ≤ j.val ∧ (j.val - 0) % 1 = 0 ∧ (j.val - 0) / 1 < 1024
        omega]
    pointwise
    have hp : 128 + (i.val - 128) < 8320 := by omega
    have e : (⟨128 + (i.val - 128), hp⟩ : Fin 8320) = i := Fin.ext (by dsimp only; omega)
    refine (grad_eq (row x ⟨128 + (i.val - 128), hp⟩) (fun k => over (Ideal.ofBits FTy.f32 0x3F000000#32) * (Ideal.ofBits FTy.f32 0x40000000#32
      * diff (row x ⟨128 + (i.val - 128), hp⟩) (fun k => w (ix2 0 k)) (fun k => y (ix2 ⟨i.val - 128, hq⟩ k)) k)
      * w (ix2 0 k)) j).trans ?_
    rw [e]
    refine congrArg (fun v => grad _ v _) (funext fun k => congrArg (· * _) ?_)
    rw [slope]
    exact congrArg over (err_token _ _ _ i ⟨i.val - 128, hq⟩ (by dsimp only; omega) k).symm

theorem algebraic : Cert.algebraic_KernelLossIdeal_ReferenceLossIdeal (hKernelLossIdeal := Cert.KernelLossIdeal.Gen.facts)
    (hReferenceLossIdeal := Cert.ReferenceLossIdeal.Gen.facts) := by
  intro m g m' g' _ hagree
  refine ⟨fun c => loss (m (c.tc.loc main_arg0)) (m (c.tc.loc main_arg1)) (m (c.tc.loc main_arg2)),
    fun c => dh (m (c.tc.loc main_arg0)) (m (c.tc.loc main_arg1)) (m (c.tc.loc main_arg2)),
    fun c => gw (m (c.tc.loc main_arg0)) (m (c.tc.loc main_arg1)) (m (c.tc.loc main_arg2)), ?_, ?_⟩
  · exact (θ_run defs _ _).mono (fun r h c => ⟨(h c).1.trans arr3, (h c).2.1.trans arr4, (h c).2.2.1.trans arr5, (h c).2.2.2⟩)
      (Cert.KernelLossIdeal.Value.run_blocks (F := Ideal) m g)
  · refine (θ_run Cert.ReferenceLossIdeal.defs _ _).mono (fun r h c => ⟨(h c).1.trans (funext fun z => ?_), (h c).2.1.trans (funext fun z => ?_),
      (h c).2.2.1.trans (funext fun z => ?_), (h c).2.2.2⟩) (Cert.ReferenceLossIdeal.Value.run (F := Ideal) m' g')
    · obtain ⟨i, j, rfl⟩ : ∃ (i : Fin 8) (j : Fin 128), z = ix2 i j := ⟨_, _, eq_ix2 z⟩
      rw [(hagree c).1, (hagree c).2.1, (hagree c).2.2]
      clear h
      clean_types
      pointwise
      refine (sum_half fun q : Fin 8192 => sq (diff (row (m (c.tc.loc main_arg0)) ⟨128 + q.val, by omega⟩) (fun k => m (c.tc.loc main_arg1) (ix2 0 k))
        fun k => m (c.tc.loc main_arg2) (ix2 q k))).trans ?_
      unfold loss dot
      rw [tail _ fun p h => ?_]
      · exact Finset.sum_congr rfl fun q _ => congrArg (fun x => half * sq x) (funext fun k => (err_token _ _ _ _ q rfl k).symm)
      · unfold sq
        simp only [err_front _ _ _ p h, mul_zero, Finset.sum_const_zero]
    · obtain ⟨i, j, rfl⟩ : ∃ (i : Fin 8320) (j : Fin 1024), z = ix2 i j := ⟨_, _, eq_ix2 z⟩
      refine (dh_ref c i j).trans ?_
      rw [(hagree c).1, (hagree c).2.1, (hagree c).2.2]
    · obtain ⟨i, j, rfl⟩ : ∃ (i : Fin 1) (j : Fin 1024), z = ix2 i j := ⟨_, _, eq_ix2 z⟩
      rw [(hagree c).1, (hagree c).2.1, (hagree c).2.2]
      clear h
      clean_types
      pointwise
      unfold gw
      refine Eq.trans ?_ (tail (fun p => over (err (m (c.tc.loc main_arg0)) (m (c.tc.loc main_arg1)) (m (c.tc.loc main_arg2)) p j) * unit (row (m (c.tc.loc main_arg0)) p) j)
        fun p h => by rw [over_front _ _ _ p h, zero_mul]).symm
      refine Finset.sum_congr rfl fun q _ => ?_
      rw [err_token _ _ _ _ q rfl, mul_comm, ← slope]
      rfl

end Cert.Loss
-- ==== Proof.Conv.lean ====
/-
  The forward convolutions: a row and the rows before it, each times its weight. The kernel shifts a block of 640 rows down and
  fills up from the last rows of the block before; the reference pads the whole array in front and cuts it.
-/
module

public import proofs.«01_k».proof.Proof.Product
public import Idealize.ShloMosaic.PureOps.Ideal
public import Idealize.ShloMosaic.Lib.StableHlo.ReadAt
public import Idealize.ShloMosaic.Lib.KernelVsHost

@[expose] public section

set_option maxRecDepth 16384

noncomputable section

namespace Cert.Conv

open Idealize.ShloMosaic Cert.Ret Cert.Product

variable {C : ℕ}

/-- The rows, `k` further down: none in front of the first. -/
def back (x : Vec Ideal ⟨2, ![8320, C]⟩ .f32) (k : ℕ) : Vec Ideal ⟨2, ![8320, C]⟩ .f32 := fun z =>
  if k ≤ (z 0).val then x (ix2 ⟨(z 0).val - k, by have : (z 0).val < 8320 := (z 0).isLt; omega⟩ (z 1)) else (0 : EReal)

/-- A block's rows, `k` further down, filled up from the end of the eight rows before. -/
def shift (x : Vec Ideal ⟨2, ![640, C]⟩ .f32) (y : Vec Ideal ⟨2, ![8, C]⟩ .f32) (k : ℕ) : Vec Ideal ⟨2, ![640, C]⟩ .f32 := fun z =>
  if (z 0).val < k then y (ix2 ⟨((z 0).val + 8 - k) % 8, by omega⟩ (z 1))
  else x (ix2 ⟨(z 0).val - k, by have : (z 0).val < 640 := (z 0).isLt; omega⟩ (z 1))

theorem slt_small : ∀ (i : Fin 8) (k : Fin 4), IntOp.cmpi .slt (BitVec.ofNat 32 i.val) (BitVec.ofNat 32 k.val) = BitVec.ofBool (i.val < k.val) := by decide

/-- Rows moved down, around the end. -/
theorem rot {R : ℕ} (x : Vec Ideal ⟨2, ![R, C]⟩ .f32) (n : BitVec 32) {h : (⟨2, ![R, C]⟩ : Shape).Rotates 0 none} (i i' : Fin R) (j : Fin C)
    (hi : i'.val = (i.val + R - n.toNat % R) % R) : dynamicRotate (α := EReal) 0 n none x h (ix2 i j) = x (ix2 i' j) := by
  refine congrArg x (funext fun b => ?_)
  fin_cases b
  · exact Fin.ext hi.symm
  · rfl

/-- What the kernel writes for the shift. -/
theorem shift_eq (x : Vec Ideal ⟨2, ![640, C]⟩ .f32) (y : Vec Ideal ⟨2, ![8, C]⟩ .f32) (k : ℕ) (hk : k < 4) (n : BitVec 32) (hn : n = BitVec.ofNat 32 k)
    {h1 : (⟨2, ![8, C]⟩ : Shape).Iotas .tc 32 [0]} {h2 : (⟨2, ![8, C]⟩ : Shape).Rotates 0 none} {h3 : (⟨2, ![640, C]⟩ : Shape).Rotates 0 none}
    {h4 : (⟨2, ![640, C]⟩ : Shape).Slices ![0, 0] ⟨2, ![8, C]⟩} {h5 : (⟨2, ![640, C]⟩ : Shape).Slices ![8, 0] ⟨2, ![632, C]⟩}
    {h6 : Shape.Concatenates [(⟨2, ![8, C]⟩ : Shape), ⟨2, ![632, C]⟩] ⟨2, ![640, C]⟩ 0} :
    concatenate (α := EReal) ⟨2, ![640, C]⟩ 0
      [⟨⟨2, ![8, C]⟩, select (cmpi .slt (iota .tc ⟨2, ![8, C]⟩ 32 [0] h1) (broadcast ⟨2, ![8, C]⟩ n)) (dynamicRotate 0 n none y h2)
        (extractStridedSlice ⟨2, ![8, C]⟩ ![0, 0] (dynamicRotate 0 n none x h3) h4)⟩,
       ⟨⟨2, ![632, C]⟩, extractStridedSlice ⟨2, ![632, C]⟩ ![8, 0] (dynamicRotate 0 n none x h3) h5⟩] h6
      = shift x y k := by
  funext z
  obtain ⟨i, j, rfl⟩ : ∃ (i : Fin 640) (j : Fin C), z = ix2 i j := ⟨_, _, eq_ix2 z⟩
  have hi := i.isLt
  have hn' : n.toNat = k := by subst hn; simp; omega
  by_cases h8 : i.val < 8
  · refine (concatenate_pair_apply_left 0 _ _ h6 (ix2 i j) rfl (ix2 ⟨i.val, h8⟩ j) fun b => ?_).trans ?_
    · fin_cases b <;> rfl
    show Scalar.select (IntOp.cmpi .slt (iota .tc ⟨2, ![8, C]⟩ 32 [0] h1 (ix2 ⟨i.val, h8⟩ j)) n) _ _ = _
    have hw : iota .tc ⟨2, ![8, C]⟩ 32 [0] h1 (ix2 ⟨i.val, h8⟩ j) = BitVec.ofNat 32 i.val := by
      refine (iota_apply ..).trans (congrArg (BitVec.ofNat 32) ?_)
      show 0 * 8 + i.val = i.val
      omega
    rw [hw, hn, slt_small ⟨i.val, h8⟩ ⟨k, hk⟩, ← hn]
    by_cases h : i.val < k
    · refine Eq.trans ?_ (if_pos h).symm
      simp only [h, decide_true]
      exact rot (h := h2) y n _ _ j (by rw [hn']; show (i.val + 8 - k) % 8 = (i.val + 8 - k % 8) % 8; rw [Nat.mod_eq_of_lt (by omega : k < 8)])
    · refine Eq.trans ?_ (if_neg h).symm
      simp only [h, decide_false]
      show extractStridedSlice (α := EReal) ⟨2, ![8, C]⟩ ![0, 0] (dynamicRotate 0 n none x h3) h4 _ = _
      refine (extractStridedSlice_apply ![0, 0] _ h4 _ (ix2 i j) fun a => ?_).trans ?_
      · fin_cases a <;> exact (Nat.zero_add _).symm
      · exact rot x n _ _ j (by rw [hn']; show i.val - k = (i.val + 640 - k % 640) % 640; omega)
  · refine (concatenate_pair_apply_right 0 _ _ h6 (ix2 i j) rfl rfl (ix2 ⟨i.val - 8, by omega⟩ j) (fun b hb => ?_) ?_).trans ?_
    · fin_cases b
      · exact absurd rfl hb
      · rfl
    · show i.val - 8 + 8 = i.val
      omega
    · refine (extractStridedSlice_apply ![8, 0] _ h5 _ (ix2 i j) fun a => ?_).trans ?_
      · fin_cases a
        · show i.val = 8 + (i.val - 8)
          omega
        · exact (Nat.zero_add _).symm
      · refine (rot x n i ⟨i.val - k, by omega⟩ j (by rw [hn']; show i.val - k = (i.val + 640 - k % 640) % 640; omega)).trans (if_neg ?_).symm
        show ¬i.val < k
        omega

/-- The rows of the whole array from those of the blocks. -/
theorem shift_back (X : Vec Ideal ⟨2, ![8320, C]⟩ .f32) {D : ℕ} (x : Vec Ideal ⟨2, ![640, D]⟩ .f32) (y : Vec Ideal ⟨2, ![8, D]⟩ .f32) (k r : ℕ) (hk : k < 4)
    (i : Fin 640) (p : Fin 8320) (hp : p.val = r * 640 + i.val) (j : Fin D) (q : Fin C)
    (hx : ∀ (i : Fin 640) (p : Fin 8320), p.val = r * 640 + i.val → x (ix2 i j) = X (ix2 p q))
    (h0 : r = 0 → ∀ i : Fin 8, y (ix2 i j) = (0 : EReal))
    (hy : r ≠ 0 → ∀ (i : Fin 8) (p : Fin 8320), p.val + 8 = r * 640 + i.val → y (ix2 i j) = X (ix2 p q)) :
    shift x y k (ix2 i j) = back X k (ix2 p q) := by
  have hi := i.isLt
  have e : ∀ n (h : n < 8320) , n + k = p.val → back X k (ix2 p q) = X (ix2 ⟨n, h⟩ q) := fun n h hn => by
    refine (if_pos (show k ≤ p.val by omega)).trans (congrArg X (congrArg (fun a => ix2 a q) (Fin.ext ?_)))
    show p.val - k = n
    omega
  by_cases h : i.val < k
  · refine (if_pos h).trans ?_
    by_cases hr : r = 0
    · refine (h0 hr _).trans (if_neg (show ¬k ≤ p.val by subst hr; omega)).symm
    · have hb : r * 640 + i.val - k < 8320 := by omega
      refine (hy hr _ ⟨_, hb⟩ ?_).trans (e _ _ (by omega)).symm
      show r * 640 + i.val - k + 8 = r * 640 + (i.val + 8 - k) % 8
      omega
  · refine (if_neg h).trans ?_
    have hb : r * 640 + i.val - k < 8320 := by omega
    refine (hx _ ⟨_, hb⟩ ?_).trans (e _ _ (by omega)).symm
    show r * 640 + i.val - k = r * 640 + (i.val - k)
    omega

/-- The padded rows, cut. -/
theorem back_eq (K s E : ℕ) (hE : E = 8320 + K) (hs : s ≤ K) (x : Vec Ideal ⟨2, ![8320, C]⟩ .f32)
    {h1 : (⟨2, ![8320, C]⟩ : Shape).Pads ![K, 0] ![0, 0] ![0, 0] ⟨2, ![E, C]⟩} {h2 : (⟨2, ![E, C]⟩ : Shape).Slices ![s, 0] ⟨2, ![8320, C]⟩} {h3} :
    extractStridedSlice ⟨2, ![8320, C]⟩ ![s, 0] (pad (α := EReal) ⟨2, ![E, C]⟩ ![K, 0] ![0, 0] ![0, 0] x (sitofp (F := Ideal) .f32 (constantI ⟨0, ![]⟩ 32 0#32)) h1 h3) h2
      = back x (K - s) := by
  funext z
  obtain ⟨i, j, rfl⟩ : ∃ (i : Fin 8320) (j : Fin C), z = ix2 i j := ⟨_, _, eq_ix2 z⟩
  have hi := i.isLt
  refine (extractStridedSlice_apply ![s, 0] _ h2 _ (ix2 ⟨s + i.val, by omega⟩ j) fun a => ?_).trans ?_
  · fin_cases a
    · rfl
    · exact (Nat.zero_add _).symm
  by_cases h : K - s ≤ i.val
  · refine Eq.trans ?_ (if_pos h).symm
    refine pad_apply_of_inside _ _ _ _ _ _ _ _ (ix2 ⟨i.val - (K - s), by omega⟩ j) fun a => ?_
    fin_cases a
    · show s + i.val = K + (i.val - (K - s)) * (0 + 1)
      omega
    · show j.val = 0 + j.val * (0 + 1)
      omega
  · refine Eq.trans ?_ (if_neg h).symm
    refine (pad_apply_of_not_inside _ _ _ _ _ _ _ _ 0 fun hin => h ?_).trans ?_
    · have : K ≤ s + i.val := hin.1
      omega
    · show ((((0#32 : BitVec 32).toInt : ℝ)) : EReal) = 0
      simp

/-- Rows cut off in front and put back as zeros. -/
theorem mask_eq (x : Vec Ideal ⟨2, ![8320, C]⟩ .f32) (i : Fin 8320) (j : Fin C)
    {h1 : (⟨2, ![8208, C]⟩ : Shape).Pads ![112, 0] ![0, 0] ![0, 0] ⟨2, ![8320, C]⟩} {h2 : (⟨2, ![8320, C]⟩ : Shape).Slices ![112, 0] ⟨2, ![8208, C]⟩} {h3} :
    pad (α := EReal) ⟨2, ![8320, C]⟩ ![112, 0] ![0, 0] ![0, 0] (extractStridedSlice ⟨2, ![8208, C]⟩ ![112, 0] x h2)
      (sitofp (F := Ideal) .f32 (constantI ⟨0, ![]⟩ 32 0#32)) h1 h3 (ix2 i j) = if 112 ≤ i.val then x (ix2 i j) else 0 := by
  have hi := i.isLt
  by_cases h : 112 ≤ i.val
  · refine Eq.trans ?_ (if_pos h).symm
    refine (pad_apply_of_inside _ _ _ _ _ _ _ _ (ix2 ⟨i.val - 112, by omega⟩ j) fun a => ?_).trans (extractStridedSlice_apply ![112, 0] x h2 _ (ix2 i j) fun a => ?_)
    · fin_cases a
      · show i.val = 112 + (i.val - 112) * (0 + 1)
        omega
      · show j.val = 0 + j.val * (0 + 1)
        omega
    · fin_cases a
      · show i.val = 112 + (i.val - 112)
        omega
      · exact (Nat.zero_add _).symm
  · refine Eq.trans ?_ (if_neg h).symm
    refine (pad_apply_of_not_inside _ _ _ _ _ _ _ _ 0 fun hin => h hin.1).trans ?_
    show ((((0#32 : BitVec 32).toInt : ℝ)) : EReal) = 0
    simp

/-- The row's number against the padding, as the kernel compares it. -/
theorem row_select {α : Type} (r : ℕ) (hr : r < 13) (k : Fin 640) (a b : α) :
    Scalar.select (IntOp.cmpi .sge (IntOp.addi (BitVec.ofNat 32 k.val) (Scalar.muli (BitVec.ofNat 32 r) 640#32)) 112#32) a b
      = if 112 ≤ r * 640 + k.val then a else b := by
  have key : ∀ (r : Fin 13) (k : Fin 640), IntOp.cmpi .sge (IntOp.addi (BitVec.ofNat 32 k.val) (Scalar.muli (BitVec.ofNat 32 r.val) 640#32)) 112#32
      = if 112 ≤ r.val * 640 + k.val then 1#1 else 0#1 := by decide +kernel
  rw [key ⟨r, hr⟩ k]
  split
  · rfl
  · rfl

/-- Whether a block has one in front of it, as the kernel asks it. -/
theorem first_select {α : Type} (r : ℕ) (hr : r < 13) (a b : α) :
    Scalar.select (Scalar.cmpi .sgt (BitVec.ofNat 32 r) 0#32) a b = if r = 0 then b else a := by
  have key : ∀ r : Fin 13, Scalar.cmpi .sgt (BitVec.ofNat 32 r.val) 0#32 = if r.val = 0 then 0#1 else 1#1 := by decide +kernel
  rw [key ⟨r, hr⟩]
  split
  · rfl
  · rfl

/-- One row of a block of weights. -/
theorem ld_row {K : ℕ} (y : Vec Ideal ⟨2, ![K, C]⟩ .f32) (k : Fin K) (h) (j : Fin C) :
    View.ld y (Rect.unit ![k.val, 0] ![1, C] h) (ix2 (0 : Fin 1) j) = y (ix2 k j) := by
  refine congrArg y ((eq_ix2 _).trans (congrArg₂ ix2 (Fin.ext ?_) (Fin.ext ?_)))
  · show k.val + 1 * 0 = k.val
    omega
  · show 0 + 1 * j.val = j.val
    omega

end Cert.Conv
-- ==== Proof.FfnConv.lean ====
/-
  The convolution of the feed-forward block's rows, over three rows: the gate's half through the logistic unit, times the value's half.
-/
module

public import proofs.«01_k».proof.Proof.Conv
public import proofs.«01_k».proof.Proof.Gen.KernelFfnConvIdeal.Value
public import proofs.«01_k».proof.Proof.Gen.ReferenceFfnConvIdeal.Run
public import proofs.«01_k».proof.Defs

@[expose] public section

set_option maxRecDepth 16384

noncomputable section

namespace Cert.FfnConv

open Cert.KernelFfnConvIdeal Cert.KernelFfnConvIdeal.Gen Idealize.ShloMosaic Idealize.ShloMosaic.TcCoe Idealize.SL.Sem StableHlo
open Cert.Ret Cert.Product Cert.Conv

variable {m : (ℓ : Loc nD τ sig) → Buf (Elt Ideal) ℓ} {c : Dev nD}

/-- A bias and three entries times their weights, the present one last. -/
def taps (b x0 x1 x2 w0 w1 w2 : EReal) : EReal := b + x2 * w0 + x1 * w1 + x0 * w2

/-- The present entry first. -/
theorem taps_eq (b x0 x1 x2 w0 w1 w2 : EReal) : b + x0 * w2 + x2 * w0 + x1 * w1 = taps b x0 x1 x2 w0 w1 w2 := by
  unfold taps
  generalize x0 * w2 = p0, x1 * w1 = p1, x2 * w0 = p2
  ac_rfl

/-- The logistic unit. -/
def silu (a : EReal) : EReal := a * Ideal.logistic a

/-- The convolution's entry. -/
def conv (x : Vec Ideal S8320x5632 .f32) (w : Vec Ideal S3x5632 .f32) (b : Vec Ideal S1x5632 .f32) (p : Fin 8320) (q : Fin 5632) : EReal :=
  taps (b (ix2 0 q)) (back x 0 (ix2 p q)) (back x 1 (ix2 p q)) (back x 2 (ix2 p q)) (w (ix2 0 q)) (w (ix2 1 q)) (w (ix2 2 q))

/-- A column of the gate's half. -/
def lo (q : Fin 2816) : Fin 5632 := ⟨q.val, by omega⟩

/-- The column of the value's half. -/
def hi (q : Fin 2816) : Fin 5632 := ⟨2816 + q.val, by omega⟩

/-- The result. -/
def res (x : Vec Ideal S8320x5632 .f32) (w : Vec Ideal S3x5632 .f32) (b : Vec Ideal S1x5632 .f32) : Vec Ideal S8320x2816 .bf16 := fun z =>
  (silu (conv x w b (z 0) (lo (z 1))) * conv x w b (z 0) (hi (z 1)) : EReal)

theorem idx : ∀ t : Fin cfg0.N, t.val < 143 ∧ win0_0.index t = ![t.val % 13, t.val / 13] ∧ win0_1.index t = ![t.val % 13 * 80 - 1, t.val / 13]
    ∧ win0_2.index t = ![t.val % 13, 11 + t.val / 13] ∧ win0_3.index t = ![t.val % 13 * 80 - 1, 11 + t.val / 13]
    ∧ win0_4.index t = ![0, t.val / 13] ∧ win0_5.index t = ![0, 11 + t.val / 13]
    ∧ win0_6.index t = ![0, t.val / 13] ∧ win0_7.index t = ![0, 11 + t.val / 13] ∧ win0_8.index t = ![t.val % 13, t.val / 13]
    ∧ (grid0.coords t 1).val = t.val % 13 := by decide +kernel

/-- The eight rows in front of a block, zeros in front of the first. -/
def front (r : ℕ) (y : Vec Ideal S8x256 .f32) : Vec Ideal S8x256 .f32 := if r = 0 then fun _ => (0 : EReal) else y

theorem zeros (z : S8x256.Idx) : (broadcast S8x256 (FloatOps.ofBits (F := Ideal) .f32 0#32) : Vec Ideal S8x256 .f32) z = (0 : EReal) := by
  pointwise

theorem front_eq (r : ℕ) (y : Vec Ideal S8x256 .f32) : (if r = 0 then (broadcast S8x256 (FloatOps.ofBits (F := Ideal) .f32 0#32) : Vec Ideal S8x256 .f32) else y) = front r y :=
  if_congr Iff.rfl (funext zeros) rfl

theorem pay1 (i : grid0.Coords) (x : Vec Ideal S640x256 .f32) (y : Vec Ideal S8x256 .f32) (b w0 w1 w2 : Vec Ideal S1x256 .f32) (k : Fin 640) (j : Fin 256) :
    k0_pay1 (F := Ideal) i x y b w2 w0 w1 (ix2 k j)
      = taps (b (ix2 0 j)) (x (ix2 k j)) (shift x (front (i 1).val y) 1 (ix2 k j)) (shift x (front (i 1).val y) 2 (ix2 k j)) (w0 (ix2 0 j)) (w1 (ix2 0 j)) (w2 (ix2 0 j)) := by
  unfold k0_pay1
  dsimp only
  clean_types
  rw [first_select _ (i 1).isLt, shift_eq x _ 1 (by omega) _ rfl, shift_eq x _ 2 (by omega) _ rfl]
  rw [front_eq]
  generalize front (i 1).val y = y
  pointwise
  exact taps_eq _ _ _ _ _ _ _

theorem pay2 (r : ℕ) (hr : r < 13) (g : Vec Ideal S640x256 .f32) (x : Vec Ideal S640x256 .f32) (y : Vec Ideal S8x256 .f32) (b w0 w1 w2 : Vec Ideal S1x256 .f32) (k : Fin 640) (j : Fin 256) :
    k0_pay2 (F := Ideal) (BitVec.ofNat 32 r) g x y b w2 w0 w1 (ix2 k j)
      = (silu (g (ix2 k j)) * taps (b (ix2 0 j)) (x (ix2 k j)) (shift x (front r y) 1 (ix2 k j)) (shift x (front r y) 2 (ix2 k j)) (w0 (ix2 0 j)) (w1 (ix2 0 j)) (w2 (ix2 0 j)) : EReal) := by
  unfold k0_pay2
  dsimp only
  clean_types
  rw [first_select _ hr, shift_eq x _ 1 (by omega) _ rfl, shift_eq x _ 2 (by omega) _ rfl]
  rw [front_eq]
  generalize front r y = y
  pointwise
  exact congrArg (silu (g (ix2 k j)) * ·) (taps_eq _ _ _ _ _ _ _)

/-- A half's convolution from its blocks. -/
theorem half (X : Vec Ideal S8320x5632 .f32) (W : Vec Ideal S3x5632 .f32) (B : Vec Ideal S1x5632 .f32) (x : Vec Ideal S640x256 .f32) (y : Vec Ideal S8x256 .f32)
    (w : Vec Ideal S3x256 .f32) (b : Vec Ideal S1x256 .f32) (r : ℕ) (i : Fin 640) (p : Fin 8320) (hp : p.val = r * 640 + i.val) (j : Fin 256) (q : Fin 5632)
    (h : (∀ (i : Fin 640) (p : Fin 8320), p.val = r * 640 + i.val → x (ix2 i j) = X (ix2 p q))
      ∧ (r ≠ 0 → ∀ (i : Fin 8) (p : Fin 8320), p.val + 8 = r * 640 + i.val → y (ix2 i j) = X (ix2 p q))
      ∧ (∀ i : Fin 3, w (ix2 i j) = W (ix2 i q)) ∧ b (ix2 0 j) = B (ix2 0 q)) (h0 h1 h2) :
    taps (b (ix2 0 j)) (x (ix2 i j)) (shift x (front r y) 1 (ix2 i j)) (shift x (front r y) 2 (ix2 i j))
      (View.ld w (Rect.unit ![0, 0] ![1, 256] h0) (ix2 (0 : Fin 1) j)) (View.ld w (Rect.unit ![1, 0] ![1, 256] h1) (ix2 (0 : Fin 1) j))
      (View.ld w (Rect.unit ![2, 0] ![1, 256] h2) (ix2 (0 : Fin 1) j)) = conv X W B p q := by
  obtain ⟨hx, hy, hw, hb⟩ := h
  have hs (k : ℕ) (hk : k < 4) := shift_back X x (front r y) k r hk i p hp j q hx (fun h i => congrFun (if_pos h) _)
    (fun h i p hp => (congrFun (if_neg h) _).trans (hy h i p hp))
  have w (k : Fin 3) (h) := (ld_row w k h j).trans (hw k)
  rw [hs 1 (by omega), hs 2 (by omega), hb, hx i p hp]
  exact congr (congrArg₂ _ (w 0 _) (w 1 _)) (w 2 _)

theorem rows (t : Fin cfg0.N) (j : Fin 256) (q : Fin 5632) (hq : q.val = t.val / 13 * 256 + j.val) :
    (∀ (i : Fin 640) (p : Fin 8320), p.val = t.val % 13 * 640 + i.val → iblk m c 0 t (ix2 i j) = m (c.tc.loc main_arg0) (ix2 p q))
    ∧ (t.val % 13 ≠ 0 → ∀ (i : Fin 8) (p : Fin 8320), p.val + 8 = t.val % 13 * 640 + i.val → iblk m c 1 t (ix2 i j) = m (c.tc.loc main_arg0) (ix2 p q))
    ∧ (∀ i : Fin 3, iblk m c 4 t (ix2 i j) = m (c.tc.loc main_arg1) (ix2 i q))
    ∧ iblk m c 6 t (ix2 0 j) = m (c.tc.loc main_arg2) (ix2 0 q) := by
  have := (idx t).1
  have h0 : t.val / 13 * 256 + j.val < 5632 := by omega
  obtain rfl : q = ⟨_, h0⟩ := Fin.ext hq
  refine ⟨fun i p hp => ?_, fun ht i p hp => ?_, fun i => ?_, ?_⟩
  · have h1 : t.val % 13 * 640 + i.val < 8320 := by omega
    obtain rfl : p = ⟨_, h1⟩ := Fin.ext hp
    blk_ext [iblk, idx t]
  · have h1 : (t.val % 13 * 80 - 1) * 8 + i.val < 8320 := by omega
    obtain rfl : p = ⟨_, h1⟩ := Fin.ext (by dsimp only; omega)
    blk_ext [iblk, idx t]
  all_goals blk_ext [iblk, idx t]

theorem rows' (t : Fin cfg0.N) (j : Fin 256) (q : Fin 5632) (hq : q.val = (11 + t.val / 13) * 256 + j.val) :
    (∀ (i : Fin 640) (p : Fin 8320), p.val = t.val % 13 * 640 + i.val → iblk m c 2 t (ix2 i j) = m (c.tc.loc main_arg0) (ix2 p q))
    ∧ (t.val % 13 ≠ 0 → ∀ (i : Fin 8) (p : Fin 8320), p.val + 8 = t.val % 13 * 640 + i.val → iblk m c 3 t (ix2 i j) = m (c.tc.loc main_arg0) (ix2 p q))
    ∧ (∀ i : Fin 3, iblk m c 5 t (ix2 i j) = m (c.tc.loc main_arg1) (ix2 i q))
    ∧ iblk m c 7 t (ix2 0 j) = m (c.tc.loc main_arg2) (ix2 0 q) := by
  have := (idx t).1
  have h0 : (11 + t.val / 13) * 256 + j.val < 5632 := by omega
  obtain rfl : q = ⟨_, h0⟩ := Fin.ext hq
  refine ⟨fun i p hp => ?_, fun ht i p hp => ?_, fun i => ?_, ?_⟩
  · have h1 : t.val % 13 * 640 + i.val < 8320 := by omega
    obtain rfl : p = ⟨_, h1⟩ := Fin.ext hp
    blk_ext [iblk, idx t]
  · have h1 : (t.val % 13 * 80 - 1) * 8 + i.val < 8320 := by omega
    obtain rfl : p = ⟨_, h1⟩ := Fin.ext (by dsimp only; omega)
    blk_ext [iblk, idx t]
  all_goals blk_ext [iblk, idx t]

theorem emb (t : Fin cfg0.N) (i : Fin 640) (j : Fin 256) (p : Fin 8320) (hp : p.val = t.val % 13 * 640 + i.val) (q : Fin 2816) (hq : q.val = t.val / 13 * 256 + j.val) :
    ((cfg0.win 8).blk t).view.emb (ix2 i j) = ix2 p q := by
  obtain ⟨_, _, _, _, _, _, _, _, _, e, _⟩ := idx t
  refine (eq_ix2 _).trans (congrArg₂ ix2 (Fin.ext ?_) (Fin.ext ?_))
  · show win0_8.index t 0 * 640 + 1 * i.val = _
    simp only [e, hp, Matrix.cons_val_zero, one_mul]
  · show win0_8.index t 1 * 256 + 1 * j.val = _
    simp only [e, hq, Matrix.cons_val_one, Matrix.cons_val_fin_one, one_mul]

theorem arr : (dats m 0 c).arrAt 8 cfg0.N = res (m (c.tc.loc main_arg0)) (m (c.tc.loc main_arg1)) (m (c.tc.loc main_arg2)) := by
  refine (dats m 0 c).arrAt_eq_of_covers 8 _ (by decide +kernel) fun t hf z => ?_
  obtain ⟨i, j, rfl⟩ : ∃ (i : Fin 640) (j : Fin 256), z = ix2 i j := ⟨_, _, eq_ix2 z⟩
  have hN := (idx t).1
  have hp : t.val % 13 * 640 + i.val < 8320 := by omega
  have hq : t.val / 13 * 256 + j.val < 2816 := by omega
  have hc : (grid0.coords t 1).val = t.val % 13 := (idx t).2.2.2.2.2.2.2.2.2.2
  rw [emb t i j ⟨_, hp⟩ rfl ⟨_, hq⟩ rfl, after0_8]
  unfold out0_8
  frame_out
  rw [hc]
  refine (pay2 _ (by omega) _ _ _ _ _ _ _ i j).trans (congrArg₂ (fun a b => silu a * b) ((pay1 _ _ _ _ _ _ _ i j).trans ?_) ?_)
  · rw [hc]
    exact half _ _ _ _ _ _ _ _ i ⟨_, hp⟩ rfl j _ (rows t j (lo ⟨_, hq⟩) rfl) _ _ _
  · exact half _ _ _ _ _ _ _ _ i ⟨_, hp⟩ rfl j _ (rows' t j (hi ⟨_, hq⟩) (by unfold hi; dsimp only; omega)) _ _ _

theorem algebraic : Cert.algebraic_KernelFfnConvIdeal_ReferenceFfnConvIdeal (hKernelFfnConvIdeal := Cert.KernelFfnConvIdeal.Gen.facts)
    (hReferenceFfnConvIdeal := Cert.ReferenceFfnConvIdeal.Gen.facts) := by
  intro m g m' g' _ hagree
  refine ⟨fun c => res (m (c.tc.loc main_arg0)) (m (c.tc.loc main_arg1)) (m (c.tc.loc main_arg2)), ?_, ?_⟩
  · exact (θ_run defs _ _).mono (fun r h c => ⟨(h c).1.trans arr, (h c).2⟩) (Cert.KernelFfnConvIdeal.Value.run_blocks (F := Ideal) m g)
  · refine (θ_run Cert.ReferenceFfnConvIdeal.defs _ _).mono (fun r h c => ⟨(h c).1.trans (funext fun z => ?_), (h c).2⟩) (Cert.ReferenceFfnConvIdeal.Value.run (F := Ideal) m' g')
    obtain ⟨i, j, rfl⟩ : ∃ (i : Fin 8320) (j : Fin 2816), z = ix2 i j := ⟨_, _, eq_ix2 z⟩
    clear h
    unfold Cert.ReferenceFfnConvIdeal.Value.res_main_v27
    rw [(hagree c).1, (hagree c).2.1, (hagree c).2.2]
    clean_types
    rw [back_eq 2 0 8322 rfl (by omega), back_eq 2 1 8322 rfl (by omega), back_eq 2 2 8322 rfl (by omega)]
    pointwise
    rfl

end Cert.FfnConv
-- ==== Proof.SsdConv.lean ====
/-
  The convolution in front of the SSD mixer, over four rows, with the logistic unit; the padding's rows are zero.
-/
module

public import proofs.«01_k».proof.Proof.Conv
public import proofs.«01_k».proof.Proof.Gen.KernelSsdConvIdeal.Value
public import proofs.«01_k».proof.Proof.Gen.ReferenceSsdConvIdeal.Run
public import proofs.«01_k».proof.Defs

@[expose] public section

set_option maxRecDepth 16384

noncomputable section

namespace Cert.SsdConv

open Cert.KernelSsdConvIdeal Cert.KernelSsdConvIdeal.Gen Idealize.ShloMosaic Idealize.ShloMosaic.TcCoe Idealize.SL.Sem StableHlo
open Cert.Ret Cert.Product Cert.Conv

variable {m : (ℓ : Loc nD τ sig) → Buf (Elt Ideal) ℓ} {c : Dev nD}

/-- A bias and four entries times their weights, the present one last. -/
def taps (b x0 x1 x2 x3 w0 w1 w2 w3 : EReal) : EReal := b + x3 * w0 + x2 * w1 + x1 * w2 + x0 * w3

/-- The logistic unit. -/
def silu (a : EReal) : EReal := a * Ideal.logistic a

/-- The result. -/
def res (x : Vec Ideal S8320x3072 .f32) (w : Vec Ideal S4x3072 .f32) (b : Vec Ideal S1x3072 .f32) : Vec Ideal S8320x3072 .f32 := fun z =>
  if 112 ≤ (z 0).val then silu (taps (b (ix2 0 (z 1))) (back x 0 z) (back x 1 z) (back x 2 z) (back x 3 z)
    (w (ix2 0 (z 1))) (w (ix2 1 (z 1))) (w (ix2 2 (z 1))) (w (ix2 3 (z 1)))) else (0 : EReal)

theorem idx : ∀ t : Fin cfg0.N, t.val < 78 ∧ win0_0.index t = ![t.val % 13, t.val / 13] ∧ win0_1.index t = ![t.val % 13 * 80 - 1, t.val / 13]
    ∧ win0_2.index t = ![0, t.val / 13] ∧ win0_3.index t = ![0, t.val / 13] ∧ win0_4.index t = ![t.val % 13, t.val / 13]
    ∧ (grid0.coords t 1).val = t.val % 13 := by decide +kernel

theorem pay (i : grid0.Coords) (x : Vec Ideal S640x512 .f32) (y : Vec Ideal S8x512 .f32) (b w0 w1 w2 w3 : Vec Ideal S1x512 .f32) (r : ℕ) (hr : r < 13) (k : Fin 640) (j : Fin 512) :
    k0_pay1 (F := Ideal) (BitVec.ofNat 32 r) (k0_pay2 i y) x (k0_pay3 i y x b w3 w0 w1) 1#32 w2 (ix2 k j)
      = (if 112 ≤ r * 640 + k.val then silu (taps (b (ix2 0 j)) (x (ix2 k j)) (shift x (k0_pay2 (F := Ideal) i y) 1 (ix2 k j)) (shift x (k0_pay2 (F := Ideal) i y) 2 (ix2 k j))
        (shift x (k0_pay2 (F := Ideal) i y) 3 (ix2 k j)) (w0 (ix2 0 j)) (w1 (ix2 0 j)) (w2 (ix2 0 j)) (w3 (ix2 0 j))) else 0 : EReal) := by
  unfold k0_pay1 k0_pay3
  generalize k0_pay2 (F := Ideal) i y = y
  dsimp only
  clean_types
  rw [shift_eq x y 1 (by omega) _ rfl, shift_eq x y 2 (by omega) _ rfl, shift_eq x y 3 (by omega) _ rfl]
  pointwise
  rw [row_select r hr k]
  refine if_congr Iff.rfl ?_ rfl
  unfold silu taps
  rw [show ∀ b p0 p1 p2 p3 : EReal, b + p0 + p3 + p2 + p1 = b + p3 + p2 + p1 + p0 from fun b p0 p1 p2 p3 => by ac_rfl]

theorem pay2 (i : grid0.Coords) (y : Vec Ideal S8x512 .f32) (z : S8x512.Idx) :
    k0_pay2 (F := Ideal) i y z = (if (i 1).val = 0 then 0 else y z : EReal) := by
  unfold k0_pay2
  clean_types
  pointwise
  exact first_select _ (i 1).isLt _ _

theorem rows (t : Fin cfg0.N) (j : Fin 512) (q : Fin 3072) (hq : q.val = t.val / 13 * 512 + j.val) :
    (∀ (i : Fin 640) (p : Fin 8320), p.val = t.val % 13 * 640 + i.val → iblk m c 0 t (ix2 i j) = m (c.tc.loc main_arg0) (ix2 p q))
    ∧ (t.val % 13 ≠ 0 → ∀ (i : Fin 8) (p : Fin 8320), p.val + 8 = t.val % 13 * 640 + i.val → iblk m c 1 t (ix2 i j) = m (c.tc.loc main_arg0) (ix2 p q))
    ∧ (∀ i : Fin 4, iblk m c 2 t (ix2 i j) = m (c.tc.loc main_arg1) (ix2 i q))
    ∧ iblk m c 3 t (ix2 0 j) = m (c.tc.loc main_arg2) (ix2 0 q) := by
  have := (idx t).1
  have h0 : t.val / 13 * 512 + j.val < 3072 := by omega
  obtain rfl : q = ⟨_, h0⟩ := Fin.ext hq
  refine ⟨fun i p hp => ?_, fun ht i p hp => ?_, fun i => ?_, ?_⟩
  · have h1 : t.val % 13 * 640 + i.val < 8320 := by omega
    obtain rfl : p = ⟨_, h1⟩ := Fin.ext hp
    blk_ext [iblk, idx t]
  · have h1 : (t.val % 13 * 80 - 1) * 8 + i.val < 8320 := by omega
    obtain rfl : p = ⟨_, h1⟩ := Fin.ext (by dsimp only; omega)
    blk_ext [iblk, idx t]
  all_goals blk_ext [iblk, idx t]

theorem emb (t : Fin cfg0.N) (i : Fin 640) (j : Fin 512) (p : Fin 8320) (hp : p.val = t.val % 13 * 640 + i.val) (q : Fin 3072) (hq : q.val = t.val / 13 * 512 + j.val) :
    ((cfg0.win 4).blk t).view.emb (ix2 i j) = ix2 p q := by
  obtain ⟨_, _, _, _, _, e, _⟩ := idx t
  refine (eq_ix2 _).trans (congrArg₂ ix2 (Fin.ext ?_) (Fin.ext ?_))
  · show win0_4.index t 0 * 640 + 1 * i.val = _
    simp only [e, hp, Matrix.cons_val_zero, one_mul]
  · show win0_4.index t 1 * 512 + 1 * j.val = _
    simp only [e, hq, Matrix.cons_val_one, Matrix.cons_val_fin_one, one_mul]

theorem arr : (dats m 0 c).arrAt 4 cfg0.N = res (m (c.tc.loc main_arg0)) (m (c.tc.loc main_arg1)) (m (c.tc.loc main_arg2)) := by
  refine (dats m 0 c).arrAt_eq_of_covers 4 _ (by decide +kernel) fun t hf z => ?_
  obtain ⟨i, j, rfl⟩ : ∃ (i : Fin 640) (j : Fin 512), z = ix2 i j := ⟨_, _, eq_ix2 z⟩
  have hN := (idx t).1
  have hp : t.val % 13 * 640 + i.val < 8320 := by omega
  have hq : t.val / 13 * 512 + j.val < 3072 := by omega
  obtain ⟨r0, r1, r2, r3⟩ := rows (m := m) (c := c) t j ⟨_, hq⟩ rfl
  have hc : (grid0.coords t 1).val = t.val % 13 := (idx t).2.2.2.2.2.2
  have hs (k : ℕ) (hk : k < 4) := shift_back (m (c.tc.loc main_arg0)) (iblk m c 0 t) (k0_pay2 (F := Ideal) (grid0.coords t) (iblk m c 1 t)) k (t.val % 13) hk i ⟨_, hp⟩ rfl j ⟨_, hq⟩
    r0 (fun h i => (pay2 _ _ _).trans (if_pos (hc.trans h))) (fun h i p hp => (pay2 _ _ _).trans ((if_neg fun h' => h (hc.symm.trans h')).trans (r1 h i p hp)))
  rw [emb t i j ⟨_, hp⟩ rfl ⟨_, hq⟩ rfl, after0_4]
  unfold out0_4
  frame_out
  rw [hc]
  refine (pay _ _ _ _ _ _ _ _ _ (by omega) i j).trans ?_
  rw [hs 1 (by omega), hs 2 (by omega), hs 3 (by omega)]
  unfold res
  refine if_congr Iff.rfl (congrArg silu ?_) rfl
  rw [r3, r0 i ⟨_, hp⟩ rfl]
  have w (k : Fin 4) (h) := (ld_row (iblk m c 2 t) k h j).trans (r2 k)
  exact congr (congr (congrArg₂ _ (w 0 _) (w 1 _)) (w 2 _)) (w 3 _)

theorem algebraic : Cert.algebraic_KernelSsdConvIdeal_ReferenceSsdConvIdeal (hKernelSsdConvIdeal := Cert.KernelSsdConvIdeal.Gen.facts)
    (hReferenceSsdConvIdeal := Cert.ReferenceSsdConvIdeal.Gen.facts) := by
  intro m g m' g' _ hagree
  refine ⟨fun c => res (m (c.tc.loc main_arg0)) (m (c.tc.loc main_arg1)) (m (c.tc.loc main_arg2)), ?_, ?_⟩
  · exact (θ_run defs _ _).mono (fun r h c => ⟨(h c).1.trans arr, (h c).2⟩) (Cert.KernelSsdConvIdeal.Value.run_blocks (F := Ideal) m g)
  · refine (θ_run Cert.ReferenceSsdConvIdeal.defs _ _).mono (fun r h c => ⟨(h c).1.trans (funext fun z => ?_), (h c).2⟩) (Cert.ReferenceSsdConvIdeal.Value.run (F := Ideal) m' g')
    obtain ⟨i, j, rfl⟩ : ∃ (i : Fin 8320) (j : Fin 3072), z = ix2 i j := ⟨_, _, eq_ix2 z⟩
    clear h
    unfold Cert.ReferenceSsdConvIdeal.Value.res_main_v32
    rw [(hagree c).1, (hagree c).2.1, (hagree c).2.2]
    clean_types
    refine (mask_eq _ i j).trans ?_
    rw [back_eq 3 0 8323 rfl (by omega), back_eq 3 1 8323 rfl (by omega), back_eq 3 2 8323 rfl (by omega), back_eq 3 3 8323 rfl (by omega)]
    refine if_congr Iff.rfl ?_ rfl
    pointwise
    rfl

end Cert.SsdConv
-- ==== Proof.Small.lean ====
/-
  A weight that one block holds: its gradient is the total of eight partial ones, and of three of the weights a chip has one
  of four blocks of the columns.
-/
module

public import Idealize.ShloMosaic.PureOps.Ideal
public import Idealize.ShloMosaic.PureOps.Ideal.Laws

@[expose] public section

noncomputable section

namespace Cert.Small

open Idealize.ShloMosaic

/-- The total in the order in which the kernel adds. -/
theorem total (f : Fin 8 → EReal) : f 0 + f 1 + f 2 + f 3 + f 4 + f 5 + f 6 + f 7 = ∑ p, f p := (Fin.sum_univ_eight f).symm

theorem one_entry (x y : (⟨1, ![1]⟩ : Shape).Idx) : x = y :=
  funext fun a => by fin_cases a; exact Subsingleton.elim (α := Fin 1) _ _

/-- A chip's number is one of four. -/
theorem chip_cases {x : BitVec 32} (h : IntOp.andi (IntOp.cmpi .sge x 0#32) (IntOp.cmpi .slt x 4#32) = 1#1) : ∃ k : Fin 4, x = BitVec.ofNat 32 k.val := by
  have key : ∀ a b : Bool, IntOp.andi (BitVec.ofBool a) (BitVec.ofBool b) = 1#1 → a = true ∧ b = true := by decide
  obtain ⟨h1, h2⟩ := key _ _ h
  have e1 : (0 : Int) ≤ x.toInt := by simpa [BitVec.sle, BitVec.toInt_ofNat] using h1
  have e2 : x.toInt < 4 := by simpa [BitVec.slt, BitVec.toInt_ofNat] using h2
  have e3 := BitVec.toInt_eq_toNat_cond x
  have e4 := x.isLt
  refine ⟨⟨x.toNat, by split at e3 <;> omega⟩, ?_⟩
  simp

theorem toNat_chip (k : Fin 4) : (BitVec.ofNat 32 k.val).toNat = k.val := by fin_cases k <;> rfl

/-- A chip's block of `w` columns, as a sum over the four blocks of which all but one count as zero. -/
theorem pick {N : ℕ} (f : Fin N → EReal) (k : Fin 4) (w a2 a3 j : ℕ) (e2 : a2 = 2 * w) (e3 : a3 = 3 * w) (h0 : j < N) (h1 : w + j < N) (h2 : a2 + j < N)
    (h3 : a3 + j < N) (h : k.val * w + j < N) (x : BitVec 32) (hx : x = BitVec.ofNat 32 k.val) (z : EReal) (hz : z = 0) :
    Scalar.select (IntOp.cmpi .eq x 0#32) (f ⟨j, h0⟩) z + Scalar.select (IntOp.cmpi .eq x 1#32) (f ⟨w + j, h1⟩) z
      + Scalar.select (IntOp.cmpi .eq x 2#32) (f ⟨a2 + j, h2⟩) z + Scalar.select (IntOp.cmpi .eq x 3#32) (f ⟨a3 + j, h3⟩) z
      = f ⟨k.val * w + j, h⟩ := by
  subst hx hz e2 e3
  fin_cases k <;> simp [Scalar.select, IntOp.cmpi]

end Cert.Small
-- ==== Proof.SmallMeta.lean ====
/-
  The step of a weight of 16 by 256 entries, the block of the columns that one chip holds of 1024: the kernel reads the chip's
  number from memory and takes that block of the eight partial gradients.
-/
module

public import proofs.«01_k».proof.Proof.Product
public import proofs.«01_k».proof.Proof.Adam
public import proofs.«01_k».proof.Proof.Small
public import proofs.«01_k».proof.Proof.Gen.KernelSmallMeta.Frame
public import proofs.«01_k».proof.Proof.Gen.KernelSmallMetaIdeal.Frame
public import proofs.«01_k».proof.Proof.Gen.ReferenceSmallMetaIdeal.Run
public import proofs.«01_k».proof.Proof.Gen.Pre_chip_meta
public import proofs.«01_k».proof.Defs
public import Idealize.ShloMosaic.Lib.StableHlo.ReadAt

@[expose] public section

set_option maxRecDepth 16384

noncomputable section

namespace Cert.SmallMeta

open Cert.KernelSmallMetaIdeal Cert.KernelSmallMetaIdeal.Gen Idealize.ShloMosaic Idealize.ShloMosaic.TcCoe Idealize.SL.Sem StableHlo
open Cert.Adam

variable {m : (ℓ : Loc nD τ sig) → Buf (Elt Ideal) ℓ} {hO : Ok m} {c : Dev nD}

/-- The one point. -/
abbrev pt : Fin grid0.N := ⟨0, by decide +kernel⟩

theorem one : ∀ t : Fin grid0.N, t = pt := by decide +kernel

theorem idx : (∀ a, cc0_transform_1 (grid0.coords pt) a = 0) ∧ (∀ a, cc0_transform_2 (grid0.coords pt) a = 0)
    ∧ (∀ a, cc0_transform_3 (grid0.coords pt) a = 0) ∧ (∀ a, cc0_transform_4 (grid0.coords pt) a = 0)
    ∧ (∀ a, cc0_transform_5 (grid0.coords pt) a = 0) ∧ (∀ a, cc0_transform_6 (grid0.coords pt) a = 0)
    ∧ (∀ a, cc0_transform_7 (grid0.coords pt) a = 0) ∧ (∀ a, cc0_transform_8 (grid0.coords pt) a = 0)
    ∧ (∀ a, cc0_transform_9 (grid0.coords pt) a = 0) := by decide +kernel

/-- The results are what the one point leaves. -/
theorem arr : (dats m hO 0 c).arrAt 5 (cfgM m hO).N = (outsAt0 m hO c pt).1 ∧ (dats m hO 0 c).arrAt 6 (cfgM m hO).N = (outsAt0 m hO c pt).2.1
    ∧ (dats m hO 0 c).arrAt 7 (cfgM m hO).N = (outsAt0 m hO c pt).2.2.1 ∧ (dats m hO 0 c).arrAt 8 (cfgM m hO).N = (outsAt0 m hO c pt).2.2.2.1
    ∧ (dats m hO 0 c).arrAt 9 (cfgM m hO).N = (outsAt0 m hO c pt).2.2.2.2 := by
  obtain ⟨_, _, _, _, h5, h6, h7, h8, h9⟩ := idx
  exact ⟨(dats m hO 0 c).arrAt_eq_of_after_last 5 pt ⟨flush0_5 _ _, fun t _ => one t, fun a => ⟨h5 a, rfl⟩⟩ _ fun z => congrFun (after0_5 m hO c pt) _,
    (dats m hO 0 c).arrAt_eq_of_after_last 6 pt ⟨flush0_6 _ _, fun t _ => one t, fun a => ⟨h6 a, rfl⟩⟩ _ fun z => congrFun (after0_6 m hO c pt) _,
    (dats m hO 0 c).arrAt_eq_of_after_last 7 pt ⟨flush0_7 _ _, fun t _ => one t, fun a => ⟨h7 a, rfl⟩⟩ _ fun z => congrFun (after0_7 m hO c pt) _,
    (dats m hO 0 c).arrAt_eq_of_after_last 8 pt ⟨flush0_8 _ _, fun t _ => one t, fun a => ⟨h8 a, rfl⟩⟩ _ fun z => congrFun (after0_8 m hO c pt) _,
    (dats m hO 0 c).arrAt_eq_of_after_last 9 pt ⟨flush0_9 _ _, fun t _ => one t, fun a => ⟨h9 a, rfl⟩⟩ _ fun z => congrFun (after0_9 m hO c pt) _⟩

/-- The weight, its moments and the loss are read whole. -/
theorem whole : iblk m hO c 1 pt = m (c.tc.loc main_arg2) ∧ iblk m hO c 2 pt = m (c.tc.loc main_arg3) ∧ iblk m hO c 3 pt = m (c.tc.loc main_arg4)
    ∧ iblk m hO c 4 pt = m (c.tc.loc main_arg5) := by
  obtain ⟨h1, h2, h3, h4, _⟩ := idx
  refine ⟨funext fun z => congrArg (m (c.tc.loc main_arg2)) (funext fun a => Fin.ext ?_), funext fun z => congrArg (m (c.tc.loc main_arg3)) (funext fun a => Fin.ext ?_),
    funext fun z => congrArg (m (c.tc.loc main_arg4)) (funext fun a => Fin.ext ?_), funext fun z => congrArg (m (c.tc.loc main_arg5)) (funext fun a => Fin.ext ?_)⟩
  · exact Pipeline.Window.rect_emb_val_of_index_zero ((cfgM m hO).win 1) pt a (h1 a) z
  · exact Pipeline.Window.rect_emb_val_of_index_zero ((cfgM m hO).win 2) pt a (h2 a) z
  · exact Pipeline.Window.rect_emb_val_of_index_zero ((cfgM m hO).win 3) pt a (h3 a) z
  · exact Pipeline.Window.rect_emb_val_of_index_zero ((cfgM m hO).win 4) pt a (h4 a) z

/-- The total of the eight partial gradients of an entry. -/
def grad (x : Vec Ideal S8x16x256 .f32) (i : Fin 16) (j : Fin 256) : EReal := ∑ p : Fin 8, x (ix3 p i j)

/-- The total of the eight partial losses. -/
def loss (x : Vec Ideal S8x8x128 .f32) : EReal := ∑ p : Fin 8, x (ix3 p 0 0)

variable (x0 : Vec Ideal S8x16x256 .f32) (x1 : Vec Ideal S8x8x128 .f32) (x2 x3 x4 : Vec Ideal S16x256 .f32)

theorem out5 (i : Fin 16) (j : Fin 256) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = grad x0 i j := by
  unfold out0_A_5
  frame_out
  unfold k0_pay2
  clean_types
  pointwise
  exact Small.total fun p => x0 (ix3 p i j)

theorem out6 (i : Fin 16) (j : Fin 256) :
    out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = delta (grad x0 i j) (x2 (ix2 i j)) (x3 (ix2 i j)) (x4 (ix2 i j)) := by
  rw [← out5 (hO := hO) (c := c) x0 x1 x2 x3 x4]
  unfold out0_A_5 out0_A_6
  frame_out
  unfold k0_pay6 k0_pay5 k0_pay4 k0_pay3
  clean_types
  pointwise
  rfl

theorem out7 (i : Fin 16) (j : Fin 256) :
    out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom1 (grad x0 i j) (x3 (ix2 i j)) := by
  rw [← out5 (hO := hO) (c := c) x0 x1 x2 x3 x4]
  unfold out0_A_5 out0_A_7
  frame_out
  unfold k0_pay4 k0_pay3
  clean_types
  pointwise
  rfl

theorem out8 (i : Fin 16) (j : Fin 256) :
    out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom2 (grad x0 i j) (x4 (ix2 i j)) := by
  rw [← out5 (hO := hO) (c := c) x0 x1 x2 x3 x4]
  unfold out0_A_5 out0_A_8
  frame_out
  unfold k0_pay5
  clean_types
  pointwise
  rfl

theorem out9 : out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = loss x1 := by
  unfold out0_A_9
  frame_out
  unfold k0_pay1 k0_pay7
  clean_types
  pointwise
  exact Small.total fun p => x1 (ix3 p 0 0)

/-- The kernel's side of the claim. -/
theorem kernel (g : Dev nD → PrngReg) (hO : Ok m) : θ_run (defs (F := Ideal)) (onTc (τ := τ) (main (F := Ideal))) ⟨m, fun _ => 0, g⟩ (fun r => ∀ c : Dev nD,
    r.2.mem (c.tc.loc main_v0_0) = (outsAt0 m hO c pt).1 ∧ r.2.mem (c.tc.loc main_v0_1) = (outsAt0 m hO c pt).2.1
      ∧ r.2.mem (c.tc.loc main_v0_2) = (outsAt0 m hO c pt).2.2.1 ∧ r.2.mem (c.tc.loc main_v0_3) = (outsAt0 m hO c pt).2.2.2.1
      ∧ r.2.mem (c.tc.loc main_v0_4) = (outsAt0 m hO c pt).2.2.2.2
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) :=
  (θ_run defs _ _).mono (fun r h c => ⟨((h.1 c).1 5).trans arr.1, ((h.1 c).1 6).trans arr.2.1, ((h.1 c).1 7).trans arr.2.2.1,
    ((h.1 c).1 8).trans arr.2.2.2.1, ((h.1 c).1 9).trans arr.2.2.2.2, h.2 c⟩) (θ_run_and (run_main m g hO) (unchanged m g hO))

/-- The precondition says of the chip's number that it is one of four. -/
theorem chip {F : FTy → Type} [FloatOps F] {x : IVec Cert.Pre_chip_meta.S1 32} {y0 y1 y2 y3 y4}
    (h : Cert.Pre_chip_meta.fn (F := F) x y0 y1 y2 y3 y4 = fun _ => 1#1) : ∃ k : Fin 4, ∀ z, x z = BitVec.ofNat 32 k.val := by
  obtain ⟨k, hk⟩ := Small.chip_cases (congrFun h (ix1 0))
  exact ⟨k, fun z => (congrArg x (Small.one_entry z _)).trans hk⟩

theorem block (k : Fin 4) (h : ∀ z, m ((0 : Dev nD).tc.loc main_arg0) z = BitVec.ofNat 32 k.val) (i : grid0.Coords) :
    cc0_transform_0 inb_S1_S1_0 numel1_S1 (tbl m) i = ![0, 0, k.val] :=
  (congrArg (fun x : BitVec 32 => ![0, 0, x.toNat]) (h _)).trans (congrArg (fun n : ℕ => ![0, 0, n]) (Small.toNat_chip k))

/-- The chip's block of the columns lies within the gradient's columns. -/
theorem ok (k : Fin 4) (h : ∀ z, m ((0 : Dev nD).tc.loc main_arg0) z = BitVec.ofNat 32 k.val) : Ok m := by
  intro i
  refine ⟨?_, Or.inl rfl⟩
  rw [block k h i]
  fin_cases k <;> decide

/-- The same of the kernel as it is rounded. -/
theorem ok_rounded {m : (ℓ : Loc Cert.KernelSmallMeta.nD Cert.KernelSmallMeta.τ Cert.KernelSmallMeta.sig) → Buf (Elt Bits) ℓ} (k : Fin 4)
    (h : ∀ z, m ((0 : Dev Cert.KernelSmallMeta.nD).tc.loc Cert.KernelSmallMeta.main_arg0) z = BitVec.ofNat 32 k.val) : Cert.KernelSmallMeta.Gen.Ok m := by
  intro i
  refine ⟨?_, Or.inl rfl⟩
  rw [show Cert.KernelSmallMeta.cc0_transform_0 Cert.KernelSmallMeta.Gen.facts.inb_S1_S1_0 Cert.KernelSmallMeta.Gen.facts.numel1_S1 (Cert.KernelSmallMeta.Gen.tbl m) i = ![0, 0, k.val] from
    (congrArg (fun x : BitVec 32 => ![0, 0, x.toNat]) (h _)).trans (congrArg (fun n : ℕ => ![0, 0, n]) (Small.toNat_chip k))]
  fin_cases k <;> decide

/-- The total of the chip's block of the gradient, of one entry. -/
def sum (y : Vec Ideal S8x16x1024 .f32) (k : Fin 4) (i : Fin 16) (j : Fin 256) : EReal :=
  ∑ p : Fin 8, y (ix3 p i ⟨k.val * 256 + j.val, by omega⟩)

theorem in0 (k : Fin 4) (h : ∀ z, m ((0 : Dev nD).tc.loc main_arg0) z = BitVec.ofNat 32 k.val) (i : Fin 16) (j : Fin 256) :
    grad (iblk m hO c 0 pt) i j = sum (m (c.tc.loc main_arg1)) k i j := by
  refine Finset.sum_congr rfl fun p _ => ?_
  unfold iblk
  refine congrArg (m (c.tc.loc main_arg1)) (funext fun a => Fin.ext ?_)
  refine (Pipeline.Window.rect_emb_val ((cfgM m hO).win 0) pt (ix3 p i j) a).trans ?_
  rw [show ((cfgM m hO).win 0).index pt = ![0, 0, k.val] from block k h (grid0.coords pt)]
  fin_cases a
  · exact (congrArg (· + p.val) (Nat.zero_mul 8)).trans (Nat.zero_add _)
  · exact (congrArg (· + i.val) (Nat.zero_mul 16)).trans (Nat.zero_add _)
  · rfl

/-- The five outputs of a point whose entries are known. -/
theorem point (i : Fin 16) (j : Fin 256) (G a b d l : EReal) (e0 : grad x0 i j = G) (e1 : loss x1 = l) (e2 : x2 (ix2 i j) = a) (e3 : x3 (ix2 i j) = b) (e4 : x4 (ix2 i j) = d) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = G
      ∧ out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = delta G a b d
      ∧ out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom1 G b
      ∧ out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom2 G d
      ∧ out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = l := by
  rw [out5, out6, out7, out8, out9, e0, e1, e2, e3, e4]
  exact ⟨rfl, rfl, rfl, rfl, rfl⟩

/-- What the kernel leaves, of the arguments. -/
theorem left (k : Fin 4) (h : ∀ z, m ((0 : Dev nD).tc.loc main_arg0) z = BitVec.ofNat 32 k.val) (i : Fin 16) (j : Fin 256) :
    (outsAt0 m hO c pt).1 (ix2 i j) = sum (m (c.tc.loc main_arg1)) k i j
      ∧ (outsAt0 m hO c pt).2.1 (ix2 i j) = delta (sum (m (c.tc.loc main_arg1)) k i j) (m (c.tc.loc main_arg3) (ix2 i j)) (m (c.tc.loc main_arg4) (ix2 i j)) (m (c.tc.loc main_arg5) (ix2 i j))
      ∧ (outsAt0 m hO c pt).2.2.1 (ix2 i j) = mom1 (sum (m (c.tc.loc main_arg1)) k i j) (m (c.tc.loc main_arg4) (ix2 i j))
      ∧ (outsAt0 m hO c pt).2.2.2.1 (ix2 i j) = mom2 (sum (m (c.tc.loc main_arg1)) k i j) (m (c.tc.loc main_arg5) (ix2 i j))
      ∧ (outsAt0 m hO c pt).2.2.2.2 (ix2 0 0) = loss (m (c.tc.loc main_arg2)) := by
  obtain ⟨w1, w2, w3, w4⟩ := whole (m := m) (hO := hO) (c := c)
  have e := in0 (hO := hO) (c := c) k h i j
  have p := point (hO := hO) (c := c) (iblk m hO c 0 pt) (iblk m hO c 1 pt) (iblk m hO c 2 pt) (iblk m hO c 3 pt) (iblk m hO c 4 pt) i j _ _ _ _ _ e
    (congrArg loss w1) (congrFun w2 (ix2 i j)) (congrFun w3 (ix2 i j)) (congrFun w4 (ix2 i j))
  unfold outsAt0
  dsimp only
  exact p

/-- The reference's gradient of an entry is the chip's block's. -/
theorem refg (y : Vec Ideal S8x16x1024 .f32) (k : Fin 4) {x : BitVec 32} (hx : x = BitVec.ofNat 32 k.val) {z : EReal} (hz : z = 0) (i : Fin 16) (j : Fin 256) :
    Scalar.select (IntOp.cmpi .eq x 0#32) (∑ p : Fin 8, y (ix3 p i (⟨j.val, by omega⟩ : Fin 1024))) z
      + Scalar.select (IntOp.cmpi .eq x 1#32) (∑ p : Fin 8, y (ix3 p i (⟨256 + j.val, by omega⟩ : Fin 1024))) z
      + Scalar.select (IntOp.cmpi .eq x 2#32) (∑ p : Fin 8, y (ix3 p i (⟨512 + j.val, by omega⟩ : Fin 1024))) z
      + Scalar.select (IntOp.cmpi .eq x 3#32) (∑ p : Fin 8, y (ix3 p i (⟨768 + j.val, by omega⟩ : Fin 1024))) z = sum y k i j :=
  Small.pick (fun q => ∑ p : Fin 8, y (ix3 p i q)) k 256 512 768 j.val rfl rfl _ _ _ _ _ _ hx _ hz

theorem algebraic : Cert.algebraic_KernelSmallMetaIdeal_ReferenceSmallMetaIdeal (hKernelSmallMetaIdeal := Cert.KernelSmallMetaIdeal.Gen.facts)
    (hReferenceSmallMetaIdeal := Cert.ReferenceSmallMetaIdeal.Gen.facts) (hPre_chip_meta := Cert.Pre_chip_meta.Gen.facts) := by
  intro m g m' g' hpre hagree
  obtain ⟨k, hk⟩ := chip (hpre 0)
  have hO : Ok m := ok k hk
  refine ⟨fun c => (outsAt0 m hO c pt).1, fun c => (outsAt0 m hO c pt).2.1, fun c => (outsAt0 m hO c pt).2.2.1, fun c => (outsAt0 m hO c pt).2.2.2.1,
    fun c => (outsAt0 m hO c pt).2.2.2.2, kernel g hO, ?_⟩
  refine (θ_run Cert.ReferenceSmallMetaIdeal.defs _ _).mono (fun r h c => ⟨(h c).1.trans (funext fun z => ?_),
      (h c).2.1.trans (funext fun z => ?_), (h c).2.2.1.trans (funext fun z => ?_),
      (h c).2.2.2.1.trans (funext fun z => ?_), (h c).2.2.2.2.1.trans (funext fun z => ?_), (h c).2.2.2.2.2⟩) (Cert.ReferenceSmallMetaIdeal.Value.run (F := Ideal) m' g')
  all_goals
    clear h
    obtain ⟨a0, a1, a2, a3, a4, a5⟩ := hagree c
    have hk' : m (c.tc.loc main_arg0) (ix1 0) = BitVec.ofNat 32 k.val := by rw [Subsingleton.elim c 0]; exact hk _
    have hz : (id (constant (F := Ideal) Cert.ReferenceSmallMetaIdeal.S_ .f32 0#32) ix0 : EReal) = 0 := Ideal.ofBits_zero .f32
  · obtain ⟨i, j, rfl⟩ : ∃ (i : Fin 16) (j : Fin 256), z = ix2 i j := ⟨_, _, eq_ix2 z⟩
    refine .trans ?_ (left k hk i j).1.symm
    rw [a0, a1]
    clean_types
    pointwise
    exact refg (m (c.tc.loc main_arg1)) k hk' hz i j
  · obtain ⟨i, j, rfl⟩ : ∃ (i : Fin 16) (j : Fin 256), z = ix2 i j := ⟨_, _, eq_ix2 z⟩
    refine .trans ?_ (left k hk i j).2.1.symm
    unfold Cert.ReferenceSmallMetaIdeal.Value.res_main_v45
    rw [a0, a1, a3, a4, a5]
    clean_types
    pointwise
    exact congrArg (fun g => delta g (m (c.tc.loc main_arg3) (ix2 i j)) (m (c.tc.loc main_arg4) (ix2 i j)) (m (c.tc.loc main_arg5) (ix2 i j))) (refg (m (c.tc.loc main_arg1)) k hk' hz i j)
  · obtain ⟨i, j, rfl⟩ : ∃ (i : Fin 16) (j : Fin 256), z = ix2 i j := ⟨_, _, eq_ix2 z⟩
    refine .trans ?_ (left k hk i j).2.2.1.symm
    rw [a0, a1, a4]
    clean_types
    pointwise
    exact congrArg (fun g => mom1 g (m (c.tc.loc main_arg4) (ix2 i j))) (refg (m (c.tc.loc main_arg1)) k hk' hz i j)
  · obtain ⟨i, j, rfl⟩ : ∃ (i : Fin 16) (j : Fin 256), z = ix2 i j := ⟨_, _, eq_ix2 z⟩
    refine .trans ?_ (left k hk i j).2.2.2.1.symm
    rw [a0, a1, a5]
    clean_types
    pointwise
    exact congrArg (fun g => mom2 g (m (c.tc.loc main_arg5) (ix2 i j))) (refg (m (c.tc.loc main_arg1)) k hk' hz i j)
  · obtain ⟨i, j, rfl⟩ : ∃ (i j : Fin 1), z = ix2 i j := ⟨_, _, eq_ix2 z⟩
    obtain rfl := Subsingleton.elim i 0
    obtain rfl := Subsingleton.elim j 0
    refine .trans ?_ (left k hk 0 0).2.2.2.2.symm
    rw [a2]
    clean_types
    pointwise
    rfl

end Cert.SmallMeta
-- ==== Proof.SmallSsd.lean ====
/-
  The step of a weight of 4 by 768 entries, the block of the columns that one chip holds of 3072: the kernel reads the chip's
  number from memory and takes that block of the eight partial gradients.
-/
module

public import proofs.«01_k».proof.Proof.Product
public import proofs.«01_k».proof.Proof.Adam
public import proofs.«01_k».proof.Proof.Small
public import proofs.«01_k».proof.Proof.Gen.KernelSmallSsd.Frame
public import proofs.«01_k».proof.Proof.Gen.KernelSmallSsdIdeal.Frame
public import proofs.«01_k».proof.Proof.Gen.ReferenceSmallSsdIdeal.Run
public import proofs.«01_k».proof.Proof.Gen.Pre_chip_ssd
public import proofs.«01_k».proof.Defs
public import Idealize.ShloMosaic.Lib.StableHlo.ReadAt

@[expose] public section

set_option maxRecDepth 16384

noncomputable section

namespace Cert.SmallSsd

open Cert.KernelSmallSsdIdeal Cert.KernelSmallSsdIdeal.Gen Idealize.ShloMosaic Idealize.ShloMosaic.TcCoe Idealize.SL.Sem StableHlo
open Cert.Adam

variable {m : (ℓ : Loc nD τ sig) → Buf (Elt Ideal) ℓ} {hO : Ok m} {c : Dev nD}

/-- The one point. -/
abbrev pt : Fin grid0.N := ⟨0, by decide +kernel⟩

theorem one : ∀ t : Fin grid0.N, t = pt := by decide +kernel

theorem idx : (∀ a, cc0_transform_1 (grid0.coords pt) a = 0) ∧ (∀ a, cc0_transform_2 (grid0.coords pt) a = 0)
    ∧ (∀ a, cc0_transform_3 (grid0.coords pt) a = 0) ∧ (∀ a, cc0_transform_4 (grid0.coords pt) a = 0)
    ∧ (∀ a, cc0_transform_5 (grid0.coords pt) a = 0) ∧ (∀ a, cc0_transform_6 (grid0.coords pt) a = 0)
    ∧ (∀ a, cc0_transform_7 (grid0.coords pt) a = 0) ∧ (∀ a, cc0_transform_8 (grid0.coords pt) a = 0)
    ∧ (∀ a, cc0_transform_9 (grid0.coords pt) a = 0) := by decide +kernel

/-- The results are what the one point leaves. -/
theorem arr : (dats m hO 0 c).arrAt 5 (cfgM m hO).N = (outsAt0 m hO c pt).1 ∧ (dats m hO 0 c).arrAt 6 (cfgM m hO).N = (outsAt0 m hO c pt).2.1
    ∧ (dats m hO 0 c).arrAt 7 (cfgM m hO).N = (outsAt0 m hO c pt).2.2.1 ∧ (dats m hO 0 c).arrAt 8 (cfgM m hO).N = (outsAt0 m hO c pt).2.2.2.1
    ∧ (dats m hO 0 c).arrAt 9 (cfgM m hO).N = (outsAt0 m hO c pt).2.2.2.2 := by
  obtain ⟨_, _, _, _, h5, h6, h7, h8, h9⟩ := idx
  exact ⟨(dats m hO 0 c).arrAt_eq_of_after_last 5 pt ⟨flush0_5 _ _, fun t _ => one t, fun a => ⟨h5 a, rfl⟩⟩ _ fun z => congrFun (after0_5 m hO c pt) _,
    (dats m hO 0 c).arrAt_eq_of_after_last 6 pt ⟨flush0_6 _ _, fun t _ => one t, fun a => ⟨h6 a, rfl⟩⟩ _ fun z => congrFun (after0_6 m hO c pt) _,
    (dats m hO 0 c).arrAt_eq_of_after_last 7 pt ⟨flush0_7 _ _, fun t _ => one t, fun a => ⟨h7 a, rfl⟩⟩ _ fun z => congrFun (after0_7 m hO c pt) _,
    (dats m hO 0 c).arrAt_eq_of_after_last 8 pt ⟨flush0_8 _ _, fun t _ => one t, fun a => ⟨h8 a, rfl⟩⟩ _ fun z => congrFun (after0_8 m hO c pt) _,
    (dats m hO 0 c).arrAt_eq_of_after_last 9 pt ⟨flush0_9 _ _, fun t _ => one t, fun a => ⟨h9 a, rfl⟩⟩ _ fun z => congrFun (after0_9 m hO c pt) _⟩

/-- The weight, its moments and the loss are read whole. -/
theorem whole : iblk m hO c 1 pt = m (c.tc.loc main_arg2) ∧ iblk m hO c 2 pt = m (c.tc.loc main_arg3) ∧ iblk m hO c 3 pt = m (c.tc.loc main_arg4)
    ∧ iblk m hO c 4 pt = m (c.tc.loc main_arg5) := by
  obtain ⟨h1, h2, h3, h4, _⟩ := idx
  refine ⟨funext fun z => congrArg (m (c.tc.loc main_arg2)) (funext fun a => Fin.ext ?_), funext fun z => congrArg (m (c.tc.loc main_arg3)) (funext fun a => Fin.ext ?_),
    funext fun z => congrArg (m (c.tc.loc main_arg4)) (funext fun a => Fin.ext ?_), funext fun z => congrArg (m (c.tc.loc main_arg5)) (funext fun a => Fin.ext ?_)⟩
  · exact Pipeline.Window.rect_emb_val_of_index_zero ((cfgM m hO).win 1) pt a (h1 a) z
  · exact Pipeline.Window.rect_emb_val_of_index_zero ((cfgM m hO).win 2) pt a (h2 a) z
  · exact Pipeline.Window.rect_emb_val_of_index_zero ((cfgM m hO).win 3) pt a (h3 a) z
  · exact Pipeline.Window.rect_emb_val_of_index_zero ((cfgM m hO).win 4) pt a (h4 a) z

/-- The total of the eight partial gradients of an entry. -/
def grad (x : Vec Ideal S8x8x768 .f32) (i : Fin 4) (j : Fin 768) : EReal := ∑ p : Fin 8, x (ix3 p (⟨i.val, by omega⟩ : Fin 8) j)

/-- The total of the eight partial losses. -/
def loss (x : Vec Ideal S8x8x128 .f32) : EReal := ∑ p : Fin 8, x (ix3 p 0 0)

variable (x0 : Vec Ideal S8x8x768 .f32) (x1 : Vec Ideal S8x8x128 .f32) (x2 x3 x4 : Vec Ideal S4x768 .f32)

theorem out5 (i : Fin 4) (j : Fin 768) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = grad x0 i j := by
  unfold out0_A_5
  frame_out
  unfold k0_pay2
  clean_types
  pointwise
  exact Small.total fun p => x0 (ix3 p (⟨i.val, by omega⟩ : Fin 8) j)

theorem out6 (i : Fin 4) (j : Fin 768) :
    out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = delta (grad x0 i j) (x2 (ix2 i j)) (x3 (ix2 i j)) (x4 (ix2 i j)) := by
  rw [← out5 (hO := hO) (c := c) x0 x1 x2 x3 x4]
  unfold out0_A_5 out0_A_6
  frame_out
  unfold k0_pay6 k0_pay5 k0_pay4 k0_pay3
  clean_types
  pointwise
  rfl

theorem out7 (i : Fin 4) (j : Fin 768) :
    out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom1 (grad x0 i j) (x3 (ix2 i j)) := by
  rw [← out5 (hO := hO) (c := c) x0 x1 x2 x3 x4]
  unfold out0_A_5 out0_A_7
  frame_out
  unfold k0_pay4 k0_pay3
  clean_types
  pointwise
  rfl

theorem out8 (i : Fin 4) (j : Fin 768) :
    out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom2 (grad x0 i j) (x4 (ix2 i j)) := by
  rw [← out5 (hO := hO) (c := c) x0 x1 x2 x3 x4]
  unfold out0_A_5 out0_A_8
  frame_out
  unfold k0_pay5
  clean_types
  pointwise
  rfl

theorem out9 : out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = loss x1 := by
  unfold out0_A_9
  frame_out
  unfold k0_pay1 k0_pay7
  clean_types
  pointwise
  exact Small.total fun p => x1 (ix3 p 0 0)

/-- The kernel's side of the claim. -/
theorem kernel (g : Dev nD → PrngReg) (hO : Ok m) : θ_run (defs (F := Ideal)) (onTc (τ := τ) (main (F := Ideal))) ⟨m, fun _ => 0, g⟩ (fun r => ∀ c : Dev nD,
    r.2.mem (c.tc.loc main_v0_0) = (outsAt0 m hO c pt).1 ∧ r.2.mem (c.tc.loc main_v0_1) = (outsAt0 m hO c pt).2.1
      ∧ r.2.mem (c.tc.loc main_v0_2) = (outsAt0 m hO c pt).2.2.1 ∧ r.2.mem (c.tc.loc main_v0_3) = (outsAt0 m hO c pt).2.2.2.1
      ∧ r.2.mem (c.tc.loc main_v0_4) = (outsAt0 m hO c pt).2.2.2.2
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) :=
  (θ_run defs _ _).mono (fun r h c => ⟨((h.1 c).1 5).trans arr.1, ((h.1 c).1 6).trans arr.2.1, ((h.1 c).1 7).trans arr.2.2.1,
    ((h.1 c).1 8).trans arr.2.2.2.1, ((h.1 c).1 9).trans arr.2.2.2.2, h.2 c⟩) (θ_run_and (run_main m g hO) (unchanged m g hO))

/-- The precondition says of the chip's number that it is one of four. -/
theorem chip {F : FTy → Type} [FloatOps F] {x : IVec Cert.Pre_chip_ssd.S1 32} {y0 y1 y2 y3 y4}
    (h : Cert.Pre_chip_ssd.fn (F := F) x y0 y1 y2 y3 y4 = fun _ => 1#1) : ∃ k : Fin 4, ∀ z, x z = BitVec.ofNat 32 k.val := by
  obtain ⟨k, hk⟩ := Small.chip_cases (congrFun h (ix1 0))
  exact ⟨k, fun z => (congrArg x (Small.one_entry z _)).trans hk⟩

theorem block (k : Fin 4) (h : ∀ z, m ((0 : Dev nD).tc.loc main_arg0) z = BitVec.ofNat 32 k.val) (i : grid0.Coords) :
    cc0_transform_0 inb_S1_S1_0 numel1_S1 (tbl m) i = ![0, 0, k.val] :=
  (congrArg (fun x : BitVec 32 => ![0, 0, x.toNat]) (h _)).trans (congrArg (fun n : ℕ => ![0, 0, n]) (Small.toNat_chip k))

/-- The chip's block of the columns lies within the gradient's columns. -/
theorem ok (k : Fin 4) (h : ∀ z, m ((0 : Dev nD).tc.loc main_arg0) z = BitVec.ofNat 32 k.val) : Ok m := by
  intro i
  refine ⟨?_, Or.inl rfl⟩
  rw [block k h i]
  fin_cases k <;> decide

/-- The same of the kernel as it is rounded. -/
theorem ok_rounded {m : (ℓ : Loc Cert.KernelSmallSsd.nD Cert.KernelSmallSsd.τ Cert.KernelSmallSsd.sig) → Buf (Elt Bits) ℓ} (k : Fin 4)
    (h : ∀ z, m ((0 : Dev Cert.KernelSmallSsd.nD).tc.loc Cert.KernelSmallSsd.main_arg0) z = BitVec.ofNat 32 k.val) : Cert.KernelSmallSsd.Gen.Ok m := by
  intro i
  refine ⟨?_, Or.inl rfl⟩
  rw [show Cert.KernelSmallSsd.cc0_transform_0 Cert.KernelSmallSsd.Gen.facts.inb_S1_S1_0 Cert.KernelSmallSsd.Gen.facts.numel1_S1 (Cert.KernelSmallSsd.Gen.tbl m) i = ![0, 0, k.val] from
    (congrArg (fun x : BitVec 32 => ![0, 0, x.toNat]) (h _)).trans (congrArg (fun n : ℕ => ![0, 0, n]) (Small.toNat_chip k))]
  fin_cases k <;> decide

/-- The total of the chip's block of the gradient, of one entry. -/
def sum (y : Vec Ideal S8x8x3072 .f32) (k : Fin 4) (i : Fin 4) (j : Fin 768) : EReal :=
  ∑ p : Fin 8, y (ix3 p (⟨i.val, by omega⟩ : Fin 8) ⟨k.val * 768 + j.val, by omega⟩)

theorem in0 (k : Fin 4) (h : ∀ z, m ((0 : Dev nD).tc.loc main_arg0) z = BitVec.ofNat 32 k.val) (i : Fin 4) (j : Fin 768) :
    grad (iblk m hO c 0 pt) i j = sum (m (c.tc.loc main_arg1)) k i j := by
  refine Finset.sum_congr rfl fun p _ => ?_
  unfold iblk
  refine congrArg (m (c.tc.loc main_arg1)) (funext fun a => Fin.ext ?_)
  refine (Pipeline.Window.rect_emb_val ((cfgM m hO).win 0) pt (ix3 p (⟨i.val, by omega⟩ : Fin 8) j) a).trans ?_
  rw [show ((cfgM m hO).win 0).index pt = ![0, 0, k.val] from block k h (grid0.coords pt)]
  fin_cases a
  · exact (congrArg (· + p.val) (Nat.zero_mul 8)).trans (Nat.zero_add _)
  · exact (congrArg (· + i.val) (Nat.zero_mul 8)).trans (Nat.zero_add _)
  · rfl

/-- The five outputs of a point whose entries are known. -/
theorem point (i : Fin 4) (j : Fin 768) (G a b d l : EReal) (e0 : grad x0 i j = G) (e1 : loss x1 = l) (e2 : x2 (ix2 i j) = a) (e3 : x3 (ix2 i j) = b) (e4 : x4 (ix2 i j) = d) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = G
      ∧ out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = delta G a b d
      ∧ out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom1 G b
      ∧ out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom2 G d
      ∧ out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = l := by
  rw [out5, out6, out7, out8, out9, e0, e1, e2, e3, e4]
  exact ⟨rfl, rfl, rfl, rfl, rfl⟩

/-- What the kernel leaves, of the arguments. -/
theorem left (k : Fin 4) (h : ∀ z, m ((0 : Dev nD).tc.loc main_arg0) z = BitVec.ofNat 32 k.val) (i : Fin 4) (j : Fin 768) :
    (outsAt0 m hO c pt).1 (ix2 i j) = sum (m (c.tc.loc main_arg1)) k i j
      ∧ (outsAt0 m hO c pt).2.1 (ix2 i j) = delta (sum (m (c.tc.loc main_arg1)) k i j) (m (c.tc.loc main_arg3) (ix2 i j)) (m (c.tc.loc main_arg4) (ix2 i j)) (m (c.tc.loc main_arg5) (ix2 i j))
      ∧ (outsAt0 m hO c pt).2.2.1 (ix2 i j) = mom1 (sum (m (c.tc.loc main_arg1)) k i j) (m (c.tc.loc main_arg4) (ix2 i j))
      ∧ (outsAt0 m hO c pt).2.2.2.1 (ix2 i j) = mom2 (sum (m (c.tc.loc main_arg1)) k i j) (m (c.tc.loc main_arg5) (ix2 i j))
      ∧ (outsAt0 m hO c pt).2.2.2.2 (ix2 0 0) = loss (m (c.tc.loc main_arg2)) := by
  obtain ⟨w1, w2, w3, w4⟩ := whole (m := m) (hO := hO) (c := c)
  have e := in0 (hO := hO) (c := c) k h i j
  have p := point (hO := hO) (c := c) (iblk m hO c 0 pt) (iblk m hO c 1 pt) (iblk m hO c 2 pt) (iblk m hO c 3 pt) (iblk m hO c 4 pt) i j _ _ _ _ _ e
    (congrArg loss w1) (congrFun w2 (ix2 i j)) (congrFun w3 (ix2 i j)) (congrFun w4 (ix2 i j))
  unfold outsAt0
  dsimp only
  exact p

/-- The reference's gradient of an entry is the chip's block's. -/
theorem refg (y : Vec Ideal S8x8x3072 .f32) (k : Fin 4) {x : BitVec 32} (hx : x = BitVec.ofNat 32 k.val) {z : EReal} (hz : z = 0) (i : Fin 4) (j : Fin 768) :
    Scalar.select (IntOp.cmpi .eq x 0#32) (∑ p : Fin 8, y (ix3 p (⟨i.val, by omega⟩ : Fin 8) (⟨j.val, by omega⟩ : Fin 3072))) z
      + Scalar.select (IntOp.cmpi .eq x 1#32) (∑ p : Fin 8, y (ix3 p (⟨i.val, by omega⟩ : Fin 8) (⟨768 + j.val, by omega⟩ : Fin 3072))) z
      + Scalar.select (IntOp.cmpi .eq x 2#32) (∑ p : Fin 8, y (ix3 p (⟨i.val, by omega⟩ : Fin 8) (⟨1536 + j.val, by omega⟩ : Fin 3072))) z
      + Scalar.select (IntOp.cmpi .eq x 3#32) (∑ p : Fin 8, y (ix3 p (⟨i.val, by omega⟩ : Fin 8) (⟨2304 + j.val, by omega⟩ : Fin 3072))) z = sum y k i j :=
  Small.pick (fun q => ∑ p : Fin 8, y (ix3 p (⟨i.val, by omega⟩ : Fin 8) q)) k 768 1536 2304 j.val rfl rfl _ _ _ _ _ _ hx _ hz

theorem algebraic : Cert.algebraic_KernelSmallSsdIdeal_ReferenceSmallSsdIdeal (hKernelSmallSsdIdeal := Cert.KernelSmallSsdIdeal.Gen.facts)
    (hReferenceSmallSsdIdeal := Cert.ReferenceSmallSsdIdeal.Gen.facts) (hPre_chip_ssd := Cert.Pre_chip_ssd.Gen.facts) := by
  intro m g m' g' hpre hagree
  obtain ⟨k, hk⟩ := chip (hpre 0)
  have hO : Ok m := ok k hk
  refine ⟨fun c => (outsAt0 m hO c pt).1, fun c => (outsAt0 m hO c pt).2.1, fun c => (outsAt0 m hO c pt).2.2.1, fun c => (outsAt0 m hO c pt).2.2.2.1,
    fun c => (outsAt0 m hO c pt).2.2.2.2, kernel g hO, ?_⟩
  refine (θ_run Cert.ReferenceSmallSsdIdeal.defs _ _).mono (fun r h c => ⟨(h c).1.trans (funext fun z => ?_),
      (h c).2.1.trans (funext fun z => ?_), (h c).2.2.1.trans (funext fun z => ?_),
      (h c).2.2.2.1.trans (funext fun z => ?_), (h c).2.2.2.2.1.trans (funext fun z => ?_), (h c).2.2.2.2.2⟩) (Cert.ReferenceSmallSsdIdeal.Value.run (F := Ideal) m' g')
  all_goals
    clear h
    obtain ⟨a0, a1, a2, a3, a4, a5⟩ := hagree c
    have hk' : m (c.tc.loc main_arg0) (ix1 0) = BitVec.ofNat 32 k.val := by rw [Subsingleton.elim c 0]; exact hk _
    have hz : (id (constant (F := Ideal) Cert.ReferenceSmallSsdIdeal.S_ .f32 0#32) ix0 : EReal) = 0 := Ideal.ofBits_zero .f32
  · obtain ⟨i, j, rfl⟩ : ∃ (i : Fin 4) (j : Fin 768), z = ix2 i j := ⟨_, _, eq_ix2 z⟩
    refine .trans ?_ (left k hk i j).1.symm
    rw [a0, a1]
    clean_types
    pointwise
    exact refg (m (c.tc.loc main_arg1)) k hk' hz i j
  · obtain ⟨i, j, rfl⟩ : ∃ (i : Fin 4) (j : Fin 768), z = ix2 i j := ⟨_, _, eq_ix2 z⟩
    refine .trans ?_ (left k hk i j).2.1.symm
    unfold Cert.ReferenceSmallSsdIdeal.Value.res_main_v46
    rw [a0, a1, a3, a4, a5]
    clean_types
    pointwise
    exact congrArg (fun g => delta g (m (c.tc.loc main_arg3) (ix2 i j)) (m (c.tc.loc main_arg4) (ix2 i j)) (m (c.tc.loc main_arg5) (ix2 i j))) (refg (m (c.tc.loc main_arg1)) k hk' hz i j)
  · obtain ⟨i, j, rfl⟩ : ∃ (i : Fin 4) (j : Fin 768), z = ix2 i j := ⟨_, _, eq_ix2 z⟩
    refine .trans ?_ (left k hk i j).2.2.1.symm
    rw [a0, a1, a4]
    clean_types
    pointwise
    exact congrArg (fun g => mom1 g (m (c.tc.loc main_arg4) (ix2 i j))) (refg (m (c.tc.loc main_arg1)) k hk' hz i j)
  · obtain ⟨i, j, rfl⟩ : ∃ (i : Fin 4) (j : Fin 768), z = ix2 i j := ⟨_, _, eq_ix2 z⟩
    refine .trans ?_ (left k hk i j).2.2.2.1.symm
    unfold Cert.ReferenceSmallSsdIdeal.Value.res_main_v33
    rw [a0, a1, a5]
    clean_types
    pointwise
    exact congrArg (fun g => mom2 g (m (c.tc.loc main_arg5) (ix2 i j))) (refg (m (c.tc.loc main_arg1)) k hk' hz i j)
  · obtain ⟨i, j, rfl⟩ : ∃ (i j : Fin 1), z = ix2 i j := ⟨_, _, eq_ix2 z⟩
    obtain rfl := Subsingleton.elim i 0
    obtain rfl := Subsingleton.elim j 0
    refine .trans ?_ (left k hk 0 0).2.2.2.2.symm
    rw [a2]
    clean_types
    pointwise
    rfl

end Cert.SmallSsd
-- ==== Proof.SmallFfn.lean ====
/-
  The step of a weight of 3 by 1408 entries, the block of the columns that one chip holds of 5632: the kernel reads the chip's
  number from memory and takes that block of the eight partial gradients.
-/
module

public import proofs.«01_k».proof.Proof.Product
public import proofs.«01_k».proof.Proof.Adam
public import proofs.«01_k».proof.Proof.Small
public import proofs.«01_k».proof.Proof.Gen.KernelSmallFfn.Frame
public import proofs.«01_k».proof.Proof.Gen.KernelSmallFfnIdeal.Frame
public import proofs.«01_k».proof.Proof.Gen.ReferenceSmallFfnIdeal.Run
public import proofs.«01_k».proof.Proof.Gen.Pre_chip_ffn
public import proofs.«01_k».proof.Defs
public import Idealize.ShloMosaic.Lib.StableHlo.ReadAt

@[expose] public section

set_option maxRecDepth 16384

noncomputable section

namespace Cert.SmallFfn

open Cert.KernelSmallFfnIdeal Cert.KernelSmallFfnIdeal.Gen Idealize.ShloMosaic Idealize.ShloMosaic.TcCoe Idealize.SL.Sem StableHlo
open Cert.Adam

variable {m : (ℓ : Loc nD τ sig) → Buf (Elt Ideal) ℓ} {hO : Ok m} {c : Dev nD}

/-- The one point. -/
abbrev pt : Fin grid0.N := ⟨0, by decide +kernel⟩

theorem one : ∀ t : Fin grid0.N, t = pt := by decide +kernel

theorem idx : (∀ a, cc0_transform_1 (grid0.coords pt) a = 0) ∧ (∀ a, cc0_transform_2 (grid0.coords pt) a = 0)
    ∧ (∀ a, cc0_transform_3 (grid0.coords pt) a = 0) ∧ (∀ a, cc0_transform_4 (grid0.coords pt) a = 0)
    ∧ (∀ a, cc0_transform_5 (grid0.coords pt) a = 0) ∧ (∀ a, cc0_transform_6 (grid0.coords pt) a = 0)
    ∧ (∀ a, cc0_transform_7 (grid0.coords pt) a = 0) ∧ (∀ a, cc0_transform_8 (grid0.coords pt) a = 0)
    ∧ (∀ a, cc0_transform_9 (grid0.coords pt) a = 0) := by decide +kernel

/-- The results are what the one point leaves. -/
theorem arr : (dats m hO 0 c).arrAt 5 (cfgM m hO).N = (outsAt0 m hO c pt).1 ∧ (dats m hO 0 c).arrAt 6 (cfgM m hO).N = (outsAt0 m hO c pt).2.1
    ∧ (dats m hO 0 c).arrAt 7 (cfgM m hO).N = (outsAt0 m hO c pt).2.2.1 ∧ (dats m hO 0 c).arrAt 8 (cfgM m hO).N = (outsAt0 m hO c pt).2.2.2.1
    ∧ (dats m hO 0 c).arrAt 9 (cfgM m hO).N = (outsAt0 m hO c pt).2.2.2.2 := by
  obtain ⟨_, _, _, _, h5, h6, h7, h8, h9⟩ := idx
  exact ⟨(dats m hO 0 c).arrAt_eq_of_after_last 5 pt ⟨flush0_5 _ _, fun t _ => one t, fun a => ⟨h5 a, rfl⟩⟩ _ fun z => congrFun (after0_5 m hO c pt) _,
    (dats m hO 0 c).arrAt_eq_of_after_last 6 pt ⟨flush0_6 _ _, fun t _ => one t, fun a => ⟨h6 a, rfl⟩⟩ _ fun z => congrFun (after0_6 m hO c pt) _,
    (dats m hO 0 c).arrAt_eq_of_after_last 7 pt ⟨flush0_7 _ _, fun t _ => one t, fun a => ⟨h7 a, rfl⟩⟩ _ fun z => congrFun (after0_7 m hO c pt) _,
    (dats m hO 0 c).arrAt_eq_of_after_last 8 pt ⟨flush0_8 _ _, fun t _ => one t, fun a => ⟨h8 a, rfl⟩⟩ _ fun z => congrFun (after0_8 m hO c pt) _,
    (dats m hO 0 c).arrAt_eq_of_after_last 9 pt ⟨flush0_9 _ _, fun t _ => one t, fun a => ⟨h9 a, rfl⟩⟩ _ fun z => congrFun (after0_9 m hO c pt) _⟩

/-- The weight, its moments and the loss are read whole. -/
theorem whole : iblk m hO c 1 pt = m (c.tc.loc main_arg2) ∧ iblk m hO c 2 pt = m (c.tc.loc main_arg3) ∧ iblk m hO c 3 pt = m (c.tc.loc main_arg4)
    ∧ iblk m hO c 4 pt = m (c.tc.loc main_arg5) := by
  obtain ⟨h1, h2, h3, h4, _⟩ := idx
  refine ⟨funext fun z => congrArg (m (c.tc.loc main_arg2)) (funext fun a => Fin.ext ?_), funext fun z => congrArg (m (c.tc.loc main_arg3)) (funext fun a => Fin.ext ?_),
    funext fun z => congrArg (m (c.tc.loc main_arg4)) (funext fun a => Fin.ext ?_), funext fun z => congrArg (m (c.tc.loc main_arg5)) (funext fun a => Fin.ext ?_)⟩
  · exact Pipeline.Window.rect_emb_val_of_index_zero ((cfgM m hO).win 1) pt a (h1 a) z
  · exact Pipeline.Window.rect_emb_val_of_index_zero ((cfgM m hO).win 2) pt a (h2 a) z
  · exact Pipeline.Window.rect_emb_val_of_index_zero ((cfgM m hO).win 3) pt a (h3 a) z
  · exact Pipeline.Window.rect_emb_val_of_index_zero ((cfgM m hO).win 4) pt a (h4 a) z

/-- The total of the eight partial gradients of an entry. -/
def grad (x : Vec Ideal S8x8x1408 .f32) (i : Fin 3) (j : Fin 1408) : EReal := ∑ p : Fin 8, x (ix3 p (⟨i.val, by omega⟩ : Fin 8) j)

/-- The total of the eight partial losses. -/
def loss (x : Vec Ideal S8x8x128 .f32) : EReal := ∑ p : Fin 8, x (ix3 p 0 0)

variable (x0 : Vec Ideal S8x8x1408 .f32) (x1 : Vec Ideal S8x8x128 .f32) (x2 x3 x4 : Vec Ideal S3x1408 .f32)

theorem out5 (i : Fin 3) (j : Fin 1408) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = grad x0 i j := by
  unfold out0_A_5
  frame_out
  unfold k0_pay2
  clean_types
  pointwise
  exact Small.total fun p => x0 (ix3 p (⟨i.val, by omega⟩ : Fin 8) j)

theorem out6 (i : Fin 3) (j : Fin 1408) :
    out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = delta (grad x0 i j) (x2 (ix2 i j)) (x3 (ix2 i j)) (x4 (ix2 i j)) := by
  rw [← out5 (hO := hO) (c := c) x0 x1 x2 x3 x4]
  unfold out0_A_5 out0_A_6
  frame_out
  unfold k0_pay6 k0_pay5 k0_pay4 k0_pay3
  clean_types
  pointwise
  rfl

theorem out7 (i : Fin 3) (j : Fin 1408) :
    out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom1 (grad x0 i j) (x3 (ix2 i j)) := by
  rw [← out5 (hO := hO) (c := c) x0 x1 x2 x3 x4]
  unfold out0_A_5 out0_A_7
  frame_out
  unfold k0_pay4 k0_pay3
  clean_types
  pointwise
  rfl

theorem out8 (i : Fin 3) (j : Fin 1408) :
    out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom2 (grad x0 i j) (x4 (ix2 i j)) := by
  rw [← out5 (hO := hO) (c := c) x0 x1 x2 x3 x4]
  unfold out0_A_5 out0_A_8
  frame_out
  unfold k0_pay5
  clean_types
  pointwise
  rfl

theorem out9 : out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = loss x1 := by
  unfold out0_A_9
  frame_out
  unfold k0_pay1 k0_pay7
  clean_types
  pointwise
  exact Small.total fun p => x1 (ix3 p 0 0)

/-- The kernel's side of the claim. -/
theorem kernel (g : Dev nD → PrngReg) (hO : Ok m) : θ_run (defs (F := Ideal)) (onTc (τ := τ) (main (F := Ideal))) ⟨m, fun _ => 0, g⟩ (fun r => ∀ c : Dev nD,
    r.2.mem (c.tc.loc main_v0_0) = (outsAt0 m hO c pt).1 ∧ r.2.mem (c.tc.loc main_v0_1) = (outsAt0 m hO c pt).2.1
      ∧ r.2.mem (c.tc.loc main_v0_2) = (outsAt0 m hO c pt).2.2.1 ∧ r.2.mem (c.tc.loc main_v0_3) = (outsAt0 m hO c pt).2.2.2.1
      ∧ r.2.mem (c.tc.loc main_v0_4) = (outsAt0 m hO c pt).2.2.2.2
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) :=
  (θ_run defs _ _).mono (fun r h c => ⟨((h.1 c).1 5).trans arr.1, ((h.1 c).1 6).trans arr.2.1, ((h.1 c).1 7).trans arr.2.2.1,
    ((h.1 c).1 8).trans arr.2.2.2.1, ((h.1 c).1 9).trans arr.2.2.2.2, h.2 c⟩) (θ_run_and (run_main m g hO) (unchanged m g hO))

/-- The precondition says of the chip's number that it is one of four. -/
theorem chip {F : FTy → Type} [FloatOps F] {x : IVec Cert.Pre_chip_ffn.S1 32} {y0 y1 y2 y3 y4}
    (h : Cert.Pre_chip_ffn.fn (F := F) x y0 y1 y2 y3 y4 = fun _ => 1#1) : ∃ k : Fin 4, ∀ z, x z = BitVec.ofNat 32 k.val := by
  obtain ⟨k, hk⟩ := Small.chip_cases (congrFun h (ix1 0))
  exact ⟨k, fun z => (congrArg x (Small.one_entry z _)).trans hk⟩

theorem block (k : Fin 4) (h : ∀ z, m ((0 : Dev nD).tc.loc main_arg0) z = BitVec.ofNat 32 k.val) (i : grid0.Coords) :
    cc0_transform_0 inb_S1_S1_0 numel1_S1 (tbl m) i = ![0, 0, k.val] :=
  (congrArg (fun x : BitVec 32 => ![0, 0, x.toNat]) (h _)).trans (congrArg (fun n : ℕ => ![0, 0, n]) (Small.toNat_chip k))

/-- The chip's block of the columns lies within the gradient's columns. -/
theorem ok (k : Fin 4) (h : ∀ z, m ((0 : Dev nD).tc.loc main_arg0) z = BitVec.ofNat 32 k.val) : Ok m := by
  intro i
  refine ⟨?_, Or.inl rfl⟩
  rw [block k h i]
  fin_cases k <;> decide

/-- The same of the kernel as it is rounded. -/
theorem ok_rounded {m : (ℓ : Loc Cert.KernelSmallFfn.nD Cert.KernelSmallFfn.τ Cert.KernelSmallFfn.sig) → Buf (Elt Bits) ℓ} (k : Fin 4)
    (h : ∀ z, m ((0 : Dev Cert.KernelSmallFfn.nD).tc.loc Cert.KernelSmallFfn.main_arg0) z = BitVec.ofNat 32 k.val) : Cert.KernelSmallFfn.Gen.Ok m := by
  intro i
  refine ⟨?_, Or.inl rfl⟩
  rw [show Cert.KernelSmallFfn.cc0_transform_0 Cert.KernelSmallFfn.Gen.facts.inb_S1_S1_0 Cert.KernelSmallFfn.Gen.facts.numel1_S1 (Cert.KernelSmallFfn.Gen.tbl m) i = ![0, 0, k.val] from
    (congrArg (fun x : BitVec 32 => ![0, 0, x.toNat]) (h _)).trans (congrArg (fun n : ℕ => ![0, 0, n]) (Small.toNat_chip k))]
  fin_cases k <;> decide

/-- The total of the chip's block of the gradient, of one entry. -/
def sum (y : Vec Ideal S8x8x5632 .f32) (k : Fin 4) (i : Fin 3) (j : Fin 1408) : EReal :=
  ∑ p : Fin 8, y (ix3 p (⟨i.val, by omega⟩ : Fin 8) ⟨k.val * 1408 + j.val, by omega⟩)

theorem in0 (k : Fin 4) (h : ∀ z, m ((0 : Dev nD).tc.loc main_arg0) z = BitVec.ofNat 32 k.val) (i : Fin 3) (j : Fin 1408) :
    grad (iblk m hO c 0 pt) i j = sum (m (c.tc.loc main_arg1)) k i j := by
  refine Finset.sum_congr rfl fun p _ => ?_
  unfold iblk
  refine congrArg (m (c.tc.loc main_arg1)) (funext fun a => Fin.ext ?_)
  refine (Pipeline.Window.rect_emb_val ((cfgM m hO).win 0) pt (ix3 p (⟨i.val, by omega⟩ : Fin 8) j) a).trans ?_
  rw [show ((cfgM m hO).win 0).index pt = ![0, 0, k.val] from block k h (grid0.coords pt)]
  fin_cases a
  · exact (congrArg (· + p.val) (Nat.zero_mul 8)).trans (Nat.zero_add _)
  · exact (congrArg (· + i.val) (Nat.zero_mul 8)).trans (Nat.zero_add _)
  · rfl

/-- The five outputs of a point whose entries are known. -/
theorem point (i : Fin 3) (j : Fin 1408) (G a b d l : EReal) (e0 : grad x0 i j = G) (e1 : loss x1 = l) (e2 : x2 (ix2 i j) = a) (e3 : x3 (ix2 i j) = b) (e4 : x4 (ix2 i j) = d) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = G
      ∧ out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = delta G a b d
      ∧ out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom1 G b
      ∧ out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 i j) = mom2 G d
      ∧ out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = l := by
  rw [out5, out6, out7, out8, out9, e0, e1, e2, e3, e4]
  exact ⟨rfl, rfl, rfl, rfl, rfl⟩

/-- What the kernel leaves, of the arguments. -/
theorem left (k : Fin 4) (h : ∀ z, m ((0 : Dev nD).tc.loc main_arg0) z = BitVec.ofNat 32 k.val) (i : Fin 3) (j : Fin 1408) :
    (outsAt0 m hO c pt).1 (ix2 i j) = sum (m (c.tc.loc main_arg1)) k i j
      ∧ (outsAt0 m hO c pt).2.1 (ix2 i j) = delta (sum (m (c.tc.loc main_arg1)) k i j) (m (c.tc.loc main_arg3) (ix2 i j)) (m (c.tc.loc main_arg4) (ix2 i j)) (m (c.tc.loc main_arg5) (ix2 i j))
      ∧ (outsAt0 m hO c pt).2.2.1 (ix2 i j) = mom1 (sum (m (c.tc.loc main_arg1)) k i j) (m (c.tc.loc main_arg4) (ix2 i j))
      ∧ (outsAt0 m hO c pt).2.2.2.1 (ix2 i j) = mom2 (sum (m (c.tc.loc main_arg1)) k i j) (m (c.tc.loc main_arg5) (ix2 i j))
      ∧ (outsAt0 m hO c pt).2.2.2.2 (ix2 0 0) = loss (m (c.tc.loc main_arg2)) := by
  obtain ⟨w1, w2, w3, w4⟩ := whole (m := m) (hO := hO) (c := c)
  have e := in0 (hO := hO) (c := c) k h i j
  have p := point (hO := hO) (c := c) (iblk m hO c 0 pt) (iblk m hO c 1 pt) (iblk m hO c 2 pt) (iblk m hO c 3 pt) (iblk m hO c 4 pt) i j _ _ _ _ _ e
    (congrArg loss w1) (congrFun w2 (ix2 i j)) (congrFun w3 (ix2 i j)) (congrFun w4 (ix2 i j))
  unfold outsAt0
  dsimp only
  exact p

/-- The reference's gradient of an entry is the chip's block's. -/
theorem refg (y : Vec Ideal S8x8x5632 .f32) (k : Fin 4) {x : BitVec 32} (hx : x = BitVec.ofNat 32 k.val) {z : EReal} (hz : z = 0) (i : Fin 3) (j : Fin 1408) :
    Scalar.select (IntOp.cmpi .eq x 0#32) (∑ p : Fin 8, y (ix3 p (⟨i.val, by omega⟩ : Fin 8) (⟨j.val, by omega⟩ : Fin 5632))) z
      + Scalar.select (IntOp.cmpi .eq x 1#32) (∑ p : Fin 8, y (ix3 p (⟨i.val, by omega⟩ : Fin 8) (⟨1408 + j.val, by omega⟩ : Fin 5632))) z
      + Scalar.select (IntOp.cmpi .eq x 2#32) (∑ p : Fin 8, y (ix3 p (⟨i.val, by omega⟩ : Fin 8) (⟨2816 + j.val, by omega⟩ : Fin 5632))) z
      + Scalar.select (IntOp.cmpi .eq x 3#32) (∑ p : Fin 8, y (ix3 p (⟨i.val, by omega⟩ : Fin 8) (⟨4224 + j.val, by omega⟩ : Fin 5632))) z = sum y k i j :=
  Small.pick (fun q => ∑ p : Fin 8, y (ix3 p (⟨i.val, by omega⟩ : Fin 8) q)) k 1408 2816 4224 j.val rfl rfl _ _ _ _ _ _ hx _ hz

theorem algebraic : Cert.algebraic_KernelSmallFfnIdeal_ReferenceSmallFfnIdeal (hKernelSmallFfnIdeal := Cert.KernelSmallFfnIdeal.Gen.facts)
    (hReferenceSmallFfnIdeal := Cert.ReferenceSmallFfnIdeal.Gen.facts) (hPre_chip_ffn := Cert.Pre_chip_ffn.Gen.facts) := by
  intro m g m' g' hpre hagree
  obtain ⟨k, hk⟩ := chip (hpre 0)
  have hO : Ok m := ok k hk
  refine ⟨fun c => (outsAt0 m hO c pt).1, fun c => (outsAt0 m hO c pt).2.1, fun c => (outsAt0 m hO c pt).2.2.1, fun c => (outsAt0 m hO c pt).2.2.2.1,
    fun c => (outsAt0 m hO c pt).2.2.2.2, kernel g hO, ?_⟩
  refine (θ_run Cert.ReferenceSmallFfnIdeal.defs _ _).mono (fun r h c => ⟨(h c).1.trans (funext fun z => ?_),
      (h c).2.1.trans (funext fun z => ?_), (h c).2.2.1.trans (funext fun z => ?_),
      (h c).2.2.2.1.trans (funext fun z => ?_), (h c).2.2.2.2.1.trans (funext fun z => ?_), (h c).2.2.2.2.2⟩) (Cert.ReferenceSmallFfnIdeal.Value.run (F := Ideal) m' g')
  all_goals
    clear h
    obtain ⟨a0, a1, a2, a3, a4, a5⟩ := hagree c
    have hk' : m (c.tc.loc main_arg0) (ix1 0) = BitVec.ofNat 32 k.val := by rw [Subsingleton.elim c 0]; exact hk _
    have hz : (id (constant (F := Ideal) Cert.ReferenceSmallFfnIdeal.S_ .f32 0#32) ix0 : EReal) = 0 := Ideal.ofBits_zero .f32
  · obtain ⟨i, j, rfl⟩ : ∃ (i : Fin 3) (j : Fin 1408), z = ix2 i j := ⟨_, _, eq_ix2 z⟩
    refine .trans ?_ (left k hk i j).1.symm
    rw [a0, a1]
    clean_types
    pointwise
    exact refg (m (c.tc.loc main_arg1)) k hk' hz i j
  · obtain ⟨i, j, rfl⟩ : ∃ (i : Fin 3) (j : Fin 1408), z = ix2 i j := ⟨_, _, eq_ix2 z⟩
    refine .trans ?_ (left k hk i j).2.1.symm
    unfold Cert.ReferenceSmallFfnIdeal.Value.res_main_v46
    rw [a0, a1, a3, a4, a5]
    clean_types
    pointwise
    exact congrArg (fun g => delta g (m (c.tc.loc main_arg3) (ix2 i j)) (m (c.tc.loc main_arg4) (ix2 i j)) (m (c.tc.loc main_arg5) (ix2 i j))) (refg (m (c.tc.loc main_arg1)) k hk' hz i j)
  · obtain ⟨i, j, rfl⟩ : ∃ (i : Fin 3) (j : Fin 1408), z = ix2 i j := ⟨_, _, eq_ix2 z⟩
    refine .trans ?_ (left k hk i j).2.2.1.symm
    rw [a0, a1, a4]
    clean_types
    pointwise
    exact congrArg (fun g => mom1 g (m (c.tc.loc main_arg4) (ix2 i j))) (refg (m (c.tc.loc main_arg1)) k hk' hz i j)
  · obtain ⟨i, j, rfl⟩ : ∃ (i : Fin 3) (j : Fin 1408), z = ix2 i j := ⟨_, _, eq_ix2 z⟩
    refine .trans ?_ (left k hk i j).2.2.2.1.symm
    unfold Cert.ReferenceSmallFfnIdeal.Value.res_main_v33
    rw [a0, a1, a5]
    clean_types
    pointwise
    exact congrArg (fun g => mom2 g (m (c.tc.loc main_arg5) (ix2 i j))) (refg (m (c.tc.loc main_arg1)) k hk' hz i j)
  · obtain ⟨i, j, rfl⟩ : ∃ (i j : Fin 1), z = ix2 i j := ⟨_, _, eq_ix2 z⟩
    obtain rfl := Subsingleton.elim i 0
    obtain rfl := Subsingleton.elim j 0
    refine .trans ?_ (left k hk 0 0).2.2.2.2.symm
    rw [a2]
    clean_types
    pointwise
    rfl

end Cert.SmallFfn
-- ==== Proof.Small1024.lean ====
/-
  The step of a vector of 1024 entries, of which every chip holds the whole.
-/
module

public import proofs.«01_k».proof.Proof.Product
public import proofs.«01_k».proof.Proof.Adam
public import proofs.«01_k».proof.Proof.Small
public import proofs.«01_k».proof.Proof.Gen.KernelSmall1024.Frame
public import proofs.«01_k».proof.Proof.Gen.KernelSmall1024Ideal.Frame
public import proofs.«01_k».proof.Proof.Gen.ReferenceSmall1024Ideal.Run
public import proofs.«01_k».proof.Defs
public import Idealize.ShloMosaic.Lib.StableHlo.ReadAt

@[expose] public section

set_option maxRecDepth 16384

noncomputable section

namespace Cert.Small1024

open Cert.KernelSmall1024Ideal Cert.KernelSmall1024Ideal.Gen Idealize.ShloMosaic Idealize.ShloMosaic.TcCoe Idealize.SL.Sem StableHlo
open Cert.Adam

variable {m : (ℓ : Loc nD τ sig) → Buf (Elt Ideal) ℓ} {hO : Ok m} {c : Dev nD}

/-- The one point. -/
abbrev pt : Fin grid0.N := ⟨0, by decide +kernel⟩

theorem one : ∀ t : Fin grid0.N, t = pt := by decide +kernel

theorem idx : (∀ a, cc0_transform_0 (grid0.coords pt) a = 0) ∧ (∀ a, cc0_transform_1 (grid0.coords pt) a = 0) ∧ (∀ a, cc0_transform_2 (grid0.coords pt) a = 0)
    ∧ (∀ a, cc0_transform_3 (grid0.coords pt) a = 0) ∧ (∀ a, cc0_transform_4 (grid0.coords pt) a = 0)
    ∧ (∀ a, cc0_transform_5 (grid0.coords pt) a = 0) ∧ (∀ a, cc0_transform_6 (grid0.coords pt) a = 0)
    ∧ (∀ a, cc0_transform_7 (grid0.coords pt) a = 0) ∧ (∀ a, cc0_transform_8 (grid0.coords pt) a = 0)
    ∧ (∀ a, cc0_transform_9 (grid0.coords pt) a = 0) := by decide +kernel

/-- The results are what the one point leaves. -/
theorem arr : (dats m hO 0 c).arrAt 5 (cfgM m hO).N = (outsAt0 m hO c pt).1 ∧ (dats m hO 0 c).arrAt 6 (cfgM m hO).N = (outsAt0 m hO c pt).2.1
    ∧ (dats m hO 0 c).arrAt 7 (cfgM m hO).N = (outsAt0 m hO c pt).2.2.1 ∧ (dats m hO 0 c).arrAt 8 (cfgM m hO).N = (outsAt0 m hO c pt).2.2.2.1
    ∧ (dats m hO 0 c).arrAt 9 (cfgM m hO).N = (outsAt0 m hO c pt).2.2.2.2 := by
  obtain ⟨_, _, _, _, _, h5, h6, h7, h8, h9⟩ := idx
  exact ⟨(dats m hO 0 c).arrAt_eq_of_after_last 5 pt ⟨flush0_5 _ _, fun t _ => one t, fun a => ⟨h5 a, rfl⟩⟩ _ fun z => congrFun (after0_5 m hO c pt) _,
    (dats m hO 0 c).arrAt_eq_of_after_last 6 pt ⟨flush0_6 _ _, fun t _ => one t, fun a => ⟨h6 a, rfl⟩⟩ _ fun z => congrFun (after0_6 m hO c pt) _,
    (dats m hO 0 c).arrAt_eq_of_after_last 7 pt ⟨flush0_7 _ _, fun t _ => one t, fun a => ⟨h7 a, rfl⟩⟩ _ fun z => congrFun (after0_7 m hO c pt) _,
    (dats m hO 0 c).arrAt_eq_of_after_last 8 pt ⟨flush0_8 _ _, fun t _ => one t, fun a => ⟨h8 a, rfl⟩⟩ _ fun z => congrFun (after0_8 m hO c pt) _,
    (dats m hO 0 c).arrAt_eq_of_after_last 9 pt ⟨flush0_9 _ _, fun t _ => one t, fun a => ⟨h9 a, rfl⟩⟩ _ fun z => congrFun (after0_9 m hO c pt) _⟩

/-- Every input is read whole. -/
theorem whole : iblk m hO c 0 pt = m (c.tc.loc main_arg1) ∧ iblk m hO c 1 pt = m (c.tc.loc main_arg2) ∧ iblk m hO c 2 pt = m (c.tc.loc main_arg3) ∧ iblk m hO c 3 pt = m (c.tc.loc main_arg4)
    ∧ iblk m hO c 4 pt = m (c.tc.loc main_arg5) := by
  obtain ⟨h0, h1, h2, h3, h4, _⟩ := idx
  refine ⟨funext fun z => congrArg (m (c.tc.loc main_arg1)) (funext fun a => Fin.ext ?_), funext fun z => congrArg (m (c.tc.loc main_arg2)) (funext fun a => Fin.ext ?_), funext fun z => congrArg (m (c.tc.loc main_arg3)) (funext fun a => Fin.ext ?_),
    funext fun z => congrArg (m (c.tc.loc main_arg4)) (funext fun a => Fin.ext ?_), funext fun z => congrArg (m (c.tc.loc main_arg5)) (funext fun a => Fin.ext ?_)⟩
  · exact Pipeline.Window.rect_emb_val_of_index_zero ((cfgM m hO).win 0) pt a (h0 a) z
  · exact Pipeline.Window.rect_emb_val_of_index_zero ((cfgM m hO).win 1) pt a (h1 a) z
  · exact Pipeline.Window.rect_emb_val_of_index_zero ((cfgM m hO).win 2) pt a (h2 a) z
  · exact Pipeline.Window.rect_emb_val_of_index_zero ((cfgM m hO).win 3) pt a (h3 a) z
  · exact Pipeline.Window.rect_emb_val_of_index_zero ((cfgM m hO).win 4) pt a (h4 a) z

/-- The total of the eight partial gradients of an entry. -/
def grad (x : Vec Ideal S8x1x1024 .f32) (j : Fin 1024) : EReal := ∑ p : Fin 8, x (ix3 p (0 : Fin 1) j)

/-- The total of the eight partial losses. -/
def loss (x : Vec Ideal S8x8x128 .f32) : EReal := ∑ p : Fin 8, x (ix3 p 0 0)

variable (x0 : Vec Ideal S8x1x1024 .f32) (x1 : Vec Ideal S8x8x128 .f32) (x2 x3 x4 : Vec Ideal S1x1024 .f32)

theorem out5 (j : Fin 1024) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = grad x0 j := by
  unfold out0_A_5
  frame_out
  unfold k0_pay2
  clean_types
  pointwise
  exact Small.total fun p => x0 (ix3 p (0 : Fin 1) j)

theorem out6 (j : Fin 1024) :
    out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta (grad x0 j) (x2 (ix2 0 j)) (x3 (ix2 0 j)) (x4 (ix2 0 j)) := by
  rw [← out5 (hO := hO) (c := c) x0 x1 x2 x3 x4]
  unfold out0_A_5 out0_A_6
  frame_out
  unfold k0_pay6 k0_pay5 k0_pay4 k0_pay3
  clean_types
  pointwise
  rfl

theorem out7 (j : Fin 1024) :
    out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 (grad x0 j) (x3 (ix2 0 j)) := by
  rw [← out5 (hO := hO) (c := c) x0 x1 x2 x3 x4]
  unfold out0_A_5 out0_A_7
  frame_out
  unfold k0_pay4 k0_pay3
  clean_types
  pointwise
  rfl

theorem out8 (j : Fin 1024) :
    out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 (grad x0 j) (x4 (ix2 0 j)) := by
  rw [← out5 (hO := hO) (c := c) x0 x1 x2 x3 x4]
  unfold out0_A_5 out0_A_8
  frame_out
  unfold k0_pay5
  clean_types
  pointwise
  rfl

theorem out9 : out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = loss x1 := by
  unfold out0_A_9
  frame_out
  unfold k0_pay1 k0_pay7
  clean_types
  pointwise
  exact Small.total fun p => x1 (ix3 p 0 0)

/-- The kernel's side of the claim. -/
theorem kernel (g : Dev nD → PrngReg) (hO : Ok m) : θ_run (defs (F := Ideal)) (onTc (τ := τ) (main (F := Ideal))) ⟨m, fun _ => 0, g⟩ (fun r => ∀ c : Dev nD,
    r.2.mem (c.tc.loc main_v0_0) = (outsAt0 m hO c pt).1 ∧ r.2.mem (c.tc.loc main_v0_1) = (outsAt0 m hO c pt).2.1
      ∧ r.2.mem (c.tc.loc main_v0_2) = (outsAt0 m hO c pt).2.2.1 ∧ r.2.mem (c.tc.loc main_v0_3) = (outsAt0 m hO c pt).2.2.2.1
      ∧ r.2.mem (c.tc.loc main_v0_4) = (outsAt0 m hO c pt).2.2.2.2
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) :=
  (θ_run defs _ _).mono (fun r h c => ⟨((h.1 c).1 5).trans arr.1, ((h.1 c).1 6).trans arr.2.1, ((h.1 c).1 7).trans arr.2.2.1,
    ((h.1 c).1 8).trans arr.2.2.2.1, ((h.1 c).1 9).trans arr.2.2.2.2, h.2 c⟩) (θ_run_and (run_main m g hO) (unchanged m g hO))

theorem ok : Ok m := True.intro

/-- The five outputs of a point whose entries are known. -/
theorem point (j : Fin 1024) (G a b d l : EReal) (e0 : grad x0 j = G) (e1 : loss x1 = l) (e2 : x2 (ix2 0 j) = a) (e3 : x3 (ix2 0 j) = b) (e4 : x4 (ix2 0 j) = d) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = G
      ∧ out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta G a b d
      ∧ out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 G b
      ∧ out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 G d
      ∧ out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = l := by
  rw [out5, out6, out7, out8, out9, e0, e1, e2, e3, e4]
  exact ⟨rfl, rfl, rfl, rfl, rfl⟩

/-- What the kernel leaves, of the arguments. -/
theorem left (j : Fin 1024) :
    (outsAt0 m hO c pt).1 (ix2 0 j) = grad (m (c.tc.loc main_arg1)) j
      ∧ (outsAt0 m hO c pt).2.1 (ix2 0 j) = delta (grad (m (c.tc.loc main_arg1)) j) (m (c.tc.loc main_arg3) (ix2 0 j)) (m (c.tc.loc main_arg4) (ix2 0 j)) (m (c.tc.loc main_arg5) (ix2 0 j))
      ∧ (outsAt0 m hO c pt).2.2.1 (ix2 0 j) = mom1 (grad (m (c.tc.loc main_arg1)) j) (m (c.tc.loc main_arg4) (ix2 0 j))
      ∧ (outsAt0 m hO c pt).2.2.2.1 (ix2 0 j) = mom2 (grad (m (c.tc.loc main_arg1)) j) (m (c.tc.loc main_arg5) (ix2 0 j))
      ∧ (outsAt0 m hO c pt).2.2.2.2 (ix2 0 0) = loss (m (c.tc.loc main_arg2)) := by
  obtain ⟨w0, w1, w2, w3, w4⟩ := whole (m := m) (hO := hO) (c := c)
  have e := congrArg (fun x => grad x j) w0
  have p := point (hO := hO) (c := c) (iblk m hO c 0 pt) (iblk m hO c 1 pt) (iblk m hO c 2 pt) (iblk m hO c 3 pt) (iblk m hO c 4 pt) j _ _ _ _ _ e
    (congrArg loss w1) (congrFun w2 (ix2 0 j)) (congrFun w3 (ix2 0 j)) (congrFun w4 (ix2 0 j))
  unfold outsAt0
  dsimp only
  exact p

theorem algebraic : Cert.algebraic_KernelSmall1024Ideal_ReferenceSmall1024Ideal (hKernelSmall1024Ideal := Cert.KernelSmall1024Ideal.Gen.facts)
    (hReferenceSmall1024Ideal := Cert.ReferenceSmall1024Ideal.Gen.facts) := by
  intro m g m' g' _ hagree
  have hO : Ok m := ok
  refine ⟨fun c => (outsAt0 m hO c pt).1, fun c => (outsAt0 m hO c pt).2.1, fun c => (outsAt0 m hO c pt).2.2.1, fun c => (outsAt0 m hO c pt).2.2.2.1,
    fun c => (outsAt0 m hO c pt).2.2.2.2, kernel g hO, ?_⟩
  refine (θ_run Cert.ReferenceSmall1024Ideal.defs _ _).mono (fun r h c => ⟨(h c).1.trans (funext fun z => ?_),
      (h c).2.1.trans (funext fun z => ?_), (h c).2.2.1.trans (funext fun z => ?_),
      (h c).2.2.2.1.trans (funext fun z => ?_), (h c).2.2.2.2.1.trans (funext fun z => ?_), (h c).2.2.2.2.2⟩) (Cert.ReferenceSmall1024Ideal.Value.run (F := Ideal) m' g')
  all_goals
    clear h
    obtain ⟨a0, a1, a2, a3, a4, a5⟩ := hagree c
  · obtain ⟨i, j, rfl⟩ : ∃ (i : Fin 1) (j : Fin 1024), z = ix2 i j := ⟨_, _, eq_ix2 z⟩
    obtain rfl := Subsingleton.elim i 0
    refine .trans ?_ (left j).1.symm
    rw [a1]
    clean_types
    pointwise
    rfl
  · obtain ⟨i, j, rfl⟩ : ∃ (i : Fin 1) (j : Fin 1024), z = ix2 i j := ⟨_, _, eq_ix2 z⟩
    obtain rfl := Subsingleton.elim i 0
    refine .trans ?_ (left j).2.1.symm
    rw [a1, a3, a4, a5]
    clean_types
    pointwise
    rfl
  · obtain ⟨i, j, rfl⟩ : ∃ (i : Fin 1) (j : Fin 1024), z = ix2 i j := ⟨_, _, eq_ix2 z⟩
    obtain rfl := Subsingleton.elim i 0
    refine .trans ?_ (left j).2.2.1.symm
    rw [a1, a4]
    clean_types
    pointwise
    rfl
  · obtain ⟨i, j, rfl⟩ : ∃ (i : Fin 1) (j : Fin 1024), z = ix2 i j := ⟨_, _, eq_ix2 z⟩
    obtain rfl := Subsingleton.elim i 0
    refine .trans ?_ (left j).2.2.2.1.symm
    rw [a1, a5]
    clean_types
    pointwise
    rfl
  · obtain ⟨i, j, rfl⟩ : ∃ (i j : Fin 1), z = ix2 i j := ⟨_, _, eq_ix2 z⟩
    obtain rfl := Subsingleton.elim i 0
    obtain rfl := Subsingleton.elim j 0
    refine .trans ?_ (left 0).2.2.2.2.symm
    rw [a2]
    clean_types
    pointwise
    rfl

end Cert.Small1024
-- ==== Proof.Small3072.lean ====
/-
  The step of a vector of 3072 entries, of which every chip holds the whole.
-/
module

public import proofs.«01_k».proof.Proof.Product
public import proofs.«01_k».proof.Proof.Adam
public import proofs.«01_k».proof.Proof.Small
public import proofs.«01_k».proof.Proof.Gen.KernelSmall3072.Frame
public import proofs.«01_k».proof.Proof.Gen.KernelSmall3072Ideal.Frame
public import proofs.«01_k».proof.Proof.Gen.ReferenceSmall3072Ideal.Run
public import proofs.«01_k».proof.Defs
public import Idealize.ShloMosaic.Lib.StableHlo.ReadAt

@[expose] public section

set_option maxRecDepth 16384

noncomputable section

namespace Cert.Small3072

open Cert.KernelSmall3072Ideal Cert.KernelSmall3072Ideal.Gen Idealize.ShloMosaic Idealize.ShloMosaic.TcCoe Idealize.SL.Sem StableHlo
open Cert.Adam

variable {m : (ℓ : Loc nD τ sig) → Buf (Elt Ideal) ℓ} {hO : Ok m} {c : Dev nD}

/-- The one point. -/
abbrev pt : Fin grid0.N := ⟨0, by decide +kernel⟩

theorem one : ∀ t : Fin grid0.N, t = pt := by decide +kernel

theorem idx : (∀ a, cc0_transform_0 (grid0.coords pt) a = 0) ∧ (∀ a, cc0_transform_1 (grid0.coords pt) a = 0) ∧ (∀ a, cc0_transform_2 (grid0.coords pt) a = 0)
    ∧ (∀ a, cc0_transform_3 (grid0.coords pt) a = 0) ∧ (∀ a, cc0_transform_4 (grid0.coords pt) a = 0)
    ∧ (∀ a, cc0_transform_5 (grid0.coords pt) a = 0) ∧ (∀ a, cc0_transform_6 (grid0.coords pt) a = 0)
    ∧ (∀ a, cc0_transform_7 (grid0.coords pt) a = 0) ∧ (∀ a, cc0_transform_8 (grid0.coords pt) a = 0)
    ∧ (∀ a, cc0_transform_9 (grid0.coords pt) a = 0) := by decide +kernel

/-- The results are what the one point leaves. -/
theorem arr : (dats m hO 0 c).arrAt 5 (cfgM m hO).N = (outsAt0 m hO c pt).1 ∧ (dats m hO 0 c).arrAt 6 (cfgM m hO).N = (outsAt0 m hO c pt).2.1
    ∧ (dats m hO 0 c).arrAt 7 (cfgM m hO).N = (outsAt0 m hO c pt).2.2.1 ∧ (dats m hO 0 c).arrAt 8 (cfgM m hO).N = (outsAt0 m hO c pt).2.2.2.1
    ∧ (dats m hO 0 c).arrAt 9 (cfgM m hO).N = (outsAt0 m hO c pt).2.2.2.2 := by
  obtain ⟨_, _, _, _, _, h5, h6, h7, h8, h9⟩ := idx
  exact ⟨(dats m hO 0 c).arrAt_eq_of_after_last 5 pt ⟨flush0_5 _ _, fun t _ => one t, fun a => ⟨h5 a, rfl⟩⟩ _ fun z => congrFun (after0_5 m hO c pt) _,
    (dats m hO 0 c).arrAt_eq_of_after_last 6 pt ⟨flush0_6 _ _, fun t _ => one t, fun a => ⟨h6 a, rfl⟩⟩ _ fun z => congrFun (after0_6 m hO c pt) _,
    (dats m hO 0 c).arrAt_eq_of_after_last 7 pt ⟨flush0_7 _ _, fun t _ => one t, fun a => ⟨h7 a, rfl⟩⟩ _ fun z => congrFun (after0_7 m hO c pt) _,
    (dats m hO 0 c).arrAt_eq_of_after_last 8 pt ⟨flush0_8 _ _, fun t _ => one t, fun a => ⟨h8 a, rfl⟩⟩ _ fun z => congrFun (after0_8 m hO c pt) _,
    (dats m hO 0 c).arrAt_eq_of_after_last 9 pt ⟨flush0_9 _ _, fun t _ => one t, fun a => ⟨h9 a, rfl⟩⟩ _ fun z => congrFun (after0_9 m hO c pt) _⟩

/-- Every input is read whole. -/
theorem whole : iblk m hO c 0 pt = m (c.tc.loc main_arg1) ∧ iblk m hO c 1 pt = m (c.tc.loc main_arg2) ∧ iblk m hO c 2 pt = m (c.tc.loc main_arg3) ∧ iblk m hO c 3 pt = m (c.tc.loc main_arg4)
    ∧ iblk m hO c 4 pt = m (c.tc.loc main_arg5) := by
  obtain ⟨h0, h1, h2, h3, h4, _⟩ := idx
  refine ⟨funext fun z => congrArg (m (c.tc.loc main_arg1)) (funext fun a => Fin.ext ?_), funext fun z => congrArg (m (c.tc.loc main_arg2)) (funext fun a => Fin.ext ?_), funext fun z => congrArg (m (c.tc.loc main_arg3)) (funext fun a => Fin.ext ?_),
    funext fun z => congrArg (m (c.tc.loc main_arg4)) (funext fun a => Fin.ext ?_), funext fun z => congrArg (m (c.tc.loc main_arg5)) (funext fun a => Fin.ext ?_)⟩
  · exact Pipeline.Window.rect_emb_val_of_index_zero ((cfgM m hO).win 0) pt a (h0 a) z
  · exact Pipeline.Window.rect_emb_val_of_index_zero ((cfgM m hO).win 1) pt a (h1 a) z
  · exact Pipeline.Window.rect_emb_val_of_index_zero ((cfgM m hO).win 2) pt a (h2 a) z
  · exact Pipeline.Window.rect_emb_val_of_index_zero ((cfgM m hO).win 3) pt a (h3 a) z
  · exact Pipeline.Window.rect_emb_val_of_index_zero ((cfgM m hO).win 4) pt a (h4 a) z

/-- The total of the eight partial gradients of an entry. -/
def grad (x : Vec Ideal S8x1x3072 .f32) (j : Fin 3072) : EReal := ∑ p : Fin 8, x (ix3 p (0 : Fin 1) j)

/-- The total of the eight partial losses. -/
def loss (x : Vec Ideal S8x8x128 .f32) : EReal := ∑ p : Fin 8, x (ix3 p 0 0)

variable (x0 : Vec Ideal S8x1x3072 .f32) (x1 : Vec Ideal S8x8x128 .f32) (x2 x3 x4 : Vec Ideal S1x3072 .f32)

theorem out5 (j : Fin 3072) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = grad x0 j := by
  unfold out0_A_5
  frame_out
  unfold k0_pay2
  clean_types
  pointwise
  exact Small.total fun p => x0 (ix3 p (0 : Fin 1) j)

theorem out6 (j : Fin 3072) :
    out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta (grad x0 j) (x2 (ix2 0 j)) (x3 (ix2 0 j)) (x4 (ix2 0 j)) := by
  rw [← out5 (hO := hO) (c := c) x0 x1 x2 x3 x4]
  unfold out0_A_5 out0_A_6
  frame_out
  unfold k0_pay6 k0_pay5 k0_pay4 k0_pay3
  clean_types
  pointwise
  rfl

theorem out7 (j : Fin 3072) :
    out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 (grad x0 j) (x3 (ix2 0 j)) := by
  rw [← out5 (hO := hO) (c := c) x0 x1 x2 x3 x4]
  unfold out0_A_5 out0_A_7
  frame_out
  unfold k0_pay4 k0_pay3
  clean_types
  pointwise
  rfl

theorem out8 (j : Fin 3072) :
    out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 (grad x0 j) (x4 (ix2 0 j)) := by
  rw [← out5 (hO := hO) (c := c) x0 x1 x2 x3 x4]
  unfold out0_A_5 out0_A_8
  frame_out
  unfold k0_pay5
  clean_types
  pointwise
  rfl

theorem out9 : out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = loss x1 := by
  unfold out0_A_9
  frame_out
  unfold k0_pay1 k0_pay7
  clean_types
  pointwise
  exact Small.total fun p => x1 (ix3 p 0 0)

/-- The kernel's side of the claim. -/
theorem kernel (g : Dev nD → PrngReg) (hO : Ok m) : θ_run (defs (F := Ideal)) (onTc (τ := τ) (main (F := Ideal))) ⟨m, fun _ => 0, g⟩ (fun r => ∀ c : Dev nD,
    r.2.mem (c.tc.loc main_v0_0) = (outsAt0 m hO c pt).1 ∧ r.2.mem (c.tc.loc main_v0_1) = (outsAt0 m hO c pt).2.1
      ∧ r.2.mem (c.tc.loc main_v0_2) = (outsAt0 m hO c pt).2.2.1 ∧ r.2.mem (c.tc.loc main_v0_3) = (outsAt0 m hO c pt).2.2.2.1
      ∧ r.2.mem (c.tc.loc main_v0_4) = (outsAt0 m hO c pt).2.2.2.2
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) :=
  (θ_run defs _ _).mono (fun r h c => ⟨((h.1 c).1 5).trans arr.1, ((h.1 c).1 6).trans arr.2.1, ((h.1 c).1 7).trans arr.2.2.1,
    ((h.1 c).1 8).trans arr.2.2.2.1, ((h.1 c).1 9).trans arr.2.2.2.2, h.2 c⟩) (θ_run_and (run_main m g hO) (unchanged m g hO))

theorem ok : Ok m := True.intro

/-- The five outputs of a point whose entries are known. -/
theorem point (j : Fin 3072) (G a b d l : EReal) (e0 : grad x0 j = G) (e1 : loss x1 = l) (e2 : x2 (ix2 0 j) = a) (e3 : x3 (ix2 0 j) = b) (e4 : x4 (ix2 0 j) = d) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = G
      ∧ out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta G a b d
      ∧ out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 G b
      ∧ out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 G d
      ∧ out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = l := by
  rw [out5, out6, out7, out8, out9, e0, e1, e2, e3, e4]
  exact ⟨rfl, rfl, rfl, rfl, rfl⟩

/-- What the kernel leaves, of the arguments. -/
theorem left (j : Fin 3072) :
    (outsAt0 m hO c pt).1 (ix2 0 j) = grad (m (c.tc.loc main_arg1)) j
      ∧ (outsAt0 m hO c pt).2.1 (ix2 0 j) = delta (grad (m (c.tc.loc main_arg1)) j) (m (c.tc.loc main_arg3) (ix2 0 j)) (m (c.tc.loc main_arg4) (ix2 0 j)) (m (c.tc.loc main_arg5) (ix2 0 j))
      ∧ (outsAt0 m hO c pt).2.2.1 (ix2 0 j) = mom1 (grad (m (c.tc.loc main_arg1)) j) (m (c.tc.loc main_arg4) (ix2 0 j))
      ∧ (outsAt0 m hO c pt).2.2.2.1 (ix2 0 j) = mom2 (grad (m (c.tc.loc main_arg1)) j) (m (c.tc.loc main_arg5) (ix2 0 j))
      ∧ (outsAt0 m hO c pt).2.2.2.2 (ix2 0 0) = loss (m (c.tc.loc main_arg2)) := by
  obtain ⟨w0, w1, w2, w3, w4⟩ := whole (m := m) (hO := hO) (c := c)
  have e := congrArg (fun x => grad x j) w0
  have p := point (hO := hO) (c := c) (iblk m hO c 0 pt) (iblk m hO c 1 pt) (iblk m hO c 2 pt) (iblk m hO c 3 pt) (iblk m hO c 4 pt) j _ _ _ _ _ e
    (congrArg loss w1) (congrFun w2 (ix2 0 j)) (congrFun w3 (ix2 0 j)) (congrFun w4 (ix2 0 j))
  unfold outsAt0
  dsimp only
  exact p

theorem algebraic : Cert.algebraic_KernelSmall3072Ideal_ReferenceSmall3072Ideal (hKernelSmall3072Ideal := Cert.KernelSmall3072Ideal.Gen.facts)
    (hReferenceSmall3072Ideal := Cert.ReferenceSmall3072Ideal.Gen.facts) := by
  intro m g m' g' _ hagree
  have hO : Ok m := ok
  refine ⟨fun c => (outsAt0 m hO c pt).1, fun c => (outsAt0 m hO c pt).2.1, fun c => (outsAt0 m hO c pt).2.2.1, fun c => (outsAt0 m hO c pt).2.2.2.1,
    fun c => (outsAt0 m hO c pt).2.2.2.2, kernel g hO, ?_⟩
  refine (θ_run Cert.ReferenceSmall3072Ideal.defs _ _).mono (fun r h c => ⟨(h c).1.trans (funext fun z => ?_),
      (h c).2.1.trans (funext fun z => ?_), (h c).2.2.1.trans (funext fun z => ?_),
      (h c).2.2.2.1.trans (funext fun z => ?_), (h c).2.2.2.2.1.trans (funext fun z => ?_), (h c).2.2.2.2.2⟩) (Cert.ReferenceSmall3072Ideal.Value.run (F := Ideal) m' g')
  all_goals
    clear h
    obtain ⟨a0, a1, a2, a3, a4, a5⟩ := hagree c
  · obtain ⟨i, j, rfl⟩ : ∃ (i : Fin 1) (j : Fin 3072), z = ix2 i j := ⟨_, _, eq_ix2 z⟩
    obtain rfl := Subsingleton.elim i 0
    refine .trans ?_ (left j).1.symm
    rw [a1]
    clean_types
    pointwise
    rfl
  · obtain ⟨i, j, rfl⟩ : ∃ (i : Fin 1) (j : Fin 3072), z = ix2 i j := ⟨_, _, eq_ix2 z⟩
    obtain rfl := Subsingleton.elim i 0
    refine .trans ?_ (left j).2.1.symm
    rw [a1, a3, a4, a5]
    clean_types
    pointwise
    rfl
  · obtain ⟨i, j, rfl⟩ : ∃ (i : Fin 1) (j : Fin 3072), z = ix2 i j := ⟨_, _, eq_ix2 z⟩
    obtain rfl := Subsingleton.elim i 0
    refine .trans ?_ (left j).2.2.1.symm
    rw [a1, a4]
    clean_types
    pointwise
    rfl
  · obtain ⟨i, j, rfl⟩ : ∃ (i : Fin 1) (j : Fin 3072), z = ix2 i j := ⟨_, _, eq_ix2 z⟩
    obtain rfl := Subsingleton.elim i 0
    refine .trans ?_ (left j).2.2.2.1.symm
    rw [a1, a5]
    clean_types
    pointwise
    rfl
  · obtain ⟨i, j, rfl⟩ : ∃ (i j : Fin 1), z = ix2 i j := ⟨_, _, eq_ix2 z⟩
    obtain rfl := Subsingleton.elim i 0
    obtain rfl := Subsingleton.elim j 0
    refine .trans ?_ (left 0).2.2.2.2.symm
    rw [a2]
    clean_types
    pointwise
    rfl

end Cert.Small3072
-- ==== Proof.Small32.lean ====
/-
  The step of a vector of 32 entries, of which every chip holds the whole.
-/
module

public import proofs.«01_k».proof.Proof.Product
public import proofs.«01_k».proof.Proof.Adam
public import proofs.«01_k».proof.Proof.Small
public import proofs.«01_k».proof.Proof.Gen.KernelSmall32.Frame
public import proofs.«01_k».proof.Proof.Gen.KernelSmall32Ideal.Frame
public import proofs.«01_k».proof.Proof.Gen.ReferenceSmall32Ideal.Run
public import proofs.«01_k».proof.Defs
public import Idealize.ShloMosaic.Lib.StableHlo.ReadAt

@[expose] public section

set_option maxRecDepth 16384

noncomputable section

namespace Cert.Small32

open Cert.KernelSmall32Ideal Cert.KernelSmall32Ideal.Gen Idealize.ShloMosaic Idealize.ShloMosaic.TcCoe Idealize.SL.Sem StableHlo
open Cert.Adam

variable {m : (ℓ : Loc nD τ sig) → Buf (Elt Ideal) ℓ} {hO : Ok m} {c : Dev nD}

/-- The one point. -/
abbrev pt : Fin grid0.N := ⟨0, by decide +kernel⟩

theorem one : ∀ t : Fin grid0.N, t = pt := by decide +kernel

theorem idx : (∀ a, cc0_transform_0 (grid0.coords pt) a = 0) ∧ (∀ a, cc0_transform_1 (grid0.coords pt) a = 0) ∧ (∀ a, cc0_transform_2 (grid0.coords pt) a = 0)
    ∧ (∀ a, cc0_transform_3 (grid0.coords pt) a = 0) ∧ (∀ a, cc0_transform_4 (grid0.coords pt) a = 0)
    ∧ (∀ a, cc0_transform_5 (grid0.coords pt) a = 0) ∧ (∀ a, cc0_transform_6 (grid0.coords pt) a = 0)
    ∧ (∀ a, cc0_transform_7 (grid0.coords pt) a = 0) ∧ (∀ a, cc0_transform_8 (grid0.coords pt) a = 0)
    ∧ (∀ a, cc0_transform_9 (grid0.coords pt) a = 0) := by decide +kernel

/-- The results are what the one point leaves. -/
theorem arr : (dats m hO 0 c).arrAt 5 (cfgM m hO).N = (outsAt0 m hO c pt).1 ∧ (dats m hO 0 c).arrAt 6 (cfgM m hO).N = (outsAt0 m hO c pt).2.1
    ∧ (dats m hO 0 c).arrAt 7 (cfgM m hO).N = (outsAt0 m hO c pt).2.2.1 ∧ (dats m hO 0 c).arrAt 8 (cfgM m hO).N = (outsAt0 m hO c pt).2.2.2.1
    ∧ (dats m hO 0 c).arrAt 9 (cfgM m hO).N = (outsAt0 m hO c pt).2.2.2.2 := by
  obtain ⟨_, _, _, _, _, h5, h6, h7, h8, h9⟩ := idx
  exact ⟨(dats m hO 0 c).arrAt_eq_of_after_last 5 pt ⟨flush0_5 _ _, fun t _ => one t, fun a => ⟨h5 a, rfl⟩⟩ _ fun z => congrFun (after0_5 m hO c pt) _,
    (dats m hO 0 c).arrAt_eq_of_after_last 6 pt ⟨flush0_6 _ _, fun t _ => one t, fun a => ⟨h6 a, rfl⟩⟩ _ fun z => congrFun (after0_6 m hO c pt) _,
    (dats m hO 0 c).arrAt_eq_of_after_last 7 pt ⟨flush0_7 _ _, fun t _ => one t, fun a => ⟨h7 a, rfl⟩⟩ _ fun z => congrFun (after0_7 m hO c pt) _,
    (dats m hO 0 c).arrAt_eq_of_after_last 8 pt ⟨flush0_8 _ _, fun t _ => one t, fun a => ⟨h8 a, rfl⟩⟩ _ fun z => congrFun (after0_8 m hO c pt) _,
    (dats m hO 0 c).arrAt_eq_of_after_last 9 pt ⟨flush0_9 _ _, fun t _ => one t, fun a => ⟨h9 a, rfl⟩⟩ _ fun z => congrFun (after0_9 m hO c pt) _⟩

/-- Every input is read whole. -/
theorem whole : iblk m hO c 0 pt = m (c.tc.loc main_arg1) ∧ iblk m hO c 1 pt = m (c.tc.loc main_arg2) ∧ iblk m hO c 2 pt = m (c.tc.loc main_arg3) ∧ iblk m hO c 3 pt = m (c.tc.loc main_arg4)
    ∧ iblk m hO c 4 pt = m (c.tc.loc main_arg5) := by
  obtain ⟨h0, h1, h2, h3, h4, _⟩ := idx
  refine ⟨funext fun z => congrArg (m (c.tc.loc main_arg1)) (funext fun a => Fin.ext ?_), funext fun z => congrArg (m (c.tc.loc main_arg2)) (funext fun a => Fin.ext ?_), funext fun z => congrArg (m (c.tc.loc main_arg3)) (funext fun a => Fin.ext ?_),
    funext fun z => congrArg (m (c.tc.loc main_arg4)) (funext fun a => Fin.ext ?_), funext fun z => congrArg (m (c.tc.loc main_arg5)) (funext fun a => Fin.ext ?_)⟩
  · exact Pipeline.Window.rect_emb_val_of_index_zero ((cfgM m hO).win 0) pt a (h0 a) z
  · exact Pipeline.Window.rect_emb_val_of_index_zero ((cfgM m hO).win 1) pt a (h1 a) z
  · exact Pipeline.Window.rect_emb_val_of_index_zero ((cfgM m hO).win 2) pt a (h2 a) z
  · exact Pipeline.Window.rect_emb_val_of_index_zero ((cfgM m hO).win 3) pt a (h3 a) z
  · exact Pipeline.Window.rect_emb_val_of_index_zero ((cfgM m hO).win 4) pt a (h4 a) z

/-- The total of the eight partial gradients of an entry. -/
def grad (x : Vec Ideal S8x1x128 .f32) (j : Fin 32) : EReal := ∑ p : Fin 8, x (ix3 p (0 : Fin 1) (⟨j.val, by omega⟩ : Fin 128))

/-- The total of the eight partial losses. -/
def loss (x : Vec Ideal S8x8x128 .f32) : EReal := ∑ p : Fin 8, x (ix3 p 0 0)

variable (x0 : Vec Ideal S8x1x128 .f32) (x1 : Vec Ideal S8x8x128 .f32) (x2 x3 x4 : Vec Ideal S1x32 .f32)

theorem out5 (j : Fin 32) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = grad x0 j := by
  unfold out0_A_5
  frame_out
  unfold k0_pay2
  clean_types
  pointwise
  exact Small.total fun p => x0 (ix3 p (0 : Fin 1) (⟨j.val, by omega⟩ : Fin 128))

theorem out6 (j : Fin 32) :
    out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta (grad x0 j) (x2 (ix2 0 j)) (x3 (ix2 0 j)) (x4 (ix2 0 j)) := by
  rw [← out5 (hO := hO) (c := c) x0 x1 x2 x3 x4]
  unfold out0_A_5 out0_A_6
  frame_out
  unfold k0_pay6 k0_pay5 k0_pay4 k0_pay3
  clean_types
  pointwise
  rfl

theorem out7 (j : Fin 32) :
    out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 (grad x0 j) (x3 (ix2 0 j)) := by
  rw [← out5 (hO := hO) (c := c) x0 x1 x2 x3 x4]
  unfold out0_A_5 out0_A_7
  frame_out
  unfold k0_pay4 k0_pay3
  clean_types
  pointwise
  rfl

theorem out8 (j : Fin 32) :
    out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 (grad x0 j) (x4 (ix2 0 j)) := by
  rw [← out5 (hO := hO) (c := c) x0 x1 x2 x3 x4]
  unfold out0_A_5 out0_A_8
  frame_out
  unfold k0_pay5
  clean_types
  pointwise
  rfl

theorem out9 : out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = loss x1 := by
  unfold out0_A_9
  frame_out
  unfold k0_pay1 k0_pay7
  clean_types
  pointwise
  exact Small.total fun p => x1 (ix3 p 0 0)

/-- The kernel's side of the claim. -/
theorem kernel (g : Dev nD → PrngReg) (hO : Ok m) : θ_run (defs (F := Ideal)) (onTc (τ := τ) (main (F := Ideal))) ⟨m, fun _ => 0, g⟩ (fun r => ∀ c : Dev nD,
    r.2.mem (c.tc.loc main_v0_0) = (outsAt0 m hO c pt).1 ∧ r.2.mem (c.tc.loc main_v0_1) = (outsAt0 m hO c pt).2.1
      ∧ r.2.mem (c.tc.loc main_v0_2) = (outsAt0 m hO c pt).2.2.1 ∧ r.2.mem (c.tc.loc main_v0_3) = (outsAt0 m hO c pt).2.2.2.1
      ∧ r.2.mem (c.tc.loc main_v0_4) = (outsAt0 m hO c pt).2.2.2.2
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) :=
  (θ_run defs _ _).mono (fun r h c => ⟨((h.1 c).1 5).trans arr.1, ((h.1 c).1 6).trans arr.2.1, ((h.1 c).1 7).trans arr.2.2.1,
    ((h.1 c).1 8).trans arr.2.2.2.1, ((h.1 c).1 9).trans arr.2.2.2.2, h.2 c⟩) (θ_run_and (run_main m g hO) (unchanged m g hO))

theorem ok : Ok m := True.intro

/-- The five outputs of a point whose entries are known. -/
theorem point (j : Fin 32) (G a b d l : EReal) (e0 : grad x0 j = G) (e1 : loss x1 = l) (e2 : x2 (ix2 0 j) = a) (e3 : x3 (ix2 0 j) = b) (e4 : x4 (ix2 0 j) = d) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = G
      ∧ out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta G a b d
      ∧ out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 G b
      ∧ out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 G d
      ∧ out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = l := by
  rw [out5, out6, out7, out8, out9, e0, e1, e2, e3, e4]
  exact ⟨rfl, rfl, rfl, rfl, rfl⟩

/-- What the kernel leaves, of the arguments. -/
theorem left (j : Fin 32) :
    (outsAt0 m hO c pt).1 (ix2 0 j) = grad (m (c.tc.loc main_arg1)) j
      ∧ (outsAt0 m hO c pt).2.1 (ix2 0 j) = delta (grad (m (c.tc.loc main_arg1)) j) (m (c.tc.loc main_arg3) (ix2 0 j)) (m (c.tc.loc main_arg4) (ix2 0 j)) (m (c.tc.loc main_arg5) (ix2 0 j))
      ∧ (outsAt0 m hO c pt).2.2.1 (ix2 0 j) = mom1 (grad (m (c.tc.loc main_arg1)) j) (m (c.tc.loc main_arg4) (ix2 0 j))
      ∧ (outsAt0 m hO c pt).2.2.2.1 (ix2 0 j) = mom2 (grad (m (c.tc.loc main_arg1)) j) (m (c.tc.loc main_arg5) (ix2 0 j))
      ∧ (outsAt0 m hO c pt).2.2.2.2 (ix2 0 0) = loss (m (c.tc.loc main_arg2)) := by
  obtain ⟨w0, w1, w2, w3, w4⟩ := whole (m := m) (hO := hO) (c := c)
  have e := congrArg (fun x => grad x j) w0
  have p := point (hO := hO) (c := c) (iblk m hO c 0 pt) (iblk m hO c 1 pt) (iblk m hO c 2 pt) (iblk m hO c 3 pt) (iblk m hO c 4 pt) j _ _ _ _ _ e
    (congrArg loss w1) (congrFun w2 (ix2 0 j)) (congrFun w3 (ix2 0 j)) (congrFun w4 (ix2 0 j))
  unfold outsAt0
  dsimp only
  exact p

theorem algebraic : Cert.algebraic_KernelSmall32Ideal_ReferenceSmall32Ideal (hKernelSmall32Ideal := Cert.KernelSmall32Ideal.Gen.facts)
    (hReferenceSmall32Ideal := Cert.ReferenceSmall32Ideal.Gen.facts) := by
  intro m g m' g' _ hagree
  have hO : Ok m := ok
  refine ⟨fun c => (outsAt0 m hO c pt).1, fun c => (outsAt0 m hO c pt).2.1, fun c => (outsAt0 m hO c pt).2.2.1, fun c => (outsAt0 m hO c pt).2.2.2.1,
    fun c => (outsAt0 m hO c pt).2.2.2.2, kernel g hO, ?_⟩
  refine (θ_run Cert.ReferenceSmall32Ideal.defs _ _).mono (fun r h c => ⟨(h c).1.trans (funext fun z => ?_),
      (h c).2.1.trans (funext fun z => ?_), (h c).2.2.1.trans (funext fun z => ?_),
      (h c).2.2.2.1.trans (funext fun z => ?_), (h c).2.2.2.2.1.trans (funext fun z => ?_), (h c).2.2.2.2.2⟩) (Cert.ReferenceSmall32Ideal.Value.run (F := Ideal) m' g')
  all_goals
    clear h
    obtain ⟨a0, a1, a2, a3, a4, a5⟩ := hagree c
  · obtain ⟨i, j, rfl⟩ : ∃ (i : Fin 1) (j : Fin 32), z = ix2 i j := ⟨_, _, eq_ix2 z⟩
    obtain rfl := Subsingleton.elim i 0
    refine .trans ?_ (left j).1.symm
    rw [a1]
    clean_types
    pointwise
    rfl
  · obtain ⟨i, j, rfl⟩ : ∃ (i : Fin 1) (j : Fin 32), z = ix2 i j := ⟨_, _, eq_ix2 z⟩
    obtain rfl := Subsingleton.elim i 0
    refine .trans ?_ (left j).2.1.symm
    rw [a1, a3, a4, a5]
    clean_types
    pointwise
    rfl
  · obtain ⟨i, j, rfl⟩ : ∃ (i : Fin 1) (j : Fin 32), z = ix2 i j := ⟨_, _, eq_ix2 z⟩
    obtain rfl := Subsingleton.elim i 0
    refine .trans ?_ (left j).2.2.1.symm
    rw [a1, a4]
    clean_types
    pointwise
    rfl
  · obtain ⟨i, j, rfl⟩ : ∃ (i : Fin 1) (j : Fin 32), z = ix2 i j := ⟨_, _, eq_ix2 z⟩
    obtain rfl := Subsingleton.elim i 0
    refine .trans ?_ (left j).2.2.2.1.symm
    rw [a1, a5]
    clean_types
    pointwise
    rfl
  · obtain ⟨i, j, rfl⟩ : ∃ (i j : Fin 1), z = ix2 i j := ⟨_, _, eq_ix2 z⟩
    obtain rfl := Subsingleton.elim i 0
    obtain rfl := Subsingleton.elim j 0
    refine .trans ?_ (left 0).2.2.2.2.symm
    rw [a2]
    clean_types
    pointwise
    rfl

end Cert.Small32
-- ==== Proof.Small2048.lean ====
/-
  The step of a vector of 2048 entries, of which every chip holds the whole.
-/
module

public import proofs.«01_k».proof.Proof.Product
public import proofs.«01_k».proof.Proof.Adam
public import proofs.«01_k».proof.Proof.Small
public import proofs.«01_k».proof.Proof.Gen.KernelSmall2048.Frame
public import proofs.«01_k».proof.Proof.Gen.KernelSmall2048Ideal.Frame
public import proofs.«01_k».proof.Proof.Gen.ReferenceSmall2048Ideal.Run
public import proofs.«01_k».proof.Defs
public import Idealize.ShloMosaic.Lib.StableHlo.ReadAt

@[expose] public section

set_option maxRecDepth 16384

noncomputable section

namespace Cert.Small2048

open Cert.KernelSmall2048Ideal Cert.KernelSmall2048Ideal.Gen Idealize.ShloMosaic Idealize.ShloMosaic.TcCoe Idealize.SL.Sem StableHlo
open Cert.Adam

variable {m : (ℓ : Loc nD τ sig) → Buf (Elt Ideal) ℓ} {hO : Ok m} {c : Dev nD}

/-- The one point. -/
abbrev pt : Fin grid0.N := ⟨0, by decide +kernel⟩

theorem one : ∀ t : Fin grid0.N, t = pt := by decide +kernel

theorem idx : (∀ a, cc0_transform_0 (grid0.coords pt) a = 0) ∧ (∀ a, cc0_transform_1 (grid0.coords pt) a = 0) ∧ (∀ a, cc0_transform_2 (grid0.coords pt) a = 0)
    ∧ (∀ a, cc0_transform_3 (grid0.coords pt) a = 0) ∧ (∀ a, cc0_transform_4 (grid0.coords pt) a = 0)
    ∧ (∀ a, cc0_transform_5 (grid0.coords pt) a = 0) ∧ (∀ a, cc0_transform_6 (grid0.coords pt) a = 0)
    ∧ (∀ a, cc0_transform_7 (grid0.coords pt) a = 0) ∧ (∀ a, cc0_transform_8 (grid0.coords pt) a = 0)
    ∧ (∀ a, cc0_transform_9 (grid0.coords pt) a = 0) := by decide +kernel

/-- The results are what the one point leaves. -/
theorem arr : (dats m hO 0 c).arrAt 5 (cfgM m hO).N = (outsAt0 m hO c pt).1 ∧ (dats m hO 0 c).arrAt 6 (cfgM m hO).N = (outsAt0 m hO c pt).2.1
    ∧ (dats m hO 0 c).arrAt 7 (cfgM m hO).N = (outsAt0 m hO c pt).2.2.1 ∧ (dats m hO 0 c).arrAt 8 (cfgM m hO).N = (outsAt0 m hO c pt).2.2.2.1
    ∧ (dats m hO 0 c).arrAt 9 (cfgM m hO).N = (outsAt0 m hO c pt).2.2.2.2 := by
  obtain ⟨_, _, _, _, _, h5, h6, h7, h8, h9⟩ := idx
  exact ⟨(dats m hO 0 c).arrAt_eq_of_after_last 5 pt ⟨flush0_5 _ _, fun t _ => one t, fun a => ⟨h5 a, rfl⟩⟩ _ fun z => congrFun (after0_5 m hO c pt) _,
    (dats m hO 0 c).arrAt_eq_of_after_last 6 pt ⟨flush0_6 _ _, fun t _ => one t, fun a => ⟨h6 a, rfl⟩⟩ _ fun z => congrFun (after0_6 m hO c pt) _,
    (dats m hO 0 c).arrAt_eq_of_after_last 7 pt ⟨flush0_7 _ _, fun t _ => one t, fun a => ⟨h7 a, rfl⟩⟩ _ fun z => congrFun (after0_7 m hO c pt) _,
    (dats m hO 0 c).arrAt_eq_of_after_last 8 pt ⟨flush0_8 _ _, fun t _ => one t, fun a => ⟨h8 a, rfl⟩⟩ _ fun z => congrFun (after0_8 m hO c pt) _,
    (dats m hO 0 c).arrAt_eq_of_after_last 9 pt ⟨flush0_9 _ _, fun t _ => one t, fun a => ⟨h9 a, rfl⟩⟩ _ fun z => congrFun (after0_9 m hO c pt) _⟩

/-- Every input is read whole. -/
theorem whole : iblk m hO c 0 pt = m (c.tc.loc main_arg1) ∧ iblk m hO c 1 pt = m (c.tc.loc main_arg2) ∧ iblk m hO c 2 pt = m (c.tc.loc main_arg3) ∧ iblk m hO c 3 pt = m (c.tc.loc main_arg4)
    ∧ iblk m hO c 4 pt = m (c.tc.loc main_arg5) := by
  obtain ⟨h0, h1, h2, h3, h4, _⟩ := idx
  refine ⟨funext fun z => congrArg (m (c.tc.loc main_arg1)) (funext fun a => Fin.ext ?_), funext fun z => congrArg (m (c.tc.loc main_arg2)) (funext fun a => Fin.ext ?_), funext fun z => congrArg (m (c.tc.loc main_arg3)) (funext fun a => Fin.ext ?_),
    funext fun z => congrArg (m (c.tc.loc main_arg4)) (funext fun a => Fin.ext ?_), funext fun z => congrArg (m (c.tc.loc main_arg5)) (funext fun a => Fin.ext ?_)⟩
  · exact Pipeline.Window.rect_emb_val_of_index_zero ((cfgM m hO).win 0) pt a (h0 a) z
  · exact Pipeline.Window.rect_emb_val_of_index_zero ((cfgM m hO).win 1) pt a (h1 a) z
  · exact Pipeline.Window.rect_emb_val_of_index_zero ((cfgM m hO).win 2) pt a (h2 a) z
  · exact Pipeline.Window.rect_emb_val_of_index_zero ((cfgM m hO).win 3) pt a (h3 a) z
  · exact Pipeline.Window.rect_emb_val_of_index_zero ((cfgM m hO).win 4) pt a (h4 a) z

/-- The total of the eight partial gradients of an entry. -/
def grad (x : Vec Ideal S8x1x2048 .f32) (j : Fin 2048) : EReal := ∑ p : Fin 8, x (ix3 p (0 : Fin 1) j)

/-- The total of the eight partial losses. -/
def loss (x : Vec Ideal S8x8x128 .f32) : EReal := ∑ p : Fin 8, x (ix3 p 0 0)

variable (x0 : Vec Ideal S8x1x2048 .f32) (x1 : Vec Ideal S8x8x128 .f32) (x2 x3 x4 : Vec Ideal S1x2048 .f32)

theorem out5 (j : Fin 2048) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = grad x0 j := by
  unfold out0_A_5
  frame_out
  unfold k0_pay2
  clean_types
  pointwise
  exact Small.total fun p => x0 (ix3 p (0 : Fin 1) j)

theorem out6 (j : Fin 2048) :
    out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta (grad x0 j) (x2 (ix2 0 j)) (x3 (ix2 0 j)) (x4 (ix2 0 j)) := by
  rw [← out5 (hO := hO) (c := c) x0 x1 x2 x3 x4]
  unfold out0_A_5 out0_A_6
  frame_out
  unfold k0_pay6 k0_pay5 k0_pay4 k0_pay3
  clean_types
  pointwise
  rfl

theorem out7 (j : Fin 2048) :
    out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 (grad x0 j) (x3 (ix2 0 j)) := by
  rw [← out5 (hO := hO) (c := c) x0 x1 x2 x3 x4]
  unfold out0_A_5 out0_A_7
  frame_out
  unfold k0_pay4 k0_pay3
  clean_types
  pointwise
  rfl

theorem out8 (j : Fin 2048) :
    out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 (grad x0 j) (x4 (ix2 0 j)) := by
  rw [← out5 (hO := hO) (c := c) x0 x1 x2 x3 x4]
  unfold out0_A_5 out0_A_8
  frame_out
  unfold k0_pay5
  clean_types
  pointwise
  rfl

theorem out9 : out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = loss x1 := by
  unfold out0_A_9
  frame_out
  unfold k0_pay1 k0_pay7
  clean_types
  pointwise
  exact Small.total fun p => x1 (ix3 p 0 0)

/-- The kernel's side of the claim. -/
theorem kernel (g : Dev nD → PrngReg) (hO : Ok m) : θ_run (defs (F := Ideal)) (onTc (τ := τ) (main (F := Ideal))) ⟨m, fun _ => 0, g⟩ (fun r => ∀ c : Dev nD,
    r.2.mem (c.tc.loc main_v0_0) = (outsAt0 m hO c pt).1 ∧ r.2.mem (c.tc.loc main_v0_1) = (outsAt0 m hO c pt).2.1
      ∧ r.2.mem (c.tc.loc main_v0_2) = (outsAt0 m hO c pt).2.2.1 ∧ r.2.mem (c.tc.loc main_v0_3) = (outsAt0 m hO c pt).2.2.2.1
      ∧ r.2.mem (c.tc.loc main_v0_4) = (outsAt0 m hO c pt).2.2.2.2
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) :=
  (θ_run defs _ _).mono (fun r h c => ⟨((h.1 c).1 5).trans arr.1, ((h.1 c).1 6).trans arr.2.1, ((h.1 c).1 7).trans arr.2.2.1,
    ((h.1 c).1 8).trans arr.2.2.2.1, ((h.1 c).1 9).trans arr.2.2.2.2, h.2 c⟩) (θ_run_and (run_main m g hO) (unchanged m g hO))

theorem ok : Ok m := True.intro

/-- The five outputs of a point whose entries are known. -/
theorem point (j : Fin 2048) (G a b d l : EReal) (e0 : grad x0 j = G) (e1 : loss x1 = l) (e2 : x2 (ix2 0 j) = a) (e3 : x3 (ix2 0 j) = b) (e4 : x4 (ix2 0 j) = d) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = G
      ∧ out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta G a b d
      ∧ out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 G b
      ∧ out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 G d
      ∧ out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = l := by
  rw [out5, out6, out7, out8, out9, e0, e1, e2, e3, e4]
  exact ⟨rfl, rfl, rfl, rfl, rfl⟩

/-- What the kernel leaves, of the arguments. -/
theorem left (j : Fin 2048) :
    (outsAt0 m hO c pt).1 (ix2 0 j) = grad (m (c.tc.loc main_arg1)) j
      ∧ (outsAt0 m hO c pt).2.1 (ix2 0 j) = delta (grad (m (c.tc.loc main_arg1)) j) (m (c.tc.loc main_arg3) (ix2 0 j)) (m (c.tc.loc main_arg4) (ix2 0 j)) (m (c.tc.loc main_arg5) (ix2 0 j))
      ∧ (outsAt0 m hO c pt).2.2.1 (ix2 0 j) = mom1 (grad (m (c.tc.loc main_arg1)) j) (m (c.tc.loc main_arg4) (ix2 0 j))
      ∧ (outsAt0 m hO c pt).2.2.2.1 (ix2 0 j) = mom2 (grad (m (c.tc.loc main_arg1)) j) (m (c.tc.loc main_arg5) (ix2 0 j))
      ∧ (outsAt0 m hO c pt).2.2.2.2 (ix2 0 0) = loss (m (c.tc.loc main_arg2)) := by
  obtain ⟨w0, w1, w2, w3, w4⟩ := whole (m := m) (hO := hO) (c := c)
  have e := congrArg (fun x => grad x j) w0
  have p := point (hO := hO) (c := c) (iblk m hO c 0 pt) (iblk m hO c 1 pt) (iblk m hO c 2 pt) (iblk m hO c 3 pt) (iblk m hO c 4 pt) j _ _ _ _ _ e
    (congrArg loss w1) (congrFun w2 (ix2 0 j)) (congrFun w3 (ix2 0 j)) (congrFun w4 (ix2 0 j))
  unfold outsAt0
  dsimp only
  exact p

theorem algebraic : Cert.algebraic_KernelSmall2048Ideal_ReferenceSmall2048Ideal (hKernelSmall2048Ideal := Cert.KernelSmall2048Ideal.Gen.facts)
    (hReferenceSmall2048Ideal := Cert.ReferenceSmall2048Ideal.Gen.facts) := by
  intro m g m' g' _ hagree
  have hO : Ok m := ok
  refine ⟨fun c => (outsAt0 m hO c pt).1, fun c => (outsAt0 m hO c pt).2.1, fun c => (outsAt0 m hO c pt).2.2.1, fun c => (outsAt0 m hO c pt).2.2.2.1,
    fun c => (outsAt0 m hO c pt).2.2.2.2, kernel g hO, ?_⟩
  refine (θ_run Cert.ReferenceSmall2048Ideal.defs _ _).mono (fun r h c => ⟨(h c).1.trans (funext fun z => ?_),
      (h c).2.1.trans (funext fun z => ?_), (h c).2.2.1.trans (funext fun z => ?_),
      (h c).2.2.2.1.trans (funext fun z => ?_), (h c).2.2.2.2.1.trans (funext fun z => ?_), (h c).2.2.2.2.2⟩) (Cert.ReferenceSmall2048Ideal.Value.run (F := Ideal) m' g')
  all_goals
    clear h
    obtain ⟨a0, a1, a2, a3, a4, a5⟩ := hagree c
  · obtain ⟨i, j, rfl⟩ : ∃ (i : Fin 1) (j : Fin 2048), z = ix2 i j := ⟨_, _, eq_ix2 z⟩
    obtain rfl := Subsingleton.elim i 0
    refine .trans ?_ (left j).1.symm
    rw [a1]
    clean_types
    pointwise
    rfl
  · obtain ⟨i, j, rfl⟩ : ∃ (i : Fin 1) (j : Fin 2048), z = ix2 i j := ⟨_, _, eq_ix2 z⟩
    obtain rfl := Subsingleton.elim i 0
    refine .trans ?_ (left j).2.1.symm
    rw [a1, a3, a4, a5]
    clean_types
    pointwise
    rfl
  · obtain ⟨i, j, rfl⟩ : ∃ (i : Fin 1) (j : Fin 2048), z = ix2 i j := ⟨_, _, eq_ix2 z⟩
    obtain rfl := Subsingleton.elim i 0
    refine .trans ?_ (left j).2.2.1.symm
    rw [a1, a4]
    clean_types
    pointwise
    rfl
  · obtain ⟨i, j, rfl⟩ : ∃ (i : Fin 1) (j : Fin 2048), z = ix2 i j := ⟨_, _, eq_ix2 z⟩
    obtain rfl := Subsingleton.elim i 0
    refine .trans ?_ (left j).2.2.2.1.symm
    rw [a1, a5]
    clean_types
    pointwise
    rfl
  · obtain ⟨i, j, rfl⟩ : ∃ (i j : Fin 1), z = ix2 i j := ⟨_, _, eq_ix2 z⟩
    obtain rfl := Subsingleton.elim i 0
    obtain rfl := Subsingleton.elim j 0
    refine .trans ?_ (left 0).2.2.2.2.symm
    rw [a2]
    clean_types
    pointwise
    rfl

end Cert.Small2048
-- ==== Proof.Small5632.lean ====
/-
  The step of a vector of 5632 entries, of which every chip holds the whole.
-/
module

public import proofs.«01_k».proof.Proof.Product
public import proofs.«01_k».proof.Proof.Adam
public import proofs.«01_k».proof.Proof.Small
public import proofs.«01_k».proof.Proof.Gen.KernelSmall5632.Frame
public import proofs.«01_k».proof.Proof.Gen.KernelSmall5632Ideal.Frame
public import proofs.«01_k».proof.Proof.Gen.ReferenceSmall5632Ideal.Run
public import proofs.«01_k».proof.Defs
public import Idealize.ShloMosaic.Lib.StableHlo.ReadAt

@[expose] public section

set_option maxRecDepth 16384

noncomputable section

namespace Cert.Small5632

open Cert.KernelSmall5632Ideal Cert.KernelSmall5632Ideal.Gen Idealize.ShloMosaic Idealize.ShloMosaic.TcCoe Idealize.SL.Sem StableHlo
open Cert.Adam

variable {m : (ℓ : Loc nD τ sig) → Buf (Elt Ideal) ℓ} {hO : Ok m} {c : Dev nD}

/-- The one point. -/
abbrev pt : Fin grid0.N := ⟨0, by decide +kernel⟩

theorem one : ∀ t : Fin grid0.N, t = pt := by decide +kernel

theorem idx : (∀ a, cc0_transform_0 (grid0.coords pt) a = 0) ∧ (∀ a, cc0_transform_1 (grid0.coords pt) a = 0) ∧ (∀ a, cc0_transform_2 (grid0.coords pt) a = 0)
    ∧ (∀ a, cc0_transform_3 (grid0.coords pt) a = 0) ∧ (∀ a, cc0_transform_4 (grid0.coords pt) a = 0)
    ∧ (∀ a, cc0_transform_5 (grid0.coords pt) a = 0) ∧ (∀ a, cc0_transform_6 (grid0.coords pt) a = 0)
    ∧ (∀ a, cc0_transform_7 (grid0.coords pt) a = 0) ∧ (∀ a, cc0_transform_8 (grid0.coords pt) a = 0)
    ∧ (∀ a, cc0_transform_9 (grid0.coords pt) a = 0) := by decide +kernel

/-- The results are what the one point leaves. -/
theorem arr : (dats m hO 0 c).arrAt 5 (cfgM m hO).N = (outsAt0 m hO c pt).1 ∧ (dats m hO 0 c).arrAt 6 (cfgM m hO).N = (outsAt0 m hO c pt).2.1
    ∧ (dats m hO 0 c).arrAt 7 (cfgM m hO).N = (outsAt0 m hO c pt).2.2.1 ∧ (dats m hO 0 c).arrAt 8 (cfgM m hO).N = (outsAt0 m hO c pt).2.2.2.1
    ∧ (dats m hO 0 c).arrAt 9 (cfgM m hO).N = (outsAt0 m hO c pt).2.2.2.2 := by
  obtain ⟨_, _, _, _, _, h5, h6, h7, h8, h9⟩ := idx
  exact ⟨(dats m hO 0 c).arrAt_eq_of_after_last 5 pt ⟨flush0_5 _ _, fun t _ => one t, fun a => ⟨h5 a, rfl⟩⟩ _ fun z => congrFun (after0_5 m hO c pt) _,
    (dats m hO 0 c).arrAt_eq_of_after_last 6 pt ⟨flush0_6 _ _, fun t _ => one t, fun a => ⟨h6 a, rfl⟩⟩ _ fun z => congrFun (after0_6 m hO c pt) _,
    (dats m hO 0 c).arrAt_eq_of_after_last 7 pt ⟨flush0_7 _ _, fun t _ => one t, fun a => ⟨h7 a, rfl⟩⟩ _ fun z => congrFun (after0_7 m hO c pt) _,
    (dats m hO 0 c).arrAt_eq_of_after_last 8 pt ⟨flush0_8 _ _, fun t _ => one t, fun a => ⟨h8 a, rfl⟩⟩ _ fun z => congrFun (after0_8 m hO c pt) _,
    (dats m hO 0 c).arrAt_eq_of_after_last 9 pt ⟨flush0_9 _ _, fun t _ => one t, fun a => ⟨h9 a, rfl⟩⟩ _ fun z => congrFun (after0_9 m hO c pt) _⟩

/-- Every input is read whole. -/
theorem whole : iblk m hO c 0 pt = m (c.tc.loc main_arg1) ∧ iblk m hO c 1 pt = m (c.tc.loc main_arg2) ∧ iblk m hO c 2 pt = m (c.tc.loc main_arg3) ∧ iblk m hO c 3 pt = m (c.tc.loc main_arg4)
    ∧ iblk m hO c 4 pt = m (c.tc.loc main_arg5) := by
  obtain ⟨h0, h1, h2, h3, h4, _⟩ := idx
  refine ⟨funext fun z => congrArg (m (c.tc.loc main_arg1)) (funext fun a => Fin.ext ?_), funext fun z => congrArg (m (c.tc.loc main_arg2)) (funext fun a => Fin.ext ?_), funext fun z => congrArg (m (c.tc.loc main_arg3)) (funext fun a => Fin.ext ?_),
    funext fun z => congrArg (m (c.tc.loc main_arg4)) (funext fun a => Fin.ext ?_), funext fun z => congrArg (m (c.tc.loc main_arg5)) (funext fun a => Fin.ext ?_)⟩
  · exact Pipeline.Window.rect_emb_val_of_index_zero ((cfgM m hO).win 0) pt a (h0 a) z
  · exact Pipeline.Window.rect_emb_val_of_index_zero ((cfgM m hO).win 1) pt a (h1 a) z
  · exact Pipeline.Window.rect_emb_val_of_index_zero ((cfgM m hO).win 2) pt a (h2 a) z
  · exact Pipeline.Window.rect_emb_val_of_index_zero ((cfgM m hO).win 3) pt a (h3 a) z
  · exact Pipeline.Window.rect_emb_val_of_index_zero ((cfgM m hO).win 4) pt a (h4 a) z

/-- The total of the eight partial gradients of an entry. -/
def grad (x : Vec Ideal S8x1x5632 .f32) (j : Fin 5632) : EReal := ∑ p : Fin 8, x (ix3 p (0 : Fin 1) j)

/-- The total of the eight partial losses. -/
def loss (x : Vec Ideal S8x8x128 .f32) : EReal := ∑ p : Fin 8, x (ix3 p 0 0)

variable (x0 : Vec Ideal S8x1x5632 .f32) (x1 : Vec Ideal S8x8x128 .f32) (x2 x3 x4 : Vec Ideal S1x5632 .f32)

theorem out5 (j : Fin 5632) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = grad x0 j := by
  unfold out0_A_5
  frame_out
  unfold k0_pay2
  clean_types
  pointwise
  exact Small.total fun p => x0 (ix3 p (0 : Fin 1) j)

theorem out6 (j : Fin 5632) :
    out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta (grad x0 j) (x2 (ix2 0 j)) (x3 (ix2 0 j)) (x4 (ix2 0 j)) := by
  rw [← out5 (hO := hO) (c := c) x0 x1 x2 x3 x4]
  unfold out0_A_5 out0_A_6
  frame_out
  unfold k0_pay6 k0_pay5 k0_pay4 k0_pay3
  clean_types
  pointwise
  rfl

theorem out7 (j : Fin 5632) :
    out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 (grad x0 j) (x3 (ix2 0 j)) := by
  rw [← out5 (hO := hO) (c := c) x0 x1 x2 x3 x4]
  unfold out0_A_5 out0_A_7
  frame_out
  unfold k0_pay4 k0_pay3
  clean_types
  pointwise
  rfl

theorem out8 (j : Fin 5632) :
    out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 (grad x0 j) (x4 (ix2 0 j)) := by
  rw [← out5 (hO := hO) (c := c) x0 x1 x2 x3 x4]
  unfold out0_A_5 out0_A_8
  frame_out
  unfold k0_pay5
  clean_types
  pointwise
  rfl

theorem out9 : out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = loss x1 := by
  unfold out0_A_9
  frame_out
  unfold k0_pay1 k0_pay7
  clean_types
  pointwise
  exact Small.total fun p => x1 (ix3 p 0 0)

/-- The kernel's side of the claim. -/
theorem kernel (g : Dev nD → PrngReg) (hO : Ok m) : θ_run (defs (F := Ideal)) (onTc (τ := τ) (main (F := Ideal))) ⟨m, fun _ => 0, g⟩ (fun r => ∀ c : Dev nD,
    r.2.mem (c.tc.loc main_v0_0) = (outsAt0 m hO c pt).1 ∧ r.2.mem (c.tc.loc main_v0_1) = (outsAt0 m hO c pt).2.1
      ∧ r.2.mem (c.tc.loc main_v0_2) = (outsAt0 m hO c pt).2.2.1 ∧ r.2.mem (c.tc.loc main_v0_3) = (outsAt0 m hO c pt).2.2.2.1
      ∧ r.2.mem (c.tc.loc main_v0_4) = (outsAt0 m hO c pt).2.2.2.2
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)) :=
  (θ_run defs _ _).mono (fun r h c => ⟨((h.1 c).1 5).trans arr.1, ((h.1 c).1 6).trans arr.2.1, ((h.1 c).1 7).trans arr.2.2.1,
    ((h.1 c).1 8).trans arr.2.2.2.1, ((h.1 c).1 9).trans arr.2.2.2.2, h.2 c⟩) (θ_run_and (run_main m g hO) (unchanged m g hO))

theorem ok : Ok m := True.intro

/-- The five outputs of a point whose entries are known. -/
theorem point (j : Fin 5632) (G a b d l : EReal) (e0 : grad x0 j = G) (e1 : loss x1 = l) (e2 : x2 (ix2 0 j) = a) (e3 : x3 (ix2 0 j) = b) (e4 : x4 (ix2 0 j) = d) :
    out0_A_5 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = G
      ∧ out0_A_6 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = delta G a b d
      ∧ out0_A_7 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom1 G b
      ∧ out0_A_8 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 j) = mom2 G d
      ∧ out0_A_9 c (grid0.coords pt) _ (hs0_0 m hO pt) _ (hs0_1 m hO pt) _ (hs0_2 m hO pt) _ (hs0_3 m hO pt) _ (hs0_4 m hO pt) _ (hs0_5 m hO pt) _ (hs0_6 m hO pt) _ (hs0_7 m hO pt) _ (hs0_8 m hO pt) _ (hs0_9 m hO pt) x0 x1 x2 x3 x4 (tbl m 0) (ix2 0 0) = l := by
  rw [out5, out6, out7, out8, out9, e0, e1, e2, e3, e4]
  exact ⟨rfl, rfl, rfl, rfl, rfl⟩

/-- What the kernel leaves, of the arguments. -/
theorem left (j : Fin 5632) :
    (outsAt0 m hO c pt).1 (ix2 0 j) = grad (m (c.tc.loc main_arg1)) j
      ∧ (outsAt0 m hO c pt).2.1 (ix2 0 j) = delta (grad (m (c.tc.loc main_arg1)) j) (m (c.tc.loc main_arg3) (ix2 0 j)) (m (c.tc.loc main_arg4) (ix2 0 j)) (m (c.tc.loc main_arg5) (ix2 0 j))
      ∧ (outsAt0 m hO c pt).2.2.1 (ix2 0 j) = mom1 (grad (m (c.tc.loc main_arg1)) j) (m (c.tc.loc main_arg4) (ix2 0 j))
      ∧ (outsAt0 m hO c pt).2.2.2.1 (ix2 0 j) = mom2 (grad (m (c.tc.loc main_arg1)) j) (m (c.tc.loc main_arg5) (ix2 0 j))
      ∧ (outsAt0 m hO c pt).2.2.2.2 (ix2 0 0) = loss (m (c.tc.loc main_arg2)) := by
  obtain ⟨w0, w1, w2, w3, w4⟩ := whole (m := m) (hO := hO) (c := c)
  have e := congrArg (fun x => grad x j) w0
  have p := point (hO := hO) (c := c) (iblk m hO c 0 pt) (iblk m hO c 1 pt) (iblk m hO c 2 pt) (iblk m hO c 3 pt) (iblk m hO c 4 pt) j _ _ _ _ _ e
    (congrArg loss w1) (congrFun w2 (ix2 0 j)) (congrFun w3 (ix2 0 j)) (congrFun w4 (ix2 0 j))
  unfold outsAt0
  dsimp only
  exact p

theorem algebraic : Cert.algebraic_KernelSmall5632Ideal_ReferenceSmall5632Ideal (hKernelSmall5632Ideal := Cert.KernelSmall5632Ideal.Gen.facts)
    (hReferenceSmall5632Ideal := Cert.ReferenceSmall5632Ideal.Gen.facts) := by
  intro m g m' g' _ hagree
  have hO : Ok m := ok
  refine ⟨fun c => (outsAt0 m hO c pt).1, fun c => (outsAt0 m hO c pt).2.1, fun c => (outsAt0 m hO c pt).2.2.1, fun c => (outsAt0 m hO c pt).2.2.2.1,
    fun c => (outsAt0 m hO c pt).2.2.2.2, kernel g hO, ?_⟩
  refine (θ_run Cert.ReferenceSmall5632Ideal.defs _ _).mono (fun r h c => ⟨(h c).1.trans (funext fun z => ?_),
      (h c).2.1.trans (funext fun z => ?_), (h c).2.2.1.trans (funext fun z => ?_),
      (h c).2.2.2.1.trans (funext fun z => ?_), (h c).2.2.2.2.1.trans (funext fun z => ?_), (h c).2.2.2.2.2⟩) (Cert.ReferenceSmall5632Ideal.Value.run (F := Ideal) m' g')
  all_goals
    clear h
    obtain ⟨a0, a1, a2, a3, a4, a5⟩ := hagree c
  · obtain ⟨i, j, rfl⟩ : ∃ (i : Fin 1) (j : Fin 5632), z = ix2 i j := ⟨_, _, eq_ix2 z⟩
    obtain rfl := Subsingleton.elim i 0
    refine .trans ?_ (left j).1.symm
    rw [a1]
    clean_types
    pointwise
    rfl
  · obtain ⟨i, j, rfl⟩ : ∃ (i : Fin 1) (j : Fin 5632), z = ix2 i j := ⟨_, _, eq_ix2 z⟩
    obtain rfl := Subsingleton.elim i 0
    refine .trans ?_ (left j).2.1.symm
    rw [a1, a3, a4, a5]
    clean_types
    pointwise
    rfl
  · obtain ⟨i, j, rfl⟩ : ∃ (i : Fin 1) (j : Fin 5632), z = ix2 i j := ⟨_, _, eq_ix2 z⟩
    obtain rfl := Subsingleton.elim i 0
    refine .trans ?_ (left j).2.2.1.symm
    rw [a1, a4]
    clean_types
    pointwise
    rfl
  · obtain ⟨i, j, rfl⟩ : ∃ (i : Fin 1) (j : Fin 5632), z = ix2 i j := ⟨_, _, eq_ix2 z⟩
    obtain rfl := Subsingleton.elim i 0
    refine .trans ?_ (left j).2.2.2.1.symm
    rw [a1, a5]
    clean_types
    pointwise
    rfl
  · obtain ⟨i, j, rfl⟩ : ∃ (i j : Fin 1), z = ix2 i j := ⟨_, _, eq_ix2 z⟩
    obtain rfl := Subsingleton.elim i 0
    obtain rfl := Subsingleton.elim j 0
    refine .trans ?_ (left 0).2.2.2.2.symm
    rw [a2]
    clean_types
    pointwise
    rfl

end Cert.Small5632
-- ==== Proof.lean ====
/-
  The proof of `Cert.Claim`.

  The frames of the kernel and of its idealization are the generated ones; the reference declares no semaphore and its
  frame is its run read at its arguments. `preserves` names eight rounded constants. The value claim: from finite
  arguments, both programs' arrays are the same two tables of real numbers, `Cert.Ret.r9` and `Cert.Ret.r10`
  (`Proof/Result.lean`): the kernel's by the sweep over the chunks (`Proof/Final.lean`), the reference's by reading its
  operations (`Proof/RefValue.lean`, `Proof/Result.lean`); `Proof/Math.lean` has the mathematics that joins them.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Finite
public import proofs.«01_k».proof.Proof.Final
public import proofs.«01_k».proof.Proof.Result
public import proofs.«01_k».proof.Proof.Gen.KernelDU1.Frame
public import proofs.«01_k».proof.Proof.Gen.KernelGW2048.Frame
public import proofs.«01_k».proof.Proof.Gen.KernelGW4096.Frame
public import proofs.«01_k».proof.Proof.Gen.KernelGW3072.Frame
public import proofs.«01_k».proof.Proof.Gen.KernelGW128.Frame
public import proofs.«01_k».proof.Proof.Gen.KernelGUp.Frame
public import proofs.«01_k».proof.Proof.Gen.KernelDU2.Frame
public import proofs.«01_k».proof.Proof.Gen.KernelDU2v.Frame
public import proofs.«01_k».proof.Proof.Gen.KernelDAct.Frame
public import proofs.«01_k».proof.Proof.Gen.KernelGDown.Frame
public import proofs.«01_k».proof.Proof.Gen.KernelDY.Frame
public import proofs.«01_k».proof.Proof.Gen.KernelGBranch.Frame
public import proofs.«01_k».proof.Proof.Gen.KernelDMerged.Frame
public import proofs.«01_k».proof.Proof.Gen.KernelGOut.Frame
public import proofs.«01_k».proof.Proof.Gen.KernelGate.Frame
public import proofs.«01_k».proof.Proof.Gen.KernelProj.Frame
public import proofs.«01_k».proof.Proof.Gen.KernelBranch.Frame
public import proofs.«01_k».proof.Proof.Gen.KernelOutProj.Frame
public import proofs.«01_k».proof.Proof.Gen.KernelUp.Frame
public import proofs.«01_k».proof.Proof.Gen.KernelDown.Frame
public import proofs.«01_k».proof.Proof.Gen.KernelGateF.Frame
public import proofs.«01_k».proof.Proof.Gen.KernelRmsF.Frame
public import proofs.«01_k».proof.Proof.Gen.KernelRms.Frame
public import proofs.«01_k».proof.Proof.Gen.KernelAdamIn.Frame
public import proofs.«01_k».proof.Proof.Gen.KernelAdamBranch.Frame
public import proofs.«01_k».proof.Proof.Gen.KernelAdamOut.Frame
public import proofs.«01_k».proof.Proof.Gen.KernelAdamUp.Frame
public import proofs.«01_k».proof.Proof.Gen.KernelAdamDown.Frame
public import proofs.«01_k».proof.Proof.Gen.KernelLoss.Frame
public import proofs.«01_k».proof.Proof.Gen.KernelFfnConv.Frame
public import proofs.«01_k».proof.Proof.Gen.KernelSsdConv.Frame
public import proofs.«01_k».proof.Proof.Gen.KernelSmallMeta.Frame
public import proofs.«01_k».proof.Proof.Gen.KernelSmallSsd.Frame
public import proofs.«01_k».proof.Proof.Gen.KernelSmallFfn.Frame
public import proofs.«01_k».proof.Proof.Gen.KernelSmall1024.Frame
public import proofs.«01_k».proof.Proof.Gen.KernelSmall3072.Frame
public import proofs.«01_k».proof.Proof.Gen.KernelSmall32.Frame
public import proofs.«01_k».proof.Proof.Gen.KernelSmall2048.Frame
public import proofs.«01_k».proof.Proof.Gen.KernelSmall5632.Frame
public import proofs.«01_k».proof.Proof.Gen.Pre_chip_meta
public import proofs.«01_k».proof.Proof.Gen.Pre_chip_ssd
public import proofs.«01_k».proof.Proof.Gen.Pre_chip_ffn
public import proofs.«01_k».proof.Proof.DU1
public import proofs.«01_k».proof.Proof.GW2048
public import proofs.«01_k».proof.Proof.GW4096
public import proofs.«01_k».proof.Proof.GW3072
public import proofs.«01_k».proof.Proof.GW128
public import proofs.«01_k».proof.Proof.GUp
public import proofs.«01_k».proof.Proof.DU2
public import proofs.«01_k».proof.Proof.DU2v
public import proofs.«01_k».proof.Proof.DAct
public import proofs.«01_k».proof.Proof.GDown
public import proofs.«01_k».proof.Proof.DY
public import proofs.«01_k».proof.Proof.GBranch
public import proofs.«01_k».proof.Proof.DMerged
public import proofs.«01_k».proof.Proof.GOut
public import proofs.«01_k».proof.Proof.Gate
public import proofs.«01_k».proof.Proof.Proj
public import proofs.«01_k».proof.Proof.Branch
public import proofs.«01_k».proof.Proof.OutProj
public import proofs.«01_k».proof.Proof.Up
public import proofs.«01_k».proof.Proof.Down
public import proofs.«01_k».proof.Proof.GateF
public import proofs.«01_k».proof.Proof.RmsF
public import proofs.«01_k».proof.Proof.Rms
public import proofs.«01_k».proof.Proof.AdamIn
public import proofs.«01_k».proof.Proof.AdamBranch
public import proofs.«01_k».proof.Proof.AdamOut
public import proofs.«01_k».proof.Proof.AdamUp
public import proofs.«01_k».proof.Proof.AdamDown
public import proofs.«01_k».proof.Proof.Loss
public import proofs.«01_k».proof.Proof.FfnConv
public import proofs.«01_k».proof.Proof.SsdConv
public import proofs.«01_k».proof.Proof.SmallMeta
public import proofs.«01_k».proof.Proof.SmallSsd
public import proofs.«01_k».proof.Proof.SmallFfn
public import proofs.«01_k».proof.Proof.Small1024
public import proofs.«01_k».proof.Proof.Small3072
public import proofs.«01_k».proof.Proof.Small32
public import proofs.«01_k».proof.Proof.Small2048
public import proofs.«01_k».proof.Proof.Small5632
public import Idealize.ShloMosaic.Adequacy
public import Idealize.ShloMosaic.Init

@[expose] public section

set_option maxRecDepth 16384

noncomputable section

namespace Cert.Proof

open Idealize.ShloMosaic Idealize.ShloMosaic.TcCoe Idealize.SL.Sem StableHlo Cert.Ret

/-- The reference runs and leaves its arguments; it declares no semaphore. -/
theorem frame_r : Cert.quiescent_ReferenceIdeal (hReferenceIdeal := Cert.ReferenceIdeal.Gen.facts) := by
  intro m ρ _
  exact (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ _ _ _ _ rfl, IdealRules.named_const.statement Cert.KernelIdeal.κ _ _ _ _ rfl,
    IdealRules.named_const.statement Cert.KernelIdeal.κ _ _ _ _ rfl, IdealRules.named_const.statement Cert.KernelIdeal.κ _ _ _ _ rfl,
    IdealRules.named_const.statement Cert.KernelIdeal.κ _ _ _ _ rfl, IdealRules.named_const.statement Cert.KernelIdeal.κ _ _ _ _ rfl,
    IdealRules.named_const.statement Cert.KernelIdeal.κ _ _ _ _ rfl, IdealRules.named_const.statement Cert.KernelIdeal.κ _ _ _ _ rfl⟩

/-- The real tables of a device's arguments. -/
def argOf (m : (ℓ : Loc Cert.KernelIdeal.nD Cert.KernelIdeal.τ Cert.KernelIdeal.sig) → Buf (Elt Ideal) ℓ) (c : Dev Cert.KernelIdeal.nD) : Arg :=
  Cert.Finite.arg (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- The kernel's arguments are those tables. -/
theorem reads_k {m : (ℓ : Loc Cert.KernelIdeal.nD Cert.KernelIdeal.τ Cert.KernelIdeal.sig) → Buf (Elt Ideal) ℓ}
    (h : Cert.Pre_KernelIdeal_finite (hPre_finite := Cert.Pre_finite.Gen.facts) m) (c : Dev Cert.KernelIdeal.nD) :
    Cert.KernelIdeal.Prefix.Reads m c (argOf m c) := by
  obtain ⟨hq, hk, hv, hg, hy⟩ := Cert.Finite.fn_finite (h c)
  refine ⟨fun l j => (hq (ix2 l j)).trans ?_, fun l j => (hk (ix2 l j)).trans ?_, fun l j => (hv (ix2 l j)).trans ?_,
    fun l j => (hg (ix2 l j)).trans ?_, fun l j => (hy (ix2 l j)).trans ?_⟩ <;>
  · refine congrArg _ ?_
    unfold argOf Cert.Finite.arg
    dsimp only
    rw [dif_pos ⟨l.isLt, j.isLt⟩]

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨h9, h10, hk⟩ := h c
  have R := reads_k hpre c
  have R' : Cert.ReferenceIdeal.Value.Reads (launchContents m' c) (argOf m c) := by
    obtain ⟨e0, e1, e2, e3, e4⟩ := hagree c
    exact ⟨fun l j => (congrFun e0 (ix2 l j)).trans (R.q l j), fun l j => (congrFun e1 (ix2 l j)).trans (R.k l j),
      fun l j => (congrFun e2 (ix2 l j)).trans (R.v l j), fun l j => (congrFun e3 (ix2 l j)).trans (R.g l j),
      fun l j => (congrFun e4 (ix2 l j)).trans (R.y l j)⟩
  refine ⟨?_, ?_, hk⟩
  · refine (h9.trans (Cert.ReferenceIdeal.Value.val4_main_v155 _).symm).trans ?_
    dsimp only
    rw [Cert.KernelIdeal.Final.arr9 R]
    funext x
    obtain ⟨l, j, rfl⟩ : ∃ (l : Fin 8320) (j : Fin 2048), x = ix2 l j := ⟨_, _, eq_ix2 x⟩
    exact Cert.ReferenceIdeal.Value.v155_val R' l j
  · refine (h10.trans (Cert.ReferenceIdeal.Value.val4_main_v157 _).symm).trans ?_
    dsimp only
    rw [Cert.KernelIdeal.Final.arr10 R]
    funext x
    obtain ⟨l, j, rfl⟩ : ∃ (l : Fin 8320) (j : Fin 4096), x = ix2 l j := ⟨_, _, eq_ix2 x⟩
    exact Cert.ReferenceIdeal.Value.v157_val R' l j

/-! The references of the further calls run and leave their arguments; none declares a semaphore. -/

theorem frame_DU1 : Cert.quiescent_ReferenceDU1Ideal (hReferenceDU1Ideal := Cert.ReferenceDU1Ideal.Gen.facts) := fun m ρ _ =>
  (θ_run Cert.ReferenceDU1Ideal.defs _ _).mono (fun r h => ⟨fun c => (h c).2, Idealize.ShloMosaic.sem_eq_zero_of_no_sems (by decide) r.2⟩)
    (Cert.ReferenceDU1Ideal.Value.run (F := Ideal) m ρ)

theorem frame_GW2048 : Cert.quiescent_ReferenceGW2048Ideal (hReferenceGW2048Ideal := Cert.ReferenceGW2048Ideal.Gen.facts) := fun m ρ _ =>
  (θ_run Cert.ReferenceGW2048Ideal.defs _ _).mono (fun r h => ⟨fun c => (h c).2, Idealize.ShloMosaic.sem_eq_zero_of_no_sems (by decide) r.2⟩)
    (Cert.ReferenceGW2048Ideal.Value.run (F := Ideal) m ρ)

theorem frame_GW4096 : Cert.quiescent_ReferenceGW4096Ideal (hReferenceGW4096Ideal := Cert.ReferenceGW4096Ideal.Gen.facts) := fun m ρ _ =>
  (θ_run Cert.ReferenceGW4096Ideal.defs _ _).mono (fun r h => ⟨fun c => (h c).2, Idealize.ShloMosaic.sem_eq_zero_of_no_sems (by decide) r.2⟩)
    (Cert.ReferenceGW4096Ideal.Value.run (F := Ideal) m ρ)

theorem frame_GW3072 : Cert.quiescent_ReferenceGW3072Ideal (hReferenceGW3072Ideal := Cert.ReferenceGW3072Ideal.Gen.facts) := fun m ρ _ =>
  (θ_run Cert.ReferenceGW3072Ideal.defs _ _).mono (fun r h => ⟨fun c => (h c).2, Idealize.ShloMosaic.sem_eq_zero_of_no_sems (by decide) r.2⟩)
    (Cert.ReferenceGW3072Ideal.Value.run (F := Ideal) m ρ)

theorem frame_GW128 : Cert.quiescent_ReferenceGW128Ideal (hReferenceGW128Ideal := Cert.ReferenceGW128Ideal.Gen.facts) := fun m ρ _ =>
  (θ_run Cert.ReferenceGW128Ideal.defs _ _).mono (fun r h => ⟨fun c => (h c).2, Idealize.ShloMosaic.sem_eq_zero_of_no_sems (by decide) r.2⟩)
    (Cert.ReferenceGW128Ideal.Value.run (F := Ideal) m ρ)

theorem frame_GUp : Cert.quiescent_ReferenceGUpIdeal (hReferenceGUpIdeal := Cert.ReferenceGUpIdeal.Gen.facts) := fun m ρ _ =>
  (θ_run Cert.ReferenceGUpIdeal.defs _ _).mono (fun r h => ⟨fun c => (h c).2, Idealize.ShloMosaic.sem_eq_zero_of_no_sems (by decide) r.2⟩)
    (Cert.ReferenceGUpIdeal.Value.run (F := Ideal) m ρ)

theorem frame_DU2 : Cert.quiescent_ReferenceDU2Ideal (hReferenceDU2Ideal := Cert.ReferenceDU2Ideal.Gen.facts) := fun m ρ _ =>
  (θ_run Cert.ReferenceDU2Ideal.defs _ _).mono (fun r h => ⟨fun c => (h c).2, Idealize.ShloMosaic.sem_eq_zero_of_no_sems (by decide) r.2⟩)
    (Cert.ReferenceDU2Ideal.Value.run (F := Ideal) m ρ)

theorem frame_DU2v : Cert.quiescent_ReferenceDU2vIdeal (hReferenceDU2vIdeal := Cert.ReferenceDU2vIdeal.Gen.facts) := fun m ρ _ =>
  (θ_run Cert.ReferenceDU2vIdeal.defs _ _).mono (fun r h => ⟨fun c => (h c).2, Idealize.ShloMosaic.sem_eq_zero_of_no_sems (by decide) r.2⟩)
    (Cert.ReferenceDU2vIdeal.Value.run (F := Ideal) m ρ)

theorem frame_DAct : Cert.quiescent_ReferenceDActIdeal (hReferenceDActIdeal := Cert.ReferenceDActIdeal.Gen.facts) := fun m ρ _ =>
  (θ_run Cert.ReferenceDActIdeal.defs _ _).mono (fun r h => ⟨fun c => (h c).2, Idealize.ShloMosaic.sem_eq_zero_of_no_sems (by decide) r.2⟩)
    (Cert.ReferenceDActIdeal.Value.run (F := Ideal) m ρ)

theorem frame_GDown : Cert.quiescent_ReferenceGDownIdeal (hReferenceGDownIdeal := Cert.ReferenceGDownIdeal.Gen.facts) := fun m ρ _ =>
  (θ_run Cert.ReferenceGDownIdeal.defs _ _).mono (fun r h => ⟨fun c => (h c).2, Idealize.ShloMosaic.sem_eq_zero_of_no_sems (by decide) r.2⟩)
    (Cert.ReferenceGDownIdeal.Value.run (F := Ideal) m ρ)

theorem frame_DY : Cert.quiescent_ReferenceDYIdeal (hReferenceDYIdeal := Cert.ReferenceDYIdeal.Gen.facts) := fun m ρ _ =>
  (θ_run Cert.ReferenceDYIdeal.defs _ _).mono (fun r h => ⟨fun c => (h c).2, Idealize.ShloMosaic.sem_eq_zero_of_no_sems (by decide) r.2⟩)
    (Cert.ReferenceDYIdeal.Value.run (F := Ideal) m ρ)

theorem frame_GBranch : Cert.quiescent_ReferenceGBranchIdeal (hReferenceGBranchIdeal := Cert.ReferenceGBranchIdeal.Gen.facts) := fun m ρ _ =>
  (θ_run Cert.ReferenceGBranchIdeal.defs _ _).mono (fun r h => ⟨fun c => (h c).2, Idealize.ShloMosaic.sem_eq_zero_of_no_sems (by decide) r.2⟩)
    (Cert.ReferenceGBranchIdeal.Value.run (F := Ideal) m ρ)

theorem frame_DMerged : Cert.quiescent_ReferenceDMergedIdeal (hReferenceDMergedIdeal := Cert.ReferenceDMergedIdeal.Gen.facts) := fun m ρ _ =>
  (θ_run Cert.ReferenceDMergedIdeal.defs _ _).mono (fun r h => ⟨fun c => (h c).2, Idealize.ShloMosaic.sem_eq_zero_of_no_sems (by decide) r.2⟩)
    (Cert.ReferenceDMergedIdeal.Value.run (F := Ideal) m ρ)

theorem frame_GOut : Cert.quiescent_ReferenceGOutIdeal (hReferenceGOutIdeal := Cert.ReferenceGOutIdeal.Gen.facts) := fun m ρ _ =>
  (θ_run Cert.ReferenceGOutIdeal.defs _ _).mono (fun r h => ⟨fun c => (h c).2, Idealize.ShloMosaic.sem_eq_zero_of_no_sems (by decide) r.2⟩)
    (Cert.ReferenceGOutIdeal.Value.run (F := Ideal) m ρ)

theorem frame_Gate : Cert.quiescent_ReferenceGateIdeal (hReferenceGateIdeal := Cert.ReferenceGateIdeal.Gen.facts) := fun m ρ _ =>
  (θ_run Cert.ReferenceGateIdeal.defs _ _).mono (fun r h => ⟨fun c => (h c).2.2.2, Idealize.ShloMosaic.sem_eq_zero_of_no_sems (by decide) r.2⟩)
    (Cert.ReferenceGateIdeal.Value.run (F := Ideal) m ρ)

theorem frame_Proj : Cert.quiescent_ReferenceProjIdeal (hReferenceProjIdeal := Cert.ReferenceProjIdeal.Gen.facts) := fun m ρ _ =>
  (θ_run Cert.ReferenceProjIdeal.defs _ _).mono (fun r h => ⟨fun c => (h c).2, Idealize.ShloMosaic.sem_eq_zero_of_no_sems (by decide) r.2⟩)
    (Cert.ReferenceProjIdeal.Value.run (F := Ideal) m ρ)

theorem frame_Branch : Cert.quiescent_ReferenceBranchIdeal (hReferenceBranchIdeal := Cert.ReferenceBranchIdeal.Gen.facts) := fun m ρ _ =>
  (θ_run Cert.ReferenceBranchIdeal.defs _ _).mono (fun r h => ⟨fun c => (h c).2, Idealize.ShloMosaic.sem_eq_zero_of_no_sems (by decide) r.2⟩)
    (Cert.ReferenceBranchIdeal.Value.run (F := Ideal) m ρ)

theorem frame_OutProj : Cert.quiescent_ReferenceOutProjIdeal (hReferenceOutProjIdeal := Cert.ReferenceOutProjIdeal.Gen.facts) := fun m ρ _ =>
  (θ_run Cert.ReferenceOutProjIdeal.defs _ _).mono (fun r h => ⟨fun c => (h c).2, Idealize.ShloMosaic.sem_eq_zero_of_no_sems (by decide) r.2⟩)
    (Cert.ReferenceOutProjIdeal.Value.run (F := Ideal) m ρ)

theorem frame_Up : Cert.quiescent_ReferenceUpIdeal (hReferenceUpIdeal := Cert.ReferenceUpIdeal.Gen.facts) := fun m ρ _ =>
  (θ_run Cert.ReferenceUpIdeal.defs _ _).mono (fun r h => ⟨fun c => (h c).2, Idealize.ShloMosaic.sem_eq_zero_of_no_sems (by decide) r.2⟩)
    (Cert.ReferenceUpIdeal.Value.run (F := Ideal) m ρ)

theorem frame_Down : Cert.quiescent_ReferenceDownIdeal (hReferenceDownIdeal := Cert.ReferenceDownIdeal.Gen.facts) := fun m ρ _ =>
  (θ_run Cert.ReferenceDownIdeal.defs _ _).mono (fun r h => ⟨fun c => (h c).2, Idealize.ShloMosaic.sem_eq_zero_of_no_sems (by decide) r.2⟩)
    (Cert.ReferenceDownIdeal.Value.run (F := Ideal) m ρ)

theorem frame_GateF : Cert.quiescent_ReferenceGateFIdeal (hReferenceGateFIdeal := Cert.ReferenceGateFIdeal.Gen.facts) := fun m ρ _ =>
  (θ_run Cert.ReferenceGateFIdeal.defs _ _).mono (fun r h => ⟨fun c => (h c).2, Idealize.ShloMosaic.sem_eq_zero_of_no_sems (by decide) r.2⟩)
    (Cert.ReferenceGateFIdeal.Value.run (F := Ideal) m ρ)

theorem frame_RmsF : Cert.quiescent_ReferenceRmsFIdeal (hReferenceRmsFIdeal := Cert.ReferenceRmsFIdeal.Gen.facts) := fun m ρ _ =>
  (θ_run Cert.ReferenceRmsFIdeal.defs _ _).mono (fun r h => ⟨fun c => (h c).2, Idealize.ShloMosaic.sem_eq_zero_of_no_sems (by decide) r.2⟩)
    (Cert.ReferenceRmsFIdeal.Value.run (F := Ideal) m ρ)

theorem frame_Rms : Cert.quiescent_ReferenceRmsIdeal (hReferenceRmsIdeal := Cert.ReferenceRmsIdeal.Gen.facts) := fun m ρ _ =>
  (θ_run Cert.ReferenceRmsIdeal.defs _ _).mono (fun r h => ⟨fun c => (h c).2.2, Idealize.ShloMosaic.sem_eq_zero_of_no_sems (by decide) r.2⟩)
    (Cert.ReferenceRmsIdeal.Value.run (F := Ideal) m ρ)

theorem frame_AdamIn : Cert.quiescent_ReferenceAdamInIdeal (hReferenceAdamInIdeal := Cert.ReferenceAdamInIdeal.Gen.facts) := fun m ρ _ =>
  (θ_run Cert.ReferenceAdamInIdeal.defs _ _).mono (fun r h => ⟨fun c => (h c).2.2.2.2, Idealize.ShloMosaic.sem_eq_zero_of_no_sems (by decide) r.2⟩)
    (Cert.ReferenceAdamInIdeal.Value.run (F := Ideal) m ρ)

theorem frame_AdamBranch : Cert.quiescent_ReferenceAdamBranchIdeal (hReferenceAdamBranchIdeal := Cert.ReferenceAdamBranchIdeal.Gen.facts) := fun m ρ _ =>
  (θ_run Cert.ReferenceAdamBranchIdeal.defs _ _).mono (fun r h => ⟨fun c => (h c).2.2.2.2, Idealize.ShloMosaic.sem_eq_zero_of_no_sems (by decide) r.2⟩)
    (Cert.ReferenceAdamBranchIdeal.Value.run (F := Ideal) m ρ)

theorem frame_AdamOut : Cert.quiescent_ReferenceAdamOutIdeal (hReferenceAdamOutIdeal := Cert.ReferenceAdamOutIdeal.Gen.facts) := fun m ρ _ =>
  (θ_run Cert.ReferenceAdamOutIdeal.defs _ _).mono (fun r h => ⟨fun c => (h c).2.2.2.2, Idealize.ShloMosaic.sem_eq_zero_of_no_sems (by decide) r.2⟩)
    (Cert.ReferenceAdamOutIdeal.Value.run (F := Ideal) m ρ)

theorem frame_AdamUp : Cert.quiescent_ReferenceAdamUpIdeal (hReferenceAdamUpIdeal := Cert.ReferenceAdamUpIdeal.Gen.facts) := fun m ρ _ =>
  (θ_run Cert.ReferenceAdamUpIdeal.defs _ _).mono (fun r h => ⟨fun c => (h c).2.2.2.2, Idealize.ShloMosaic.sem_eq_zero_of_no_sems (by decide) r.2⟩)
    (Cert.ReferenceAdamUpIdeal.Value.run (F := Ideal) m ρ)

theorem frame_AdamDown : Cert.quiescent_ReferenceAdamDownIdeal (hReferenceAdamDownIdeal := Cert.ReferenceAdamDownIdeal.Gen.facts) := fun m ρ _ =>
  (θ_run Cert.ReferenceAdamDownIdeal.defs _ _).mono (fun r h => ⟨fun c => (h c).2.2.2.2, Idealize.ShloMosaic.sem_eq_zero_of_no_sems (by decide) r.2⟩)
    (Cert.ReferenceAdamDownIdeal.Value.run (F := Ideal) m ρ)

theorem frame_Loss : Cert.quiescent_ReferenceLossIdeal (hReferenceLossIdeal := Cert.ReferenceLossIdeal.Gen.facts) := fun m ρ _ =>
  (θ_run Cert.ReferenceLossIdeal.defs _ _).mono (fun r h => ⟨fun c => (h c).2.2.2, Idealize.ShloMosaic.sem_eq_zero_of_no_sems (by decide) r.2⟩)
    (Cert.ReferenceLossIdeal.Value.run (F := Ideal) m ρ)

theorem frame_FfnConv : Cert.quiescent_ReferenceFfnConvIdeal (hReferenceFfnConvIdeal := Cert.ReferenceFfnConvIdeal.Gen.facts) := fun m ρ _ =>
  (θ_run Cert.ReferenceFfnConvIdeal.defs _ _).mono (fun r h => ⟨fun c => (h c).2, Idealize.ShloMosaic.sem_eq_zero_of_no_sems (by decide) r.2⟩)
    (Cert.ReferenceFfnConvIdeal.Value.run (F := Ideal) m ρ)

theorem frame_SsdConv : Cert.quiescent_ReferenceSsdConvIdeal (hReferenceSsdConvIdeal := Cert.ReferenceSsdConvIdeal.Gen.facts) := fun m ρ _ =>
  (θ_run Cert.ReferenceSsdConvIdeal.defs _ _).mono (fun r h => ⟨fun c => (h c).2, Idealize.ShloMosaic.sem_eq_zero_of_no_sems (by decide) r.2⟩)
    (Cert.ReferenceSsdConvIdeal.Value.run (F := Ideal) m ρ)

theorem frame_SmallMeta : Cert.quiescent_ReferenceSmallMetaIdeal (hReferenceSmallMetaIdeal := Cert.ReferenceSmallMetaIdeal.Gen.facts) := fun m ρ _ =>
  (θ_run Cert.ReferenceSmallMetaIdeal.defs _ _).mono (fun r h => ⟨fun c => (h c).2.2.2.2.2, Idealize.ShloMosaic.sem_eq_zero_of_no_sems (by decide) r.2⟩)
    (Cert.ReferenceSmallMetaIdeal.Value.run (F := Ideal) m ρ)

theorem frame_SmallSsd : Cert.quiescent_ReferenceSmallSsdIdeal (hReferenceSmallSsdIdeal := Cert.ReferenceSmallSsdIdeal.Gen.facts) := fun m ρ _ =>
  (θ_run Cert.ReferenceSmallSsdIdeal.defs _ _).mono (fun r h => ⟨fun c => (h c).2.2.2.2.2, Idealize.ShloMosaic.sem_eq_zero_of_no_sems (by decide) r.2⟩)
    (Cert.ReferenceSmallSsdIdeal.Value.run (F := Ideal) m ρ)

theorem frame_SmallFfn : Cert.quiescent_ReferenceSmallFfnIdeal (hReferenceSmallFfnIdeal := Cert.ReferenceSmallFfnIdeal.Gen.facts) := fun m ρ _ =>
  (θ_run Cert.ReferenceSmallFfnIdeal.defs _ _).mono (fun r h => ⟨fun c => (h c).2.2.2.2.2, Idealize.ShloMosaic.sem_eq_zero_of_no_sems (by decide) r.2⟩)
    (Cert.ReferenceSmallFfnIdeal.Value.run (F := Ideal) m ρ)

theorem frame_Small1024 : Cert.quiescent_ReferenceSmall1024Ideal (hReferenceSmall1024Ideal := Cert.ReferenceSmall1024Ideal.Gen.facts) := fun m ρ _ =>
  (θ_run Cert.ReferenceSmall1024Ideal.defs _ _).mono (fun r h => ⟨fun c => (h c).2.2.2.2.2, Idealize.ShloMosaic.sem_eq_zero_of_no_sems (by decide) r.2⟩)
    (Cert.ReferenceSmall1024Ideal.Value.run (F := Ideal) m ρ)

theorem frame_Small3072 : Cert.quiescent_ReferenceSmall3072Ideal (hReferenceSmall3072Ideal := Cert.ReferenceSmall3072Ideal.Gen.facts) := fun m ρ _ =>
  (θ_run Cert.ReferenceSmall3072Ideal.defs _ _).mono (fun r h => ⟨fun c => (h c).2.2.2.2.2, Idealize.ShloMosaic.sem_eq_zero_of_no_sems (by decide) r.2⟩)
    (Cert.ReferenceSmall3072Ideal.Value.run (F := Ideal) m ρ)

theorem frame_Small32 : Cert.quiescent_ReferenceSmall32Ideal (hReferenceSmall32Ideal := Cert.ReferenceSmall32Ideal.Gen.facts) := fun m ρ _ =>
  (θ_run Cert.ReferenceSmall32Ideal.defs _ _).mono (fun r h => ⟨fun c => (h c).2.2.2.2.2, Idealize.ShloMosaic.sem_eq_zero_of_no_sems (by decide) r.2⟩)
    (Cert.ReferenceSmall32Ideal.Value.run (F := Ideal) m ρ)

theorem frame_Small2048 : Cert.quiescent_ReferenceSmall2048Ideal (hReferenceSmall2048Ideal := Cert.ReferenceSmall2048Ideal.Gen.facts) := fun m ρ _ =>
  (θ_run Cert.ReferenceSmall2048Ideal.defs _ _).mono (fun r h => ⟨fun c => (h c).2.2.2.2.2, Idealize.ShloMosaic.sem_eq_zero_of_no_sems (by decide) r.2⟩)
    (Cert.ReferenceSmall2048Ideal.Value.run (F := Ideal) m ρ)

theorem frame_Small5632 : Cert.quiescent_ReferenceSmall5632Ideal (hReferenceSmall5632Ideal := Cert.ReferenceSmall5632Ideal.Gen.facts) := fun m ρ _ =>
  (θ_run Cert.ReferenceSmall5632Ideal.defs _ _).mono (fun r h => ⟨fun c => (h c).2.2.2.2.2, Idealize.ShloMosaic.sem_eq_zero_of_no_sems (by decide) r.2⟩)
    (Cert.ReferenceSmall5632Ideal.Value.run (F := Ideal) m ρ)

/-! The sharded small weights' kernels: the precondition bounds the chip's number, and the block it names lies in the array. -/

theorem frame_k_SmallMeta : Cert.quiescent_KernelSmallMeta (hKernelSmallMeta := Cert.KernelSmallMeta.Gen.facts) (hPre_chip_meta := Cert.Pre_chip_meta.Gen.facts) := fun m ρ h =>
  let ⟨k, hk⟩ := Cert.SmallMeta.chip (h 0)
  Cert.KernelSmallMeta.Gen.frame m ρ (Cert.SmallMeta.ok_rounded k hk)

theorem frame_ki_SmallMeta : Cert.quiescent_KernelSmallMetaIdeal (hKernelSmallMetaIdeal := Cert.KernelSmallMetaIdeal.Gen.facts) (hPre_chip_meta := Cert.Pre_chip_meta.Gen.facts) := fun m ρ h =>
  let ⟨k, hk⟩ := Cert.SmallMeta.chip (h 0)
  Cert.KernelSmallMetaIdeal.Gen.frame m ρ (Cert.SmallMeta.ok k hk)

theorem frame_k_SmallSsd : Cert.quiescent_KernelSmallSsd (hKernelSmallSsd := Cert.KernelSmallSsd.Gen.facts) (hPre_chip_ssd := Cert.Pre_chip_ssd.Gen.facts) := fun m ρ h =>
  let ⟨k, hk⟩ := Cert.SmallSsd.chip (h 0)
  Cert.KernelSmallSsd.Gen.frame m ρ (Cert.SmallSsd.ok_rounded k hk)

theorem frame_ki_SmallSsd : Cert.quiescent_KernelSmallSsdIdeal (hKernelSmallSsdIdeal := Cert.KernelSmallSsdIdeal.Gen.facts) (hPre_chip_ssd := Cert.Pre_chip_ssd.Gen.facts) := fun m ρ h =>
  let ⟨k, hk⟩ := Cert.SmallSsd.chip (h 0)
  Cert.KernelSmallSsdIdeal.Gen.frame m ρ (Cert.SmallSsd.ok k hk)

theorem frame_k_SmallFfn : Cert.quiescent_KernelSmallFfn (hKernelSmallFfn := Cert.KernelSmallFfn.Gen.facts) (hPre_chip_ffn := Cert.Pre_chip_ffn.Gen.facts) := fun m ρ h =>
  let ⟨k, hk⟩ := Cert.SmallFfn.chip (h 0)
  Cert.KernelSmallFfn.Gen.frame m ρ (Cert.SmallFfn.ok_rounded k hk)

theorem frame_ki_SmallFfn : Cert.quiescent_KernelSmallFfnIdeal (hKernelSmallFfnIdeal := Cert.KernelSmallFfnIdeal.Gen.facts) (hPre_chip_ffn := Cert.Pre_chip_ffn.Gen.facts) := fun m ρ h =>
  let ⟨k, hk⟩ := Cert.SmallFfn.chip (h 0)
  Cert.KernelSmallFfnIdeal.Gen.frame m ρ (Cert.SmallFfn.ok k hk)

theorem claim : Cert.Claim :=
  ⟨Cert.Kernel.Gen.facts, Cert.KernelIdeal.Gen.facts, Cert.ReferenceIdeal.Gen.facts,
    Cert.KernelDU1.Gen.facts, Cert.KernelDU1Ideal.Gen.facts, Cert.ReferenceDU1Ideal.Gen.facts,
    Cert.KernelGW2048.Gen.facts, Cert.KernelGW2048Ideal.Gen.facts, Cert.ReferenceGW2048Ideal.Gen.facts,
    Cert.KernelGW4096.Gen.facts, Cert.KernelGW4096Ideal.Gen.facts, Cert.ReferenceGW4096Ideal.Gen.facts,
    Cert.KernelGW3072.Gen.facts, Cert.KernelGW3072Ideal.Gen.facts, Cert.ReferenceGW3072Ideal.Gen.facts,
    Cert.KernelGW128.Gen.facts, Cert.KernelGW128Ideal.Gen.facts, Cert.ReferenceGW128Ideal.Gen.facts,
    Cert.KernelGUp.Gen.facts, Cert.KernelGUpIdeal.Gen.facts, Cert.ReferenceGUpIdeal.Gen.facts,
    Cert.KernelDU2.Gen.facts, Cert.KernelDU2Ideal.Gen.facts, Cert.ReferenceDU2Ideal.Gen.facts,
    Cert.KernelDU2v.Gen.facts, Cert.KernelDU2vIdeal.Gen.facts, Cert.ReferenceDU2vIdeal.Gen.facts,
    Cert.KernelDAct.Gen.facts, Cert.KernelDActIdeal.Gen.facts, Cert.ReferenceDActIdeal.Gen.facts,
    Cert.KernelGDown.Gen.facts, Cert.KernelGDownIdeal.Gen.facts, Cert.ReferenceGDownIdeal.Gen.facts,
    Cert.KernelDY.Gen.facts, Cert.KernelDYIdeal.Gen.facts, Cert.ReferenceDYIdeal.Gen.facts,
    Cert.KernelGBranch.Gen.facts, Cert.KernelGBranchIdeal.Gen.facts, Cert.ReferenceGBranchIdeal.Gen.facts,
    Cert.KernelDMerged.Gen.facts, Cert.KernelDMergedIdeal.Gen.facts, Cert.ReferenceDMergedIdeal.Gen.facts,
    Cert.KernelGOut.Gen.facts, Cert.KernelGOutIdeal.Gen.facts, Cert.ReferenceGOutIdeal.Gen.facts,
    Cert.KernelGate.Gen.facts, Cert.KernelGateIdeal.Gen.facts, Cert.ReferenceGateIdeal.Gen.facts,
    Cert.KernelProj.Gen.facts, Cert.KernelProjIdeal.Gen.facts, Cert.ReferenceProjIdeal.Gen.facts,
    Cert.KernelBranch.Gen.facts, Cert.KernelBranchIdeal.Gen.facts, Cert.ReferenceBranchIdeal.Gen.facts,
    Cert.KernelOutProj.Gen.facts, Cert.KernelOutProjIdeal.Gen.facts, Cert.ReferenceOutProjIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelGateF.Gen.facts, Cert.KernelGateFIdeal.Gen.facts, Cert.ReferenceGateFIdeal.Gen.facts,
    Cert.KernelRmsF.Gen.facts, Cert.KernelRmsFIdeal.Gen.facts, Cert.ReferenceRmsFIdeal.Gen.facts,
    Cert.KernelRms.Gen.facts, Cert.KernelRmsIdeal.Gen.facts, Cert.ReferenceRmsIdeal.Gen.facts,
    Cert.KernelAdamIn.Gen.facts, Cert.KernelAdamInIdeal.Gen.facts, Cert.ReferenceAdamInIdeal.Gen.facts,
    Cert.KernelAdamBranch.Gen.facts, Cert.KernelAdamBranchIdeal.Gen.facts, Cert.ReferenceAdamBranchIdeal.Gen.facts,
    Cert.KernelAdamOut.Gen.facts, Cert.KernelAdamOutIdeal.Gen.facts, Cert.ReferenceAdamOutIdeal.Gen.facts,
    Cert.KernelAdamUp.Gen.facts, Cert.KernelAdamUpIdeal.Gen.facts, Cert.ReferenceAdamUpIdeal.Gen.facts,
    Cert.KernelAdamDown.Gen.facts, Cert.KernelAdamDownIdeal.Gen.facts, Cert.ReferenceAdamDownIdeal.Gen.facts,
    Cert.KernelLoss.Gen.facts, Cert.KernelLossIdeal.Gen.facts, Cert.ReferenceLossIdeal.Gen.facts,
    Cert.KernelFfnConv.Gen.facts, Cert.KernelFfnConvIdeal.Gen.facts, Cert.ReferenceFfnConvIdeal.Gen.facts,
    Cert.KernelSsdConv.Gen.facts, Cert.KernelSsdConvIdeal.Gen.facts, Cert.ReferenceSsdConvIdeal.Gen.facts,
    Cert.KernelSmallMeta.Gen.facts, Cert.KernelSmallMetaIdeal.Gen.facts, Cert.ReferenceSmallMetaIdeal.Gen.facts,
    Cert.KernelSmallSsd.Gen.facts, Cert.KernelSmallSsdIdeal.Gen.facts, Cert.ReferenceSmallSsdIdeal.Gen.facts,
    Cert.KernelSmallFfn.Gen.facts, Cert.KernelSmallFfnIdeal.Gen.facts, Cert.ReferenceSmallFfnIdeal.Gen.facts,
    Cert.KernelSmall1024.Gen.facts, Cert.KernelSmall1024Ideal.Gen.facts, Cert.ReferenceSmall1024Ideal.Gen.facts,
    Cert.KernelSmall3072.Gen.facts, Cert.KernelSmall3072Ideal.Gen.facts, Cert.ReferenceSmall3072Ideal.Gen.facts,
    Cert.KernelSmall32.Gen.facts, Cert.KernelSmall32Ideal.Gen.facts, Cert.ReferenceSmall32Ideal.Gen.facts,
    Cert.KernelSmall2048.Gen.facts, Cert.KernelSmall2048Ideal.Gen.facts, Cert.ReferenceSmall2048Ideal.Gen.facts,
    Cert.KernelSmall5632.Gen.facts, Cert.KernelSmall5632Ideal.Gen.facts, Cert.ReferenceSmall5632Ideal.Gen.facts,
    Cert.Pre_finite.Gen.facts, Cert.Pre_chip_meta.Gen.facts, Cert.Pre_chip_ssd.Gen.facts, Cert.Pre_chip_ffn.Gen.facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.KernelDU1.Gen.frame m ρ, fun m ρ _ => Cert.KernelDU1Ideal.Gen.frame m ρ, frame_DU1,
    fun m ρ _ => Cert.KernelGW2048.Gen.frame m ρ, fun m ρ _ => Cert.KernelGW2048Ideal.Gen.frame m ρ, frame_GW2048,
    fun m ρ _ => Cert.KernelGW4096.Gen.frame m ρ, fun m ρ _ => Cert.KernelGW4096Ideal.Gen.frame m ρ, frame_GW4096,
    fun m ρ _ => Cert.KernelGW3072.Gen.frame m ρ, fun m ρ _ => Cert.KernelGW3072Ideal.Gen.frame m ρ, frame_GW3072,
    fun m ρ _ => Cert.KernelGW128.Gen.frame m ρ, fun m ρ _ => Cert.KernelGW128Ideal.Gen.frame m ρ, frame_GW128,
    fun m ρ _ => Cert.KernelGUp.Gen.frame m ρ, fun m ρ _ => Cert.KernelGUpIdeal.Gen.frame m ρ, frame_GUp,
    fun m ρ _ => Cert.KernelDU2.Gen.frame m ρ, fun m ρ _ => Cert.KernelDU2Ideal.Gen.frame m ρ, frame_DU2,
    fun m ρ _ => Cert.KernelDU2v.Gen.frame m ρ, fun m ρ _ => Cert.KernelDU2vIdeal.Gen.frame m ρ, frame_DU2v,
    fun m ρ _ => Cert.KernelDAct.Gen.frame m ρ, fun m ρ _ => Cert.KernelDActIdeal.Gen.frame m ρ, frame_DAct,
    fun m ρ _ => Cert.KernelGDown.Gen.frame m ρ, fun m ρ _ => Cert.KernelGDownIdeal.Gen.frame m ρ, frame_GDown,
    fun m ρ _ => Cert.KernelDY.Gen.frame m ρ, fun m ρ _ => Cert.KernelDYIdeal.Gen.frame m ρ, frame_DY,
    fun m ρ _ => Cert.KernelGBranch.Gen.frame m ρ, fun m ρ _ => Cert.KernelGBranchIdeal.Gen.frame m ρ, frame_GBranch,
    fun m ρ _ => Cert.KernelDMerged.Gen.frame m ρ, fun m ρ _ => Cert.KernelDMergedIdeal.Gen.frame m ρ, frame_DMerged,
    fun m ρ _ => Cert.KernelGOut.Gen.frame m ρ, fun m ρ _ => Cert.KernelGOutIdeal.Gen.frame m ρ, frame_GOut,
    fun m ρ _ => Cert.KernelGate.Gen.frame m ρ, fun m ρ _ => Cert.KernelGateIdeal.Gen.frame m ρ, frame_Gate,
    fun m ρ _ => Cert.KernelProj.Gen.frame m ρ, fun m ρ _ => Cert.KernelProjIdeal.Gen.frame m ρ, frame_Proj,
    fun m ρ _ => Cert.KernelBranch.Gen.frame m ρ, fun m ρ _ => Cert.KernelBranchIdeal.Gen.frame m ρ, frame_Branch,
    fun m ρ _ => Cert.KernelOutProj.Gen.frame m ρ, fun m ρ _ => Cert.KernelOutProjIdeal.Gen.frame m ρ, frame_OutProj,
    fun m ρ _ => Cert.KernelUp.Gen.frame m ρ, fun m ρ _ => Cert.KernelUpIdeal.Gen.frame m ρ, frame_Up,
    fun m ρ _ => Cert.KernelDown.Gen.frame m ρ, fun m ρ _ => Cert.KernelDownIdeal.Gen.frame m ρ, frame_Down,
    fun m ρ _ => Cert.KernelGateF.Gen.frame m ρ, fun m ρ _ => Cert.KernelGateFIdeal.Gen.frame m ρ, frame_GateF,
    fun m ρ _ => Cert.KernelRmsF.Gen.frame m ρ, fun m ρ _ => Cert.KernelRmsFIdeal.Gen.frame m ρ, frame_RmsF,
    fun m ρ _ => Cert.KernelRms.Gen.frame m ρ, fun m ρ _ => Cert.KernelRmsIdeal.Gen.frame m ρ, frame_Rms,
    fun m ρ _ => Cert.KernelAdamIn.Gen.frame m ρ, fun m ρ _ => Cert.KernelAdamInIdeal.Gen.frame m ρ, frame_AdamIn,
    fun m ρ _ => Cert.KernelAdamBranch.Gen.frame m ρ, fun m ρ _ => Cert.KernelAdamBranchIdeal.Gen.frame m ρ, frame_AdamBranch,
    fun m ρ _ => Cert.KernelAdamOut.Gen.frame m ρ, fun m ρ _ => Cert.KernelAdamOutIdeal.Gen.frame m ρ, frame_AdamOut,
    fun m ρ _ => Cert.KernelAdamUp.Gen.frame m ρ, fun m ρ _ => Cert.KernelAdamUpIdeal.Gen.frame m ρ, frame_AdamUp,
    fun m ρ _ => Cert.KernelAdamDown.Gen.frame m ρ, fun m ρ _ => Cert.KernelAdamDownIdeal.Gen.frame m ρ, frame_AdamDown,
    fun m ρ _ => Cert.KernelLoss.Gen.frame m ρ, fun m ρ _ => Cert.KernelLossIdeal.Gen.frame m ρ, frame_Loss,
    fun m ρ _ => Cert.KernelFfnConv.Gen.frame m ρ, fun m ρ _ => Cert.KernelFfnConvIdeal.Gen.frame m ρ, frame_FfnConv,
    fun m ρ _ => Cert.KernelSsdConv.Gen.frame m ρ, fun m ρ _ => Cert.KernelSsdConvIdeal.Gen.frame m ρ, frame_SsdConv,
    frame_k_SmallMeta, frame_ki_SmallMeta, frame_SmallMeta, fun m ρ _ => frame_SmallMeta m ρ trivial,
    frame_k_SmallSsd, frame_ki_SmallSsd, frame_SmallSsd, fun m ρ _ => frame_SmallSsd m ρ trivial,
    frame_k_SmallFfn, frame_ki_SmallFfn, frame_SmallFfn, fun m ρ _ => frame_SmallFfn m ρ trivial,
    fun m ρ _ => Cert.KernelSmall1024.Gen.frame m ρ True.intro, fun m ρ _ => Cert.KernelSmall1024Ideal.Gen.frame m ρ True.intro, frame_Small1024,
    fun m ρ _ => Cert.KernelSmall3072.Gen.frame m ρ True.intro, fun m ρ _ => Cert.KernelSmall3072Ideal.Gen.frame m ρ True.intro, frame_Small3072,
    fun m ρ _ => Cert.KernelSmall32.Gen.frame m ρ True.intro, fun m ρ _ => Cert.KernelSmall32Ideal.Gen.frame m ρ True.intro, frame_Small32,
    fun m ρ _ => Cert.KernelSmall2048.Gen.frame m ρ True.intro, fun m ρ _ => Cert.KernelSmall2048Ideal.Gen.frame m ρ True.intro, frame_Small2048,
    fun m ρ _ => Cert.KernelSmall5632.Gen.frame m ρ True.intro, fun m ρ _ => Cert.KernelSmall5632Ideal.Gen.frame m ρ True.intro, frame_Small5632,
    preserves, algebraic,
    trivial, Cert.DU1.algebraic,
    trivial, Cert.GW2048.algebraic,
    trivial, Cert.GW4096.algebraic,
    trivial, Cert.GW3072.algebraic,
    trivial, Cert.GW128.algebraic,
    trivial, Cert.GUp.algebraic,
    trivial, Cert.DU2.algebraic,
    trivial, Cert.DU2v.algebraic,
    trivial, Cert.DAct.algebraic,
    trivial, Cert.GDown.algebraic,
    trivial, Cert.DY.algebraic,
    trivial, Cert.GBranch.algebraic,
    trivial, Cert.DMerged.algebraic,
    trivial, Cert.GOut.algebraic,
    trivial, Cert.Gate.algebraic,
    trivial, Cert.Proj.algebraic,
    trivial, Cert.Branch.algebraic,
    trivial, Cert.OutProj.algebraic,
    trivial, Cert.Up.algebraic,
    trivial, Cert.Down.algebraic,
    trivial, Cert.GateF.algebraic,
    trivial, Cert.RmsF.algebraic,
    trivial, Cert.Rms.algebraic,
    trivial, Cert.AdamIn.algebraic,
    trivial, Cert.AdamBranch.algebraic,
    trivial, Cert.AdamOut.algebraic,
    trivial, Cert.AdamUp.algebraic,
    trivial, Cert.AdamDown.algebraic,
    trivial, Cert.Loss.algebraic,
    trivial, Cert.FfnConv.algebraic,
    trivial, Cert.SsdConv.algebraic,
    trivial, Cert.SmallMeta.algebraic,
    trivial, Cert.SmallSsd.algebraic,
    trivial, Cert.SmallFfn.algebraic,
    trivial, Cert.Small1024.algebraic,
    trivial, Cert.Small3072.algebraic,
    trivial, Cert.Small32.algebraic,
    trivial, Cert.Small2048.algebraic,
    trivial, Cert.Small5632.algebraic⟩

end Cert.Proof

end
